-- ==== Defs.lean ====
def Pre_DactKernel (m : (ℓ : Loc Cert.DactKernel.nD Cert.DactKernel.τ Cert.DactKernel.sig) → Buf (Elt Bits) ℓ) : Prop :=
  True

def Pre_DactKernelIdeal (m : (ℓ : Loc Cert.DactKernelIdeal.nD Cert.DactKernelIdeal.τ Cert.DactKernelIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_MlpInKernel (m : (ℓ : Loc Cert.MlpInKernel.nD Cert.MlpInKernel.τ Cert.MlpInKernel.sig) → Buf (Elt Bits) ℓ) : Prop :=
  True

def Pre_MlpInKernelIdeal (m : (ℓ : Loc Cert.MlpInKernelIdeal.nD Cert.MlpInKernelIdeal.τ Cert.MlpInKernelIdeal.sig) → Buf (Elt Ideal) ℓ) : Prop :=
  True

def Pre_MlpInKernelIdeal_finite_mlpin [hPre_finite_mlpin : Cert.Pre_finite_mlpin.Facts] (m : (ℓ : Loc Cert.MlpInKernelIdeal.nD Cert.MlpInKernelIdeal.τ Cert.MlpInKernelIdeal.sig) → Buf (Elt Ideal) ℓ) : Prop :=
  ∀ c : Dev Cert.MlpInKernelIdeal.nD,
    (Cert.Pre_finite_mlpin.fn (F := Ideal) (m ((c.tc : Thread Cert.MlpInKernelIdeal.nD Cert.MlpInKernelIdeal.τ).loc Cert.MlpInKernelIdeal.main_arg0)) (m ((c.tc : Thread Cert.MlpInKernelIdeal.nD Cert.MlpInKernelIdeal.τ).loc Cert.MlpInKernelIdeal.main_arg1)) (m ((c.tc : Thread Cert.MlpInKernelIdeal.nD Cert.MlpInKernelIdeal.τ).loc Cert.MlpInKernelIdeal.main_arg2)) (m ((c.tc : Thread Cert.MlpInKernelIdeal.nD Cert.MlpInKernelIdeal.τ).loc Cert.MlpInKernelIdeal.main_arg3)) (m ((c.tc : Thread Cert.MlpInKernelIdeal.nD Cert.MlpInKernelIdeal.τ).loc Cert.MlpInKernelIdeal.main_arg4))).1 = (fun _ => 1#1)
    ∧ (Cert.Pre_finite_mlpin.fn (F := Ideal) (m ((c.tc : Thread Cert.MlpInKernelIdeal.nD Cert.MlpInKernelIdeal.τ).loc Cert.MlpInKernelIdeal.main_arg0)) (m ((c.tc : Thread Cert.MlpInKernelIdeal.nD Cert.MlpInKernelIdeal.τ).loc Cert.MlpInKernelIdeal.main_arg1)) (m ((c.tc : Thread Cert.MlpInKernelIdeal.nD Cert.MlpInKernelIdeal.τ).loc Cert.MlpInKernelIdeal.main_arg2)) (m ((c.tc : Thread Cert.MlpInKernelIdeal.nD Cert.MlpInKernelIdeal.τ).loc Cert.MlpInKernelIdeal.main_arg3)) (m ((c.tc : Thread Cert.MlpInKernelIdeal.nD Cert.MlpInKernelIdeal.τ).loc Cert.MlpInKernelIdeal.main_arg4))).2.1 = (fun _ => 1#1)
    ∧ (Cert.Pre_finite_mlpin.fn (F := Ideal) (m ((c.tc : Thread Cert.MlpInKernelIdeal.nD Cert.MlpInKernelIdeal.τ).loc Cert.MlpInKernelIdeal.main_arg0)) (m ((c.tc : Thread Cert.MlpInKernelIdeal.nD Cert.MlpInKernelIdeal.τ).loc Cert.MlpInKernelIdeal.main_arg1)) (m ((c.tc : Thread Cert.MlpInKernelIdeal.nD Cert.MlpInKernelIdeal.τ).loc Cert.MlpInKernelIdeal.main_arg2)) (m ((c.tc : Thread Cert.MlpInKernelIdeal.nD Cert.MlpInKernelIdeal.τ).loc Cert.MlpInKernelIdeal.main_arg3)) (m ((c.tc : Thread Cert.MlpInKernelIdeal.nD Cert.MlpInKernelIdeal.τ).loc Cert.MlpInKernelIdeal.main_arg4))).2.2.1 = (fun _ => 1#1)
    ∧ (Cert.Pre_finite_mlpin.fn (F := Ideal) (m ((c.tc : Thread Cert.MlpInKernelIdeal.nD Cert.MlpInKernelIdeal.τ).loc Cert.MlpInKernelIdeal.main_arg0)) (m ((c.tc : Thread Cert.MlpInKernelIdeal.nD Cert.MlpInKernelIdeal.τ).loc Cert.MlpInKernelIdeal.main_arg1)) (m ((c.tc : Thread Cert.MlpInKernelIdeal.nD Cert.MlpInKernelIdeal.τ).loc Cert.MlpInKernelIdeal.main_arg2)) (m ((c.tc : Thread Cert.MlpInKernelIdeal.nD Cert.MlpInKernelIdeal.τ).loc Cert.MlpInKernelIdeal.main_arg3)) (m ((c.tc : Thread Cert.MlpInKernelIdeal.nD Cert.MlpInKernelIdeal.τ).loc Cert.MlpInKernelIdeal.main_arg4))).2.2.2 = (fun _ => 1#1)

def Pre_MlpInReferenceIdeal (m : (ℓ : Loc Cert.MlpInReferenceIdeal.nD Cert.MlpInReferenceIdeal.τ Cert.MlpInReferenceIdeal.sig) → Buf (Elt Ideal) ℓ) : Prop :=
  True

def Pre_MlpInReferenceIdeal_finite_mlpin [hPre_finite_mlpin : Cert.Pre_finite_mlpin.Facts] (m : (ℓ : Loc Cert.MlpInReferenceIdeal.nD Cert.MlpInReferenceIdeal.τ Cert.MlpInReferenceIdeal.sig) → Buf (Elt Ideal) ℓ) : Prop :=
  ∀ c : Dev Cert.MlpInReferenceIdeal.nD,
    (Cert.Pre_finite_mlpin.fn (F := Ideal) (m ((c.tc : Thread Cert.MlpInReferenceIdeal.nD Cert.MlpInReferenceIdeal.τ).loc Cert.MlpInReferenceIdeal.main_arg0)) (m ((c.tc : Thread Cert.MlpInReferenceIdeal.nD Cert.MlpInReferenceIdeal.τ).loc Cert.MlpInReferenceIdeal.main_arg1)) (m ((c.tc : Thread Cert.MlpInReferenceIdeal.nD Cert.MlpInReferenceIdeal.τ).loc Cert.MlpInReferenceIdeal.main_arg2)) (m ((c.tc : Thread Cert.MlpInReferenceIdeal.nD Cert.MlpInReferenceIdeal.τ).loc Cert.MlpInReferenceIdeal.main_arg3)) (m ((c.tc : Thread Cert.MlpInReferenceIdeal.nD Cert.MlpInReferenceIdeal.τ).loc Cert.MlpInReferenceIdeal.main_arg4))).1 = (fun _ => 1#1)
    ∧ (Cert.Pre_finite_mlpin.fn (F := Ideal) (m ((c.tc : Thread Cert.MlpInReferenceIdeal.nD Cert.MlpInReferenceIdeal.τ).loc Cert.MlpInReferenceIdeal.main_arg0)) (m ((c.tc : Thread Cert.MlpInReferenceIdeal.nD Cert.MlpInReferenceIdeal.τ).loc Cert.MlpInReferenceIdeal.main_arg1)) (m ((c.tc : Thread Cert.MlpInReferenceIdeal.nD Cert.MlpInReferenceIdeal.τ).loc Cert.MlpInReferenceIdeal.main_arg2)) (m ((c.tc : Thread Cert.MlpInReferenceIdeal.nD Cert.MlpInReferenceIdeal.τ).loc Cert.MlpInReferenceIdeal.main_arg3)) (m ((c.tc : Thread Cert.MlpInReferenceIdeal.nD Cert.MlpInReferenceIdeal.τ).loc Cert.MlpInReferenceIdeal.main_arg4))).2.1 = (fun _ => 1#1)
    ∧ (Cert.Pre_finite_mlpin.fn (F := Ideal) (m ((c.tc : Thread Cert.MlpInReferenceIdeal.nD Cert.MlpInReferenceIdeal.τ).loc Cert.MlpInReferenceIdeal.main_arg0)) (m ((c.tc : Thread Cert.MlpInReferenceIdeal.nD Cert.MlpInReferenceIdeal.τ).loc Cert.MlpInReferenceIdeal.main_arg1)) (m ((c.tc : Thread Cert.MlpInReferenceIdeal.nD Cert.MlpInReferenceIdeal.τ).loc Cert.MlpInReferenceIdeal.main_arg2)) (m ((c.tc : Thread Cert.MlpInReferenceIdeal.nD Cert.MlpInReferenceIdeal.τ).loc Cert.MlpInReferenceIdeal.main_arg3)) (m ((c.tc : Thread Cert.MlpInReferenceIdeal.nD Cert.MlpInReferenceIdeal.τ).loc Cert.MlpInReferenceIdeal.main_arg4))).2.2.1 = (fun _ => 1#1)
    ∧ (Cert.Pre_finite_mlpin.fn (F := Ideal) (m ((c.tc : Thread Cert.MlpInReferenceIdeal.nD Cert.MlpInReferenceIdeal.τ).loc Cert.MlpInReferenceIdeal.main_arg0)) (m ((c.tc : Thread Cert.MlpInReferenceIdeal.nD Cert.MlpInReferenceIdeal.τ).loc Cert.MlpInReferenceIdeal.main_arg1)) (m ((c.tc : Thread Cert.MlpInReferenceIdeal.nD Cert.MlpInReferenceIdeal.τ).loc Cert.MlpInReferenceIdeal.main_arg2)) (m ((c.tc : Thread Cert.MlpInReferenceIdeal.nD Cert.MlpInReferenceIdeal.τ).loc Cert.MlpInReferenceIdeal.main_arg3)) (m ((c.tc : Thread Cert.MlpInReferenceIdeal.nD Cert.MlpInReferenceIdeal.τ).loc Cert.MlpInReferenceIdeal.main_arg4))).2.2.2 = (fun _ => 1#1)

def Pre_MixInKernel (m : (ℓ : Loc Cert.MixInKernel.nD Cert.MixInKernel.τ Cert.MixInKernel.sig) → Buf (Elt Bits) ℓ) : Prop :=
  True

def Pre_MixInKernelIdeal (m : (ℓ : Loc Cert.MixInKernelIdeal.nD Cert.MixInKernelIdeal.τ Cert.MixInKernelIdeal.sig) → Buf (Elt Ideal) ℓ) : Prop :=
  True

def Pre_MixInKernelIdeal_finite_mixin [hPre_finite_mixin : Cert.Pre_finite_mixin.Facts] (m : (ℓ : Loc Cert.MixInKernelIdeal.nD Cert.MixInKernelIdeal.τ Cert.MixInKernelIdeal.sig) → Buf (Elt Ideal) ℓ) : Prop :=
  ∀ c : Dev Cert.MixInKernelIdeal.nD,
    (Cert.Pre_finite_mixin.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4)) (m ((c.tc : Thread Cert.MixInKernelIdeal.nD Cert.MixInKernelIdeal.τ).loc Cert.MixInKernelIdeal.main_arg5)) (m ((c.tc : Thread Cert.MixInKernelIdeal.nD Cert.MixInKernelIdeal.τ).loc Cert.MixInKernelIdeal.main_arg6)) (m ((c.tc : Thread Cert.MixInKernelIdeal.nD Cert.MixInKernelIdeal.τ).loc Cert.MixInKernelIdeal.main_arg7))).1 = (fun _ => 1#1)
    ∧ (Cert.Pre_finite_mixin.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4)) (m ((c.tc : Thread Cert.MixInKernelIdeal.nD Cert.MixInKernelIdeal.τ).loc Cert.MixInKernelIdeal.main_arg5)) (m ((c.tc : Thread Cert.MixInKernelIdeal.nD Cert.MixInKernelIdeal.τ).loc Cert.MixInKernelIdeal.main_arg6)) (m ((c.tc : Thread Cert.MixInKernelIdeal.nD Cert.MixInKernelIdeal.τ).loc Cert.MixInKernelIdeal.main_arg7))).2.1 = (fun _ => 1#1)
    ∧ (Cert.Pre_finite_mixin.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4)) (m ((c.tc : Thread Cert.MixInKernelIdeal.nD Cert.MixInKernelIdeal.τ).loc Cert.MixInKernelIdeal.main_arg5)) (m ((c.tc : Thread Cert.MixInKernelIdeal.nD Cert.MixInKernelIdeal.τ).loc Cert.MixInKernelIdeal.main_arg6)) (m ((c.tc : Thread Cert.MixInKernelIdeal.nD Cert.MixInKernelIdeal.τ).loc Cert.MixInKernelIdeal.main_arg7))).2.2.1 = (fun _ => 1#1)
    ∧ (Cert.Pre_finite_mixin.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4)) (m ((c.tc : Thread Cert.MixInKernelIdeal.nD Cert.MixInKernelIdeal.τ).loc Cert.MixInKernelIdeal.main_arg5)) (m ((c.tc : Thread Cert.MixInKernelIdeal.nD Cert.MixInKernelIdeal.τ).loc Cert.MixInKernelIdeal.main_arg6)) (m ((c.tc : Thread Cert.MixInKernelIdeal.nD Cert.MixInKernelIdeal.τ).loc Cert.MixInKernelIdeal.main_arg7))).2.2.2.1 = (fun _ => 1#1)
    ∧ (Cert.Pre_finite_mixin.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4)) (m ((c.tc : Thread Cert.MixInKernelIdeal.nD Cert.MixInKernelIdeal.τ).loc Cert.MixInKernelIdeal.main_arg5)) (m ((c.tc : Thread Cert.MixInKernelIdeal.nD Cert.MixInKernelIdeal.τ).loc Cert.MixInKernelIdeal.main_arg6)) (m ((c.tc : Thread Cert.MixInKernelIdeal.nD Cert.MixInKernelIdeal.τ).loc Cert.MixInKernelIdeal.main_arg7))).2.2.2.2.1 = (fun _ => 1#1)
    ∧ (Cert.Pre_finite_mixin.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4)) (m ((c.tc : Thread Cert.MixInKernelIdeal.nD Cert.MixInKernelIdeal.τ).loc Cert.MixInKernelIdeal.main_arg5)) (m ((c.tc : Thread Cert.MixInKernelIdeal.nD Cert.MixInKernelIdeal.τ).loc Cert.MixInKernelIdeal.main_arg6)) (m ((c.tc : Thread Cert.MixInKernelIdeal.nD Cert.MixInKernelIdeal.τ).loc Cert.MixInKernelIdeal.main_arg7))).2.2.2.2.2.1 = (fun _ => 1#1)
    ∧ (Cert.Pre_finite_mixin.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4)) (m ((c.tc : Thread Cert.MixInKernelIdeal.nD Cert.MixInKernelIdeal.τ).loc Cert.MixInKernelIdeal.main_arg5)) (m ((c.tc : Thread Cert.MixInKernelIdeal.nD Cert.MixInKernelIdeal.τ).loc Cert.MixInKernelIdeal.main_arg6)) (m ((c.tc : Thread Cert.MixInKernelIdeal.nD Cert.MixInKernelIdeal.τ).loc Cert.MixInKernelIdeal.main_arg7))).2.2.2.2.2.2 = (fun _ => 1#1)

def Pre_MixInReferenceIdeal (m : (ℓ : Loc Cert.MixInReferenceIdeal.nD Cert.MixInReferenceIdeal.τ Cert.MixInReferenceIdeal.sig) → Buf (Elt Ideal) ℓ) : Prop :=
  True

def Pre_MixInReferenceIdeal_finite_mixin [hPre_finite_mixin : Cert.Pre_finite_mixin.Facts] (m : (ℓ : Loc Cert.MixInReferenceIdeal.nD Cert.MixInReferenceIdeal.τ Cert.MixInReferenceIdeal.sig) → Buf (Elt Ideal) ℓ) : Prop :=
  ∀ c : Dev Cert.MixInReferenceIdeal.nD,
    (Cert.Pre_finite_mixin.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7))).1 = (fun _ => 1#1)
    ∧ (Cert.Pre_finite_mixin.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7))).2.1 = (fun _ => 1#1)
    ∧ (Cert.Pre_finite_mixin.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7))).2.2.1 = (fun _ => 1#1)
    ∧ (Cert.Pre_finite_mixin.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7))).2.2.2.1 = (fun _ => 1#1)
    ∧ (Cert.Pre_finite_mixin.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7))).2.2.2.2.1 = (fun _ => 1#1)
    ∧ (Cert.Pre_finite_mixin.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7))).2.2.2.2.2.1 = (fun _ => 1#1)
    ∧ (Cert.Pre_finite_mixin.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7))).2.2.2.2.2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_all_finite [hPre_all_finite : Cert.Pre_all_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_all_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).1 = (fun _ => 1#1)
    ∧ (Cert.Pre_all_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.1 = (fun _ => 1#1)
    ∧ (Cert.Pre_all_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.1 = (fun _ => 1#1)
    ∧ (Cert.Pre_all_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.2.1 = (fun _ => 1#1)
    ∧ (Cert.Pre_all_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.2.2.1 = (fun _ => 1#1)
    ∧ (Cert.Pre_all_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_all_finite [hPre_all_finite : Cert.Pre_all_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_all_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).1 = (fun _ => 1#1)
    ∧ (Cert.Pre_all_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.1 = (fun _ => 1#1)
    ∧ (Cert.Pre_all_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.1 = (fun _ => 1#1)
    ∧ (Cert.Pre_all_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.1 = (fun _ => 1#1)
    ∧ (Cert.Pre_all_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2.1 = (fun _ => 1#1)
    ∧ (Cert.Pre_all_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_finite_mix [hPre_finite_mix : Cert.Pre_finite_mix.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).1 = (fun _ => 1#1)
    ∧ (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.1 = (fun _ => 1#1)
    ∧ (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.1 = (fun _ => 1#1)
    ∧ (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2.1 = (fun _ => 1#1)
    ∧ (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2.2.1 = (fun _ => 1#1)
    ∧ (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2.2.2.1 = (fun _ => 1#1)
    ∧ (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2.2.2.2.1 = (fun _ => 1#1)
    ∧ (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2.2.2.2.2.1 = (fun _ => 1#1)
    ∧ (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2.2.2.2.2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mix [hPre_finite_mix : Cert.Pre_finite_mix.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).1 = (fun _ => 1#1)
    ∧ (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.1 = (fun _ => 1#1)
    ∧ (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.1 = (fun _ => 1#1)
    ∧ (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2.1 = (fun _ => 1#1)
    ∧ (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2.2.1 = (fun _ => 1#1)
    ∧ (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2.2.2.1 = (fun _ => 1#1)
    ∧ (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2.2.2.2.1 = (fun _ => 1#1)
    ∧ (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2.2.2.2.2.1 = (fun _ => 1#1)
    ∧ (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2.2.2.2.2.2 = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvKernelIdeal_finite_conv [hPre_finite_conv : Cert.Pre_finite_conv.Facts] (m : (ℓ : Loc Cert.ConvKernelIdeal.nD Cert.ConvKernelIdeal.τ Cert.ConvKernelIdeal.sig) → Buf (Elt Ideal) ℓ) : Prop :=
  ∀ c : Dev Cert.ConvKernelIdeal.nD,
    (Cert.Pre_finite_conv.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2))).1 = (fun _ => 1#1)
    ∧ (Cert.Pre_finite_conv.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2))).2.1 = (fun _ => 1#1)
    ∧ (Cert.Pre_finite_conv.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2))).2.2 = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_finite_conv [hPre_finite_conv : Cert.Pre_finite_conv.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_finite_conv.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2))).1 = (fun _ => 1#1)
    ∧ (Cert.Pre_finite_conv.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2))).2.1 = (fun _ => 1#1)
    ∧ (Cert.Pre_finite_conv.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2))).2.2 = (fun _ => 1#1)

def Pre_AttnfKernel (m : (ℓ : Loc Cert.AttnfKernel.nD Cert.AttnfKernel.τ Cert.AttnfKernel.sig) → Buf (Elt Bits) ℓ) : Prop :=
  True

def Pre_AttnfKernelIdeal (m : (ℓ : Loc Cert.AttnfKernelIdeal.nD Cert.AttnfKernelIdeal.τ Cert.AttnfKernelIdeal.sig) → Buf (Elt Ideal) ℓ) : Prop :=
  True

def Pre_AttnfKernelIdeal_finite_attnf [hPre_finite_attnf : Cert.Pre_finite_attnf.Facts] (m : (ℓ : Loc Cert.AttnfKernelIdeal.nD Cert.AttnfKernelIdeal.τ Cert.AttnfKernelIdeal.sig) → Buf (Elt Ideal) ℓ) : Prop :=
  ∀ c : Dev Cert.AttnfKernelIdeal.nD,
    (Cert.Pre_finite_attnf.fn (F := Ideal) (m ((c.tc : Thread Cert.AttnfKernelIdeal.nD Cert.AttnfKernelIdeal.τ).loc Cert.AttnfKernelIdeal.main_arg0)) (m ((c.tc : Thread Cert.AttnfKernelIdeal.nD Cert.AttnfKernelIdeal.τ).loc Cert.AttnfKernelIdeal.main_arg1)) (m ((c.tc : Thread Cert.AttnfKernelIdeal.nD Cert.AttnfKernelIdeal.τ).loc Cert.AttnfKernelIdeal.main_arg2)) (m ((c.tc : Thread Cert.AttnfKernelIdeal.nD Cert.AttnfKernelIdeal.τ).loc Cert.AttnfKernelIdeal.main_arg3)) (m ((c.tc : Thread Cert.AttnfKernelIdeal.nD Cert.AttnfKernelIdeal.τ).loc Cert.AttnfKernelIdeal.main_arg4))).1 = (fun _ => 1#1)
    ∧ (Cert.Pre_finite_attnf.fn (F := Ideal) (m ((c.tc : Thread Cert.AttnfKernelIdeal.nD Cert.AttnfKernelIdeal.τ).loc Cert.AttnfKernelIdeal.main_arg0)) (m ((c.tc : Thread Cert.AttnfKernelIdeal.nD Cert.AttnfKernelIdeal.τ).loc Cert.AttnfKernelIdeal.main_arg1)) (m ((c.tc : Thread Cert.AttnfKernelIdeal.nD Cert.AttnfKernelIdeal.τ).loc Cert.AttnfKernelIdeal.main_arg2)) (m ((c.tc : Thread Cert.AttnfKernelIdeal.nD Cert.AttnfKernelIdeal.τ).loc Cert.AttnfKernelIdeal.main_arg3)) (m ((c.tc : Thread Cert.AttnfKernelIdeal.nD Cert.AttnfKernelIdeal.τ).loc Cert.AttnfKernelIdeal.main_arg4))).2.1 = (fun _ => 1#1)
    ∧ (Cert.Pre_finite_attnf.fn (F := Ideal) (m ((c.tc : Thread Cert.AttnfKernelIdeal.nD Cert.AttnfKernelIdeal.τ).loc Cert.AttnfKernelIdeal.main_arg0)) (m ((c.tc : Thread Cert.AttnfKernelIdeal.nD Cert.AttnfKernelIdeal.τ).loc Cert.AttnfKernelIdeal.main_arg1)) (m ((c.tc : Thread Cert.AttnfKernelIdeal.nD Cert.AttnfKernelIdeal.τ).loc Cert.AttnfKernelIdeal.main_arg2)) (m ((c.tc : Thread Cert.AttnfKernelIdeal.nD Cert.AttnfKernelIdeal.τ).loc Cert.AttnfKernelIdeal.main_arg3)) (m ((c.tc : Thread Cert.AttnfKernelIdeal.nD Cert.AttnfKernelIdeal.τ).loc Cert.AttnfKernelIdeal.main_arg4))).2.2.1 = (fun _ => 1#1)
    ∧ (Cert.Pre_finite_attnf.fn (F := Ideal) (m ((c.tc : Thread Cert.AttnfKernelIdeal.nD Cert.AttnfKernelIdeal.τ).loc Cert.AttnfKernelIdeal.main_arg0)) (m ((c.tc : Thread Cert.AttnfKernelIdeal.nD Cert.AttnfKernelIdeal.τ).loc Cert.AttnfKernelIdeal.main_arg1)) (m ((c.tc : Thread Cert.AttnfKernelIdeal.nD Cert.AttnfKernelIdeal.τ).loc Cert.AttnfKernelIdeal.main_arg2)) (m ((c.tc : Thread Cert.AttnfKernelIdeal.nD Cert.AttnfKernelIdeal.τ).loc Cert.AttnfKernelIdeal.main_arg3)) (m ((c.tc : Thread Cert.AttnfKernelIdeal.nD Cert.AttnfKernelIdeal.τ).loc Cert.AttnfKernelIdeal.main_arg4))).2.2.2.1 = (fun _ => 1#1)
    ∧ (Cert.Pre_finite_attnf.fn (F := Ideal) (m ((c.tc : Thread Cert.AttnfKernelIdeal.nD Cert.AttnfKernelIdeal.τ).loc Cert.AttnfKernelIdeal.main_arg0)) (m ((c.tc : Thread Cert.AttnfKernelIdeal.nD Cert.AttnfKernelIdeal.τ).loc Cert.AttnfKernelIdeal.main_arg1)) (m ((c.tc : Thread Cert.AttnfKernelIdeal.nD Cert.AttnfKernelIdeal.τ).loc Cert.AttnfKernelIdeal.main_arg2)) (m ((c.tc : Thread Cert.AttnfKernelIdeal.nD Cert.AttnfKernelIdeal.τ).loc Cert.AttnfKernelIdeal.main_arg3)) (m ((c.tc : Thread Cert.AttnfKernelIdeal.nD Cert.AttnfKernelIdeal.τ).loc Cert.AttnfKernelIdeal.main_arg4))).2.2.2.2 = (fun _ => 1#1)

def Pre_AttnfReferenceIdeal (m : (ℓ : Loc Cert.AttnfReferenceIdeal.nD Cert.AttnfReferenceIdeal.τ Cert.AttnfReferenceIdeal.sig) → Buf (Elt Ideal) ℓ) : Prop :=
  True

def Pre_AttnfReferenceIdeal_finite_attnf [hPre_finite_attnf : Cert.Pre_finite_attnf.Facts] (m : (ℓ : Loc Cert.AttnfReferenceIdeal.nD Cert.AttnfReferenceIdeal.τ Cert.AttnfReferenceIdeal.sig) → Buf (Elt Ideal) ℓ) : Prop :=
  ∀ c : Dev Cert.AttnfReferenceIdeal.nD,
    (Cert.Pre_finite_attnf.fn (F := Ideal) (m ((c.tc : Thread Cert.AttnfReferenceIdeal.nD Cert.AttnfReferenceIdeal.τ).loc Cert.AttnfReferenceIdeal.main_arg0)) (m ((c.tc : Thread Cert.AttnfReferenceIdeal.nD Cert.AttnfReferenceIdeal.τ).loc Cert.AttnfReferenceIdeal.main_arg1)) (m ((c.tc : Thread Cert.AttnfReferenceIdeal.nD Cert.AttnfReferenceIdeal.τ).loc Cert.AttnfReferenceIdeal.main_arg2)) (m ((c.tc : Thread Cert.AttnfReferenceIdeal.nD Cert.AttnfReferenceIdeal.τ).loc Cert.AttnfReferenceIdeal.main_arg3)) (m ((c.tc : Thread Cert.AttnfReferenceIdeal.nD Cert.AttnfReferenceIdeal.τ).loc Cert.AttnfReferenceIdeal.main_arg4))).1 = (fun _ => 1#1)
    ∧ (Cert.Pre_finite_attnf.fn (F := Ideal) (m ((c.tc : Thread Cert.AttnfReferenceIdeal.nD Cert.AttnfReferenceIdeal.τ).loc Cert.AttnfReferenceIdeal.main_arg0)) (m ((c.tc : Thread Cert.AttnfReferenceIdeal.nD Cert.AttnfReferenceIdeal.τ).loc Cert.AttnfReferenceIdeal.main_arg1)) (m ((c.tc : Thread Cert.AttnfReferenceIdeal.nD Cert.AttnfReferenceIdeal.τ).loc Cert.AttnfReferenceIdeal.main_arg2)) (m ((c.tc : Thread Cert.AttnfReferenceIdeal.nD Cert.AttnfReferenceIdeal.τ).loc Cert.AttnfReferenceIdeal.main_arg3)) (m ((c.tc : Thread Cert.AttnfReferenceIdeal.nD Cert.AttnfReferenceIdeal.τ).loc Cert.AttnfReferenceIdeal.main_arg4))).2.1 = (fun _ => 1#1)
    ∧ (Cert.Pre_finite_attnf.fn (F := Ideal) (m ((c.tc : Thread Cert.AttnfReferenceIdeal.nD Cert.AttnfReferenceIdeal.τ).loc Cert.AttnfReferenceIdeal.main_arg0)) (m ((c.tc : Thread Cert.AttnfReferenceIdeal.nD Cert.AttnfReferenceIdeal.τ).loc Cert.AttnfReferenceIdeal.main_arg1)) (m ((c.tc : Thread Cert.AttnfReferenceIdeal.nD Cert.AttnfReferenceIdeal.τ).loc Cert.AttnfReferenceIdeal.main_arg2)) (m ((c.tc : Thread Cert.AttnfReferenceIdeal.nD Cert.AttnfReferenceIdeal.τ).loc Cert.AttnfReferenceIdeal.main_arg3)) (m ((c.tc : Thread Cert.AttnfReferenceIdeal.nD Cert.AttnfReferenceIdeal.τ).loc Cert.AttnfReferenceIdeal.main_arg4))).2.2.1 = (fun _ => 1#1)
    ∧ (Cert.Pre_finite_attnf.fn (F := Ideal) (m ((c.tc : Thread Cert.AttnfReferenceIdeal.nD Cert.AttnfReferenceIdeal.τ).loc Cert.AttnfReferenceIdeal.main_arg0)) (m ((c.tc : Thread Cert.AttnfReferenceIdeal.nD Cert.AttnfReferenceIdeal.τ).loc Cert.AttnfReferenceIdeal.main_arg1)) (m ((c.tc : Thread Cert.AttnfReferenceIdeal.nD Cert.AttnfReferenceIdeal.τ).loc Cert.AttnfReferenceIdeal.main_arg2)) (m ((c.tc : Thread Cert.AttnfReferenceIdeal.nD Cert.AttnfReferenceIdeal.τ).loc Cert.AttnfReferenceIdeal.main_arg3)) (m ((c.tc : Thread Cert.AttnfReferenceIdeal.nD Cert.AttnfReferenceIdeal.τ).loc Cert.AttnfReferenceIdeal.main_arg4))).2.2.2.1 = (fun _ => 1#1)
    ∧ (Cert.Pre_finite_attnf.fn (F := Ideal) (m ((c.tc : Thread Cert.AttnfReferenceIdeal.nD Cert.AttnfReferenceIdeal.τ).loc Cert.AttnfReferenceIdeal.main_arg0)) (m ((c.tc : Thread Cert.AttnfReferenceIdeal.nD Cert.AttnfReferenceIdeal.τ).loc Cert.AttnfReferenceIdeal.main_arg1)) (m ((c.tc : Thread Cert.AttnfReferenceIdeal.nD Cert.AttnfReferenceIdeal.τ).loc Cert.AttnfReferenceIdeal.main_arg2)) (m ((c.tc : Thread Cert.AttnfReferenceIdeal.nD Cert.AttnfReferenceIdeal.τ).loc Cert.AttnfReferenceIdeal.main_arg3)) (m ((c.tc : Thread Cert.AttnfReferenceIdeal.nD Cert.AttnfReferenceIdeal.τ).loc Cert.AttnfReferenceIdeal.main_arg4))).2.2.2.2 = (fun _ => 1#1)

def Pre_MixfKernel (m : (ℓ : Loc Cert.MixfKernel.nD Cert.MixfKernel.τ Cert.MixfKernel.sig) → Buf (Elt Bits) ℓ) : Prop :=
  True

def Pre_MixfKernelIdeal (m : (ℓ : Loc Cert.MixfKernelIdeal.nD Cert.MixfKernelIdeal.τ Cert.MixfKernelIdeal.sig) → Buf (Elt Ideal) ℓ) : Prop :=
  True

def Pre_MixfReferenceIdeal (m : (ℓ : Loc Cert.MixfReferenceIdeal.nD Cert.MixfReferenceIdeal.τ Cert.MixfReferenceIdeal.sig) → Buf (Elt Ideal) ℓ) : Prop :=
  True

def Pre_NormMmKernel (m : (ℓ : Loc Cert.NormMmKernel.nD Cert.NormMmKernel.τ Cert.NormMmKernel.sig) → Buf (Elt Bits) ℓ) : Prop :=
  True

def Pre_NormMmKernelIdeal (m : (ℓ : Loc Cert.NormMmKernelIdeal.nD Cert.NormMmKernelIdeal.τ Cert.NormMmKernelIdeal.sig) → Buf (Elt Ideal) ℓ) : Prop :=
  True

def Pre_NormMmReferenceIdeal (m : (ℓ : Loc Cert.NormMmReferenceIdeal.nD Cert.NormMmReferenceIdeal.τ Cert.NormMmReferenceIdeal.sig) → Buf (Elt Ideal) ℓ) : Prop :=
  True

def Pre_ConvfKernel (m : (ℓ : Loc Cert.ConvfKernel.nD Cert.ConvfKernel.τ Cert.ConvfKernel.sig) → Buf (Elt Bits) ℓ) : Prop :=
  True

def Pre_ConvfKernelIdeal (m : (ℓ : Loc Cert.ConvfKernelIdeal.nD Cert.ConvfKernelIdeal.τ Cert.ConvfKernelIdeal.sig) → Buf (Elt Ideal) ℓ) : Prop :=
  True

def Pre_ConvfReferenceIdeal (m : (ℓ : Loc Cert.ConvfReferenceIdeal.nD Cert.ConvfReferenceIdeal.τ Cert.ConvfReferenceIdeal.sig) → Buf (Elt Ideal) ℓ) : Prop :=
  True

def Pre_BucketKernel (m : (ℓ : Loc Cert.BucketKernel.nD Cert.BucketKernel.τ Cert.BucketKernel.sig) → Buf (Elt Bits) ℓ) : Prop :=
  True

def Pre_BucketKernelIdeal (m : (ℓ : Loc Cert.BucketKernelIdeal.nD Cert.BucketKernelIdeal.τ Cert.BucketKernelIdeal.sig) → Buf (Elt Ideal) ℓ) : Prop :=
  True

def Pre_BucketKernelIdeal_finite_bucket [hPre_finite_bucket : Cert.Pre_finite_bucket.Facts] (m : (ℓ : Loc Cert.BucketKernelIdeal.nD Cert.BucketKernelIdeal.τ Cert.BucketKernelIdeal.sig) → Buf (Elt Ideal) ℓ) : Prop :=
  ∀ c : Dev Cert.BucketKernelIdeal.nD,
    (Cert.Pre_finite_bucket.fn (F := Ideal) (m ((c.tc : Thread Cert.BucketKernelIdeal.nD Cert.BucketKernelIdeal.τ).loc Cert.BucketKernelIdeal.main_arg0))) = (fun _ => 1#1)

def Pre_BucketReferenceIdeal (m : (ℓ : Loc Cert.BucketReferenceIdeal.nD Cert.BucketReferenceIdeal.τ Cert.BucketReferenceIdeal.sig) → Buf (Elt Ideal) ℓ) : Prop :=
  True

def Pre_BucketReferenceIdeal_finite_bucket [hPre_finite_bucket : Cert.Pre_finite_bucket.Facts] (m : (ℓ : Loc Cert.BucketReferenceIdeal.nD Cert.BucketReferenceIdeal.τ Cert.BucketReferenceIdeal.sig) → Buf (Elt Ideal) ℓ) : Prop :=
  ∀ c : Dev Cert.BucketReferenceIdeal.nD,
    (Cert.Pre_finite_bucket.fn (F := Ideal) (m ((c.tc : Thread Cert.BucketReferenceIdeal.nD Cert.BucketReferenceIdeal.τ).loc Cert.BucketReferenceIdeal.main_arg0))) = (fun _ => 1#1)

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GDownKernel (m : (ℓ : Loc Cert.GDownKernel.nD Cert.GDownKernel.τ Cert.GDownKernel.sig) → Buf (Elt Bits) ℓ) : Prop :=
  True

def Pre_GDownKernelIdeal (m : (ℓ : Loc Cert.GDownKernelIdeal.nD Cert.GDownKernelIdeal.τ Cert.GDownKernelIdeal.sig) → Buf (Elt Ideal) ℓ) : Prop :=
  True

def Pre_GDownReferenceIdeal (m : (ℓ : Loc Cert.GDownReferenceIdeal.nD Cert.GDownReferenceIdeal.τ Cert.GDownReferenceIdeal.sig) → Buf (Elt Ideal) ℓ) : Prop :=
  True

def Pre_AdamwKernel (m : (ℓ : Loc Cert.AdamwKernel.nD Cert.AdamwKernel.τ Cert.AdamwKernel.sig) → Buf (Elt Bits) ℓ) : Prop :=
  True

def Pre_AdamwKernelIdeal (m : (ℓ : Loc Cert.AdamwKernelIdeal.nD Cert.AdamwKernelIdeal.τ Cert.AdamwKernelIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def quiescent_DactKernel [hDactKernel : Cert.DactKernel.Facts] : Prop :=
  ∀ (m : (ℓ : Loc Cert.DactKernel.nD Cert.DactKernel.τ Cert.DactKernel.sig) → Buf (Elt Bits) ℓ) (g : Dev Cert.DactKernel.nD → PrngReg), Pre_DactKernel m →
    θ_run (Cert.DactKernel.defs (F := Bits)) (onTc (τ := Cert.DactKernel.τ) (Cert.DactKernel.main (F := Bits))) ⟨m, fun _ => 0, g⟩ (fun r => (∀ c : Dev Cert.DactKernel.nD,
      r.2.mem ((c.tc : Thread Cert.DactKernel.nD Cert.DactKernel.τ).loc Cert.DactKernel.main_arg0) = m ((c.tc : Thread Cert.DactKernel.nD Cert.DactKernel.τ).loc Cert.DactKernel.main_arg0)
      ∧ r.2.mem ((c.tc : Thread Cert.DactKernel.nD Cert.DactKernel.τ).loc Cert.DactKernel.main_arg1) = m ((c.tc : Thread Cert.DactKernel.nD Cert.DactKernel.τ).loc Cert.DactKernel.main_arg1)
      ∧ r.2.mem ((c.tc : Thread Cert.DactKernel.nD Cert.DactKernel.τ).loc Cert.DactKernel.main_arg2) = m ((c.tc : Thread Cert.DactKernel.nD Cert.DactKernel.τ).loc Cert.DactKernel.main_arg2))
      ∧ r.2.sem = fun _ => 0)

def quiescent_DactKernelIdeal [hDactKernelIdeal : Cert.DactKernelIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
      ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2))
      ∧ r.2.sem = fun _ => 0)

def quiescent_MlpInKernel [hMlpInKernel : Cert.MlpInKernel.Facts] : Prop :=
  ∀ (m : (ℓ : Loc Cert.MlpInKernel.nD Cert.MlpInKernel.τ Cert.MlpInKernel.sig) → Buf (Elt Bits) ℓ) (g : Dev Cert.MlpInKernel.nD → PrngReg), Pre_MlpInKernel m →
    θ_run (Cert.MlpInKernel.defs (F := Bits)) (onTc (τ := Cert.MlpInKernel.τ) (Cert.MlpInKernel.main (F := Bits))) ⟨m, fun _ => 0, g⟩ (fun r => (∀ c : Dev Cert.MlpInKernel.nD,
      r.2.mem ((c.tc : Thread Cert.MlpInKernel.nD Cert.MlpInKernel.τ).loc Cert.MlpInKernel.main_arg0) = m ((c.tc : Thread Cert.MlpInKernel.nD Cert.MlpInKernel.τ).loc Cert.MlpInKernel.main_arg0)
      ∧ r.2.mem ((c.tc : Thread Cert.MlpInKernel.nD Cert.MlpInKernel.τ).loc Cert.MlpInKernel.main_arg1) = m ((c.tc : Thread Cert.MlpInKernel.nD Cert.MlpInKernel.τ).loc Cert.MlpInKernel.main_arg1)
      ∧ r.2.mem ((c.tc : Thread Cert.MlpInKernel.nD Cert.MlpInKernel.τ).loc Cert.MlpInKernel.main_arg2) = m ((c.tc : Thread Cert.MlpInKernel.nD Cert.MlpInKernel.τ).loc Cert.MlpInKernel.main_arg2)
      ∧ r.2.mem ((c.tc : Thread Cert.MlpInKernel.nD Cert.MlpInKernel.τ).loc Cert.MlpInKernel.main_arg3) = m ((c.tc : Thread Cert.MlpInKernel.nD Cert.MlpInKernel.τ).loc Cert.MlpInKernel.main_arg3)
      ∧ r.2.mem ((c.tc : Thread Cert.MlpInKernel.nD Cert.MlpInKernel.τ).loc Cert.MlpInKernel.main_arg4) = m ((c.tc : Thread Cert.MlpInKernel.nD Cert.MlpInKernel.τ).loc Cert.MlpInKernel.main_arg4))
      ∧ r.2.sem = fun _ => 0)

def quiescent_MlpInKernelIdeal [hMlpInKernelIdeal : Cert.MlpInKernelIdeal.Facts] : Prop :=
  ∀ (m : (ℓ : Loc Cert.MlpInKernelIdeal.nD Cert.MlpInKernelIdeal.τ Cert.MlpInKernelIdeal.sig) → Buf (Elt Ideal) ℓ) (g : Dev Cert.MlpInKernelIdeal.nD → PrngReg), Pre_MlpInKernelIdeal m →
    θ_run (Cert.MlpInKernelIdeal.defs (F := Ideal)) (onTc (τ := Cert.MlpInKernelIdeal.τ) (Cert.MlpInKernelIdeal.main (F := Ideal))) ⟨m, fun _ => 0, g⟩ (fun r => (∀ c : Dev Cert.MlpInKernelIdeal.nD,
      r.2.mem ((c.tc : Thread Cert.MlpInKernelIdeal.nD Cert.MlpInKernelIdeal.τ).loc Cert.MlpInKernelIdeal.main_arg0) = m ((c.tc : Thread Cert.MlpInKernelIdeal.nD Cert.MlpInKernelIdeal.τ).loc Cert.MlpInKernelIdeal.main_arg0)
      ∧ r.2.mem ((c.tc : Thread Cert.MlpInKernelIdeal.nD Cert.MlpInKernelIdeal.τ).loc Cert.MlpInKernelIdeal.main_arg1) = m ((c.tc : Thread Cert.MlpInKernelIdeal.nD Cert.MlpInKernelIdeal.τ).loc Cert.MlpInKernelIdeal.main_arg1)
      ∧ r.2.mem ((c.tc : Thread Cert.MlpInKernelIdeal.nD Cert.MlpInKernelIdeal.τ).loc Cert.MlpInKernelIdeal.main_arg2) = m ((c.tc : Thread Cert.MlpInKernelIdeal.nD Cert.MlpInKernelIdeal.τ).loc Cert.MlpInKernelIdeal.main_arg2)
      ∧ r.2.mem ((c.tc : Thread Cert.MlpInKernelIdeal.nD Cert.MlpInKernelIdeal.τ).loc Cert.MlpInKernelIdeal.main_arg3) = m ((c.tc : Thread Cert.MlpInKernelIdeal.nD Cert.MlpInKernelIdeal.τ).loc Cert.MlpInKernelIdeal.main_arg3)
      ∧ r.2.mem ((c.tc : Thread Cert.MlpInKernelIdeal.nD Cert.MlpInKernelIdeal.τ).loc Cert.MlpInKernelIdeal.main_arg4) = m ((c.tc : Thread Cert.MlpInKernelIdeal.nD Cert.MlpInKernelIdeal.τ).loc Cert.MlpInKernelIdeal.main_arg4))
      ∧ r.2.sem = fun _ => 0)

def quiescent_MlpInKernelIdeal_pre_finite_mlpin [hMlpInKernelIdeal : Cert.MlpInKernelIdeal.Facts] [hPre_finite_mlpin : Cert.Pre_finite_mlpin.Facts] : Prop :=
  ∀ (m : (ℓ : Loc Cert.MlpInKernelIdeal.nD Cert.MlpInKernelIdeal.τ Cert.MlpInKernelIdeal.sig) → Buf (Elt Ideal) ℓ) (g : Dev Cert.MlpInKernelIdeal.nD → PrngReg), Pre_MlpInKernelIdeal_finite_mlpin m →
    θ_run (Cert.MlpInKernelIdeal.defs (F := Ideal)) (onTc (τ := Cert.MlpInKernelIdeal.τ) (Cert.MlpInKernelIdeal.main (F := Ideal))) ⟨m, fun _ => 0, g⟩ (fun r => (∀ c : Dev Cert.MlpInKernelIdeal.nD,
      r.2.mem ((c.tc : Thread Cert.MlpInKernelIdeal.nD Cert.MlpInKernelIdeal.τ).loc Cert.MlpInKernelIdeal.main_arg0) = m ((c.tc : Thread Cert.MlpInKernelIdeal.nD Cert.MlpInKernelIdeal.τ).loc Cert.MlpInKernelIdeal.main_arg0)
      ∧ r.2.mem ((c.tc : Thread Cert.MlpInKernelIdeal.nD Cert.MlpInKernelIdeal.τ).loc Cert.MlpInKernelIdeal.main_arg1) = m ((c.tc : Thread Cert.MlpInKernelIdeal.nD Cert.MlpInKernelIdeal.τ).loc Cert.MlpInKernelIdeal.main_arg1)
      ∧ r.2.mem ((c.tc : Thread Cert.MlpInKernelIdeal.nD Cert.MlpInKernelIdeal.τ).loc Cert.MlpInKernelIdeal.main_arg2) = m ((c.tc : Thread Cert.MlpInKernelIdeal.nD Cert.MlpInKernelIdeal.τ).loc Cert.MlpInKernelIdeal.main_arg2)
      ∧ r.2.mem ((c.tc : Thread Cert.MlpInKernelIdeal.nD Cert.MlpInKernelIdeal.τ).loc Cert.MlpInKernelIdeal.main_arg3) = m ((c.tc : Thread Cert.MlpInKernelIdeal.nD Cert.MlpInKernelIdeal.τ).loc Cert.MlpInKernelIdeal.main_arg3)
      ∧ r.2.mem ((c.tc : Thread Cert.MlpInKernelIdeal.nD Cert.MlpInKernelIdeal.τ).loc Cert.MlpInKernelIdeal.main_arg4) = m ((c.tc : Thread Cert.MlpInKernelIdeal.nD Cert.MlpInKernelIdeal.τ).loc Cert.MlpInKernelIdeal.main_arg4))
      ∧ r.2.sem = fun _ => 0)

def quiescent_MlpInReferenceIdeal [hMlpInReferenceIdeal : Cert.MlpInReferenceIdeal.Facts] : Prop :=
  ∀ (m : (ℓ : Loc Cert.MlpInReferenceIdeal.nD Cert.MlpInReferenceIdeal.τ Cert.MlpInReferenceIdeal.sig) → Buf (Elt Ideal) ℓ) (g : Dev Cert.MlpInReferenceIdeal.nD → PrngReg), Pre_MlpInReferenceIdeal m →
    θ_run (Cert.MlpInReferenceIdeal.defs (F := Ideal)) (onTc (τ := Cert.MlpInReferenceIdeal.τ) (Cert.MlpInReferenceIdeal.main (F := Ideal))) ⟨m, fun _ => 0, g⟩ (fun r => (∀ c : Dev Cert.MlpInReferenceIdeal.nD,
      r.2.mem ((c.tc : Thread Cert.MlpInReferenceIdeal.nD Cert.MlpInReferenceIdeal.τ).loc Cert.MlpInReferenceIdeal.main_arg0) = m ((c.tc : Thread Cert.MlpInReferenceIdeal.nD Cert.MlpInReferenceIdeal.τ).loc Cert.MlpInReferenceIdeal.main_arg0)
      ∧ r.2.mem ((c.tc : Thread Cert.MlpInReferenceIdeal.nD Cert.MlpInReferenceIdeal.τ).loc Cert.MlpInReferenceIdeal.main_arg1) = m ((c.tc : Thread Cert.MlpInReferenceIdeal.nD Cert.MlpInReferenceIdeal.τ).loc Cert.MlpInReferenceIdeal.main_arg1)
      ∧ r.2.mem ((c.tc : Thread Cert.MlpInReferenceIdeal.nD Cert.MlpInReferenceIdeal.τ).loc Cert.MlpInReferenceIdeal.main_arg2) = m ((c.tc : Thread Cert.MlpInReferenceIdeal.nD Cert.MlpInReferenceIdeal.τ).loc Cert.MlpInReferenceIdeal.main_arg2)
      ∧ r.2.mem ((c.tc : Thread Cert.MlpInReferenceIdeal.nD Cert.MlpInReferenceIdeal.τ).loc Cert.MlpInReferenceIdeal.main_arg3) = m ((c.tc : Thread Cert.MlpInReferenceIdeal.nD Cert.MlpInReferenceIdeal.τ).loc Cert.MlpInReferenceIdeal.main_arg3)
      ∧ r.2.mem ((c.tc : Thread Cert.MlpInReferenceIdeal.nD Cert.MlpInReferenceIdeal.τ).loc Cert.MlpInReferenceIdeal.main_arg4) = m ((c.tc : Thread Cert.MlpInReferenceIdeal.nD Cert.MlpInReferenceIdeal.τ).loc Cert.MlpInReferenceIdeal.main_arg4))
      ∧ r.2.sem = fun _ => 0)

def quiescent_MlpInReferenceIdeal_pre_finite_mlpin [hMlpInReferenceIdeal : Cert.MlpInReferenceIdeal.Facts] [hPre_finite_mlpin : Cert.Pre_finite_mlpin.Facts] : Prop :=
  ∀ (m : (ℓ : Loc Cert.MlpInReferenceIdeal.nD Cert.MlpInReferenceIdeal.τ Cert.MlpInReferenceIdeal.sig) → Buf (Elt Ideal) ℓ) (g : Dev Cert.MlpInReferenceIdeal.nD → PrngReg), Pre_MlpInReferenceIdeal_finite_mlpin m →
    θ_run (Cert.MlpInReferenceIdeal.defs (F := Ideal)) (onTc (τ := Cert.MlpInReferenceIdeal.τ) (Cert.MlpInReferenceIdeal.main (F := Ideal))) ⟨m, fun _ => 0, g⟩ (fun r => (∀ c : Dev Cert.MlpInReferenceIdeal.nD,
      r.2.mem ((c.tc : Thread Cert.MlpInReferenceIdeal.nD Cert.MlpInReferenceIdeal.τ).loc Cert.MlpInReferenceIdeal.main_arg0) = m ((c.tc : Thread Cert.MlpInReferenceIdeal.nD Cert.MlpInReferenceIdeal.τ).loc Cert.MlpInReferenceIdeal.main_arg0)
      ∧ r.2.mem ((c.tc : Thread Cert.MlpInReferenceIdeal.nD Cert.MlpInReferenceIdeal.τ).loc Cert.MlpInReferenceIdeal.main_arg1) = m ((c.tc : Thread Cert.MlpInReferenceIdeal.nD Cert.MlpInReferenceIdeal.τ).loc Cert.MlpInReferenceIdeal.main_arg1)
      ∧ r.2.mem ((c.tc : Thread Cert.MlpInReferenceIdeal.nD Cert.MlpInReferenceIdeal.τ).loc Cert.MlpInReferenceIdeal.main_arg2) = m ((c.tc : Thread Cert.MlpInReferenceIdeal.nD Cert.MlpInReferenceIdeal.τ).loc Cert.MlpInReferenceIdeal.main_arg2)
      ∧ r.2.mem ((c.tc : Thread Cert.MlpInReferenceIdeal.nD Cert.MlpInReferenceIdeal.τ).loc Cert.MlpInReferenceIdeal.main_arg3) = m ((c.tc : Thread Cert.MlpInReferenceIdeal.nD Cert.MlpInReferenceIdeal.τ).loc Cert.MlpInReferenceIdeal.main_arg3)
      ∧ r.2.mem ((c.tc : Thread Cert.MlpInReferenceIdeal.nD Cert.MlpInReferenceIdeal.τ).loc Cert.MlpInReferenceIdeal.main_arg4) = m ((c.tc : Thread Cert.MlpInReferenceIdeal.nD Cert.MlpInReferenceIdeal.τ).loc Cert.MlpInReferenceIdeal.main_arg4))
      ∧ r.2.sem = fun _ => 0)

def quiescent_MixInKernel [hMixInKernel : Cert.MixInKernel.Facts] : Prop :=
  ∀ (m : (ℓ : Loc Cert.MixInKernel.nD Cert.MixInKernel.τ Cert.MixInKernel.sig) → Buf (Elt Bits) ℓ) (g : Dev Cert.MixInKernel.nD → PrngReg), Pre_MixInKernel m →
    θ_run (Cert.MixInKernel.defs (F := Bits)) (onTc (τ := Cert.MixInKernel.τ) (Cert.MixInKernel.main (F := Bits))) ⟨m, fun _ => 0, g⟩ (fun r => (∀ c : Dev Cert.MixInKernel.nD,
      r.2.mem ((c.tc : Thread Cert.MixInKernel.nD Cert.MixInKernel.τ).loc Cert.MixInKernel.main_arg0) = m ((c.tc : Thread Cert.MixInKernel.nD Cert.MixInKernel.τ).loc Cert.MixInKernel.main_arg0)
      ∧ r.2.mem ((c.tc : Thread Cert.MixInKernel.nD Cert.MixInKernel.τ).loc Cert.MixInKernel.main_arg1) = m ((c.tc : Thread Cert.MixInKernel.nD Cert.MixInKernel.τ).loc Cert.MixInKernel.main_arg1)
      ∧ r.2.mem ((c.tc : Thread Cert.MixInKernel.nD Cert.MixInKernel.τ).loc Cert.MixInKernel.main_arg2) = m ((c.tc : Thread Cert.MixInKernel.nD Cert.MixInKernel.τ).loc Cert.MixInKernel.main_arg2)
      ∧ r.2.mem ((c.tc : Thread Cert.MixInKernel.nD Cert.MixInKernel.τ).loc Cert.MixInKernel.main_arg3) = m ((c.tc : Thread Cert.MixInKernel.nD Cert.MixInKernel.τ).loc Cert.MixInKernel.main_arg3)
      ∧ r.2.mem ((c.tc : Thread Cert.MixInKernel.nD Cert.MixInKernel.τ).loc Cert.MixInKernel.main_arg4) = m ((c.tc : Thread Cert.MixInKernel.nD Cert.MixInKernel.τ).loc Cert.MixInKernel.main_arg4)
      ∧ r.2.mem ((c.tc : Thread Cert.MixInKernel.nD Cert.MixInKernel.τ).loc Cert.MixInKernel.main_arg5) = m ((c.tc : Thread Cert.MixInKernel.nD Cert.MixInKernel.τ).loc Cert.MixInKernel.main_arg5)
      ∧ r.2.mem ((c.tc : Thread Cert.MixInKernel.nD Cert.MixInKernel.τ).loc Cert.MixInKernel.main_arg6) = m ((c.tc : Thread Cert.MixInKernel.nD Cert.MixInKernel.τ).loc Cert.MixInKernel.main_arg6)
      ∧ r.2.mem ((c.tc : Thread Cert.MixInKernel.nD Cert.MixInKernel.τ).loc Cert.MixInKernel.main_arg7) = m ((c.tc : Thread Cert.MixInKernel.nD Cert.MixInKernel.τ).loc Cert.MixInKernel.main_arg7))
      ∧ r.2.sem = fun _ => 0)

def quiescent_MixInKernelIdeal [hMixInKernelIdeal : Cert.MixInKernelIdeal.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg), Pre_MixInKernelIdeal m →
    θ_run (Cert.MixInKernelIdeal.defs (F := Ideal)) (onTc (τ := Cert.MixInKernelIdeal.τ) (Cert.MixInKernelIdeal.main (F := Ideal))) ⟨m, fun _ => 0, g⟩ (fun r => (∀ c : Dev Cert.MixInKernelIdeal.nD,
      r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
      ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
      ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
      ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
      ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
      ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
      ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
      ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7))
      ∧ r.2.sem = fun _ => 0)

def quiescent_MixInKernelIdeal_pre_finite_mixin [hMixInKernelIdeal : Cert.MixInKernelIdeal.Facts] [hPre_finite_mixin : Cert.Pre_finite_mixin.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg), Pre_MixInKernelIdeal_finite_mixin m →
    θ_run (Cert.MixInKernelIdeal.defs (F := Ideal)) (onTc (τ := Cert.MixInKernelIdeal.τ) (Cert.MixInKernelIdeal.main (F := Ideal))) ⟨m, fun _ => 0, g⟩ (fun r => (∀ c : Dev Cert.MixInKernelIdeal.nD,
      r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
      ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
      ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
      ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
      ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
      ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
      ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
      ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7))
      ∧ r.2.sem = fun _ => 0)

def quiescent_MixInReferenceIdeal_pre_finite_mixin [hMixInReferenceIdeal : Cert.MixInReferenceIdeal.Facts] [hPre_finite_mixin : Cert.Pre_finite_mixin.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal_finite_mixin m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ r.2.sem = fun _ => 0)

def quiescent_AttnKernelIdeal_pre_all_finite [hAttnKernelIdeal : Cert.AttnKernelIdeal.Facts] [hPre_all_finite : Cert.Pre_all_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_all_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_AttnReferenceIdeal_pre_all_finite [hAttnReferenceIdeal : Cert.AttnReferenceIdeal.Facts] [hPre_all_finite : Cert.Pre_all_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_all_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixKernelIdeal_pre_finite_mix [hMixKernelIdeal : Cert.MixKernelIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_finite_mix m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_MixReferenceIdeal_pre_finite_mix [hMixReferenceIdeal : Cert.MixReferenceIdeal.Facts] [hPre_finite_mix : Cert.Pre_finite_mix.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mix m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvKernelIdeal_pre_finite_conv [hConvKernelIdeal : Cert.ConvKernelIdeal.Facts] [hPre_finite_conv : Cert.Pre_finite_conv.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal_finite_conv m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_ConvReferenceIdeal_pre_finite_conv [hConvReferenceIdeal : Cert.ConvReferenceIdeal.Facts] [hPre_finite_conv : Cert.Pre_finite_conv.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_finite_conv m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_AttnfKernel [hAttnfKernel : Cert.AttnfKernel.Facts] : Prop :=
  ∀ (m : (ℓ : Loc Cert.AttnfKernel.nD Cert.AttnfKernel.τ Cert.AttnfKernel.sig) → Buf (Elt Bits) ℓ) (g : Dev Cert.AttnfKernel.nD → PrngReg), Pre_AttnfKernel m →
    θ_run (Cert.AttnfKernel.defs (F := Bits)) (onTc (τ := Cert.AttnfKernel.τ) (Cert.AttnfKernel.main (F := Bits))) ⟨m, fun _ => 0, g⟩ (fun r => (∀ c : Dev Cert.AttnfKernel.nD,
      r.2.mem ((c.tc : Thread Cert.AttnfKernel.nD Cert.AttnfKernel.τ).loc Cert.AttnfKernel.main_arg0) = m ((c.tc : Thread Cert.AttnfKernel.nD Cert.AttnfKernel.τ).loc Cert.AttnfKernel.main_arg0)
      ∧ r.2.mem ((c.tc : Thread Cert.AttnfKernel.nD Cert.AttnfKernel.τ).loc Cert.AttnfKernel.main_arg1) = m ((c.tc : Thread Cert.AttnfKernel.nD Cert.AttnfKernel.τ).loc Cert.AttnfKernel.main_arg1)
      ∧ r.2.mem ((c.tc : Thread Cert.AttnfKernel.nD Cert.AttnfKernel.τ).loc Cert.AttnfKernel.main_arg2) = m ((c.tc : Thread Cert.AttnfKernel.nD Cert.AttnfKernel.τ).loc Cert.AttnfKernel.main_arg2)
      ∧ r.2.mem ((c.tc : Thread Cert.AttnfKernel.nD Cert.AttnfKernel.τ).loc Cert.AttnfKernel.main_arg3) = m ((c.tc : Thread Cert.AttnfKernel.nD Cert.AttnfKernel.τ).loc Cert.AttnfKernel.main_arg3)
      ∧ r.2.mem ((c.tc : Thread Cert.AttnfKernel.nD Cert.AttnfKernel.τ).loc Cert.AttnfKernel.main_arg4) = m ((c.tc : Thread Cert.AttnfKernel.nD Cert.AttnfKernel.τ).loc Cert.AttnfKernel.main_arg4))
      ∧ r.2.sem = fun _ => 0)

def quiescent_AttnfKernelIdeal [hAttnfKernelIdeal : Cert.AttnfKernelIdeal.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg), Pre_AttnfKernelIdeal m →
    θ_run (Cert.AttnfKernelIdeal.defs (F := Ideal)) (onTc (τ := Cert.AttnfKernelIdeal.τ) (Cert.AttnfKernelIdeal.main (F := Ideal))) ⟨m, fun _ => 0, g⟩ (fun r => (∀ c : Dev Cert.AttnfKernelIdeal.nD,
      r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
      ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
      ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2)
      ∧ r.2.mem ((c.tc : Thread Cert.AttnfKernelIdeal.nD Cert.AttnfKernelIdeal.τ).loc Cert.AttnfKernelIdeal.main_arg3) = m ((c.tc : Thread Cert.AttnfKernelIdeal.nD Cert.AttnfKernelIdeal.τ).loc Cert.AttnfKernelIdeal.main_arg3)
      ∧ r.2.mem ((c.tc : Thread Cert.AttnfKernelIdeal.nD Cert.AttnfKernelIdeal.τ).loc Cert.AttnfKernelIdeal.main_arg4) = m ((c.tc : Thread Cert.AttnfKernelIdeal.nD Cert.AttnfKernelIdeal.τ).loc Cert.AttnfKernelIdeal.main_arg4))
      ∧ r.2.sem = fun _ => 0)

def quiescent_AttnfKernelIdeal_pre_finite_attnf [hAttnfKernelIdeal : Cert.AttnfKernelIdeal.Facts] [hPre_finite_attnf : Cert.Pre_finite_attnf.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg), Pre_AttnfKernelIdeal_finite_attnf m →
    θ_run (Cert.AttnfKernelIdeal.defs (F := Ideal)) (onTc (τ := Cert.AttnfKernelIdeal.τ) (Cert.AttnfKernelIdeal.main (F := Ideal))) ⟨m, fun _ => 0, g⟩ (fun r => (∀ c : Dev Cert.AttnfKernelIdeal.nD,
      r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
      ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
      ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2)
      ∧ r.2.mem ((c.tc : Thread Cert.AttnfKernelIdeal.nD Cert.AttnfKernelIdeal.τ).loc Cert.AttnfKernelIdeal.main_arg3) = m ((c.tc : Thread Cert.AttnfKernelIdeal.nD Cert.AttnfKernelIdeal.τ).loc Cert.AttnfKernelIdeal.main_arg3)
      ∧ r.2.mem ((c.tc : Thread Cert.AttnfKernelIdeal.nD Cert.AttnfKernelIdeal.τ).loc Cert.AttnfKernelIdeal.main_arg4) = m ((c.tc : Thread Cert.AttnfKernelIdeal.nD Cert.AttnfKernelIdeal.τ).loc Cert.AttnfKernelIdeal.main_arg4))
      ∧ r.2.sem = fun _ => 0)

def quiescent_AttnfReferenceIdeal [hAttnfReferenceIdeal : Cert.AttnfReferenceIdeal.Facts] : Prop :=
  ∀ (m : (ℓ : Loc Cert.AttnfReferenceIdeal.nD Cert.AttnfReferenceIdeal.τ Cert.AttnfReferenceIdeal.sig) → Buf (Elt Ideal) ℓ) (g : Dev Cert.AttnfReferenceIdeal.nD → PrngReg), Pre_AttnfReferenceIdeal m →
    θ_run (Cert.AttnfReferenceIdeal.defs (F := Ideal)) (onTc (τ := Cert.AttnfReferenceIdeal.τ) (Cert.AttnfReferenceIdeal.main (F := Ideal))) ⟨m, fun _ => 0, g⟩ (fun r => (∀ c : Dev Cert.AttnfReferenceIdeal.nD,
      r.2.mem ((c.tc : Thread Cert.AttnfReferenceIdeal.nD Cert.AttnfReferenceIdeal.τ).loc Cert.AttnfReferenceIdeal.main_arg0) = m ((c.tc : Thread Cert.AttnfReferenceIdeal.nD Cert.AttnfReferenceIdeal.τ).loc Cert.AttnfReferenceIdeal.main_arg0)
      ∧ r.2.mem ((c.tc : Thread Cert.AttnfReferenceIdeal.nD Cert.AttnfReferenceIdeal.τ).loc Cert.AttnfReferenceIdeal.main_arg1) = m ((c.tc : Thread Cert.AttnfReferenceIdeal.nD Cert.AttnfReferenceIdeal.τ).loc Cert.AttnfReferenceIdeal.main_arg1)
      ∧ r.2.mem ((c.tc : Thread Cert.AttnfReferenceIdeal.nD Cert.AttnfReferenceIdeal.τ).loc Cert.AttnfReferenceIdeal.main_arg2) = m ((c.tc : Thread Cert.AttnfReferenceIdeal.nD Cert.AttnfReferenceIdeal.τ).loc Cert.AttnfReferenceIdeal.main_arg2)
      ∧ r.2.mem ((c.tc : Thread Cert.AttnfReferenceIdeal.nD Cert.AttnfReferenceIdeal.τ).loc Cert.AttnfReferenceIdeal.main_arg3) = m ((c.tc : Thread Cert.AttnfReferenceIdeal.nD Cert.AttnfReferenceIdeal.τ).loc Cert.AttnfReferenceIdeal.main_arg3)
      ∧ r.2.mem ((c.tc : Thread Cert.AttnfReferenceIdeal.nD Cert.AttnfReferenceIdeal.τ).loc Cert.AttnfReferenceIdeal.main_arg4) = m ((c.tc : Thread Cert.AttnfReferenceIdeal.nD Cert.AttnfReferenceIdeal.τ).loc Cert.AttnfReferenceIdeal.main_arg4))
      ∧ r.2.sem = fun _ => 0)

def quiescent_AttnfReferenceIdeal_pre_finite_attnf [hAttnfReferenceIdeal : Cert.AttnfReferenceIdeal.Facts] [hPre_finite_attnf : Cert.Pre_finite_attnf.Facts] : Prop :=
  ∀ (m : (ℓ : Loc Cert.AttnfReferenceIdeal.nD Cert.AttnfReferenceIdeal.τ Cert.AttnfReferenceIdeal.sig) → Buf (Elt Ideal) ℓ) (g : Dev Cert.AttnfReferenceIdeal.nD → PrngReg), Pre_AttnfReferenceIdeal_finite_attnf m →
    θ_run (Cert.AttnfReferenceIdeal.defs (F := Ideal)) (onTc (τ := Cert.AttnfReferenceIdeal.τ) (Cert.AttnfReferenceIdeal.main (F := Ideal))) ⟨m, fun _ => 0, g⟩ (fun r => (∀ c : Dev Cert.AttnfReferenceIdeal.nD,
      r.2.mem ((c.tc : Thread Cert.AttnfReferenceIdeal.nD Cert.AttnfReferenceIdeal.τ).loc Cert.AttnfReferenceIdeal.main_arg0) = m ((c.tc : Thread Cert.AttnfReferenceIdeal.nD Cert.AttnfReferenceIdeal.τ).loc Cert.AttnfReferenceIdeal.main_arg0)
      ∧ r.2.mem ((c.tc : Thread Cert.AttnfReferenceIdeal.nD Cert.AttnfReferenceIdeal.τ).loc Cert.AttnfReferenceIdeal.main_arg1) = m ((c.tc : Thread Cert.AttnfReferenceIdeal.nD Cert.AttnfReferenceIdeal.τ).loc Cert.AttnfReferenceIdeal.main_arg1)
      ∧ r.2.mem ((c.tc : Thread Cert.AttnfReferenceIdeal.nD Cert.AttnfReferenceIdeal.τ).loc Cert.AttnfReferenceIdeal.main_arg2) = m ((c.tc : Thread Cert.AttnfReferenceIdeal.nD Cert.AttnfReferenceIdeal.τ).loc Cert.AttnfReferenceIdeal.main_arg2)
      ∧ r.2.mem ((c.tc : Thread Cert.AttnfReferenceIdeal.nD Cert.AttnfReferenceIdeal.τ).loc Cert.AttnfReferenceIdeal.main_arg3) = m ((c.tc : Thread Cert.AttnfReferenceIdeal.nD Cert.AttnfReferenceIdeal.τ).loc Cert.AttnfReferenceIdeal.main_arg3)
      ∧ r.2.mem ((c.tc : Thread Cert.AttnfReferenceIdeal.nD Cert.AttnfReferenceIdeal.τ).loc Cert.AttnfReferenceIdeal.main_arg4) = m ((c.tc : Thread Cert.AttnfReferenceIdeal.nD Cert.AttnfReferenceIdeal.τ).loc Cert.AttnfReferenceIdeal.main_arg4))
      ∧ r.2.sem = fun _ => 0)

def quiescent_MixfKernel [hMixfKernel : Cert.MixfKernel.Facts] : Prop :=
  ∀ (m : (ℓ : Loc Cert.MixfKernel.nD Cert.MixfKernel.τ Cert.MixfKernel.sig) → Buf (Elt Bits) ℓ) (g : Dev Cert.MixfKernel.nD → PrngReg), Pre_MixfKernel m →
    θ_run (Cert.MixfKernel.defs (F := Bits)) (onTc (τ := Cert.MixfKernel.τ) (Cert.MixfKernel.main (F := Bits))) ⟨m, fun _ => 0, g⟩ (fun r => (∀ c : Dev Cert.MixfKernel.nD,
      r.2.mem ((c.tc : Thread Cert.MixfKernel.nD Cert.MixfKernel.τ).loc Cert.MixfKernel.main_arg0) = m ((c.tc : Thread Cert.MixfKernel.nD Cert.MixfKernel.τ).loc Cert.MixfKernel.main_arg0)
      ∧ r.2.mem ((c.tc : Thread Cert.MixfKernel.nD Cert.MixfKernel.τ).loc Cert.MixfKernel.main_arg1) = m ((c.tc : Thread Cert.MixfKernel.nD Cert.MixfKernel.τ).loc Cert.MixfKernel.main_arg1)
      ∧ r.2.mem ((c.tc : Thread Cert.MixfKernel.nD Cert.MixfKernel.τ).loc Cert.MixfKernel.main_arg2) = m ((c.tc : Thread Cert.MixfKernel.nD Cert.MixfKernel.τ).loc Cert.MixfKernel.main_arg2)
      ∧ r.2.mem ((c.tc : Thread Cert.MixfKernel.nD Cert.MixfKernel.τ).loc Cert.MixfKernel.main_arg3) = m ((c.tc : Thread Cert.MixfKernel.nD Cert.MixfKernel.τ).loc Cert.MixfKernel.main_arg3)
      ∧ r.2.mem ((c.tc : Thread Cert.MixfKernel.nD Cert.MixfKernel.τ).loc Cert.MixfKernel.main_arg4) = m ((c.tc : Thread Cert.MixfKernel.nD Cert.MixfKernel.τ).loc Cert.MixfKernel.main_arg4)
      ∧ r.2.mem ((c.tc : Thread Cert.MixfKernel.nD Cert.MixfKernel.τ).loc Cert.MixfKernel.main_arg5) = m ((c.tc : Thread Cert.MixfKernel.nD Cert.MixfKernel.τ).loc Cert.MixfKernel.main_arg5))
      ∧ r.2.sem = fun _ => 0)

def quiescent_MixfKernelIdeal [hMixfKernelIdeal : Cert.MixfKernelIdeal.Facts] : Prop :=
  ∀ (m : (ℓ : Loc Cert.MixfKernelIdeal.nD Cert.MixfKernelIdeal.τ Cert.MixfKernelIdeal.sig) → Buf (Elt Ideal) ℓ) (g : Dev Cert.MixfKernelIdeal.nD → PrngReg), Pre_MixfKernelIdeal m →
    θ_run (Cert.MixfKernelIdeal.defs (F := Ideal)) (onTc (τ := Cert.MixfKernelIdeal.τ) (Cert.MixfKernelIdeal.main (F := Ideal))) ⟨m, fun _ => 0, g⟩ (fun r => (∀ c : Dev Cert.MixfKernelIdeal.nD,
      r.2.mem ((c.tc : Thread Cert.MixfKernelIdeal.nD Cert.MixfKernelIdeal.τ).loc Cert.MixfKernelIdeal.main_arg0) = m ((c.tc : Thread Cert.MixfKernelIdeal.nD Cert.MixfKernelIdeal.τ).loc Cert.MixfKernelIdeal.main_arg0)
      ∧ r.2.mem ((c.tc : Thread Cert.MixfKernelIdeal.nD Cert.MixfKernelIdeal.τ).loc Cert.MixfKernelIdeal.main_arg1) = m ((c.tc : Thread Cert.MixfKernelIdeal.nD Cert.MixfKernelIdeal.τ).loc Cert.MixfKernelIdeal.main_arg1)
      ∧ r.2.mem ((c.tc : Thread Cert.MixfKernelIdeal.nD Cert.MixfKernelIdeal.τ).loc Cert.MixfKernelIdeal.main_arg2) = m ((c.tc : Thread Cert.MixfKernelIdeal.nD Cert.MixfKernelIdeal.τ).loc Cert.MixfKernelIdeal.main_arg2)
      ∧ r.2.mem ((c.tc : Thread Cert.MixfKernelIdeal.nD Cert.MixfKernelIdeal.τ).loc Cert.MixfKernelIdeal.main_arg3) = m ((c.tc : Thread Cert.MixfKernelIdeal.nD Cert.MixfKernelIdeal.τ).loc Cert.MixfKernelIdeal.main_arg3)
      ∧ r.2.mem ((c.tc : Thread Cert.MixfKernelIdeal.nD Cert.MixfKernelIdeal.τ).loc Cert.MixfKernelIdeal.main_arg4) = m ((c.tc : Thread Cert.MixfKernelIdeal.nD Cert.MixfKernelIdeal.τ).loc Cert.MixfKernelIdeal.main_arg4)
      ∧ r.2.mem ((c.tc : Thread Cert.MixfKernelIdeal.nD Cert.MixfKernelIdeal.τ).loc Cert.MixfKernelIdeal.main_arg5) = m ((c.tc : Thread Cert.MixfKernelIdeal.nD Cert.MixfKernelIdeal.τ).loc Cert.MixfKernelIdeal.main_arg5))
      ∧ r.2.sem = fun _ => 0)

def quiescent_MixfReferenceIdeal [hMixfReferenceIdeal : Cert.MixfReferenceIdeal.Facts] : Prop :=
  ∀ (m : (ℓ : Loc Cert.MixfReferenceIdeal.nD Cert.MixfReferenceIdeal.τ Cert.MixfReferenceIdeal.sig) → Buf (Elt Ideal) ℓ) (g : Dev Cert.MixfReferenceIdeal.nD → PrngReg), Pre_MixfReferenceIdeal m →
    θ_run (Cert.MixfReferenceIdeal.defs (F := Ideal)) (onTc (τ := Cert.MixfReferenceIdeal.τ) (Cert.MixfReferenceIdeal.main (F := Ideal))) ⟨m, fun _ => 0, g⟩ (fun r => (∀ c : Dev Cert.MixfReferenceIdeal.nD,
      r.2.mem ((c.tc : Thread Cert.MixfReferenceIdeal.nD Cert.MixfReferenceIdeal.τ).loc Cert.MixfReferenceIdeal.main_arg0) = m ((c.tc : Thread Cert.MixfReferenceIdeal.nD Cert.MixfReferenceIdeal.τ).loc Cert.MixfReferenceIdeal.main_arg0)
      ∧ r.2.mem ((c.tc : Thread Cert.MixfReferenceIdeal.nD Cert.MixfReferenceIdeal.τ).loc Cert.MixfReferenceIdeal.main_arg1) = m ((c.tc : Thread Cert.MixfReferenceIdeal.nD Cert.MixfReferenceIdeal.τ).loc Cert.MixfReferenceIdeal.main_arg1)
      ∧ r.2.mem ((c.tc : Thread Cert.MixfReferenceIdeal.nD Cert.MixfReferenceIdeal.τ).loc Cert.MixfReferenceIdeal.main_arg2) = m ((c.tc : Thread Cert.MixfReferenceIdeal.nD Cert.MixfReferenceIdeal.τ).loc Cert.MixfReferenceIdeal.main_arg2)
      ∧ r.2.mem ((c.tc : Thread Cert.MixfReferenceIdeal.nD Cert.MixfReferenceIdeal.τ).loc Cert.MixfReferenceIdeal.main_arg3) = m ((c.tc : Thread Cert.MixfReferenceIdeal.nD Cert.MixfReferenceIdeal.τ).loc Cert.MixfReferenceIdeal.main_arg3)
      ∧ r.2.mem ((c.tc : Thread Cert.MixfReferenceIdeal.nD Cert.MixfReferenceIdeal.τ).loc Cert.MixfReferenceIdeal.main_arg4) = m ((c.tc : Thread Cert.MixfReferenceIdeal.nD Cert.MixfReferenceIdeal.τ).loc Cert.MixfReferenceIdeal.main_arg4)
      ∧ r.2.mem ((c.tc : Thread Cert.MixfReferenceIdeal.nD Cert.MixfReferenceIdeal.τ).loc Cert.MixfReferenceIdeal.main_arg5) = m ((c.tc : Thread Cert.MixfReferenceIdeal.nD Cert.MixfReferenceIdeal.τ).loc Cert.MixfReferenceIdeal.main_arg5))
      ∧ r.2.sem = fun _ => 0)

def quiescent_NormMmKernel [hNormMmKernel : Cert.NormMmKernel.Facts] : Prop :=
  ∀ (m : (ℓ : Loc Cert.NormMmKernel.nD Cert.NormMmKernel.τ Cert.NormMmKernel.sig) → Buf (Elt Bits) ℓ) (g : Dev Cert.NormMmKernel.nD → PrngReg), Pre_NormMmKernel m →
    θ_run (Cert.NormMmKernel.defs (F := Bits)) (onTc (τ := Cert.NormMmKernel.τ) (Cert.NormMmKernel.main (F := Bits))) ⟨m, fun _ => 0, g⟩ (fun r => (∀ c : Dev Cert.NormMmKernel.nD,
      r.2.mem ((c.tc : Thread Cert.NormMmKernel.nD Cert.NormMmKernel.τ).loc Cert.NormMmKernel.main_arg0) = m ((c.tc : Thread Cert.NormMmKernel.nD Cert.NormMmKernel.τ).loc Cert.NormMmKernel.main_arg0)
      ∧ r.2.mem ((c.tc : Thread Cert.NormMmKernel.nD Cert.NormMmKernel.τ).loc Cert.NormMmKernel.main_arg1) = m ((c.tc : Thread Cert.NormMmKernel.nD Cert.NormMmKernel.τ).loc Cert.NormMmKernel.main_arg1)
      ∧ r.2.mem ((c.tc : Thread Cert.NormMmKernel.nD Cert.NormMmKernel.τ).loc Cert.NormMmKernel.main_arg2) = m ((c.tc : Thread Cert.NormMmKernel.nD Cert.NormMmKernel.τ).loc Cert.NormMmKernel.main_arg2))
      ∧ r.2.sem = fun _ => 0)

def quiescent_NormMmKernelIdeal [hNormMmKernelIdeal : Cert.NormMmKernelIdeal.Facts] : Prop :=
  ∀ (m : (ℓ : Loc Cert.NormMmKernelIdeal.nD Cert.NormMmKernelIdeal.τ Cert.NormMmKernelIdeal.sig) → Buf (Elt Ideal) ℓ) (g : Dev Cert.NormMmKernelIdeal.nD → PrngReg), Pre_NormMmKernelIdeal m →
    θ_run (Cert.NormMmKernelIdeal.defs (F := Ideal)) (onTc (τ := Cert.NormMmKernelIdeal.τ) (Cert.NormMmKernelIdeal.main (F := Ideal))) ⟨m, fun _ => 0, g⟩ (fun r => (∀ c : Dev Cert.NormMmKernelIdeal.nD,
      r.2.mem ((c.tc : Thread Cert.NormMmKernelIdeal.nD Cert.NormMmKernelIdeal.τ).loc Cert.NormMmKernelIdeal.main_arg0) = m ((c.tc : Thread Cert.NormMmKernelIdeal.nD Cert.NormMmKernelIdeal.τ).loc Cert.NormMmKernelIdeal.main_arg0)
      ∧ r.2.mem ((c.tc : Thread Cert.NormMmKernelIdeal.nD Cert.NormMmKernelIdeal.τ).loc Cert.NormMmKernelIdeal.main_arg1) = m ((c.tc : Thread Cert.NormMmKernelIdeal.nD Cert.NormMmKernelIdeal.τ).loc Cert.NormMmKernelIdeal.main_arg1)
      ∧ r.2.mem ((c.tc : Thread Cert.NormMmKernelIdeal.nD Cert.NormMmKernelIdeal.τ).loc Cert.NormMmKernelIdeal.main_arg2) = m ((c.tc : Thread Cert.NormMmKernelIdeal.nD Cert.NormMmKernelIdeal.τ).loc Cert.NormMmKernelIdeal.main_arg2))
      ∧ r.2.sem = fun _ => 0)

def quiescent_NormMmReferenceIdeal [hNormMmReferenceIdeal : Cert.NormMmReferenceIdeal.Facts] : Prop :=
  ∀ (m : (ℓ : Loc Cert.NormMmReferenceIdeal.nD Cert.NormMmReferenceIdeal.τ Cert.NormMmReferenceIdeal.sig) → Buf (Elt Ideal) ℓ) (g : Dev Cert.NormMmReferenceIdeal.nD → PrngReg), Pre_NormMmReferenceIdeal m →
    θ_run (Cert.NormMmReferenceIdeal.defs (F := Ideal)) (onTc (τ := Cert.NormMmReferenceIdeal.τ) (Cert.NormMmReferenceIdeal.main (F := Ideal))) ⟨m, fun _ => 0, g⟩ (fun r => (∀ c : Dev Cert.NormMmReferenceIdeal.nD,
      r.2.mem ((c.tc : Thread Cert.NormMmReferenceIdeal.nD Cert.NormMmReferenceIdeal.τ).loc Cert.NormMmReferenceIdeal.main_arg0) = m ((c.tc : Thread Cert.NormMmReferenceIdeal.nD Cert.NormMmReferenceIdeal.τ).loc Cert.NormMmReferenceIdeal.main_arg0)
      ∧ r.2.mem ((c.tc : Thread Cert.NormMmReferenceIdeal.nD Cert.NormMmReferenceIdeal.τ).loc Cert.NormMmReferenceIdeal.main_arg1) = m ((c.tc : Thread Cert.NormMmReferenceIdeal.nD Cert.NormMmReferenceIdeal.τ).loc Cert.NormMmReferenceIdeal.main_arg1)
      ∧ r.2.mem ((c.tc : Thread Cert.NormMmReferenceIdeal.nD Cert.NormMmReferenceIdeal.τ).loc Cert.NormMmReferenceIdeal.main_arg2) = m ((c.tc : Thread Cert.NormMmReferenceIdeal.nD Cert.NormMmReferenceIdeal.τ).loc Cert.NormMmReferenceIdeal.main_arg2))
      ∧ r.2.sem = fun _ => 0)

def quiescent_ConvfKernel [hConvfKernel : Cert.ConvfKernel.Facts] : Prop :=
  ∀ (m : (ℓ : Loc Cert.ConvfKernel.nD Cert.ConvfKernel.τ Cert.ConvfKernel.sig) → Buf (Elt Bits) ℓ) (g : Dev Cert.ConvfKernel.nD → PrngReg), Pre_ConvfKernel m →
    θ_run (Cert.ConvfKernel.defs (F := Bits)) (onTc (τ := Cert.ConvfKernel.τ) (Cert.ConvfKernel.main (F := Bits))) ⟨m, fun _ => 0, g⟩ (fun r => (∀ c : Dev Cert.ConvfKernel.nD,
      r.2.mem ((c.tc : Thread Cert.ConvfKernel.nD Cert.ConvfKernel.τ).loc Cert.ConvfKernel.main_arg0) = m ((c.tc : Thread Cert.ConvfKernel.nD Cert.ConvfKernel.τ).loc Cert.ConvfKernel.main_arg0)
      ∧ r.2.mem ((c.tc : Thread Cert.ConvfKernel.nD Cert.ConvfKernel.τ).loc Cert.ConvfKernel.main_arg1) = m ((c.tc : Thread Cert.ConvfKernel.nD Cert.ConvfKernel.τ).loc Cert.ConvfKernel.main_arg1)
      ∧ r.2.mem ((c.tc : Thread Cert.ConvfKernel.nD Cert.ConvfKernel.τ).loc Cert.ConvfKernel.main_arg2) = m ((c.tc : Thread Cert.ConvfKernel.nD Cert.ConvfKernel.τ).loc Cert.ConvfKernel.main_arg2))
      ∧ r.2.sem = fun _ => 0)

def quiescent_ConvfKernelIdeal [hConvfKernelIdeal : Cert.ConvfKernelIdeal.Facts] : Prop :=
  ∀ (m : (ℓ : Loc Cert.ConvfKernelIdeal.nD Cert.ConvfKernelIdeal.τ Cert.ConvfKernelIdeal.sig) → Buf (Elt Ideal) ℓ) (g : Dev Cert.ConvfKernelIdeal.nD → PrngReg), Pre_ConvfKernelIdeal m →
    θ_run (Cert.ConvfKernelIdeal.defs (F := Ideal)) (onTc (τ := Cert.ConvfKernelIdeal.τ) (Cert.ConvfKernelIdeal.main (F := Ideal))) ⟨m, fun _ => 0, g⟩ (fun r => (∀ c : Dev Cert.ConvfKernelIdeal.nD,
      r.2.mem ((c.tc : Thread Cert.ConvfKernelIdeal.nD Cert.ConvfKernelIdeal.τ).loc Cert.ConvfKernelIdeal.main_arg0) = m ((c.tc : Thread Cert.ConvfKernelIdeal.nD Cert.ConvfKernelIdeal.τ).loc Cert.ConvfKernelIdeal.main_arg0)
      ∧ r.2.mem ((c.tc : Thread Cert.ConvfKernelIdeal.nD Cert.ConvfKernelIdeal.τ).loc Cert.ConvfKernelIdeal.main_arg1) = m ((c.tc : Thread Cert.ConvfKernelIdeal.nD Cert.ConvfKernelIdeal.τ).loc Cert.ConvfKernelIdeal.main_arg1)
      ∧ r.2.mem ((c.tc : Thread Cert.ConvfKernelIdeal.nD Cert.ConvfKernelIdeal.τ).loc Cert.ConvfKernelIdeal.main_arg2) = m ((c.tc : Thread Cert.ConvfKernelIdeal.nD Cert.ConvfKernelIdeal.τ).loc Cert.ConvfKernelIdeal.main_arg2))
      ∧ r.2.sem = fun _ => 0)

def quiescent_ConvfReferenceIdeal [hConvfReferenceIdeal : Cert.ConvfReferenceIdeal.Facts] : Prop :=
  ∀ (m : (ℓ : Loc Cert.ConvfReferenceIdeal.nD Cert.ConvfReferenceIdeal.τ Cert.ConvfReferenceIdeal.sig) → Buf (Elt Ideal) ℓ) (g : Dev Cert.ConvfReferenceIdeal.nD → PrngReg), Pre_ConvfReferenceIdeal m →
    θ_run (Cert.ConvfReferenceIdeal.defs (F := Ideal)) (onTc (τ := Cert.ConvfReferenceIdeal.τ) (Cert.ConvfReferenceIdeal.main (F := Ideal))) ⟨m, fun _ => 0, g⟩ (fun r => (∀ c : Dev Cert.ConvfReferenceIdeal.nD,
      r.2.mem ((c.tc : Thread Cert.ConvfReferenceIdeal.nD Cert.ConvfReferenceIdeal.τ).loc Cert.ConvfReferenceIdeal.main_arg0) = m ((c.tc : Thread Cert.ConvfReferenceIdeal.nD Cert.ConvfReferenceIdeal.τ).loc Cert.ConvfReferenceIdeal.main_arg0)
      ∧ r.2.mem ((c.tc : Thread Cert.ConvfReferenceIdeal.nD Cert.ConvfReferenceIdeal.τ).loc Cert.ConvfReferenceIdeal.main_arg1) = m ((c.tc : Thread Cert.ConvfReferenceIdeal.nD Cert.ConvfReferenceIdeal.τ).loc Cert.ConvfReferenceIdeal.main_arg1)
      ∧ r.2.mem ((c.tc : Thread Cert.ConvfReferenceIdeal.nD Cert.ConvfReferenceIdeal.τ).loc Cert.ConvfReferenceIdeal.main_arg2) = m ((c.tc : Thread Cert.ConvfReferenceIdeal.nD Cert.ConvfReferenceIdeal.τ).loc Cert.ConvfReferenceIdeal.main_arg2))
      ∧ r.2.sem = fun _ => 0)

def quiescent_BucketKernel [hBucketKernel : Cert.BucketKernel.Facts] : Prop :=
  ∀ (m : (ℓ : Loc Cert.BucketKernel.nD Cert.BucketKernel.τ Cert.BucketKernel.sig) → Buf (Elt Bits) ℓ) (g : Dev Cert.BucketKernel.nD → PrngReg), Pre_BucketKernel m →
    θ_run (Cert.BucketKernel.defs (F := Bits)) (onTc (τ := Cert.BucketKernel.τ) (Cert.BucketKernel.main (F := Bits))) ⟨m, fun _ => 0, g⟩ (fun r => (∀ c : Dev Cert.BucketKernel.nD,
      r.2.mem ((c.tc : Thread Cert.BucketKernel.nD Cert.BucketKernel.τ).loc Cert.BucketKernel.main_arg0) = m ((c.tc : Thread Cert.BucketKernel.nD Cert.BucketKernel.τ).loc Cert.BucketKernel.main_arg0))
      ∧ r.2.sem = fun _ => 0)

def quiescent_BucketKernelIdeal [hBucketKernelIdeal : Cert.BucketKernelIdeal.Facts] : Prop :=
  ∀ (m : (ℓ : Loc Cert.BucketKernelIdeal.nD Cert.BucketKernelIdeal.τ Cert.BucketKernelIdeal.sig) → Buf (Elt Ideal) ℓ) (g : Dev Cert.BucketKernelIdeal.nD → PrngReg), Pre_BucketKernelIdeal m →
    θ_run (Cert.BucketKernelIdeal.defs (F := Ideal)) (onTc (τ := Cert.BucketKernelIdeal.τ) (Cert.BucketKernelIdeal.main (F := Ideal))) ⟨m, fun _ => 0, g⟩ (fun r => (∀ c : Dev Cert.BucketKernelIdeal.nD,
      r.2.mem ((c.tc : Thread Cert.BucketKernelIdeal.nD Cert.BucketKernelIdeal.τ).loc Cert.BucketKernelIdeal.main_arg0) = m ((c.tc : Thread Cert.BucketKernelIdeal.nD Cert.BucketKernelIdeal.τ).loc Cert.BucketKernelIdeal.main_arg0))
      ∧ r.2.sem = fun _ => 0)

def quiescent_BucketKernelIdeal_pre_finite_bucket [hBucketKernelIdeal : Cert.BucketKernelIdeal.Facts] [hPre_finite_bucket : Cert.Pre_finite_bucket.Facts] : Prop :=
  ∀ (m : (ℓ : Loc Cert.BucketKernelIdeal.nD Cert.BucketKernelIdeal.τ Cert.BucketKernelIdeal.sig) → Buf (Elt Ideal) ℓ) (g : Dev Cert.BucketKernelIdeal.nD → PrngReg), Pre_BucketKernelIdeal_finite_bucket m →
    θ_run (Cert.BucketKernelIdeal.defs (F := Ideal)) (onTc (τ := Cert.BucketKernelIdeal.τ) (Cert.BucketKernelIdeal.main (F := Ideal))) ⟨m, fun _ => 0, g⟩ (fun r => (∀ c : Dev Cert.BucketKernelIdeal.nD,
      r.2.mem ((c.tc : Thread Cert.BucketKernelIdeal.nD Cert.BucketKernelIdeal.τ).loc Cert.BucketKernelIdeal.main_arg0) = m ((c.tc : Thread Cert.BucketKernelIdeal.nD Cert.BucketKernelIdeal.τ).loc Cert.BucketKernelIdeal.main_arg0))
      ∧ r.2.sem = fun _ => 0)

def quiescent_BucketReferenceIdeal [hBucketReferenceIdeal : Cert.BucketReferenceIdeal.Facts] : Prop :=
  ∀ (m : (ℓ : Loc Cert.BucketReferenceIdeal.nD Cert.BucketReferenceIdeal.τ Cert.BucketReferenceIdeal.sig) → Buf (Elt Ideal) ℓ) (g : Dev Cert.BucketReferenceIdeal.nD → PrngReg), Pre_BucketReferenceIdeal m →
    θ_run (Cert.BucketReferenceIdeal.defs (F := Ideal)) (onTc (τ := Cert.BucketReferenceIdeal.τ) (Cert.BucketReferenceIdeal.main (F := Ideal))) ⟨m, fun _ => 0, g⟩ (fun r => (∀ c : Dev Cert.BucketReferenceIdeal.nD,
      r.2.mem ((c.tc : Thread Cert.BucketReferenceIdeal.nD Cert.BucketReferenceIdeal.τ).loc Cert.BucketReferenceIdeal.main_arg0) = m ((c.tc : Thread Cert.BucketReferenceIdeal.nD Cert.BucketReferenceIdeal.τ).loc Cert.BucketReferenceIdeal.main_arg0))
      ∧ r.2.sem = fun _ => 0)

def quiescent_BucketReferenceIdeal_pre_finite_bucket [hBucketReferenceIdeal : Cert.BucketReferenceIdeal.Facts] [hPre_finite_bucket : Cert.Pre_finite_bucket.Facts] : Prop :=
  ∀ (m : (ℓ : Loc Cert.BucketReferenceIdeal.nD Cert.BucketReferenceIdeal.τ Cert.BucketReferenceIdeal.sig) → Buf (Elt Ideal) ℓ) (g : Dev Cert.BucketReferenceIdeal.nD → PrngReg), Pre_BucketReferenceIdeal_finite_bucket m →
    θ_run (Cert.BucketReferenceIdeal.defs (F := Ideal)) (onTc (τ := Cert.BucketReferenceIdeal.τ) (Cert.BucketReferenceIdeal.main (F := Ideal))) ⟨m, fun _ => 0, g⟩ (fun r => (∀ c : Dev Cert.BucketReferenceIdeal.nD,
      r.2.mem ((c.tc : Thread Cert.BucketReferenceIdeal.nD Cert.BucketReferenceIdeal.τ).loc Cert.BucketReferenceIdeal.main_arg0) = m ((c.tc : Thread Cert.BucketReferenceIdeal.nD Cert.BucketReferenceIdeal.τ).loc Cert.BucketReferenceIdeal.main_arg0))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_GDownKernel [hGDownKernel : Cert.GDownKernel.Facts] : Prop :=
  ∀ (m : (ℓ : Loc Cert.GDownKernel.nD Cert.GDownKernel.τ Cert.GDownKernel.sig) → Buf (Elt Bits) ℓ) (g : Dev Cert.GDownKernel.nD → PrngReg), Pre_GDownKernel m →
    θ_run (Cert.GDownKernel.defs (F := Bits)) (onTc (τ := Cert.GDownKernel.τ) (Cert.GDownKernel.main (F := Bits))) ⟨m, fun _ => 0, g⟩ (fun r => (∀ c : Dev Cert.GDownKernel.nD,
      r.2.mem ((c.tc : Thread Cert.GDownKernel.nD Cert.GDownKernel.τ).loc Cert.GDownKernel.main_arg0) = m ((c.tc : Thread Cert.GDownKernel.nD Cert.GDownKernel.τ).loc Cert.GDownKernel.main_arg0)
      ∧ r.2.mem ((c.tc : Thread Cert.GDownKernel.nD Cert.GDownKernel.τ).loc Cert.GDownKernel.main_arg1) = m ((c.tc : Thread Cert.GDownKernel.nD Cert.GDownKernel.τ).loc Cert.GDownKernel.main_arg1))
      ∧ r.2.sem = fun _ => 0)

def quiescent_GDownKernelIdeal [hGDownKernelIdeal : Cert.GDownKernelIdeal.Facts] : Prop :=
  ∀ (m : (ℓ : Loc Cert.GDownKernelIdeal.nD Cert.GDownKernelIdeal.τ Cert.GDownKernelIdeal.sig) → Buf (Elt Ideal) ℓ) (g : Dev Cert.GDownKernelIdeal.nD → PrngReg), Pre_GDownKernelIdeal m →
    θ_run (Cert.GDownKernelIdeal.defs (F := Ideal)) (onTc (τ := Cert.GDownKernelIdeal.τ) (Cert.GDownKernelIdeal.main (F := Ideal))) ⟨m, fun _ => 0, g⟩ (fun r => (∀ c : Dev Cert.GDownKernelIdeal.nD,
      r.2.mem ((c.tc : Thread Cert.GDownKernelIdeal.nD Cert.GDownKernelIdeal.τ).loc Cert.GDownKernelIdeal.main_arg0) = m ((c.tc : Thread Cert.GDownKernelIdeal.nD Cert.GDownKernelIdeal.τ).loc Cert.GDownKernelIdeal.main_arg0)
      ∧ r.2.mem ((c.tc : Thread Cert.GDownKernelIdeal.nD Cert.GDownKernelIdeal.τ).loc Cert.GDownKernelIdeal.main_arg1) = m ((c.tc : Thread Cert.GDownKernelIdeal.nD Cert.GDownKernelIdeal.τ).loc Cert.GDownKernelIdeal.main_arg1))
      ∧ r.2.sem = fun _ => 0)

def quiescent_GDownReferenceIdeal [hGDownReferenceIdeal : Cert.GDownReferenceIdeal.Facts] : Prop :=
  ∀ (m : (ℓ : Loc Cert.GDownReferenceIdeal.nD Cert.GDownReferenceIdeal.τ Cert.GDownReferenceIdeal.sig) → Buf (Elt Ideal) ℓ) (g : Dev Cert.GDownReferenceIdeal.nD → PrngReg), Pre_GDownReferenceIdeal m →
    θ_run (Cert.GDownReferenceIdeal.defs (F := Ideal)) (onTc (τ := Cert.GDownReferenceIdeal.τ) (Cert.GDownReferenceIdeal.main (F := Ideal))) ⟨m, fun _ => 0, g⟩ (fun r => (∀ c : Dev Cert.GDownReferenceIdeal.nD,
      r.2.mem ((c.tc : Thread Cert.GDownReferenceIdeal.nD Cert.GDownReferenceIdeal.τ).loc Cert.GDownReferenceIdeal.main_arg0) = m ((c.tc : Thread Cert.GDownReferenceIdeal.nD Cert.GDownReferenceIdeal.τ).loc Cert.GDownReferenceIdeal.main_arg0)
      ∧ r.2.mem ((c.tc : Thread Cert.GDownReferenceIdeal.nD Cert.GDownReferenceIdeal.τ).loc Cert.GDownReferenceIdeal.main_arg1) = m ((c.tc : Thread Cert.GDownReferenceIdeal.nD Cert.GDownReferenceIdeal.τ).loc Cert.GDownReferenceIdeal.main_arg1))
      ∧ r.2.sem = fun _ => 0)

def quiescent_AdamwKernel [hAdamwKernel : Cert.AdamwKernel.Facts] : Prop :=
  ∀ (m : (ℓ : Loc Cert.AdamwKernel.nD Cert.AdamwKernel.τ Cert.AdamwKernel.sig) → Buf (Elt Bits) ℓ) (g : Dev Cert.AdamwKernel.nD → PrngReg), Pre_AdamwKernel m →
    θ_run (Cert.AdamwKernel.defs (F := Bits)) (onTc (τ := Cert.AdamwKernel.τ) (Cert.AdamwKernel.main (F := Bits))) ⟨m, fun _ => 0, g⟩ (fun r => (∀ c : Dev Cert.AdamwKernel.nD,
      r.2.mem ((c.tc : Thread Cert.AdamwKernel.nD Cert.AdamwKernel.τ).loc Cert.AdamwKernel.main_arg0) = m ((c.tc : Thread Cert.AdamwKernel.nD Cert.AdamwKernel.τ).loc Cert.AdamwKernel.main_arg0)
      ∧ r.2.mem ((c.tc : Thread Cert.AdamwKernel.nD Cert.AdamwKernel.τ).loc Cert.AdamwKernel.main_arg1) = m ((c.tc : Thread Cert.AdamwKernel.nD Cert.AdamwKernel.τ).loc Cert.AdamwKernel.main_arg1)
      ∧ r.2.mem ((c.tc : Thread Cert.AdamwKernel.nD Cert.AdamwKernel.τ).loc Cert.AdamwKernel.main_arg2) = m ((c.tc : Thread Cert.AdamwKernel.nD Cert.AdamwKernel.τ).loc Cert.AdamwKernel.main_arg2)
      ∧ r.2.mem ((c.tc : Thread Cert.AdamwKernel.nD Cert.AdamwKernel.τ).loc Cert.AdamwKernel.main_arg3) = m ((c.tc : Thread Cert.AdamwKernel.nD Cert.AdamwKernel.τ).loc Cert.AdamwKernel.main_arg3))
      ∧ r.2.sem = fun _ => 0)

def quiescent_AdamwKernelIdeal [hAdamwKernelIdeal : Cert.AdamwKernelIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg), Pre_AdamwKernelIdeal m →
    θ_run (Cert.AdamwKernelIdeal.defs (F := Ideal)) (onTc (τ := Cert.AdamwKernelIdeal.τ) (Cert.AdamwKernelIdeal.main (F := Ideal))) ⟨m, fun _ => 0, g⟩ (fun r => (∀ c : Dev Cert.AdamwKernelIdeal.nD,
      r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
      ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
      ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
      ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3))
      ∧ r.2.sem = fun _ => 0)

def preserves_DactKernel_DactKernelIdeal : Prop :=
  True

def algebraic_DactKernelIdeal_DactReferenceIdeal [hDactKernelIdeal : Cert.DactKernelIdeal.Facts] [hDactReferenceIdeal : Cert.DactReferenceIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactKernelIdeal m →
    (∀ c : Dev Cert.DactKernelIdeal.nD,
      m' ((c.tc : Thread Cert.DactReferenceIdeal.nD Cert.DactReferenceIdeal.τ).loc Cert.DactReferenceIdeal.main_arg0) = m ((c.tc : Thread Cert.DactKernelIdeal.nD Cert.DactKernelIdeal.τ).loc Cert.DactKernelIdeal.main_arg0)
      ∧ m' ((c.tc : Thread Cert.DactReferenceIdeal.nD Cert.DactReferenceIdeal.τ).loc Cert.DactReferenceIdeal.main_arg1) = m ((c.tc : Thread Cert.DactKernelIdeal.nD Cert.DactKernelIdeal.τ).loc Cert.DactKernelIdeal.main_arg1)
      ∧ m' ((c.tc : Thread Cert.DactReferenceIdeal.nD Cert.DactReferenceIdeal.τ).loc Cert.DactReferenceIdeal.main_arg2) = m ((c.tc : Thread Cert.DactKernelIdeal.nD Cert.DactKernelIdeal.τ).loc Cert.DactKernelIdeal.main_arg2)) →
    ∃ (v0 : (c : Dev Cert.DactKernelIdeal.nD) → Buf (Elt Ideal) ((c.tc : Thread Cert.DactKernelIdeal.nD Cert.DactKernelIdeal.τ).loc Cert.DactKernelIdeal.main_v4)),
      θ_run (Cert.DactKernelIdeal.defs (F := Ideal)) (onTc (τ := Cert.DactKernelIdeal.τ) (Cert.DactKernelIdeal.main (F := Ideal))) ⟨m, fun _ => 0, g⟩ (fun r => ∀ c : Dev Cert.DactKernelIdeal.nD,
          r.2.mem ((c.tc : Thread Cert.DactKernelIdeal.nD Cert.DactKernelIdeal.τ).loc Cert.DactKernelIdeal.main_v4) = v0 c
          ∧ r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
          ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
          ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v12) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2))

def preserves_MlpInKernel_MlpInKernelIdeal : Prop :=
  True

def algebraic_MlpInKernelIdeal_MlpInReferenceIdeal_pre_finite_mlpin [hMlpInKernelIdeal : Cert.MlpInKernelIdeal.Facts] [hMlpInReferenceIdeal : Cert.MlpInReferenceIdeal.Facts] [hPre_finite_mlpin : Cert.Pre_finite_mlpin.Facts] : Prop :=
  ∀ (m : (ℓ : Loc Cert.MlpInKernelIdeal.nD Cert.MlpInKernelIdeal.τ Cert.MlpInKernelIdeal.sig) → Buf (Elt Ideal) ℓ) (g : Dev Cert.MlpInKernelIdeal.nD → PrngReg)
    (m' : (ℓ : Loc Cert.MlpInReferenceIdeal.nD Cert.MlpInReferenceIdeal.τ Cert.MlpInReferenceIdeal.sig) → Buf (Elt Ideal) ℓ) (g' : Dev Cert.MlpInReferenceIdeal.nD → PrngReg), Pre_MlpInKernelIdeal_finite_mlpin m →
    (∀ c : Dev Cert.MlpInKernelIdeal.nD,
      m' ((c.tc : Thread Cert.MlpInReferenceIdeal.nD Cert.MlpInReferenceIdeal.τ).loc Cert.MlpInReferenceIdeal.main_arg0) = m ((c.tc : Thread Cert.MlpInKernelIdeal.nD Cert.MlpInKernelIdeal.τ).loc Cert.MlpInKernelIdeal.main_arg0)
      ∧ m' ((c.tc : Thread Cert.MlpInReferenceIdeal.nD Cert.MlpInReferenceIdeal.τ).loc Cert.MlpInReferenceIdeal.main_arg1) = m ((c.tc : Thread Cert.MlpInKernelIdeal.nD Cert.MlpInKernelIdeal.τ).loc Cert.MlpInKernelIdeal.main_arg1)
      ∧ m' ((c.tc : Thread Cert.MlpInReferenceIdeal.nD Cert.MlpInReferenceIdeal.τ).loc Cert.MlpInReferenceIdeal.main_arg2) = m ((c.tc : Thread Cert.MlpInKernelIdeal.nD Cert.MlpInKernelIdeal.τ).loc Cert.MlpInKernelIdeal.main_arg2)
      ∧ m' ((c.tc : Thread Cert.MlpInReferenceIdeal.nD Cert.MlpInReferenceIdeal.τ).loc Cert.MlpInReferenceIdeal.main_arg3) = m ((c.tc : Thread Cert.MlpInKernelIdeal.nD Cert.MlpInKernelIdeal.τ).loc Cert.MlpInKernelIdeal.main_arg3)
      ∧ m' ((c.tc : Thread Cert.MlpInReferenceIdeal.nD Cert.MlpInReferenceIdeal.τ).loc Cert.MlpInReferenceIdeal.main_arg4) = m ((c.tc : Thread Cert.MlpInKernelIdeal.nD Cert.MlpInKernelIdeal.τ).loc Cert.MlpInKernelIdeal.main_arg4)) →
    ∃ (v0 : (c : Dev Cert.MlpInKernelIdeal.nD) → Buf (Elt Ideal) ((c.tc : Thread Cert.MlpInKernelIdeal.nD Cert.MlpInKernelIdeal.τ).loc Cert.MlpInKernelIdeal.main_v5_0)) (v1 : (c : Dev Cert.MlpInKernelIdeal.nD) → Buf (Elt Ideal) ((c.tc : Thread Cert.MlpInKernelIdeal.nD Cert.MlpInKernelIdeal.τ).loc Cert.MlpInKernelIdeal.main_v5_1)) (v2 : (c : Dev Cert.MlpInKernelIdeal.nD) → Buf (Elt Ideal) ((c.tc : Thread Cert.MlpInKernelIdeal.nD Cert.MlpInKernelIdeal.τ).loc Cert.MlpInKernelIdeal.main_v5_2)),
      θ_run (Cert.MlpInKernelIdeal.defs (F := Ideal)) (onTc (τ := Cert.MlpInKernelIdeal.τ) (Cert.MlpInKernelIdeal.main (F := Ideal))) ⟨m, fun _ => 0, g⟩ (fun r => ∀ c : Dev Cert.MlpInKernelIdeal.nD,
          r.2.mem ((c.tc : Thread Cert.MlpInKernelIdeal.nD Cert.MlpInKernelIdeal.τ).loc Cert.MlpInKernelIdeal.main_v5_0) = v0 c
          ∧ r.2.mem ((c.tc : Thread Cert.MlpInKernelIdeal.nD Cert.MlpInKernelIdeal.τ).loc Cert.MlpInKernelIdeal.main_v5_1) = v1 c
          ∧ r.2.mem ((c.tc : Thread Cert.MlpInKernelIdeal.nD Cert.MlpInKernelIdeal.τ).loc Cert.MlpInKernelIdeal.main_v5_2) = v2 c
          ∧ r.2.mem ((c.tc : Thread Cert.MlpInKernelIdeal.nD Cert.MlpInKernelIdeal.τ).loc Cert.MlpInKernelIdeal.main_arg0) = m ((c.tc : Thread Cert.MlpInKernelIdeal.nD Cert.MlpInKernelIdeal.τ).loc Cert.MlpInKernelIdeal.main_arg0)
          ∧ r.2.mem ((c.tc : Thread Cert.MlpInKernelIdeal.nD Cert.MlpInKernelIdeal.τ).loc Cert.MlpInKernelIdeal.main_arg1) = m ((c.tc : Thread Cert.MlpInKernelIdeal.nD Cert.MlpInKernelIdeal.τ).loc Cert.MlpInKernelIdeal.main_arg1)
          ∧ r.2.mem ((c.tc : Thread Cert.MlpInKernelIdeal.nD Cert.MlpInKernelIdeal.τ).loc Cert.MlpInKernelIdeal.main_arg2) = m ((c.tc : Thread Cert.MlpInKernelIdeal.nD Cert.MlpInKernelIdeal.τ).loc Cert.MlpInKernelIdeal.main_arg2)
          ∧ r.2.mem ((c.tc : Thread Cert.MlpInKernelIdeal.nD Cert.MlpInKernelIdeal.τ).loc Cert.MlpInKernelIdeal.main_arg3) = m ((c.tc : Thread Cert.MlpInKernelIdeal.nD Cert.MlpInKernelIdeal.τ).loc Cert.MlpInKernelIdeal.main_arg3)
          ∧ r.2.mem ((c.tc : Thread Cert.MlpInKernelIdeal.nD Cert.MlpInKernelIdeal.τ).loc Cert.MlpInKernelIdeal.main_arg4) = m ((c.tc : Thread Cert.MlpInKernelIdeal.nD Cert.MlpInKernelIdeal.τ).loc Cert.MlpInKernelIdeal.main_arg4))
      ∧ θ_run (Cert.MlpInReferenceIdeal.defs (F := Ideal)) (onTc (τ := Cert.MlpInReferenceIdeal.τ) (Cert.MlpInReferenceIdeal.main (F := Ideal))) ⟨m', fun _ => 0, g'⟩ (fun r => ∀ c : Dev Cert.MlpInReferenceIdeal.nD,
          r.2.mem ((c.tc : Thread Cert.MlpInReferenceIdeal.nD Cert.MlpInReferenceIdeal.τ).loc Cert.MlpInReferenceIdeal.main_v38) = v0 c
          ∧ r.2.mem ((c.tc : Thread Cert.MlpInReferenceIdeal.nD Cert.MlpInReferenceIdeal.τ).loc Cert.MlpInReferenceIdeal.main_v39) = v1 c
          ∧ r.2.mem ((c.tc : Thread Cert.MlpInReferenceIdeal.nD Cert.MlpInReferenceIdeal.τ).loc Cert.MlpInReferenceIdeal.main_v40) = v2 c
          ∧ r.2.mem ((c.tc : Thread Cert.MlpInReferenceIdeal.nD Cert.MlpInReferenceIdeal.τ).loc Cert.MlpInReferenceIdeal.main_arg0) = m' ((c.tc : Thread Cert.MlpInReferenceIdeal.nD Cert.MlpInReferenceIdeal.τ).loc Cert.MlpInReferenceIdeal.main_arg0)
          ∧ r.2.mem ((c.tc : Thread Cert.MlpInReferenceIdeal.nD Cert.MlpInReferenceIdeal.τ).loc Cert.MlpInReferenceIdeal.main_arg1) = m' ((c.tc : Thread Cert.MlpInReferenceIdeal.nD Cert.MlpInReferenceIdeal.τ).loc Cert.MlpInReferenceIdeal.main_arg1)
          ∧ r.2.mem ((c.tc : Thread Cert.MlpInReferenceIdeal.nD Cert.MlpInReferenceIdeal.τ).loc Cert.MlpInReferenceIdeal.main_arg2) = m' ((c.tc : Thread Cert.MlpInReferenceIdeal.nD Cert.MlpInReferenceIdeal.τ).loc Cert.MlpInReferenceIdeal.main_arg2)
          ∧ r.2.mem ((c.tc : Thread Cert.MlpInReferenceIdeal.nD Cert.MlpInReferenceIdeal.τ).loc Cert.MlpInReferenceIdeal.main_arg3) = m' ((c.tc : Thread Cert.MlpInReferenceIdeal.nD Cert.MlpInReferenceIdeal.τ).loc Cert.MlpInReferenceIdeal.main_arg3)
          ∧ r.2.mem ((c.tc : Thread Cert.MlpInReferenceIdeal.nD Cert.MlpInReferenceIdeal.τ).loc Cert.MlpInReferenceIdeal.main_arg4) = m' ((c.tc : Thread Cert.MlpInReferenceIdeal.nD Cert.MlpInReferenceIdeal.τ).loc Cert.MlpInReferenceIdeal.main_arg4))

def preserves_MixInKernel_MixInKernelIdeal : Prop :=
  True

def algebraic_MixInKernelIdeal_MixInReferenceIdeal_pre_finite_mixin [hMixInKernelIdeal : Cert.MixInKernelIdeal.Facts] [hMixInReferenceIdeal : Cert.MixInReferenceIdeal.Facts] [hPre_finite_mixin : Cert.Pre_finite_mixin.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInKernelIdeal_finite_mixin m →
    (∀ c : Dev Cert.MixInKernelIdeal.nD,
      m' ((c.tc : Thread Cert.MixInReferenceIdeal.nD Cert.MixInReferenceIdeal.τ).loc Cert.MixInReferenceIdeal.main_arg0) = m ((c.tc : Thread Cert.MixInKernelIdeal.nD Cert.MixInKernelIdeal.τ).loc Cert.MixInKernelIdeal.main_arg0)
      ∧ m' ((c.tc : Thread Cert.MixInReferenceIdeal.nD Cert.MixInReferenceIdeal.τ).loc Cert.MixInReferenceIdeal.main_arg1) = m ((c.tc : Thread Cert.MixInKernelIdeal.nD Cert.MixInKernelIdeal.τ).loc Cert.MixInKernelIdeal.main_arg1)
      ∧ m' ((c.tc : Thread Cert.MixInReferenceIdeal.nD Cert.MixInReferenceIdeal.τ).loc Cert.MixInReferenceIdeal.main_arg2) = m ((c.tc : Thread Cert.MixInKernelIdeal.nD Cert.MixInKernelIdeal.τ).loc Cert.MixInKernelIdeal.main_arg2)
      ∧ m' ((c.tc : Thread Cert.MixInReferenceIdeal.nD Cert.MixInReferenceIdeal.τ).loc Cert.MixInReferenceIdeal.main_arg3) = m ((c.tc : Thread Cert.MixInKernelIdeal.nD Cert.MixInKernelIdeal.τ).loc Cert.MixInKernelIdeal.main_arg3)
      ∧ m' ((c.tc : Thread Cert.MixInReferenceIdeal.nD Cert.MixInReferenceIdeal.τ).loc Cert.MixInReferenceIdeal.main_arg4) = m ((c.tc : Thread Cert.MixInKernelIdeal.nD Cert.MixInKernelIdeal.τ).loc Cert.MixInKernelIdeal.main_arg4)
      ∧ m' ((c.tc : Thread Cert.MixInReferenceIdeal.nD Cert.MixInReferenceIdeal.τ).loc Cert.MixInReferenceIdeal.main_arg5) = m ((c.tc : Thread Cert.MixInKernelIdeal.nD Cert.MixInKernelIdeal.τ).loc Cert.MixInKernelIdeal.main_arg5)
      ∧ m' ((c.tc : Thread Cert.MixInReferenceIdeal.nD Cert.MixInReferenceIdeal.τ).loc Cert.MixInReferenceIdeal.main_arg6) = m ((c.tc : Thread Cert.MixInKernelIdeal.nD Cert.MixInKernelIdeal.τ).loc Cert.MixInKernelIdeal.main_arg6)
      ∧ m' ((c.tc : Thread Cert.MixInReferenceIdeal.nD Cert.MixInReferenceIdeal.τ).loc Cert.MixInReferenceIdeal.main_arg7) = m ((c.tc : Thread Cert.MixInKernelIdeal.nD Cert.MixInKernelIdeal.τ).loc Cert.MixInKernelIdeal.main_arg7)) →
    ∃ (v0 : (c : Dev Cert.MixInKernelIdeal.nD) → Buf (Elt Ideal) ((c.tc : Thread Cert.MixInKernelIdeal.nD Cert.MixInKernelIdeal.τ).loc Cert.MixInKernelIdeal.main_v7_0)) (v1 : (c : Dev Cert.MixInKernelIdeal.nD) → Buf (Elt Ideal) ((c.tc : Thread Cert.MixInKernelIdeal.nD Cert.MixInKernelIdeal.τ).loc Cert.MixInKernelIdeal.main_v7_1)) (v2 : (c : Dev Cert.MixInKernelIdeal.nD) → Buf (Elt Ideal) ((c.tc : Thread Cert.MixInKernelIdeal.nD Cert.MixInKernelIdeal.τ).loc Cert.MixInKernelIdeal.main_v7_2)),
      θ_run (Cert.MixInKernelIdeal.defs (F := Ideal)) (onTc (τ := Cert.MixInKernelIdeal.τ) (Cert.MixInKernelIdeal.main (F := Ideal))) ⟨m, fun _ => 0, g⟩ (fun r => ∀ c : Dev Cert.MixInKernelIdeal.nD,
          r.2.mem ((c.tc : Thread Cert.MixInKernelIdeal.nD Cert.MixInKernelIdeal.τ).loc Cert.MixInKernelIdeal.main_v7_0) = v0 c
          ∧ r.2.mem ((c.tc : Thread Cert.MixInKernelIdeal.nD Cert.MixInKernelIdeal.τ).loc Cert.MixInKernelIdeal.main_v7_1) = v1 c
          ∧ r.2.mem ((c.tc : Thread Cert.MixInKernelIdeal.nD Cert.MixInKernelIdeal.τ).loc Cert.MixInKernelIdeal.main_v7_2) = v2 c
          ∧ r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
          ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
          ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
          ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
          ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
          ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
          ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
          ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v39) = v0 c
          ∧ r.2.mem ((c.tc : Thread Cert.MixInReferenceIdeal.nD Cert.MixInReferenceIdeal.τ).loc Cert.MixInReferenceIdeal.main_v40) = v1 c
          ∧ r.2.mem ((c.tc : Thread Cert.MixInReferenceIdeal.nD Cert.MixInReferenceIdeal.τ).loc Cert.MixInReferenceIdeal.main_v41) = v2 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4)
          ∧ r.2.mem ((c.tc : Thread Cert.MixInReferenceIdeal.nD Cert.MixInReferenceIdeal.τ).loc Cert.MixInReferenceIdeal.main_arg5) = m' ((c.tc : Thread Cert.MixInReferenceIdeal.nD Cert.MixInReferenceIdeal.τ).loc Cert.MixInReferenceIdeal.main_arg5)
          ∧ r.2.mem ((c.tc : Thread Cert.MixInReferenceIdeal.nD Cert.MixInReferenceIdeal.τ).loc Cert.MixInReferenceIdeal.main_arg6) = m' ((c.tc : Thread Cert.MixInReferenceIdeal.nD Cert.MixInReferenceIdeal.τ).loc Cert.MixInReferenceIdeal.main_arg6)
          ∧ r.2.mem ((c.tc : Thread Cert.MixInReferenceIdeal.nD Cert.MixInReferenceIdeal.τ).loc Cert.MixInReferenceIdeal.main_arg7) = m' ((c.tc : Thread Cert.MixInReferenceIdeal.nD Cert.MixInReferenceIdeal.τ).loc Cert.MixInReferenceIdeal.main_arg7))

def preserves_AttnKernel_AttnKernelIdeal : Prop :=
  IdealRules.named_const.Statement Cert.AttnKernelIdeal.κ "mask" .f32 0xF149F2CA#32 ⊥

def algebraic_AttnKernelIdeal_AttnReferenceIdeal_on_tokens_only_pre_all_finite [hAttnKernelIdeal : Cert.AttnKernelIdeal.Facts] [hAttnReferenceIdeal : Cert.AttnReferenceIdeal.Facts] [hPre_all_finite : Cert.Pre_all_finite.Facts] [hOn_tokens_only : Cert.On_tokens_only.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_all_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)
      ∧ m' ((c.tc : Thread Cert.AttnReferenceIdeal.nD Cert.AttnReferenceIdeal.τ).loc Cert.AttnReferenceIdeal.main_arg5) = m ((c.tc : Thread Cert.AttnKernelIdeal.nD Cert.AttnKernelIdeal.τ).loc Cert.AttnKernelIdeal.main_arg5)) →
    ∃ (v0 : (c : Dev Cert.AttnKernelIdeal.nD) → Buf (Elt Ideal) ((c.tc : Thread Cert.AttnKernelIdeal.nD Cert.AttnKernelIdeal.τ).loc Cert.AttnKernelIdeal.main_v310_0)) (v1 : (c : Dev Cert.AttnKernelIdeal.nD) → Buf (Elt Ideal) ((c.tc : Thread Cert.AttnKernelIdeal.nD Cert.AttnKernelIdeal.τ).loc Cert.AttnKernelIdeal.main_v310_1)) (v2 : (c : Dev Cert.AttnKernelIdeal.nD) → Buf (Elt Ideal) ((c.tc : Thread Cert.AttnKernelIdeal.nD Cert.AttnKernelIdeal.τ).loc Cert.AttnKernelIdeal.main_v310_2)) (v3 : (c : Dev Cert.AttnKernelIdeal.nD) → Buf (Elt Ideal) ((c.tc : Thread Cert.AttnKernelIdeal.nD Cert.AttnKernelIdeal.τ).loc Cert.AttnKernelIdeal.main_v310_3)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          (∀ i : (⟨2, ![8192, 512]⟩ : Shape).Idx, (Cert.On_tokens_only.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).1 i = 1#1 → r.2.mem ((c.tc : Thread Cert.AttnKernelIdeal.nD Cert.AttnKernelIdeal.τ).loc Cert.AttnKernelIdeal.main_v310_0) i = v0 c i)
          ∧ (∀ i : (⟨2, ![8704, 256]⟩ : Shape).Idx, (Cert.On_tokens_only.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.1 i = 1#1 → r.2.mem ((c.tc : Thread Cert.AttnKernelIdeal.nD Cert.AttnKernelIdeal.τ).loc Cert.AttnKernelIdeal.main_v310_1) i = v1 c i)
          ∧ (∀ i : (⟨3, ![2, 512, 128]⟩ : Shape).Idx, (Cert.On_tokens_only.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.1 i = 1#1 → r.2.mem ((c.tc : Thread Cert.AttnKernelIdeal.nD Cert.AttnKernelIdeal.τ).loc Cert.AttnKernelIdeal.main_v310_2) i = v2 c i)
          ∧ (∀ i : (⟨2, ![8, 128]⟩ : Shape).Idx, (Cert.On_tokens_only.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.2 i = 1#1 → r.2.mem ((c.tc : Thread Cert.AttnKernelIdeal.nD Cert.AttnKernelIdeal.τ).loc Cert.AttnKernelIdeal.main_v310_3) i = v3 c i)
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
          ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          (∀ i : (⟨2, ![8192, 512]⟩ : Shape).Idx, (Cert.On_tokens_only.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).1 i = 1#1 → r.2.mem ((c.tc : Thread Cert.AttnReferenceIdeal.nD Cert.AttnReferenceIdeal.τ).loc Cert.AttnReferenceIdeal.main_v368) i = v0 c i)
          ∧ (∀ i : (⟨2, ![8704, 256]⟩ : Shape).Idx, (Cert.On_tokens_only.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.1 i = 1#1 → r.2.mem ((c.tc : Thread Cert.AttnReferenceIdeal.nD Cert.AttnReferenceIdeal.τ).loc Cert.AttnReferenceIdeal.main_v369) i = v1 c i)
          ∧ (∀ i : (⟨3, ![2, 512, 128]⟩ : Shape).Idx, (Cert.On_tokens_only.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.1 i = 1#1 → r.2.mem ((c.tc : Thread Cert.AttnReferenceIdeal.nD Cert.AttnReferenceIdeal.τ).loc Cert.AttnReferenceIdeal.main_v359) i = v2 c i)
          ∧ (∀ i : (⟨2, ![8, 128]⟩ : Shape).Idx, (Cert.On_tokens_only.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.2 i = 1#1 → r.2.mem ((c.tc : Thread Cert.AttnReferenceIdeal.nD Cert.AttnReferenceIdeal.τ).loc Cert.AttnReferenceIdeal.main_v367) i = v3 c i)
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v19) = v0 c
          ∧ r.2.mem ((c.tc : Thread Cert.LossReferenceIdeal.nD Cert.LossReferenceIdeal.τ).loc Cert.LossReferenceIdeal.main_v15) = v1 c
          ∧ r.2.mem ((c.tc : Thread Cert.LossReferenceIdeal.nD Cert.LossReferenceIdeal.τ).loc Cert.LossReferenceIdeal.main_v20) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_MixKernel_MixKernelIdeal : Prop :=
  True

def algebraic_MixKernelIdeal_MixReferenceIdeal_pre_finite_mix [hMixKernelIdeal : Cert.MixKernelIdeal.Facts] [hMixReferenceIdeal : Cert.MixReferenceIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_finite_mix m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)) →
    ∃ (v0 : (c : Dev Cert.MixKernelIdeal.nD) → Buf (Elt Ideal) ((c.tc : Thread Cert.MixKernelIdeal.nD Cert.MixKernelIdeal.τ).loc Cert.MixKernelIdeal.main_v10_0)) (v1 : (c : Dev Cert.MixKernelIdeal.nD) → Buf (Elt Ideal) ((c.tc : Thread Cert.MixKernelIdeal.nD Cert.MixKernelIdeal.τ).loc Cert.MixKernelIdeal.main_v10_1)) (v2 : (c : Dev Cert.MixKernelIdeal.nD) → Buf (Elt Ideal) ((c.tc : Thread Cert.MixKernelIdeal.nD Cert.MixKernelIdeal.τ).loc Cert.MixKernelIdeal.main_v10_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v10_0) = v0 c
          ∧ r.2.mem ((c.tc : Thread Cert.MixKernelIdeal.nD Cert.MixKernelIdeal.τ).loc Cert.MixKernelIdeal.main_v10_1) = v1 c
          ∧ r.2.mem ((c.tc : Thread Cert.MixKernelIdeal.nD Cert.MixKernelIdeal.τ).loc Cert.MixKernelIdeal.main_v10_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v109) = v0 c
          ∧ r.2.mem ((c.tc : Thread Cert.MixReferenceIdeal.nD Cert.MixReferenceIdeal.τ).loc Cert.MixReferenceIdeal.main_v143) = v1 c
          ∧ r.2.mem ((c.tc : Thread Cert.MixReferenceIdeal.nD Cert.MixReferenceIdeal.τ).loc Cert.MixReferenceIdeal.main_v154) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_ConvKernel_ConvKernelIdeal : Prop :=
  True

def algebraic_ConvKernelIdeal_ConvReferenceIdeal_pre_finite_conv [hConvKernelIdeal : Cert.ConvKernelIdeal.Facts] [hConvReferenceIdeal : Cert.ConvReferenceIdeal.Facts] [hPre_finite_conv : Cert.Pre_finite_conv.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal_finite_conv m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v1_0)) (v1 : (c : Dev Cert.ConvKernelIdeal.nD) → Buf (Elt Ideal) ((c.tc : Thread Cert.ConvKernelIdeal.nD Cert.ConvKernelIdeal.τ).loc Cert.ConvKernelIdeal.main_v1_1)) (v2 : (c : Dev Cert.ConvKernelIdeal.nD) → Buf (Elt Ideal) ((c.tc : Thread Cert.ConvKernelIdeal.nD Cert.ConvKernelIdeal.τ).loc Cert.ConvKernelIdeal.main_v1_2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v1_0) = v0 c
          ∧ r.2.mem ((c.tc : Thread Cert.ConvKernelIdeal.nD Cert.ConvKernelIdeal.τ).loc Cert.ConvKernelIdeal.main_v1_1) = v1 c
          ∧ r.2.mem ((c.tc : Thread Cert.ConvKernelIdeal.nD Cert.ConvKernelIdeal.τ).loc Cert.ConvKernelIdeal.main_v1_2) = v2 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v579) = v0 c
          ∧ r.2.mem ((c.tc : Thread Cert.ConvReferenceIdeal.nD Cert.ConvReferenceIdeal.τ).loc Cert.ConvReferenceIdeal.main_v580) = v1 c
          ∧ r.2.mem ((c.tc : Thread Cert.ConvReferenceIdeal.nD Cert.ConvReferenceIdeal.τ).loc Cert.ConvReferenceIdeal.main_v581) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_AttnfKernel_AttnfKernelIdeal : Prop :=
  IdealRules.named_const.Statement Cert.AttnfKernelIdeal.κ "mask" .f32 0xF149F2CA#32 ⊥

def algebraic_AttnfKernelIdeal_AttnfReferenceIdeal_pre_finite_attnf [hAttnfKernelIdeal : Cert.AttnfKernelIdeal.Facts] [hAttnfReferenceIdeal : Cert.AttnfReferenceIdeal.Facts] [hPre_finite_attnf : Cert.Pre_finite_attnf.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg)
    (m' : (ℓ : Loc Cert.AttnfReferenceIdeal.nD Cert.AttnfReferenceIdeal.τ Cert.AttnfReferenceIdeal.sig) → Buf (Elt Ideal) ℓ) (g' : Dev Cert.AttnfReferenceIdeal.nD → PrngReg), Pre_AttnfKernelIdeal_finite_attnf m →
    (∀ c : Dev Cert.AttnfKernelIdeal.nD,
      m' ((c.tc : Thread Cert.AttnfReferenceIdeal.nD Cert.AttnfReferenceIdeal.τ).loc Cert.AttnfReferenceIdeal.main_arg0) = m ((c.tc : Thread Cert.AttnfKernelIdeal.nD Cert.AttnfKernelIdeal.τ).loc Cert.AttnfKernelIdeal.main_arg0)
      ∧ m' ((c.tc : Thread Cert.AttnfReferenceIdeal.nD Cert.AttnfReferenceIdeal.τ).loc Cert.AttnfReferenceIdeal.main_arg1) = m ((c.tc : Thread Cert.AttnfKernelIdeal.nD Cert.AttnfKernelIdeal.τ).loc Cert.AttnfKernelIdeal.main_arg1)
      ∧ m' ((c.tc : Thread Cert.AttnfReferenceIdeal.nD Cert.AttnfReferenceIdeal.τ).loc Cert.AttnfReferenceIdeal.main_arg2) = m ((c.tc : Thread Cert.AttnfKernelIdeal.nD Cert.AttnfKernelIdeal.τ).loc Cert.AttnfKernelIdeal.main_arg2)
      ∧ m' ((c.tc : Thread Cert.AttnfReferenceIdeal.nD Cert.AttnfReferenceIdeal.τ).loc Cert.AttnfReferenceIdeal.main_arg3) = m ((c.tc : Thread Cert.AttnfKernelIdeal.nD Cert.AttnfKernelIdeal.τ).loc Cert.AttnfKernelIdeal.main_arg3)
      ∧ m' ((c.tc : Thread Cert.AttnfReferenceIdeal.nD Cert.AttnfReferenceIdeal.τ).loc Cert.AttnfReferenceIdeal.main_arg4) = m ((c.tc : Thread Cert.AttnfKernelIdeal.nD Cert.AttnfKernelIdeal.τ).loc Cert.AttnfKernelIdeal.main_arg4)) →
    ∃ (v0 : (c : Dev Cert.AttnfKernelIdeal.nD) → Buf (Elt Ideal) ((c.tc : Thread Cert.AttnfKernelIdeal.nD Cert.AttnfKernelIdeal.τ).loc Cert.AttnfKernelIdeal.main_v310)),
      θ_run (Cert.AttnfKernelIdeal.defs (F := Ideal)) (onTc (τ := Cert.AttnfKernelIdeal.τ) (Cert.AttnfKernelIdeal.main (F := Ideal))) ⟨m, fun _ => 0, g⟩ (fun r => ∀ c : Dev Cert.AttnfKernelIdeal.nD,
          r.2.mem ((c.tc : Thread Cert.AttnfKernelIdeal.nD Cert.AttnfKernelIdeal.τ).loc Cert.AttnfKernelIdeal.main_v310) = v0 c
          ∧ r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
          ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
          ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2)
          ∧ r.2.mem ((c.tc : Thread Cert.AttnfKernelIdeal.nD Cert.AttnfKernelIdeal.τ).loc Cert.AttnfKernelIdeal.main_arg3) = m ((c.tc : Thread Cert.AttnfKernelIdeal.nD Cert.AttnfKernelIdeal.τ).loc Cert.AttnfKernelIdeal.main_arg3)
          ∧ r.2.mem ((c.tc : Thread Cert.AttnfKernelIdeal.nD Cert.AttnfKernelIdeal.τ).loc Cert.AttnfKernelIdeal.main_arg4) = m ((c.tc : Thread Cert.AttnfKernelIdeal.nD Cert.AttnfKernelIdeal.τ).loc Cert.AttnfKernelIdeal.main_arg4))
      ∧ θ_run (Cert.AttnfReferenceIdeal.defs (F := Ideal)) (onTc (τ := Cert.AttnfReferenceIdeal.τ) (Cert.AttnfReferenceIdeal.main (F := Ideal))) ⟨m', fun _ => 0, g'⟩ (fun r => ∀ c : Dev Cert.AttnfReferenceIdeal.nD,
          r.2.mem ((c.tc : Thread Cert.AttnfReferenceIdeal.nD Cert.AttnfReferenceIdeal.τ).loc Cert.AttnfReferenceIdeal.main_v210) = v0 c
          ∧ r.2.mem ((c.tc : Thread Cert.AttnfReferenceIdeal.nD Cert.AttnfReferenceIdeal.τ).loc Cert.AttnfReferenceIdeal.main_arg0) = m' ((c.tc : Thread Cert.AttnfReferenceIdeal.nD Cert.AttnfReferenceIdeal.τ).loc Cert.AttnfReferenceIdeal.main_arg0)
          ∧ r.2.mem ((c.tc : Thread Cert.AttnfReferenceIdeal.nD Cert.AttnfReferenceIdeal.τ).loc Cert.AttnfReferenceIdeal.main_arg1) = m' ((c.tc : Thread Cert.AttnfReferenceIdeal.nD Cert.AttnfReferenceIdeal.τ).loc Cert.AttnfReferenceIdeal.main_arg1)
          ∧ r.2.mem ((c.tc : Thread Cert.AttnfReferenceIdeal.nD Cert.AttnfReferenceIdeal.τ).loc Cert.AttnfReferenceIdeal.main_arg2) = m' ((c.tc : Thread Cert.AttnfReferenceIdeal.nD Cert.AttnfReferenceIdeal.τ).loc Cert.AttnfReferenceIdeal.main_arg2)
          ∧ r.2.mem ((c.tc : Thread Cert.AttnfReferenceIdeal.nD Cert.AttnfReferenceIdeal.τ).loc Cert.AttnfReferenceIdeal.main_arg3) = m' ((c.tc : Thread Cert.AttnfReferenceIdeal.nD Cert.AttnfReferenceIdeal.τ).loc Cert.AttnfReferenceIdeal.main_arg3)
          ∧ r.2.mem ((c.tc : Thread Cert.AttnfReferenceIdeal.nD Cert.AttnfReferenceIdeal.τ).loc Cert.AttnfReferenceIdeal.main_arg4) = m' ((c.tc : Thread Cert.AttnfReferenceIdeal.nD Cert.AttnfReferenceIdeal.τ).loc Cert.AttnfReferenceIdeal.main_arg4))

def preserves_MixfKernel_MixfKernelIdeal : Prop :=
  True

def algebraic_MixfKernelIdeal_MixfReferenceIdeal [hMixfKernelIdeal : Cert.MixfKernelIdeal.Facts] [hMixfReferenceIdeal : Cert.MixfReferenceIdeal.Facts] : Prop :=
  ∀ (m : (ℓ : Loc Cert.MixfKernelIdeal.nD Cert.MixfKernelIdeal.τ Cert.MixfKernelIdeal.sig) → Buf (Elt Ideal) ℓ) (g : Dev Cert.MixfKernelIdeal.nD → PrngReg)
    (m' : (ℓ : Loc Cert.MixfReferenceIdeal.nD Cert.MixfReferenceIdeal.τ Cert.MixfReferenceIdeal.sig) → Buf (Elt Ideal) ℓ) (g' : Dev Cert.MixfReferenceIdeal.nD → PrngReg), Pre_MixfKernelIdeal m →
    (∀ c : Dev Cert.MixfKernelIdeal.nD,
      m' ((c.tc : Thread Cert.MixfReferenceIdeal.nD Cert.MixfReferenceIdeal.τ).loc Cert.MixfReferenceIdeal.main_arg0) = m ((c.tc : Thread Cert.MixfKernelIdeal.nD Cert.MixfKernelIdeal.τ).loc Cert.MixfKernelIdeal.main_arg0)
      ∧ m' ((c.tc : Thread Cert.MixfReferenceIdeal.nD Cert.MixfReferenceIdeal.τ).loc Cert.MixfReferenceIdeal.main_arg1) = m ((c.tc : Thread Cert.MixfKernelIdeal.nD Cert.MixfKernelIdeal.τ).loc Cert.MixfKernelIdeal.main_arg1)
      ∧ m' ((c.tc : Thread Cert.MixfReferenceIdeal.nD Cert.MixfReferenceIdeal.τ).loc Cert.MixfReferenceIdeal.main_arg2) = m ((c.tc : Thread Cert.MixfKernelIdeal.nD Cert.MixfKernelIdeal.τ).loc Cert.MixfKernelIdeal.main_arg2)
      ∧ m' ((c.tc : Thread Cert.MixfReferenceIdeal.nD Cert.MixfReferenceIdeal.τ).loc Cert.MixfReferenceIdeal.main_arg3) = m ((c.tc : Thread Cert.MixfKernelIdeal.nD Cert.MixfKernelIdeal.τ).loc Cert.MixfKernelIdeal.main_arg3)
      ∧ m' ((c.tc : Thread Cert.MixfReferenceIdeal.nD Cert.MixfReferenceIdeal.τ).loc Cert.MixfReferenceIdeal.main_arg4) = m ((c.tc : Thread Cert.MixfKernelIdeal.nD Cert.MixfKernelIdeal.τ).loc Cert.MixfKernelIdeal.main_arg4)
      ∧ m' ((c.tc : Thread Cert.MixfReferenceIdeal.nD Cert.MixfReferenceIdeal.τ).loc Cert.MixfReferenceIdeal.main_arg5) = m ((c.tc : Thread Cert.MixfKernelIdeal.nD Cert.MixfKernelIdeal.τ).loc Cert.MixfKernelIdeal.main_arg5)) →
    ∃ (v0 : (c : Dev Cert.MixfKernelIdeal.nD) → Buf (Elt Ideal) ((c.tc : Thread Cert.MixfKernelIdeal.nD Cert.MixfKernelIdeal.τ).loc Cert.MixfKernelIdeal.main_v4)),
      θ_run (Cert.MixfKernelIdeal.defs (F := Ideal)) (onTc (τ := Cert.MixfKernelIdeal.τ) (Cert.MixfKernelIdeal.main (F := Ideal))) ⟨m, fun _ => 0, g⟩ (fun r => ∀ c : Dev Cert.MixfKernelIdeal.nD,
          r.2.mem ((c.tc : Thread Cert.MixfKernelIdeal.nD Cert.MixfKernelIdeal.τ).loc Cert.MixfKernelIdeal.main_v4) = v0 c
          ∧ r.2.mem ((c.tc : Thread Cert.MixfKernelIdeal.nD Cert.MixfKernelIdeal.τ).loc Cert.MixfKernelIdeal.main_arg0) = m ((c.tc : Thread Cert.MixfKernelIdeal.nD Cert.MixfKernelIdeal.τ).loc Cert.MixfKernelIdeal.main_arg0)
          ∧ r.2.mem ((c.tc : Thread Cert.MixfKernelIdeal.nD Cert.MixfKernelIdeal.τ).loc Cert.MixfKernelIdeal.main_arg1) = m ((c.tc : Thread Cert.MixfKernelIdeal.nD Cert.MixfKernelIdeal.τ).loc Cert.MixfKernelIdeal.main_arg1)
          ∧ r.2.mem ((c.tc : Thread Cert.MixfKernelIdeal.nD Cert.MixfKernelIdeal.τ).loc Cert.MixfKernelIdeal.main_arg2) = m ((c.tc : Thread Cert.MixfKernelIdeal.nD Cert.MixfKernelIdeal.τ).loc Cert.MixfKernelIdeal.main_arg2)
          ∧ r.2.mem ((c.tc : Thread Cert.MixfKernelIdeal.nD Cert.MixfKernelIdeal.τ).loc Cert.MixfKernelIdeal.main_arg3) = m ((c.tc : Thread Cert.MixfKernelIdeal.nD Cert.MixfKernelIdeal.τ).loc Cert.MixfKernelIdeal.main_arg3)
          ∧ r.2.mem ((c.tc : Thread Cert.MixfKernelIdeal.nD Cert.MixfKernelIdeal.τ).loc Cert.MixfKernelIdeal.main_arg4) = m ((c.tc : Thread Cert.MixfKernelIdeal.nD Cert.MixfKernelIdeal.τ).loc Cert.MixfKernelIdeal.main_arg4)
          ∧ r.2.mem ((c.tc : Thread Cert.MixfKernelIdeal.nD Cert.MixfKernelIdeal.τ).loc Cert.MixfKernelIdeal.main_arg5) = m ((c.tc : Thread Cert.MixfKernelIdeal.nD Cert.MixfKernelIdeal.τ).loc Cert.MixfKernelIdeal.main_arg5))
      ∧ θ_run (Cert.MixfReferenceIdeal.defs (F := Ideal)) (onTc (τ := Cert.MixfReferenceIdeal.τ) (Cert.MixfReferenceIdeal.main (F := Ideal))) ⟨m', fun _ => 0, g'⟩ (fun r => ∀ c : Dev Cert.MixfReferenceIdeal.nD,
          r.2.mem ((c.tc : Thread Cert.MixfReferenceIdeal.nD Cert.MixfReferenceIdeal.τ).loc Cert.MixfReferenceIdeal.main_v52) = v0 c
          ∧ r.2.mem ((c.tc : Thread Cert.MixfReferenceIdeal.nD Cert.MixfReferenceIdeal.τ).loc Cert.MixfReferenceIdeal.main_arg0) = m' ((c.tc : Thread Cert.MixfReferenceIdeal.nD Cert.MixfReferenceIdeal.τ).loc Cert.MixfReferenceIdeal.main_arg0)
          ∧ r.2.mem ((c.tc : Thread Cert.MixfReferenceIdeal.nD Cert.MixfReferenceIdeal.τ).loc Cert.MixfReferenceIdeal.main_arg1) = m' ((c.tc : Thread Cert.MixfReferenceIdeal.nD Cert.MixfReferenceIdeal.τ).loc Cert.MixfReferenceIdeal.main_arg1)
          ∧ r.2.mem ((c.tc : Thread Cert.MixfReferenceIdeal.nD Cert.MixfReferenceIdeal.τ).loc Cert.MixfReferenceIdeal.main_arg2) = m' ((c.tc : Thread Cert.MixfReferenceIdeal.nD Cert.MixfReferenceIdeal.τ).loc Cert.MixfReferenceIdeal.main_arg2)
          ∧ r.2.mem ((c.tc : Thread Cert.MixfReferenceIdeal.nD Cert.MixfReferenceIdeal.τ).loc Cert.MixfReferenceIdeal.main_arg3) = m' ((c.tc : Thread Cert.MixfReferenceIdeal.nD Cert.MixfReferenceIdeal.τ).loc Cert.MixfReferenceIdeal.main_arg3)
          ∧ r.2.mem ((c.tc : Thread Cert.MixfReferenceIdeal.nD Cert.MixfReferenceIdeal.τ).loc Cert.MixfReferenceIdeal.main_arg4) = m' ((c.tc : Thread Cert.MixfReferenceIdeal.nD Cert.MixfReferenceIdeal.τ).loc Cert.MixfReferenceIdeal.main_arg4)
          ∧ r.2.mem ((c.tc : Thread Cert.MixfReferenceIdeal.nD Cert.MixfReferenceIdeal.τ).loc Cert.MixfReferenceIdeal.main_arg5) = m' ((c.tc : Thread Cert.MixfReferenceIdeal.nD Cert.MixfReferenceIdeal.τ).loc Cert.MixfReferenceIdeal.main_arg5))

def preserves_NormMmKernel_NormMmKernelIdeal : Prop :=
  True

def algebraic_NormMmKernelIdeal_NormMmReferenceIdeal [hNormMmKernelIdeal : Cert.NormMmKernelIdeal.Facts] [hNormMmReferenceIdeal : Cert.NormMmReferenceIdeal.Facts] : Prop :=
  ∀ (m : (ℓ : Loc Cert.NormMmKernelIdeal.nD Cert.NormMmKernelIdeal.τ Cert.NormMmKernelIdeal.sig) → Buf (Elt Ideal) ℓ) (g : Dev Cert.NormMmKernelIdeal.nD → PrngReg)
    (m' : (ℓ : Loc Cert.NormMmReferenceIdeal.nD Cert.NormMmReferenceIdeal.τ Cert.NormMmReferenceIdeal.sig) → Buf (Elt Ideal) ℓ) (g' : Dev Cert.NormMmReferenceIdeal.nD → PrngReg), Pre_NormMmKernelIdeal m →
    (∀ c : Dev Cert.NormMmKernelIdeal.nD,
      m' ((c.tc : Thread Cert.NormMmReferenceIdeal.nD Cert.NormMmReferenceIdeal.τ).loc Cert.NormMmReferenceIdeal.main_arg0) = m ((c.tc : Thread Cert.NormMmKernelIdeal.nD Cert.NormMmKernelIdeal.τ).loc Cert.NormMmKernelIdeal.main_arg0)
      ∧ m' ((c.tc : Thread Cert.NormMmReferenceIdeal.nD Cert.NormMmReferenceIdeal.τ).loc Cert.NormMmReferenceIdeal.main_arg1) = m ((c.tc : Thread Cert.NormMmKernelIdeal.nD Cert.NormMmKernelIdeal.τ).loc Cert.NormMmKernelIdeal.main_arg1)
      ∧ m' ((c.tc : Thread Cert.NormMmReferenceIdeal.nD Cert.NormMmReferenceIdeal.τ).loc Cert.NormMmReferenceIdeal.main_arg2) = m ((c.tc : Thread Cert.NormMmKernelIdeal.nD Cert.NormMmKernelIdeal.τ).loc Cert.NormMmKernelIdeal.main_arg2)) →
    ∃ (v0 : (c : Dev Cert.NormMmKernelIdeal.nD) → Buf (Elt Ideal) ((c.tc : Thread Cert.NormMmKernelIdeal.nD Cert.NormMmKernelIdeal.τ).loc Cert.NormMmKernelIdeal.main_v4_0)) (v1 : (c : Dev Cert.NormMmKernelIdeal.nD) → Buf (Elt Ideal) ((c.tc : Thread Cert.NormMmKernelIdeal.nD Cert.NormMmKernelIdeal.τ).loc Cert.NormMmKernelIdeal.main_v4_1)),
      θ_run (Cert.NormMmKernelIdeal.defs (F := Ideal)) (onTc (τ := Cert.NormMmKernelIdeal.τ) (Cert.NormMmKernelIdeal.main (F := Ideal))) ⟨m, fun _ => 0, g⟩ (fun r => ∀ c : Dev Cert.NormMmKernelIdeal.nD,
          r.2.mem ((c.tc : Thread Cert.NormMmKernelIdeal.nD Cert.NormMmKernelIdeal.τ).loc Cert.NormMmKernelIdeal.main_v4_0) = v0 c
          ∧ r.2.mem ((c.tc : Thread Cert.NormMmKernelIdeal.nD Cert.NormMmKernelIdeal.τ).loc Cert.NormMmKernelIdeal.main_v4_1) = v1 c
          ∧ r.2.mem ((c.tc : Thread Cert.NormMmKernelIdeal.nD Cert.NormMmKernelIdeal.τ).loc Cert.NormMmKernelIdeal.main_arg0) = m ((c.tc : Thread Cert.NormMmKernelIdeal.nD Cert.NormMmKernelIdeal.τ).loc Cert.NormMmKernelIdeal.main_arg0)
          ∧ r.2.mem ((c.tc : Thread Cert.NormMmKernelIdeal.nD Cert.NormMmKernelIdeal.τ).loc Cert.NormMmKernelIdeal.main_arg1) = m ((c.tc : Thread Cert.NormMmKernelIdeal.nD Cert.NormMmKernelIdeal.τ).loc Cert.NormMmKernelIdeal.main_arg1)
          ∧ r.2.mem ((c.tc : Thread Cert.NormMmKernelIdeal.nD Cert.NormMmKernelIdeal.τ).loc Cert.NormMmKernelIdeal.main_arg2) = m ((c.tc : Thread Cert.NormMmKernelIdeal.nD Cert.NormMmKernelIdeal.τ).loc Cert.NormMmKernelIdeal.main_arg2))
      ∧ θ_run (Cert.NormMmReferenceIdeal.defs (F := Ideal)) (onTc (τ := Cert.NormMmReferenceIdeal.τ) (Cert.NormMmReferenceIdeal.main (F := Ideal))) ⟨m', fun _ => 0, g'⟩ (fun r => ∀ c : Dev Cert.NormMmReferenceIdeal.nD,
          r.2.mem ((c.tc : Thread Cert.NormMmReferenceIdeal.nD Cert.NormMmReferenceIdeal.τ).loc Cert.NormMmReferenceIdeal.main_v13) = v0 c
          ∧ r.2.mem ((c.tc : Thread Cert.NormMmReferenceIdeal.nD Cert.NormMmReferenceIdeal.τ).loc Cert.NormMmReferenceIdeal.main_v15) = v1 c
          ∧ r.2.mem ((c.tc : Thread Cert.NormMmReferenceIdeal.nD Cert.NormMmReferenceIdeal.τ).loc Cert.NormMmReferenceIdeal.main_arg0) = m' ((c.tc : Thread Cert.NormMmReferenceIdeal.nD Cert.NormMmReferenceIdeal.τ).loc Cert.NormMmReferenceIdeal.main_arg0)
          ∧ r.2.mem ((c.tc : Thread Cert.NormMmReferenceIdeal.nD Cert.NormMmReferenceIdeal.τ).loc Cert.NormMmReferenceIdeal.main_arg1) = m' ((c.tc : Thread Cert.NormMmReferenceIdeal.nD Cert.NormMmReferenceIdeal.τ).loc Cert.NormMmReferenceIdeal.main_arg1)
          ∧ r.2.mem ((c.tc : Thread Cert.NormMmReferenceIdeal.nD Cert.NormMmReferenceIdeal.τ).loc Cert.NormMmReferenceIdeal.main_arg2) = m' ((c.tc : Thread Cert.NormMmReferenceIdeal.nD Cert.NormMmReferenceIdeal.τ).loc Cert.NormMmReferenceIdeal.main_arg2))

def preserves_ConvfKernel_ConvfKernelIdeal : Prop :=
  True

def algebraic_ConvfKernelIdeal_ConvfReferenceIdeal [hConvfKernelIdeal : Cert.ConvfKernelIdeal.Facts] [hConvfReferenceIdeal : Cert.ConvfReferenceIdeal.Facts] : Prop :=
  ∀ (m : (ℓ : Loc Cert.ConvfKernelIdeal.nD Cert.ConvfKernelIdeal.τ Cert.ConvfKernelIdeal.sig) → Buf (Elt Ideal) ℓ) (g : Dev Cert.ConvfKernelIdeal.nD → PrngReg)
    (m' : (ℓ : Loc Cert.ConvfReferenceIdeal.nD Cert.ConvfReferenceIdeal.τ Cert.ConvfReferenceIdeal.sig) → Buf (Elt Ideal) ℓ) (g' : Dev Cert.ConvfReferenceIdeal.nD → PrngReg), Pre_ConvfKernelIdeal m →
    (∀ c : Dev Cert.ConvfKernelIdeal.nD,
      m' ((c.tc : Thread Cert.ConvfReferenceIdeal.nD Cert.ConvfReferenceIdeal.τ).loc Cert.ConvfReferenceIdeal.main_arg0) = m ((c.tc : Thread Cert.ConvfKernelIdeal.nD Cert.ConvfKernelIdeal.τ).loc Cert.ConvfKernelIdeal.main_arg0)
      ∧ m' ((c.tc : Thread Cert.ConvfReferenceIdeal.nD Cert.ConvfReferenceIdeal.τ).loc Cert.ConvfReferenceIdeal.main_arg1) = m ((c.tc : Thread Cert.ConvfKernelIdeal.nD Cert.ConvfKernelIdeal.τ).loc Cert.ConvfKernelIdeal.main_arg1)
      ∧ m' ((c.tc : Thread Cert.ConvfReferenceIdeal.nD Cert.ConvfReferenceIdeal.τ).loc Cert.ConvfReferenceIdeal.main_arg2) = m ((c.tc : Thread Cert.ConvfKernelIdeal.nD Cert.ConvfKernelIdeal.τ).loc Cert.ConvfKernelIdeal.main_arg2)) →
    ∃ (v0 : (c : Dev Cert.ConvfKernelIdeal.nD) → Buf (Elt Ideal) ((c.tc : Thread Cert.ConvfKernelIdeal.nD Cert.ConvfKernelIdeal.τ).loc Cert.ConvfKernelIdeal.main_v2)),
      θ_run (Cert.ConvfKernelIdeal.defs (F := Ideal)) (onTc (τ := Cert.ConvfKernelIdeal.τ) (Cert.ConvfKernelIdeal.main (F := Ideal))) ⟨m, fun _ => 0, g⟩ (fun r => ∀ c : Dev Cert.ConvfKernelIdeal.nD,
          r.2.mem ((c.tc : Thread Cert.ConvfKernelIdeal.nD Cert.ConvfKernelIdeal.τ).loc Cert.ConvfKernelIdeal.main_v2) = v0 c
          ∧ r.2.mem ((c.tc : Thread Cert.ConvfKernelIdeal.nD Cert.ConvfKernelIdeal.τ).loc Cert.ConvfKernelIdeal.main_arg0) = m ((c.tc : Thread Cert.ConvfKernelIdeal.nD Cert.ConvfKernelIdeal.τ).loc Cert.ConvfKernelIdeal.main_arg0)
          ∧ r.2.mem ((c.tc : Thread Cert.ConvfKernelIdeal.nD Cert.ConvfKernelIdeal.τ).loc Cert.ConvfKernelIdeal.main_arg1) = m ((c.tc : Thread Cert.ConvfKernelIdeal.nD Cert.ConvfKernelIdeal.τ).loc Cert.ConvfKernelIdeal.main_arg1)
          ∧ r.2.mem ((c.tc : Thread Cert.ConvfKernelIdeal.nD Cert.ConvfKernelIdeal.τ).loc Cert.ConvfKernelIdeal.main_arg2) = m ((c.tc : Thread Cert.ConvfKernelIdeal.nD Cert.ConvfKernelIdeal.τ).loc Cert.ConvfKernelIdeal.main_arg2))
      ∧ θ_run (Cert.ConvfReferenceIdeal.defs (F := Ideal)) (onTc (τ := Cert.ConvfReferenceIdeal.τ) (Cert.ConvfReferenceIdeal.main (F := Ideal))) ⟨m', fun _ => 0, g'⟩ (fun r => ∀ c : Dev Cert.ConvfReferenceIdeal.nD,
          r.2.mem ((c.tc : Thread Cert.ConvfReferenceIdeal.nD Cert.ConvfReferenceIdeal.τ).loc Cert.ConvfReferenceIdeal.main_v231) = v0 c
          ∧ r.2.mem ((c.tc : Thread Cert.ConvfReferenceIdeal.nD Cert.ConvfReferenceIdeal.τ).loc Cert.ConvfReferenceIdeal.main_arg0) = m' ((c.tc : Thread Cert.ConvfReferenceIdeal.nD Cert.ConvfReferenceIdeal.τ).loc Cert.ConvfReferenceIdeal.main_arg0)
          ∧ r.2.mem ((c.tc : Thread Cert.ConvfReferenceIdeal.nD Cert.ConvfReferenceIdeal.τ).loc Cert.ConvfReferenceIdeal.main_arg1) = m' ((c.tc : Thread Cert.ConvfReferenceIdeal.nD Cert.ConvfReferenceIdeal.τ).loc Cert.ConvfReferenceIdeal.main_arg1)
          ∧ r.2.mem ((c.tc : Thread Cert.ConvfReferenceIdeal.nD Cert.ConvfReferenceIdeal.τ).loc Cert.ConvfReferenceIdeal.main_arg2) = m' ((c.tc : Thread Cert.ConvfReferenceIdeal.nD Cert.ConvfReferenceIdeal.τ).loc Cert.ConvfReferenceIdeal.main_arg2))

def preserves_BucketKernel_BucketKernelIdeal : Prop :=
  True

def algebraic_BucketKernelIdeal_BucketReferenceIdeal_pre_finite_bucket [hBucketKernelIdeal : Cert.BucketKernelIdeal.Facts] [hBucketReferenceIdeal : Cert.BucketReferenceIdeal.Facts] [hPre_finite_bucket : Cert.Pre_finite_bucket.Facts] : Prop :=
  ∀ (m : (ℓ : Loc Cert.BucketKernelIdeal.nD Cert.BucketKernelIdeal.τ Cert.BucketKernelIdeal.sig) → Buf (Elt Ideal) ℓ) (g : Dev Cert.BucketKernelIdeal.nD → PrngReg)
    (m' : (ℓ : Loc Cert.BucketReferenceIdeal.nD Cert.BucketReferenceIdeal.τ Cert.BucketReferenceIdeal.sig) → Buf (Elt Ideal) ℓ) (g' : Dev Cert.BucketReferenceIdeal.nD → PrngReg), Pre_BucketKernelIdeal_finite_bucket m →
    (∀ c : Dev Cert.BucketKernelIdeal.nD,
      m' ((c.tc : Thread Cert.BucketReferenceIdeal.nD Cert.BucketReferenceIdeal.τ).loc Cert.BucketReferenceIdeal.main_arg0) = m ((c.tc : Thread Cert.BucketKernelIdeal.nD Cert.BucketKernelIdeal.τ).loc Cert.BucketKernelIdeal.main_arg0)) →
    ∃ (v0 : (c : Dev Cert.BucketKernelIdeal.nD) → Buf (Elt Ideal) ((c.tc : Thread Cert.BucketKernelIdeal.nD Cert.BucketKernelIdeal.τ).loc Cert.BucketKernelIdeal.main_v32)),
      θ_run (Cert.BucketKernelIdeal.defs (F := Ideal)) (onTc (τ := Cert.BucketKernelIdeal.τ) (Cert.BucketKernelIdeal.main (F := Ideal))) ⟨m, fun _ => 0, g⟩ (fun r => ∀ c : Dev Cert.BucketKernelIdeal.nD,
          r.2.mem ((c.tc : Thread Cert.BucketKernelIdeal.nD Cert.BucketKernelIdeal.τ).loc Cert.BucketKernelIdeal.main_v32) = v0 c
          ∧ r.2.mem ((c.tc : Thread Cert.BucketKernelIdeal.nD Cert.BucketKernelIdeal.τ).loc Cert.BucketKernelIdeal.main_arg0) = m ((c.tc : Thread Cert.BucketKernelIdeal.nD Cert.BucketKernelIdeal.τ).loc Cert.BucketKernelIdeal.main_arg0))
      ∧ θ_run (Cert.BucketReferenceIdeal.defs (F := Ideal)) (onTc (τ := Cert.BucketReferenceIdeal.τ) (Cert.BucketReferenceIdeal.main (F := Ideal))) ⟨m', fun _ => 0, g'⟩ (fun r => ∀ c : Dev Cert.BucketReferenceIdeal.nD,
          r.2.mem ((c.tc : Thread Cert.BucketReferenceIdeal.nD Cert.BucketReferenceIdeal.τ).loc Cert.BucketReferenceIdeal.main_v36) = v0 c
          ∧ r.2.mem ((c.tc : Thread Cert.BucketReferenceIdeal.nD Cert.BucketReferenceIdeal.τ).loc Cert.BucketReferenceIdeal.main_arg0) = m' ((c.tc : Thread Cert.BucketReferenceIdeal.nD Cert.BucketReferenceIdeal.τ).loc Cert.BucketReferenceIdeal.main_arg0))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v3)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v3) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_GDownKernel_GDownKernelIdeal : Prop :=
  True

def algebraic_GDownKernelIdeal_GDownReferenceIdeal [hGDownKernelIdeal : Cert.GDownKernelIdeal.Facts] [hGDownReferenceIdeal : Cert.GDownReferenceIdeal.Facts] : Prop :=
  ∀ (m : (ℓ : Loc Cert.GDownKernelIdeal.nD Cert.GDownKernelIdeal.τ Cert.GDownKernelIdeal.sig) → Buf (Elt Ideal) ℓ) (g : Dev Cert.GDownKernelIdeal.nD → PrngReg)
    (m' : (ℓ : Loc Cert.GDownReferenceIdeal.nD Cert.GDownReferenceIdeal.τ Cert.GDownReferenceIdeal.sig) → Buf (Elt Ideal) ℓ) (g' : Dev Cert.GDownReferenceIdeal.nD → PrngReg), Pre_GDownKernelIdeal m →
    (∀ c : Dev Cert.GDownKernelIdeal.nD,
      m' ((c.tc : Thread Cert.GDownReferenceIdeal.nD Cert.GDownReferenceIdeal.τ).loc Cert.GDownReferenceIdeal.main_arg0) = m ((c.tc : Thread Cert.GDownKernelIdeal.nD Cert.GDownKernelIdeal.τ).loc Cert.GDownKernelIdeal.main_arg0)
      ∧ m' ((c.tc : Thread Cert.GDownReferenceIdeal.nD Cert.GDownReferenceIdeal.τ).loc Cert.GDownReferenceIdeal.main_arg1) = m ((c.tc : Thread Cert.GDownKernelIdeal.nD Cert.GDownKernelIdeal.τ).loc Cert.GDownKernelIdeal.main_arg1)) →
    ∃ (v0 : (c : Dev Cert.GDownKernelIdeal.nD) → Buf (Elt Ideal) ((c.tc : Thread Cert.GDownKernelIdeal.nD Cert.GDownKernelIdeal.τ).loc Cert.GDownKernelIdeal.main_v2)),
      θ_run (Cert.GDownKernelIdeal.defs (F := Ideal)) (onTc (τ := Cert.GDownKernelIdeal.τ) (Cert.GDownKernelIdeal.main (F := Ideal))) ⟨m, fun _ => 0, g⟩ (fun r => ∀ c : Dev Cert.GDownKernelIdeal.nD,
          r.2.mem ((c.tc : Thread Cert.GDownKernelIdeal.nD Cert.GDownKernelIdeal.τ).loc Cert.GDownKernelIdeal.main_v2) = v0 c
          ∧ r.2.mem ((c.tc : Thread Cert.GDownKernelIdeal.nD Cert.GDownKernelIdeal.τ).loc Cert.GDownKernelIdeal.main_arg0) = m ((c.tc : Thread Cert.GDownKernelIdeal.nD Cert.GDownKernelIdeal.τ).loc Cert.GDownKernelIdeal.main_arg0)
          ∧ r.2.mem ((c.tc : Thread Cert.GDownKernelIdeal.nD Cert.GDownKernelIdeal.τ).loc Cert.GDownKernelIdeal.main_arg1) = m ((c.tc : Thread Cert.GDownKernelIdeal.nD Cert.GDownKernelIdeal.τ).loc Cert.GDownKernelIdeal.main_arg1))
      ∧ θ_run (Cert.GDownReferenceIdeal.defs (F := Ideal)) (onTc (τ := Cert.GDownReferenceIdeal.τ) (Cert.GDownReferenceIdeal.main (F := Ideal))) ⟨m', fun _ => 0, g'⟩ (fun r => ∀ c : Dev Cert.GDownReferenceIdeal.nD,
          r.2.mem ((c.tc : Thread Cert.GDownReferenceIdeal.nD Cert.GDownReferenceIdeal.τ).loc Cert.GDownReferenceIdeal.main_v6) = v0 c
          ∧ r.2.mem ((c.tc : Thread Cert.GDownReferenceIdeal.nD Cert.GDownReferenceIdeal.τ).loc Cert.GDownReferenceIdeal.main_arg0) = m' ((c.tc : Thread Cert.GDownReferenceIdeal.nD Cert.GDownReferenceIdeal.τ).loc Cert.GDownReferenceIdeal.main_arg0)
          ∧ r.2.mem ((c.tc : Thread Cert.GDownReferenceIdeal.nD Cert.GDownReferenceIdeal.τ).loc Cert.GDownReferenceIdeal.main_arg1) = m' ((c.tc : Thread Cert.GDownReferenceIdeal.nD Cert.GDownReferenceIdeal.τ).loc Cert.GDownReferenceIdeal.main_arg1))

def preserves_AdamwKernel_AdamwKernelIdeal : Prop :=
  True

def algebraic_AdamwKernelIdeal_AdamwReferenceIdeal [hAdamwKernelIdeal : Cert.AdamwKernelIdeal.Facts] [hAdamwReferenceIdeal : Cert.AdamwReferenceIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwKernelIdeal m →
    (∀ c : Dev Cert.AdamwKernelIdeal.nD,
      m' ((c.tc : Thread Cert.AdamwReferenceIdeal.nD Cert.AdamwReferenceIdeal.τ).loc Cert.AdamwReferenceIdeal.main_arg0) = m ((c.tc : Thread Cert.AdamwKernelIdeal.nD Cert.AdamwKernelIdeal.τ).loc Cert.AdamwKernelIdeal.main_arg0)
      ∧ m' ((c.tc : Thread Cert.AdamwReferenceIdeal.nD Cert.AdamwReferenceIdeal.τ).loc Cert.AdamwReferenceIdeal.main_arg1) = m ((c.tc : Thread Cert.AdamwKernelIdeal.nD Cert.AdamwKernelIdeal.τ).loc Cert.AdamwKernelIdeal.main_arg1)
      ∧ m' ((c.tc : Thread Cert.AdamwReferenceIdeal.nD Cert.AdamwReferenceIdeal.τ).loc Cert.AdamwReferenceIdeal.main_arg2) = m ((c.tc : Thread Cert.AdamwKernelIdeal.nD Cert.AdamwKernelIdeal.τ).loc Cert.AdamwKernelIdeal.main_arg2)
      ∧ m' ((c.tc : Thread Cert.AdamwReferenceIdeal.nD Cert.AdamwReferenceIdeal.τ).loc Cert.AdamwReferenceIdeal.main_arg3) = m ((c.tc : Thread Cert.AdamwKernelIdeal.nD Cert.AdamwKernelIdeal.τ).loc Cert.AdamwKernelIdeal.main_arg3)) →
    ∃ (v0 : (c : Dev Cert.AdamwKernelIdeal.nD) → Buf (Elt Ideal) ((c.tc : Thread Cert.AdamwKernelIdeal.nD Cert.AdamwKernelIdeal.τ).loc Cert.AdamwKernelIdeal.main_v0_0)) (v1 : (c : Dev Cert.AdamwKernelIdeal.nD) → Buf (Elt Ideal) ((c.tc : Thread Cert.AdamwKernelIdeal.nD Cert.AdamwKernelIdeal.τ).loc Cert.AdamwKernelIdeal.main_v0_1)) (v2 : (c : Dev Cert.AdamwKernelIdeal.nD) → Buf (Elt Ideal) ((c.tc : Thread Cert.AdamwKernelIdeal.nD Cert.AdamwKernelIdeal.τ).loc Cert.AdamwKernelIdeal.main_v0_2)),
      θ_run (Cert.AdamwKernelIdeal.defs (F := Ideal)) (onTc (τ := Cert.AdamwKernelIdeal.τ) (Cert.AdamwKernelIdeal.main (F := Ideal))) ⟨m, fun _ => 0, g⟩ (fun r => ∀ c : Dev Cert.AdamwKernelIdeal.nD,
          r.2.mem ((c.tc : Thread Cert.AdamwKernelIdeal.nD Cert.AdamwKernelIdeal.τ).loc Cert.AdamwKernelIdeal.main_v0_0) = v0 c
          ∧ r.2.mem ((c.tc : Thread Cert.AdamwKernelIdeal.nD Cert.AdamwKernelIdeal.τ).loc Cert.AdamwKernelIdeal.main_v0_1) = v1 c
          ∧ r.2.mem ((c.tc : Thread Cert.AdamwKernelIdeal.nD Cert.AdamwKernelIdeal.τ).loc Cert.AdamwKernelIdeal.main_v0_2) = v2 c
          ∧ r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
          ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
          ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
          ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_v23) = v0 c
          ∧ r.2.mem ((c.tc : Thread Cert.AdamwReferenceIdeal.nD Cert.AdamwReferenceIdeal.τ).loc Cert.AdamwReferenceIdeal.main_v4) = v1 c
          ∧ r.2.mem ((c.tc : Thread Cert.AdamwReferenceIdeal.nD Cert.AdamwReferenceIdeal.τ).loc Cert.AdamwReferenceIdeal.main_v10) = v2 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3))

def Claim : Prop :=
  ∃ (hDactKernel : Cert.DactKernel.Facts) (hDactKernelIdeal : Cert.DactKernelIdeal.Facts) (hDactReferenceIdeal : Cert.DactReferenceIdeal.Facts) (hMlpInKernel : Cert.MlpInKernel.Facts) (hMlpInKernelIdeal : Cert.MlpInKernelIdeal.Facts) (hMlpInReferenceIdeal : Cert.MlpInReferenceIdeal.Facts) (hMixInKernel : Cert.MixInKernel.Facts) (hMixInKernelIdeal : Cert.MixInKernelIdeal.Facts) (hMixInReferenceIdeal : Cert.MixInReferenceIdeal.Facts) (hAttnKernel : Cert.AttnKernel.Facts) (hAttnKernelIdeal : Cert.AttnKernelIdeal.Facts) (hAttnReferenceIdeal : Cert.AttnReferenceIdeal.Facts) (hLossKernel : Cert.LossKernel.Facts) (hLossKernelIdeal : Cert.LossKernelIdeal.Facts) (hLossReferenceIdeal : Cert.LossReferenceIdeal.Facts) (hMixKernel : Cert.MixKernel.Facts) (hMixKernelIdeal : Cert.MixKernelIdeal.Facts) (hMixReferenceIdeal : Cert.MixReferenceIdeal.Facts) (hConvKernel : Cert.ConvKernel.Facts) (hConvKernelIdeal : Cert.ConvKernelIdeal.Facts) (hConvReferenceIdeal : Cert.ConvReferenceIdeal.Facts) (hAttnfKernel : Cert.AttnfKernel.Facts) (hAttnfKernelIdeal : Cert.AttnfKernelIdeal.Facts) (hAttnfReferenceIdeal : Cert.AttnfReferenceIdeal.Facts) (hMixfKernel : Cert.MixfKernel.Facts) (hMixfKernelIdeal : Cert.MixfKernelIdeal.Facts) (hMixfReferenceIdeal : Cert.MixfReferenceIdeal.Facts) (hNormMmKernel : Cert.NormMmKernel.Facts) (hNormMmKernelIdeal : Cert.NormMmKernelIdeal.Facts) (hNormMmReferenceIdeal : Cert.NormMmReferenceIdeal.Facts) (hConvfKernel : Cert.ConvfKernel.Facts) (hConvfKernelIdeal : Cert.ConvfKernelIdeal.Facts) (hConvfReferenceIdeal : Cert.ConvfReferenceIdeal.Facts) (hBucketKernel : Cert.BucketKernel.Facts) (hBucketKernelIdeal : Cert.BucketKernelIdeal.Facts) (hBucketReferenceIdeal : Cert.BucketReferenceIdeal.Facts) (hDownKernel : Cert.DownKernel.Facts) (hDownKernelIdeal : Cert.DownKernelIdeal.Facts) (hDownReferenceIdeal : Cert.DownReferenceIdeal.Facts) (hGDownKernel : Cert.GDownKernel.Facts) (hGDownKernelIdeal : Cert.GDownKernelIdeal.Facts) (hGDownReferenceIdeal : Cert.GDownReferenceIdeal.Facts) (hAdamwKernel : Cert.AdamwKernel.Facts) (hAdamwKernelIdeal : Cert.AdamwKernelIdeal.Facts) (hAdamwReferenceIdeal : Cert.AdamwReferenceIdeal.Facts) (hPre_finite_mlpin : Cert.Pre_finite_mlpin.Facts) (hPre_finite_mixin : Cert.Pre_finite_mixin.Facts) (hPre_all_finite : Cert.Pre_all_finite.Facts) (hPre_finite_mix : Cert.Pre_finite_mix.Facts) (hPre_finite_conv : Cert.Pre_finite_conv.Facts) (hPre_finite_attnf : Cert.Pre_finite_attnf.Facts) (hPre_finite_bucket : Cert.Pre_finite_bucket.Facts) (hOn_tokens_only : Cert.On_tokens_only.Facts),
    quiescent_DactKernel (hDactKernel := hDactKernel)
    ∧ quiescent_DactKernelIdeal (hDactKernelIdeal := hDactKernelIdeal)
    ∧ quiescent_DactReferenceIdeal (hDactReferenceIdeal := hDactReferenceIdeal)
    ∧ quiescent_MlpInKernel (hMlpInKernel := hMlpInKernel)
    ∧ quiescent_MlpInKernelIdeal (hMlpInKernelIdeal := hMlpInKernelIdeal)
    ∧ quiescent_MlpInKernelIdeal_pre_finite_mlpin (hMlpInKernelIdeal := hMlpInKernelIdeal) (hPre_finite_mlpin := hPre_finite_mlpin)
    ∧ quiescent_MlpInReferenceIdeal (hMlpInReferenceIdeal := hMlpInReferenceIdeal)
    ∧ quiescent_MlpInReferenceIdeal_pre_finite_mlpin (hMlpInReferenceIdeal := hMlpInReferenceIdeal) (hPre_finite_mlpin := hPre_finite_mlpin)
    ∧ quiescent_MixInKernel (hMixInKernel := hMixInKernel)
    ∧ quiescent_MixInKernelIdeal (hMixInKernelIdeal := hMixInKernelIdeal)
    ∧ quiescent_MixInKernelIdeal_pre_finite_mixin (hMixInKernelIdeal := hMixInKernelIdeal) (hPre_finite_mixin := hPre_finite_mixin)
    ∧ quiescent_MixInReferenceIdeal (hMixInReferenceIdeal := hMixInReferenceIdeal)
    ∧ quiescent_MixInReferenceIdeal_pre_finite_mixin (hMixInReferenceIdeal := hMixInReferenceIdeal) (hPre_finite_mixin := hPre_finite_mixin)
    ∧ quiescent_AttnKernel (hAttnKernel := hAttnKernel)
    ∧ quiescent_AttnKernelIdeal (hAttnKernelIdeal := hAttnKernelIdeal)
    ∧ quiescent_AttnKernelIdeal_pre_all_finite (hAttnKernelIdeal := hAttnKernelIdeal) (hPre_all_finite := hPre_all_finite)
    ∧ quiescent_AttnReferenceIdeal (hAttnReferenceIdeal := hAttnReferenceIdeal)
    ∧ quiescent_AttnReferenceIdeal_pre_all_finite (hAttnReferenceIdeal := hAttnReferenceIdeal) (hPre_all_finite := hPre_all_finite)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_MixKernel (hMixKernel := hMixKernel)
    ∧ quiescent_MixKernelIdeal (hMixKernelIdeal := hMixKernelIdeal)
    ∧ quiescent_MixKernelIdeal_pre_finite_mix (hMixKernelIdeal := hMixKernelIdeal) (hPre_finite_mix := hPre_finite_mix)
    ∧ quiescent_MixReferenceIdeal (hMixReferenceIdeal := hMixReferenceIdeal)
    ∧ quiescent_MixReferenceIdeal_pre_finite_mix (hMixReferenceIdeal := hMixReferenceIdeal) (hPre_finite_mix := hPre_finite_mix)
    ∧ quiescent_ConvKernel (hConvKernel := hConvKernel)
    ∧ quiescent_ConvKernelIdeal (hConvKernelIdeal := hConvKernelIdeal)
    ∧ quiescent_ConvKernelIdeal_pre_finite_conv (hConvKernelIdeal := hConvKernelIdeal) (hPre_finite_conv := hPre_finite_conv)
    ∧ quiescent_ConvReferenceIdeal (hConvReferenceIdeal := hConvReferenceIdeal)
    ∧ quiescent_ConvReferenceIdeal_pre_finite_conv (hConvReferenceIdeal := hConvReferenceIdeal) (hPre_finite_conv := hPre_finite_conv)
    ∧ quiescent_AttnfKernel (hAttnfKernel := hAttnfKernel)
    ∧ quiescent_AttnfKernelIdeal (hAttnfKernelIdeal := hAttnfKernelIdeal)
    ∧ quiescent_AttnfKernelIdeal_pre_finite_attnf (hAttnfKernelIdeal := hAttnfKernelIdeal) (hPre_finite_attnf := hPre_finite_attnf)
    ∧ quiescent_AttnfReferenceIdeal (hAttnfReferenceIdeal := hAttnfReferenceIdeal)
    ∧ quiescent_AttnfReferenceIdeal_pre_finite_attnf (hAttnfReferenceIdeal := hAttnfReferenceIdeal) (hPre_finite_attnf := hPre_finite_attnf)
    ∧ quiescent_MixfKernel (hMixfKernel := hMixfKernel)
    ∧ quiescent_MixfKernelIdeal (hMixfKernelIdeal := hMixfKernelIdeal)
    ∧ quiescent_MixfReferenceIdeal (hMixfReferenceIdeal := hMixfReferenceIdeal)
    ∧ quiescent_NormMmKernel (hNormMmKernel := hNormMmKernel)
    ∧ quiescent_NormMmKernelIdeal (hNormMmKernelIdeal := hNormMmKernelIdeal)
    ∧ quiescent_NormMmReferenceIdeal (hNormMmReferenceIdeal := hNormMmReferenceIdeal)
    ∧ quiescent_ConvfKernel (hConvfKernel := hConvfKernel)
    ∧ quiescent_ConvfKernelIdeal (hConvfKernelIdeal := hConvfKernelIdeal)
    ∧ quiescent_ConvfReferenceIdeal (hConvfReferenceIdeal := hConvfReferenceIdeal)
    ∧ quiescent_BucketKernel (hBucketKernel := hBucketKernel)
    ∧ quiescent_BucketKernelIdeal (hBucketKernelIdeal := hBucketKernelIdeal)
    ∧ quiescent_BucketKernelIdeal_pre_finite_bucket (hBucketKernelIdeal := hBucketKernelIdeal) (hPre_finite_bucket := hPre_finite_bucket)
    ∧ quiescent_BucketReferenceIdeal (hBucketReferenceIdeal := hBucketReferenceIdeal)
    ∧ quiescent_BucketReferenceIdeal_pre_finite_bucket (hBucketReferenceIdeal := hBucketReferenceIdeal) (hPre_finite_bucket := hPre_finite_bucket)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_GDownKernel (hGDownKernel := hGDownKernel)
    ∧ quiescent_GDownKernelIdeal (hGDownKernelIdeal := hGDownKernelIdeal)
    ∧ quiescent_GDownReferenceIdeal (hGDownReferenceIdeal := hGDownReferenceIdeal)
    ∧ quiescent_AdamwKernel (hAdamwKernel := hAdamwKernel)
    ∧ quiescent_AdamwKernelIdeal (hAdamwKernelIdeal := hAdamwKernelIdeal)
    ∧ quiescent_AdamwReferenceIdeal (hAdamwReferenceIdeal := hAdamwReferenceIdeal)
    ∧ preserves_DactKernel_DactKernelIdeal
    ∧ algebraic_DactKernelIdeal_DactReferenceIdeal (hDactKernelIdeal := hDactKernelIdeal) (hDactReferenceIdeal := hDactReferenceIdeal)
    ∧ preserves_MlpInKernel_MlpInKernelIdeal
    ∧ algebraic_MlpInKernelIdeal_MlpInReferenceIdeal_pre_finite_mlpin (hMlpInKernelIdeal := hMlpInKernelIdeal) (hMlpInReferenceIdeal := hMlpInReferenceIdeal) (hPre_finite_mlpin := hPre_finite_mlpin)
    ∧ preserves_MixInKernel_MixInKernelIdeal
    ∧ algebraic_MixInKernelIdeal_MixInReferenceIdeal_pre_finite_mixin (hMixInKernelIdeal := hMixInKernelIdeal) (hMixInReferenceIdeal := hMixInReferenceIdeal) (hPre_finite_mixin := hPre_finite_mixin)
    ∧ preserves_AttnKernel_AttnKernelIdeal
    ∧ algebraic_AttnKernelIdeal_AttnReferenceIdeal_on_tokens_only_pre_all_finite (hAttnKernelIdeal := hAttnKernelIdeal) (hAttnReferenceIdeal := hAttnReferenceIdeal) (hPre_all_finite := hPre_all_finite) (hOn_tokens_only := hOn_tokens_only)
    ∧ preserves_LossKernel_LossKernelIdeal
    ∧ algebraic_LossKernelIdeal_LossReferenceIdeal (hLossKernelIdeal := hLossKernelIdeal) (hLossReferenceIdeal := hLossReferenceIdeal)
    ∧ preserves_MixKernel_MixKernelIdeal
    ∧ algebraic_MixKernelIdeal_MixReferenceIdeal_pre_finite_mix (hMixKernelIdeal := hMixKernelIdeal) (hMixReferenceIdeal := hMixReferenceIdeal) (hPre_finite_mix := hPre_finite_mix)
    ∧ preserves_ConvKernel_ConvKernelIdeal
    ∧ algebraic_ConvKernelIdeal_ConvReferenceIdeal_pre_finite_conv (hConvKernelIdeal := hConvKernelIdeal) (hConvReferenceIdeal := hConvReferenceIdeal) (hPre_finite_conv := hPre_finite_conv)
    ∧ preserves_AttnfKernel_AttnfKernelIdeal
    ∧ algebraic_AttnfKernelIdeal_AttnfReferenceIdeal_pre_finite_attnf (hAttnfKernelIdeal := hAttnfKernelIdeal) (hAttnfReferenceIdeal := hAttnfReferenceIdeal) (hPre_finite_attnf := hPre_finite_attnf)
    ∧ preserves_MixfKernel_MixfKernelIdeal
    ∧ algebraic_MixfKernelIdeal_MixfReferenceIdeal (hMixfKernelIdeal := hMixfKernelIdeal) (hMixfReferenceIdeal := hMixfReferenceIdeal)
    ∧ preserves_NormMmKernel_NormMmKernelIdeal
    ∧ algebraic_NormMmKernelIdeal_NormMmReferenceIdeal (hNormMmKernelIdeal := hNormMmKernelIdeal) (hNormMmReferenceIdeal := hNormMmReferenceIdeal)
    ∧ preserves_ConvfKernel_ConvfKernelIdeal
    ∧ algebraic_ConvfKernelIdeal_ConvfReferenceIdeal (hConvfKernelIdeal := hConvfKernelIdeal) (hConvfReferenceIdeal := hConvfReferenceIdeal)
    ∧ preserves_BucketKernel_BucketKernelIdeal
    ∧ algebraic_BucketKernelIdeal_BucketReferenceIdeal_pre_finite_bucket (hBucketKernelIdeal := hBucketKernelIdeal) (hBucketReferenceIdeal := hBucketReferenceIdeal) (hPre_finite_bucket := hPre_finite_bucket)
    ∧ preserves_DownKernel_DownKernelIdeal
    ∧ algebraic_DownKernelIdeal_DownReferenceIdeal (hDownKernelIdeal := hDownKernelIdeal) (hDownReferenceIdeal := hDownReferenceIdeal)
    ∧ preserves_GDownKernel_GDownKernelIdeal
    ∧ algebraic_GDownKernelIdeal_GDownReferenceIdeal (hGDownKernelIdeal := hGDownKernelIdeal) (hGDownReferenceIdeal := hGDownReferenceIdeal)
    ∧ preserves_AdamwKernel_AdamwKernelIdeal
    ∧ algebraic_AdamwKernelIdeal_AdamwReferenceIdeal (hAdamwKernelIdeal := hAdamwKernelIdeal) (hAdamwReferenceIdeal := hAdamwReferenceIdeal)
-- ==== On_tokens_only.lean ====
abbrev S8192x1792 : Shape := ⟨2, ![8192, 1792]⟩
abbrev S8192x512 : Shape := ⟨2, ![8192, 512]⟩
abbrev S32x8 : Shape := ⟨2, ![32, 8]⟩
abbrev S8 : Shape := ⟨1, ![8]⟩
abbrev S64 : Shape := ⟨1, ![64]⟩
abbrev S8704x256 : Shape := ⟨2, ![8704, 256]⟩
abbrev S_ : Shape := ⟨0, ![]⟩
abbrev S2x512x128 : Shape := ⟨3, ![2, 512, 128]⟩
abbrev S8x128 : Shape := ⟨2, ![8, 128]⟩

class Facts : Prop where
  bcast_S_S8192x512 : S_.BroadcastsInDim S8192x512 (![] : Fin 0 → Fin S8192x512.rank)
  bcast_S_S8704x256 : S_.BroadcastsInDim S8704x256 (![] : Fin 0 → Fin S8704x256.rank)
  bcast_S_S2x512x128 : S_.BroadcastsInDim S2x512x128 (![] : Fin 0 → Fin S2x512x128.rank)
  bcast_S_S8x128 : S_.BroadcastsInDim S8x128 (![] : Fin 0 → Fin S8x128.rank)

variable [Facts]

def fn {F : FTy → Type} [FloatOps F] (main_arg0 : FVec F S8192x1792 .f32) (main_arg1 : FVec F S8192x512 .f32) (main_arg2 : FVec F S32x8 .f32) (main_arg3 : FVec F S8 .f32) (main_arg4 : FVec F S64 .f32) (main_arg5 : FVec F S64 .f32) : IVec S8192x512 1 × IVec S8704x256 1 × IVec S2x512x128 1 × IVec S8x128 1 :=
  let main_v0 : IVec S8704x256 32 := iotaInDim S8704x256 32 0
  let main_c : IVec S_ 1 := constantI S_ 1 1#1
  let main_v1 : IVec S8192x512 1 := broadcastInDim S8192x512 ![] bcast_S_S8192x512 main_c
  let main_c_0 : IVec S_ 32 := constantI S_ 32 128#32
  let main_v2 : IVec S8704x256 32 := broadcastInDim S8704x256 ![] bcast_S_S8704x256 main_c_0
  let main_v3 : IVec S8704x256 1 := cmpi .sge main_v0 main_v2
  let main_c_1 : IVec S_ 32 := constantI S_ 32 8320#32
  let main_v4 : IVec S8704x256 32 := broadcastInDim S8704x256 ![] bcast_S_S8704x256 main_c_1
  let main_v5 : IVec S8704x256 1 := cmpi .slt main_v0 main_v4
  let main_v6 : IVec S8704x256 1 := andi main_v3 main_v5
  let main_c_2 : IVec S_ 1 := constantI S_ 1 1#1
  let main_v7 : IVec S2x512x128 1 := broadcastInDim S2x512x128 ![] bcast_S_S2x512x128 main_c_2
  let main_c_3 : IVec S_ 1 := constantI S_ 1 1#1
  let main_v8 : IVec S8x128 1 := broadcastInDim S8x128 ![] bcast_S_S8x128 main_c_3
  (main_v1, main_v6, main_v7, main_v8)
-- ==== Pre_all_finite.lean ====
abbrev S8192x1792 : Shape := ⟨2, ![8192, 1792]⟩
abbrev S8192x512 : Shape := ⟨2, ![8192, 512]⟩
abbrev S32x8 : Shape := ⟨2, ![32, 8]⟩
abbrev S8 : Shape := ⟨1, ![8]⟩
abbrev S64 : Shape := ⟨1, ![64]⟩
abbrev S_ : Shape := ⟨0, ![]⟩

class Facts : Prop where
  bcast_S_S8192x1792 : S_.BroadcastsInDim S8192x1792 (![] : Fin 0 → Fin S8192x1792.rank)
  bcast_S_S8192x512 : S_.BroadcastsInDim S8192x512 (![] : Fin 0 → Fin S8192x512.rank)
  bcast_S_S32x8 : S_.BroadcastsInDim S32x8 (![] : Fin 0 → Fin S32x8.rank)
  bcast_S_S8 : S_.BroadcastsInDim S8 (![] : Fin 0 → Fin S8.rank)
  bcast_S_S64 : S_.BroadcastsInDim S64 (![] : Fin 0 → Fin S64.rank)

variable [Facts]

def fn {F : FTy → Type} [FloatOps F] (main_arg0 : FVec F S8192x1792 .f32) (main_arg1 : FVec F S8192x512 .f32) (main_arg2 : FVec F S32x8 .f32) (main_arg3 : FVec F S8 .f32) (main_arg4 : FVec F S64 .f32) (main_arg5 : FVec F S64 .f32) : IVec S8192x1792 1 × IVec S8192x512 1 × IVec S32x8 1 × IVec S8 1 × IVec S64 1 × IVec S64 1 :=
  let main_v0 : FVec F S8192x1792 .f32 := Host.absf main_arg0
  let main_cst : FVec F S_ .f32 := constant S_ .f32 0x7F800000#32
  let main_v1 : FVec F S8192x1792 .f32 := broadcastInDim S8192x1792 ![] bcast_S_S8192x1792 main_cst
  let main_v2 : IVec S8192x1792 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S32x8 .f32 := Host.absf main_arg2
  let main_cst_1 : FVec F S_ .f32 := constant S_ .f32 0x7F800000#32
  let main_v7 : FVec F S32x8 .f32 := broadcastInDim S32x8 ![] bcast_S_S32x8 main_cst_1
  let main_v8 : IVec S32x8 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  (main_v2, main_v5, main_v8, main_v11, main_v14, main_v17)
-- ==== Pre_finite_attnf.lean ====
abbrev S8192x1792 : Shape := ⟨2, ![8192, 1792]⟩
abbrev S32x8 : Shape := ⟨2, ![32, 8]⟩
abbrev S8 : Shape := ⟨1, ![8]⟩
abbrev S64 : Shape := ⟨1, ![64]⟩
abbrev S_ : Shape := ⟨0, ![]⟩

class Facts : Prop where
  bcast_S_S8192x1792 : S_.BroadcastsInDim S8192x1792 (![] : Fin 0 → Fin S8192x1792.rank)
  bcast_S_S32x8 : S_.BroadcastsInDim S32x8 (![] : Fin 0 → Fin S32x8.rank)
  bcast_S_S8 : S_.BroadcastsInDim S8 (![] : Fin 0 → Fin S8.rank)
  bcast_S_S64 : S_.BroadcastsInDim S64 (![] : Fin 0 → Fin S64.rank)

variable [Facts]

def fn {F : FTy → Type} [FloatOps F] (main_arg0 : FVec F S8192x1792 .f32) (main_arg1 : FVec F S32x8 .f32) (main_arg2 : FVec F S8 .f32) (main_arg3 : FVec F S64 .f32) (main_arg4 : FVec F S64 .f32) : IVec S8192x1792 1 × IVec S32x8 1 × IVec S8 1 × IVec S64 1 × IVec S64 1 :=
  let main_v0 : FVec F S8192x1792 .f32 := Host.absf main_arg0
  let main_cst : FVec F S_ .f32 := constant S_ .f32 0x7F800000#32
  let main_v1 : FVec F S8192x1792 .f32 := broadcastInDim S8192x1792 ![] bcast_S_S8192x1792 main_cst
  let main_v2 : IVec S8192x1792 1 := cmpf .olt main_v0 main_v1
  let main_v3 : FVec F S32x8 .f32 := Host.absf main_arg1
  let main_cst_0 : FVec F S_ .f32 := constant S_ .f32 0x7F800000#32
  let main_v4 : FVec F S32x8 .f32 := broadcastInDim S32x8 ![] bcast_S_S32x8 main_cst_0
  let main_v5 : IVec S32x8 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Pre_finite_bucket.lean ====
abbrev S8x128x128 : Shape := ⟨3, ![8, 128, 128]⟩
abbrev S_ : Shape := ⟨0, ![]⟩

class Facts : Prop where
  bcast_S_S8x128x128 : S_.BroadcastsInDim S8x128x128 (![] : Fin 0 → Fin S8x128x128.rank)

variable [Facts]

def fn {F : FTy → Type} [FloatOps F] (main_arg0 : FVec F S8x128x128 .f32) : IVec S8x128x128 1 :=
  let main_v0 : FVec F S8x128x128 .f32 := Host.absf main_arg0
  let main_cst : FVec F S_ .f32 := constant S_ .f32 0x7F800000#32
  let main_v1 : FVec F S8x128x128 .f32 := broadcastInDim S8x128x128 ![] bcast_S_S8x128x128 main_cst
  let main_v2 : IVec S8x128x128 1 := cmpf .olt main_v0 main_v1
  main_v2
-- ==== Pre_finite_conv.lean ====
abbrev S8192x512 : Shape := ⟨2, ![8192, 512]⟩
abbrev S8192x1792 : Shape := ⟨2, ![8192, 1792]⟩
abbrev S31x512 : Shape := ⟨2, ![31, 512]⟩
abbrev S_ : Shape := ⟨0, ![]⟩

class Facts : Prop where
  bcast_S_S8192x512 : S_.BroadcastsInDim S8192x512 (![] : Fin 0 → Fin S8192x512.rank)
  bcast_S_S8192x1792 : S_.BroadcastsInDim S8192x1792 (![] : Fin 0 → Fin S8192x1792.rank)
  bcast_S_S31x512 : S_.BroadcastsInDim S31x512 (![] : Fin 0 → Fin S31x512.rank)

variable [Facts]

def fn {F : FTy → Type} [FloatOps F] (main_arg0 : FVec F S8192x512 .f32) (main_arg1 : FVec F S8192x1792 .f32) (main_arg2 : FVec F S31x512 .f32) : IVec S8192x512 1 × IVec S8192x1792 1 × IVec S31x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x1792 .f32 := Host.absf main_arg1
  let main_cst_0 : FVec F S_ .f32 := constant S_ .f32 0x7F800000#32
  let main_v4 : FVec F S8192x1792 .f32 := broadcastInDim S8192x1792 ![] bcast_S_S8192x1792 main_cst_0
  let main_v5 : IVec S8192x1792 1 := cmpf .olt main_v3 main_v4
  let main_v6 : FVec F S31x512 .f32 := Host.absf main_arg2
  let main_cst_1 : FVec F S_ .f32 := constant S_ .f32 0x7F800000#32
  let main_v7 : FVec F S31x512 .f32 := broadcastInDim S31x512 ![] bcast_S_S31x512 main_cst_1
  let main_v8 : IVec S31x512 1 := cmpf .olt main_v6 main_v7
  (main_v2, main_v5, main_v8)
-- ==== Pre_finite_mix.lean ====
abbrev S8192x1024 : Shape := ⟨2, ![8192, 1024]⟩
abbrev S1024x1024 : Shape := ⟨2, ![1024, 1024]⟩
abbrev S8192x512 : Shape := ⟨2, ![8192, 512]⟩
abbrev S512 : Shape := ⟨1, ![512]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S8192x512 : S_.BroadcastsInDim S8192x512 (![] : Fin 0 → Fin S8192x512.rank)
  bcast_S_S512 : S_.BroadcastsInDim S512 (![] : Fin 0 → Fin S512.rank)

variable [Facts]

def fn_part1 {F : FTy → Type} [FloatOps F] (main_arg6 : FVec F S512 .f32) (main_arg7 : FVec F S512 .f32) (main_arg8 : FVec F S512 .f32) (main_v2 : IVec S8192x1024 1) (main_v5 : IVec S1024x1024 1) (main_v8 : IVec S8192x512 1) (main_v11 : IVec S8192x512 1) (main_v14 : IVec S512 1) (main_v17 : IVec S512 1) : IVec S8192x1024 1 × IVec S1024x1024 1 × IVec S8192x512 1 × IVec S8192x512 1 × IVec S512 1 × IVec S512 1 × IVec S512 1 × IVec S512 1 × IVec S512 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S512 .f32 := Host.absf main_arg7
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_v24 : FVec F S512 .f32 := Host.absf main_arg8
  let main_cst_7 : FVec F S_ .f32 := constant S_ .f32 0x7F800000#32
  let main_v25 : FVec F S512 .f32 := broadcastInDim S512 ![] bcast_S_S512 main_cst_7
  let main_v26 : IVec S512 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S1024x1024 .f32) (main_arg2 : FVec F S8192x512 .f32) (main_arg3 : FVec F S8192x512 .f32) (main_arg4 : FVec F S512 .f32) (main_arg5 : FVec F S512 .f32) (main_arg6 : FVec F S512 .f32) (main_arg7 : FVec F S512 .f32) (main_arg8 : FVec F S512 .f32) : IVec S8192x1024 1 × IVec S1024x1024 1 × IVec S8192x512 1 × IVec S8192x512 1 × IVec S512 1 × IVec S512 1 × IVec S512 1 × IVec S512 1 × IVec S512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg7 main_arg8 main_v2 main_v5 main_v8 main_v11 main_v14 main_v17
-- ==== Pre_finite_mixin.lean ====
abbrev S8192x512 : Shape := ⟨2, ![8192, 512]⟩
abbrev S8192x256 : Shape := ⟨2, ![8192, 256]⟩
abbrev S1024x1792 : Shape := ⟨2, ![1024, 1792]⟩
abbrev S8192x1024 : Shape := ⟨2, ![8192, 1024]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  bcast_S_S8192x256 : S_.BroadcastsInDim S8192x256 (![] : Fin 0 → Fin S8192x256.rank)
  bcast_S_S1024x1792 : S_.BroadcastsInDim S1024x1792 (![] : Fin 0 → Fin S1024x1792.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn_part1 {F : FTy → Type} [FloatOps F] (main_arg6 : FVec F S1024 .f32) (main_v2 : IVec S8192x512 1) (main_v5 : IVec S8192x256 1) (main_v8 : IVec S8192x512 1) (main_v11 : IVec S8192x512 1) (main_v14 : IVec S1024x1792 1) (main_v17 : IVec S8192x1024 1) : IVec S8192x512 1 × IVec S8192x256 1 × IVec S8192x512 1 × IVec S8192x512 1 × IVec S1024x1792 1 × IVec S8192x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S8192x512 .f32) (main_arg1 : FVec F S8192x256 .f32) (main_arg2 : FVec F S8192x512 .f32) (main_arg3 : FVec F S8192x512 .f32) (main_arg4 : FVec F S1024x1792 .f32) (main_arg5 : FVec F S8192x1024 .f32) (main_arg6 : FVec F S1024 .f32) (main_arg7 : FVec F S8192x1024 .f32) : IVec S8192x512 1 × IVec S8192x256 1 × IVec S8192x512 1 × IVec S8192x512 1 × IVec S1024x1792 1 × IVec S8192x1024 1 × IVec S1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S1024x1792 .f32 := Host.absf main_arg4
  let main_cst_3 : FVec F S_ .f32 := constant S_ .f32 0x7F800000#32
  let main_v13 : FVec F S1024x1792 .f32 := broadcastInDim S1024x1792 ![] bcast_S_S1024x1792 main_cst_3
  let main_v14 : IVec S1024x1792 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  fn_part1 (F := F) main_arg6 main_v2 main_v5 main_v8 main_v11 main_v14 main_v17
-- ==== Pre_finite_mlpin.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  bcast_S_S1024x4096 : S_.BroadcastsInDim S1024x4096 (![] : Fin 0 → Fin S1024x4096.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x4096 .f32) (main_arg1 : FVec F S1024x4096 .f32) (main_arg2 : FVec F S8192x1024 .f32) (main_arg3 : FVec F S1024 .f32) (main_arg4 : FVec F S8192x1024 .f32) : IVec S8192x4096 1 × IVec S1024x4096 1 × IVec S8192x1024 1 × IVec S1024 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== DactKernel.lean ====
abbrev S8192x1024 : Shape := ⟨2, ![8192, 1024]⟩
abbrev S4096x1024 : Shape := ⟨2, ![4096, 1024]⟩
abbrev S8192x4096 : Shape := ⟨2, ![8192, 4096]⟩
abbrev S4x1x1024x1024 : Shape := ⟨4, ![4, 1, 1024, 1024]⟩
abbrev S512x1024 : Shape := ⟨2, ![512, 1024]⟩
abbrev S512x4096 : Shape := ⟨2, ![512, 4096]⟩
abbrev S1x1x1024x1024 : Shape := ⟨4, ![1, 1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S4096x1024, .bf16⟩
  | .hbm, ⟨4, _⟩ => ⟨S4x1x1024x1024, .bf16⟩
  | .hbm, ⟨5, _⟩ => ⟨S8192x1024, .bf16⟩
  | .hbm, ⟨6, _⟩ => ⟨S8192x4096, .bf16⟩
  | .hbm, ⟨7, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4x1x1024x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DactReferenceIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== MlpInKernel.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S1024x4x1x1024 : Shape := ⟨4, ![1024, 4, 1, 1024]⟩
abbrev S4x1x1024x1024 : Shape := ⟨4, ![4, 1, 1024, 1024]⟩
abbrev S1x1024 : Shape := ⟨2, ![1, 1024]⟩
abbrev S512x4096 : Shape := ⟨2, ![512, 4096]⟩
abbrev S512x1024 : Shape := ⟨2, ![512, 1024]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x4096, .bf16⟩
  | .hbm, ⟨6, _⟩ => ⟨S1024x4x1x1024, .bf16⟩
  | .hbm, ⟨7, _⟩ => ⟨S4x1x1024x1024, .bf16⟩
  | .hbm, ⟨8, _⟩ => ⟨S8192x4096, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_27 : BitVec 32 := 0#32
  let v41 : BitVec 1 := Scalar.cmpi .ne v40 c0_i32_27
  v41

def k0_cond2 (i : grid0.Coords) : BitVec 1 :=
  let arg0 : BitVec 32 := BitVec.ofNat 32 (i 0).val
  let c0_i32_28 : BitVec 32 := 0#32
  let v42 : BitVec 1 := Scalar.cmpi .sgt arg0 c0_i32_28
  let v43 : BitVec 32 := Scalar.extui v42
  let c0_i32_29 : BitVec 32 := 0#32
  let v44 : BitVec 1 := Scalar.cmpi .ne v43 c0_i32_29
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpInReferenceIdeal.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== MixInKernel.lean ====
abbrev S8192x512 : Shape := ⟨2, ![8192, 512]⟩
abbrev S8192x256 : Shape := ⟨2, ![8192, 256]⟩
abbrev S1024x1792 : Shape := ⟨2, ![1024, 1792]⟩
abbrev S8192x1024 : Shape := ⟨2, ![8192, 1024]⟩
abbrev S1024 : Shape := ⟨1, ![1024]⟩
abbrev S1x1024x1792 : Shape := ⟨3, ![1, 1024, 1792]⟩
abbrev S1x1024 : Shape := ⟨2, ![1, 1024]⟩
abbrev S512x512 : Shape := ⟨2, ![512, 512]⟩
abbrev S512x256 : Shape := ⟨2, ![512, 256]⟩
abbrev S512x1024 : Shape := ⟨2, ![512, 1024]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩

abbrev nBuf : Space → Nat
  | .hbm => 18
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x512, .f32⟩
  | .hbm, ⟨3, _⟩ => ⟨S8192x512, .f32⟩
  | .hbm, ⟨4, _⟩ => ⟨S1024x1792, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S8192x512, .bf16⟩
  | .hbm, ⟨9, _⟩ => ⟨S8192x256, .bf16⟩
  | .hbm, ⟨10, _⟩ => ⟨S8192x512, .bf16⟩
  | .hbm, ⟨11, _⟩ => ⟨S8192x512, .bf16⟩
  | .hbm, ⟨12, _⟩ => ⟨S1024x1792, .bf16⟩
  | .hbm, ⟨13, _⟩ => ⟨S1x1024x1792, .bf16⟩
  | .hbm, ⟨14, _⟩ => ⟨S1x1024, .f32⟩
  | .hbm, ⟨15, _⟩ => ⟨S8192x1024, .f32⟩
  | .hbm, ⟨16, _⟩ => ⟨S8192x1024, .bf16⟩
  | .hbm, ⟨17, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024x1792, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_26 : BitVec 32 := 0#32
  let v41 : BitVec 1 := Scalar.cmpi .ne v40 c0_i32_26
  v41

def k0_cond2 (i : grid0.Coords) : BitVec 1 :=
  let arg0 : BitVec 32 := BitVec.ofNat 32 (i 0).val
  let c0_i32_27 : BitVec 32 := 0#32
  let v42 : BitVec 1 := Scalar.cmpi .sgt arg0 c0_i32_27
  let v43 : BitVec 32 := Scalar.extui v42
  let c0_i32_28 : BitVec 32 := 0#32
  let v44 : BitVec 1 := Scalar.cmpi .ne v43 c0_i32_28
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixInReferenceIdeal.lean ====
abbrev S8192x512 : Shape := ⟨2, ![8192, 512]⟩
abbrev S8192x256 : Shape := ⟨2, ![8192, 256]⟩
abbrev S1024x1792 : Shape := ⟨2, ![1024, 1792]⟩
abbrev S8192x1024 : Shape := ⟨2, ![8192, 1024]⟩
abbrev S1024 : Shape := ⟨1, ![1024]⟩
abbrev S8192x1792 : Shape := ⟨2, ![8192, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x512, .f32⟩
  | .hbm, ⟨3, _⟩ => ⟨S8192x512, .f32⟩
  | .hbm, ⟨4, _⟩ => ⟨S1024x1792, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S8192x1792, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1792, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== AttnKernel.lean ====
abbrev S8192x1792 : Shape := ⟨2, ![8192, 1792]⟩
abbrev S8192x512 : Shape := ⟨2, ![8192, 512]⟩
abbrev S32x8 : Shape := ⟨2, ![32, 8]⟩
abbrev S8 : Shape := ⟨1, ![8]⟩
abbrev S64 : Shape := ⟨1, ![64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x128x128 : Shape := ⟨3, ![1, 128, 128]⟩
abbrev S8x128x128 : Shape := ⟨3, ![8, 128, 128]⟩
abbrev S1x8 : Shape := ⟨2, ![1, 8]⟩
abbrev S8x1x1 : Shape := ⟨3, ![8, 1, 1]⟩
abbrev S2x512x128 : Shape := ⟨3, ![2, 512, 128]⟩
abbrev S8x128 : Shape := ⟨2, ![8, 128]⟩
abbrev S1024 : Shape := ⟨1, ![1024]⟩
abbrev S2x512x1 : Shape := ⟨3, ![2, 512, 1]⟩
abbrev S1x64 : Shape := ⟨2, ![1, 64]⟩
abbrev S8704x256 : Shape := ⟨2, ![8704, 256]⟩
abbrev S512x512 : Shape := ⟨2, ![512, 512]⟩
abbrev S512x128 : Shape := ⟨2, ![512, 128]⟩
abbrev S512x256 : Shape := ⟨2, ![512, 256]⟩
abbrev S128x64 : Shape := ⟨2, ![128, 64]⟩
abbrev S512x64 : Shape := ⟨2, ![512, 64]⟩
abbrev S512 : Shape := ⟨1, ![512]⟩
abbrev S512x1 : Shape := ⟨2, ![512, 1]⟩
abbrev S1x512x128 : Shape := ⟨3, ![1, 512, 128]⟩
abbrev S1x512x1 : Shape := ⟨3, ![1, 512, 1]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 543
  | .vmem => 28
  | .smem => 0
  | _ => 0

abbrev hbmTy0_0 (i : Nat) : BufTy := match i % 128 with
  | 0 => ⟨S8192x1792, .f32⟩
  | 1 => ⟨S8192x512, .f32⟩
  | 2 => ⟨S32x8, .f32⟩
  | 3 => ⟨S8, .f32⟩
  | 4 => ⟨S64, .f32⟩
  | 5 => ⟨S64, .f32⟩
  | 6 => ⟨S128, .i32⟩
  | 7 => ⟨S128x1, .i32⟩
  | 8 => ⟨S128, .i32⟩
  | 9 => ⟨S1x128, .i32⟩
  | 10 => ⟨S128x128, .i32⟩
  | 11 => ⟨S128x128, .i32⟩
  | 12 => ⟨S128x128, .i1⟩
  | 13 => ⟨S128x128, .i32⟩
  | 14 => ⟨S128x128, .i32⟩
  | 15 => ⟨S128x128, .i32⟩
  | 16 => ⟨S_, .i32⟩
  | 17 => ⟨S128x1, .i32⟩
  | 18 => ⟨S128x1, .i32⟩
  | 19 => ⟨S128x128, .i32⟩
  | 20 => ⟨S128x128, .i32⟩
  | 21 => ⟨S128x128, .i32⟩
  | 22 => ⟨S128x128, .i32⟩
  | 23 => ⟨S_, .i32⟩
  | 24 => ⟨S128x128, .i32⟩
  | 25 => ⟨S_, .i32⟩
  | 26 => ⟨S128x128, .i32⟩
  | 27 => ⟨S128x128, .i1⟩
  | 28 => ⟨S_, .i32⟩
  | 29 => ⟨S_, .i32⟩
  | 30 => ⟨S128x128, .i32⟩
  | 31 => ⟨S128x128, .i32⟩
  | 32 => ⟨S_, .i32⟩
  | 33 => ⟨S128x128, .i32⟩
  | 34 => ⟨S128x128, .i1⟩
  | 35 => ⟨S_, .i32⟩
  | 36 => ⟨S_, .i32⟩
  | 37 => ⟨S128x128, .i32⟩
  | 38 => ⟨S128x128, .i32⟩
  | 39 => ⟨S_, .i32⟩
  | 40 => ⟨S128x128, .i32⟩
  | 41 => ⟨S128x128, .i1⟩
  | 42 => ⟨S_, .i32⟩
  | 43 => ⟨S_, .i32⟩
  | 44 => ⟨S128x128, .i32⟩
  | 45 => ⟨S128x128, .i32⟩
  | 46 => ⟨S_, .i32⟩
  | 47 => ⟨S128x128, .i32⟩
  | 48 => ⟨S128x128, .i1⟩
  | 49 => ⟨S_, .i32⟩
  | 50 => ⟨S_, .i32⟩
  | 51 => ⟨S128x128, .i32⟩
  | 52 => ⟨S128x128, .i32⟩
  | 53 => ⟨S_, .i32⟩
  | 54 => ⟨S128x128, .i32⟩
  | 55 => ⟨S128x128, .i1⟩
  | 56 => ⟨S_, .i32⟩
  | 57 => ⟨S_, .i32⟩
  | 58 => ⟨S128x128, .i32⟩
  | 59 => ⟨S128x128, .i32⟩
  | 60 => ⟨S_, .i32⟩
  | 61 => ⟨S128x128, .i32⟩
  | 62 => ⟨S128x128, .i1⟩
  | 63 => ⟨S_, .i32⟩
  | 64 => ⟨S_, .i32⟩
  | 65 => ⟨S128x128, .i32⟩
  | 66 => ⟨S128x128, .i32⟩
  | 67 => ⟨S_, .i32⟩
  | 68 => ⟨S128x128, .i32⟩
  | 69 => ⟨S128x128, .i1⟩
  | 70 => ⟨S_, .i32⟩
  | 71 => ⟨S_, .i32⟩
  | 72 => ⟨S128x128, .i32⟩
  | 73 => ⟨S128x128, .i32⟩
  | 74 => ⟨S_, .i32⟩
  | 75 => ⟨S128x128, .i32⟩
  | 76 => ⟨S128x128, .i1⟩
  | 77 => ⟨S_, .i32⟩
  | 78 => ⟨S_, .i32⟩
  | 79 => ⟨S128x128, .i32⟩
  | 80 => ⟨S128x128, .i32⟩
  | 81 => ⟨S_, .i32⟩
  | 82 => ⟨S128x128, .i32⟩
  | 83 => ⟨S128x128, .i1⟩
  | 84 => ⟨S_, .i32⟩
  | 85 => ⟨S_, .i32⟩
  | 86 => ⟨S128x128, .i32⟩
  | 87 => ⟨S128x128, .i32⟩
  | 88 => ⟨S_, .i32⟩
  | 89 => ⟨S128x128, .i32⟩
  | 90 => ⟨S128x128, .i1⟩
  | 91 => ⟨S_, .i32⟩
  | 92 => ⟨S_, .i32⟩
  | 93 => ⟨S128x128, .i32⟩
  | 94 => ⟨S128x128, .i32⟩
  | 95 => ⟨S_, .i32⟩
  | 96 => ⟨S128x128, .i32⟩
  | 97 => ⟨S128x128, .i1⟩
  | 98 => ⟨S_, .i32⟩
  | 99 => ⟨S_, .i32⟩
  | 100 => ⟨S128x128, .i32⟩
  | 101 => ⟨S128x128, .i32⟩
  | 102 => ⟨S_, .i32⟩
  | 103 => ⟨S128x128, .i32⟩
  | 104 => ⟨S128x128, .i1⟩
  | 105 => ⟨S_, .i32⟩
  | 106 => ⟨S_, .i32⟩
  | 107 => ⟨S128x128, .i32⟩
  | 108 => ⟨S128x128, .i32⟩
  | 109 => ⟨S_, .i32⟩
  | 110 => ⟨S128x128, .i32⟩
  | 111 => ⟨S128x128, .i1⟩
  | 112 => ⟨S_, .i32⟩
  | 113 => ⟨S_, .i32⟩
  | 114 => ⟨S128x128, .i32⟩
  | 115 => ⟨S128x128, .i32⟩
  | 116 => ⟨S_, .i32⟩
  | 117 => ⟨S128x128, .i32⟩
  | 118 => ⟨S128x128, .i1⟩
  | 119 => ⟨S_, .i32⟩
  | 120 => ⟨S_, .i32⟩
  | 121 => ⟨S128x128, .i32⟩
  | 122 => ⟨S128x128, .i32⟩
  | 123 => ⟨S_, .i32⟩
  | 124 => ⟨S128x128, .i32⟩
  | 125 => ⟨S128x128, .i1⟩
  | 126 => ⟨S_, .i32⟩
  | 127 => ⟨S_, .i32⟩
  | _ => ⟨S8192x1792, .f32⟩

abbrev hbmTy0_1 (i : Nat) : BufTy := match i % 128 with
  | 0 => ⟨S128x128, .i32⟩
  | 1 => ⟨S128x128, .i32⟩
  | 2 => ⟨S_, .i32⟩
  | 3 => ⟨S128x128, .i32⟩
  | 4 => ⟨S128x128, .i1⟩
  | 5 => ⟨S_, .i32⟩
  | 6 => ⟨S_, .i32⟩
  | 7 => ⟨S128x128, .i32⟩
  | 8 => ⟨S128x128, .i32⟩
  | 9 => ⟨S_, .i32⟩
  | 10 => ⟨S128x128, .i32⟩
  | 11 => ⟨S128x128, .i1⟩
  | 12 => ⟨S_, .i32⟩
  | 13 => ⟨S_, .i32⟩
  | 14 => ⟨S128x128, .i32⟩
  | 15 => ⟨S128x128, .i32⟩
  | 16 => ⟨S_, .i32⟩
  | 17 => ⟨S128x128, .i32⟩
  | 18 => ⟨S128x128, .i1⟩
  | 19 => ⟨S_, .i32⟩
  | 20 => ⟨S_, .i32⟩
  | 21 => ⟨S128x128, .i32⟩
  | 22 => ⟨S128x128, .i32⟩
  | 23 => ⟨S_, .i32⟩
  | 24 => ⟨S128x128, .i32⟩
  | 25 => ⟨S128x128, .i1⟩
  | 26 => ⟨S_, .i32⟩
  | 27 => ⟨S_, .i32⟩
  | 28 => ⟨S128x128, .i32⟩
  | 29 => ⟨S128x128, .i32⟩
  | 30 => ⟨S_, .i32⟩
  | 31 => ⟨S128x128, .i32⟩
  | 32 => ⟨S128x128, .i1⟩
  | 33 => ⟨S_, .i32⟩
  | 34 => ⟨S_, .i32⟩
  | 35 => ⟨S128x128, .i32⟩
  | 36 => ⟨S128x128, .i32⟩
  | 37 => ⟨S_, .i32⟩
  | 38 => ⟨S128x128, .i32⟩
  | 39 => ⟨S128x128, .i1⟩
  | 40 => ⟨S_, .i32⟩
  | 41 => ⟨S_, .i32⟩
  | 42 => ⟨S128x128, .i32⟩
  | 43 => ⟨S128x128, .i32⟩
  | 44 => ⟨S_, .i32⟩
  | 45 => ⟨S128x128, .i32⟩
  | 46 => ⟨S128x128, .i1⟩
  | 47 => ⟨S_, .i32⟩
  | 48 => ⟨S_, .i32⟩
  | 49 => ⟨S128x128, .i32⟩
  | 50 => ⟨S128x128, .i32⟩
  | 51 => ⟨S_, .i32⟩
  | 52 => ⟨S128x128, .i32⟩
  | 53 => ⟨S128x128, .i1⟩
  | 54 => ⟨S_, .i32⟩
  | 55 => ⟨S_, .i32⟩
  | 56 => ⟨S128x128, .i32⟩
  | 57 => ⟨S128x128, .i32⟩
  | 58 => ⟨S_, .i32⟩
  | 59 => ⟨S128x128, .i32⟩
  | 60 => ⟨S128x128, .i1⟩
  | 61 => ⟨S_, .i32⟩
  | 62 => ⟨S_, .i32⟩
  | 63 => ⟨S128x128, .i32⟩
  | 64 => ⟨S128x128, .i32⟩
  | 65 => ⟨S_, .i32⟩
  | 66 => ⟨S128x128, .i32⟩
  | 67 => ⟨S128x128, .i1⟩
  | 68 => ⟨S_, .i32⟩
  | 69 => ⟨S_, .i32⟩
  | 70 => ⟨S128x128, .i32⟩
  | 71 => ⟨S128x128, .i32⟩
  | 72 => ⟨S_, .i32⟩
  | 73 => ⟨S128x128, .i32⟩
  | 74 => ⟨S128x128, .i1⟩
  | 75 => ⟨S_, .i32⟩
  | 76 => ⟨S_, .i32⟩
  | 77 => ⟨S128x128, .i32⟩
  | 78 => ⟨S128x128, .i32⟩
  | 79 => ⟨S_, .i32⟩
  | 80 => ⟨S128x128, .i32⟩
  | 81 => ⟨S128x128, .i1⟩
  | 82 => ⟨S_, .i32⟩
  | 83 => ⟨S_, .i32⟩
  | 84 => ⟨S128x128, .i32⟩
  | 85 => ⟨S128x128, .i32⟩
  | 86 => ⟨S_, .i32⟩
  | 87 => ⟨S128x128, .i32⟩
  | 88 => ⟨S128x128, .i1⟩
  | 89 => ⟨S_, .i32⟩
  | 90 => ⟨S_, .i32⟩
  | 91 => ⟨S128x128, .i32⟩
  | 92 => ⟨S128x128, .i32⟩
  | 93 => ⟨S_, .i32⟩
  | 94 => ⟨S128x128, .i32⟩
  | 95 => ⟨S128x128, .i1⟩
  | 96 => ⟨S_, .i32⟩
  | 97 => ⟨S_, .i32⟩
  | 98 => ⟨S128x128, .i32⟩
  | 99 => ⟨S128x128, .i32⟩
  | 100 => ⟨S_, .i32⟩
  | 101 => ⟨S128x128, .i32⟩
  | 102 => ⟨S128x128, .i1⟩
  | 103 => ⟨S_, .i32⟩
  | 104 => ⟨S_, .i32⟩
  | 105 => ⟨S128x128, .i32⟩
  | 106 => ⟨S128x128, .i32⟩
  | 107 => ⟨S_, .i32⟩
  | 108 => ⟨S128x128, .i32⟩
  | 109 => ⟨S128x128, .i1⟩
  | 110 => ⟨S_, .i32⟩
  | 111 => ⟨S_, .i32⟩
  | 112 => ⟨S128x128, .i32⟩
  | 113 => ⟨S128x128, .i32⟩
  | 114 => ⟨S1x128x128, .i32⟩
  | 115 => ⟨S_, .f32⟩
  | 116 => ⟨S8x128x128, .f32⟩
  | 117 => ⟨S_, .i32⟩
  | 118 => ⟨S1x128x128, .i32⟩
  | 119 => ⟨S1x128x128, .i1⟩
  | 120 => ⟨S1x8, .f32⟩
  | 121 => ⟨S8, .f32⟩
  | 122 => ⟨S8x1x1, .f32⟩
  | 123 => ⟨S8x128x128, .i1⟩
  | 124 => ⟨S8x128x128, .f32⟩
  | 125 => ⟨S8x128x128, .f32⟩
  | 126 => ⟨S_, .i32⟩
  | 127 => ⟨S1x128x128, .i32⟩
  | _ => ⟨S8192x1792, .f32⟩

abbrev hbmTy0_2 (i : Nat) : BufTy := match i % 128 with
  | 0 => ⟨S1x128x128, .i1⟩
  | 1 => ⟨S1x8, .f32⟩
  | 2 => ⟨S8, .f32⟩
  | 3 => ⟨S8x1x1, .f32⟩
  | 4 => ⟨S8x128x128, .i1⟩
  | 5 => ⟨S8x128x128, .f32⟩
  | 6 => ⟨S8x128x128, .f32⟩
  | 7 => ⟨S_, .i32⟩
  | 8 => ⟨S1x128x128, .i32⟩
  | 9 => ⟨S1x128x128, .i1⟩
  | 10 => ⟨S1x8, .f32⟩
  | 11 => ⟨S8, .f32⟩
  | 12 => ⟨S8x1x1, .f32⟩
  | 13 => ⟨S8x128x128, .i1⟩
  | 14 => ⟨S8x128x128, .f32⟩
  | 15 => ⟨S8x128x128, .f32⟩
  | 16 => ⟨S_, .i32⟩
  | 17 => ⟨S1x128x128, .i32⟩
  | 18 => ⟨S1x128x128, .i1⟩
  | 19 => ⟨S1x8, .f32⟩
  | 20 => ⟨S8, .f32⟩
  | 21 => ⟨S8x1x1, .f32⟩
  | 22 => ⟨S8x128x128, .i1⟩
  | 23 => ⟨S8x128x128, .f32⟩
  | 24 => ⟨S8x128x128, .f32⟩
  | 25 => ⟨S_, .i32⟩
  | 26 => ⟨S1x128x128, .i32⟩
  | 27 => ⟨S1x128x128, .i1⟩
  | 28 => ⟨S1x8, .f32⟩
  | 29 => ⟨S8, .f32⟩
  | 30 => ⟨S8x1x1, .f32⟩
  | 31 => ⟨S8x128x128, .i1⟩
  | 32 => ⟨S8x128x128, .f32⟩
  | 33 => ⟨S8x128x128, .f32⟩
  | 34 => ⟨S_, .i32⟩
  | 35 => ⟨S1x128x128, .i32⟩
  | 36 => ⟨S1x128x128, .i1⟩
  | 37 => ⟨S1x8, .f32⟩
  | 38 => ⟨S8, .f32⟩
  | 39 => ⟨S8x1x1, .f32⟩
  | 40 => ⟨S8x128x128, .i1⟩
  | 41 => ⟨S8x128x128, .f32⟩
  | 42 => ⟨S8x128x128, .f32⟩
  | 43 => ⟨S_, .i32⟩
  | 44 => ⟨S1x128x128, .i32⟩
  | 45 => ⟨S1x128x128, .i1⟩
  | 46 => ⟨S1x8, .f32⟩
  | 47 => ⟨S8, .f32⟩
  | 48 => ⟨S8x1x1, .f32⟩
  | 49 => ⟨S8x128x128, .i1⟩
  | 50 => ⟨S8x128x128, .f32⟩
  | 51 => ⟨S8x128x128, .f32⟩
  | 52 => ⟨S_, .i32⟩
  | 53 => ⟨S1x128x128, .i32⟩
  | 54 => ⟨S1x128x128, .i1⟩
  | 55 => ⟨S1x8, .f32⟩
  | 56 => ⟨S8, .f32⟩
  | 57 => ⟨S8x1x1, .f32⟩
  | 58 => ⟨S8x128x128, .i1⟩
  | 59 => ⟨S8x128x128, .f32⟩
  | 60 => ⟨S8x128x128, .f32⟩
  | 61 => ⟨S_, .i32⟩
  | 62 => ⟨S1x128x128, .i32⟩
  | 63 => ⟨S1x128x128, .i1⟩
  | 64 => ⟨S1x8, .f32⟩
  | 65 => ⟨S8, .f32⟩
  | 66 => ⟨S8x1x1, .f32⟩
  | 67 => ⟨S8x128x128, .i1⟩
  | 68 => ⟨S8x128x128, .f32⟩
  | 69 => ⟨S8x128x128, .f32⟩
  | 70 => ⟨S_, .i32⟩
  | 71 => ⟨S1x128x128, .i32⟩
  | 72 => ⟨S1x128x128, .i1⟩
  | 73 => ⟨S1x8, .f32⟩
  | 74 => ⟨S8, .f32⟩
  | 75 => ⟨S8x1x1, .f32⟩
  | 76 => ⟨S8x128x128, .i1⟩
  | 77 => ⟨S8x128x128, .f32⟩
  | 78 => ⟨S8x128x128, .f32⟩
  | 79 => ⟨S_, .i32⟩
  | 80 => ⟨S1x128x128, .i32⟩
  | 81 => ⟨S1x128x128, .i1⟩
  | 82 => ⟨S1x8, .f32⟩
  | 83 => ⟨S8, .f32⟩
  | 84 => ⟨S8x1x1, .f32⟩
  | 85 => ⟨S8x128x128, .i1⟩
  | 86 => ⟨S8x128x128, .f32⟩
  | 87 => ⟨S8x128x128, .f32⟩
  | 88 => ⟨S_, .i32⟩
  | 89 => ⟨S1x128x128, .i32⟩
  | 90 => ⟨S1x128x128, .i1⟩
  | 91 => ⟨S1x8, .f32⟩
  | 92 => ⟨S8, .f32⟩
  | 93 => ⟨S8x1x1, .f32⟩
  | 94 => ⟨S8x128x128, .i1⟩
  | 95 => ⟨S8x128x128, .f32⟩
  | 96 => ⟨S8x128x128, .f32⟩
  | 97 => ⟨S_, .i32⟩
  | 98 => ⟨S1x128x128, .i32⟩
  | 99 => ⟨S1x128x128, .i1⟩
  | 100 => ⟨S1x8, .f32⟩
  | 101 => ⟨S8, .f32⟩
  | 102 => ⟨S8x1x1, .f32⟩
  | 103 => ⟨S8x128x128, .i1⟩
  | 104 => ⟨S8x128x128, .f32⟩
  | 105 => ⟨S8x128x128, .f32⟩
  | 106 => ⟨S_, .i32⟩
  | 107 => ⟨S1x128x128, .i32⟩
  | 108 => ⟨S1x128x128, .i1⟩
  | 109 => ⟨S1x8, .f32⟩
  | 110 => ⟨S8, .f32⟩
  | 111 => ⟨S8x1x1, .f32⟩
  | 112 => ⟨S8x128x128, .i1⟩
  | 113 => ⟨S8x128x128, .f32⟩
  | 114 => ⟨S8x128x128, .f32⟩
  | 115 => ⟨S_, .i32⟩
  | 116 => ⟨S1x128x128, .i32⟩
  | 117 => ⟨S1x128x128, .i1⟩
  | 118 => ⟨S1x8, .f32⟩
  | 119 => ⟨S8, .f32⟩
  | 120 => ⟨S8x1x1, .f32⟩
  | 121 => ⟨S8x128x128, .i1⟩
  | 122 => ⟨S8x128x128, .f32⟩
  | 123 => ⟨S8x128x128, .f32⟩
  | 124 => ⟨S_, .i32⟩
  | 125 => ⟨S1x128x128, .i32⟩
  | 126 => ⟨S1x128x128, .i1⟩
  | 127 => ⟨S1x8, .f32⟩
  | _ => ⟨S8192x1792, .f32⟩

abbrev hbmTy0_3 (i : Nat) : BufTy := match i % 128 with
  | 0 => ⟨S8, .f32⟩
  | 1 => ⟨S8x1x1, .f32⟩
  | 2 => ⟨S8x128x128, .i1⟩
  | 3 => ⟨S8x128x128, .f32⟩
  | 4 => ⟨S8x128x128, .f32⟩
  | 5 => ⟨S_, .i32⟩
  | 6 => ⟨S1x128x128, .i32⟩
  | 7 => ⟨S1x128x128, .i1⟩
  | 8 => ⟨S1x8, .f32⟩
  | 9 => ⟨S8, .f32⟩
  | 10 => ⟨S8x1x1, .f32⟩
  | 11 => ⟨S8x128x128, .i1⟩
  | 12 => ⟨S8x128x128, .f32⟩
  | 13 => ⟨S8x128x128, .f32⟩
  | 14 => ⟨S_, .i32⟩
  | 15 => ⟨S1x128x128, .i32⟩
  | 16 => ⟨S1x128x128, .i1⟩
  | 17 => ⟨S1x8, .f32⟩
  | 18 => ⟨S8, .f32⟩
  | 19 => ⟨S8x1x1, .f32⟩
  | 20 => ⟨S8x128x128, .i1⟩
  | 21 => ⟨S8x128x128, .f32⟩
  | 22 => ⟨S8x128x128, .f32⟩
  | 23 => ⟨S_, .i32⟩
  | 24 => ⟨S1x128x128, .i32⟩
  | 25 => ⟨S1x128x128, .i1⟩
  | 26 => ⟨S1x8, .f32⟩
  | 27 => ⟨S8, .f32⟩
  | 28 => ⟨S8x1x1, .f32⟩
  | 29 => ⟨S8x128x128, .i1⟩
  | 30 => ⟨S8x128x128, .f32⟩
  | 31 => ⟨S8x128x128, .f32⟩
  | 32 => ⟨S_, .i32⟩
  | 33 => ⟨S1x128x128, .i32⟩
  | 34 => ⟨S1x128x128, .i1⟩
  | 35 => ⟨S1x8, .f32⟩
  | 36 => ⟨S8, .f32⟩
  | 37 => ⟨S8x1x1, .f32⟩
  | 38 => ⟨S8x128x128, .i1⟩
  | 39 => ⟨S8x128x128, .f32⟩
  | 40 => ⟨S8x128x128, .f32⟩
  | 41 => ⟨S_, .i32⟩
  | 42 => ⟨S1x128x128, .i32⟩
  | 43 => ⟨S1x128x128, .i1⟩
  | 44 => ⟨S1x8, .f32⟩
  | 45 => ⟨S8, .f32⟩
  | 46 => ⟨S8x1x1, .f32⟩
  | 47 => ⟨S8x128x128, .i1⟩
  | 48 => ⟨S8x128x128, .f32⟩
  | 49 => ⟨S8x128x128, .f32⟩
  | 50 => ⟨S_, .i32⟩
  | 51 => ⟨S1x128x128, .i32⟩
  | 52 => ⟨S1x128x128, .i1⟩
  | 53 => ⟨S1x8, .f32⟩
  | 54 => ⟨S8, .f32⟩
  | 55 => ⟨S8x1x1, .f32⟩
  | 56 => ⟨S8x128x128, .i1⟩
  | 57 => ⟨S8x128x128, .f32⟩
  | 58 => ⟨S8x128x128, .f32⟩
  | 59 => ⟨S_, .i32⟩
  | 60 => ⟨S1x128x128, .i32⟩
  | 61 => ⟨S1x128x128, .i1⟩
  | 62 => ⟨S1x8, .f32⟩
  | 63 => ⟨S8, .f32⟩
  | 64 => ⟨S8x1x1, .f32⟩
  | 65 => ⟨S8x128x128, .i1⟩
  | 66 => ⟨S8x128x128, .f32⟩
  | 67 => ⟨S8x128x128, .f32⟩
  | 68 => ⟨S_, .i32⟩
  | 69 => ⟨S1x128x128, .i32⟩
  | 70 => ⟨S1x128x128, .i1⟩
  | 71 => ⟨S1x8, .f32⟩
  | 72 => ⟨S8, .f32⟩
  | 73 => ⟨S8x1x1, .f32⟩
  | 74 => ⟨S8x128x128, .i1⟩
  | 75 => ⟨S8x128x128, .f32⟩
  | 76 => ⟨S8x128x128, .f32⟩
  | 77 => ⟨S_, .i32⟩
  | 78 => ⟨S1x128x128, .i32⟩
  | 79 => ⟨S1x128x128, .i1⟩
  | 80 => ⟨S1x8, .f32⟩
  | 81 => ⟨S8, .f32⟩
  | 82 => ⟨S8x1x1, .f32⟩
  | 83 => ⟨S8x128x128, .i1⟩
  | 84 => ⟨S8x128x128, .f32⟩
  | 85 => ⟨S8x128x128, .f32⟩
  | 86 => ⟨S_, .i32⟩
  | 87 => ⟨S1x128x128, .i32⟩
  | 88 => ⟨S1x128x128, .i1⟩
  | 89 => ⟨S1x8, .f32⟩
  | 90 => ⟨S8, .f32⟩
  | 91 => ⟨S8x1x1, .f32⟩
  | 92 => ⟨S8x128x128, .i1⟩
  | 93 => ⟨S8x128x128, .f32⟩
  | 94 => ⟨S8x128x128, .f32⟩
  | 95 => ⟨S_, .i32⟩
  | 96 => ⟨S1x128x128, .i32⟩
  | 97 => ⟨S1x128x128, .i1⟩
  | 98 => ⟨S1x8, .f32⟩
  | 99 => ⟨S8, .f32⟩
  | 100 => ⟨S8x1x1, .f32⟩
  | 101 => ⟨S8x128x128, .i1⟩
  | 102 => ⟨S8x128x128, .f32⟩
  | 103 => ⟨S8x128x128, .f32⟩
  | 104 => ⟨S_, .i32⟩
  | 105 => ⟨S1x128x128, .i32⟩
  | 106 => ⟨S1x128x128, .i1⟩
  | 107 => ⟨S1x8, .f32⟩
  | 108 => ⟨S8, .f32⟩
  | 109 => ⟨S8x1x1, .f32⟩
  | 110 => ⟨S8x128x128, .i1⟩
  | 111 => ⟨S8x128x128, .f32⟩
  | 112 => ⟨S8x128x128, .f32⟩
  | 113 => ⟨S_, .i32⟩
  | 114 => ⟨S1x128x128, .i32⟩
  | 115 => ⟨S1x128x128, .i1⟩
  | 116 => ⟨S1x8, .f32⟩
  | 117 => ⟨S8, .f32⟩
  | 118 => ⟨S8x1x1, .f32⟩
  | 119 => ⟨S8x128x128, .i1⟩
  | 120 => ⟨S8x128x128, .f32⟩
  | 121 => ⟨S8x128x128, .f32⟩
  | 122 => ⟨S_, .i32⟩
  | 123 => ⟨S1x128x128, .i32⟩
  | 124 => ⟨S1x128x128, .i1⟩
  | 125 => ⟨S1x8, .f32⟩
  | 126 => ⟨S8, .f32⟩
  | 127 => ⟨S8x1x1, .f32⟩
  | _ => ⟨S8192x1792, .f32⟩

abbrev hbmTy0_4 (i : Nat) : BufTy := match i % 128 with
  | 0 => ⟨S8x128x128, .i1⟩
  | 1 => ⟨S8x128x128, .f32⟩
  | 2 => ⟨S8x128x128, .f32⟩
  | 3 => ⟨S_, .i32⟩
  | 4 => ⟨S1x128x128, .i32⟩
  | 5 => ⟨S1x128x128, .i1⟩
  | 6 => ⟨S1x8, .f32⟩
  | 7 => ⟨S8, .f32⟩
  | 8 => ⟨S8x1x1, .f32⟩
  | 9 => ⟨S8x128x128, .i1⟩
  | 10 => ⟨S8x128x128, .f32⟩
  | 11 => ⟨S8x128x128, .f32⟩
  | 12 => ⟨S_, .i32⟩
  | 13 => ⟨S1x128x128, .i32⟩
  | 14 => ⟨S1x128x128, .i1⟩
  | 15 => ⟨S1x8, .f32⟩
  | 16 => ⟨S8, .f32⟩
  | 17 => ⟨S8x1x1, .f32⟩
  | 18 => ⟨S8x128x128, .i1⟩
  | 19 => ⟨S8x128x128, .f32⟩
  | 20 => ⟨S8x128x128, .f32⟩
  | 21 => ⟨S2x512x128, .f32⟩
  | 22 => ⟨S8x128, .f32⟩
  | 23 => ⟨S1024, .f32⟩
  | 24 => ⟨S2x512x1, .f32⟩
  | 25 => ⟨S1x64, .f32⟩
  | 26 => ⟨S1x64, .f32⟩
  | 27 => ⟨S8192x512, .bf16⟩
  | 28 => ⟨S8704x256, .bf16⟩
  | 29 => ⟨S2x512x128, .f32⟩
  | 30 => ⟨S8x128, .f32⟩
  | _ => ⟨S8192x1792, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x1792, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S128x128, .f32⟩
  | .local _ .vmem, ⟨5, _⟩ => ⟨S128x128, .f32⟩
  | .local _ .vmem, ⟨6, _⟩ => ⟨S512x128, .f32⟩
  | .local _ .vmem, ⟨7, _⟩ => ⟨S512x128, .f32⟩
  | .local _ .vmem, ⟨8, _⟩ => ⟨S128x128, .f32⟩
  | .local _ .vmem, ⟨9, _⟩ => ⟨S128x128, .f32⟩
  | .local _ .vmem, ⟨10, _⟩ => ⟨S512x512, .f32⟩
  | .local _ .vmem, ⟨11, _⟩ => ⟨S512x512, .f32⟩
  | .local _ .vmem, ⟨12, _⟩ => ⟨S2x512x128, .f32⟩
  | .local _ .vmem, ⟨13, _⟩ => ⟨S2x512x1, .f32⟩
  | .local _ .vmem, ⟨14, _⟩ => ⟨S1x64, .f32⟩
  | .local _ .vmem, ⟨15, _⟩ => ⟨S1x64, .f32⟩
  | .local _ .vmem, ⟨16, _⟩ => ⟨S512x512, .bf16⟩
  | .local _ .vmem, ⟨17, _⟩ => ⟨S512x512, .bf16⟩
  | .local _ .vmem, ⟨18, _⟩ => ⟨S512x256, .bf16⟩
  | .local _ .vmem, ⟨19, _⟩ => ⟨S512x256, .bf16⟩
  | .local _ .vmem, ⟨20, _⟩ => ⟨S2x512x128, .f32⟩
  | .local _ .vmem, ⟨21, _⟩ => ⟨S8x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_call2_v0 : Ref sig .tc := ⟨.hbm, 36, rfl⟩
abbrev main_call2_v1 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_call3_v0 : Ref sig .tc := ⟨.hbm, 43, rfl⟩
abbrev main_call3_v1 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_call4_v0 : Ref sig .tc := ⟨.hbm, 50, rfl⟩
abbrev main_call4_v1 : Ref sig .tc := ⟨.hbm, 51, rfl⟩
abbrev main_v28 : Ref sig .tc := ⟨.hbm, 52, rfl⟩
abbrev main_c_9 : Ref sig .tc := ⟨.hbm, 53, rfl⟩
abbrev main_v29 : Ref sig .tc := ⟨.hbm, 54, rfl⟩
abbrev main_v30 : Ref sig .tc := ⟨.hbm, 55, rfl⟩
abbrev main_c_10 : Ref sig .tc := ⟨.hbm, 56, rfl⟩
abbrev main_call5_v0 : Ref sig .tc := ⟨.hbm, 57, rfl⟩
abbrev main_call5_v1 : Ref sig .tc := ⟨.hbm, 58, rfl⟩
abbrev main_v31 : Ref sig .tc := ⟨.hbm, 59, rfl⟩
abbrev main_c_11 : Ref sig .tc := ⟨.hbm, 60, rfl⟩
abbrev main_v32 : Ref sig .tc := ⟨.hbm, 61, rfl⟩
abbrev main_v33 : Ref sig .tc := ⟨.hbm, 62, rfl⟩
abbrev main_c_12 : Ref sig .tc := ⟨.hbm, 63, rfl⟩
abbrev main_call6_v0 : Ref sig .tc := ⟨.hbm, 64, rfl⟩
abbrev main_call6_v1 : Ref sig .tc := ⟨.hbm, 65, rfl⟩
abbrev main_v34 : Ref sig .tc := ⟨.hbm, 66, rfl⟩
abbrev main_c_13 : Ref sig .tc := ⟨.hbm, 67, rfl⟩
abbrev main_v35 : Ref sig .tc := ⟨.hbm, 68, rfl⟩
abbrev main_v36 : Ref sig .tc := ⟨.hbm, 69, rfl⟩
abbrev main_c_14 : Ref sig .tc := ⟨.hbm, 70, rfl⟩
abbrev main_call7_v0 : Ref sig .tc := ⟨.hbm, 71, rfl⟩
abbrev main_call7_v1 : Ref sig .tc := ⟨.hbm, 72, rfl⟩
abbrev main_v37 : Ref sig .tc := ⟨.hbm, 73, rfl⟩
abbrev main_c_15 : Ref sig .tc := ⟨.hbm, 74, rfl⟩
abbrev main_v38 : Ref sig .tc := ⟨.hbm, 75, rfl⟩
abbrev main_v39 : Ref sig .tc := ⟨.hbm, 76, rfl⟩
abbrev main_c_16 : Ref sig .tc := ⟨.hbm, 77, rfl⟩
abbrev main_call8_v0 : Ref sig .tc := ⟨.hbm, 78, rfl⟩
abbrev main_call8_v1 : Ref sig .tc := ⟨.hbm, 79, rfl⟩
abbrev main_v40 : Ref sig .tc := ⟨.hbm, 80, rfl⟩
abbrev main_c_17 : Ref sig .tc := ⟨.hbm, 81, rfl⟩
abbrev main_v41 : Ref sig .tc := ⟨.hbm, 82, rfl⟩
abbrev main_v42 : Ref sig .tc := ⟨.hbm, 83, rfl⟩
abbrev main_c_18 : Ref sig .tc := ⟨.hbm, 84, rfl⟩
abbrev main_call9_v0 : Ref sig .tc := ⟨.hbm, 85, rfl⟩
abbrev main_call9_v1 : Ref sig .tc := ⟨.hbm, 86, rfl⟩
abbrev main_v43 : Ref sig .tc := ⟨.hbm, 87, rfl⟩
abbrev main_c_19 : Ref sig .tc := ⟨.hbm, 88, rfl⟩
abbrev main_v44 : Ref sig .tc := ⟨.hbm, 89, rfl⟩
abbrev main_v45 : Ref sig .tc := ⟨.hbm, 90, rfl⟩
abbrev main_c_20 : Ref sig .tc := ⟨.hbm, 91, rfl⟩
abbrev main_call10_v0 : Ref sig .tc := ⟨.hbm, 92, rfl⟩
abbrev main_call10_v1 : Ref sig .tc := ⟨.hbm, 93, rfl⟩
abbrev main_v46 : Ref sig .tc := ⟨.hbm, 94, rfl⟩
abbrev main_c_21 : Ref sig .tc := ⟨.hbm, 95, rfl⟩
abbrev main_v47 : Ref sig .tc := ⟨.hbm, 96, rfl⟩
abbrev main_v48 : Ref sig .tc := ⟨.hbm, 97, rfl⟩
abbrev main_c_22 : Ref sig .tc := ⟨.hbm, 98, rfl⟩
abbrev main_call11_v0 : Ref sig .tc := ⟨.hbm, 99, rfl⟩
abbrev main_call11_v1 : Ref sig .tc := ⟨.hbm, 100, rfl⟩
abbrev main_v49 : Ref sig .tc := ⟨.hbm, 101, rfl⟩
abbrev main_c_23 : Ref sig .tc := ⟨.hbm, 102, rfl⟩
abbrev main_v50 : Ref sig .tc := ⟨.hbm, 103, rfl⟩
abbrev main_v51 : Ref sig .tc := ⟨.hbm, 104, rfl⟩
abbrev main_c_24 : Ref sig .tc := ⟨.hbm, 105, rfl⟩
abbrev main_call12_v0 : Ref sig .tc := ⟨.hbm, 106, rfl⟩
abbrev main_call12_v1 : Ref sig .tc := ⟨.hbm, 107, rfl⟩
abbrev main_v52 : Ref sig .tc := ⟨.hbm, 108, rfl⟩
abbrev main_c_25 : Ref sig .tc := ⟨.hbm, 109, rfl⟩
abbrev main_v53 : Ref sig .tc := ⟨.hbm, 110, rfl⟩
abbrev main_v54 : Ref sig .tc := ⟨.hbm, 111, rfl⟩
abbrev main_c_26 : Ref sig .tc := ⟨.hbm, 112, rfl⟩
abbrev main_call13_v0 : Ref sig .tc := ⟨.hbm, 113, rfl⟩
abbrev main_call13_v1 : Ref sig .tc := ⟨.hbm, 114, rfl⟩
abbrev main_v55 : Ref sig .tc := ⟨.hbm, 115, rfl⟩
abbrev main_c_27 : Ref sig .tc := ⟨.hbm, 116, rfl⟩
abbrev main_v56 : Ref sig .tc := ⟨.hbm, 117, rfl⟩
abbrev main_v57 : Ref sig .tc := ⟨.hbm, 118, rfl⟩
abbrev main_c_28 : Ref sig .tc := ⟨.hbm, 119, rfl⟩
abbrev main_call14_v0 : Ref sig .tc := ⟨.hbm, 120, rfl⟩
abbrev main_call14_v1 : Ref sig .tc := ⟨.hbm, 121, rfl⟩
abbrev main_v58 : Ref sig .tc := ⟨.hbm, 122, rfl⟩
abbrev main_c_29 : Ref sig .tc := ⟨.hbm, 123, rfl⟩
abbrev main_v59 : Ref sig .tc := ⟨.hbm, 124, rfl⟩
abbrev main_v60 : Ref sig .tc := ⟨.hbm, 125, rfl⟩
abbrev main_c_30 : Ref sig .tc := ⟨.hbm, 126, rfl⟩
abbrev main_call15_v0 : Ref sig .tc := ⟨.hbm, 127, rfl⟩
abbrev main_call15_v1 : Ref sig .tc := ⟨.hbm, 128, rfl⟩
abbrev main_v61 : Ref sig .tc := ⟨.hbm, 129, rfl⟩
abbrev main_c_31 : Ref sig .tc := ⟨.hbm, 130, rfl⟩
abbrev main_v62 : Ref sig .tc := ⟨.hbm, 131, rfl⟩
abbrev main_v63 : Ref sig .tc := ⟨.hbm, 132, rfl⟩
abbrev main_c_32 : Ref sig .tc := ⟨.hbm, 133, rfl⟩
abbrev main_call16_v0 : Ref sig .tc := ⟨.hbm, 134, rfl⟩
abbrev main_call16_v1 : Ref sig .tc := ⟨.hbm, 135, rfl⟩
abbrev main_v64 : Ref sig .tc := ⟨.hbm, 136, rfl⟩
abbrev main_c_33 : Ref sig .tc := ⟨.hbm, 137, rfl⟩
abbrev main_v65 : Ref sig .tc := ⟨.hbm, 138, rfl⟩
abbrev main_v66 : Ref sig .tc := ⟨.hbm, 139, rfl⟩
abbrev main_c_34 : Ref sig .tc := ⟨.hbm, 140, rfl⟩
abbrev main_call17_v0 : Ref sig .tc := ⟨.hbm, 141, rfl⟩
abbrev main_call17_v1 : Ref sig .tc := ⟨.hbm, 142, rfl⟩
abbrev main_v67 : Ref sig .tc := ⟨.hbm, 143, rfl⟩
abbrev main_c_35 : Ref sig .tc := ⟨.hbm, 144, rfl⟩
abbrev main_v68 : Ref sig .tc := ⟨.hbm, 145, rfl⟩
abbrev main_v69 : Ref sig .tc := ⟨.hbm, 146, rfl⟩
abbrev main_c_36 : Ref sig .tc := ⟨.hbm, 147, rfl⟩
abbrev main_call18_v0 : Ref sig .tc := ⟨.hbm, 148, rfl⟩
abbrev main_call18_v1 : Ref sig .tc := ⟨.hbm, 149, rfl⟩
abbrev main_v70 : Ref sig .tc := ⟨.hbm, 150, rfl⟩
abbrev main_c_37 : Ref sig .tc := ⟨.hbm, 151, rfl⟩
abbrev main_v71 : Ref sig .tc := ⟨.hbm, 152, rfl⟩
abbrev main_v72 : Ref sig .tc := ⟨.hbm, 153, rfl⟩
abbrev main_c_38 : Ref sig .tc := ⟨.hbm, 154, rfl⟩
abbrev main_call19_v0 : Ref sig .tc := ⟨.hbm, 155, rfl⟩
abbrev main_call19_v1 : Ref sig .tc := ⟨.hbm, 156, rfl⟩
abbrev main_v73 : Ref sig .tc := ⟨.hbm, 157, rfl⟩
abbrev main_c_39 : Ref sig .tc := ⟨.hbm, 158, rfl⟩
abbrev main_v74 : Ref sig .tc := ⟨.hbm, 159, rfl⟩
abbrev main_v75 : Ref sig .tc := ⟨.hbm, 160, rfl⟩
abbrev main_c_40 : Ref sig .tc := ⟨.hbm, 161, rfl⟩
abbrev main_call20_v0 : Ref sig .tc := ⟨.hbm, 162, rfl⟩
abbrev main_call20_v1 : Ref sig .tc := ⟨.hbm, 163, rfl⟩
abbrev main_v76 : Ref sig .tc := ⟨.hbm, 164, rfl⟩
abbrev main_c_41 : Ref sig .tc := ⟨.hbm, 165, rfl⟩
abbrev main_v77 : Ref sig .tc := ⟨.hbm, 166, rfl⟩
abbrev main_v78 : Ref sig .tc := ⟨.hbm, 167, rfl⟩
abbrev main_c_42 : Ref sig .tc := ⟨.hbm, 168, rfl⟩
abbrev main_call21_v0 : Ref sig .tc := ⟨.hbm, 169, rfl⟩
abbrev main_call21_v1 : Ref sig .tc := ⟨.hbm, 170, rfl⟩
abbrev main_v79 : Ref sig .tc := ⟨.hbm, 171, rfl⟩
abbrev main_c_43 : Ref sig .tc := ⟨.hbm, 172, rfl⟩
abbrev main_v80 : Ref sig .tc := ⟨.hbm, 173, rfl⟩
abbrev main_v81 : Ref sig .tc := ⟨.hbm, 174, rfl⟩
abbrev main_c_44 : Ref sig .tc := ⟨.hbm, 175, rfl⟩
abbrev main_call22_v0 : Ref sig .tc := ⟨.hbm, 176, rfl⟩
abbrev main_call22_v1 : Ref sig .tc := ⟨.hbm, 177, rfl⟩
abbrev main_v82 : Ref sig .tc := ⟨.hbm, 178, rfl⟩
abbrev main_c_45 : Ref sig .tc := ⟨.hbm, 179, rfl⟩
abbrev main_v83 : Ref sig .tc := ⟨.hbm, 180, rfl⟩
abbrev main_v84 : Ref sig .tc := ⟨.hbm, 181, rfl⟩
abbrev main_c_46 : Ref sig .tc := ⟨.hbm, 182, rfl⟩
abbrev main_call23_v0 : Ref sig .tc := ⟨.hbm, 183, rfl⟩
abbrev main_call23_v1 : Ref sig .tc := ⟨.hbm, 184, rfl⟩
abbrev main_v85 : Ref sig .tc := ⟨.hbm, 185, rfl⟩
abbrev main_c_47 : Ref sig .tc := ⟨.hbm, 186, rfl⟩
abbrev main_v86 : Ref sig .tc := ⟨.hbm, 187, rfl⟩
abbrev main_v87 : Ref sig .tc := ⟨.hbm, 188, rfl⟩
abbrev main_c_48 : Ref sig .tc := ⟨.hbm, 189, rfl⟩
abbrev main_call24_v0 : Ref sig .tc := ⟨.hbm, 190, rfl⟩
abbrev main_call24_v1 : Ref sig .tc := ⟨.hbm, 191, rfl⟩
abbrev main_v88 : Ref sig .tc := ⟨.hbm, 192, rfl⟩
abbrev main_c_49 : Ref sig .tc := ⟨.hbm, 193, rfl⟩
abbrev main_v89 : Ref sig .tc := ⟨.hbm, 194, rfl⟩
abbrev main_v90 : Ref sig .tc := ⟨.hbm, 195, rfl⟩
abbrev main_c_50 : Ref sig .tc := ⟨.hbm, 196, rfl⟩
abbrev main_call25_v0 : Ref sig .tc := ⟨.hbm, 197, rfl⟩
abbrev main_call25_v1 : Ref sig .tc := ⟨.hbm, 198, rfl⟩
abbrev main_v91 : Ref sig .tc := ⟨.hbm, 199, rfl⟩
abbrev main_c_51 : Ref sig .tc := ⟨.hbm, 200, rfl⟩
abbrev main_v92 : Ref sig .tc := ⟨.hbm, 201, rfl⟩
abbrev main_v93 : Ref sig .tc := ⟨.hbm, 202, rfl⟩
abbrev main_c_52 : Ref sig .tc := ⟨.hbm, 203, rfl⟩
abbrev main_call26_v0 : Ref sig .tc := ⟨.hbm, 204, rfl⟩
abbrev main_call26_v1 : Ref sig .tc := ⟨.hbm, 205, rfl⟩
abbrev main_v94 : Ref sig .tc := ⟨.hbm, 206, rfl⟩
abbrev main_c_53 : Ref sig .tc := ⟨.hbm, 207, rfl⟩
abbrev main_v95 : Ref sig .tc := ⟨.hbm, 208, rfl⟩
abbrev main_v96 : Ref sig .tc := ⟨.hbm, 209, rfl⟩
abbrev main_c_54 : Ref sig .tc := ⟨.hbm, 210, rfl⟩
abbrev main_call27_v0 : Ref sig .tc := ⟨.hbm, 211, rfl⟩
abbrev main_call27_v1 : Ref sig .tc := ⟨.hbm, 212, rfl⟩
abbrev main_v97 : Ref sig .tc := ⟨.hbm, 213, rfl⟩
abbrev main_c_55 : Ref sig .tc := ⟨.hbm, 214, rfl⟩
abbrev main_v98 : Ref sig .tc := ⟨.hbm, 215, rfl⟩
abbrev main_v99 : Ref sig .tc := ⟨.hbm, 216, rfl⟩
abbrev main_c_56 : Ref sig .tc := ⟨.hbm, 217, rfl⟩
abbrev main_call28_v0 : Ref sig .tc := ⟨.hbm, 218, rfl⟩
abbrev main_call28_v1 : Ref sig .tc := ⟨.hbm, 219, rfl⟩
abbrev main_v100 : Ref sig .tc := ⟨.hbm, 220, rfl⟩
abbrev main_c_57 : Ref sig .tc := ⟨.hbm, 221, rfl⟩
abbrev main_v101 : Ref sig .tc := ⟨.hbm, 222, rfl⟩
abbrev main_v102 : Ref sig .tc := ⟨.hbm, 223, rfl⟩
abbrev main_c_58 : Ref sig .tc := ⟨.hbm, 224, rfl⟩
abbrev main_call29_v0 : Ref sig .tc := ⟨.hbm, 225, rfl⟩
abbrev main_call29_v1 : Ref sig .tc := ⟨.hbm, 226, rfl⟩
abbrev main_v103 : Ref sig .tc := ⟨.hbm, 227, rfl⟩
abbrev main_c_59 : Ref sig .tc := ⟨.hbm, 228, rfl⟩
abbrev main_v104 : Ref sig .tc := ⟨.hbm, 229, rfl⟩
abbrev main_v105 : Ref sig .tc := ⟨.hbm, 230, rfl⟩
abbrev main_c_60 : Ref sig .tc := ⟨.hbm, 231, rfl⟩
abbrev main_call30_v0 : Ref sig .tc := ⟨.hbm, 232, rfl⟩
abbrev main_call30_v1 : Ref sig .tc := ⟨.hbm, 233, rfl⟩
abbrev main_v106 : Ref sig .tc := ⟨.hbm, 234, rfl⟩
abbrev main_c_61 : Ref sig .tc := ⟨.hbm, 235, rfl⟩
abbrev main_v107 : Ref sig .tc := ⟨.hbm, 236, rfl⟩
abbrev main_v108 : Ref sig .tc := ⟨.hbm, 237, rfl⟩
abbrev main_c_62 : Ref sig .tc := ⟨.hbm, 238, rfl⟩
abbrev main_call31_v0 : Ref sig .tc := ⟨.hbm, 239, rfl⟩
abbrev main_call31_v1 : Ref sig .tc := ⟨.hbm, 240, rfl⟩
abbrev main_v109 : Ref sig .tc := ⟨.hbm, 241, rfl⟩
abbrev main_v110 : Ref sig .tc := ⟨.hbm, 242, rfl⟩
abbrev main_cst : Ref sig .tc := ⟨.hbm, 243, rfl⟩
abbrev main_v111 : Ref sig .tc := ⟨.hbm, 244, rfl⟩
abbrev main_c_63 : Ref sig .tc := ⟨.hbm, 245, rfl⟩
abbrev main_v112 : Ref sig .tc := ⟨.hbm, 246, rfl⟩
abbrev main_v113 : Ref sig .tc := ⟨.hbm, 247, rfl⟩
abbrev main_v114 : Ref sig .tc := ⟨.hbm, 248, rfl⟩
abbrev main_v115 : Ref sig .tc := ⟨.hbm, 249, rfl⟩
abbrev main_v116 : Ref sig .tc := ⟨.hbm, 250, rfl⟩
abbrev main_call32_v0 : Ref sig .tc := ⟨.hbm, 251, rfl⟩
abbrev main_call32_v1 : Ref sig .tc := ⟨.hbm, 252, rfl⟩
abbrev main_v117 : Ref sig .tc := ⟨.hbm, 253, rfl⟩
abbrev main_c_64 : Ref sig .tc := ⟨.hbm, 254, rfl⟩
abbrev main_v118 : Ref sig .tc := ⟨.hbm, 255, rfl⟩
abbrev main_v119 : Ref sig .tc := ⟨.hbm, 256, rfl⟩
abbrev main_v120 : Ref sig .tc := ⟨.hbm, 257, rfl⟩
abbrev main_v121 : Ref sig .tc := ⟨.hbm, 258, rfl⟩
abbrev main_v122 : Ref sig .tc := ⟨.hbm, 259, rfl⟩
abbrev main_call33_v0 : Ref sig .tc := ⟨.hbm, 260, rfl⟩
abbrev main_call33_v1 : Ref sig .tc := ⟨.hbm, 261, rfl⟩
abbrev main_v123 : Ref sig .tc := ⟨.hbm, 262, rfl⟩
abbrev main_c_65 : Ref sig .tc := ⟨.hbm, 263, rfl⟩
abbrev main_v124 : Ref sig .tc := ⟨.hbm, 264, rfl⟩
abbrev main_v125 : Ref sig .tc := ⟨.hbm, 265, rfl⟩
abbrev main_v126 : Ref sig .tc := ⟨.hbm, 266, rfl⟩
abbrev main_v127 : Ref sig .tc := ⟨.hbm, 267, rfl⟩
abbrev main_v128 : Ref sig .tc := ⟨.hbm, 268, rfl⟩
abbrev main_call34_v0 : Ref sig .tc := ⟨.hbm, 269, rfl⟩
abbrev main_call34_v1 : Ref sig .tc := ⟨.hbm, 270, rfl⟩
abbrev main_v129 : Ref sig .tc := ⟨.hbm, 271, rfl⟩
abbrev main_c_66 : Ref sig .tc := ⟨.hbm, 272, rfl⟩
abbrev main_v130 : Ref sig .tc := ⟨.hbm, 273, rfl⟩
abbrev main_v131 : Ref sig .tc := ⟨.hbm, 274, rfl⟩
abbrev main_v132 : Ref sig .tc := ⟨.hbm, 275, rfl⟩
abbrev main_v133 : Ref sig .tc := ⟨.hbm, 276, rfl⟩
abbrev main_v134 : Ref sig .tc := ⟨.hbm, 277, rfl⟩
abbrev main_call35_v0 : Ref sig .tc := ⟨.hbm, 278, rfl⟩
abbrev main_call35_v1 : Ref sig .tc := ⟨.hbm, 279, rfl⟩
abbrev main_v135 : Ref sig .tc := ⟨.hbm, 280, rfl⟩
abbrev main_c_67 : Ref sig .tc := ⟨.hbm, 281, rfl⟩
abbrev main_v136 : Ref sig .tc := ⟨.hbm, 282, rfl⟩
abbrev main_v137 : Ref sig .tc := ⟨.hbm, 283, rfl⟩
abbrev main_v138 : Ref sig .tc := ⟨.hbm, 284, rfl⟩
abbrev main_v139 : Ref sig .tc := ⟨.hbm, 285, rfl⟩
abbrev main_v140 : Ref sig .tc := ⟨.hbm, 286, rfl⟩
abbrev main_call36_v0 : Ref sig .tc := ⟨.hbm, 287, rfl⟩
abbrev main_call36_v1 : Ref sig .tc := ⟨.hbm, 288, rfl⟩
abbrev main_v141 : Ref sig .tc := ⟨.hbm, 289, rfl⟩
abbrev main_c_68 : Ref sig .tc := ⟨.hbm, 290, rfl⟩
abbrev main_v142 : Ref sig .tc := ⟨.hbm, 291, rfl⟩
abbrev main_v143 : Ref sig .tc := ⟨.hbm, 292, rfl⟩
abbrev main_v144 : Ref sig .tc := ⟨.hbm, 293, rfl⟩
abbrev main_v145 : Ref sig .tc := ⟨.hbm, 294, rfl⟩
abbrev main_v146 : Ref sig .tc := ⟨.hbm, 295, rfl⟩
abbrev main_call37_v0 : Ref sig .tc := ⟨.hbm, 296, rfl⟩
abbrev main_call37_v1 : Ref sig .tc := ⟨.hbm, 297, rfl⟩
abbrev main_v147 : Ref sig .tc := ⟨.hbm, 298, rfl⟩
abbrev main_c_69 : Ref sig .tc := ⟨.hbm, 299, rfl⟩
abbrev main_v148 : Ref sig .tc := ⟨.hbm, 300, rfl⟩
abbrev main_v149 : Ref sig .tc := ⟨.hbm, 301, rfl⟩
abbrev main_v150 : Ref sig .tc := ⟨.hbm, 302, rfl⟩
abbrev main_v151 : Ref sig .tc := ⟨.hbm, 303, rfl⟩
abbrev main_v152 : Ref sig .tc := ⟨.hbm, 304, rfl⟩
abbrev main_call38_v0 : Ref sig .tc := ⟨.hbm, 305, rfl⟩
abbrev main_call38_v1 : Ref sig .tc := ⟨.hbm, 306, rfl⟩
abbrev main_v153 : Ref sig .tc := ⟨.hbm, 307, rfl⟩
abbrev main_c_70 : Ref sig .tc := ⟨.hbm, 308, rfl⟩
abbrev main_v154 : Ref sig .tc := ⟨.hbm, 309, rfl⟩
abbrev main_v155 : Ref sig .tc := ⟨.hbm, 310, rfl⟩
abbrev main_v156 : Ref sig .tc := ⟨.hbm, 311, rfl⟩
abbrev main_v157 : Ref sig .tc := ⟨.hbm, 312, rfl⟩
abbrev main_v158 : Ref sig .tc := ⟨.hbm, 313, rfl⟩
abbrev main_call39_v0 : Ref sig .tc := ⟨.hbm, 314, rfl⟩
abbrev main_call39_v1 : Ref sig .tc := ⟨.hbm, 315, rfl⟩
abbrev main_v159 : Ref sig .tc := ⟨.hbm, 316, rfl⟩
abbrev main_c_71 : Ref sig .tc := ⟨.hbm, 317, rfl⟩
abbrev main_v160 : Ref sig .tc := ⟨.hbm, 318, rfl⟩
abbrev main_v161 : Ref sig .tc := ⟨.hbm, 319, rfl⟩
abbrev main_v162 : Ref sig .tc := ⟨.hbm, 320, rfl⟩
abbrev main_v163 : Ref sig .tc := ⟨.hbm, 321, rfl⟩
abbrev main_v164 : Ref sig .tc := ⟨.hbm, 322, rfl⟩
abbrev main_call40_v0 : Ref sig .tc := ⟨.hbm, 323, rfl⟩
abbrev main_call40_v1 : Ref sig .tc := ⟨.hbm, 324, rfl⟩
abbrev main_v165 : Ref sig .tc := ⟨.hbm, 325, rfl⟩
abbrev main_c_72 : Ref sig .tc := ⟨.hbm, 326, rfl⟩
abbrev main_v166 : Ref sig .tc := ⟨.hbm, 327, rfl⟩
abbrev main_v167 : Ref sig .tc := ⟨.hbm, 328, rfl⟩
abbrev main_v168 : Ref sig .tc := ⟨.hbm, 329, rfl⟩
abbrev main_v169 : Ref sig .tc := ⟨.hbm, 330, rfl⟩
abbrev main_v170 : Ref sig .tc := ⟨.hbm, 331, rfl⟩
abbrev main_call41_v0 : Ref sig .tc := ⟨.hbm, 332, rfl⟩
abbrev main_call41_v1 : Ref sig .tc := ⟨.hbm, 333, rfl⟩
abbrev main_v171 : Ref sig .tc := ⟨.hbm, 334, rfl⟩
abbrev main_c_73 : Ref sig .tc := ⟨.hbm, 335, rfl⟩
abbrev main_v172 : Ref sig .tc := ⟨.hbm, 336, rfl⟩
abbrev main_v173 : Ref sig .tc := ⟨.hbm, 337, rfl⟩
abbrev main_v174 : Ref sig .tc := ⟨.hbm, 338, rfl⟩
abbrev main_v175 : Ref sig .tc := ⟨.hbm, 339, rfl⟩
abbrev main_v176 : Ref sig .tc := ⟨.hbm, 340, rfl⟩
abbrev main_call42_v0 : Ref sig .tc := ⟨.hbm, 341, rfl⟩
abbrev main_call42_v1 : Ref sig .tc := ⟨.hbm, 342, rfl⟩
abbrev main_v177 : Ref sig .tc := ⟨.hbm, 343, rfl⟩
abbrev main_c_74 : Ref sig .tc := ⟨.hbm, 344, rfl⟩
abbrev main_v178 : Ref sig .tc := ⟨.hbm, 345, rfl⟩
abbrev main_v179 : Ref sig .tc := ⟨.hbm, 346, rfl⟩
abbrev main_v180 : Ref sig .tc := ⟨.hbm, 347, rfl⟩
abbrev main_v181 : Ref sig .tc := ⟨.hbm, 348, rfl⟩
abbrev main_v182 : Ref sig .tc := ⟨.hbm, 349, rfl⟩
abbrev main_call43_v0 : Ref sig .tc := ⟨.hbm, 350, rfl⟩
abbrev main_call43_v1 : Ref sig .tc := ⟨.hbm, 351, rfl⟩
abbrev main_v183 : Ref sig .tc := ⟨.hbm, 352, rfl⟩
abbrev main_c_75 : Ref sig .tc := ⟨.hbm, 353, rfl⟩
abbrev main_v184 : Ref sig .tc := ⟨.hbm, 354, rfl⟩
abbrev main_v185 : Ref sig .tc := ⟨.hbm, 355, rfl⟩
abbrev main_v186 : Ref sig .tc := ⟨.hbm, 356, rfl⟩
abbrev main_v187 : Ref sig .tc := ⟨.hbm, 357, rfl⟩
abbrev main_v188 : Ref sig .tc := ⟨.hbm, 358, rfl⟩
abbrev main_call44_v0 : Ref sig .tc := ⟨.hbm, 359, rfl⟩
abbrev main_call44_v1 : Ref sig .tc := ⟨.hbm, 360, rfl⟩
abbrev main_v189 : Ref sig .tc := ⟨.hbm, 361, rfl⟩
abbrev main_c_76 : Ref sig .tc := ⟨.hbm, 362, rfl⟩
abbrev main_v190 : Ref sig .tc := ⟨.hbm, 363, rfl⟩
abbrev main_v191 : Ref sig .tc := ⟨.hbm, 364, rfl⟩
abbrev main_v192 : Ref sig .tc := ⟨.hbm, 365, rfl⟩
abbrev main_v193 : Ref sig .tc := ⟨.hbm, 366, rfl⟩
abbrev main_v194 : Ref sig .tc := ⟨.hbm, 367, rfl⟩
abbrev main_call45_v0 : Ref sig .tc := ⟨.hbm, 368, rfl⟩
abbrev main_call45_v1 : Ref sig .tc := ⟨.hbm, 369, rfl⟩
abbrev main_v195 : Ref sig .tc := ⟨.hbm, 370, rfl⟩
abbrev main_c_77 : Ref sig .tc := ⟨.hbm, 371, rfl⟩
abbrev main_v196 : Ref sig .tc := ⟨.hbm, 372, rfl⟩
abbrev main_v197 : Ref sig .tc := ⟨.hbm, 373, rfl⟩
abbrev main_v198 : Ref sig .tc := ⟨.hbm, 374, rfl⟩
abbrev main_v199 : Ref sig .tc := ⟨.hbm, 375, rfl⟩
abbrev main_v200 : Ref sig .tc := ⟨.hbm, 376, rfl⟩
abbrev main_call46_v0 : Ref sig .tc := ⟨.hbm, 377, rfl⟩
abbrev main_call46_v1 : Ref sig .tc := ⟨.hbm, 378, rfl⟩
abbrev main_v201 : Ref sig .tc := ⟨.hbm, 379, rfl⟩
abbrev main_c_78 : Ref sig .tc := ⟨.hbm, 380, rfl⟩
abbrev main_v202 : Ref sig .tc := ⟨.hbm, 381, rfl⟩
abbrev main_v203 : Ref sig .tc := ⟨.hbm, 382, rfl⟩
abbrev main_v204 : Ref sig .tc := ⟨.hbm, 383, rfl⟩
abbrev main_v205 : Ref sig .tc := ⟨.hbm, 384, rfl⟩
abbrev main_v206 : Ref sig .tc := ⟨.hbm, 385, rfl⟩
abbrev main_call47_v0 : Ref sig .tc := ⟨.hbm, 386, rfl⟩
abbrev main_call47_v1 : Ref sig .tc := ⟨.hbm, 387, rfl⟩
abbrev main_v207 : Ref sig .tc := ⟨.hbm, 388, rfl⟩
abbrev main_c_79 : Ref sig .tc := ⟨.hbm, 389, rfl⟩
abbrev main_v208 : Ref sig .tc := ⟨.hbm, 390, rfl⟩
abbrev main_v209 : Ref sig .tc := ⟨.hbm, 391, rfl⟩
abbrev main_v210 : Ref sig .tc := ⟨.hbm, 392, rfl⟩
abbrev main_v211 : Ref sig .tc := ⟨.hbm, 393, rfl⟩
abbrev main_v212 : Ref sig .tc := ⟨.hbm, 394, rfl⟩
abbrev main_call48_v0 : Ref sig .tc := ⟨.hbm, 395, rfl⟩
abbrev main_call48_v1 : Ref sig .tc := ⟨.hbm, 396, rfl⟩
abbrev main_v213 : Ref sig .tc := ⟨.hbm, 397, rfl⟩
abbrev main_c_80 : Ref sig .tc := ⟨.hbm, 398, rfl⟩
abbrev main_v214 : Ref sig .tc := ⟨.hbm, 399, rfl⟩
abbrev main_v215 : Ref sig .tc := ⟨.hbm, 400, rfl⟩
abbrev main_v216 : Ref sig .tc := ⟨.hbm, 401, rfl⟩
abbrev main_v217 : Ref sig .tc := ⟨.hbm, 402, rfl⟩
abbrev main_v218 : Ref sig .tc := ⟨.hbm, 403, rfl⟩
abbrev main_call49_v0 : Ref sig .tc := ⟨.hbm, 404, rfl⟩
abbrev main_call49_v1 : Ref sig .tc := ⟨.hbm, 405, rfl⟩
abbrev main_v219 : Ref sig .tc := ⟨.hbm, 406, rfl⟩
abbrev main_c_81 : Ref sig .tc := ⟨.hbm, 407, rfl⟩
abbrev main_v220 : Ref sig .tc := ⟨.hbm, 408, rfl⟩
abbrev main_v221 : Ref sig .tc := ⟨.hbm, 409, rfl⟩
abbrev main_v222 : Ref sig .tc := ⟨.hbm, 410, rfl⟩
abbrev main_v223 : Ref sig .tc := ⟨.hbm, 411, rfl⟩
abbrev main_v224 : Ref sig .tc := ⟨.hbm, 412, rfl⟩
abbrev main_call50_v0 : Ref sig .tc := ⟨.hbm, 413, rfl⟩
abbrev main_call50_v1 : Ref sig .tc := ⟨.hbm, 414, rfl⟩
abbrev main_v225 : Ref sig .tc := ⟨.hbm, 415, rfl⟩
abbrev main_c_82 : Ref sig .tc := ⟨.hbm, 416, rfl⟩
abbrev main_v226 : Ref sig .tc := ⟨.hbm, 417, rfl⟩
abbrev main_v227 : Ref sig .tc := ⟨.hbm, 418, rfl⟩
abbrev main_v228 : Ref sig .tc := ⟨.hbm, 419, rfl⟩
abbrev main_v229 : Ref sig .tc := ⟨.hbm, 420, rfl⟩
abbrev main_v230 : Ref sig .tc := ⟨.hbm, 421, rfl⟩
abbrev main_call51_v0 : Ref sig .tc := ⟨.hbm, 422, rfl⟩
abbrev main_call51_v1 : Ref sig .tc := ⟨.hbm, 423, rfl⟩
abbrev main_v231 : Ref sig .tc := ⟨.hbm, 424, rfl⟩
abbrev main_c_83 : Ref sig .tc := ⟨.hbm, 425, rfl⟩
abbrev main_v232 : Ref sig .tc := ⟨.hbm, 426, rfl⟩
abbrev main_v233 : Ref sig .tc := ⟨.hbm, 427, rfl⟩
abbrev main_v234 : Ref sig .tc := ⟨.hbm, 428, rfl⟩
abbrev main_v235 : Ref sig .tc := ⟨.hbm, 429, rfl⟩
abbrev main_v236 : Ref sig .tc := ⟨.hbm, 430, rfl⟩
abbrev main_call52_v0 : Ref sig .tc := ⟨.hbm, 431, rfl⟩
abbrev main_call52_v1 : Ref sig .tc := ⟨.hbm, 432, rfl⟩
abbrev main_v237 : Ref sig .tc := ⟨.hbm, 433, rfl⟩
abbrev main_c_84 : Ref sig .tc := ⟨.hbm, 434, rfl⟩
abbrev main_v238 : Ref sig .tc := ⟨.hbm, 435, rfl⟩
abbrev main_v239 : Ref sig .tc := ⟨.hbm, 436, rfl⟩
abbrev main_v240 : Ref sig .tc := ⟨.hbm, 437, rfl⟩
abbrev main_v241 : Ref sig .tc := ⟨.hbm, 438, rfl⟩
abbrev main_v242 : Ref sig .tc := ⟨.hbm, 439, rfl⟩
abbrev main_call53_v0 : Ref sig .tc := ⟨.hbm, 440, rfl⟩
abbrev main_call53_v1 : Ref sig .tc := ⟨.hbm, 441, rfl⟩
abbrev main_v243 : Ref sig .tc := ⟨.hbm, 442, rfl⟩
abbrev main_c_85 : Ref sig .tc := ⟨.hbm, 443, rfl⟩
abbrev main_v244 : Ref sig .tc := ⟨.hbm, 444, rfl⟩
abbrev main_v245 : Ref sig .tc := ⟨.hbm, 445, rfl⟩
abbrev main_v246 : Ref sig .tc := ⟨.hbm, 446, rfl⟩
abbrev main_v247 : Ref sig .tc := ⟨.hbm, 447, rfl⟩
abbrev main_v248 : Ref sig .tc := ⟨.hbm, 448, rfl⟩
abbrev main_call54_v0 : Ref sig .tc := ⟨.hbm, 449, rfl⟩
abbrev main_call54_v1 : Ref sig .tc := ⟨.hbm, 450, rfl⟩
abbrev main_v249 : Ref sig .tc := ⟨.hbm, 451, rfl⟩
abbrev main_c_86 : Ref sig .tc := ⟨.hbm, 452, rfl⟩
abbrev main_v250 : Ref sig .tc := ⟨.hbm, 453, rfl⟩
abbrev main_v251 : Ref sig .tc := ⟨.hbm, 454, rfl⟩
abbrev main_v252 : Ref sig .tc := ⟨.hbm, 455, rfl⟩
abbrev main_v253 : Ref sig .tc := ⟨.hbm, 456, rfl⟩
abbrev main_v254 : Ref sig .tc := ⟨.hbm, 457, rfl⟩
abbrev main_call55_v0 : Ref sig .tc := ⟨.hbm, 458, rfl⟩
abbrev main_call55_v1 : Ref sig .tc := ⟨.hbm, 459, rfl⟩
abbrev main_v255 : Ref sig .tc := ⟨.hbm, 460, rfl⟩
abbrev main_c_87 : Ref sig .tc := ⟨.hbm, 461, rfl⟩
abbrev main_v256 : Ref sig .tc := ⟨.hbm, 462, rfl⟩
abbrev main_v257 : Ref sig .tc := ⟨.hbm, 463, rfl⟩
abbrev main_v258 : Ref sig .tc := ⟨.hbm, 464, rfl⟩
abbrev main_v259 : Ref sig .tc := ⟨.hbm, 465, rfl⟩
abbrev main_v260 : Ref sig .tc := ⟨.hbm, 466, rfl⟩
abbrev main_call56_v0 : Ref sig .tc := ⟨.hbm, 467, rfl⟩
abbrev main_call56_v1 : Ref sig .tc := ⟨.hbm, 468, rfl⟩
abbrev main_v261 : Ref sig .tc := ⟨.hbm, 469, rfl⟩
abbrev main_c_88 : Ref sig .tc := ⟨.hbm, 470, rfl⟩
abbrev main_v262 : Ref sig .tc := ⟨.hbm, 471, rfl⟩
abbrev main_v263 : Ref sig .tc := ⟨.hbm, 472, rfl⟩
abbrev main_v264 : Ref sig .tc := ⟨.hbm, 473, rfl⟩
abbrev main_v265 : Ref sig .tc := ⟨.hbm, 474, rfl⟩
abbrev main_v266 : Ref sig .tc := ⟨.hbm, 475, rfl⟩
abbrev main_call57_v0 : Ref sig .tc := ⟨.hbm, 476, rfl⟩
abbrev main_call57_v1 : Ref sig .tc := ⟨.hbm, 477, rfl⟩
abbrev main_v267 : Ref sig .tc := ⟨.hbm, 478, rfl⟩
abbrev main_c_89 : Ref sig .tc := ⟨.hbm, 479, rfl⟩
abbrev main_v268 : Ref sig .tc := ⟨.hbm, 480, rfl⟩
abbrev main_v269 : Ref sig .tc := ⟨.hbm, 481, rfl⟩
abbrev main_v270 : Ref sig .tc := ⟨.hbm, 482, rfl⟩
abbrev main_v271 : Ref sig .tc := ⟨.hbm, 483, rfl⟩
abbrev main_v272 : Ref sig .tc := ⟨.hbm, 484, rfl⟩
abbrev main_call58_v0 : Ref sig .tc := ⟨.hbm, 485, rfl⟩
abbrev main_call58_v1 : Ref sig .tc := ⟨.hbm, 486, rfl⟩
abbrev main_v273 : Ref sig .tc := ⟨.hbm, 487, rfl⟩
abbrev main_c_90 : Ref sig .tc := ⟨.hbm, 488, rfl⟩
abbrev main_v274 : Ref sig .tc := ⟨.hbm, 489, rfl⟩
abbrev main_v275 : Ref sig .tc := ⟨.hbm, 490, rfl⟩
abbrev main_v276 : Ref sig .tc := ⟨.hbm, 491, rfl⟩
abbrev main_v277 : Ref sig .tc := ⟨.hbm, 492, rfl⟩
abbrev main_v278 : Ref sig .tc := ⟨.hbm, 493, rfl⟩
abbrev main_call59_v0 : Ref sig .tc := ⟨.hbm, 494, rfl⟩
abbrev main_call59_v1 : Ref sig .tc := ⟨.hbm, 495, rfl⟩
abbrev main_v279 : Ref sig .tc := ⟨.hbm, 496, rfl⟩
abbrev main_c_91 : Ref sig .tc := ⟨.hbm, 497, rfl⟩
abbrev main_v280 : Ref sig .tc := ⟨.hbm, 498, rfl⟩
abbrev main_v281 : Ref sig .tc := ⟨.hbm, 499, rfl⟩
abbrev main_v282 : Ref sig .tc := ⟨.hbm, 500, rfl⟩
abbrev main_v283 : Ref sig .tc := ⟨.hbm, 501, rfl⟩
abbrev main_v284 : Ref sig .tc := ⟨.hbm, 502, rfl⟩
abbrev main_call60_v0 : Ref sig .tc := ⟨.hbm, 503, rfl⟩
abbrev main_call60_v1 : Ref sig .tc := ⟨.hbm, 504, rfl⟩
abbrev main_v285 : Ref sig .tc := ⟨.hbm, 505, rfl⟩
abbrev main_c_92 : Ref sig .tc := ⟨.hbm, 506, rfl⟩
abbrev main_v286 : Ref sig .tc := ⟨.hbm, 507, rfl⟩
abbrev main_v287 : Ref sig .tc := ⟨.hbm, 508, rfl⟩
abbrev main_v288 : Ref sig .tc := ⟨.hbm, 509, rfl⟩
abbrev main_v289 : Ref sig .tc := ⟨.hbm, 510, rfl⟩
abbrev main_v290 : Ref sig .tc := ⟨.hbm, 511, rfl⟩
abbrev main_call61_v0 : Ref sig .tc := ⟨.hbm, 512, rfl⟩
abbrev main_call61_v1 : Ref sig .tc := ⟨.hbm, 513, rfl⟩
abbrev main_v291 : Ref sig .tc := ⟨.hbm, 514, rfl⟩
abbrev main_c_93 : Ref sig .tc := ⟨.hbm, 515, rfl⟩
abbrev main_v292 : Ref sig .tc := ⟨.hbm, 516, rfl⟩
abbrev main_v293 : Ref sig .tc := ⟨.hbm, 517, rfl⟩
abbrev main_v294 : Ref sig .tc := ⟨.hbm, 518, rfl⟩
abbrev main_v295 : Ref sig .tc := ⟨.hbm, 519, rfl⟩
abbrev main_v296 : Ref sig .tc := ⟨.hbm, 520, rfl⟩
abbrev main_call62_v0 : Ref sig .tc := ⟨.hbm, 521, rfl⟩
abbrev main_call62_v1 : Ref sig .tc := ⟨.hbm, 522, rfl⟩
abbrev main_v297 : Ref sig .tc := ⟨.hbm, 523, rfl⟩
abbrev main_c_94 : Ref sig .tc := ⟨.hbm, 524, rfl⟩
abbrev main_v298 : Ref sig .tc := ⟨.hbm, 525, rfl⟩
abbrev main_v299 : Ref sig .tc := ⟨.hbm, 526, rfl⟩
abbrev main_v300 : Ref sig .tc := ⟨.hbm, 527, rfl⟩
abbrev main_v301 : Ref sig .tc := ⟨.hbm, 528, rfl⟩
abbrev main_v302 : Ref sig .tc := ⟨.hbm, 529, rfl⟩
abbrev main_call63_v0 : Ref sig .tc := ⟨.hbm, 530, rfl⟩
abbrev main_call63_v1 : Ref sig .tc := ⟨.hbm, 531, rfl⟩
abbrev main_v303 : Ref sig .tc := ⟨.hbm, 532, rfl⟩
abbrev main_v304 : Ref sig .tc := ⟨.hbm, 533, rfl⟩
abbrev main_v305 : Ref sig .tc := ⟨.hbm, 534, rfl⟩
abbrev main_v306 : Ref sig .tc := ⟨.hbm, 535, rfl⟩
abbrev main_v307 : Ref sig .tc := ⟨.hbm, 536, rfl⟩
abbrev main_v308 : Ref sig .tc := ⟨.hbm, 537, rfl⟩
abbrev main_v309 : Ref sig .tc := ⟨.hbm, 538, rfl⟩
abbrev main_v310_0 : Ref sig .tc := ⟨.hbm, 539, rfl⟩
abbrev main_v310_1 : Ref sig .tc := ⟨.hbm, 540, rfl⟩
abbrev main_v310_2 : Ref sig .tc := ⟨.hbm, 541, rfl⟩
abbrev main_v310_3 : Ref sig .tc := ⟨.hbm, 542, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v12 : BitVec 1 := Scalar.cmpi .slt arg0 c16_i32
  let v13 : BitVec 32 := Scalar.extui v12
  let c0_i32_5 : BitVec 32 := 0#32
  let v14 : BitVec 1 := Scalar.cmpi .ne v13 c0_i32_5
  v14

def k0_cond3 (i : grid0.Coords) : BitVec 1 :=
  let arg0 : BitVec 32 := BitVec.ofNat 32 (i 0).val
  let c1_i32 : BitVec 32 := 1#32
  let v15 : BitVec 1 := Scalar.cmpi .sge arg0 c1_i32
  let v16 : BitVec 32 := Scalar.extui v15
  let c0_i32_6 : BitVec 32 := 0#32
  let v17 : BitVec 1 := Scalar.cmpi .ne v16 c0_i32_6
  v17

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c4_i32_0 : BitVec 32 := 4#32
  let c0_i32_1 : BitVec 32 := 0#32
  ![v2.toNat, c4_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AttnKernelIdeal.lean ====
variable {F : FTy → Type} [FloatOps F] [Named F]
def κ : String → Option EReal := fun
  | "mask" => some ⊥
  | _ => none
-- ==== AttnReferenceIdeal.lean ====
abbrev S8192x1792 : Shape := ⟨2, ![8192, 1792]⟩
abbrev S8192x512 : Shape := ⟨2, ![8192, 512]⟩
abbrev S32x8 : Shape := ⟨2, ![32, 8]⟩
abbrev S8 : Shape := ⟨1, ![8]⟩
abbrev S64 : Shape := ⟨1, ![64]⟩
abbrev S8192x128 : Shape := ⟨2, ![8192, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S128x256x1 : Shape := ⟨3, ![128, 256, 1]⟩
abbrev S128x256x8 : Shape := ⟨3, ![128, 256, 8]⟩
abbrev S8x128x256 : Shape := ⟨3, ![8, 128, 256]⟩
abbrev S8192x8x64 : Shape := ⟨3, ![8192, 8, 64]⟩
abbrev S8192x8 : Shape := ⟨2, ![8192, 8]⟩
abbrev S8192x8x1 : Shape := ⟨3, ![8192, 8, 1]⟩
abbrev S1x1x64 : Shape := ⟨3, ![1, 1, 64]⟩
abbrev S8192x2x64 : Shape := ⟨3, ![8192, 2, 64]⟩
abbrev S8192x2 : Shape := ⟨2, ![8192, 2]⟩
abbrev S8192x2x1 : Shape := ⟨3, ![8192, 2, 1]⟩
abbrev S2x4x128x256 : Shape := ⟨4, ![2, 4, 128, 256]⟩
abbrev S64x128x2x4x64 : Shape := ⟨5, ![64, 128, 2, 4, 64]⟩
abbrev S128x2x64 : Shape := ⟨3, ![128, 2, 64]⟩
abbrev S8320x2x64 : Shape := ⟨3, ![8320, 2, 64]⟩
abbrev S64x128x2x64 : Shape := ⟨4, ![64, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S1x2x4x128x256 : Shape := ⟨5, ![1, 2, 4, 128, 256]⟩
abbrev S64x1x1x128x256 : Shape := ⟨5, ![64, 1, 1, 128, 256]⟩
abbrev S2x4 : Shape := ⟨2, ![2, 4]⟩
abbrev S1x2x4x1x1 : Shape := ⟨5, ![1, 2, 4, 1, 1]⟩
abbrev S64x2x4x128 : Shape := ⟨4, ![64, 2, 4, 128]⟩
abbrev S64x2x4x128x1 : Shape := ⟨5, ![64, 2, 4, 128, 1]⟩
abbrev S64x2x64x4x128 : Shape := ⟨5, ![64, 2, 64, 4, 128]⟩
abbrev S64x2x64x256 : Shape := ⟨4, ![64, 2, 64, 256]⟩
abbrev S2x4x1 : Shape := ⟨3, ![2, 4, 1]⟩
abbrev S64x2x128x4x64 : Shape := ⟨5, ![64, 2, 128, 4, 64]⟩
abbrev S64x2x256x64 : Shape := ⟨4, ![64, 2, 256, 64]⟩
abbrev S8192x256 : Shape := ⟨2, ![8192, 256]⟩
abbrev S8704x256 : Shape := ⟨2, ![8704, 256]⟩
abbrev S8x128x128 : Shape := ⟨3, ![8, 128, 128]⟩
abbrev S2x512x128 : Shape := ⟨3, ![2, 512, 128]⟩
abbrev S1x128 : Shape := ⟨2, ![1, 128]⟩
abbrev S5x128 : Shape := ⟨2, ![5, 128]⟩
abbrev S8x128 : Shape := ⟨2, ![8, 128]⟩

abbrev nBuf : Space → Nat
  | .hbm => 571
  | .vmem => 0
  | .smem => 0
  | _ => 0

abbrev hbmTy0_0 (i : Nat) : BufTy := match i % 128 with
  | 0 => ⟨S8192x1792, .f32⟩
  | 1 => ⟨S8192x512, .f32⟩
  | 2 => ⟨S32x8, .f32⟩
  | 3 => ⟨S8, .f32⟩
  | 4 => ⟨S64, .f32⟩
  | 5 => ⟨S64, .f32⟩
  | 6 => ⟨S8192x512, .f32⟩
  | 7 => ⟨S8192x128, .f32⟩
  | 8 => ⟨S8192x128, .f32⟩
  | 9 => ⟨S8192x512, .f32⟩
  | 10 => ⟨S8192x512, .f32⟩
  | 11 => ⟨S128, .i32⟩
  | 12 => ⟨S128x1, .i32⟩
  | 13 => ⟨S256, .i32⟩
  | 14 => ⟨S1x256, .i32⟩
  | 15 => ⟨S_, .i32⟩
  | 16 => ⟨S128x1, .i32⟩
  | 17 => ⟨S128x1, .i32⟩
  | 18 => ⟨S128x256, .i32⟩
  | 19 => ⟨S128x256, .i32⟩
  | 20 => ⟨S128x256, .i32⟩
  | 21 => ⟨S_, .i32⟩
  | 22 => ⟨S128x256, .i32⟩
  | 23 => ⟨S128x256, .i1⟩
  | 24 => ⟨S_, .i32⟩
  | 25 => ⟨S128x256, .i32⟩
  | 26 => ⟨S128x256, .i1⟩
  | 27 => ⟨S128x256, .i1⟩
  | 28 => ⟨S_, .i32⟩
  | 29 => ⟨S128x256, .i32⟩
  | 30 => ⟨S_, .i32⟩
  | 31 => ⟨S128x256, .i32⟩
  | 32 => ⟨S128x256, .i1⟩
  | 33 => ⟨S_, .i32⟩
  | 34 => ⟨S_, .i32⟩
  | 35 => ⟨S128x256, .i32⟩
  | 36 => ⟨S128x256, .i32⟩
  | 37 => ⟨S_, .i32⟩
  | 38 => ⟨S128x256, .i32⟩
  | 39 => ⟨S128x256, .i1⟩
  | 40 => ⟨S_, .i32⟩
  | 41 => ⟨S_, .i32⟩
  | 42 => ⟨S128x256, .i32⟩
  | 43 => ⟨S128x256, .i32⟩
  | 44 => ⟨S_, .i32⟩
  | 45 => ⟨S128x256, .i32⟩
  | 46 => ⟨S128x256, .i1⟩
  | 47 => ⟨S_, .i32⟩
  | 48 => ⟨S_, .i32⟩
  | 49 => ⟨S128x256, .i32⟩
  | 50 => ⟨S128x256, .i32⟩
  | 51 => ⟨S_, .i32⟩
  | 52 => ⟨S128x256, .i32⟩
  | 53 => ⟨S128x256, .i1⟩
  | 54 => ⟨S_, .i32⟩
  | 55 => ⟨S_, .i32⟩
  | 56 => ⟨S128x256, .i32⟩
  | 57 => ⟨S128x256, .i32⟩
  | 58 => ⟨S_, .i32⟩
  | 59 => ⟨S128x256, .i32⟩
  | 60 => ⟨S128x256, .i1⟩
  | 61 => ⟨S_, .i32⟩
  | 62 => ⟨S_, .i32⟩
  | 63 => ⟨S128x256, .i32⟩
  | 64 => ⟨S128x256, .i32⟩
  | 65 => ⟨S_, .i32⟩
  | 66 => ⟨S128x256, .i32⟩
  | 67 => ⟨S128x256, .i1⟩
  | 68 => ⟨S_, .i32⟩
  | 69 => ⟨S_, .i32⟩
  | 70 => ⟨S128x256, .i32⟩
  | 71 => ⟨S128x256, .i32⟩
  | 72 => ⟨S_, .i32⟩
  | 73 => ⟨S128x256, .i32⟩
  | 74 => ⟨S128x256, .i1⟩
  | 75 => ⟨S_, .i32⟩
  | 76 => ⟨S_, .i32⟩
  | 77 => ⟨S128x256, .i32⟩
  | 78 => ⟨S128x256, .i32⟩
  | 79 => ⟨S_, .i32⟩
  | 80 => ⟨S128x256, .i32⟩
  | 81 => ⟨S128x256, .i1⟩
  | 82 => ⟨S_, .i32⟩
  | 83 => ⟨S_, .i32⟩
  | 84 => ⟨S128x256, .i32⟩
  | 85 => ⟨S128x256, .i32⟩
  | 86 => ⟨S_, .i32⟩
  | 87 => ⟨S128x256, .i32⟩
  | 88 => ⟨S128x256, .i1⟩
  | 89 => ⟨S_, .i32⟩
  | 90 => ⟨S_, .i32⟩
  | 91 => ⟨S128x256, .i32⟩
  | 92 => ⟨S128x256, .i32⟩
  | 93 => ⟨S_, .i32⟩
  | 94 => ⟨S128x256, .i32⟩
  | 95 => ⟨S128x256, .i1⟩
  | 96 => ⟨S_, .i32⟩
  | 97 => ⟨S_, .i32⟩
  | 98 => ⟨S128x256, .i32⟩
  | 99 => ⟨S128x256, .i32⟩
  | 100 => ⟨S_, .i32⟩
  | 101 => ⟨S128x256, .i32⟩
  | 102 => ⟨S128x256, .i1⟩
  | 103 => ⟨S_, .i32⟩
  | 104 => ⟨S_, .i32⟩
  | 105 => ⟨S128x256, .i32⟩
  | 106 => ⟨S128x256, .i32⟩
  | 107 => ⟨S_, .i32⟩
  | 108 => ⟨S128x256, .i32⟩
  | 109 => ⟨S128x256, .i1⟩
  | 110 => ⟨S_, .i32⟩
  | 111 => ⟨S_, .i32⟩
  | 112 => ⟨S128x256, .i32⟩
  | 113 => ⟨S128x256, .i32⟩
  | 114 => ⟨S_, .i32⟩
  | 115 => ⟨S128x256, .i32⟩
  | 116 => ⟨S128x256, .i1⟩
  | 117 => ⟨S_, .i32⟩
  | 118 => ⟨S_, .i32⟩
  | 119 => ⟨S128x256, .i32⟩
  | 120 => ⟨S128x256, .i32⟩
  | 121 => ⟨S_, .i32⟩
  | 122 => ⟨S128x256, .i32⟩
  | 123 => ⟨S128x256, .i1⟩
  | 124 => ⟨S_, .i32⟩
  | 125 => ⟨S_, .i32⟩
  | 126 => ⟨S128x256, .i32⟩
  | 127 => ⟨S128x256, .i32⟩
  | _ => ⟨S8192x1792, .f32⟩

abbrev hbmTy0_1 (i : Nat) : BufTy := match i % 128 with
  | 0 => ⟨S_, .i32⟩
  | 1 => ⟨S128x256, .i32⟩
  | 2 => ⟨S128x256, .i1⟩
  | 3 => ⟨S_, .i32⟩
  | 4 => ⟨S_, .i32⟩
  | 5 => ⟨S128x256, .i32⟩
  | 6 => ⟨S128x256, .i32⟩
  | 7 => ⟨S_, .i32⟩
  | 8 => ⟨S128x256, .i32⟩
  | 9 => ⟨S128x256, .i1⟩
  | 10 => ⟨S_, .i32⟩
  | 11 => ⟨S_, .i32⟩
  | 12 => ⟨S128x256, .i32⟩
  | 13 => ⟨S128x256, .i32⟩
  | 14 => ⟨S_, .i32⟩
  | 15 => ⟨S128x256, .i32⟩
  | 16 => ⟨S128x256, .i1⟩
  | 17 => ⟨S_, .i32⟩
  | 18 => ⟨S_, .i32⟩
  | 19 => ⟨S128x256, .i32⟩
  | 20 => ⟨S128x256, .i32⟩
  | 21 => ⟨S_, .i32⟩
  | 22 => ⟨S128x256, .i32⟩
  | 23 => ⟨S128x256, .i1⟩
  | 24 => ⟨S_, .i32⟩
  | 25 => ⟨S_, .i32⟩
  | 26 => ⟨S128x256, .i32⟩
  | 27 => ⟨S128x256, .i32⟩
  | 28 => ⟨S_, .i32⟩
  | 29 => ⟨S128x256, .i32⟩
  | 30 => ⟨S128x256, .i1⟩
  | 31 => ⟨S_, .i32⟩
  | 32 => ⟨S_, .i32⟩
  | 33 => ⟨S128x256, .i32⟩
  | 34 => ⟨S128x256, .i32⟩
  | 35 => ⟨S_, .i32⟩
  | 36 => ⟨S128x256, .i32⟩
  | 37 => ⟨S128x256, .i1⟩
  | 38 => ⟨S_, .i32⟩
  | 39 => ⟨S_, .i32⟩
  | 40 => ⟨S128x256, .i32⟩
  | 41 => ⟨S128x256, .i32⟩
  | 42 => ⟨S_, .i32⟩
  | 43 => ⟨S128x256, .i32⟩
  | 44 => ⟨S128x256, .i1⟩
  | 45 => ⟨S_, .i32⟩
  | 46 => ⟨S_, .i32⟩
  | 47 => ⟨S128x256, .i32⟩
  | 48 => ⟨S128x256, .i32⟩
  | 49 => ⟨S_, .i32⟩
  | 50 => ⟨S128x256, .i32⟩
  | 51 => ⟨S128x256, .i1⟩
  | 52 => ⟨S_, .i32⟩
  | 53 => ⟨S_, .i32⟩
  | 54 => ⟨S128x256, .i32⟩
  | 55 => ⟨S128x256, .i32⟩
  | 56 => ⟨S_, .i32⟩
  | 57 => ⟨S128x256, .i32⟩
  | 58 => ⟨S128x256, .i1⟩
  | 59 => ⟨S_, .i32⟩
  | 60 => ⟨S_, .i32⟩
  | 61 => ⟨S128x256, .i32⟩
  | 62 => ⟨S128x256, .i32⟩
  | 63 => ⟨S_, .i32⟩
  | 64 => ⟨S128x256, .i32⟩
  | 65 => ⟨S128x256, .i1⟩
  | 66 => ⟨S_, .i32⟩
  | 67 => ⟨S_, .i32⟩
  | 68 => ⟨S128x256, .i32⟩
  | 69 => ⟨S128x256, .i32⟩
  | 70 => ⟨S_, .i32⟩
  | 71 => ⟨S128x256, .i32⟩
  | 72 => ⟨S128x256, .i1⟩
  | 73 => ⟨S_, .i32⟩
  | 74 => ⟨S_, .i32⟩
  | 75 => ⟨S128x256, .i32⟩
  | 76 => ⟨S128x256, .i32⟩
  | 77 => ⟨S_, .i32⟩
  | 78 => ⟨S128x256, .i32⟩
  | 79 => ⟨S128x256, .i1⟩
  | 80 => ⟨S_, .i32⟩
  | 81 => ⟨S_, .i32⟩
  | 82 => ⟨S128x256, .i32⟩
  | 83 => ⟨S128x256, .i32⟩
  | 84 => ⟨S_, .i32⟩
  | 85 => ⟨S128x256, .i32⟩
  | 86 => ⟨S128x256, .i1⟩
  | 87 => ⟨S_, .i32⟩
  | 88 => ⟨S_, .i32⟩
  | 89 => ⟨S128x256, .i32⟩
  | 90 => ⟨S128x256, .i32⟩
  | 91 => ⟨S_, .i32⟩
  | 92 => ⟨S128x256, .i32⟩
  | 93 => ⟨S128x256, .i1⟩
  | 94 => ⟨S_, .i32⟩
  | 95 => ⟨S_, .i32⟩
  | 96 => ⟨S128x256, .i32⟩
  | 97 => ⟨S128x256, .i32⟩
  | 98 => ⟨S_, .i32⟩
  | 99 => ⟨S128x256, .i32⟩
  | 100 => ⟨S128x256, .i1⟩
  | 101 => ⟨S_, .i32⟩
  | 102 => ⟨S_, .i32⟩
  | 103 => ⟨S128x256, .i32⟩
  | 104 => ⟨S128x256, .i32⟩
  | 105 => ⟨S_, .i32⟩
  | 106 => ⟨S128x256, .i32⟩
  | 107 => ⟨S128x256, .i1⟩
  | 108 => ⟨S_, .i32⟩
  | 109 => ⟨S_, .i32⟩
  | 110 => ⟨S128x256, .i32⟩
  | 111 => ⟨S128x256, .i32⟩
  | 112 => ⟨S_, .i32⟩
  | 113 => ⟨S128x256, .i32⟩
  | 114 => ⟨S128x256, .i1⟩
  | 115 => ⟨S_, .i32⟩
  | 116 => ⟨S_, .i32⟩
  | 117 => ⟨S128x256, .i32⟩
  | 118 => ⟨S128x256, .i32⟩
  | 119 => ⟨S64, .i32⟩
  | 120 => ⟨S64x1, .i32⟩
  | 121 => ⟨S_, .i32⟩
  | 122 => ⟨S64x1, .i32⟩
  | 123 => ⟨S64x1, .i32⟩
  | 124 => ⟨S_, .i32⟩
  | 125 => ⟨S64x1, .i32⟩
  | 126 => ⟨S64x1, .i32⟩
  | 127 => ⟨S256, .i32⟩
  | _ => ⟨S8192x1792, .f32⟩

abbrev hbmTy0_2 (i : Nat) : BufTy := match i % 128 with
  | 0 => ⟨S1x256, .i32⟩
  | 1 => ⟨S64x256, .i32⟩
  | 2 => ⟨S64x256, .i32⟩
  | 3 => ⟨S64x256, .i32⟩
  | 4 => ⟨S1x128x256, .i1⟩
  | 5 => ⟨S_, .i32⟩
  | 6 => ⟨S64x256, .i32⟩
  | 7 => ⟨S64x256, .i1⟩
  | 8 => ⟨S64x1x256, .i1⟩
  | 9 => ⟨S64x128x256, .i1⟩
  | 10 => ⟨S64x128x256, .i1⟩
  | 11 => ⟨S64x128x256, .i1⟩
  | 12 => ⟨S_, .i32⟩
  | 13 => ⟨S128x256, .i32⟩
  | 14 => ⟨S128x256, .i1⟩
  | 15 => ⟨S_, .i32⟩
  | 16 => ⟨S128x256, .i32⟩
  | 17 => ⟨S128x256, .i32⟩
  | 18 => ⟨S128x256, .i32⟩
  | 19 => ⟨S128x256x1, .i32⟩
  | 20 => ⟨S128x256x8, .f32⟩
  | 21 => ⟨S8x128x256, .f32⟩
  | 22 => ⟨S8192x8x64, .f32⟩
  | 23 => ⟨S8192x8x64, .f32⟩
  | 24 => ⟨S_, .f32⟩
  | 25 => ⟨S8192x8, .f32⟩
  | 26 => ⟨S8192x8x1, .f32⟩
  | 27 => ⟨S_, .f32⟩
  | 28 => ⟨S8192x8x1, .f32⟩
  | 29 => ⟨S8192x8x1, .f32⟩
  | 30 => ⟨S_, .f32⟩
  | 31 => ⟨S8192x8x1, .f32⟩
  | 32 => ⟨S8192x8x1, .f32⟩
  | 33 => ⟨S8192x8x1, .f32⟩
  | 34 => ⟨S8192x8x1, .f32⟩
  | 35 => ⟨S_, .f32⟩
  | 36 => ⟨S8192x8x1, .f32⟩
  | 37 => ⟨S8192x8x1, .f32⟩
  | 38 => ⟨S8192x8x64, .f32⟩
  | 39 => ⟨S8192x8x64, .f32⟩
  | 40 => ⟨S1x1x64, .f32⟩
  | 41 => ⟨S8192x8x64, .f32⟩
  | 42 => ⟨S8192x8x64, .f32⟩
  | 43 => ⟨S8192x2x64, .f32⟩
  | 44 => ⟨S8192x2x64, .f32⟩
  | 45 => ⟨S_, .f32⟩
  | 46 => ⟨S8192x2, .f32⟩
  | 47 => ⟨S8192x2x1, .f32⟩
  | 48 => ⟨S_, .f32⟩
  | 49 => ⟨S8192x2x1, .f32⟩
  | 50 => ⟨S8192x2x1, .f32⟩
  | 51 => ⟨S_, .f32⟩
  | 52 => ⟨S8192x2x1, .f32⟩
  | 53 => ⟨S8192x2x1, .f32⟩
  | 54 => ⟨S8192x2x1, .f32⟩
  | 55 => ⟨S8192x2x1, .f32⟩
  | 56 => ⟨S_, .f32⟩
  | 57 => ⟨S8192x2x1, .f32⟩
  | 58 => ⟨S8192x2x1, .f32⟩
  | 59 => ⟨S8192x2x64, .f32⟩
  | 60 => ⟨S8192x2x64, .f32⟩
  | 61 => ⟨S1x1x64, .f32⟩
  | 62 => ⟨S8192x2x64, .f32⟩
  | 63 => ⟨S8192x2x64, .f32⟩
  | 64 => ⟨S8192x2x64, .f32⟩
  | 65 => ⟨S2x4x128x256, .f32⟩
  | 66 => ⟨S64x128x2x4x64, .f32⟩
  | 67 => ⟨S_, .f32⟩
  | 68 => ⟨S128x2x64, .f32⟩
  | 69 => ⟨S8320x2x64, .f32⟩
  | 70 => ⟨S_, .f32⟩
  | 71 => ⟨S128x2x64, .f32⟩
  | 72 => ⟨S8192x2x64, .f32⟩
  | 73 => ⟨S64x128x2x64, .f32⟩
  | 74 => ⟨S64x128x2x64, .f32⟩
  | 75 => ⟨S64x256x2x64, .f32⟩
  | 76 => ⟨S_, .f32⟩
  | 77 => ⟨S128x2x64, .f32⟩
  | 78 => ⟨S8320x2x64, .f32⟩
  | 79 => ⟨S_, .f32⟩
  | 80 => ⟨S128x2x64, .f32⟩
  | 81 => ⟨S8192x2x64, .f32⟩
  | 82 => ⟨S64x128x2x64, .f32⟩
  | 83 => ⟨S64x128x2x64, .f32⟩
  | 84 => ⟨S64x256x2x64, .f32⟩
  | 85 => ⟨S64x2x256x128x4, .f32⟩
  | 86 => ⟨S64x2x4x128x256, .f32⟩
  | 87 => ⟨S_, .f32⟩
  | 88 => ⟨S64x2x4x128x256, .f32⟩
  | 89 => ⟨S64x2x4x128x256, .f32⟩
  | 90 => ⟨S1x2x4x128x256, .f32⟩
  | 91 => ⟨S64x2x4x128x256, .f32⟩
  | 92 => ⟨S64x2x4x128x256, .f32⟩
  | 93 => ⟨S64x1x1x128x256, .i1⟩
  | 94 => ⟨S_, .f32⟩
  | 95 => ⟨S_, .f32⟩
  | 96 => ⟨S64x2x4x128x256, .i1⟩
  | 97 => ⟨S64x2x4x128x256, .f32⟩
  | 98 => ⟨S64x2x4x128x256, .f32⟩
  | 99 => ⟨S_, .f32⟩
  | 100 => ⟨S64x2x4x128x256, .f32⟩
  | 101 => ⟨S2x4, .f32⟩
  | 102 => ⟨S1x2x4x1x1, .f32⟩
  | 103 => ⟨S_, .f32⟩
  | 104 => ⟨S64x2x4x128, .f32⟩
  | 105 => ⟨S64x2x4x128x1, .f32⟩
  | 106 => ⟨S64x2x4x128x256, .f32⟩
  | 107 => ⟨S64x2x4x128x256, .i1⟩
  | 108 => ⟨S64x2x4x128x256, .f32⟩
  | 109 => ⟨S_, .f32⟩
  | 110 => ⟨S64x2x4x128, .f32⟩
  | 111 => ⟨S64x2x4x128x1, .f32⟩
  | 112 => ⟨S64x2x4x128x1, .f32⟩
  | 113 => ⟨S64x2x4x128x1, .f32⟩
  | 114 => ⟨S64x2x4x128x1, .f32⟩
  | 115 => ⟨S64x2x4x128x1, .i1⟩
  | 116 => ⟨S64x2x4x128x1, .f32⟩
  | 117 => ⟨S64x2x4x128x1, .i1⟩
  | 118 => ⟨S_, .f32⟩
  | 119 => ⟨S64x2x4x128x1, .f32⟩
  | 120 => ⟨S_, .f32⟩
  | 121 => ⟨S64x2x4x128x1, .f32⟩
  | 122 => ⟨S_, .f32⟩
  | 123 => ⟨S64x2x4x128x1, .f32⟩
  | 124 => ⟨S64x2x4x128x1, .f32⟩
  | 125 => ⟨S64x2x4x128x1, .f32⟩
  | 126 => ⟨S64x2x4x128x1, .f32⟩
  | 127 => ⟨S64x2x4x128x1, .i1⟩
  | _ => ⟨S8192x1792, .f32⟩

abbrev hbmTy0_3 (i : Nat) : BufTy := match i % 128 with
  | 0 => ⟨S64x2x4x128x1, .f32⟩
  | 1 => ⟨S64x2x4x128x1, .i1⟩
  | 2 => ⟨S_, .f32⟩
  | 3 => ⟨S64x2x4x128x1, .f32⟩
  | 4 => ⟨S_, .f32⟩
  | 5 => ⟨S64x2x4x128x1, .f32⟩
  | 6 => ⟨S_, .f32⟩
  | 7 => ⟨S64x2x4x128x1, .f32⟩
  | 8 => ⟨S64x2x4x128x1, .f32⟩
  | 9 => ⟨S64x2x4x128x1, .f32⟩
  | 10 => ⟨S64x2x4x128x256, .f32⟩
  | 11 => ⟨S64x2x4x128x256, .f32⟩
  | 12 => ⟨S64x2x4x128x256, .f32⟩
  | 13 => ⟨S_, .f32⟩
  | 14 => ⟨S64x2x4x128, .f32⟩
  | 15 => ⟨S64x2x4x128x1, .f32⟩
  | 16 => ⟨S64x2x4x128x1, .f32⟩
  | 17 => ⟨S64x2x4x128x1, .f32⟩
  | 18 => ⟨S64x2x4x128x1, .f32⟩
  | 19 => ⟨S64x2x4x128x1, .f32⟩
  | 20 => ⟨S64x2x4x128x256, .f32⟩
  | 21 => ⟨S64x2x4x128x256, .f32⟩
  | 22 => ⟨S64x2x4x128x1, .f32⟩
  | 23 => ⟨S_, .f32⟩
  | 24 => ⟨S64x2x4x128x1, .f32⟩
  | 25 => ⟨S64x2x4x128x1, .f32⟩
  | 26 => ⟨S64x2x64x4x128, .f32⟩
  | 27 => ⟨S64x128x2x4x64, .f32⟩
  | 28 => ⟨S8192x512, .f32⟩
  | 29 => ⟨S64x128x2x4x64, .f32⟩
  | 30 => ⟨S64x2x64x4x128, .f32⟩
  | 31 => ⟨S64x2x4x128x256, .f32⟩
  | 32 => ⟨S64x2x64x256, .f32⟩
  | 33 => ⟨S64x256x2x64, .f32⟩
  | 34 => ⟨S64x2x4x128x256, .f32⟩
  | 35 => ⟨S64x2x4x128x256, .f32⟩
  | 36 => ⟨S64x2x4x128x256, .f32⟩
  | 37 => ⟨S_, .f32⟩
  | 38 => ⟨S64x2x4x128, .f32⟩
  | 39 => ⟨S64x2x4x128x1, .f32⟩
  | 40 => ⟨S64x2x4x128x1, .f32⟩
  | 41 => ⟨S64x2x4x128x256, .f32⟩
  | 42 => ⟨S64x2x4x128x256, .f32⟩
  | 43 => ⟨S64x2x4x128x1, .f32⟩
  | 44 => ⟨S_, .f32⟩
  | 45 => ⟨S2x4x1, .f32⟩
  | 46 => ⟨S1x2x4x1x1, .f32⟩
  | 47 => ⟨S64x2x4x128x1, .f32⟩
  | 48 => ⟨S_, .f32⟩
  | 49 => ⟨S64x2x4x128, .f32⟩
  | 50 => ⟨S64x2x4x128x256, .f32⟩
  | 51 => ⟨S64x2x4x128x256, .f32⟩
  | 52 => ⟨S64x2x4x128x256, .f32⟩
  | 53 => ⟨S64x2x4x128x256, .f32⟩
  | 54 => ⟨S_, .f32⟩
  | 55 => ⟨S64x2x4x128, .f32⟩
  | 56 => ⟨S64x2x4x128x1, .f32⟩
  | 57 => ⟨S64x2x4x128x1, .f32⟩
  | 58 => ⟨S64x2x4x128x1, .f32⟩
  | 59 => ⟨S_, .f32⟩
  | 60 => ⟨S2x4x1, .f32⟩
  | 61 => ⟨S1x2x4x1x1, .f32⟩
  | 62 => ⟨S1x2x4x1x1, .f32⟩
  | 63 => ⟨S64x2x4x128x1, .f32⟩
  | 64 => ⟨S_, .f32⟩
  | 65 => ⟨S64x2x4x128, .f32⟩
  | 66 => ⟨S64x2x4x128, .f32⟩
  | 67 => ⟨S64x2x4x128x256, .f32⟩
  | 68 => ⟨S64x2x4x128x256, .f32⟩
  | 69 => ⟨S64x2x4x128x256, .f32⟩
  | 70 => ⟨S_, .f32⟩
  | 71 => ⟨S2x4, .f32⟩
  | 72 => ⟨S8, .f32⟩
  | 73 => ⟨S_, .f32⟩
  | 74 => ⟨S64x2x4x128x256, .f32⟩
  | 75 => ⟨S64x2x4x128x256, .f32⟩
  | 76 => ⟨S_, .f32⟩
  | 77 => ⟨S2x4x128x256, .f32⟩
  | 78 => ⟨S1x2x4x128x256, .f32⟩
  | 79 => ⟨S_, .f32⟩
  | 80 => ⟨S2x4x128x256, .f32⟩
  | 81 => ⟨S_, .f32⟩
  | 82 => ⟨S64x2x4x128x256, .f32⟩
  | 83 => ⟨S64x2x4x128x256, .f32⟩
  | 84 => ⟨S64x2x256x128x4, .f32⟩
  | 85 => ⟨S64x2x128x4x64, .f32⟩
  | 86 => ⟨S64x128x2x4x64, .f32⟩
  | 87 => ⟨S64x2x256x64, .f32⟩
  | 88 => ⟨S64x256x2x64, .f32⟩
  | 89 => ⟨S64x128x2x64, .f32⟩
  | 90 => ⟨S64x128x2x64, .f32⟩
  | 91 => ⟨S8192x2x64, .f32⟩
  | 92 => ⟨S8192x2x64, .f32⟩
  | 93 => ⟨S_, .f32⟩
  | 94 => ⟨S8320x2x64, .f32⟩
  | 95 => ⟨S128x2x64, .f32⟩
  | 96 => ⟨S8192x2x64, .f32⟩
  | 97 => ⟨S8192x2x64, .f32⟩
  | 98 => ⟨S64x128x2x64, .f32⟩
  | 99 => ⟨S64x128x2x64, .f32⟩
  | 100 => ⟨S8192x2x64, .f32⟩
  | 101 => ⟨S8192x2x64, .f32⟩
  | 102 => ⟨S_, .f32⟩
  | 103 => ⟨S8320x2x64, .f32⟩
  | 104 => ⟨S128x2x64, .f32⟩
  | 105 => ⟨S8192x2x64, .f32⟩
  | 106 => ⟨S8192x2x64, .f32⟩
  | 107 => ⟨S8192x8x64, .f32⟩
  | 108 => ⟨S8x128x256, .f32⟩
  | 109 => ⟨S8192x128, .f32⟩
  | 110 => ⟨S8192x2x64, .f32⟩
  | 111 => ⟨S_, .f32⟩
  | 112 => ⟨S64, .f32⟩
  | 113 => ⟨S1x1x64, .f32⟩
  | 114 => ⟨S8192x2x64, .f32⟩
  | 115 => ⟨S8192x2x64, .f32⟩
  | 116 => ⟨S_, .f32⟩
  | 117 => ⟨S64, .f32⟩
  | 118 => ⟨S8192x2x64, .f32⟩
  | 119 => ⟨S_, .f32⟩
  | 120 => ⟨S8192x2, .f32⟩
  | 121 => ⟨S8192x2x1, .f32⟩
  | 122 => ⟨S8192x2x64, .f32⟩
  | 123 => ⟨S8192x2x64, .f32⟩
  | 124 => ⟨S8192x2x1, .f32⟩
  | 125 => ⟨S_, .f32⟩
  | 126 => ⟨S8192x2x1, .f32⟩
  | 127 => ⟨S8192x2x1, .f32⟩
  | _ => ⟨S8192x1792, .f32⟩

abbrev hbmTy0_4 (i : Nat) : BufTy := match i % 128 with
  | 0 => ⟨S_, .f32⟩
  | 1 => ⟨S8192x2, .f32⟩
  | 2 => ⟨S8192x2x64, .f32⟩
  | 3 => ⟨S8192x2x64, .f32⟩
  | 4 => ⟨S8192x2x64, .f32⟩
  | 5 => ⟨S8192x2x64, .f32⟩
  | 6 => ⟨S8192x2x64, .f32⟩
  | 7 => ⟨S8192x128, .f32⟩
  | 8 => ⟨S8192x8x64, .f32⟩
  | 9 => ⟨S_, .f32⟩
  | 10 => ⟨S64, .f32⟩
  | 11 => ⟨S1x1x64, .f32⟩
  | 12 => ⟨S8192x8x64, .f32⟩
  | 13 => ⟨S8192x8x64, .f32⟩
  | 14 => ⟨S_, .f32⟩
  | 15 => ⟨S64, .f32⟩
  | 16 => ⟨S8192x8x64, .f32⟩
  | 17 => ⟨S_, .f32⟩
  | 18 => ⟨S8192x8, .f32⟩
  | 19 => ⟨S8192x8x1, .f32⟩
  | 20 => ⟨S8192x8x64, .f32⟩
  | 21 => ⟨S8192x8x64, .f32⟩
  | 22 => ⟨S8192x8x1, .f32⟩
  | 23 => ⟨S_, .f32⟩
  | 24 => ⟨S8192x8x1, .f32⟩
  | 25 => ⟨S8192x8x1, .f32⟩
  | 26 => ⟨S_, .f32⟩
  | 27 => ⟨S8192x8, .f32⟩
  | 28 => ⟨S8192x8x64, .f32⟩
  | 29 => ⟨S8192x8x64, .f32⟩
  | 30 => ⟨S8192x8x64, .f32⟩
  | 31 => ⟨S8192x8x64, .f32⟩
  | 32 => ⟨S8192x8x64, .f32⟩
  | 33 => ⟨S8192x512, .f32⟩
  | 34 => ⟨S8192x256, .f32⟩
  | 35 => ⟨S_, .i32⟩
  | 36 => ⟨S_, .f32⟩
  | 37 => ⟨S8704x256, .f32⟩
  | 38 => ⟨S8x128x128, .f32⟩
  | 39 => ⟨S8x128x128, .f32⟩
  | 40 => ⟨S8x128x128, .f32⟩
  | 41 => ⟨S2x512x128, .f32⟩
  | 42 => ⟨S_, .i32⟩
  | 43 => ⟨S_, .f32⟩
  | 44 => ⟨S128, .f32⟩
  | 45 => ⟨S1x128, .f32⟩
  | 46 => ⟨S_, .i32⟩
  | 47 => ⟨S_, .f32⟩
  | 48 => ⟨S128, .f32⟩
  | 49 => ⟨S1x128, .f32⟩
  | 50 => ⟨S_, .i32⟩
  | 51 => ⟨S_, .f32⟩
  | 52 => ⟨S128, .f32⟩
  | 53 => ⟨S1x128, .f32⟩
  | 54 => ⟨S_, .f32⟩
  | 55 => ⟨S5x128, .f32⟩
  | 56 => ⟨S8x128, .f32⟩
  | 57 => ⟨S8192x512, .bf16⟩
  | 58 => ⟨S8704x256, .bf16⟩
  | _ => ⟨S8192x1792, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_call1_v0 : Ref sig .tc := ⟨.hbm, 41, rfl⟩
abbrev main_call1_v1 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_c_10 : Ref sig .tc := ⟨.hbm, 54, rfl⟩
abbrev main_call3_v0 : Ref sig .tc := ⟨.hbm, 55, rfl⟩
abbrev main_call3_v1 : Ref sig .tc := ⟨.hbm, 56, rfl⟩
abbrev main_v31 : Ref sig .tc := ⟨.hbm, 57, rfl⟩
abbrev main_c_11 : Ref sig .tc := ⟨.hbm, 58, rfl⟩
abbrev main_v32 : Ref sig .tc := ⟨.hbm, 59, rfl⟩
abbrev main_v33 : Ref sig .tc := ⟨.hbm, 60, rfl⟩
abbrev main_c_12 : Ref sig .tc := ⟨.hbm, 61, rfl⟩
abbrev main_call4_v0 : Ref sig .tc := ⟨.hbm, 62, rfl⟩
abbrev main_call4_v1 : Ref sig .tc := ⟨.hbm, 63, rfl⟩
abbrev main_v34 : Ref sig .tc := ⟨.hbm, 64, rfl⟩
abbrev main_c_13 : Ref sig .tc := ⟨.hbm, 65, rfl⟩
abbrev main_v35 : Ref sig .tc := ⟨.hbm, 66, rfl⟩
abbrev main_v36 : Ref sig .tc := ⟨.hbm, 67, rfl⟩
abbrev main_c_14 : Ref sig .tc := ⟨.hbm, 68, rfl⟩
abbrev main_call5_v0 : Ref sig .tc := ⟨.hbm, 69, rfl⟩
abbrev main_call5_v1 : Ref sig .tc := ⟨.hbm, 70, rfl⟩
abbrev main_v37 : Ref sig .tc := ⟨.hbm, 71, rfl⟩
abbrev main_c_15 : Ref sig .tc := ⟨.hbm, 72, rfl⟩
abbrev main_v38 : Ref sig .tc := ⟨.hbm, 73, rfl⟩
abbrev main_v39 : Ref sig .tc := ⟨.hbm, 74, rfl⟩
abbrev main_c_16 : Ref sig .tc := ⟨.hbm, 75, rfl⟩
abbrev main_call6_v0 : Ref sig .tc := ⟨.hbm, 76, rfl⟩
abbrev main_call6_v1 : Ref sig .tc := ⟨.hbm, 77, rfl⟩
abbrev main_v40 : Ref sig .tc := ⟨.hbm, 78, rfl⟩
abbrev main_c_17 : Ref sig .tc := ⟨.hbm, 79, rfl⟩
abbrev main_v41 : Ref sig .tc := ⟨.hbm, 80, rfl⟩
abbrev main_v42 : Ref sig .tc := ⟨.hbm, 81, rfl⟩
abbrev main_c_18 : Ref sig .tc := ⟨.hbm, 82, rfl⟩
abbrev main_call7_v0 : Ref sig .tc := ⟨.hbm, 83, rfl⟩
abbrev main_call7_v1 : Ref sig .tc := ⟨.hbm, 84, rfl⟩
abbrev main_v43 : Ref sig .tc := ⟨.hbm, 85, rfl⟩
abbrev main_c_19 : Ref sig .tc := ⟨.hbm, 86, rfl⟩
abbrev main_v44 : Ref sig .tc := ⟨.hbm, 87, rfl⟩
abbrev main_v45 : Ref sig .tc := ⟨.hbm, 88, rfl⟩
abbrev main_c_20 : Ref sig .tc := ⟨.hbm, 89, rfl⟩
abbrev main_call8_v0 : Ref sig .tc := ⟨.hbm, 90, rfl⟩
abbrev main_call8_v1 : Ref sig .tc := ⟨.hbm, 91, rfl⟩
abbrev main_v46 : Ref sig .tc := ⟨.hbm, 92, rfl⟩
abbrev main_c_21 : Ref sig .tc := ⟨.hbm, 93, rfl⟩
abbrev main_v47 : Ref sig .tc := ⟨.hbm, 94, rfl⟩
abbrev main_v48 : Ref sig .tc := ⟨.hbm, 95, rfl⟩
abbrev main_c_22 : Ref sig .tc := ⟨.hbm, 96, rfl⟩
abbrev main_call9_v0 : Ref sig .tc := ⟨.hbm, 97, rfl⟩
abbrev main_call9_v1 : Ref sig .tc := ⟨.hbm, 98, rfl⟩
abbrev main_v49 : Ref sig .tc := ⟨.hbm, 99, rfl⟩
abbrev main_c_23 : Ref sig .tc := ⟨.hbm, 100, rfl⟩
abbrev main_v50 : Ref sig .tc := ⟨.hbm, 101, rfl⟩
abbrev main_v51 : Ref sig .tc := ⟨.hbm, 102, rfl⟩
abbrev main_c_24 : Ref sig .tc := ⟨.hbm, 103, rfl⟩
abbrev main_call10_v0 : Ref sig .tc := ⟨.hbm, 104, rfl⟩
abbrev main_call10_v1 : Ref sig .tc := ⟨.hbm, 105, rfl⟩
abbrev main_v52 : Ref sig .tc := ⟨.hbm, 106, rfl⟩
abbrev main_c_25 : Ref sig .tc := ⟨.hbm, 107, rfl⟩
abbrev main_v53 : Ref sig .tc := ⟨.hbm, 108, rfl⟩
abbrev main_v54 : Ref sig .tc := ⟨.hbm, 109, rfl⟩
abbrev main_c_26 : Ref sig .tc := ⟨.hbm, 110, rfl⟩
abbrev main_call11_v0 : Ref sig .tc := ⟨.hbm, 111, rfl⟩
abbrev main_call11_v1 : Ref sig .tc := ⟨.hbm, 112, rfl⟩
abbrev main_v55 : Ref sig .tc := ⟨.hbm, 113, rfl⟩
abbrev main_c_27 : Ref sig .tc := ⟨.hbm, 114, rfl⟩
abbrev main_v56 : Ref sig .tc := ⟨.hbm, 115, rfl⟩
abbrev main_v57 : Ref sig .tc := ⟨.hbm, 116, rfl⟩
abbrev main_c_28 : Ref sig .tc := ⟨.hbm, 117, rfl⟩
abbrev main_call12_v0 : Ref sig .tc := ⟨.hbm, 118, rfl⟩
abbrev main_call12_v1 : Ref sig .tc := ⟨.hbm, 119, rfl⟩
abbrev main_v58 : Ref sig .tc := ⟨.hbm, 120, rfl⟩
abbrev main_c_29 : Ref sig .tc := ⟨.hbm, 121, rfl⟩
abbrev main_v59 : Ref sig .tc := ⟨.hbm, 122, rfl⟩
abbrev main_v60 : Ref sig .tc := ⟨.hbm, 123, rfl⟩
abbrev main_c_30 : Ref sig .tc := ⟨.hbm, 124, rfl⟩
abbrev main_call13_v0 : Ref sig .tc := ⟨.hbm, 125, rfl⟩
abbrev main_call13_v1 : Ref sig .tc := ⟨.hbm, 126, rfl⟩
abbrev main_v61 : Ref sig .tc := ⟨.hbm, 127, rfl⟩
abbrev main_c_31 : Ref sig .tc := ⟨.hbm, 128, rfl⟩
abbrev main_v62 : Ref sig .tc := ⟨.hbm, 129, rfl⟩
abbrev main_v63 : Ref sig .tc := ⟨.hbm, 130, rfl⟩
abbrev main_c_32 : Ref sig .tc := ⟨.hbm, 131, rfl⟩
abbrev main_call14_v0 : Ref sig .tc := ⟨.hbm, 132, rfl⟩
abbrev main_call14_v1 : Ref sig .tc := ⟨.hbm, 133, rfl⟩
abbrev main_v64 : Ref sig .tc := ⟨.hbm, 134, rfl⟩
abbrev main_c_33 : Ref sig .tc := ⟨.hbm, 135, rfl⟩
abbrev main_v65 : Ref sig .tc := ⟨.hbm, 136, rfl⟩
abbrev main_v66 : Ref sig .tc := ⟨.hbm, 137, rfl⟩
abbrev main_c_34 : Ref sig .tc := ⟨.hbm, 138, rfl⟩
abbrev main_call15_v0 : Ref sig .tc := ⟨.hbm, 139, rfl⟩
abbrev main_call15_v1 : Ref sig .tc := ⟨.hbm, 140, rfl⟩
abbrev main_v67 : Ref sig .tc := ⟨.hbm, 141, rfl⟩
abbrev main_c_35 : Ref sig .tc := ⟨.hbm, 142, rfl⟩
abbrev main_v68 : Ref sig .tc := ⟨.hbm, 143, rfl⟩
abbrev main_v69 : Ref sig .tc := ⟨.hbm, 144, rfl⟩
abbrev main_c_36 : Ref sig .tc := ⟨.hbm, 145, rfl⟩
abbrev main_call16_v0 : Ref sig .tc := ⟨.hbm, 146, rfl⟩
abbrev main_call16_v1 : Ref sig .tc := ⟨.hbm, 147, rfl⟩
abbrev main_v70 : Ref sig .tc := ⟨.hbm, 148, rfl⟩
abbrev main_c_37 : Ref sig .tc := ⟨.hbm, 149, rfl⟩
abbrev main_v71 : Ref sig .tc := ⟨.hbm, 150, rfl⟩
abbrev main_v72 : Ref sig .tc := ⟨.hbm, 151, rfl⟩
abbrev main_c_38 : Ref sig .tc := ⟨.hbm, 152, rfl⟩
abbrev main_call17_v0 : Ref sig .tc := ⟨.hbm, 153, rfl⟩
abbrev main_call17_v1 : Ref sig .tc := ⟨.hbm, 154, rfl⟩
abbrev main_v73 : Ref sig .tc := ⟨.hbm, 155, rfl⟩
abbrev main_c_39 : Ref sig .tc := ⟨.hbm, 156, rfl⟩
abbrev main_v74 : Ref sig .tc := ⟨.hbm, 157, rfl⟩
abbrev main_v75 : Ref sig .tc := ⟨.hbm, 158, rfl⟩
abbrev main_c_40 : Ref sig .tc := ⟨.hbm, 159, rfl⟩
abbrev main_call18_v0 : Ref sig .tc := ⟨.hbm, 160, rfl⟩
abbrev main_call18_v1 : Ref sig .tc := ⟨.hbm, 161, rfl⟩
abbrev main_v76 : Ref sig .tc := ⟨.hbm, 162, rfl⟩
abbrev main_c_41 : Ref sig .tc := ⟨.hbm, 163, rfl⟩
abbrev main_v77 : Ref sig .tc := ⟨.hbm, 164, rfl⟩
abbrev main_v78 : Ref sig .tc := ⟨.hbm, 165, rfl⟩
abbrev main_c_42 : Ref sig .tc := ⟨.hbm, 166, rfl⟩
abbrev main_call19_v0 : Ref sig .tc := ⟨.hbm, 167, rfl⟩
abbrev main_call19_v1 : Ref sig .tc := ⟨.hbm, 168, rfl⟩
abbrev main_v79 : Ref sig .tc := ⟨.hbm, 169, rfl⟩
abbrev main_c_43 : Ref sig .tc := ⟨.hbm, 170, rfl⟩
abbrev main_v80 : Ref sig .tc := ⟨.hbm, 171, rfl⟩
abbrev main_v81 : Ref sig .tc := ⟨.hbm, 172, rfl⟩
abbrev main_c_44 : Ref sig .tc := ⟨.hbm, 173, rfl⟩
abbrev main_call20_v0 : Ref sig .tc := ⟨.hbm, 174, rfl⟩
abbrev main_call20_v1 : Ref sig .tc := ⟨.hbm, 175, rfl⟩
abbrev main_v82 : Ref sig .tc := ⟨.hbm, 176, rfl⟩
abbrev main_c_45 : Ref sig .tc := ⟨.hbm, 177, rfl⟩
abbrev main_v83 : Ref sig .tc := ⟨.hbm, 178, rfl⟩
abbrev main_v84 : Ref sig .tc := ⟨.hbm, 179, rfl⟩
abbrev main_c_46 : Ref sig .tc := ⟨.hbm, 180, rfl⟩
abbrev main_call21_v0 : Ref sig .tc := ⟨.hbm, 181, rfl⟩
abbrev main_call21_v1 : Ref sig .tc := ⟨.hbm, 182, rfl⟩
abbrev main_v85 : Ref sig .tc := ⟨.hbm, 183, rfl⟩
abbrev main_c_47 : Ref sig .tc := ⟨.hbm, 184, rfl⟩
abbrev main_v86 : Ref sig .tc := ⟨.hbm, 185, rfl⟩
abbrev main_v87 : Ref sig .tc := ⟨.hbm, 186, rfl⟩
abbrev main_c_48 : Ref sig .tc := ⟨.hbm, 187, rfl⟩
abbrev main_call22_v0 : Ref sig .tc := ⟨.hbm, 188, rfl⟩
abbrev main_call22_v1 : Ref sig .tc := ⟨.hbm, 189, rfl⟩
abbrev main_v88 : Ref sig .tc := ⟨.hbm, 190, rfl⟩
abbrev main_c_49 : Ref sig .tc := ⟨.hbm, 191, rfl⟩
abbrev main_v89 : Ref sig .tc := ⟨.hbm, 192, rfl⟩
abbrev main_v90 : Ref sig .tc := ⟨.hbm, 193, rfl⟩
abbrev main_c_50 : Ref sig .tc := ⟨.hbm, 194, rfl⟩
abbrev main_call23_v0 : Ref sig .tc := ⟨.hbm, 195, rfl⟩
abbrev main_call23_v1 : Ref sig .tc := ⟨.hbm, 196, rfl⟩
abbrev main_v91 : Ref sig .tc := ⟨.hbm, 197, rfl⟩
abbrev main_c_51 : Ref sig .tc := ⟨.hbm, 198, rfl⟩
abbrev main_v92 : Ref sig .tc := ⟨.hbm, 199, rfl⟩
abbrev main_v93 : Ref sig .tc := ⟨.hbm, 200, rfl⟩
abbrev main_c_52 : Ref sig .tc := ⟨.hbm, 201, rfl⟩
abbrev main_call24_v0 : Ref sig .tc := ⟨.hbm, 202, rfl⟩
abbrev main_call24_v1 : Ref sig .tc := ⟨.hbm, 203, rfl⟩
abbrev main_v94 : Ref sig .tc := ⟨.hbm, 204, rfl⟩
abbrev main_c_53 : Ref sig .tc := ⟨.hbm, 205, rfl⟩
abbrev main_v95 : Ref sig .tc := ⟨.hbm, 206, rfl⟩
abbrev main_v96 : Ref sig .tc := ⟨.hbm, 207, rfl⟩
abbrev main_c_54 : Ref sig .tc := ⟨.hbm, 208, rfl⟩
abbrev main_call25_v0 : Ref sig .tc := ⟨.hbm, 209, rfl⟩
abbrev main_call25_v1 : Ref sig .tc := ⟨.hbm, 210, rfl⟩
abbrev main_v97 : Ref sig .tc := ⟨.hbm, 211, rfl⟩
abbrev main_c_55 : Ref sig .tc := ⟨.hbm, 212, rfl⟩
abbrev main_v98 : Ref sig .tc := ⟨.hbm, 213, rfl⟩
abbrev main_v99 : Ref sig .tc := ⟨.hbm, 214, rfl⟩
abbrev main_c_56 : Ref sig .tc := ⟨.hbm, 215, rfl⟩
abbrev main_call26_v0 : Ref sig .tc := ⟨.hbm, 216, rfl⟩
abbrev main_call26_v1 : Ref sig .tc := ⟨.hbm, 217, rfl⟩
abbrev main_v100 : Ref sig .tc := ⟨.hbm, 218, rfl⟩
abbrev main_c_57 : Ref sig .tc := ⟨.hbm, 219, rfl⟩
abbrev main_v101 : Ref sig .tc := ⟨.hbm, 220, rfl⟩
abbrev main_v102 : Ref sig .tc := ⟨.hbm, 221, rfl⟩
abbrev main_c_58 : Ref sig .tc := ⟨.hbm, 222, rfl⟩
abbrev main_call27_v0 : Ref sig .tc := ⟨.hbm, 223, rfl⟩
abbrev main_call27_v1 : Ref sig .tc := ⟨.hbm, 224, rfl⟩
abbrev main_v103 : Ref sig .tc := ⟨.hbm, 225, rfl⟩
abbrev main_c_59 : Ref sig .tc := ⟨.hbm, 226, rfl⟩
abbrev main_v104 : Ref sig .tc := ⟨.hbm, 227, rfl⟩
abbrev main_v105 : Ref sig .tc := ⟨.hbm, 228, rfl⟩
abbrev main_c_60 : Ref sig .tc := ⟨.hbm, 229, rfl⟩
abbrev main_call28_v0 : Ref sig .tc := ⟨.hbm, 230, rfl⟩
abbrev main_call28_v1 : Ref sig .tc := ⟨.hbm, 231, rfl⟩
abbrev main_v106 : Ref sig .tc := ⟨.hbm, 232, rfl⟩
abbrev main_c_61 : Ref sig .tc := ⟨.hbm, 233, rfl⟩
abbrev main_v107 : Ref sig .tc := ⟨.hbm, 234, rfl⟩
abbrev main_v108 : Ref sig .tc := ⟨.hbm, 235, rfl⟩
abbrev main_c_62 : Ref sig .tc := ⟨.hbm, 236, rfl⟩
abbrev main_call29_v0 : Ref sig .tc := ⟨.hbm, 237, rfl⟩
abbrev main_call29_v1 : Ref sig .tc := ⟨.hbm, 238, rfl⟩
abbrev main_v109 : Ref sig .tc := ⟨.hbm, 239, rfl⟩
abbrev main_c_63 : Ref sig .tc := ⟨.hbm, 240, rfl⟩
abbrev main_v110 : Ref sig .tc := ⟨.hbm, 241, rfl⟩
abbrev main_v111 : Ref sig .tc := ⟨.hbm, 242, rfl⟩
abbrev main_c_64 : Ref sig .tc := ⟨.hbm, 243, rfl⟩
abbrev main_call30_v0 : Ref sig .tc := ⟨.hbm, 244, rfl⟩
abbrev main_call30_v1 : Ref sig .tc := ⟨.hbm, 245, rfl⟩
abbrev main_v112 : Ref sig .tc := ⟨.hbm, 246, rfl⟩
abbrev main_v113 : Ref sig .tc := ⟨.hbm, 247, rfl⟩
abbrev main_v114 : Ref sig .tc := ⟨.hbm, 248, rfl⟩
abbrev main_c_65 : Ref sig .tc := ⟨.hbm, 249, rfl⟩
abbrev main_v115 : Ref sig .tc := ⟨.hbm, 250, rfl⟩
abbrev main_v116 : Ref sig .tc := ⟨.hbm, 251, rfl⟩
abbrev main_c_66 : Ref sig .tc := ⟨.hbm, 252, rfl⟩
abbrev main_v117 : Ref sig .tc := ⟨.hbm, 253, rfl⟩
abbrev main_v118 : Ref sig .tc := ⟨.hbm, 254, rfl⟩
abbrev main_v119 : Ref sig .tc := ⟨.hbm, 255, rfl⟩
abbrev main_v120 : Ref sig .tc := ⟨.hbm, 256, rfl⟩
abbrev main_v121 : Ref sig .tc := ⟨.hbm, 257, rfl⟩
abbrev main_v122 : Ref sig .tc := ⟨.hbm, 258, rfl⟩
abbrev main_v123 : Ref sig .tc := ⟨.hbm, 259, rfl⟩
abbrev main_v124 : Ref sig .tc := ⟨.hbm, 260, rfl⟩
abbrev main_c_67 : Ref sig .tc := ⟨.hbm, 261, rfl⟩
abbrev main_v125 : Ref sig .tc := ⟨.hbm, 262, rfl⟩
abbrev main_v126 : Ref sig .tc := ⟨.hbm, 263, rfl⟩
abbrev main_v127 : Ref sig .tc := ⟨.hbm, 264, rfl⟩
abbrev main_v128 : Ref sig .tc := ⟨.hbm, 265, rfl⟩
abbrev main_v129 : Ref sig .tc := ⟨.hbm, 266, rfl⟩
abbrev main_v130 : Ref sig .tc := ⟨.hbm, 267, rfl⟩
abbrev main_c_68 : Ref sig .tc := ⟨.hbm, 268, rfl⟩
abbrev main_v131 : Ref sig .tc := ⟨.hbm, 269, rfl⟩
abbrev main_v132 : Ref sig .tc := ⟨.hbm, 270, rfl⟩
abbrev main_c_69 : Ref sig .tc := ⟨.hbm, 271, rfl⟩
abbrev main_v133 : Ref sig .tc := ⟨.hbm, 272, rfl⟩
abbrev main_v134 : Ref sig .tc := ⟨.hbm, 273, rfl⟩
abbrev main_v135 : Ref sig .tc := ⟨.hbm, 274, rfl⟩
abbrev main_v136 : Ref sig .tc := ⟨.hbm, 275, rfl⟩
abbrev main_v137 : Ref sig .tc := ⟨.hbm, 276, rfl⟩
abbrev main_v138 : Ref sig .tc := ⟨.hbm, 277, rfl⟩
abbrev main_v139 : Ref sig .tc := ⟨.hbm, 278, rfl⟩
abbrev main_v140 : Ref sig .tc := ⟨.hbm, 279, rfl⟩
abbrev main_cst : Ref sig .tc := ⟨.hbm, 280, rfl⟩
abbrev main_v141 : Ref sig .tc := ⟨.hbm, 281, rfl⟩
abbrev main_v142 : Ref sig .tc := ⟨.hbm, 282, rfl⟩
abbrev main_cst_70 : Ref sig .tc := ⟨.hbm, 283, rfl⟩
abbrev main_v143 : Ref sig .tc := ⟨.hbm, 284, rfl⟩
abbrev main_v144 : Ref sig .tc := ⟨.hbm, 285, rfl⟩
abbrev main_cst_71 : Ref sig .tc := ⟨.hbm, 286, rfl⟩
abbrev main_v145 : Ref sig .tc := ⟨.hbm, 287, rfl⟩
abbrev main_v146 : Ref sig .tc := ⟨.hbm, 288, rfl⟩
abbrev main_v147 : Ref sig .tc := ⟨.hbm, 289, rfl⟩
abbrev main_v148 : Ref sig .tc := ⟨.hbm, 290, rfl⟩
abbrev main_cst_72 : Ref sig .tc := ⟨.hbm, 291, rfl⟩
abbrev main_v149 : Ref sig .tc := ⟨.hbm, 292, rfl⟩
abbrev main_v150 : Ref sig .tc := ⟨.hbm, 293, rfl⟩
abbrev main_v151 : Ref sig .tc := ⟨.hbm, 294, rfl⟩
abbrev main_v152 : Ref sig .tc := ⟨.hbm, 295, rfl⟩
abbrev main_v153 : Ref sig .tc := ⟨.hbm, 296, rfl⟩
abbrev main_v154 : Ref sig .tc := ⟨.hbm, 297, rfl⟩
abbrev main_v155 : Ref sig .tc := ⟨.hbm, 298, rfl⟩
abbrev main_v156 : Ref sig .tc := ⟨.hbm, 299, rfl⟩
abbrev main_v157 : Ref sig .tc := ⟨.hbm, 300, rfl⟩
abbrev main_cst_73 : Ref sig .tc := ⟨.hbm, 301, rfl⟩
abbrev main_v158 : Ref sig .tc := ⟨.hbm, 302, rfl⟩
abbrev main_v159 : Ref sig .tc := ⟨.hbm, 303, rfl⟩
abbrev main_cst_74 : Ref sig .tc := ⟨.hbm, 304, rfl⟩
abbrev main_v160 : Ref sig .tc := ⟨.hbm, 305, rfl⟩
abbrev main_v161 : Ref sig .tc := ⟨.hbm, 306, rfl⟩
abbrev main_cst_75 : Ref sig .tc := ⟨.hbm, 307, rfl⟩
abbrev main_v162 : Ref sig .tc := ⟨.hbm, 308, rfl⟩
abbrev main_v163 : Ref sig .tc := ⟨.hbm, 309, rfl⟩
abbrev main_v164 : Ref sig .tc := ⟨.hbm, 310, rfl⟩
abbrev main_v165 : Ref sig .tc := ⟨.hbm, 311, rfl⟩
abbrev main_cst_76 : Ref sig .tc := ⟨.hbm, 312, rfl⟩
abbrev main_v166 : Ref sig .tc := ⟨.hbm, 313, rfl⟩
abbrev main_v167 : Ref sig .tc := ⟨.hbm, 314, rfl⟩
abbrev main_v168 : Ref sig .tc := ⟨.hbm, 315, rfl⟩
abbrev main_v169 : Ref sig .tc := ⟨.hbm, 316, rfl⟩
abbrev main_v170 : Ref sig .tc := ⟨.hbm, 317, rfl⟩
abbrev main_v171 : Ref sig .tc := ⟨.hbm, 318, rfl⟩
abbrev main_v172 : Ref sig .tc := ⟨.hbm, 319, rfl⟩
abbrev main_v173 : Ref sig .tc := ⟨.hbm, 320, rfl⟩
abbrev main_v174 : Ref sig .tc := ⟨.hbm, 321, rfl⟩
abbrev main_v175 : Ref sig .tc := ⟨.hbm, 322, rfl⟩
abbrev main_cst_77 : Ref sig .tc := ⟨.hbm, 323, rfl⟩
abbrev main_v176 : Ref sig .tc := ⟨.hbm, 324, rfl⟩
abbrev main_v177 : Ref sig .tc := ⟨.hbm, 325, rfl⟩
abbrev main_cst_78 : Ref sig .tc := ⟨.hbm, 326, rfl⟩
abbrev main_v178 : Ref sig .tc := ⟨.hbm, 327, rfl⟩
abbrev main_v179 : Ref sig .tc := ⟨.hbm, 328, rfl⟩
abbrev main_v180 : Ref sig .tc := ⟨.hbm, 329, rfl⟩
abbrev main_v181 : Ref sig .tc := ⟨.hbm, 330, rfl⟩
abbrev main_v182 : Ref sig .tc := ⟨.hbm, 331, rfl⟩
abbrev main_cst_79 : Ref sig .tc := ⟨.hbm, 332, rfl⟩
abbrev main_v183 : Ref sig .tc := ⟨.hbm, 333, rfl⟩
abbrev main_v184 : Ref sig .tc := ⟨.hbm, 334, rfl⟩
abbrev main_cst_80 : Ref sig .tc := ⟨.hbm, 335, rfl⟩
abbrev main_v185 : Ref sig .tc := ⟨.hbm, 336, rfl⟩
abbrev main_v186 : Ref sig .tc := ⟨.hbm, 337, rfl⟩
abbrev main_v187 : Ref sig .tc := ⟨.hbm, 338, rfl⟩
abbrev main_v188 : Ref sig .tc := ⟨.hbm, 339, rfl⟩
abbrev main_v189 : Ref sig .tc := ⟨.hbm, 340, rfl⟩
abbrev main_v190 : Ref sig .tc := ⟨.hbm, 341, rfl⟩
abbrev main_v191 : Ref sig .tc := ⟨.hbm, 342, rfl⟩
abbrev main_cst_81 : Ref sig .tc := ⟨.hbm, 343, rfl⟩
abbrev main_v192 : Ref sig .tc := ⟨.hbm, 344, rfl⟩
abbrev main_v193 : Ref sig .tc := ⟨.hbm, 345, rfl⟩
abbrev main_v194 : Ref sig .tc := ⟨.hbm, 346, rfl⟩
abbrev main_v195 : Ref sig .tc := ⟨.hbm, 347, rfl⟩
abbrev main_v196 : Ref sig .tc := ⟨.hbm, 348, rfl⟩
abbrev main_v197 : Ref sig .tc := ⟨.hbm, 349, rfl⟩
abbrev main_cst_82 : Ref sig .tc := ⟨.hbm, 350, rfl⟩
abbrev main_call31_v0 : Ref sig .tc := ⟨.hbm, 351, rfl⟩
abbrev main_v198_1 : Ref sig .tc := ⟨.hbm, 352, rfl⟩
abbrev main_call31_v2 : Ref sig .tc := ⟨.hbm, 353, rfl⟩
abbrev main_v198_0 : Ref sig .tc := ⟨.hbm, 354, rfl⟩
abbrev main_call31_cst : Ref sig .tc := ⟨.hbm, 355, rfl⟩
abbrev main_v198_2 : Ref sig .tc := ⟨.hbm, 356, rfl⟩
abbrev main_v199 : Ref sig .tc := ⟨.hbm, 357, rfl⟩
abbrev main_v200 : Ref sig .tc := ⟨.hbm, 358, rfl⟩
abbrev main_cst_83 : Ref sig .tc := ⟨.hbm, 359, rfl⟩
abbrev main_v201 : Ref sig .tc := ⟨.hbm, 360, rfl⟩
abbrev main_v202 : Ref sig .tc := ⟨.hbm, 361, rfl⟩
abbrev main_v203 : Ref sig .tc := ⟨.hbm, 362, rfl⟩
abbrev main_v204 : Ref sig .tc := ⟨.hbm, 363, rfl⟩
abbrev main_v205 : Ref sig .tc := ⟨.hbm, 364, rfl⟩
abbrev main_cst_84 : Ref sig .tc := ⟨.hbm, 365, rfl⟩
abbrev main_v206 : Ref sig .tc := ⟨.hbm, 366, rfl⟩
abbrev main_v207 : Ref sig .tc := ⟨.hbm, 367, rfl⟩
abbrev main_v208 : Ref sig .tc := ⟨.hbm, 368, rfl⟩
abbrev main_v209 : Ref sig .tc := ⟨.hbm, 369, rfl⟩
abbrev main_v210 : Ref sig .tc := ⟨.hbm, 370, rfl⟩
abbrev main_v211 : Ref sig .tc := ⟨.hbm, 371, rfl⟩
abbrev main_v212 : Ref sig .tc := ⟨.hbm, 372, rfl⟩
abbrev main_v213 : Ref sig .tc := ⟨.hbm, 373, rfl⟩
abbrev main_cst_85 : Ref sig .tc := ⟨.hbm, 374, rfl⟩
abbrev main_v214 : Ref sig .tc := ⟨.hbm, 375, rfl⟩
abbrev main_cst_86 : Ref sig .tc := ⟨.hbm, 376, rfl⟩
abbrev main_v215 : Ref sig .tc := ⟨.hbm, 377, rfl⟩
abbrev main_cst_87 : Ref sig .tc := ⟨.hbm, 378, rfl⟩
abbrev main_v216 : Ref sig .tc := ⟨.hbm, 379, rfl⟩
abbrev main_v217 : Ref sig .tc := ⟨.hbm, 380, rfl⟩
abbrev main_v218 : Ref sig .tc := ⟨.hbm, 381, rfl⟩
abbrev main_v219 : Ref sig .tc := ⟨.hbm, 382, rfl⟩
abbrev main_v220 : Ref sig .tc := ⟨.hbm, 383, rfl⟩
abbrev main_v221 : Ref sig .tc := ⟨.hbm, 384, rfl⟩
abbrev main_v222 : Ref sig .tc := ⟨.hbm, 385, rfl⟩
abbrev main_cst_88 : Ref sig .tc := ⟨.hbm, 386, rfl⟩
abbrev main_v223 : Ref sig .tc := ⟨.hbm, 387, rfl⟩
abbrev main_cst_89 : Ref sig .tc := ⟨.hbm, 388, rfl⟩
abbrev main_v224 : Ref sig .tc := ⟨.hbm, 389, rfl⟩
abbrev main_cst_90 : Ref sig .tc := ⟨.hbm, 390, rfl⟩
abbrev main_v225 : Ref sig .tc := ⟨.hbm, 391, rfl⟩
abbrev main_v226 : Ref sig .tc := ⟨.hbm, 392, rfl⟩
abbrev main_v227 : Ref sig .tc := ⟨.hbm, 393, rfl⟩
abbrev main_v228 : Ref sig .tc := ⟨.hbm, 394, rfl⟩
abbrev main_v229 : Ref sig .tc := ⟨.hbm, 395, rfl⟩
abbrev main_v230 : Ref sig .tc := ⟨.hbm, 396, rfl⟩
abbrev main_cst_91 : Ref sig .tc := ⟨.hbm, 397, rfl⟩
abbrev main_v231 : Ref sig .tc := ⟨.hbm, 398, rfl⟩
abbrev main_v232 : Ref sig .tc := ⟨.hbm, 399, rfl⟩
abbrev main_v233 : Ref sig .tc := ⟨.hbm, 400, rfl⟩
abbrev main_v234 : Ref sig .tc := ⟨.hbm, 401, rfl⟩
abbrev main_v235 : Ref sig .tc := ⟨.hbm, 402, rfl⟩
abbrev main_v236 : Ref sig .tc := ⟨.hbm, 403, rfl⟩
abbrev main_v237 : Ref sig .tc := ⟨.hbm, 404, rfl⟩
abbrev main_v238 : Ref sig .tc := ⟨.hbm, 405, rfl⟩
abbrev main_v239 : Ref sig .tc := ⟨.hbm, 406, rfl⟩
abbrev main_cst_92 : Ref sig .tc := ⟨.hbm, 407, rfl⟩
abbrev main_v240 : Ref sig .tc := ⟨.hbm, 408, rfl⟩
abbrev main_v241 : Ref sig .tc := ⟨.hbm, 409, rfl⟩
abbrev main_v242 : Ref sig .tc := ⟨.hbm, 410, rfl⟩
abbrev main_v243 : Ref sig .tc := ⟨.hbm, 411, rfl⟩
abbrev main_v244 : Ref sig .tc := ⟨.hbm, 412, rfl⟩
abbrev main_v245 : Ref sig .tc := ⟨.hbm, 413, rfl⟩
abbrev main_v246 : Ref sig .tc := ⟨.hbm, 414, rfl⟩
abbrev main_v247 : Ref sig .tc := ⟨.hbm, 415, rfl⟩
abbrev main_v248 : Ref sig .tc := ⟨.hbm, 416, rfl⟩
abbrev main_v249 : Ref sig .tc := ⟨.hbm, 417, rfl⟩
abbrev main_v250 : Ref sig .tc := ⟨.hbm, 418, rfl⟩
abbrev main_v251 : Ref sig .tc := ⟨.hbm, 419, rfl⟩
abbrev main_v252 : Ref sig .tc := ⟨.hbm, 420, rfl⟩
abbrev main_cst_93 : Ref sig .tc := ⟨.hbm, 421, rfl⟩
abbrev main_v253 : Ref sig .tc := ⟨.hbm, 422, rfl⟩
abbrev main_v254 : Ref sig .tc := ⟨.hbm, 423, rfl⟩
abbrev main_v255 : Ref sig .tc := ⟨.hbm, 424, rfl⟩
abbrev main_v256 : Ref sig .tc := ⟨.hbm, 425, rfl⟩
abbrev main_v257 : Ref sig .tc := ⟨.hbm, 426, rfl⟩
abbrev main_v258 : Ref sig .tc := ⟨.hbm, 427, rfl⟩
abbrev main_cst_94 : Ref sig .tc := ⟨.hbm, 428, rfl⟩
abbrev main_v259 : Ref sig .tc := ⟨.hbm, 429, rfl⟩
abbrev main_v260 : Ref sig .tc := ⟨.hbm, 430, rfl⟩
abbrev main_v261 : Ref sig .tc := ⟨.hbm, 431, rfl⟩
abbrev main_cst_95 : Ref sig .tc := ⟨.hbm, 432, rfl⟩
abbrev main_v262 : Ref sig .tc := ⟨.hbm, 433, rfl⟩
abbrev main_v263 : Ref sig .tc := ⟨.hbm, 434, rfl⟩
abbrev main_v264 : Ref sig .tc := ⟨.hbm, 435, rfl⟩
abbrev main_v265 : Ref sig .tc := ⟨.hbm, 436, rfl⟩
abbrev main_v266 : Ref sig .tc := ⟨.hbm, 437, rfl⟩
abbrev main_cst_96 : Ref sig .tc := ⟨.hbm, 438, rfl⟩
abbrev main_v267 : Ref sig .tc := ⟨.hbm, 439, rfl⟩
abbrev main_v268 : Ref sig .tc := ⟨.hbm, 440, rfl⟩
abbrev main_v269 : Ref sig .tc := ⟨.hbm, 441, rfl⟩
abbrev main_v270 : Ref sig .tc := ⟨.hbm, 442, rfl⟩
abbrev main_cst_97 : Ref sig .tc := ⟨.hbm, 443, rfl⟩
abbrev main_v271 : Ref sig .tc := ⟨.hbm, 444, rfl⟩
abbrev main_v272 : Ref sig .tc := ⟨.hbm, 445, rfl⟩
abbrev main_v273 : Ref sig .tc := ⟨.hbm, 446, rfl⟩
abbrev main_v274 : Ref sig .tc := ⟨.hbm, 447, rfl⟩
abbrev main_cst_98 : Ref sig .tc := ⟨.hbm, 448, rfl⟩
abbrev main_v275 : Ref sig .tc := ⟨.hbm, 449, rfl⟩
abbrev main_v276 : Ref sig .tc := ⟨.hbm, 450, rfl⟩
abbrev main_v277 : Ref sig .tc := ⟨.hbm, 451, rfl⟩
abbrev main_v278 : Ref sig .tc := ⟨.hbm, 452, rfl⟩
abbrev main_v279 : Ref sig .tc := ⟨.hbm, 453, rfl⟩
abbrev main_cst_99 : Ref sig .tc := ⟨.hbm, 454, rfl⟩
abbrev main_v280 : Ref sig .tc := ⟨.hbm, 455, rfl⟩
abbrev main_v281 : Ref sig .tc := ⟨.hbm, 456, rfl⟩
abbrev main_call32_cst : Ref sig .tc := ⟨.hbm, 457, rfl⟩
abbrev main_call32_v0 : Ref sig .tc := ⟨.hbm, 458, rfl⟩
abbrev main_v282 : Ref sig .tc := ⟨.hbm, 459, rfl⟩
abbrev main_cst_100 : Ref sig .tc := ⟨.hbm, 460, rfl⟩
abbrev main_v283 : Ref sig .tc := ⟨.hbm, 461, rfl⟩
abbrev main_v284 : Ref sig .tc := ⟨.hbm, 462, rfl⟩
abbrev main_cst_101 : Ref sig .tc := ⟨.hbm, 463, rfl⟩
abbrev main_v285 : Ref sig .tc := ⟨.hbm, 464, rfl⟩
abbrev main_cst_102 : Ref sig .tc := ⟨.hbm, 465, rfl⟩
abbrev main_v286 : Ref sig .tc := ⟨.hbm, 466, rfl⟩
abbrev main_v287 : Ref sig .tc := ⟨.hbm, 467, rfl⟩
abbrev main_v288 : Ref sig .tc := ⟨.hbm, 468, rfl⟩
abbrev main_v289 : Ref sig .tc := ⟨.hbm, 469, rfl⟩
abbrev main_v290 : Ref sig .tc := ⟨.hbm, 470, rfl⟩
abbrev main_v291 : Ref sig .tc := ⟨.hbm, 471, rfl⟩
abbrev main_v292 : Ref sig .tc := ⟨.hbm, 472, rfl⟩
abbrev main_v293 : Ref sig .tc := ⟨.hbm, 473, rfl⟩
abbrev main_v294 : Ref sig .tc := ⟨.hbm, 474, rfl⟩
abbrev main_v295 : Ref sig .tc := ⟨.hbm, 475, rfl⟩
abbrev main_v296 : Ref sig .tc := ⟨.hbm, 476, rfl⟩
abbrev main_cst_103 : Ref sig .tc := ⟨.hbm, 477, rfl⟩
abbrev main_v297 : Ref sig .tc := ⟨.hbm, 478, rfl⟩
abbrev main_v298 : Ref sig .tc := ⟨.hbm, 479, rfl⟩
abbrev main_v299 : Ref sig .tc := ⟨.hbm, 480, rfl⟩
abbrev main_v300 : Ref sig .tc := ⟨.hbm, 481, rfl⟩
abbrev main_v301 : Ref sig .tc := ⟨.hbm, 482, rfl⟩
abbrev main_v302 : Ref sig .tc := ⟨.hbm, 483, rfl⟩
abbrev main_v303 : Ref sig .tc := ⟨.hbm, 484, rfl⟩
abbrev main_v304 : Ref sig .tc := ⟨.hbm, 485, rfl⟩
abbrev main_cst_104 : Ref sig .tc := ⟨.hbm, 486, rfl⟩
abbrev main_v305 : Ref sig .tc := ⟨.hbm, 487, rfl⟩
abbrev main_v306 : Ref sig .tc := ⟨.hbm, 488, rfl⟩
abbrev main_v307 : Ref sig .tc := ⟨.hbm, 489, rfl⟩
abbrev main_v308 : Ref sig .tc := ⟨.hbm, 490, rfl⟩
abbrev main_v309 : Ref sig .tc := ⟨.hbm, 491, rfl⟩
abbrev main_v310 : Ref sig .tc := ⟨.hbm, 492, rfl⟩
abbrev main_v311 : Ref sig .tc := ⟨.hbm, 493, rfl⟩
abbrev main_v312 : Ref sig .tc := ⟨.hbm, 494, rfl⟩
abbrev main_cst_105 : Ref sig .tc := ⟨.hbm, 495, rfl⟩
abbrev main_v313 : Ref sig .tc := ⟨.hbm, 496, rfl⟩
abbrev main_v314 : Ref sig .tc := ⟨.hbm, 497, rfl⟩
abbrev main_v315 : Ref sig .tc := ⟨.hbm, 498, rfl⟩
abbrev main_v316 : Ref sig .tc := ⟨.hbm, 499, rfl⟩
abbrev main_cst_106 : Ref sig .tc := ⟨.hbm, 500, rfl⟩
abbrev main_v317 : Ref sig .tc := ⟨.hbm, 501, rfl⟩
abbrev main_v318 : Ref sig .tc := ⟨.hbm, 502, rfl⟩
abbrev main_cst_107 : Ref sig .tc := ⟨.hbm, 503, rfl⟩
abbrev main_v319 : Ref sig .tc := ⟨.hbm, 504, rfl⟩
abbrev main_v320 : Ref sig .tc := ⟨.hbm, 505, rfl⟩
abbrev main_v321 : Ref sig .tc := ⟨.hbm, 506, rfl⟩
abbrev main_v322 : Ref sig .tc := ⟨.hbm, 507, rfl⟩
abbrev main_v323 : Ref sig .tc := ⟨.hbm, 508, rfl⟩
abbrev main_cst_108 : Ref sig .tc := ⟨.hbm, 509, rfl⟩
abbrev main_v324 : Ref sig .tc := ⟨.hbm, 510, rfl⟩
abbrev main_v325 : Ref sig .tc := ⟨.hbm, 511, rfl⟩
abbrev main_cst_109 : Ref sig .tc := ⟨.hbm, 512, rfl⟩
abbrev main_v326 : Ref sig .tc := ⟨.hbm, 513, rfl⟩
abbrev main_v327 : Ref sig .tc := ⟨.hbm, 514, rfl⟩
abbrev main_v328 : Ref sig .tc := ⟨.hbm, 515, rfl⟩
abbrev main_v329 : Ref sig .tc := ⟨.hbm, 516, rfl⟩
abbrev main_v330 : Ref sig .tc := ⟨.hbm, 517, rfl⟩
abbrev main_v331 : Ref sig .tc := ⟨.hbm, 518, rfl⟩
abbrev main_v332 : Ref sig .tc := ⟨.hbm, 519, rfl⟩
abbrev main_v333 : Ref sig .tc := ⟨.hbm, 520, rfl⟩
abbrev main_cst_110 : Ref sig .tc := ⟨.hbm, 521, rfl⟩
abbrev main_v334 : Ref sig .tc := ⟨.hbm, 522, rfl⟩
abbrev main_v335 : Ref sig .tc := ⟨.hbm, 523, rfl⟩
abbrev main_v336 : Ref sig .tc := ⟨.hbm, 524, rfl⟩
abbrev main_v337 : Ref sig .tc := ⟨.hbm, 525, rfl⟩
abbrev main_cst_111 : Ref sig .tc := ⟨.hbm, 526, rfl⟩
abbrev main_v338 : Ref sig .tc := ⟨.hbm, 527, rfl⟩
abbrev main_v339 : Ref sig .tc := ⟨.hbm, 528, rfl⟩
abbrev main_cst_112 : Ref sig .tc := ⟨.hbm, 529, rfl⟩
abbrev main_v340 : Ref sig .tc := ⟨.hbm, 530, rfl⟩
abbrev main_v341 : Ref sig .tc := ⟨.hbm, 531, rfl⟩
abbrev main_v342 : Ref sig .tc := ⟨.hbm, 532, rfl⟩
abbrev main_v343 : Ref sig .tc := ⟨.hbm, 533, rfl⟩
abbrev main_v344 : Ref sig .tc := ⟨.hbm, 534, rfl⟩
abbrev main_cst_113 : Ref sig .tc := ⟨.hbm, 535, rfl⟩
abbrev main_v345 : Ref sig .tc := ⟨.hbm, 536, rfl⟩
abbrev main_v346 : Ref sig .tc := ⟨.hbm, 537, rfl⟩
abbrev main_cst_114 : Ref sig .tc := ⟨.hbm, 538, rfl⟩
abbrev main_v347 : Ref sig .tc := ⟨.hbm, 539, rfl⟩
abbrev main_v348 : Ref sig .tc := ⟨.hbm, 540, rfl⟩
abbrev main_v349 : Ref sig .tc := ⟨.hbm, 541, rfl⟩
abbrev main_v350 : Ref sig .tc := ⟨.hbm, 542, rfl⟩
abbrev main_v351 : Ref sig .tc := ⟨.hbm, 543, rfl⟩
abbrev main_v352 : Ref sig .tc := ⟨.hbm, 544, rfl⟩
abbrev main_v353 : Ref sig .tc := ⟨.hbm, 545, rfl⟩
abbrev main_v354 : Ref sig .tc := ⟨.hbm, 546, rfl⟩
abbrev main_c_115 : Ref sig .tc := ⟨.hbm, 547, rfl⟩
abbrev main_call33_v0 : Ref sig .tc := ⟨.hbm, 548, rfl⟩
abbrev main_v355 : Ref sig .tc := ⟨.hbm, 549, rfl⟩
abbrev main_v356 : Ref sig .tc := ⟨.hbm, 550, rfl⟩
abbrev main_v357 : Ref sig .tc := ⟨.hbm, 551, rfl⟩
abbrev main_v358 : Ref sig .tc := ⟨.hbm, 552, rfl⟩
abbrev main_v359 : Ref sig .tc := ⟨.hbm, 553, rfl⟩
abbrev main_c_116 : Ref sig .tc := ⟨.hbm, 554, rfl⟩
abbrev main_call34_v0 : Ref sig .tc := ⟨.hbm, 555, rfl⟩
abbrev main_v360 : Ref sig .tc := ⟨.hbm, 556, rfl⟩
abbrev main_v361 : Ref sig .tc := ⟨.hbm, 557, rfl⟩
abbrev main_c_117 : Ref sig .tc := ⟨.hbm, 558, rfl⟩
abbrev main_call35_v0 : Ref sig .tc := ⟨.hbm, 559, rfl⟩
abbrev main_v362 : Ref sig .tc := ⟨.hbm, 560, rfl⟩
abbrev main_v363 : Ref sig .tc := ⟨.hbm, 561, rfl⟩
abbrev main_c_118 : Ref sig .tc := ⟨.hbm, 562, rfl⟩
abbrev main_call36_v0 : Ref sig .tc := ⟨.hbm, 563, rfl⟩
abbrev main_v364 : Ref sig .tc := ⟨.hbm, 564, rfl⟩
abbrev main_v365 : Ref sig .tc := ⟨.hbm, 565, rfl⟩
abbrev main_cst_119 : Ref sig .tc := ⟨.hbm, 566, rfl⟩
abbrev main_v366 : Ref sig .tc := ⟨.hbm, 567, rfl⟩
abbrev main_v367 : Ref sig .tc := ⟨.hbm, 568, rfl⟩
abbrev main_v368 : Ref sig .tc := ⟨.hbm, 569, rfl⟩
abbrev main_v369 : Ref sig .tc := ⟨.hbm, 570, rfl⟩

abbrev nD : Nat := 1
abbrev τ : Topo := Topo.v7x

variable {F : FTy → Type} [FloatOps F]
-- ==== LossKernel.lean ====
abbrev S8192x1024 : Shape := ⟨2, ![8192, 1024]⟩
abbrev S16x1x128 : Shape := ⟨3, ![16, 1, 128]⟩
abbrev S512x1024 : Shape := ⟨2, ![512, 1024]⟩
abbrev S1x1x128 : Shape := ⟨3, ![1, 1, 128]⟩
abbrev S512 : Shape := ⟨1, ![512]⟩
abbrev S512x1 : Shape := ⟨2, ![512, 1]⟩
abbrev S1x128 : Shape := ⟨2, ![1, 128]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S16x1x128, .f32⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x128, .f32⟩
  | .local _ .vmem, ⟨5, _⟩ => ⟨S1x1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LossReferenceIdeal.lean ====
abbrev S8192x1024 : Shape := ⟨2, ![8192, 1024]⟩
abbrev S_ : Shape := ⟨0, ![]⟩
abbrev S8192 : Shape := ⟨1, ![8192]⟩
abbrev S16x512 : Shape := ⟨2, ![16, 512]⟩
abbrev S16 : Shape := ⟨1, ![16]⟩
abbrev S16x1x1 : Shape := ⟨3, ![16, 1, 1]⟩
abbrev S16x1x128 : Shape := ⟨3, ![16, 1, 128]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S16x512, .f32⟩
  | .hbm, ⟨26, _⟩ => ⟨S_, .f32⟩
  | .hbm, ⟨27, _⟩ => ⟨S16, .f32⟩
  | .hbm, ⟨28, _⟩ => ⟨S16x1x1, .f32⟩
  | .hbm, ⟨29, _⟩ => ⟨S16x1x128, .f32⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== MixKernel.lean ====
abbrev S8192x1024 : Shape := ⟨2, ![8192, 1024]⟩
abbrev S1024x1024 : Shape := ⟨2, ![1024, 1024]⟩
abbrev S8192x512 : Shape := ⟨2, ![8192, 512]⟩
abbrev S512 : Shape := ⟨1, ![512]⟩
abbrev S4x1x256x1024 : Shape := ⟨4, ![4, 1, 256, 1024]⟩
abbrev S1x512 : Shape := ⟨2, ![1, 512]⟩
abbrev S8x512 : Shape := ⟨2, ![8, 512]⟩
abbrev S512x1024 : Shape := ⟨2, ![512, 1024]⟩
abbrev S512x512 : Shape := ⟨2, ![512, 512]⟩
abbrev S1x1x256x1024 : Shape := ⟨4, ![1, 1, 256, 1024]⟩
abbrev S256x1024 : Shape := ⟨2, ![256, 1024]⟩
abbrev S512x256 : Shape := ⟨2, ![512, 256]⟩
abbrev S512x1 : Shape := ⟨2, ![512, 1]⟩
abbrev S3x512 : Shape := ⟨2, ![3, 512]⟩

abbrev nBuf : Space → Nat
  | .hbm => 22
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1024x1024, .bf16⟩
  | .hbm, ⟨10, _⟩ => ⟨S4x1x256x1024, .bf16⟩
  | .hbm, ⟨11, _⟩ => ⟨S8192x1024, .bf16⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8x512, .f32⟩
  | .local _ .vmem, ⟨0, _⟩ => ⟨S512x1024, .bf16⟩
  | .local _ .vmem, ⟨1, _⟩ => ⟨S512x1024, .bf16⟩
  | .local _ .vmem, ⟨2, _⟩ => ⟨S4x1x256x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v137 : BitVec 1 := Scalar.cmpi .eq arg0 c0_i32
  let v138 : BitVec 32 := Scalar.extui v137
  let c0_i32_62 : BitVec 32 := 0#32
  let v139 : BitVec 1 := Scalar.cmpi .ne v138 c0_i32_62
  v139

def k0_cond2 (i : grid0.Coords) : BitVec 1 :=
  let arg0 : BitVec 32 := BitVec.ofNat 32 (i 0).val
  let c0_i32_63 : BitVec 32 := 0#32
  let v140 : BitVec 1 := Scalar.cmpi .sgt arg0 c0_i32_63
  let v141 : BitVec 32 := Scalar.extui v140
  let c0_i32_64 : BitVec 32 := 0#32
  let v142 : BitVec 1 := Scalar.cmpi .ne v141 c0_i32_64
  v142

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixReferenceIdeal.lean ====
abbrev S8192x1024 : Shape := ⟨2, ![8192, 1024]⟩
abbrev S1024x1024 : Shape := ⟨2, ![1024, 1024]⟩
abbrev S8192x512 : Shape := ⟨2, ![8192, 512]⟩
abbrev S512 : Shape := ⟨1, ![512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S3x512 : Shape := ⟨2, ![3, 512]⟩
abbrev S5x512 : Shape := ⟨2, ![5, 512]⟩
abbrev S8x512 : Shape := ⟨2, ![8, 512]⟩

abbrev nBuf : Space → Nat
  | .hbm => 218
  | .vmem => 0
  | .smem => 0
  | _ => 0

abbrev hbmTy0_0 (i : Nat) : BufTy := match i % 128 with
  | 0 => ⟨S8192x1024, .f32⟩
  | 1 => ⟨S1024x1024, .f32⟩
  | 2 => ⟨S8192x512, .f32⟩
  | 3 => ⟨S8192x512, .f32⟩
  | 4 => ⟨S512, .f32⟩
  | 5 => ⟨S512, .f32⟩
  | 6 => ⟨S512, .f32⟩
  | 7 => ⟨S512, .f32⟩
  | 8 => ⟨S512, .f32⟩
  | 9 => ⟨S1x512, .f32⟩
  | 10 => ⟨S8192x512, .f32⟩
  | 11 => ⟨S8192x512, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S8192x512, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x512, .f32⟩
  | 31 => ⟨S8192x512, .f32⟩
  | 32 => ⟨S_, .f32⟩
  | 33 => ⟨S8192x1, .f32⟩
  | 34 => ⟨S8192x1, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x512, .f32⟩
  | 41 => ⟨S8192x512, .f32⟩
  | 42 => ⟨S1x512, .f32⟩
  | 43 => ⟨S8192x512, .f32⟩
  | 44 => ⟨S8192x512, .f32⟩
  | 45 => ⟨S1x512, .f32⟩
  | 46 => ⟨S8192x512, .f32⟩
  | 47 => ⟨S8192x512, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S_, .f32⟩
  | 63 => ⟨S8192, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192x1, .f32⟩
  | 70 => ⟨S8192x1, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x512, .f32⟩
  | 77 => ⟨S8192x512, .f32⟩
  | 78 => ⟨S1x512, .f32⟩
  | 79 => ⟨S8192x512, .f32⟩
  | 80 => ⟨S8192x512, .f32⟩
  | 81 => ⟨S8192x512, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x1, .f32⟩
  | 92 => ⟨S8192x1, .f32⟩
  | 93 => ⟨S_, .f32⟩
  | 94 => ⟨S8192x1, .f32⟩
  | 95 => ⟨S8192x1, .f32⟩
  | 96 => ⟨S8192x512, .f32⟩
  | 97 => ⟨S8192x512, .f32⟩
  | 98 => ⟨S1x512, .f32⟩
  | 99 => ⟨S8192x512, .f32⟩
  | 100 => ⟨S8192x512, .f32⟩
  | 101 => ⟨S8192x1024, .f32⟩
  | 102 => ⟨S8192x1024, .f32⟩
  | 103 => ⟨S8192x1024, .f32⟩
  | 104 => ⟨S8192x512, .f32⟩
  | 105 => ⟨S8192x512, .f32⟩
  | 106 => ⟨S8192x512, .f32⟩
  | 107 => ⟨S_, .f32⟩
  | 108 => ⟨S512, .f32⟩
  | 109 => ⟨S1x512, .f32⟩
  | 110 => ⟨S8192x512, .f32⟩
  | 111 => ⟨S8192x512, .f32⟩
  | 112 => ⟨S_, .f32⟩
  | 113 => ⟨S512, .f32⟩
  | 114 => ⟨S8192x512, .f32⟩
  | 115 => ⟨S_, .f32⟩
  | 116 => ⟨S8192, .f32⟩
  | 117 => ⟨S8192x1, .f32⟩
  | 118 => ⟨S8192x512, .f32⟩
  | 119 => ⟨S8192x512, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S_, .f32⟩
  | 5 => ⟨S512, .f32⟩
  | 6 => ⟨S1x512, .f32⟩
  | 7 => ⟨S8192x512, .f32⟩
  | 8 => ⟨S8192x512, .f32⟩
  | 9 => ⟨S_, .f32⟩
  | 10 => ⟨S512, .f32⟩
  | 11 => ⟨S8192x512, .f32⟩
  | 12 => ⟨S_, .f32⟩
  | 13 => ⟨S8192, .f32⟩
  | 14 => ⟨S8192x1, .f32⟩
  | 15 => ⟨S8192x512, .f32⟩
  | 16 => ⟨S8192x512, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S_, .f32⟩
  | 33 => ⟨S512, .f32⟩
  | 34 => ⟨S1x512, .f32⟩
  | 35 => ⟨S_, .f32⟩
  | 36 => ⟨S512, .f32⟩
  | 37 => ⟨S8192x512, .f32⟩
  | 38 => ⟨S_, .f32⟩
  | 39 => ⟨S512, .f32⟩
  | 40 => ⟨S1x512, .f32⟩
  | 41 => ⟨S8192x512, .f32⟩
  | 42 => ⟨S8192x512, .f32⟩
  | 43 => ⟨S_, .f32⟩
  | 44 => ⟨S512, .f32⟩
  | 45 => ⟨S8192x512, .f32⟩
  | 46 => ⟨S_, .f32⟩
  | 47 => ⟨S8192, .f32⟩
  | 48 => ⟨S8192x1, .f32⟩
  | 49 => ⟨S8192x512, .f32⟩
  | 50 => ⟨S8192x512, .f32⟩
  | 51 => ⟨S8192x1, .f32⟩
  | 52 => ⟨S8192x512, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192, .f32⟩
  | 61 => ⟨S8192x512, .f32⟩
  | 62 => ⟨S8192x512, .f32⟩
  | 63 => ⟨S8192x512, .f32⟩
  | 64 => ⟨S_, .f32⟩
  | 65 => ⟨S8192, .f32⟩
  | 66 => ⟨S8192x1, .f32⟩
  | 67 => ⟨S8192x512, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192, .f32⟩
  | 74 => ⟨S8192x512, .f32⟩
  | 75 => ⟨S8192x512, .f32⟩
  | 76 => ⟨S_, .f32⟩
  | 77 => ⟨S512, .f32⟩
  | 78 => ⟨S1x512, .f32⟩
  | 79 => ⟨S_, .f32⟩
  | 80 => ⟨S512, .f32⟩
  | 81 => ⟨S_, .f32⟩
  | 82 => ⟨S3x512, .f32⟩
  | 83 => ⟨S1x512, .f32⟩
  | 84 => ⟨S1x512, .f32⟩
  | 85 => ⟨S1x512, .f32⟩
  | 86 => ⟨S1x512, .f32⟩
  | 87 => ⟨S1x512, .f32⟩
  | 88 => ⟨S5x512, .f32⟩
  | 89 => ⟨S8x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v32_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v32_1 : Ref sig .tc := ⟨.hbm, 59, rfl⟩
abbrev main_v32_0 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_cst_11 : Ref sig .tc := ⟨.hbm, 85, rfl⟩
abbrev main_v52 : Ref sig .tc := ⟨.hbm, 86, rfl⟩
abbrev main_v53 : Ref sig .tc := ⟨.hbm, 87, rfl⟩
abbrev main_cst_12 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_13 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_17 : Ref sig .tc := ⟨.hbm, 121, rfl⟩
abbrev main_v82 : Ref sig .tc := ⟨.hbm, 122, rfl⟩
abbrev main_v83 : Ref sig .tc := ⟨.hbm, 123, rfl⟩
abbrev main_cst_18 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_20 : Ref sig .tc := ⟨.hbm, 137, rfl⟩
abbrev main_v95 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_22 : Ref sig .tc := ⟨.hbm, 146, rfl⟩
abbrev main_v102 : Ref sig .tc := ⟨.hbm, 147, rfl⟩
abbrev main_v103 : Ref sig .tc := ⟨.hbm, 148, rfl⟩
abbrev main_cst_23 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_call1_v0 : Ref sig .tc := ⟨.hbm, 156, rfl⟩
abbrev main_call1_v1 : Ref sig .tc := ⟨.hbm, 157, rfl⟩
abbrev main_call1_v2 : Ref sig .tc := ⟨.hbm, 158, rfl⟩
abbrev main_v110 : Ref sig .tc := ⟨.hbm, 159, rfl⟩
abbrev main_cst_24 : Ref sig .tc := ⟨.hbm, 160, rfl⟩
abbrev main_v111 : Ref sig .tc := ⟨.hbm, 161, rfl⟩
abbrev main_v112 : Ref sig .tc := ⟨.hbm, 162, rfl⟩
abbrev main_cst_25 : Ref sig .tc := ⟨.hbm, 163, rfl⟩
abbrev main_v113 : Ref sig .tc := ⟨.hbm, 164, rfl⟩
abbrev main_v114 : Ref sig .tc := ⟨.hbm, 165, rfl⟩
abbrev main_cst_26 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_27 : Ref sig .tc := ⟨.hbm, 171, rfl⟩
abbrev main_v119 : Ref sig .tc := ⟨.hbm, 172, rfl⟩
abbrev main_v120 : Ref sig .tc := ⟨.hbm, 173, rfl⟩
abbrev main_cst_28 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_29 : Ref sig .tc := ⟨.hbm, 181, rfl⟩
abbrev main_v127 : Ref sig .tc := ⟨.hbm, 182, rfl⟩
abbrev main_v128 : Ref sig .tc := ⟨.hbm, 183, rfl⟩
abbrev main_cst_30 : Ref sig .tc := ⟨.hbm, 184, rfl⟩
abbrev main_v129 : Ref sig .tc := ⟨.hbm, 185, rfl⟩
abbrev main_v130 : Ref sig .tc := ⟨.hbm, 186, rfl⟩
abbrev main_cst_31 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_32 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_33 : Ref sig .tc := ⟨.hbm, 197, rfl⟩
abbrev main_v139 : Ref sig .tc := ⟨.hbm, 198, rfl⟩
abbrev main_v140 : Ref sig .tc := ⟨.hbm, 199, rfl⟩
abbrev main_cst_34 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_cst_35 : Ref sig .tc := ⟨.hbm, 204, rfl⟩
abbrev main_v144 : Ref sig .tc := ⟨.hbm, 205, rfl⟩
abbrev main_v145 : Ref sig .tc := ⟨.hbm, 206, rfl⟩
abbrev main_cst_36 : Ref sig .tc := ⟨.hbm, 207, rfl⟩
abbrev main_v146 : Ref sig .tc := ⟨.hbm, 208, rfl⟩
abbrev main_cst_37 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩

abbrev nD : Nat := 1
abbrev τ : Topo := Topo.v7x

variable {F : FTy → Type} [FloatOps F]
-- ==== ConvKernel.lean ====
abbrev S8192x512 : Shape := ⟨2, ![8192, 512]⟩
abbrev S8192x1792 : Shape := ⟨2, ![8192, 1792]⟩
abbrev S31x512 : Shape := ⟨2, ![31, 512]⟩
abbrev S_ : Shape := ⟨0, ![]⟩
abbrev S32x512 : Shape := ⟨2, ![32, 512]⟩
abbrev S512x256 : Shape := ⟨2, ![512, 256]⟩
abbrev S32x256 : Shape := ⟨2, ![32, 256]⟩
abbrev S544x256 : Shape := ⟨2, ![544, 256]⟩
abbrev S8x544x256 : Shape := ⟨3, ![8, 544, 256]⟩
abbrev S64x256 : Shape := ⟨2, ![64, 256]⟩
abbrev S1x64x256 : Shape := ⟨3, ![1, 64, 256]⟩
abbrev S1x32x256 : Shape := ⟨3, ![1, 32, 256]⟩
abbrev S24x256 : Shape := ⟨2, ![24, 256]⟩
abbrev S1x24x256 : Shape := ⟨3, ![1, 24, 256]⟩
abbrev S1x256 : Shape := ⟨2, ![1, 256]⟩
abbrev S8x256 : Shape := ⟨2, ![8, 256]⟩
abbrev S8x8x256 : Shape := ⟨3, ![8, 8, 256]⟩
abbrev S256 : Shape := ⟨1, ![256]⟩

abbrev nBuf : Space → Nat
  | .hbm => 9
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x1792, .f32⟩
  | .hbm, ⟨2, _⟩ => ⟨S31x512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S8192x512, .bf16⟩
  | .hbm, ⟨7, _⟩ => ⟨S8192x512, .bf16⟩
  | .hbm, ⟨8, _⟩ => ⟨S32x512, .f32⟩
  | .local _ .vmem, ⟨0, _⟩ => ⟨S512x256, .f32⟩
  | .local _ .vmem, ⟨1, _⟩ => ⟨S512x256, .f32⟩
  | .local _ .vmem, ⟨2, _⟩ => ⟨S32x256, .f32⟩
  | .local _ .vmem, ⟨3, _⟩ => ⟨S32x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S32x256, .f32⟩
  | .local _ .vmem, ⟨19, _⟩ => ⟨S32x256, .f32⟩
  | .local _ .vmem, ⟨20, _⟩ => ⟨S544x256, .f32⟩
  | .local _ .vmem, ⟨21, _⟩ => ⟨S8x544x256, .f32⟩
  | .local _ .vmem, ⟨22, _⟩ => ⟨S544x256, .f32⟩
  | .local _ .vmem, ⟨23, _⟩ => ⟨S8x544x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.addi c3_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.addi c5_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvReferenceIdeal.lean ====
abbrev S8192x512 : Shape := ⟨2, ![8192, 512]⟩
abbrev S8192x1792 : Shape := ⟨2, ![8192, 1792]⟩
abbrev S31x512 : Shape := ⟨2, ![31, 512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S512 : Shape := ⟨1, ![512]⟩
abbrev S32x512 : Shape := ⟨2, ![32, 512]⟩

abbrev nBuf : Space → Nat
  | .hbm => 717
  | .vmem => 0
  | .smem => 0
  | _ => 0

abbrev hbmTy0_0 (i : Nat) : BufTy := match i % 128 with
  | 0 => ⟨S8192x512, .f32⟩
  | 1 => ⟨S8192x1792, .f32⟩
  | 2 => ⟨S31x512, .f32⟩
  | 3 => ⟨S8192x512, .f32⟩
  | 4 => ⟨S8192x512, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S8192x512, .f32⟩
  | 18 => ⟨S_, .f32⟩
  | 19 => ⟨S30x512, .f32⟩
  | 20 => ⟨S8222x512, .f32⟩
  | 21 => ⟨S_, .f32⟩
  | 22 => ⟨S30x512, .f32⟩
  | 23 => ⟨S8192x512, .f32⟩
  | 24 => ⟨S1x512, .f32⟩
  | 25 => ⟨S512, .f32⟩
  | 26 => ⟨S1x512, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S8192x512, .f32⟩
  | 33 => ⟨S1x512, .f32⟩
  | 34 => ⟨S512, .f32⟩
  | 35 => ⟨S1x512, .f32⟩
  | 36 => ⟨S8192x512, .f32⟩
  | 37 => ⟨S8192x512, .f32⟩
  | 38 => ⟨S8192x512, .f32⟩
  | 39 => ⟨S8192x512, .f32⟩
  | 40 => ⟨S1x512, .f32⟩
  | 41 => ⟨S512, .f32⟩
  | 42 => ⟨S1x512, .f32⟩
  | 43 => ⟨S8192x512, .f32⟩
  | 44 => ⟨S8192x512, .f32⟩
  | 45 => ⟨S8192x512, .f32⟩
  | 46 => ⟨S8192x512, .f32⟩
  | 47 => ⟨S1x512, .f32⟩
  | 48 => ⟨S512, .f32⟩
  | 49 => ⟨S1x512, .f32⟩
  | 50 => ⟨S8192x512, .f32⟩
  | 51 => ⟨S8192x512, .f32⟩
  | 52 => ⟨S8192x512, .f32⟩
  | 53 => ⟨S8192x512, .f32⟩
  | 54 => ⟨S1x512, .f32⟩
  | 55 => ⟨S512, .f32⟩
  | 56 => ⟨S1x512, .f32⟩
  | 57 => ⟨S8192x512, .f32⟩
  | 58 => ⟨S8192x512, .f32⟩
  | 59 => ⟨S8192x512, .f32⟩
  | 60 => ⟨S8192x512, .f32⟩
  | 61 => ⟨S1x512, .f32⟩
  | 62 => ⟨S512, .f32⟩
  | 63 => ⟨S1x512, .f32⟩
  | 64 => ⟨S8192x512, .f32⟩
  | 65 => ⟨S8192x512, .f32⟩
  | 66 => ⟨S8192x512, .f32⟩
  | 67 => ⟨S8192x512, .f32⟩
  | 68 => ⟨S1x512, .f32⟩
  | 69 => ⟨S512, .f32⟩
  | 70 => ⟨S1x512, .f32⟩
  | 71 => ⟨S8192x512, .f32⟩
  | 72 => ⟨S8192x512, .f32⟩
  | 73 => ⟨S8192x512, .f32⟩
  | 74 => ⟨S8192x512, .f32⟩
  | 75 => ⟨S1x512, .f32⟩
  | 76 => ⟨S512, .f32⟩
  | 77 => ⟨S1x512, .f32⟩
  | 78 => ⟨S8192x512, .f32⟩
  | 79 => ⟨S8192x512, .f32⟩
  | 80 => ⟨S8192x512, .f32⟩
  | 81 => ⟨S8192x512, .f32⟩
  | 82 => ⟨S1x512, .f32⟩
  | 83 => ⟨S512, .f32⟩
  | 84 => ⟨S1x512, .f32⟩
  | 85 => ⟨S8192x512, .f32⟩
  | 86 => ⟨S8192x512, .f32⟩
  | 87 => ⟨S8192x512, .f32⟩
  | 88 => ⟨S8192x512, .f32⟩
  | 89 => ⟨S1x512, .f32⟩
  | 90 => ⟨S512, .f32⟩
  | 91 => ⟨S1x512, .f32⟩
  | 92 => ⟨S8192x512, .f32⟩
  | 93 => ⟨S8192x512, .f32⟩
  | 94 => ⟨S8192x512, .f32⟩
  | 95 => ⟨S8192x512, .f32⟩
  | 96 => ⟨S1x512, .f32⟩
  | 97 => ⟨S512, .f32⟩
  | 98 => ⟨S1x512, .f32⟩
  | 99 => ⟨S8192x512, .f32⟩
  | 100 => ⟨S8192x512, .f32⟩
  | 101 => ⟨S8192x512, .f32⟩
  | 102 => ⟨S8192x512, .f32⟩
  | 103 => ⟨S1x512, .f32⟩
  | 104 => ⟨S512, .f32⟩
  | 105 => ⟨S1x512, .f32⟩
  | 106 => ⟨S8192x512, .f32⟩
  | 107 => ⟨S8192x512, .f32⟩
  | 108 => ⟨S8192x512, .f32⟩
  | 109 => ⟨S8192x512, .f32⟩
  | 110 => ⟨S1x512, .f32⟩
  | 111 => ⟨S512, .f32⟩
  | 112 => ⟨S1x512, .f32⟩
  | 113 => ⟨S8192x512, .f32⟩
  | 114 => ⟨S8192x512, .f32⟩
  | 115 => ⟨S8192x512, .f32⟩
  | 116 => ⟨S8192x512, .f32⟩
  | 117 => ⟨S1x512, .f32⟩
  | 118 => ⟨S512, .f32⟩
  | 119 => ⟨S1x512, .f32⟩
  | 120 => ⟨S8192x512, .f32⟩
  | 121 => ⟨S8192x512, .f32⟩
  | 122 => ⟨S8192x512, .f32⟩
  | 123 => ⟨S8192x512, .f32⟩
  | 124 => ⟨S1x512, .f32⟩
  | 125 => ⟨S512, .f32⟩
  | 126 => ⟨S1x512, .f32⟩
  | 127 => ⟨S8192x512, .f32⟩
  | _ => ⟨S8192x512, .f32⟩

abbrev hbmTy0_1 (i : Nat) : BufTy := match i % 128 with
  | 0 => ⟨S8192x512, .f32⟩
  | 1 => ⟨S8192x512, .f32⟩
  | 2 => ⟨S8192x512, .f32⟩
  | 3 => ⟨S1x512, .f32⟩
  | 4 => ⟨S512, .f32⟩
  | 5 => ⟨S1x512, .f32⟩
  | 6 => ⟨S8192x512, .f32⟩
  | 7 => ⟨S8192x512, .f32⟩
  | 8 => ⟨S8192x512, .f32⟩
  | 9 => ⟨S8192x512, .f32⟩
  | 10 => ⟨S1x512, .f32⟩
  | 11 => ⟨S512, .f32⟩
  | 12 => ⟨S1x512, .f32⟩
  | 13 => ⟨S8192x512, .f32⟩
  | 14 => ⟨S8192x512, .f32⟩
  | 15 => ⟨S8192x512, .f32⟩
  | 16 => ⟨S8192x512, .f32⟩
  | 17 => ⟨S1x512, .f32⟩
  | 18 => ⟨S512, .f32⟩
  | 19 => ⟨S1x512, .f32⟩
  | 20 => ⟨S8192x512, .f32⟩
  | 21 => ⟨S8192x512, .f32⟩
  | 22 => ⟨S8192x512, .f32⟩
  | 23 => ⟨S8192x512, .f32⟩
  | 24 => ⟨S1x512, .f32⟩
  | 25 => ⟨S512, .f32⟩
  | 26 => ⟨S1x512, .f32⟩
  | 27 => ⟨S8192x512, .f32⟩
  | 28 => ⟨S8192x512, .f32⟩
  | 29 => ⟨S8192x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S1x512, .f32⟩
  | 39 => ⟨S512, .f32⟩
  | 40 => ⟨S1x512, .f32⟩
  | 41 => ⟨S8192x512, .f32⟩
  | 42 => ⟨S8192x512, .f32⟩
  | 43 => ⟨S8192x512, .f32⟩
  | 44 => ⟨S8192x512, .f32⟩
  | 45 => ⟨S1x512, .f32⟩
  | 46 => ⟨S512, .f32⟩
  | 47 => ⟨S1x512, .f32⟩
  | 48 => ⟨S8192x512, .f32⟩
  | 49 => ⟨S8192x512, .f32⟩
  | 50 => ⟨S8192x512, .f32⟩
  | 51 => ⟨S8192x512, .f32⟩
  | 52 => ⟨S1x512, .f32⟩
  | 53 => ⟨S512, .f32⟩
  | 54 => ⟨S1x512, .f32⟩
  | 55 => ⟨S8192x512, .f32⟩
  | 56 => ⟨S8192x512, .f32⟩
  | 57 => ⟨S8192x512, .f32⟩
  | 58 => ⟨S8192x512, .f32⟩
  | 59 => ⟨S1x512, .f32⟩
  | 60 => ⟨S512, .f32⟩
  | 61 => ⟨S1x512, .f32⟩
  | 62 => ⟨S8192x512, .f32⟩
  | 63 => ⟨S8192x512, .f32⟩
  | 64 => ⟨S8192x512, .f32⟩
  | 65 => ⟨S8192x512, .f32⟩
  | 66 => ⟨S1x512, .f32⟩
  | 67 => ⟨S512, .f32⟩
  | 68 => ⟨S1x512, .f32⟩
  | 69 => ⟨S8192x512, .f32⟩
  | 70 => ⟨S8192x512, .f32⟩
  | 71 => ⟨S8192x512, .f32⟩
  | 72 => ⟨S8192x512, .f32⟩
  | 73 => ⟨S1x512, .f32⟩
  | 74 => ⟨S512, .f32⟩
  | 75 => ⟨S1x512, .f32⟩
  | 76 => ⟨S8192x512, .f32⟩
  | 77 => ⟨S8192x512, .f32⟩
  | 78 => ⟨S8192x512, .f32⟩
  | 79 => ⟨S8192x512, .f32⟩
  | 80 => ⟨S1x512, .f32⟩
  | 81 => ⟨S512, .f32⟩
  | 82 => ⟨S1x512, .f32⟩
  | 83 => ⟨S8192x512, .f32⟩
  | 84 => ⟨S8192x512, .f32⟩
  | 85 => ⟨S8192x512, .f32⟩
  | 86 => ⟨S8192x512, .f32⟩
  | 87 => ⟨S1x512, .f32⟩
  | 88 => ⟨S512, .f32⟩
  | 89 => ⟨S1x512, .f32⟩
  | 90 => ⟨S8192x512, .f32⟩
  | 91 => ⟨S8192x512, .f32⟩
  | 92 => ⟨S8192x512, .f32⟩
  | 93 => ⟨S8192x512, .f32⟩
  | 94 => ⟨S1x512, .f32⟩
  | 95 => ⟨S512, .f32⟩
  | 96 => ⟨S1x512, .f32⟩
  | 97 => ⟨S8192x512, .f32⟩
  | 98 => ⟨S8192x512, .f32⟩
  | 99 => ⟨S8192x512, .f32⟩
  | 100 => ⟨S8192x512, .f32⟩
  | 101 => ⟨S1x512, .f32⟩
  | 102 => ⟨S512, .f32⟩
  | 103 => ⟨S1x512, .f32⟩
  | 104 => ⟨S8192x512, .f32⟩
  | 105 => ⟨S8192x512, .f32⟩
  | 106 => ⟨S8192x512, .f32⟩
  | 107 => ⟨S8192x512, .f32⟩
  | 108 => ⟨S1x512, .f32⟩
  | 109 => ⟨S512, .f32⟩
  | 110 => ⟨S1x512, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S_, .f32⟩
  | 118 => ⟨S512, .f32⟩
  | 119 => ⟨S1x512, .f32⟩
  | 120 => ⟨S8192x512, .f32⟩
  | 121 => ⟨S8192x512, .f32⟩
  | 122 => ⟨S_, .f32⟩
  | 123 => ⟨S512, .f32⟩
  | 124 => ⟨S1x512, .f32⟩
  | 125 => ⟨S_, .f32⟩
  | 126 => ⟨S31x512, .f32⟩
  | 127 => ⟨S_, .f32⟩
  | _ => ⟨S8192x512, .f32⟩

abbrev hbmTy0_2 (i : Nat) : BufTy := match i % 128 with
  | 0 => ⟨S8222x512, .f32⟩
  | 1 => ⟨S8192x512, .f32⟩
  | 2 => ⟨S_, .f32⟩
  | 3 => ⟨S512, .f32⟩
  | 4 => ⟨S1x512, .f32⟩
  | 5 => ⟨S8192x512, .f32⟩
  | 6 => ⟨S8192x512, .f32⟩
  | 7 => ⟨S_, .f32⟩
  | 8 => ⟨S512, .f32⟩
  | 9 => ⟨S1x512, .f32⟩
  | 10 => ⟨S_, .f32⟩
  | 11 => ⟨S31x512, .f32⟩
  | 12 => ⟨S31x512, .f32⟩
  | 13 => ⟨S_, .f32⟩
  | 14 => ⟨S8222x512, .f32⟩
  | 15 => ⟨S8222x512, .f32⟩
  | 16 => ⟨S8192x512, .f32⟩
  | 17 => ⟨S_, .f32⟩
  | 18 => ⟨S512, .f32⟩
  | 19 => ⟨S1x512, .f32⟩
  | 20 => ⟨S8192x512, .f32⟩
  | 21 => ⟨S8192x512, .f32⟩
  | 22 => ⟨S_, .f32⟩
  | 23 => ⟨S512, .f32⟩
  | 24 => ⟨S1x512, .f32⟩
  | 25 => ⟨S_, .f32⟩
  | 26 => ⟨S31x512, .f32⟩
  | 27 => ⟨S31x512, .f32⟩
  | 28 => ⟨S_, .f32⟩
  | 29 => ⟨S8222x512, .f32⟩
  | 30 => ⟨S8222x512, .f32⟩
  | 31 => ⟨S8192x512, .f32⟩
  | 32 => ⟨S_, .f32⟩
  | 33 => ⟨S512, .f32⟩
  | 34 => ⟨S1x512, .f32⟩
  | 35 => ⟨S8192x512, .f32⟩
  | 36 => ⟨S8192x512, .f32⟩
  | 37 => ⟨S_, .f32⟩
  | 38 => ⟨S512, .f32⟩
  | 39 => ⟨S1x512, .f32⟩
  | 40 => ⟨S_, .f32⟩
  | 41 => ⟨S31x512, .f32⟩
  | 42 => ⟨S31x512, .f32⟩
  | 43 => ⟨S_, .f32⟩
  | 44 => ⟨S8222x512, .f32⟩
  | 45 => ⟨S8222x512, .f32⟩
  | 46 => ⟨S8192x512, .f32⟩
  | 47 => ⟨S_, .f32⟩
  | 48 => ⟨S512, .f32⟩
  | 49 => ⟨S1x512, .f32⟩
  | 50 => ⟨S8192x512, .f32⟩
  | 51 => ⟨S8192x512, .f32⟩
  | 52 => ⟨S_, .f32⟩
  | 53 => ⟨S512, .f32⟩
  | 54 => ⟨S1x512, .f32⟩
  | 55 => ⟨S_, .f32⟩
  | 56 => ⟨S31x512, .f32⟩
  | 57 => ⟨S31x512, .f32⟩
  | 58 => ⟨S_, .f32⟩
  | 59 => ⟨S8222x512, .f32⟩
  | 60 => ⟨S8222x512, .f32⟩
  | 61 => ⟨S8192x512, .f32⟩
  | 62 => ⟨S_, .f32⟩
  | 63 => ⟨S512, .f32⟩
  | 64 => ⟨S1x512, .f32⟩
  | 65 => ⟨S8192x512, .f32⟩
  | 66 => ⟨S8192x512, .f32⟩
  | 67 => ⟨S_, .f32⟩
  | 68 => ⟨S512, .f32⟩
  | 69 => ⟨S1x512, .f32⟩
  | 70 => ⟨S_, .f32⟩
  | 71 => ⟨S31x512, .f32⟩
  | 72 => ⟨S31x512, .f32⟩
  | 73 => ⟨S_, .f32⟩
  | 74 => ⟨S8222x512, .f32⟩
  | 75 => ⟨S8222x512, .f32⟩
  | 76 => ⟨S8192x512, .f32⟩
  | 77 => ⟨S_, .f32⟩
  | 78 => ⟨S512, .f32⟩
  | 79 => ⟨S1x512, .f32⟩
  | 80 => ⟨S8192x512, .f32⟩
  | 81 => ⟨S8192x512, .f32⟩
  | 82 => ⟨S_, .f32⟩
  | 83 => ⟨S512, .f32⟩
  | 84 => ⟨S1x512, .f32⟩
  | 85 => ⟨S_, .f32⟩
  | 86 => ⟨S31x512, .f32⟩
  | 87 => ⟨S31x512, .f32⟩
  | 88 => ⟨S_, .f32⟩
  | 89 => ⟨S8222x512, .f32⟩
  | 90 => ⟨S8222x512, .f32⟩
  | 91 => ⟨S8192x512, .f32⟩
  | 92 => ⟨S_, .f32⟩
  | 93 => ⟨S512, .f32⟩
  | 94 => ⟨S1x512, .f32⟩
  | 95 => ⟨S8192x512, .f32⟩
  | 96 => ⟨S8192x512, .f32⟩
  | 97 => ⟨S_, .f32⟩
  | 98 => ⟨S512, .f32⟩
  | 99 => ⟨S1x512, .f32⟩
  | 100 => ⟨S_, .f32⟩
  | 101 => ⟨S31x512, .f32⟩
  | 102 => ⟨S31x512, .f32⟩
  | 103 => ⟨S_, .f32⟩
  | 104 => ⟨S8222x512, .f32⟩
  | 105 => ⟨S8222x512, .f32⟩
  | 106 => ⟨S8192x512, .f32⟩
  | 107 => ⟨S_, .f32⟩
  | 108 => ⟨S512, .f32⟩
  | 109 => ⟨S1x512, .f32⟩
  | 110 => ⟨S8192x512, .f32⟩
  | 111 => ⟨S8192x512, .f32⟩
  | 112 => ⟨S_, .f32⟩
  | 113 => ⟨S512, .f32⟩
  | 114 => ⟨S1x512, .f32⟩
  | 115 => ⟨S_, .f32⟩
  | 116 => ⟨S31x512, .f32⟩
  | 117 => ⟨S31x512, .f32⟩
  | 118 => ⟨S_, .f32⟩
  | 119 => ⟨S8222x512, .f32⟩
  | 120 => ⟨S8222x512, .f32⟩
  | 121 => ⟨S8192x512, .f32⟩
  | 122 => ⟨S_, .f32⟩
  | 123 => ⟨S512, .f32⟩
  | 124 => ⟨S1x512, .f32⟩
  | 125 => ⟨S8192x512, .f32⟩
  | 126 => ⟨S8192x512, .f32⟩
  | 127 => ⟨S_, .f32⟩
  | _ => ⟨S8192x512, .f32⟩

abbrev hbmTy0_3 (i : Nat) : BufTy := match i % 128 with
  | 0 => ⟨S512, .f32⟩
  | 1 => ⟨S1x512, .f32⟩
  | 2 => ⟨S_, .f32⟩
  | 3 => ⟨S31x512, .f32⟩
  | 4 => ⟨S31x512, .f32⟩
  | 5 => ⟨S_, .f32⟩
  | 6 => ⟨S8222x512, .f32⟩
  | 7 => ⟨S8222x512, .f32⟩
  | 8 => ⟨S8192x512, .f32⟩
  | 9 => ⟨S_, .f32⟩
  | 10 => ⟨S512, .f32⟩
  | 11 => ⟨S1x512, .f32⟩
  | 12 => ⟨S8192x512, .f32⟩
  | 13 => ⟨S8192x512, .f32⟩
  | 14 => ⟨S_, .f32⟩
  | 15 => ⟨S512, .f32⟩
  | 16 => ⟨S1x512, .f32⟩
  | 17 => ⟨S_, .f32⟩
  | 18 => ⟨S31x512, .f32⟩
  | 19 => ⟨S31x512, .f32⟩
  | 20 => ⟨S_, .f32⟩
  | 21 => ⟨S8222x512, .f32⟩
  | 22 => ⟨S8222x512, .f32⟩
  | 23 => ⟨S8192x512, .f32⟩
  | 24 => ⟨S_, .f32⟩
  | 25 => ⟨S512, .f32⟩
  | 26 => ⟨S1x512, .f32⟩
  | 27 => ⟨S8192x512, .f32⟩
  | 28 => ⟨S8192x512, .f32⟩
  | 29 => ⟨S_, .f32⟩
  | 30 => ⟨S512, .f32⟩
  | 31 => ⟨S1x512, .f32⟩
  | 32 => ⟨S_, .f32⟩
  | 33 => ⟨S31x512, .f32⟩
  | 34 => ⟨S31x512, .f32⟩
  | 35 => ⟨S_, .f32⟩
  | 36 => ⟨S8222x512, .f32⟩
  | 37 => ⟨S8222x512, .f32⟩
  | 38 => ⟨S8192x512, .f32⟩
  | 39 => ⟨S_, .f32⟩
  | 40 => ⟨S512, .f32⟩
  | 41 => ⟨S1x512, .f32⟩
  | 42 => ⟨S8192x512, .f32⟩
  | 43 => ⟨S8192x512, .f32⟩
  | 44 => ⟨S_, .f32⟩
  | 45 => ⟨S512, .f32⟩
  | 46 => ⟨S1x512, .f32⟩
  | 47 => ⟨S_, .f32⟩
  | 48 => ⟨S31x512, .f32⟩
  | 49 => ⟨S31x512, .f32⟩
  | 50 => ⟨S_, .f32⟩
  | 51 => ⟨S8222x512, .f32⟩
  | 52 => ⟨S8222x512, .f32⟩
  | 53 => ⟨S8192x512, .f32⟩
  | 54 => ⟨S_, .f32⟩
  | 55 => ⟨S512, .f32⟩
  | 56 => ⟨S1x512, .f32⟩
  | 57 => ⟨S8192x512, .f32⟩
  | 58 => ⟨S8192x512, .f32⟩
  | 59 => ⟨S_, .f32⟩
  | 60 => ⟨S512, .f32⟩
  | 61 => ⟨S1x512, .f32⟩
  | 62 => ⟨S_, .f32⟩
  | 63 => ⟨S31x512, .f32⟩
  | 64 => ⟨S31x512, .f32⟩
  | 65 => ⟨S_, .f32⟩
  | 66 => ⟨S8222x512, .f32⟩
  | 67 => ⟨S8222x512, .f32⟩
  | 68 => ⟨S8192x512, .f32⟩
  | 69 => ⟨S_, .f32⟩
  | 70 => ⟨S512, .f32⟩
  | 71 => ⟨S1x512, .f32⟩
  | 72 => ⟨S8192x512, .f32⟩
  | 73 => ⟨S8192x512, .f32⟩
  | 74 => ⟨S_, .f32⟩
  | 75 => ⟨S512, .f32⟩
  | 76 => ⟨S1x512, .f32⟩
  | 77 => ⟨S_, .f32⟩
  | 78 => ⟨S31x512, .f32⟩
  | 79 => ⟨S31x512, .f32⟩
  | 80 => ⟨S_, .f32⟩
  | 81 => ⟨S8222x512, .f32⟩
  | 82 => ⟨S8222x512, .f32⟩
  | 83 => ⟨S8192x512, .f32⟩
  | 84 => ⟨S_, .f32⟩
  | 85 => ⟨S512, .f32⟩
  | 86 => ⟨S1x512, .f32⟩
  | 87 => ⟨S8192x512, .f32⟩
  | 88 => ⟨S8192x512, .f32⟩
  | 89 => ⟨S_, .f32⟩
  | 90 => ⟨S512, .f32⟩
  | 91 => ⟨S1x512, .f32⟩
  | 92 => ⟨S_, .f32⟩
  | 93 => ⟨S31x512, .f32⟩
  | 94 => ⟨S31x512, .f32⟩
  | 95 => ⟨S_, .f32⟩
  | 96 => ⟨S8222x512, .f32⟩
  | 97 => ⟨S8222x512, .f32⟩
  | 98 => ⟨S8192x512, .f32⟩
  | 99 => ⟨S_, .f32⟩
  | 100 => ⟨S512, .f32⟩
  | 101 => ⟨S1x512, .f32⟩
  | 102 => ⟨S8192x512, .f32⟩
  | 103 => ⟨S8192x512, .f32⟩
  | 104 => ⟨S_, .f32⟩
  | 105 => ⟨S512, .f32⟩
  | 106 => ⟨S1x512, .f32⟩
  | 107 => ⟨S_, .f32⟩
  | 108 => ⟨S31x512, .f32⟩
  | 109 => ⟨S31x512, .f32⟩
  | 110 => ⟨S_, .f32⟩
  | 111 => ⟨S8222x512, .f32⟩
  | 112 => ⟨S8222x512, .f32⟩
  | 113 => ⟨S8192x512, .f32⟩
  | 114 => ⟨S_, .f32⟩
  | 115 => ⟨S512, .f32⟩
  | 116 => ⟨S1x512, .f32⟩
  | 117 => ⟨S8192x512, .f32⟩
  | 118 => ⟨S8192x512, .f32⟩
  | 119 => ⟨S_, .f32⟩
  | 120 => ⟨S512, .f32⟩
  | 121 => ⟨S1x512, .f32⟩
  | 122 => ⟨S_, .f32⟩
  | 123 => ⟨S31x512, .f32⟩
  | 124 => ⟨S31x512, .f32⟩
  | 125 => ⟨S_, .f32⟩
  | 126 => ⟨S8222x512, .f32⟩
  | 127 => ⟨S8222x512, .f32⟩
  | _ => ⟨S8192x512, .f32⟩

abbrev hbmTy0_4 (i : Nat) : BufTy := match i % 128 with
  | 0 => ⟨S8192x512, .f32⟩
  | 1 => ⟨S_, .f32⟩
  | 2 => ⟨S512, .f32⟩
  | 3 => ⟨S1x512, .f32⟩
  | 4 => ⟨S8192x512, .f32⟩
  | 5 => ⟨S8192x512, .f32⟩
  | 6 => ⟨S_, .f32⟩
  | 7 => ⟨S512, .f32⟩
  | 8 => ⟨S1x512, .f32⟩
  | 9 => ⟨S_, .f32⟩
  | 10 => ⟨S31x512, .f32⟩
  | 11 => ⟨S31x512, .f32⟩
  | 12 => ⟨S_, .f32⟩
  | 13 => ⟨S8222x512, .f32⟩
  | 14 => ⟨S8222x512, .f32⟩
  | 15 => ⟨S8192x512, .f32⟩
  | 16 => ⟨S_, .f32⟩
  | 17 => ⟨S512, .f32⟩
  | 18 => ⟨S1x512, .f32⟩
  | 19 => ⟨S8192x512, .f32⟩
  | 20 => ⟨S8192x512, .f32⟩
  | 21 => ⟨S_, .f32⟩
  | 22 => ⟨S512, .f32⟩
  | 23 => ⟨S1x512, .f32⟩
  | 24 => ⟨S_, .f32⟩
  | 25 => ⟨S31x512, .f32⟩
  | 26 => ⟨S31x512, .f32⟩
  | 27 => ⟨S_, .f32⟩
  | 28 => ⟨S8222x512, .f32⟩
  | 29 => ⟨S8222x512, .f32⟩
  | 30 => ⟨S8192x512, .f32⟩
  | 31 => ⟨S_, .f32⟩
  | 32 => ⟨S512, .f32⟩
  | 33 => ⟨S1x512, .f32⟩
  | 34 => ⟨S8192x512, .f32⟩
  | 35 => ⟨S8192x512, .f32⟩
  | 36 => ⟨S_, .f32⟩
  | 37 => ⟨S512, .f32⟩
  | 38 => ⟨S1x512, .f32⟩
  | 39 => ⟨S_, .f32⟩
  | 40 => ⟨S31x512, .f32⟩
  | 41 => ⟨S31x512, .f32⟩
  | 42 => ⟨S_, .f32⟩
  | 43 => ⟨S8222x512, .f32⟩
  | 44 => ⟨S8222x512, .f32⟩
  | 45 => ⟨S8192x512, .f32⟩
  | 46 => ⟨S_, .f32⟩
  | 47 => ⟨S512, .f32⟩
  | 48 => ⟨S1x512, .f32⟩
  | 49 => ⟨S8192x512, .f32⟩
  | 50 => ⟨S8192x512, .f32⟩
  | 51 => ⟨S_, .f32⟩
  | 52 => ⟨S512, .f32⟩
  | 53 => ⟨S1x512, .f32⟩
  | 54 => ⟨S_, .f32⟩
  | 55 => ⟨S31x512, .f32⟩
  | 56 => ⟨S31x512, .f32⟩
  | 57 => ⟨S_, .f32⟩
  | 58 => ⟨S8222x512, .f32⟩
  | 59 => ⟨S8222x512, .f32⟩
  | 60 => ⟨S8192x512, .f32⟩
  | 61 => ⟨S_, .f32⟩
  | 62 => ⟨S512, .f32⟩
  | 63 => ⟨S1x512, .f32⟩
  | 64 => ⟨S8192x512, .f32⟩
  | 65 => ⟨S8192x512, .f32⟩
  | 66 => ⟨S_, .f32⟩
  | 67 => ⟨S512, .f32⟩
  | 68 => ⟨S1x512, .f32⟩
  | 69 => ⟨S_, .f32⟩
  | 70 => ⟨S31x512, .f32⟩
  | 71 => ⟨S31x512, .f32⟩
  | 72 => ⟨S_, .f32⟩
  | 73 => ⟨S8222x512, .f32⟩
  | 74 => ⟨S8222x512, .f32⟩
  | 75 => ⟨S8192x512, .f32⟩
  | 76 => ⟨S_, .f32⟩
  | 77 => ⟨S512, .f32⟩
  | 78 => ⟨S1x512, .f32⟩
  | 79 => ⟨S8192x512, .f32⟩
  | 80 => ⟨S8192x512, .f32⟩
  | 81 => ⟨S_, .f32⟩
  | 82 => ⟨S512, .f32⟩
  | 83 => ⟨S1x512, .f32⟩
  | 84 => ⟨S_, .f32⟩
  | 85 => ⟨S31x512, .f32⟩
  | 86 => ⟨S31x512, .f32⟩
  | 87 => ⟨S_, .f32⟩
  | 88 => ⟨S8222x512, .f32⟩
  | 89 => ⟨S8222x512, .f32⟩
  | 90 => ⟨S8192x512, .f32⟩
  | 91 => ⟨S_, .f32⟩
  | 92 => ⟨S512, .f32⟩
  | 93 => ⟨S1x512, .f32⟩
  | 94 => ⟨S8192x512, .f32⟩
  | 95 => ⟨S8192x512, .f32⟩
  | 96 => ⟨S_, .f32⟩
  | 97 => ⟨S512, .f32⟩
  | 98 => ⟨S1x512, .f32⟩
  | 99 => ⟨S_, .f32⟩
  | 100 => ⟨S31x512, .f32⟩
  | 101 => ⟨S31x512, .f32⟩
  | 102 => ⟨S_, .f32⟩
  | 103 => ⟨S8222x512, .f32⟩
  | 104 => ⟨S8222x512, .f32⟩
  | 105 => ⟨S8192x512, .f32⟩
  | 106 => ⟨S_, .f32⟩
  | 107 => ⟨S512, .f32⟩
  | 108 => ⟨S1x512, .f32⟩
  | 109 => ⟨S8192x512, .f32⟩
  | 110 => ⟨S8192x512, .f32⟩
  | 111 => ⟨S_, .f32⟩
  | 112 => ⟨S512, .f32⟩
  | 113 => ⟨S1x512, .f32⟩
  | 114 => ⟨S_, .f32⟩
  | 115 => ⟨S31x512, .f32⟩
  | 116 => ⟨S31x512, .f32⟩
  | 117 => ⟨S_, .f32⟩
  | 118 => ⟨S8222x512, .f32⟩
  | 119 => ⟨S8222x512, .f32⟩
  | 120 => ⟨S8192x512, .f32⟩
  | 121 => ⟨S_, .f32⟩
  | 122 => ⟨S512, .f32⟩
  | 123 => ⟨S1x512, .f32⟩
  | 124 => ⟨S8192x512, .f32⟩
  | 125 => ⟨S8192x512, .f32⟩
  | 126 => ⟨S_, .f32⟩
  | 127 => ⟨S512, .f32⟩
  | _ => ⟨S8192x512, .f32⟩

abbrev hbmTy0_5 (i : Nat) : BufTy := match i % 128 with
  | 0 => ⟨S1x512, .f32⟩
  | 1 => ⟨S_, .f32⟩
  | 2 => ⟨S31x512, .f32⟩
  | 3 => ⟨S31x512, .f32⟩
  | 4 => ⟨S_, .f32⟩
  | 5 => ⟨S8222x512, .f32⟩
  | 6 => ⟨S8222x512, .f32⟩
  | 7 => ⟨S8192x512, .f32⟩
  | 8 => ⟨S_, .f32⟩
  | 9 => ⟨S512, .f32⟩
  | 10 => ⟨S1x512, .f32⟩
  | 11 => ⟨S8192x512, .f32⟩
  | 12 => ⟨S8192x512, .f32⟩
  | 13 => ⟨S_, .f32⟩
  | 14 => ⟨S512, .f32⟩
  | 15 => ⟨S1x512, .f32⟩
  | 16 => ⟨S_, .f32⟩
  | 17 => ⟨S31x512, .f32⟩
  | 18 => ⟨S31x512, .f32⟩
  | 19 => ⟨S_, .f32⟩
  | 20 => ⟨S8222x512, .f32⟩
  | 21 => ⟨S8222x512, .f32⟩
  | 22 => ⟨S8192x512, .f32⟩
  | 23 => ⟨S_, .f32⟩
  | 24 => ⟨S512, .f32⟩
  | 25 => ⟨S1x512, .f32⟩
  | 26 => ⟨S8192x512, .f32⟩
  | 27 => ⟨S8192x512, .f32⟩
  | 28 => ⟨S_, .f32⟩
  | 29 => ⟨S512, .f32⟩
  | 30 => ⟨S1x512, .f32⟩
  | 31 => ⟨S_, .f32⟩
  | 32 => ⟨S31x512, .f32⟩
  | 33 => ⟨S31x512, .f32⟩
  | 34 => ⟨S_, .f32⟩
  | 35 => ⟨S8222x512, .f32⟩
  | 36 => ⟨S8222x512, .f32⟩
  | 37 => ⟨S8192x512, .f32⟩
  | 38 => ⟨S_, .f32⟩
  | 39 => ⟨S512, .f32⟩
  | 40 => ⟨S1x512, .f32⟩
  | 41 => ⟨S8192x512, .f32⟩
  | 42 => ⟨S8192x512, .f32⟩
  | 43 => ⟨S_, .f32⟩
  | 44 => ⟨S512, .f32⟩
  | 45 => ⟨S1x512, .f32⟩
  | 46 => ⟨S_, .f32⟩
  | 47 => ⟨S31x512, .f32⟩
  | 48 => ⟨S31x512, .f32⟩
  | 49 => ⟨S_, .f32⟩
  | 50 => ⟨S8222x512, .f32⟩
  | 51 => ⟨S8222x512, .f32⟩
  | 52 => ⟨S8192x512, .f32⟩
  | 53 => ⟨S_, .f32⟩
  | 54 => ⟨S512, .f32⟩
  | 55 => ⟨S1x512, .f32⟩
  | 56 => ⟨S8192x512, .f32⟩
  | 57 => ⟨S8192x512, .f32⟩
  | 58 => ⟨S_, .f32⟩
  | 59 => ⟨S512, .f32⟩
  | 60 => ⟨S1x512, .f32⟩
  | 61 => ⟨S_, .f32⟩
  | 62 => ⟨S31x512, .f32⟩
  | 63 => ⟨S31x512, .f32⟩
  | 64 => ⟨S_, .f32⟩
  | 65 => ⟨S8222x512, .f32⟩
  | 66 => ⟨S8222x512, .f32⟩
  | 67 => ⟨S30x512, .f32⟩
  | 68 => ⟨S8192x512, .f32⟩
  | 69 => ⟨S8192x512, .f32⟩
  | 70 => ⟨S8192x512, .f32⟩
  | 71 => ⟨S8192x512, .f32⟩
  | 72 => ⟨S8192x512, .bf16⟩
  | 73 => ⟨S8192x512, .bf16⟩
  | 74 => ⟨S_, .i32⟩
  | 75 => ⟨S_, .f32⟩
  | 76 => ⟨S32x512, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_cst_5 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_cst_6 : Ref sig .tc := ⟨.hbm, 250, rfl⟩
abbrev main_v240 : Ref sig .tc := ⟨.hbm, 251, rfl⟩
abbrev main_v241 : Ref sig .tc := ⟨.hbm, 252, rfl⟩
abbrev main_cst_7 : Ref sig .tc := ⟨.hbm, 253, rfl⟩
abbrev main_v242 : Ref sig .tc := ⟨.hbm, 254, rfl⟩
abbrev main_cst_8 : Ref sig .tc := ⟨.hbm, 255, rfl⟩
abbrev main_v243 : Ref sig .tc := ⟨.hbm, 256, rfl⟩
abbrev main_v244 : Ref sig .tc := ⟨.hbm, 257, rfl⟩
abbrev main_cst_9 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_cst_10 : Ref sig .tc := ⟨.hbm, 263, rfl⟩
abbrev main_v249 : Ref sig .tc := ⟨.hbm, 264, rfl⟩
abbrev main_v250 : Ref sig .tc := ⟨.hbm, 265, rfl⟩
abbrev main_cst_11 : Ref sig .tc := ⟨.hbm, 266, rfl⟩
abbrev main_v251 : Ref sig .tc := ⟨.hbm, 267, rfl⟩
abbrev main_v252 : Ref sig .tc := ⟨.hbm, 268, rfl⟩
abbrev main_cst_12 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_cst_13 : Ref sig .tc := ⟨.hbm, 273, rfl⟩
abbrev main_v256 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_cst_14 : Ref sig .tc := ⟨.hbm, 278, rfl⟩
abbrev main_v260 : Ref sig .tc := ⟨.hbm, 279, rfl⟩
abbrev main_v261 : Ref sig .tc := ⟨.hbm, 280, rfl⟩
abbrev main_cst_15 : Ref sig .tc := ⟨.hbm, 281, rfl⟩
abbrev main_v262 : Ref sig .tc := ⟨.hbm, 282, rfl⟩
abbrev main_v263 : Ref sig .tc := ⟨.hbm, 283, rfl⟩
abbrev main_cst_16 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_cst_17 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_cst_18 : Ref sig .tc := ⟨.hbm, 293, rfl⟩
abbrev main_v271 : Ref sig .tc := ⟨.hbm, 294, rfl⟩
abbrev main_v272 : Ref sig .tc := ⟨.hbm, 295, rfl⟩
abbrev main_cst_19 : Ref sig .tc := ⟨.hbm, 296, rfl⟩
abbrev main_v273 : Ref sig .tc := ⟨.hbm, 297, rfl⟩
abbrev main_v274 : Ref sig .tc := ⟨.hbm, 298, rfl⟩
abbrev main_cst_20 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_cst_21 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_v281 : Ref sig .tc := ⟨.hbm, 307, rfl⟩
abbrev main_cst_22 : Ref sig .tc := ⟨.hbm, 308, rfl⟩
abbrev main_v282 : Ref sig .tc := ⟨.hbm, 309, rfl⟩
abbrev main_v283 : Ref sig .tc := ⟨.hbm, 310, rfl⟩
abbrev main_cst_23 : Ref sig .tc := ⟨.hbm, 311, rfl⟩
abbrev main_v284 : Ref sig .tc := ⟨.hbm, 312, rfl⟩
abbrev main_v285 : Ref sig .tc := ⟨.hbm, 313, rfl⟩
abbrev main_cst_24 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_cst_25 : Ref sig .tc := ⟨.hbm, 318, rfl⟩
abbrev main_v289 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_cst_26 : Ref sig .tc := ⟨.hbm, 323, rfl⟩
abbrev main_v293 : Ref sig .tc := ⟨.hbm, 324, rfl⟩
abbrev main_v294 : Ref sig .tc := ⟨.hbm, 325, rfl⟩
abbrev main_cst_27 : Ref sig .tc := ⟨.hbm, 326, rfl⟩
abbrev main_v295 : Ref sig .tc := ⟨.hbm, 327, rfl⟩
abbrev main_v296 : Ref sig .tc := ⟨.hbm, 328, rfl⟩
abbrev main_cst_28 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_cst_29 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_cst_30 : Ref sig .tc := ⟨.hbm, 338, rfl⟩
abbrev main_v304 : Ref sig .tc := ⟨.hbm, 339, rfl⟩
abbrev main_v305 : Ref sig .tc := ⟨.hbm, 340, rfl⟩
abbrev main_cst_31 : Ref sig .tc := ⟨.hbm, 341, rfl⟩
abbrev main_v306 : Ref sig .tc := ⟨.hbm, 342, rfl⟩
abbrev main_v307 : Ref sig .tc := ⟨.hbm, 343, rfl⟩
abbrev main_cst_32 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_cst_33 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_cst_34 : Ref sig .tc := ⟨.hbm, 353, rfl⟩
abbrev main_v315 : Ref sig .tc := ⟨.hbm, 354, rfl⟩
abbrev main_v316 : Ref sig .tc := ⟨.hbm, 355, rfl⟩
abbrev main_cst_35 : Ref sig .tc := ⟨.hbm, 356, rfl⟩
abbrev main_v317 : Ref sig .tc := ⟨.hbm, 357, rfl⟩
abbrev main_v318 : Ref sig .tc := ⟨.hbm, 358, rfl⟩
abbrev main_cst_36 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_cst_37 : Ref sig .tc := ⟨.hbm, 363, rfl⟩
abbrev main_v322 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_cst_38 : Ref sig .tc := ⟨.hbm, 368, rfl⟩
abbrev main_v326 : Ref sig .tc := ⟨.hbm, 369, rfl⟩
abbrev main_v327 : Ref sig .tc := ⟨.hbm, 370, rfl⟩
abbrev main_cst_39 : Ref sig .tc := ⟨.hbm, 371, rfl⟩
abbrev main_v328 : Ref sig .tc := ⟨.hbm, 372, rfl⟩
abbrev main_v329 : Ref sig .tc := ⟨.hbm, 373, rfl⟩
abbrev main_cst_40 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_cst_41 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_cst_42 : Ref sig .tc := ⟨.hbm, 383, rfl⟩
abbrev main_v337 : Ref sig .tc := ⟨.hbm, 384, rfl⟩
abbrev main_v338 : Ref sig .tc := ⟨.hbm, 385, rfl⟩
abbrev main_cst_43 : Ref sig .tc := ⟨.hbm, 386, rfl⟩
abbrev main_v339 : Ref sig .tc := ⟨.hbm, 387, rfl⟩
abbrev main_v340 : Ref sig .tc := ⟨.hbm, 388, rfl⟩
abbrev main_cst_44 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_cst_45 : Ref sig .tc := ⟨.hbm, 393, rfl⟩
abbrev main_v344 : Ref sig .tc := ⟨.hbm, 394, rfl⟩
abbrev main_v345 : Ref sig .tc := ⟨.hbm, 395, rfl⟩
abbrev main_v346 : Ref sig .tc := ⟨.hbm, 396, rfl⟩
abbrev main_v347 : Ref sig .tc := ⟨.hbm, 397, rfl⟩
abbrev main_cst_46 : Ref sig .tc := ⟨.hbm, 398, rfl⟩
abbrev main_v348 : Ref sig .tc := ⟨.hbm, 399, rfl⟩
abbrev main_v349 : Ref sig .tc := ⟨.hbm, 400, rfl⟩
abbrev main_cst_47 : Ref sig .tc := ⟨.hbm, 401, rfl⟩
abbrev main_v350 : Ref sig .tc := ⟨.hbm, 402, rfl⟩
abbrev main_v351 : Ref sig .tc := ⟨.hbm, 403, rfl⟩
abbrev main_cst_48 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_cst_49 : Ref sig .tc := ⟨.hbm, 408, rfl⟩
abbrev main_v355 : Ref sig .tc := ⟨.hbm, 409, rfl⟩
abbrev main_v356 : Ref sig .tc := ⟨.hbm, 410, rfl⟩
abbrev main_v357 : Ref sig .tc := ⟨.hbm, 411, rfl⟩
abbrev main_v358 : Ref sig .tc := ⟨.hbm, 412, rfl⟩
abbrev main_cst_50 : Ref sig .tc := ⟨.hbm, 413, rfl⟩
abbrev main_v359 : Ref sig .tc := ⟨.hbm, 414, rfl⟩
abbrev main_v360 : Ref sig .tc := ⟨.hbm, 415, rfl⟩
abbrev main_cst_51 : Ref sig .tc := ⟨.hbm, 416, rfl⟩
abbrev main_v361 : Ref sig .tc := ⟨.hbm, 417, rfl⟩
abbrev main_v362 : Ref sig .tc := ⟨.hbm, 418, rfl⟩
abbrev main_cst_52 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_cst_53 : Ref sig .tc := ⟨.hbm, 423, rfl⟩
abbrev main_v366 : Ref sig .tc := ⟨.hbm, 424, rfl⟩
abbrev main_v367 : Ref sig .tc := ⟨.hbm, 425, rfl⟩
abbrev main_v368 : Ref sig .tc := ⟨.hbm, 426, rfl⟩
abbrev main_v369 : Ref sig .tc := ⟨.hbm, 427, rfl⟩
abbrev main_cst_54 : Ref sig .tc := ⟨.hbm, 428, rfl⟩
abbrev main_v370 : Ref sig .tc := ⟨.hbm, 429, rfl⟩
abbrev main_v371 : Ref sig .tc := ⟨.hbm, 430, rfl⟩
abbrev main_cst_55 : Ref sig .tc := ⟨.hbm, 431, rfl⟩
abbrev main_v372 : Ref sig .tc := ⟨.hbm, 432, rfl⟩
abbrev main_v373 : Ref sig .tc := ⟨.hbm, 433, rfl⟩
abbrev main_cst_56 : Ref sig .tc := ⟨.hbm, 434, rfl⟩
abbrev main_v374 : Ref sig .tc := ⟨.hbm, 435, rfl⟩
abbrev main_v375 : Ref sig .tc := ⟨.hbm, 436, rfl⟩
abbrev main_v376 : Ref sig .tc := ⟨.hbm, 437, rfl⟩
abbrev main_cst_57 : Ref sig .tc := ⟨.hbm, 438, rfl⟩
abbrev main_v377 : Ref sig .tc := ⟨.hbm, 439, rfl⟩
abbrev main_v378 : Ref sig .tc := ⟨.hbm, 440, rfl⟩
abbrev main_v379 : Ref sig .tc := ⟨.hbm, 441, rfl⟩
abbrev main_v380 : Ref sig .tc := ⟨.hbm, 442, rfl⟩
abbrev main_cst_58 : Ref sig .tc := ⟨.hbm, 443, rfl⟩
abbrev main_v381 : Ref sig .tc := ⟨.hbm, 444, rfl⟩
abbrev main_v382 : Ref sig .tc := ⟨.hbm, 445, rfl⟩
abbrev main_cst_59 : Ref sig .tc := ⟨.hbm, 446, rfl⟩
abbrev main_v383 : Ref sig .tc := ⟨.hbm, 447, rfl⟩
abbrev main_v384 : Ref sig .tc := ⟨.hbm, 448, rfl⟩
abbrev main_cst_60 : Ref sig .tc := ⟨.hbm, 449, rfl⟩
abbrev main_v385 : Ref sig .tc := ⟨.hbm, 450, rfl⟩
abbrev main_v386 : Ref sig .tc := ⟨.hbm, 451, rfl⟩
abbrev main_v387 : Ref sig .tc := ⟨.hbm, 452, rfl⟩
abbrev main_cst_61 : Ref sig .tc := ⟨.hbm, 453, rfl⟩
abbrev main_v388 : Ref sig .tc := ⟨.hbm, 454, rfl⟩
abbrev main_v389 : Ref sig .tc := ⟨.hbm, 455, rfl⟩
abbrev main_v390 : Ref sig .tc := ⟨.hbm, 456, rfl⟩
abbrev main_v391 : Ref sig .tc := ⟨.hbm, 457, rfl⟩
abbrev main_cst_62 : Ref sig .tc := ⟨.hbm, 458, rfl⟩
abbrev main_v392 : Ref sig .tc := ⟨.hbm, 459, rfl⟩
abbrev main_v393 : Ref sig .tc := ⟨.hbm, 460, rfl⟩
abbrev main_cst_63 : Ref sig .tc := ⟨.hbm, 461, rfl⟩
abbrev main_v394 : Ref sig .tc := ⟨.hbm, 462, rfl⟩
abbrev main_v395 : Ref sig .tc := ⟨.hbm, 463, rfl⟩
abbrev main_cst_64 : Ref sig .tc := ⟨.hbm, 464, rfl⟩
abbrev main_v396 : Ref sig .tc := ⟨.hbm, 465, rfl⟩
abbrev main_v397 : Ref sig .tc := ⟨.hbm, 466, rfl⟩
abbrev main_v398 : Ref sig .tc := ⟨.hbm, 467, rfl⟩
abbrev main_cst_65 : Ref sig .tc := ⟨.hbm, 468, rfl⟩
abbrev main_v399 : Ref sig .tc := ⟨.hbm, 469, rfl⟩
abbrev main_v400 : Ref sig .tc := ⟨.hbm, 470, rfl⟩
abbrev main_v401 : Ref sig .tc := ⟨.hbm, 471, rfl⟩
abbrev main_v402 : Ref sig .tc := ⟨.hbm, 472, rfl⟩
abbrev main_cst_66 : Ref sig .tc := ⟨.hbm, 473, rfl⟩
abbrev main_v403 : Ref sig .tc := ⟨.hbm, 474, rfl⟩
abbrev main_v404 : Ref sig .tc := ⟨.hbm, 475, rfl⟩
abbrev main_cst_67 : Ref sig .tc := ⟨.hbm, 476, rfl⟩
abbrev main_v405 : Ref sig .tc := ⟨.hbm, 477, rfl⟩
abbrev main_v406 : Ref sig .tc := ⟨.hbm, 478, rfl⟩
abbrev main_cst_68 : Ref sig .tc := ⟨.hbm, 479, rfl⟩
abbrev main_v407 : Ref sig .tc := ⟨.hbm, 480, rfl⟩
abbrev main_v408 : Ref sig .tc := ⟨.hbm, 481, rfl⟩
abbrev main_v409 : Ref sig .tc := ⟨.hbm, 482, rfl⟩
abbrev main_cst_69 : Ref sig .tc := ⟨.hbm, 483, rfl⟩
abbrev main_v410 : Ref sig .tc := ⟨.hbm, 484, rfl⟩
abbrev main_v411 : Ref sig .tc := ⟨.hbm, 485, rfl⟩
abbrev main_v412 : Ref sig .tc := ⟨.hbm, 486, rfl⟩
abbrev main_v413 : Ref sig .tc := ⟨.hbm, 487, rfl⟩
abbrev main_cst_70 : Ref sig .tc := ⟨.hbm, 488, rfl⟩
abbrev main_v414 : Ref sig .tc := ⟨.hbm, 489, rfl⟩
abbrev main_v415 : Ref sig .tc := ⟨.hbm, 490, rfl⟩
abbrev main_cst_71 : Ref sig .tc := ⟨.hbm, 491, rfl⟩
abbrev main_v416 : Ref sig .tc := ⟨.hbm, 492, rfl⟩
abbrev main_v417 : Ref sig .tc := ⟨.hbm, 493, rfl⟩
abbrev main_cst_72 : Ref sig .tc := ⟨.hbm, 494, rfl⟩
abbrev main_v418 : Ref sig .tc := ⟨.hbm, 495, rfl⟩
abbrev main_v419 : Ref sig .tc := ⟨.hbm, 496, rfl⟩
abbrev main_v420 : Ref sig .tc := ⟨.hbm, 497, rfl⟩
abbrev main_cst_73 : Ref sig .tc := ⟨.hbm, 498, rfl⟩
abbrev main_v421 : Ref sig .tc := ⟨.hbm, 499, rfl⟩
abbrev main_v422 : Ref sig .tc := ⟨.hbm, 500, rfl⟩
abbrev main_v423 : Ref sig .tc := ⟨.hbm, 501, rfl⟩
abbrev main_v424 : Ref sig .tc := ⟨.hbm, 502, rfl⟩
abbrev main_cst_74 : Ref sig .tc := ⟨.hbm, 503, rfl⟩
abbrev main_v425 : Ref sig .tc := ⟨.hbm, 504, rfl⟩
abbrev main_v426 : Ref sig .tc := ⟨.hbm, 505, rfl⟩
abbrev main_cst_75 : Ref sig .tc := ⟨.hbm, 506, rfl⟩
abbrev main_v427 : Ref sig .tc := ⟨.hbm, 507, rfl⟩
abbrev main_v428 : Ref sig .tc := ⟨.hbm, 508, rfl⟩
abbrev main_cst_76 : Ref sig .tc := ⟨.hbm, 509, rfl⟩
abbrev main_v429 : Ref sig .tc := ⟨.hbm, 510, rfl⟩
abbrev main_v430 : Ref sig .tc := ⟨.hbm, 511, rfl⟩
abbrev main_v431 : Ref sig .tc := ⟨.hbm, 512, rfl⟩
abbrev main_cst_77 : Ref sig .tc := ⟨.hbm, 513, rfl⟩
abbrev main_v432 : Ref sig .tc := ⟨.hbm, 514, rfl⟩
abbrev main_v433 : Ref sig .tc := ⟨.hbm, 515, rfl⟩
abbrev main_v434 : Ref sig .tc := ⟨.hbm, 516, rfl⟩
abbrev main_v435 : Ref sig .tc := ⟨.hbm, 517, rfl⟩
abbrev main_cst_78 : Ref sig .tc := ⟨.hbm, 518, rfl⟩
abbrev main_v436 : Ref sig .tc := ⟨.hbm, 519, rfl⟩
abbrev main_v437 : Ref sig .tc := ⟨.hbm, 520, rfl⟩
abbrev main_cst_79 : Ref sig .tc := ⟨.hbm, 521, rfl⟩
abbrev main_v438 : Ref sig .tc := ⟨.hbm, 522, rfl⟩
abbrev main_v439 : Ref sig .tc := ⟨.hbm, 523, rfl⟩
abbrev main_cst_80 : Ref sig .tc := ⟨.hbm, 524, rfl⟩
abbrev main_v440 : Ref sig .tc := ⟨.hbm, 525, rfl⟩
abbrev main_v441 : Ref sig .tc := ⟨.hbm, 526, rfl⟩
abbrev main_v442 : Ref sig .tc := ⟨.hbm, 527, rfl⟩
abbrev main_cst_81 : Ref sig .tc := ⟨.hbm, 528, rfl⟩
abbrev main_v443 : Ref sig .tc := ⟨.hbm, 529, rfl⟩
abbrev main_v444 : Ref sig .tc := ⟨.hbm, 530, rfl⟩
abbrev main_v445 : Ref sig .tc := ⟨.hbm, 531, rfl⟩
abbrev main_v446 : Ref sig .tc := ⟨.hbm, 532, rfl⟩
abbrev main_cst_82 : Ref sig .tc := ⟨.hbm, 533, rfl⟩
abbrev main_v447 : Ref sig .tc := ⟨.hbm, 534, rfl⟩
abbrev main_v448 : Ref sig .tc := ⟨.hbm, 535, rfl⟩
abbrev main_cst_83 : Ref sig .tc := ⟨.hbm, 536, rfl⟩
abbrev main_v449 : Ref sig .tc := ⟨.hbm, 537, rfl⟩
abbrev main_v450 : Ref sig .tc := ⟨.hbm, 538, rfl⟩
abbrev main_cst_84 : Ref sig .tc := ⟨.hbm, 539, rfl⟩
abbrev main_v451 : Ref sig .tc := ⟨.hbm, 540, rfl⟩
abbrev main_v452 : Ref sig .tc := ⟨.hbm, 541, rfl⟩
abbrev main_v453 : Ref sig .tc := ⟨.hbm, 542, rfl⟩
abbrev main_cst_85 : Ref sig .tc := ⟨.hbm, 543, rfl⟩
abbrev main_v454 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_cst_86 : Ref sig .tc := ⟨.hbm, 548, rfl⟩
abbrev main_v458 : Ref sig .tc := ⟨.hbm, 549, rfl⟩
abbrev main_v459 : Ref sig .tc := ⟨.hbm, 550, rfl⟩
abbrev main_cst_87 : Ref sig .tc := ⟨.hbm, 551, rfl⟩
abbrev main_v460 : Ref sig .tc := ⟨.hbm, 552, rfl⟩
abbrev main_v461 : Ref sig .tc := ⟨.hbm, 553, rfl⟩
abbrev main_cst_88 : Ref sig .tc := ⟨.hbm, 554, rfl⟩
abbrev main_v462 : Ref sig .tc := ⟨.hbm, 555, rfl⟩
abbrev main_v463 : Ref sig .tc := ⟨.hbm, 556, rfl⟩
abbrev main_v464 : Ref sig .tc := ⟨.hbm, 557, rfl⟩
abbrev main_cst_89 : Ref sig .tc := ⟨.hbm, 558, rfl⟩
abbrev main_v465 : Ref sig .tc := ⟨.hbm, 559, rfl⟩
abbrev main_v466 : Ref sig .tc := ⟨.hbm, 560, rfl⟩
abbrev main_v467 : Ref sig .tc := ⟨.hbm, 561, rfl⟩
abbrev main_v468 : Ref sig .tc := ⟨.hbm, 562, rfl⟩
abbrev main_cst_90 : Ref sig .tc := ⟨.hbm, 563, rfl⟩
abbrev main_v469 : Ref sig .tc := ⟨.hbm, 564, rfl⟩
abbrev main_v470 : Ref sig .tc := ⟨.hbm, 565, rfl⟩
abbrev main_cst_91 : Ref sig .tc := ⟨.hbm, 566, rfl⟩
abbrev main_v471 : Ref sig .tc := ⟨.hbm, 567, rfl⟩
abbrev main_v472 : Ref sig .tc := ⟨.hbm, 568, rfl⟩
abbrev main_cst_92 : Ref sig .tc := ⟨.hbm, 569, rfl⟩
abbrev main_v473 : Ref sig .tc := ⟨.hbm, 570, rfl⟩
abbrev main_v474 : Ref sig .tc := ⟨.hbm, 571, rfl⟩
abbrev main_v475 : Ref sig .tc := ⟨.hbm, 572, rfl⟩
abbrev main_cst_93 : Ref sig .tc := ⟨.hbm, 573, rfl⟩
abbrev main_v476 : Ref sig .tc := ⟨.hbm, 574, rfl⟩
abbrev main_v477 : Ref sig .tc := ⟨.hbm, 575, rfl⟩
abbrev main_v478 : Ref sig .tc := ⟨.hbm, 576, rfl⟩
abbrev main_v479 : Ref sig .tc := ⟨.hbm, 577, rfl⟩
abbrev main_cst_94 : Ref sig .tc := ⟨.hbm, 578, rfl⟩
abbrev main_v480 : Ref sig .tc := ⟨.hbm, 579, rfl⟩
abbrev main_v481 : Ref sig .tc := ⟨.hbm, 580, rfl⟩
abbrev main_cst_95 : Ref sig .tc := ⟨.hbm, 581, rfl⟩
abbrev main_v482 : Ref sig .tc := ⟨.hbm, 582, rfl⟩
abbrev main_v483 : Ref sig .tc := ⟨.hbm, 583, rfl⟩
abbrev main_cst_96 : Ref sig .tc := ⟨.hbm, 584, rfl⟩
abbrev main_v484 : Ref sig .tc := ⟨.hbm, 585, rfl⟩
abbrev main_v485 : Ref sig .tc := ⟨.hbm, 586, rfl⟩
abbrev main_v486 : Ref sig .tc := ⟨.hbm, 587, rfl⟩
abbrev main_cst_97 : Ref sig .tc := ⟨.hbm, 588, rfl⟩
abbrev main_v487 : Ref sig .tc := ⟨.hbm, 589, rfl⟩
abbrev main_v488 : Ref sig .tc := ⟨.hbm, 590, rfl⟩
abbrev main_v489 : Ref sig .tc := ⟨.hbm, 591, rfl⟩
abbrev main_v490 : Ref sig .tc := ⟨.hbm, 592, rfl⟩
abbrev main_cst_98 : Ref sig .tc := ⟨.hbm, 593, rfl⟩
abbrev main_v491 : Ref sig .tc := ⟨.hbm, 594, rfl⟩
abbrev main_v492 : Ref sig .tc := ⟨.hbm, 595, rfl⟩
abbrev main_cst_99 : Ref sig .tc := ⟨.hbm, 596, rfl⟩
abbrev main_v493 : Ref sig .tc := ⟨.hbm, 597, rfl⟩
abbrev main_v494 : Ref sig .tc := ⟨.hbm, 598, rfl⟩
abbrev main_cst_100 : Ref sig .tc := ⟨.hbm, 599, rfl⟩
abbrev main_v495 : Ref sig .tc := ⟨.hbm, 600, rfl⟩
abbrev main_v496 : Ref sig .tc := ⟨.hbm, 601, rfl⟩
abbrev main_v497 : Ref sig .tc := ⟨.hbm, 602, rfl⟩
abbrev main_cst_101 : Ref sig .tc := ⟨.hbm, 603, rfl⟩
abbrev main_v498 : Ref sig .tc := ⟨.hbm, 604, rfl⟩
abbrev main_v499 : Ref sig .tc := ⟨.hbm, 605, rfl⟩
abbrev main_v500 : Ref sig .tc := ⟨.hbm, 606, rfl⟩
abbrev main_v501 : Ref sig .tc := ⟨.hbm, 607, rfl⟩
abbrev main_cst_102 : Ref sig .tc := ⟨.hbm, 608, rfl⟩
abbrev main_v502 : Ref sig .tc := ⟨.hbm, 609, rfl⟩
abbrev main_v503 : Ref sig .tc := ⟨.hbm, 610, rfl⟩
abbrev main_cst_103 : Ref sig .tc := ⟨.hbm, 611, rfl⟩
abbrev main_v504 : Ref sig .tc := ⟨.hbm, 612, rfl⟩
abbrev main_v505 : Ref sig .tc := ⟨.hbm, 613, rfl⟩
abbrev main_cst_104 : Ref sig .tc := ⟨.hbm, 614, rfl⟩
abbrev main_v506 : Ref sig .tc := ⟨.hbm, 615, rfl⟩
abbrev main_v507 : Ref sig .tc := ⟨.hbm, 616, rfl⟩
abbrev main_v508 : Ref sig .tc := ⟨.hbm, 617, rfl⟩
abbrev main_cst_105 : Ref sig .tc := ⟨.hbm, 618, rfl⟩
abbrev main_v509 : Ref sig .tc := ⟨.hbm, 619, rfl⟩
abbrev main_v510 : Ref sig .tc := ⟨.hbm, 620, rfl⟩
abbrev main_v511 : Ref sig .tc := ⟨.hbm, 621, rfl⟩
abbrev main_v512 : Ref sig .tc := ⟨.hbm, 622, rfl⟩
abbrev main_cst_106 : Ref sig .tc := ⟨.hbm, 623, rfl⟩
abbrev main_v513 : Ref sig .tc := ⟨.hbm, 624, rfl⟩
abbrev main_v514 : Ref sig .tc := ⟨.hbm, 625, rfl⟩
abbrev main_cst_107 : Ref sig .tc := ⟨.hbm, 626, rfl⟩
abbrev main_v515 : Ref sig .tc := ⟨.hbm, 627, rfl⟩
abbrev main_v516 : Ref sig .tc := ⟨.hbm, 628, rfl⟩
abbrev main_cst_108 : Ref sig .tc := ⟨.hbm, 629, rfl⟩
abbrev main_v517 : Ref sig .tc := ⟨.hbm, 630, rfl⟩
abbrev main_v518 : Ref sig .tc := ⟨.hbm, 631, rfl⟩
abbrev main_v519 : Ref sig .tc := ⟨.hbm, 632, rfl⟩
abbrev main_cst_109 : Ref sig .tc := ⟨.hbm, 633, rfl⟩
abbrev main_v520 : Ref sig .tc := ⟨.hbm, 634, rfl⟩
abbrev main_v521 : Ref sig .tc := ⟨.hbm, 635, rfl⟩
abbrev main_v522 : Ref sig .tc := ⟨.hbm, 636, rfl⟩
abbrev main_v523 : Ref sig .tc := ⟨.hbm, 637, rfl⟩
abbrev main_cst_110 : Ref sig .tc := ⟨.hbm, 638, rfl⟩
abbrev main_v524 : Ref sig .tc := ⟨.hbm, 639, rfl⟩
abbrev main_v525 : Ref sig .tc := ⟨.hbm, 640, rfl⟩
abbrev main_cst_111 : Ref sig .tc := ⟨.hbm, 641, rfl⟩
abbrev main_v526 : Ref sig .tc := ⟨.hbm, 642, rfl⟩
abbrev main_v527 : Ref sig .tc := ⟨.hbm, 643, rfl⟩
abbrev main_cst_112 : Ref sig .tc := ⟨.hbm, 644, rfl⟩
abbrev main_v528 : Ref sig .tc := ⟨.hbm, 645, rfl⟩
abbrev main_v529 : Ref sig .tc := ⟨.hbm, 646, rfl⟩
abbrev main_v530 : Ref sig .tc := ⟨.hbm, 647, rfl⟩
abbrev main_cst_113 : Ref sig .tc := ⟨.hbm, 648, rfl⟩
abbrev main_v531 : Ref sig .tc := ⟨.hbm, 649, rfl⟩
abbrev main_v532 : Ref sig .tc := ⟨.hbm, 650, rfl⟩
abbrev main_v533 : Ref sig .tc := ⟨.hbm, 651, rfl⟩
abbrev main_v534 : Ref sig .tc := ⟨.hbm, 652, rfl⟩
abbrev main_cst_114 : Ref sig .tc := ⟨.hbm, 653, rfl⟩
abbrev main_v535 : Ref sig .tc := ⟨.hbm, 654, rfl⟩
abbrev main_v536 : Ref sig .tc := ⟨.hbm, 655, rfl⟩
abbrev main_cst_115 : Ref sig .tc := ⟨.hbm, 656, rfl⟩
abbrev main_v537 : Ref sig .tc := ⟨.hbm, 657, rfl⟩
abbrev main_v538 : Ref sig .tc := ⟨.hbm, 658, rfl⟩
abbrev main_cst_116 : Ref sig .tc := ⟨.hbm, 659, rfl⟩
abbrev main_v539 : Ref sig .tc := ⟨.hbm, 660, rfl⟩
abbrev main_v540 : Ref sig .tc := ⟨.hbm, 661, rfl⟩
abbrev main_v541 : Ref sig .tc := ⟨.hbm, 662, rfl⟩
abbrev main_cst_117 : Ref sig .tc := ⟨.hbm, 663, rfl⟩
abbrev main_v542 : Ref sig .tc := ⟨.hbm, 664, rfl⟩
abbrev main_v543 : Ref sig .tc := ⟨.hbm, 665, rfl⟩
abbrev main_v544 : Ref sig .tc := ⟨.hbm, 666, rfl⟩
abbrev main_v545 : Ref sig .tc := ⟨.hbm, 667, rfl⟩
abbrev main_cst_118 : Ref sig .tc := ⟨.hbm, 668, rfl⟩
abbrev main_v546 : Ref sig .tc := ⟨.hbm, 669, rfl⟩
abbrev main_v547 : Ref sig .tc := ⟨.hbm, 670, rfl⟩
abbrev main_cst_119 : Ref sig .tc := ⟨.hbm, 671, rfl⟩
abbrev main_v548 : Ref sig .tc := ⟨.hbm, 672, rfl⟩
abbrev main_v549 : Ref sig .tc := ⟨.hbm, 673, rfl⟩
abbrev main_cst_120 : Ref sig .tc := ⟨.hbm, 674, rfl⟩
abbrev main_v550 : Ref sig .tc := ⟨.hbm, 675, rfl⟩
abbrev main_v551 : Ref sig .tc := ⟨.hbm, 676, rfl⟩
abbrev main_v552 : Ref sig .tc := ⟨.hbm, 677, rfl⟩
abbrev main_cst_121 : Ref sig .tc := ⟨.hbm, 678, rfl⟩
abbrev main_v553 : Ref sig .tc := ⟨.hbm, 679, rfl⟩
abbrev main_v554 : Ref sig .tc := ⟨.hbm, 680, rfl⟩
abbrev main_v555 : Ref sig .tc := ⟨.hbm, 681, rfl⟩
abbrev main_v556 : Ref sig .tc := ⟨.hbm, 682, rfl⟩
abbrev main_cst_122 : Ref sig .tc := ⟨.hbm, 683, rfl⟩
abbrev main_v557 : Ref sig .tc := ⟨.hbm, 684, rfl⟩
abbrev main_v558 : Ref sig .tc := ⟨.hbm, 685, rfl⟩
abbrev main_cst_123 : Ref sig .tc := ⟨.hbm, 686, rfl⟩
abbrev main_v559 : Ref sig .tc := ⟨.hbm, 687, rfl⟩
abbrev main_v560 : Ref sig .tc := ⟨.hbm, 688, rfl⟩
abbrev main_cst_124 : Ref sig .tc := ⟨.hbm, 689, rfl⟩
abbrev main_v561 : Ref sig .tc := ⟨.hbm, 690, rfl⟩
abbrev main_v562 : Ref sig .tc := ⟨.hbm, 691, rfl⟩
abbrev main_v563 : Ref sig .tc := ⟨.hbm, 692, rfl⟩
abbrev main_cst_125 : Ref sig .tc := ⟨.hbm, 693, rfl⟩
abbrev main_v564 : Ref sig .tc := ⟨.hbm, 694, rfl⟩
abbrev main_v565 : Ref sig .tc := ⟨.hbm, 695, rfl⟩
abbrev main_v566 : Ref sig .tc := ⟨.hbm, 696, rfl⟩
abbrev main_v567 : Ref sig .tc := ⟨.hbm, 697, rfl⟩
abbrev main_cst_126 : Ref sig .tc := ⟨.hbm, 698, rfl⟩
abbrev main_v568 : Ref sig .tc := ⟨.hbm, 699, rfl⟩
abbrev main_v569 : Ref sig .tc := ⟨.hbm, 700, rfl⟩
abbrev main_cst_127 : Ref sig .tc := ⟨.hbm, 701, rfl⟩
abbrev main_v570 : Ref sig .tc := ⟨.hbm, 702, rfl⟩
abbrev main_v571 : Ref sig .tc := ⟨.hbm, 703, rfl⟩
abbrev main_cst_128 : Ref sig .tc := ⟨.hbm, 704, rfl⟩
abbrev main_v572 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_v576 : Ref sig .tc := ⟨.hbm, 709, rfl⟩
abbrev main_v577 : Ref sig .tc := ⟨.hbm, 710, rfl⟩
abbrev main_v578 : Ref sig .tc := ⟨.hbm, 711, rfl⟩
abbrev main_v579 : Ref sig .tc := ⟨.hbm, 712, rfl⟩
abbrev main_v580 : Ref sig .tc := ⟨.hbm, 713, rfl⟩
abbrev main_c : Ref sig .tc := ⟨.hbm, 714, rfl⟩
abbrev main_call0_v0 : Ref sig .tc := ⟨.hbm, 715, rfl⟩
abbrev main_v581 : Ref sig .tc := ⟨.hbm, 716, rfl⟩

abbrev nD : Nat := 1
abbrev τ : Topo := Topo.v7x

variable {F : FTy → Type} [FloatOps F]
-- ==== AttnfKernel.lean ====
abbrev S8192x1792 : Shape := ⟨2, ![8192, 1792]⟩
abbrev S32x8 : Shape := ⟨2, ![32, 8]⟩
abbrev S8 : Shape := ⟨1, ![8]⟩
abbrev S64 : Shape := ⟨1, ![64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x128x128 : Shape := ⟨3, ![1, 128, 128]⟩
abbrev S8x128x128 : Shape := ⟨3, ![8, 128, 128]⟩
abbrev S1x8 : Shape := ⟨2, ![1, 8]⟩
abbrev S8x1x1 : Shape := ⟨3, ![8, 1, 1]⟩
abbrev S2x512x128 : Shape := ⟨3, ![2, 512, 128]⟩
abbrev S8x128 : Shape := ⟨2, ![8, 128]⟩
abbrev S1024 : Shape := ⟨1, ![1024]⟩
abbrev S2x512x1 : Shape := ⟨3, ![2, 512, 1]⟩
abbrev S1x64 : Shape := ⟨2, ![1, 64]⟩
abbrev S8192x512 : Shape := ⟨2, ![8192, 512]⟩
abbrev S512x512 : Shape := ⟨2, ![512, 512]⟩
abbrev S512x128 : Shape := ⟨2, ![512, 128]⟩
abbrev S128x64 : Shape := ⟨2, ![128, 64]⟩
abbrev S512x64 : Shape := ⟨2, ![512, 64]⟩
abbrev S512 : Shape := ⟨1, ![512]⟩
abbrev S512x1 : Shape := ⟨2, ![512, 1]⟩
abbrev S1x512x128 : Shape := ⟨3, ![1, 512, 128]⟩
abbrev S1x512x1 : Shape := ⟨3, ![1, 512, 1]⟩

abbrev nBuf : Space → Nat
  | .hbm => 539
  | .vmem => 16
  | .smem => 0
  | _ => 0

abbrev hbmTy0_0 (i : Nat) : BufTy := match i % 128 with
  | 0 => ⟨S8192x1792, .f32⟩
  | 1 => ⟨S32x8, .f32⟩
  | 2 => ⟨S8, .f32⟩
  | 3 => ⟨S64, .f32⟩
  | 4 => ⟨S64, .f32⟩
  | 5 => ⟨S128, .i32⟩
  | 6 => ⟨S128x1, .i32⟩
  | 7 => ⟨S128, .i32⟩
  | 8 => ⟨S1x128, .i32⟩
  | 9 => ⟨S128x128, .i32⟩
  | 10 => ⟨S128x128, .i32⟩
  | 11 => ⟨S128x128, .i1⟩
  | 12 => ⟨S128x128, .i32⟩
  | 13 => ⟨S128x128, .i32⟩
  | 14 => ⟨S128x128, .i32⟩
  | 15 => ⟨S_, .i32⟩
  | 16 => ⟨S128x1, .i32⟩
  | 17 => ⟨S128x1, .i32⟩
  | 18 => ⟨S128x128, .i32⟩
  | 19 => ⟨S128x128, .i32⟩
  | 20 => ⟨S128x128, .i32⟩
  | 21 => ⟨S128x128, .i32⟩
  | 22 => ⟨S_, .i32⟩
  | 23 => ⟨S128x128, .i32⟩
  | 24 => ⟨S_, .i32⟩
  | 25 => ⟨S128x128, .i32⟩
  | 26 => ⟨S128x128, .i1⟩
  | 27 => ⟨S_, .i32⟩
  | 28 => ⟨S_, .i32⟩
  | 29 => ⟨S128x128, .i32⟩
  | 30 => ⟨S128x128, .i32⟩
  | 31 => ⟨S_, .i32⟩
  | 32 => ⟨S128x128, .i32⟩
  | 33 => ⟨S128x128, .i1⟩
  | 34 => ⟨S_, .i32⟩
  | 35 => ⟨S_, .i32⟩
  | 36 => ⟨S128x128, .i32⟩
  | 37 => ⟨S128x128, .i32⟩
  | 38 => ⟨S_, .i32⟩
  | 39 => ⟨S128x128, .i32⟩
  | 40 => ⟨S128x128, .i1⟩
  | 41 => ⟨S_, .i32⟩
  | 42 => ⟨S_, .i32⟩
  | 43 => ⟨S128x128, .i32⟩
  | 44 => ⟨S128x128, .i32⟩
  | 45 => ⟨S_, .i32⟩
  | 46 => ⟨S128x128, .i32⟩
  | 47 => ⟨S128x128, .i1⟩
  | 48 => ⟨S_, .i32⟩
  | 49 => ⟨S_, .i32⟩
  | 50 => ⟨S128x128, .i32⟩
  | 51 => ⟨S128x128, .i32⟩
  | 52 => ⟨S_, .i32⟩
  | 53 => ⟨S128x128, .i32⟩
  | 54 => ⟨S128x128, .i1⟩
  | 55 => ⟨S_, .i32⟩
  | 56 => ⟨S_, .i32⟩
  | 57 => ⟨S128x128, .i32⟩
  | 58 => ⟨S128x128, .i32⟩
  | 59 => ⟨S_, .i32⟩
  | 60 => ⟨S128x128, .i32⟩
  | 61 => ⟨S128x128, .i1⟩
  | 62 => ⟨S_, .i32⟩
  | 63 => ⟨S_, .i32⟩
  | 64 => ⟨S128x128, .i32⟩
  | 65 => ⟨S128x128, .i32⟩
  | 66 => ⟨S_, .i32⟩
  | 67 => ⟨S128x128, .i32⟩
  | 68 => ⟨S128x128, .i1⟩
  | 69 => ⟨S_, .i32⟩
  | 70 => ⟨S_, .i32⟩
  | 71 => ⟨S128x128, .i32⟩
  | 72 => ⟨S128x128, .i32⟩
  | 73 => ⟨S_, .i32⟩
  | 74 => ⟨S128x128, .i32⟩
  | 75 => ⟨S128x128, .i1⟩
  | 76 => ⟨S_, .i32⟩
  | 77 => ⟨S_, .i32⟩
  | 78 => ⟨S128x128, .i32⟩
  | 79 => ⟨S128x128, .i32⟩
  | 80 => ⟨S_, .i32⟩
  | 81 => ⟨S128x128, .i32⟩
  | 82 => ⟨S128x128, .i1⟩
  | 83 => ⟨S_, .i32⟩
  | 84 => ⟨S_, .i32⟩
  | 85 => ⟨S128x128, .i32⟩
  | 86 => ⟨S128x128, .i32⟩
  | 87 => ⟨S_, .i32⟩
  | 88 => ⟨S128x128, .i32⟩
  | 89 => ⟨S128x128, .i1⟩
  | 90 => ⟨S_, .i32⟩
  | 91 => ⟨S_, .i32⟩
  | 92 => ⟨S128x128, .i32⟩
  | 93 => ⟨S128x128, .i32⟩
  | 94 => ⟨S_, .i32⟩
  | 95 => ⟨S128x128, .i32⟩
  | 96 => ⟨S128x128, .i1⟩
  | 97 => ⟨S_, .i32⟩
  | 98 => ⟨S_, .i32⟩
  | 99 => ⟨S128x128, .i32⟩
  | 100 => ⟨S128x128, .i32⟩
  | 101 => ⟨S_, .i32⟩
  | 102 => ⟨S128x128, .i32⟩
  | 103 => ⟨S128x128, .i1⟩
  | 104 => ⟨S_, .i32⟩
  | 105 => ⟨S_, .i32⟩
  | 106 => ⟨S128x128, .i32⟩
  | 107 => ⟨S128x128, .i32⟩
  | 108 => ⟨S_, .i32⟩
  | 109 => ⟨S128x128, .i32⟩
  | 110 => ⟨S128x128, .i1⟩
  | 111 => ⟨S_, .i32⟩
  | 112 => ⟨S_, .i32⟩
  | 113 => ⟨S128x128, .i32⟩
  | 114 => ⟨S128x128, .i32⟩
  | 115 => ⟨S_, .i32⟩
  | 116 => ⟨S128x128, .i32⟩
  | 117 => ⟨S128x128, .i1⟩
  | 118 => ⟨S_, .i32⟩
  | 119 => ⟨S_, .i32⟩
  | 120 => ⟨S128x128, .i32⟩
  | 121 => ⟨S128x128, .i32⟩
  | 122 => ⟨S_, .i32⟩
  | 123 => ⟨S128x128, .i32⟩
  | 124 => ⟨S128x128, .i1⟩
  | 125 => ⟨S_, .i32⟩
  | 126 => ⟨S_, .i32⟩
  | 127 => ⟨S128x128, .i32⟩
  | _ => ⟨S8192x1792, .f32⟩

abbrev hbmTy0_1 (i : Nat) : BufTy := match i % 128 with
  | 0 => ⟨S128x128, .i32⟩
  | 1 => ⟨S_, .i32⟩
  | 2 => ⟨S128x128, .i32⟩
  | 3 => ⟨S128x128, .i1⟩
  | 4 => ⟨S_, .i32⟩
  | 5 => ⟨S_, .i32⟩
  | 6 => ⟨S128x128, .i32⟩
  | 7 => ⟨S128x128, .i32⟩
  | 8 => ⟨S_, .i32⟩
  | 9 => ⟨S128x128, .i32⟩
  | 10 => ⟨S128x128, .i1⟩
  | 11 => ⟨S_, .i32⟩
  | 12 => ⟨S_, .i32⟩
  | 13 => ⟨S128x128, .i32⟩
  | 14 => ⟨S128x128, .i32⟩
  | 15 => ⟨S_, .i32⟩
  | 16 => ⟨S128x128, .i32⟩
  | 17 => ⟨S128x128, .i1⟩
  | 18 => ⟨S_, .i32⟩
  | 19 => ⟨S_, .i32⟩
  | 20 => ⟨S128x128, .i32⟩
  | 21 => ⟨S128x128, .i32⟩
  | 22 => ⟨S_, .i32⟩
  | 23 => ⟨S128x128, .i32⟩
  | 24 => ⟨S128x128, .i1⟩
  | 25 => ⟨S_, .i32⟩
  | 26 => ⟨S_, .i32⟩
  | 27 => ⟨S128x128, .i32⟩
  | 28 => ⟨S128x128, .i32⟩
  | 29 => ⟨S_, .i32⟩
  | 30 => ⟨S128x128, .i32⟩
  | 31 => ⟨S128x128, .i1⟩
  | 32 => ⟨S_, .i32⟩
  | 33 => ⟨S_, .i32⟩
  | 34 => ⟨S128x128, .i32⟩
  | 35 => ⟨S128x128, .i32⟩
  | 36 => ⟨S_, .i32⟩
  | 37 => ⟨S128x128, .i32⟩
  | 38 => ⟨S128x128, .i1⟩
  | 39 => ⟨S_, .i32⟩
  | 40 => ⟨S_, .i32⟩
  | 41 => ⟨S128x128, .i32⟩
  | 42 => ⟨S128x128, .i32⟩
  | 43 => ⟨S_, .i32⟩
  | 44 => ⟨S128x128, .i32⟩
  | 45 => ⟨S128x128, .i1⟩
  | 46 => ⟨S_, .i32⟩
  | 47 => ⟨S_, .i32⟩
  | 48 => ⟨S128x128, .i32⟩
  | 49 => ⟨S128x128, .i32⟩
  | 50 => ⟨S_, .i32⟩
  | 51 => ⟨S128x128, .i32⟩
  | 52 => ⟨S128x128, .i1⟩
  | 53 => ⟨S_, .i32⟩
  | 54 => ⟨S_, .i32⟩
  | 55 => ⟨S128x128, .i32⟩
  | 56 => ⟨S128x128, .i32⟩
  | 57 => ⟨S_, .i32⟩
  | 58 => ⟨S128x128, .i32⟩
  | 59 => ⟨S128x128, .i1⟩
  | 60 => ⟨S_, .i32⟩
  | 61 => ⟨S_, .i32⟩
  | 62 => ⟨S128x128, .i32⟩
  | 63 => ⟨S128x128, .i32⟩
  | 64 => ⟨S_, .i32⟩
  | 65 => ⟨S128x128, .i32⟩
  | 66 => ⟨S128x128, .i1⟩
  | 67 => ⟨S_, .i32⟩
  | 68 => ⟨S_, .i32⟩
  | 69 => ⟨S128x128, .i32⟩
  | 70 => ⟨S128x128, .i32⟩
  | 71 => ⟨S_, .i32⟩
  | 72 => ⟨S128x128, .i32⟩
  | 73 => ⟨S128x128, .i1⟩
  | 74 => ⟨S_, .i32⟩
  | 75 => ⟨S_, .i32⟩
  | 76 => ⟨S128x128, .i32⟩
  | 77 => ⟨S128x128, .i32⟩
  | 78 => ⟨S_, .i32⟩
  | 79 => ⟨S128x128, .i32⟩
  | 80 => ⟨S128x128, .i1⟩
  | 81 => ⟨S_, .i32⟩
  | 82 => ⟨S_, .i32⟩
  | 83 => ⟨S128x128, .i32⟩
  | 84 => ⟨S128x128, .i32⟩
  | 85 => ⟨S_, .i32⟩
  | 86 => ⟨S128x128, .i32⟩
  | 87 => ⟨S128x128, .i1⟩
  | 88 => ⟨S_, .i32⟩
  | 89 => ⟨S_, .i32⟩
  | 90 => ⟨S128x128, .i32⟩
  | 91 => ⟨S128x128, .i32⟩
  | 92 => ⟨S_, .i32⟩
  | 93 => ⟨S128x128, .i32⟩
  | 94 => ⟨S128x128, .i1⟩
  | 95 => ⟨S_, .i32⟩
  | 96 => ⟨S_, .i32⟩
  | 97 => ⟨S128x128, .i32⟩
  | 98 => ⟨S128x128, .i32⟩
  | 99 => ⟨S_, .i32⟩
  | 100 => ⟨S128x128, .i32⟩
  | 101 => ⟨S128x128, .i1⟩
  | 102 => ⟨S_, .i32⟩
  | 103 => ⟨S_, .i32⟩
  | 104 => ⟨S128x128, .i32⟩
  | 105 => ⟨S128x128, .i32⟩
  | 106 => ⟨S_, .i32⟩
  | 107 => ⟨S128x128, .i32⟩
  | 108 => ⟨S128x128, .i1⟩
  | 109 => ⟨S_, .i32⟩
  | 110 => ⟨S_, .i32⟩
  | 111 => ⟨S128x128, .i32⟩
  | 112 => ⟨S128x128, .i32⟩
  | 113 => ⟨S1x128x128, .i32⟩
  | 114 => ⟨S_, .f32⟩
  | 115 => ⟨S8x128x128, .f32⟩
  | 116 => ⟨S_, .i32⟩
  | 117 => ⟨S1x128x128, .i32⟩
  | 118 => ⟨S1x128x128, .i1⟩
  | 119 => ⟨S1x8, .f32⟩
  | 120 => ⟨S8, .f32⟩
  | 121 => ⟨S8x1x1, .f32⟩
  | 122 => ⟨S8x128x128, .i1⟩
  | 123 => ⟨S8x128x128, .f32⟩
  | 124 => ⟨S8x128x128, .f32⟩
  | 125 => ⟨S_, .i32⟩
  | 126 => ⟨S1x128x128, .i32⟩
  | 127 => ⟨S1x128x128, .i1⟩
  | _ => ⟨S8192x1792, .f32⟩

abbrev hbmTy0_2 (i : Nat) : BufTy := match i % 128 with
  | 0 => ⟨S1x8, .f32⟩
  | 1 => ⟨S8, .f32⟩
  | 2 => ⟨S8x1x1, .f32⟩
  | 3 => ⟨S8x128x128, .i1⟩
  | 4 => ⟨S8x128x128, .f32⟩
  | 5 => ⟨S8x128x128, .f32⟩
  | 6 => ⟨S_, .i32⟩
  | 7 => ⟨S1x128x128, .i32⟩
  | 8 => ⟨S1x128x128, .i1⟩
  | 9 => ⟨S1x8, .f32⟩
  | 10 => ⟨S8, .f32⟩
  | 11 => ⟨S8x1x1, .f32⟩
  | 12 => ⟨S8x128x128, .i1⟩
  | 13 => ⟨S8x128x128, .f32⟩
  | 14 => ⟨S8x128x128, .f32⟩
  | 15 => ⟨S_, .i32⟩
  | 16 => ⟨S1x128x128, .i32⟩
  | 17 => ⟨S1x128x128, .i1⟩
  | 18 => ⟨S1x8, .f32⟩
  | 19 => ⟨S8, .f32⟩
  | 20 => ⟨S8x1x1, .f32⟩
  | 21 => ⟨S8x128x128, .i1⟩
  | 22 => ⟨S8x128x128, .f32⟩
  | 23 => ⟨S8x128x128, .f32⟩
  | 24 => ⟨S_, .i32⟩
  | 25 => ⟨S1x128x128, .i32⟩
  | 26 => ⟨S1x128x128, .i1⟩
  | 27 => ⟨S1x8, .f32⟩
  | 28 => ⟨S8, .f32⟩
  | 29 => ⟨S8x1x1, .f32⟩
  | 30 => ⟨S8x128x128, .i1⟩
  | 31 => ⟨S8x128x128, .f32⟩
  | 32 => ⟨S8x128x128, .f32⟩
  | 33 => ⟨S_, .i32⟩
  | 34 => ⟨S1x128x128, .i32⟩
  | 35 => ⟨S1x128x128, .i1⟩
  | 36 => ⟨S1x8, .f32⟩
  | 37 => ⟨S8, .f32⟩
  | 38 => ⟨S8x1x1, .f32⟩
  | 39 => ⟨S8x128x128, .i1⟩
  | 40 => ⟨S8x128x128, .f32⟩
  | 41 => ⟨S8x128x128, .f32⟩
  | 42 => ⟨S_, .i32⟩
  | 43 => ⟨S1x128x128, .i32⟩
  | 44 => ⟨S1x128x128, .i1⟩
  | 45 => ⟨S1x8, .f32⟩
  | 46 => ⟨S8, .f32⟩
  | 47 => ⟨S8x1x1, .f32⟩
  | 48 => ⟨S8x128x128, .i1⟩
  | 49 => ⟨S8x128x128, .f32⟩
  | 50 => ⟨S8x128x128, .f32⟩
  | 51 => ⟨S_, .i32⟩
  | 52 => ⟨S1x128x128, .i32⟩
  | 53 => ⟨S1x128x128, .i1⟩
  | 54 => ⟨S1x8, .f32⟩
  | 55 => ⟨S8, .f32⟩
  | 56 => ⟨S8x1x1, .f32⟩
  | 57 => ⟨S8x128x128, .i1⟩
  | 58 => ⟨S8x128x128, .f32⟩
  | 59 => ⟨S8x128x128, .f32⟩
  | 60 => ⟨S_, .i32⟩
  | 61 => ⟨S1x128x128, .i32⟩
  | 62 => ⟨S1x128x128, .i1⟩
  | 63 => ⟨S1x8, .f32⟩
  | 64 => ⟨S8, .f32⟩
  | 65 => ⟨S8x1x1, .f32⟩
  | 66 => ⟨S8x128x128, .i1⟩
  | 67 => ⟨S8x128x128, .f32⟩
  | 68 => ⟨S8x128x128, .f32⟩
  | 69 => ⟨S_, .i32⟩
  | 70 => ⟨S1x128x128, .i32⟩
  | 71 => ⟨S1x128x128, .i1⟩
  | 72 => ⟨S1x8, .f32⟩
  | 73 => ⟨S8, .f32⟩
  | 74 => ⟨S8x1x1, .f32⟩
  | 75 => ⟨S8x128x128, .i1⟩
  | 76 => ⟨S8x128x128, .f32⟩
  | 77 => ⟨S8x128x128, .f32⟩
  | 78 => ⟨S_, .i32⟩
  | 79 => ⟨S1x128x128, .i32⟩
  | 80 => ⟨S1x128x128, .i1⟩
  | 81 => ⟨S1x8, .f32⟩
  | 82 => ⟨S8, .f32⟩
  | 83 => ⟨S8x1x1, .f32⟩
  | 84 => ⟨S8x128x128, .i1⟩
  | 85 => ⟨S8x128x128, .f32⟩
  | 86 => ⟨S8x128x128, .f32⟩
  | 87 => ⟨S_, .i32⟩
  | 88 => ⟨S1x128x128, .i32⟩
  | 89 => ⟨S1x128x128, .i1⟩
  | 90 => ⟨S1x8, .f32⟩
  | 91 => ⟨S8, .f32⟩
  | 92 => ⟨S8x1x1, .f32⟩
  | 93 => ⟨S8x128x128, .i1⟩
  | 94 => ⟨S8x128x128, .f32⟩
  | 95 => ⟨S8x128x128, .f32⟩
  | 96 => ⟨S_, .i32⟩
  | 97 => ⟨S1x128x128, .i32⟩
  | 98 => ⟨S1x128x128, .i1⟩
  | 99 => ⟨S1x8, .f32⟩
  | 100 => ⟨S8, .f32⟩
  | 101 => ⟨S8x1x1, .f32⟩
  | 102 => ⟨S8x128x128, .i1⟩
  | 103 => ⟨S8x128x128, .f32⟩
  | 104 => ⟨S8x128x128, .f32⟩
  | 105 => ⟨S_, .i32⟩
  | 106 => ⟨S1x128x128, .i32⟩
  | 107 => ⟨S1x128x128, .i1⟩
  | 108 => ⟨S1x8, .f32⟩
  | 109 => ⟨S8, .f32⟩
  | 110 => ⟨S8x1x1, .f32⟩
  | 111 => ⟨S8x128x128, .i1⟩
  | 112 => ⟨S8x128x128, .f32⟩
  | 113 => ⟨S8x128x128, .f32⟩
  | 114 => ⟨S_, .i32⟩
  | 115 => ⟨S1x128x128, .i32⟩
  | 116 => ⟨S1x128x128, .i1⟩
  | 117 => ⟨S1x8, .f32⟩
  | 118 => ⟨S8, .f32⟩
  | 119 => ⟨S8x1x1, .f32⟩
  | 120 => ⟨S8x128x128, .i1⟩
  | 121 => ⟨S8x128x128, .f32⟩
  | 122 => ⟨S8x128x128, .f32⟩
  | 123 => ⟨S_, .i32⟩
  | 124 => ⟨S1x128x128, .i32⟩
  | 125 => ⟨S1x128x128, .i1⟩
  | 126 => ⟨S1x8, .f32⟩
  | 127 => ⟨S8, .f32⟩
  | _ => ⟨S8192x1792, .f32⟩

abbrev hbmTy0_3 (i : Nat) : BufTy := match i % 128 with
  | 0 => ⟨S8x1x1, .f32⟩
  | 1 => ⟨S8x128x128, .i1⟩
  | 2 => ⟨S8x128x128, .f32⟩
  | 3 => ⟨S8x128x128, .f32⟩
  | 4 => ⟨S_, .i32⟩
  | 5 => ⟨S1x128x128, .i32⟩
  | 6 => ⟨S1x128x128, .i1⟩
  | 7 => ⟨S1x8, .f32⟩
  | 8 => ⟨S8, .f32⟩
  | 9 => ⟨S8x1x1, .f32⟩
  | 10 => ⟨S8x128x128, .i1⟩
  | 11 => ⟨S8x128x128, .f32⟩
  | 12 => ⟨S8x128x128, .f32⟩
  | 13 => ⟨S_, .i32⟩
  | 14 => ⟨S1x128x128, .i32⟩
  | 15 => ⟨S1x128x128, .i1⟩
  | 16 => ⟨S1x8, .f32⟩
  | 17 => ⟨S8, .f32⟩
  | 18 => ⟨S8x1x1, .f32⟩
  | 19 => ⟨S8x128x128, .i1⟩
  | 20 => ⟨S8x128x128, .f32⟩
  | 21 => ⟨S8x128x128, .f32⟩
  | 22 => ⟨S_, .i32⟩
  | 23 => ⟨S1x128x128, .i32⟩
  | 24 => ⟨S1x128x128, .i1⟩
  | 25 => ⟨S1x8, .f32⟩
  | 26 => ⟨S8, .f32⟩
  | 27 => ⟨S8x1x1, .f32⟩
  | 28 => ⟨S8x128x128, .i1⟩
  | 29 => ⟨S8x128x128, .f32⟩
  | 30 => ⟨S8x128x128, .f32⟩
  | 31 => ⟨S_, .i32⟩
  | 32 => ⟨S1x128x128, .i32⟩
  | 33 => ⟨S1x128x128, .i1⟩
  | 34 => ⟨S1x8, .f32⟩
  | 35 => ⟨S8, .f32⟩
  | 36 => ⟨S8x1x1, .f32⟩
  | 37 => ⟨S8x128x128, .i1⟩
  | 38 => ⟨S8x128x128, .f32⟩
  | 39 => ⟨S8x128x128, .f32⟩
  | 40 => ⟨S_, .i32⟩
  | 41 => ⟨S1x128x128, .i32⟩
  | 42 => ⟨S1x128x128, .i1⟩
  | 43 => ⟨S1x8, .f32⟩
  | 44 => ⟨S8, .f32⟩
  | 45 => ⟨S8x1x1, .f32⟩
  | 46 => ⟨S8x128x128, .i1⟩
  | 47 => ⟨S8x128x128, .f32⟩
  | 48 => ⟨S8x128x128, .f32⟩
  | 49 => ⟨S_, .i32⟩
  | 50 => ⟨S1x128x128, .i32⟩
  | 51 => ⟨S1x128x128, .i1⟩
  | 52 => ⟨S1x8, .f32⟩
  | 53 => ⟨S8, .f32⟩
  | 54 => ⟨S8x1x1, .f32⟩
  | 55 => ⟨S8x128x128, .i1⟩
  | 56 => ⟨S8x128x128, .f32⟩
  | 57 => ⟨S8x128x128, .f32⟩
  | 58 => ⟨S_, .i32⟩
  | 59 => ⟨S1x128x128, .i32⟩
  | 60 => ⟨S1x128x128, .i1⟩
  | 61 => ⟨S1x8, .f32⟩
  | 62 => ⟨S8, .f32⟩
  | 63 => ⟨S8x1x1, .f32⟩
  | 64 => ⟨S8x128x128, .i1⟩
  | 65 => ⟨S8x128x128, .f32⟩
  | 66 => ⟨S8x128x128, .f32⟩
  | 67 => ⟨S_, .i32⟩
  | 68 => ⟨S1x128x128, .i32⟩
  | 69 => ⟨S1x128x128, .i1⟩
  | 70 => ⟨S1x8, .f32⟩
  | 71 => ⟨S8, .f32⟩
  | 72 => ⟨S8x1x1, .f32⟩
  | 73 => ⟨S8x128x128, .i1⟩
  | 74 => ⟨S8x128x128, .f32⟩
  | 75 => ⟨S8x128x128, .f32⟩
  | 76 => ⟨S_, .i32⟩
  | 77 => ⟨S1x128x128, .i32⟩
  | 78 => ⟨S1x128x128, .i1⟩
  | 79 => ⟨S1x8, .f32⟩
  | 80 => ⟨S8, .f32⟩
  | 81 => ⟨S8x1x1, .f32⟩
  | 82 => ⟨S8x128x128, .i1⟩
  | 83 => ⟨S8x128x128, .f32⟩
  | 84 => ⟨S8x128x128, .f32⟩
  | 85 => ⟨S_, .i32⟩
  | 86 => ⟨S1x128x128, .i32⟩
  | 87 => ⟨S1x128x128, .i1⟩
  | 88 => ⟨S1x8, .f32⟩
  | 89 => ⟨S8, .f32⟩
  | 90 => ⟨S8x1x1, .f32⟩
  | 91 => ⟨S8x128x128, .i1⟩
  | 92 => ⟨S8x128x128, .f32⟩
  | 93 => ⟨S8x128x128, .f32⟩
  | 94 => ⟨S_, .i32⟩
  | 95 => ⟨S1x128x128, .i32⟩
  | 96 => ⟨S1x128x128, .i1⟩
  | 97 => ⟨S1x8, .f32⟩
  | 98 => ⟨S8, .f32⟩
  | 99 => ⟨S8x1x1, .f32⟩
  | 100 => ⟨S8x128x128, .i1⟩
  | 101 => ⟨S8x128x128, .f32⟩
  | 102 => ⟨S8x128x128, .f32⟩
  | 103 => ⟨S_, .i32⟩
  | 104 => ⟨S1x128x128, .i32⟩
  | 105 => ⟨S1x128x128, .i1⟩
  | 106 => ⟨S1x8, .f32⟩
  | 107 => ⟨S8, .f32⟩
  | 108 => ⟨S8x1x1, .f32⟩
  | 109 => ⟨S8x128x128, .i1⟩
  | 110 => ⟨S8x128x128, .f32⟩
  | 111 => ⟨S8x128x128, .f32⟩
  | 112 => ⟨S_, .i32⟩
  | 113 => ⟨S1x128x128, .i32⟩
  | 114 => ⟨S1x128x128, .i1⟩
  | 115 => ⟨S1x8, .f32⟩
  | 116 => ⟨S8, .f32⟩
  | 117 => ⟨S8x1x1, .f32⟩
  | 118 => ⟨S8x128x128, .i1⟩
  | 119 => ⟨S8x128x128, .f32⟩
  | 120 => ⟨S8x128x128, .f32⟩
  | 121 => ⟨S_, .i32⟩
  | 122 => ⟨S1x128x128, .i32⟩
  | 123 => ⟨S1x128x128, .i1⟩
  | 124 => ⟨S1x8, .f32⟩
  | 125 => ⟨S8, .f32⟩
  | 126 => ⟨S8x1x1, .f32⟩
  | 127 => ⟨S8x128x128, .i1⟩
  | _ => ⟨S8192x1792, .f32⟩

abbrev hbmTy0_4 (i : Nat) : BufTy := match i % 128 with
  | 0 => ⟨S8x128x128, .f32⟩
  | 1 => ⟨S8x128x128, .f32⟩
  | 2 => ⟨S_, .i32⟩
  | 3 => ⟨S1x128x128, .i32⟩
  | 4 => ⟨S1x128x128, .i1⟩
  | 5 => ⟨S1x8, .f32⟩
  | 6 => ⟨S8, .f32⟩
  | 7 => ⟨S8x1x1, .f32⟩
  | 8 => ⟨S8x128x128, .i1⟩
  | 9 => ⟨S8x128x128, .f32⟩
  | 10 => ⟨S8x128x128, .f32⟩
  | 11 => ⟨S_, .i32⟩
  | 12 => ⟨S1x128x128, .i32⟩
  | 13 => ⟨S1x128x128, .i1⟩
  | 14 => ⟨S1x8, .f32⟩
  | 15 => ⟨S8, .f32⟩
  | 16 => ⟨S8x1x1, .f32⟩
  | 17 => ⟨S8x128x128, .i1⟩
  | 18 => ⟨S8x128x128, .f32⟩
  | 19 => ⟨S8x128x128, .f32⟩
  | 20 => ⟨S2x512x128, .f32⟩
  | 21 => ⟨S8x128, .f32⟩
  | 22 => ⟨S1024, .f32⟩
  | 23 => ⟨S2x512x1, .f32⟩
  | 24 => ⟨S1x64, .f32⟩
  | 25 => ⟨S1x64, .f32⟩
  | 26 => ⟨S8192x512, .f32⟩
  | _ => ⟨S8192x1792, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x1792, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S128x128, .f32⟩
  | .local _ .vmem, ⟨5, _⟩ => ⟨S128x128, .f32⟩
  | .local _ .vmem, ⟨6, _⟩ => ⟨S512x128, .f32⟩
  | .local _ .vmem, ⟨7, _⟩ => ⟨S512x128, .f32⟩
  | .local _ .vmem, ⟨8, _⟩ => ⟨S128x128, .f32⟩
  | .local _ .vmem, ⟨9, _⟩ => ⟨S128x128, .f32⟩
  | .local _ .vmem, ⟨10, _⟩ => ⟨S2x512x128, .f32⟩
  | .local _ .vmem, ⟨11, _⟩ => ⟨S2x512x1, .f32⟩
  | .local _ .vmem, ⟨12, _⟩ => ⟨S1x64, .f32⟩
  | .local _ .vmem, ⟨13, _⟩ => ⟨S1x64, .f32⟩
  | .local _ .vmem, ⟨14, _⟩ => ⟨S512x512, .f32⟩
  | .local _ .vmem, ⟨15, _⟩ => ⟨S512x512, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_call2_v0 : Ref sig .tc := ⟨.hbm, 35, rfl⟩
abbrev main_call2_v1 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_call3_v0 : Ref sig .tc := ⟨.hbm, 42, rfl⟩
abbrev main_call3_v1 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_call4_v0 : Ref sig .tc := ⟨.hbm, 49, rfl⟩
abbrev main_call4_v1 : Ref sig .tc := ⟨.hbm, 50, rfl⟩
abbrev main_v28 : Ref sig .tc := ⟨.hbm, 51, rfl⟩
abbrev main_c_9 : Ref sig .tc := ⟨.hbm, 52, rfl⟩
abbrev main_v29 : Ref sig .tc := ⟨.hbm, 53, rfl⟩
abbrev main_v30 : Ref sig .tc := ⟨.hbm, 54, rfl⟩
abbrev main_c_10 : Ref sig .tc := ⟨.hbm, 55, rfl⟩
abbrev main_call5_v0 : Ref sig .tc := ⟨.hbm, 56, rfl⟩
abbrev main_call5_v1 : Ref sig .tc := ⟨.hbm, 57, rfl⟩
abbrev main_v31 : Ref sig .tc := ⟨.hbm, 58, rfl⟩
abbrev main_c_11 : Ref sig .tc := ⟨.hbm, 59, rfl⟩
abbrev main_v32 : Ref sig .tc := ⟨.hbm, 60, rfl⟩
abbrev main_v33 : Ref sig .tc := ⟨.hbm, 61, rfl⟩
abbrev main_c_12 : Ref sig .tc := ⟨.hbm, 62, rfl⟩
abbrev main_call6_v0 : Ref sig .tc := ⟨.hbm, 63, rfl⟩
abbrev main_call6_v1 : Ref sig .tc := ⟨.hbm, 64, rfl⟩
abbrev main_v34 : Ref sig .tc := ⟨.hbm, 65, rfl⟩
abbrev main_c_13 : Ref sig .tc := ⟨.hbm, 66, rfl⟩
abbrev main_v35 : Ref sig .tc := ⟨.hbm, 67, rfl⟩
abbrev main_v36 : Ref sig .tc := ⟨.hbm, 68, rfl⟩
abbrev main_c_14 : Ref sig .tc := ⟨.hbm, 69, rfl⟩
abbrev main_call7_v0 : Ref sig .tc := ⟨.hbm, 70, rfl⟩
abbrev main_call7_v1 : Ref sig .tc := ⟨.hbm, 71, rfl⟩
abbrev main_v37 : Ref sig .tc := ⟨.hbm, 72, rfl⟩
abbrev main_c_15 : Ref sig .tc := ⟨.hbm, 73, rfl⟩
abbrev main_v38 : Ref sig .tc := ⟨.hbm, 74, rfl⟩
abbrev main_v39 : Ref sig .tc := ⟨.hbm, 75, rfl⟩
abbrev main_c_16 : Ref sig .tc := ⟨.hbm, 76, rfl⟩
abbrev main_call8_v0 : Ref sig .tc := ⟨.hbm, 77, rfl⟩
abbrev main_call8_v1 : Ref sig .tc := ⟨.hbm, 78, rfl⟩
abbrev main_v40 : Ref sig .tc := ⟨.hbm, 79, rfl⟩
abbrev main_c_17 : Ref sig .tc := ⟨.hbm, 80, rfl⟩
abbrev main_v41 : Ref sig .tc := ⟨.hbm, 81, rfl⟩
abbrev main_v42 : Ref sig .tc := ⟨.hbm, 82, rfl⟩
abbrev main_c_18 : Ref sig .tc := ⟨.hbm, 83, rfl⟩
abbrev main_call9_v0 : Ref sig .tc := ⟨.hbm, 84, rfl⟩
abbrev main_call9_v1 : Ref sig .tc := ⟨.hbm, 85, rfl⟩
abbrev main_v43 : Ref sig .tc := ⟨.hbm, 86, rfl⟩
abbrev main_c_19 : Ref sig .tc := ⟨.hbm, 87, rfl⟩
abbrev main_v44 : Ref sig .tc := ⟨.hbm, 88, rfl⟩
abbrev main_v45 : Ref sig .tc := ⟨.hbm, 89, rfl⟩
abbrev main_c_20 : Ref sig .tc := ⟨.hbm, 90, rfl⟩
abbrev main_call10_v0 : Ref sig .tc := ⟨.hbm, 91, rfl⟩
abbrev main_call10_v1 : Ref sig .tc := ⟨.hbm, 92, rfl⟩
abbrev main_v46 : Ref sig .tc := ⟨.hbm, 93, rfl⟩
abbrev main_c_21 : Ref sig .tc := ⟨.hbm, 94, rfl⟩
abbrev main_v47 : Ref sig .tc := ⟨.hbm, 95, rfl⟩
abbrev main_v48 : Ref sig .tc := ⟨.hbm, 96, rfl⟩
abbrev main_c_22 : Ref sig .tc := ⟨.hbm, 97, rfl⟩
abbrev main_call11_v0 : Ref sig .tc := ⟨.hbm, 98, rfl⟩
abbrev main_call11_v1 : Ref sig .tc := ⟨.hbm, 99, rfl⟩
abbrev main_v49 : Ref sig .tc := ⟨.hbm, 100, rfl⟩
abbrev main_c_23 : Ref sig .tc := ⟨.hbm, 101, rfl⟩
abbrev main_v50 : Ref sig .tc := ⟨.hbm, 102, rfl⟩
abbrev main_v51 : Ref sig .tc := ⟨.hbm, 103, rfl⟩
abbrev main_c_24 : Ref sig .tc := ⟨.hbm, 104, rfl⟩
abbrev main_call12_v0 : Ref sig .tc := ⟨.hbm, 105, rfl⟩
abbrev main_call12_v1 : Ref sig .tc := ⟨.hbm, 106, rfl⟩
abbrev main_v52 : Ref sig .tc := ⟨.hbm, 107, rfl⟩
abbrev main_c_25 : Ref sig .tc := ⟨.hbm, 108, rfl⟩
abbrev main_v53 : Ref sig .tc := ⟨.hbm, 109, rfl⟩
abbrev main_v54 : Ref sig .tc := ⟨.hbm, 110, rfl⟩
abbrev main_c_26 : Ref sig .tc := ⟨.hbm, 111, rfl⟩
abbrev main_call13_v0 : Ref sig .tc := ⟨.hbm, 112, rfl⟩
abbrev main_call13_v1 : Ref sig .tc := ⟨.hbm, 113, rfl⟩
abbrev main_v55 : Ref sig .tc := ⟨.hbm, 114, rfl⟩
abbrev main_c_27 : Ref sig .tc := ⟨.hbm, 115, rfl⟩
abbrev main_v56 : Ref sig .tc := ⟨.hbm, 116, rfl⟩
abbrev main_v57 : Ref sig .tc := ⟨.hbm, 117, rfl⟩
abbrev main_c_28 : Ref sig .tc := ⟨.hbm, 118, rfl⟩
abbrev main_call14_v0 : Ref sig .tc := ⟨.hbm, 119, rfl⟩
abbrev main_call14_v1 : Ref sig .tc := ⟨.hbm, 120, rfl⟩
abbrev main_v58 : Ref sig .tc := ⟨.hbm, 121, rfl⟩
abbrev main_c_29 : Ref sig .tc := ⟨.hbm, 122, rfl⟩
abbrev main_v59 : Ref sig .tc := ⟨.hbm, 123, rfl⟩
abbrev main_v60 : Ref sig .tc := ⟨.hbm, 124, rfl⟩
abbrev main_c_30 : Ref sig .tc := ⟨.hbm, 125, rfl⟩
abbrev main_call15_v0 : Ref sig .tc := ⟨.hbm, 126, rfl⟩
abbrev main_call15_v1 : Ref sig .tc := ⟨.hbm, 127, rfl⟩
abbrev main_v61 : Ref sig .tc := ⟨.hbm, 128, rfl⟩
abbrev main_c_31 : Ref sig .tc := ⟨.hbm, 129, rfl⟩
abbrev main_v62 : Ref sig .tc := ⟨.hbm, 130, rfl⟩
abbrev main_v63 : Ref sig .tc := ⟨.hbm, 131, rfl⟩
abbrev main_c_32 : Ref sig .tc := ⟨.hbm, 132, rfl⟩
abbrev main_call16_v0 : Ref sig .tc := ⟨.hbm, 133, rfl⟩
abbrev main_call16_v1 : Ref sig .tc := ⟨.hbm, 134, rfl⟩
abbrev main_v64 : Ref sig .tc := ⟨.hbm, 135, rfl⟩
abbrev main_c_33 : Ref sig .tc := ⟨.hbm, 136, rfl⟩
abbrev main_v65 : Ref sig .tc := ⟨.hbm, 137, rfl⟩
abbrev main_v66 : Ref sig .tc := ⟨.hbm, 138, rfl⟩
abbrev main_c_34 : Ref sig .tc := ⟨.hbm, 139, rfl⟩
abbrev main_call17_v0 : Ref sig .tc := ⟨.hbm, 140, rfl⟩
abbrev main_call17_v1 : Ref sig .tc := ⟨.hbm, 141, rfl⟩
abbrev main_v67 : Ref sig .tc := ⟨.hbm, 142, rfl⟩
abbrev main_c_35 : Ref sig .tc := ⟨.hbm, 143, rfl⟩
abbrev main_v68 : Ref sig .tc := ⟨.hbm, 144, rfl⟩
abbrev main_v69 : Ref sig .tc := ⟨.hbm, 145, rfl⟩
abbrev main_c_36 : Ref sig .tc := ⟨.hbm, 146, rfl⟩
abbrev main_call18_v0 : Ref sig .tc := ⟨.hbm, 147, rfl⟩
abbrev main_call18_v1 : Ref sig .tc := ⟨.hbm, 148, rfl⟩
abbrev main_v70 : Ref sig .tc := ⟨.hbm, 149, rfl⟩
abbrev main_c_37 : Ref sig .tc := ⟨.hbm, 150, rfl⟩
abbrev main_v71 : Ref sig .tc := ⟨.hbm, 151, rfl⟩
abbrev main_v72 : Ref sig .tc := ⟨.hbm, 152, rfl⟩
abbrev main_c_38 : Ref sig .tc := ⟨.hbm, 153, rfl⟩
abbrev main_call19_v0 : Ref sig .tc := ⟨.hbm, 154, rfl⟩
abbrev main_call19_v1 : Ref sig .tc := ⟨.hbm, 155, rfl⟩
abbrev main_v73 : Ref sig .tc := ⟨.hbm, 156, rfl⟩
abbrev main_c_39 : Ref sig .tc := ⟨.hbm, 157, rfl⟩
abbrev main_v74 : Ref sig .tc := ⟨.hbm, 158, rfl⟩
abbrev main_v75 : Ref sig .tc := ⟨.hbm, 159, rfl⟩
abbrev main_c_40 : Ref sig .tc := ⟨.hbm, 160, rfl⟩
abbrev main_call20_v0 : Ref sig .tc := ⟨.hbm, 161, rfl⟩
abbrev main_call20_v1 : Ref sig .tc := ⟨.hbm, 162, rfl⟩
abbrev main_v76 : Ref sig .tc := ⟨.hbm, 163, rfl⟩
abbrev main_c_41 : Ref sig .tc := ⟨.hbm, 164, rfl⟩
abbrev main_v77 : Ref sig .tc := ⟨.hbm, 165, rfl⟩
abbrev main_v78 : Ref sig .tc := ⟨.hbm, 166, rfl⟩
abbrev main_c_42 : Ref sig .tc := ⟨.hbm, 167, rfl⟩
abbrev main_call21_v0 : Ref sig .tc := ⟨.hbm, 168, rfl⟩
abbrev main_call21_v1 : Ref sig .tc := ⟨.hbm, 169, rfl⟩
abbrev main_v79 : Ref sig .tc := ⟨.hbm, 170, rfl⟩
abbrev main_c_43 : Ref sig .tc := ⟨.hbm, 171, rfl⟩
abbrev main_v80 : Ref sig .tc := ⟨.hbm, 172, rfl⟩
abbrev main_v81 : Ref sig .tc := ⟨.hbm, 173, rfl⟩
abbrev main_c_44 : Ref sig .tc := ⟨.hbm, 174, rfl⟩
abbrev main_call22_v0 : Ref sig .tc := ⟨.hbm, 175, rfl⟩
abbrev main_call22_v1 : Ref sig .tc := ⟨.hbm, 176, rfl⟩
abbrev main_v82 : Ref sig .tc := ⟨.hbm, 177, rfl⟩
abbrev main_c_45 : Ref sig .tc := ⟨.hbm, 178, rfl⟩
abbrev main_v83 : Ref sig .tc := ⟨.hbm, 179, rfl⟩
abbrev main_v84 : Ref sig .tc := ⟨.hbm, 180, rfl⟩
abbrev main_c_46 : Ref sig .tc := ⟨.hbm, 181, rfl⟩
abbrev main_call23_v0 : Ref sig .tc := ⟨.hbm, 182, rfl⟩
abbrev main_call23_v1 : Ref sig .tc := ⟨.hbm, 183, rfl⟩
abbrev main_v85 : Ref sig .tc := ⟨.hbm, 184, rfl⟩
abbrev main_c_47 : Ref sig .tc := ⟨.hbm, 185, rfl⟩
abbrev main_v86 : Ref sig .tc := ⟨.hbm, 186, rfl⟩
abbrev main_v87 : Ref sig .tc := ⟨.hbm, 187, rfl⟩
abbrev main_c_48 : Ref sig .tc := ⟨.hbm, 188, rfl⟩
abbrev main_call24_v0 : Ref sig .tc := ⟨.hbm, 189, rfl⟩
abbrev main_call24_v1 : Ref sig .tc := ⟨.hbm, 190, rfl⟩
abbrev main_v88 : Ref sig .tc := ⟨.hbm, 191, rfl⟩
abbrev main_c_49 : Ref sig .tc := ⟨.hbm, 192, rfl⟩
abbrev main_v89 : Ref sig .tc := ⟨.hbm, 193, rfl⟩
abbrev main_v90 : Ref sig .tc := ⟨.hbm, 194, rfl⟩
abbrev main_c_50 : Ref sig .tc := ⟨.hbm, 195, rfl⟩
abbrev main_call25_v0 : Ref sig .tc := ⟨.hbm, 196, rfl⟩
abbrev main_call25_v1 : Ref sig .tc := ⟨.hbm, 197, rfl⟩
abbrev main_v91 : Ref sig .tc := ⟨.hbm, 198, rfl⟩
abbrev main_c_51 : Ref sig .tc := ⟨.hbm, 199, rfl⟩
abbrev main_v92 : Ref sig .tc := ⟨.hbm, 200, rfl⟩
abbrev main_v93 : Ref sig .tc := ⟨.hbm, 201, rfl⟩
abbrev main_c_52 : Ref sig .tc := ⟨.hbm, 202, rfl⟩
abbrev main_call26_v0 : Ref sig .tc := ⟨.hbm, 203, rfl⟩
abbrev main_call26_v1 : Ref sig .tc := ⟨.hbm, 204, rfl⟩
abbrev main_v94 : Ref sig .tc := ⟨.hbm, 205, rfl⟩
abbrev main_c_53 : Ref sig .tc := ⟨.hbm, 206, rfl⟩
abbrev main_v95 : Ref sig .tc := ⟨.hbm, 207, rfl⟩
abbrev main_v96 : Ref sig .tc := ⟨.hbm, 208, rfl⟩
abbrev main_c_54 : Ref sig .tc := ⟨.hbm, 209, rfl⟩
abbrev main_call27_v0 : Ref sig .tc := ⟨.hbm, 210, rfl⟩
abbrev main_call27_v1 : Ref sig .tc := ⟨.hbm, 211, rfl⟩
abbrev main_v97 : Ref sig .tc := ⟨.hbm, 212, rfl⟩
abbrev main_c_55 : Ref sig .tc := ⟨.hbm, 213, rfl⟩
abbrev main_v98 : Ref sig .tc := ⟨.hbm, 214, rfl⟩
abbrev main_v99 : Ref sig .tc := ⟨.hbm, 215, rfl⟩
abbrev main_c_56 : Ref sig .tc := ⟨.hbm, 216, rfl⟩
abbrev main_call28_v0 : Ref sig .tc := ⟨.hbm, 217, rfl⟩
abbrev main_call28_v1 : Ref sig .tc := ⟨.hbm, 218, rfl⟩
abbrev main_v100 : Ref sig .tc := ⟨.hbm, 219, rfl⟩
abbrev main_c_57 : Ref sig .tc := ⟨.hbm, 220, rfl⟩
abbrev main_v101 : Ref sig .tc := ⟨.hbm, 221, rfl⟩
abbrev main_v102 : Ref sig .tc := ⟨.hbm, 222, rfl⟩
abbrev main_c_58 : Ref sig .tc := ⟨.hbm, 223, rfl⟩
abbrev main_call29_v0 : Ref sig .tc := ⟨.hbm, 224, rfl⟩
abbrev main_call29_v1 : Ref sig .tc := ⟨.hbm, 225, rfl⟩
abbrev main_v103 : Ref sig .tc := ⟨.hbm, 226, rfl⟩
abbrev main_c_59 : Ref sig .tc := ⟨.hbm, 227, rfl⟩
abbrev main_v104 : Ref sig .tc := ⟨.hbm, 228, rfl⟩
abbrev main_v105 : Ref sig .tc := ⟨.hbm, 229, rfl⟩
abbrev main_c_60 : Ref sig .tc := ⟨.hbm, 230, rfl⟩
abbrev main_call30_v0 : Ref sig .tc := ⟨.hbm, 231, rfl⟩
abbrev main_call30_v1 : Ref sig .tc := ⟨.hbm, 232, rfl⟩
abbrev main_v106 : Ref sig .tc := ⟨.hbm, 233, rfl⟩
abbrev main_c_61 : Ref sig .tc := ⟨.hbm, 234, rfl⟩
abbrev main_v107 : Ref sig .tc := ⟨.hbm, 235, rfl⟩
abbrev main_v108 : Ref sig .tc := ⟨.hbm, 236, rfl⟩
abbrev main_c_62 : Ref sig .tc := ⟨.hbm, 237, rfl⟩
abbrev main_call31_v0 : Ref sig .tc := ⟨.hbm, 238, rfl⟩
abbrev main_call31_v1 : Ref sig .tc := ⟨.hbm, 239, rfl⟩
abbrev main_v109 : Ref sig .tc := ⟨.hbm, 240, rfl⟩
abbrev main_v110 : Ref sig .tc := ⟨.hbm, 241, rfl⟩
abbrev main_cst : Ref sig .tc := ⟨.hbm, 242, rfl⟩
abbrev main_v111 : Ref sig .tc := ⟨.hbm, 243, rfl⟩
abbrev main_c_63 : Ref sig .tc := ⟨.hbm, 244, rfl⟩
abbrev main_v112 : Ref sig .tc := ⟨.hbm, 245, rfl⟩
abbrev main_v113 : Ref sig .tc := ⟨.hbm, 246, rfl⟩
abbrev main_v114 : Ref sig .tc := ⟨.hbm, 247, rfl⟩
abbrev main_v115 : Ref sig .tc := ⟨.hbm, 248, rfl⟩
abbrev main_v116 : Ref sig .tc := ⟨.hbm, 249, rfl⟩
abbrev main_call32_v0 : Ref sig .tc := ⟨.hbm, 250, rfl⟩
abbrev main_call32_v1 : Ref sig .tc := ⟨.hbm, 251, rfl⟩
abbrev main_v117 : Ref sig .tc := ⟨.hbm, 252, rfl⟩
abbrev main_c_64 : Ref sig .tc := ⟨.hbm, 253, rfl⟩
abbrev main_v118 : Ref sig .tc := ⟨.hbm, 254, rfl⟩
abbrev main_v119 : Ref sig .tc := ⟨.hbm, 255, rfl⟩
abbrev main_v120 : Ref sig .tc := ⟨.hbm, 256, rfl⟩
abbrev main_v121 : Ref sig .tc := ⟨.hbm, 257, rfl⟩
abbrev main_v122 : Ref sig .tc := ⟨.hbm, 258, rfl⟩
abbrev main_call33_v0 : Ref sig .tc := ⟨.hbm, 259, rfl⟩
abbrev main_call33_v1 : Ref sig .tc := ⟨.hbm, 260, rfl⟩
abbrev main_v123 : Ref sig .tc := ⟨.hbm, 261, rfl⟩
abbrev main_c_65 : Ref sig .tc := ⟨.hbm, 262, rfl⟩
abbrev main_v124 : Ref sig .tc := ⟨.hbm, 263, rfl⟩
abbrev main_v125 : Ref sig .tc := ⟨.hbm, 264, rfl⟩
abbrev main_v126 : Ref sig .tc := ⟨.hbm, 265, rfl⟩
abbrev main_v127 : Ref sig .tc := ⟨.hbm, 266, rfl⟩
abbrev main_v128 : Ref sig .tc := ⟨.hbm, 267, rfl⟩
abbrev main_call34_v0 : Ref sig .tc := ⟨.hbm, 268, rfl⟩
abbrev main_call34_v1 : Ref sig .tc := ⟨.hbm, 269, rfl⟩
abbrev main_v129 : Ref sig .tc := ⟨.hbm, 270, rfl⟩
abbrev main_c_66 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩
abbrev main_call35_v0 : Ref sig .tc := ⟨.hbm, 277, rfl⟩
abbrev main_call35_v1 : Ref sig .tc := ⟨.hbm, 278, rfl⟩
abbrev main_v135 : Ref sig .tc := ⟨.hbm, 279, rfl⟩
abbrev main_c_67 : Ref sig .tc := ⟨.hbm, 280, rfl⟩
abbrev main_v136 : Ref sig .tc := ⟨.hbm, 281, rfl⟩
abbrev main_v137 : Ref sig .tc := ⟨.hbm, 282, rfl⟩
abbrev main_v138 : Ref sig .tc := ⟨.hbm, 283, rfl⟩
abbrev main_v139 : Ref sig .tc := ⟨.hbm, 284, rfl⟩
abbrev main_v140 : Ref sig .tc := ⟨.hbm, 285, rfl⟩
abbrev main_call36_v0 : Ref sig .tc := ⟨.hbm, 286, rfl⟩
abbrev main_call36_v1 : Ref sig .tc := ⟨.hbm, 287, rfl⟩
abbrev main_v141 : Ref sig .tc := ⟨.hbm, 288, rfl⟩
abbrev main_c_68 : Ref sig .tc := ⟨.hbm, 289, rfl⟩
abbrev main_v142 : Ref sig .tc := ⟨.hbm, 290, rfl⟩
abbrev main_v143 : Ref sig .tc := ⟨.hbm, 291, rfl⟩
abbrev main_v144 : Ref sig .tc := ⟨.hbm, 292, rfl⟩
abbrev main_v145 : Ref sig .tc := ⟨.hbm, 293, rfl⟩
abbrev main_v146 : Ref sig .tc := ⟨.hbm, 294, rfl⟩
abbrev main_call37_v0 : Ref sig .tc := ⟨.hbm, 295, rfl⟩
abbrev main_call37_v1 : Ref sig .tc := ⟨.hbm, 296, rfl⟩
abbrev main_v147 : Ref sig .tc := ⟨.hbm, 297, rfl⟩
abbrev main_c_69 : Ref sig .tc := ⟨.hbm, 298, rfl⟩
abbrev main_v148 : Ref sig .tc := ⟨.hbm, 299, rfl⟩
abbrev main_v149 : Ref sig .tc := ⟨.hbm, 300, rfl⟩
abbrev main_v150 : Ref sig .tc := ⟨.hbm, 301, rfl⟩
abbrev main_v151 : Ref sig .tc := ⟨.hbm, 302, rfl⟩
abbrev main_v152 : Ref sig .tc := ⟨.hbm, 303, rfl⟩
abbrev main_call38_v0 : Ref sig .tc := ⟨.hbm, 304, rfl⟩
abbrev main_call38_v1 : Ref sig .tc := ⟨.hbm, 305, rfl⟩
abbrev main_v153 : Ref sig .tc := ⟨.hbm, 306, rfl⟩
abbrev main_c_70 : Ref sig .tc := ⟨.hbm, 307, rfl⟩
abbrev main_v154 : Ref sig .tc := ⟨.hbm, 308, rfl⟩
abbrev main_v155 : Ref sig .tc := ⟨.hbm, 309, rfl⟩
abbrev main_v156 : Ref sig .tc := ⟨.hbm, 310, rfl⟩
abbrev main_v157 : Ref sig .tc := ⟨.hbm, 311, rfl⟩
abbrev main_v158 : Ref sig .tc := ⟨.hbm, 312, rfl⟩
abbrev main_call39_v0 : Ref sig .tc := ⟨.hbm, 313, rfl⟩
abbrev main_call39_v1 : Ref sig .tc := ⟨.hbm, 314, rfl⟩
abbrev main_v159 : Ref sig .tc := ⟨.hbm, 315, rfl⟩
abbrev main_c_71 : Ref sig .tc := ⟨.hbm, 316, rfl⟩
abbrev main_v160 : Ref sig .tc := ⟨.hbm, 317, rfl⟩
abbrev main_v161 : Ref sig .tc := ⟨.hbm, 318, rfl⟩
abbrev main_v162 : Ref sig .tc := ⟨.hbm, 319, rfl⟩
abbrev main_v163 : Ref sig .tc := ⟨.hbm, 320, rfl⟩
abbrev main_v164 : Ref sig .tc := ⟨.hbm, 321, rfl⟩
abbrev main_call40_v0 : Ref sig .tc := ⟨.hbm, 322, rfl⟩
abbrev main_call40_v1 : Ref sig .tc := ⟨.hbm, 323, rfl⟩
abbrev main_v165 : Ref sig .tc := ⟨.hbm, 324, rfl⟩
abbrev main_c_72 : Ref sig .tc := ⟨.hbm, 325, rfl⟩
abbrev main_v166 : Ref sig .tc := ⟨.hbm, 326, rfl⟩
abbrev main_v167 : Ref sig .tc := ⟨.hbm, 327, rfl⟩
abbrev main_v168 : Ref sig .tc := ⟨.hbm, 328, rfl⟩
abbrev main_v169 : Ref sig .tc := ⟨.hbm, 329, rfl⟩
abbrev main_v170 : Ref sig .tc := ⟨.hbm, 330, rfl⟩
abbrev main_call41_v0 : Ref sig .tc := ⟨.hbm, 331, rfl⟩
abbrev main_call41_v1 : Ref sig .tc := ⟨.hbm, 332, rfl⟩
abbrev main_v171 : Ref sig .tc := ⟨.hbm, 333, rfl⟩
abbrev main_c_73 : Ref sig .tc := ⟨.hbm, 334, rfl⟩
abbrev main_v172 : Ref sig .tc := ⟨.hbm, 335, rfl⟩
abbrev main_v173 : Ref sig .tc := ⟨.hbm, 336, rfl⟩
abbrev main_v174 : Ref sig .tc := ⟨.hbm, 337, rfl⟩
abbrev main_v175 : Ref sig .tc := ⟨.hbm, 338, rfl⟩
abbrev main_v176 : Ref sig .tc := ⟨.hbm, 339, rfl⟩
abbrev main_call42_v0 : Ref sig .tc := ⟨.hbm, 340, rfl⟩
abbrev main_call42_v1 : Ref sig .tc := ⟨.hbm, 341, rfl⟩
abbrev main_v177 : Ref sig .tc := ⟨.hbm, 342, rfl⟩
abbrev main_c_74 : Ref sig .tc := ⟨.hbm, 343, rfl⟩
abbrev main_v178 : Ref sig .tc := ⟨.hbm, 344, rfl⟩
abbrev main_v179 : Ref sig .tc := ⟨.hbm, 345, rfl⟩
abbrev main_v180 : Ref sig .tc := ⟨.hbm, 346, rfl⟩
abbrev main_v181 : Ref sig .tc := ⟨.hbm, 347, rfl⟩
abbrev main_v182 : Ref sig .tc := ⟨.hbm, 348, rfl⟩
abbrev main_call43_v0 : Ref sig .tc := ⟨.hbm, 349, rfl⟩
abbrev main_call43_v1 : Ref sig .tc := ⟨.hbm, 350, rfl⟩
abbrev main_v183 : Ref sig .tc := ⟨.hbm, 351, rfl⟩
abbrev main_c_75 : Ref sig .tc := ⟨.hbm, 352, rfl⟩
abbrev main_v184 : Ref sig .tc := ⟨.hbm, 353, rfl⟩
abbrev main_v185 : Ref sig .tc := ⟨.hbm, 354, rfl⟩
abbrev main_v186 : Ref sig .tc := ⟨.hbm, 355, rfl⟩
abbrev main_v187 : Ref sig .tc := ⟨.hbm, 356, rfl⟩
abbrev main_v188 : Ref sig .tc := ⟨.hbm, 357, rfl⟩
abbrev main_call44_v0 : Ref sig .tc := ⟨.hbm, 358, rfl⟩
abbrev main_call44_v1 : Ref sig .tc := ⟨.hbm, 359, rfl⟩
abbrev main_v189 : Ref sig .tc := ⟨.hbm, 360, rfl⟩
abbrev main_c_76 : Ref sig .tc := ⟨.hbm, 361, rfl⟩
abbrev main_v190 : Ref sig .tc := ⟨.hbm, 362, rfl⟩
abbrev main_v191 : Ref sig .tc := ⟨.hbm, 363, rfl⟩
abbrev main_v192 : Ref sig .tc := ⟨.hbm, 364, rfl⟩
abbrev main_v193 : Ref sig .tc := ⟨.hbm, 365, rfl⟩
abbrev main_v194 : Ref sig .tc := ⟨.hbm, 366, rfl⟩
abbrev main_call45_v0 : Ref sig .tc := ⟨.hbm, 367, rfl⟩
abbrev main_call45_v1 : Ref sig .tc := ⟨.hbm, 368, rfl⟩
abbrev main_v195 : Ref sig .tc := ⟨.hbm, 369, rfl⟩
abbrev main_c_77 : Ref sig .tc := ⟨.hbm, 370, rfl⟩
abbrev main_v196 : Ref sig .tc := ⟨.hbm, 371, rfl⟩
abbrev main_v197 : Ref sig .tc := ⟨.hbm, 372, rfl⟩
abbrev main_v198 : Ref sig .tc := ⟨.hbm, 373, rfl⟩
abbrev main_v199 : Ref sig .tc := ⟨.hbm, 374, rfl⟩
abbrev main_v200 : Ref sig .tc := ⟨.hbm, 375, rfl⟩
abbrev main_call46_v0 : Ref sig .tc := ⟨.hbm, 376, rfl⟩
abbrev main_call46_v1 : Ref sig .tc := ⟨.hbm, 377, rfl⟩
abbrev main_v201 : Ref sig .tc := ⟨.hbm, 378, rfl⟩
abbrev main_c_78 : Ref sig .tc := ⟨.hbm, 379, rfl⟩
abbrev main_v202 : Ref sig .tc := ⟨.hbm, 380, rfl⟩
abbrev main_v203 : Ref sig .tc := ⟨.hbm, 381, rfl⟩
abbrev main_v204 : Ref sig .tc := ⟨.hbm, 382, rfl⟩
abbrev main_v205 : Ref sig .tc := ⟨.hbm, 383, rfl⟩
abbrev main_v206 : Ref sig .tc := ⟨.hbm, 384, rfl⟩
abbrev main_call47_v0 : Ref sig .tc := ⟨.hbm, 385, rfl⟩
abbrev main_call47_v1 : Ref sig .tc := ⟨.hbm, 386, rfl⟩
abbrev main_v207 : Ref sig .tc := ⟨.hbm, 387, rfl⟩
abbrev main_c_79 : Ref sig .tc := ⟨.hbm, 388, rfl⟩
abbrev main_v208 : Ref sig .tc := ⟨.hbm, 389, rfl⟩
abbrev main_v209 : Ref sig .tc := ⟨.hbm, 390, rfl⟩
abbrev main_v210 : Ref sig .tc := ⟨.hbm, 391, rfl⟩
abbrev main_v211 : Ref sig .tc := ⟨.hbm, 392, rfl⟩
abbrev main_v212 : Ref sig .tc := ⟨.hbm, 393, rfl⟩
abbrev main_call48_v0 : Ref sig .tc := ⟨.hbm, 394, rfl⟩
abbrev main_call48_v1 : Ref sig .tc := ⟨.hbm, 395, rfl⟩
abbrev main_v213 : Ref sig .tc := ⟨.hbm, 396, rfl⟩
abbrev main_c_80 : Ref sig .tc := ⟨.hbm, 397, rfl⟩
abbrev main_v214 : Ref sig .tc := ⟨.hbm, 398, rfl⟩
abbrev main_v215 : Ref sig .tc := ⟨.hbm, 399, rfl⟩
abbrev main_v216 : Ref sig .tc := ⟨.hbm, 400, rfl⟩
abbrev main_v217 : Ref sig .tc := ⟨.hbm, 401, rfl⟩
abbrev main_v218 : Ref sig .tc := ⟨.hbm, 402, rfl⟩
abbrev main_call49_v0 : Ref sig .tc := ⟨.hbm, 403, rfl⟩
abbrev main_call49_v1 : Ref sig .tc := ⟨.hbm, 404, rfl⟩
abbrev main_v219 : Ref sig .tc := ⟨.hbm, 405, rfl⟩
abbrev main_c_81 : Ref sig .tc := ⟨.hbm, 406, rfl⟩
abbrev main_v220 : Ref sig .tc := ⟨.hbm, 407, rfl⟩
abbrev main_v221 : Ref sig .tc := ⟨.hbm, 408, rfl⟩
abbrev main_v222 : Ref sig .tc := ⟨.hbm, 409, rfl⟩
abbrev main_v223 : Ref sig .tc := ⟨.hbm, 410, rfl⟩
abbrev main_v224 : Ref sig .tc := ⟨.hbm, 411, rfl⟩
abbrev main_call50_v0 : Ref sig .tc := ⟨.hbm, 412, rfl⟩
abbrev main_call50_v1 : Ref sig .tc := ⟨.hbm, 413, rfl⟩
abbrev main_v225 : Ref sig .tc := ⟨.hbm, 414, rfl⟩
abbrev main_c_82 : Ref sig .tc := ⟨.hbm, 415, rfl⟩
abbrev main_v226 : Ref sig .tc := ⟨.hbm, 416, rfl⟩
abbrev main_v227 : Ref sig .tc := ⟨.hbm, 417, rfl⟩
abbrev main_v228 : Ref sig .tc := ⟨.hbm, 418, rfl⟩
abbrev main_v229 : Ref sig .tc := ⟨.hbm, 419, rfl⟩
abbrev main_v230 : Ref sig .tc := ⟨.hbm, 420, rfl⟩
abbrev main_call51_v0 : Ref sig .tc := ⟨.hbm, 421, rfl⟩
abbrev main_call51_v1 : Ref sig .tc := ⟨.hbm, 422, rfl⟩
abbrev main_v231 : Ref sig .tc := ⟨.hbm, 423, rfl⟩
abbrev main_c_83 : Ref sig .tc := ⟨.hbm, 424, rfl⟩
abbrev main_v232 : Ref sig .tc := ⟨.hbm, 425, rfl⟩
abbrev main_v233 : Ref sig .tc := ⟨.hbm, 426, rfl⟩
abbrev main_v234 : Ref sig .tc := ⟨.hbm, 427, rfl⟩
abbrev main_v235 : Ref sig .tc := ⟨.hbm, 428, rfl⟩
abbrev main_v236 : Ref sig .tc := ⟨.hbm, 429, rfl⟩
abbrev main_call52_v0 : Ref sig .tc := ⟨.hbm, 430, rfl⟩
abbrev main_call52_v1 : Ref sig .tc := ⟨.hbm, 431, rfl⟩
abbrev main_v237 : Ref sig .tc := ⟨.hbm, 432, rfl⟩
abbrev main_c_84 : Ref sig .tc := ⟨.hbm, 433, rfl⟩
abbrev main_v238 : Ref sig .tc := ⟨.hbm, 434, rfl⟩
abbrev main_v239 : Ref sig .tc := ⟨.hbm, 435, rfl⟩
abbrev main_v240 : Ref sig .tc := ⟨.hbm, 436, rfl⟩
abbrev main_v241 : Ref sig .tc := ⟨.hbm, 437, rfl⟩
abbrev main_v242 : Ref sig .tc := ⟨.hbm, 438, rfl⟩
abbrev main_call53_v0 : Ref sig .tc := ⟨.hbm, 439, rfl⟩
abbrev main_call53_v1 : Ref sig .tc := ⟨.hbm, 440, rfl⟩
abbrev main_v243 : Ref sig .tc := ⟨.hbm, 441, rfl⟩
abbrev main_c_85 : Ref sig .tc := ⟨.hbm, 442, rfl⟩
abbrev main_v244 : Ref sig .tc := ⟨.hbm, 443, rfl⟩
abbrev main_v245 : Ref sig .tc := ⟨.hbm, 444, rfl⟩
abbrev main_v246 : Ref sig .tc := ⟨.hbm, 445, rfl⟩
abbrev main_v247 : Ref sig .tc := ⟨.hbm, 446, rfl⟩
abbrev main_v248 : Ref sig .tc := ⟨.hbm, 447, rfl⟩
abbrev main_call54_v0 : Ref sig .tc := ⟨.hbm, 448, rfl⟩
abbrev main_call54_v1 : Ref sig .tc := ⟨.hbm, 449, rfl⟩
abbrev main_v249 : Ref sig .tc := ⟨.hbm, 450, rfl⟩
abbrev main_c_86 : Ref sig .tc := ⟨.hbm, 451, rfl⟩
abbrev main_v250 : Ref sig .tc := ⟨.hbm, 452, rfl⟩
abbrev main_v251 : Ref sig .tc := ⟨.hbm, 453, rfl⟩
abbrev main_v252 : Ref sig .tc := ⟨.hbm, 454, rfl⟩
abbrev main_v253 : Ref sig .tc := ⟨.hbm, 455, rfl⟩
abbrev main_v254 : Ref sig .tc := ⟨.hbm, 456, rfl⟩
abbrev main_call55_v0 : Ref sig .tc := ⟨.hbm, 457, rfl⟩
abbrev main_call55_v1 : Ref sig .tc := ⟨.hbm, 458, rfl⟩
abbrev main_v255 : Ref sig .tc := ⟨.hbm, 459, rfl⟩
abbrev main_c_87 : Ref sig .tc := ⟨.hbm, 460, rfl⟩
abbrev main_v256 : Ref sig .tc := ⟨.hbm, 461, rfl⟩
abbrev main_v257 : Ref sig .tc := ⟨.hbm, 462, rfl⟩
abbrev main_v258 : Ref sig .tc := ⟨.hbm, 463, rfl⟩
abbrev main_v259 : Ref sig .tc := ⟨.hbm, 464, rfl⟩
abbrev main_v260 : Ref sig .tc := ⟨.hbm, 465, rfl⟩
abbrev main_call56_v0 : Ref sig .tc := ⟨.hbm, 466, rfl⟩
abbrev main_call56_v1 : Ref sig .tc := ⟨.hbm, 467, rfl⟩
abbrev main_v261 : Ref sig .tc := ⟨.hbm, 468, rfl⟩
abbrev main_c_88 : Ref sig .tc := ⟨.hbm, 469, rfl⟩
abbrev main_v262 : Ref sig .tc := ⟨.hbm, 470, rfl⟩
abbrev main_v263 : Ref sig .tc := ⟨.hbm, 471, rfl⟩
abbrev main_v264 : Ref sig .tc := ⟨.hbm, 472, rfl⟩
abbrev main_v265 : Ref sig .tc := ⟨.hbm, 473, rfl⟩
abbrev main_v266 : Ref sig .tc := ⟨.hbm, 474, rfl⟩
abbrev main_call57_v0 : Ref sig .tc := ⟨.hbm, 475, rfl⟩
abbrev main_call57_v1 : Ref sig .tc := ⟨.hbm, 476, rfl⟩
abbrev main_v267 : Ref sig .tc := ⟨.hbm, 477, rfl⟩
abbrev main_c_89 : Ref sig .tc := ⟨.hbm, 478, rfl⟩
abbrev main_v268 : Ref sig .tc := ⟨.hbm, 479, rfl⟩
abbrev main_v269 : Ref sig .tc := ⟨.hbm, 480, rfl⟩
abbrev main_v270 : Ref sig .tc := ⟨.hbm, 481, rfl⟩
abbrev main_v271 : Ref sig .tc := ⟨.hbm, 482, rfl⟩
abbrev main_v272 : Ref sig .tc := ⟨.hbm, 483, rfl⟩
abbrev main_call58_v0 : Ref sig .tc := ⟨.hbm, 484, rfl⟩
abbrev main_call58_v1 : Ref sig .tc := ⟨.hbm, 485, rfl⟩
abbrev main_v273 : Ref sig .tc := ⟨.hbm, 486, rfl⟩
abbrev main_c_90 : Ref sig .tc := ⟨.hbm, 487, rfl⟩
abbrev main_v274 : Ref sig .tc := ⟨.hbm, 488, rfl⟩
abbrev main_v275 : Ref sig .tc := ⟨.hbm, 489, rfl⟩
abbrev main_v276 : Ref sig .tc := ⟨.hbm, 490, rfl⟩
abbrev main_v277 : Ref sig .tc := ⟨.hbm, 491, rfl⟩
abbrev main_v278 : Ref sig .tc := ⟨.hbm, 492, rfl⟩
abbrev main_call59_v0 : Ref sig .tc := ⟨.hbm, 493, rfl⟩
abbrev main_call59_v1 : Ref sig .tc := ⟨.hbm, 494, rfl⟩
abbrev main_v279 : Ref sig .tc := ⟨.hbm, 495, rfl⟩
abbrev main_c_91 : Ref sig .tc := ⟨.hbm, 496, rfl⟩
abbrev main_v280 : Ref sig .tc := ⟨.hbm, 497, rfl⟩
abbrev main_v281 : Ref sig .tc := ⟨.hbm, 498, rfl⟩
abbrev main_v282 : Ref sig .tc := ⟨.hbm, 499, rfl⟩
abbrev main_v283 : Ref sig .tc := ⟨.hbm, 500, rfl⟩
abbrev main_v284 : Ref sig .tc := ⟨.hbm, 501, rfl⟩
abbrev main_call60_v0 : Ref sig .tc := ⟨.hbm, 502, rfl⟩
abbrev main_call60_v1 : Ref sig .tc := ⟨.hbm, 503, rfl⟩
abbrev main_v285 : Ref sig .tc := ⟨.hbm, 504, rfl⟩
abbrev main_c_92 : Ref sig .tc := ⟨.hbm, 505, rfl⟩
abbrev main_v286 : Ref sig .tc := ⟨.hbm, 506, rfl⟩
abbrev main_v287 : Ref sig .tc := ⟨.hbm, 507, rfl⟩
abbrev main_v288 : Ref sig .tc := ⟨.hbm, 508, rfl⟩
abbrev main_v289 : Ref sig .tc := ⟨.hbm, 509, rfl⟩
abbrev main_v290 : Ref sig .tc := ⟨.hbm, 510, rfl⟩
abbrev main_call61_v0 : Ref sig .tc := ⟨.hbm, 511, rfl⟩
abbrev main_call61_v1 : Ref sig .tc := ⟨.hbm, 512, rfl⟩
abbrev main_v291 : Ref sig .tc := ⟨.hbm, 513, rfl⟩
abbrev main_c_93 : Ref sig .tc := ⟨.hbm, 514, rfl⟩
abbrev main_v292 : Ref sig .tc := ⟨.hbm, 515, rfl⟩
abbrev main_v293 : Ref sig .tc := ⟨.hbm, 516, rfl⟩
abbrev main_v294 : Ref sig .tc := ⟨.hbm, 517, rfl⟩
abbrev main_v295 : Ref sig .tc := ⟨.hbm, 518, rfl⟩
abbrev main_v296 : Ref sig .tc := ⟨.hbm, 519, rfl⟩
abbrev main_call62_v0 : Ref sig .tc := ⟨.hbm, 520, rfl⟩
abbrev main_call62_v1 : Ref sig .tc := ⟨.hbm, 521, rfl⟩
abbrev main_v297 : Ref sig .tc := ⟨.hbm, 522, rfl⟩
abbrev main_c_94 : Ref sig .tc := ⟨.hbm, 523, rfl⟩
abbrev main_v298 : Ref sig .tc := ⟨.hbm, 524, rfl⟩
abbrev main_v299 : Ref sig .tc := ⟨.hbm, 525, rfl⟩
abbrev main_v300 : Ref sig .tc := ⟨.hbm, 526, rfl⟩
abbrev main_v301 : Ref sig .tc := ⟨.hbm, 527, rfl⟩
abbrev main_v302 : Ref sig .tc := ⟨.hbm, 528, rfl⟩
abbrev main_call63_v0 : Ref sig .tc := ⟨.hbm, 529, rfl⟩
abbrev main_call63_v1 : Ref sig .tc := ⟨.hbm, 530, rfl⟩
abbrev main_v303 : Ref sig .tc := ⟨.hbm, 531, rfl⟩
abbrev main_v304 : Ref sig .tc := ⟨.hbm, 532, rfl⟩
abbrev main_v305 : Ref sig .tc := ⟨.hbm, 533, rfl⟩
abbrev main_v306 : Ref sig .tc := ⟨.hbm, 534, rfl⟩
abbrev main_v307 : Ref sig .tc := ⟨.hbm, 535, rfl⟩
abbrev main_v308 : Ref sig .tc := ⟨.hbm, 536, rfl⟩
abbrev main_v309 : Ref sig .tc := ⟨.hbm, 537, rfl⟩
abbrev main_v310 : Ref sig .tc := ⟨.hbm, 538, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c4_i32_0 : BitVec 32 := 4#32
  let c0_i32_1 : BitVec 32 := 0#32
  ![v2.toNat, c4_i32_0.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnfKernelIdeal.lean ====
variable {F : FTy → Type} [FloatOps F] [Named F]
def κ : String → Option EReal := fun
  | "mask" => some ⊥
  | _ => none
-- ==== AttnfReferenceIdeal.lean ====
abbrev S8192x1792 : Shape := ⟨2, ![8192, 1792]⟩
abbrev S32x8 : Shape := ⟨2, ![32, 8]⟩
abbrev S8 : Shape := ⟨1, ![8]⟩
abbrev S64 : Shape := ⟨1, ![64]⟩
abbrev S8192x512 : Shape := ⟨2, ![8192, 512]⟩
abbrev S8192x128 : Shape := ⟨2, ![8192, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S128x256x1 : Shape := ⟨3, ![128, 256, 1]⟩
abbrev S128x256x8 : Shape := ⟨3, ![128, 256, 8]⟩
abbrev S8x128x256 : Shape := ⟨3, ![8, 128, 256]⟩
abbrev S8192x8x64 : Shape := ⟨3, ![8192, 8, 64]⟩
abbrev S8192x8 : Shape := ⟨2, ![8192, 8]⟩
abbrev S8192x8x1 : Shape := ⟨3, ![8192, 8, 1]⟩
abbrev S1x1x64 : Shape := ⟨3, ![1, 1, 64]⟩
abbrev S8192x2x64 : Shape := ⟨3, ![8192, 2, 64]⟩
abbrev S8192x2 : Shape := ⟨2, ![8192, 2]⟩
abbrev S8192x2x1 : Shape := ⟨3, ![8192, 2, 1]⟩
abbrev S2x4x128x256 : Shape := ⟨4, ![2, 4, 128, 256]⟩
abbrev S64x128x2x4x64 : Shape := ⟨5, ![64, 128, 2, 4, 64]⟩
abbrev S128x2x64 : Shape := ⟨3, ![128, 2, 64]⟩
abbrev S8320x2x64 : Shape := ⟨3, ![8320, 2, 64]⟩
abbrev S64x128x2x64 : Shape := ⟨4, ![64, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S1x2x4x128x256 : Shape := ⟨5, ![1, 2, 4, 128, 256]⟩
abbrev S64x1x1x128x256 : Shape := ⟨5, ![64, 1, 1, 128, 256]⟩
abbrev S2x4 : Shape := ⟨2, ![2, 4]⟩
abbrev S1x2x4x1x1 : Shape := ⟨5, ![1, 2, 4, 1, 1]⟩
abbrev S64x2x4x128 : Shape := ⟨4, ![64, 2, 4, 128]⟩
abbrev S64x2x4x128x1 : Shape := ⟨5, ![64, 2, 4, 128, 1]⟩
abbrev S64x2x64x4x128 : Shape := ⟨5, ![64, 2, 64, 4, 128]⟩

abbrev nBuf : Space → Nat
  | .hbm => 364
  | .vmem => 0
  | .smem => 0
  | _ => 0

abbrev hbmTy0_0 (i : Nat) : BufTy := match i % 128 with
  | 0 => ⟨S8192x1792, .f32⟩
  | 1 => ⟨S32x8, .f32⟩
  | 2 => ⟨S8, .f32⟩
  | 3 => ⟨S64, .f32⟩
  | 4 => ⟨S64, .f32⟩
  | 5 => ⟨S8192x512, .f32⟩
  | 6 => ⟨S8192x128, .f32⟩
  | 7 => ⟨S8192x128, .f32⟩
  | 8 => ⟨S8192x512, .f32⟩
  | 9 => ⟨S8192x512, .f32⟩
  | 10 => ⟨S128, .i32⟩
  | 11 => ⟨S128x1, .i32⟩
  | 12 => ⟨S256, .i32⟩
  | 13 => ⟨S1x256, .i32⟩
  | 14 => ⟨S_, .i32⟩
  | 15 => ⟨S128x1, .i32⟩
  | 16 => ⟨S128x1, .i32⟩
  | 17 => ⟨S128x256, .i32⟩
  | 18 => ⟨S128x256, .i32⟩
  | 19 => ⟨S128x256, .i32⟩
  | 20 => ⟨S_, .i32⟩
  | 21 => ⟨S128x256, .i32⟩
  | 22 => ⟨S128x256, .i1⟩
  | 23 => ⟨S_, .i32⟩
  | 24 => ⟨S128x256, .i32⟩
  | 25 => ⟨S128x256, .i1⟩
  | 26 => ⟨S128x256, .i1⟩
  | 27 => ⟨S_, .i32⟩
  | 28 => ⟨S128x256, .i32⟩
  | 29 => ⟨S_, .i32⟩
  | 30 => ⟨S128x256, .i32⟩
  | 31 => ⟨S128x256, .i1⟩
  | 32 => ⟨S_, .i32⟩
  | 33 => ⟨S_, .i32⟩
  | 34 => ⟨S128x256, .i32⟩
  | 35 => ⟨S128x256, .i32⟩
  | 36 => ⟨S_, .i32⟩
  | 37 => ⟨S128x256, .i32⟩
  | 38 => ⟨S128x256, .i1⟩
  | 39 => ⟨S_, .i32⟩
  | 40 => ⟨S_, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S_, .i32⟩
  | 47 => ⟨S_, .i32⟩
  | 48 => ⟨S128x256, .i32⟩
  | 49 => ⟨S128x256, .i32⟩
  | 50 => ⟨S_, .i32⟩
  | 51 => ⟨S128x256, .i32⟩
  | 52 => ⟨S128x256, .i1⟩
  | 53 => ⟨S_, .i32⟩
  | 54 => ⟨S_, .i32⟩
  | 55 => ⟨S128x256, .i32⟩
  | 56 => ⟨S128x256, .i32⟩
  | 57 => ⟨S_, .i32⟩
  | 58 => ⟨S128x256, .i32⟩
  | 59 => ⟨S128x256, .i1⟩
  | 60 => ⟨S_, .i32⟩
  | 61 => ⟨S_, .i32⟩
  | 62 => ⟨S128x256, .i32⟩
  | 63 => ⟨S128x256, .i32⟩
  | 64 => ⟨S_, .i32⟩
  | 65 => ⟨S128x256, .i32⟩
  | 66 => ⟨S128x256, .i1⟩
  | 67 => ⟨S_, .i32⟩
  | 68 => ⟨S_, .i32⟩
  | 69 => ⟨S128x256, .i32⟩
  | 70 => ⟨S128x256, .i32⟩
  | 71 => ⟨S_, .i32⟩
  | 72 => ⟨S128x256, .i32⟩
  | 73 => ⟨S128x256, .i1⟩
  | 74 => ⟨S_, .i32⟩
  | 75 => ⟨S_, .i32⟩
  | 76 => ⟨S128x256, .i32⟩
  | 77 => ⟨S128x256, .i32⟩
  | 78 => ⟨S_, .i32⟩
  | 79 => ⟨S128x256, .i32⟩
  | 80 => ⟨S128x256, .i1⟩
  | 81 => ⟨S_, .i32⟩
  | 82 => ⟨S_, .i32⟩
  | 83 => ⟨S128x256, .i32⟩
  | 84 => ⟨S128x256, .i32⟩
  | 85 => ⟨S_, .i32⟩
  | 86 => ⟨S128x256, .i32⟩
  | 87 => ⟨S128x256, .i1⟩
  | 88 => ⟨S_, .i32⟩
  | 89 => ⟨S_, .i32⟩
  | 90 => ⟨S128x256, .i32⟩
  | 91 => ⟨S128x256, .i32⟩
  | 92 => ⟨S_, .i32⟩
  | 93 => ⟨S128x256, .i32⟩
  | 94 => ⟨S128x256, .i1⟩
  | 95 => ⟨S_, .i32⟩
  | 96 => ⟨S_, .i32⟩
  | 97 => ⟨S128x256, .i32⟩
  | 98 => ⟨S128x256, .i32⟩
  | 99 => ⟨S_, .i32⟩
  | 100 => ⟨S128x256, .i32⟩
  | 101 => ⟨S128x256, .i1⟩
  | 102 => ⟨S_, .i32⟩
  | 103 => ⟨S_, .i32⟩
  | 104 => ⟨S128x256, .i32⟩
  | 105 => ⟨S128x256, .i32⟩
  | 106 => ⟨S_, .i32⟩
  | 107 => ⟨S128x256, .i32⟩
  | 108 => ⟨S128x256, .i1⟩
  | 109 => ⟨S_, .i32⟩
  | 110 => ⟨S_, .i32⟩
  | 111 => ⟨S128x256, .i32⟩
  | 112 => ⟨S128x256, .i32⟩
  | 113 => ⟨S_, .i32⟩
  | 114 => ⟨S128x256, .i32⟩
  | 115 => ⟨S128x256, .i1⟩
  | 116 => ⟨S_, .i32⟩
  | 117 => ⟨S_, .i32⟩
  | 118 => ⟨S128x256, .i32⟩
  | 119 => ⟨S128x256, .i32⟩
  | 120 => ⟨S_, .i32⟩
  | 121 => ⟨S128x256, .i32⟩
  | 122 => ⟨S128x256, .i1⟩
  | 123 => ⟨S_, .i32⟩
  | 124 => ⟨S_, .i32⟩
  | 125 => ⟨S128x256, .i32⟩
  | 126 => ⟨S128x256, .i32⟩
  | 127 => ⟨S_, .i32⟩
  | _ => ⟨S8192x1792, .f32⟩

abbrev hbmTy0_1 (i : Nat) : BufTy := match i % 128 with
  | 0 => ⟨S128x256, .i32⟩
  | 1 => ⟨S128x256, .i1⟩
  | 2 => ⟨S_, .i32⟩
  | 3 => ⟨S_, .i32⟩
  | 4 => ⟨S128x256, .i32⟩
  | 5 => ⟨S128x256, .i32⟩
  | 6 => ⟨S_, .i32⟩
  | 7 => ⟨S128x256, .i32⟩
  | 8 => ⟨S128x256, .i1⟩
  | 9 => ⟨S_, .i32⟩
  | 10 => ⟨S_, .i32⟩
  | 11 => ⟨S128x256, .i32⟩
  | 12 => ⟨S128x256, .i32⟩
  | 13 => ⟨S_, .i32⟩
  | 14 => ⟨S128x256, .i32⟩
  | 15 => ⟨S128x256, .i1⟩
  | 16 => ⟨S_, .i32⟩
  | 17 => ⟨S_, .i32⟩
  | 18 => ⟨S128x256, .i32⟩
  | 19 => ⟨S128x256, .i32⟩
  | 20 => ⟨S_, .i32⟩
  | 21 => ⟨S128x256, .i32⟩
  | 22 => ⟨S128x256, .i1⟩
  | 23 => ⟨S_, .i32⟩
  | 24 => ⟨S_, .i32⟩
  | 25 => ⟨S128x256, .i32⟩
  | 26 => ⟨S128x256, .i32⟩
  | 27 => ⟨S_, .i32⟩
  | 28 => ⟨S128x256, .i32⟩
  | 29 => ⟨S128x256, .i1⟩
  | 30 => ⟨S_, .i32⟩
  | 31 => ⟨S_, .i32⟩
  | 32 => ⟨S128x256, .i32⟩
  | 33 => ⟨S128x256, .i32⟩
  | 34 => ⟨S_, .i32⟩
  | 35 => ⟨S128x256, .i32⟩
  | 36 => ⟨S128x256, .i1⟩
  | 37 => ⟨S_, .i32⟩
  | 38 => ⟨S_, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S_, .i32⟩
  | 46 => ⟨S128x256, .i32⟩
  | 47 => ⟨S128x256, .i32⟩
  | 48 => ⟨S_, .i32⟩
  | 49 => ⟨S128x256, .i32⟩
  | 50 => ⟨S128x256, .i1⟩
  | 51 => ⟨S_, .i32⟩
  | 52 => ⟨S_, .i32⟩
  | 53 => ⟨S128x256, .i32⟩
  | 54 => ⟨S128x256, .i32⟩
  | 55 => ⟨S_, .i32⟩
  | 56 => ⟨S128x256, .i32⟩
  | 57 => ⟨S128x256, .i1⟩
  | 58 => ⟨S_, .i32⟩
  | 59 => ⟨S_, .i32⟩
  | 60 => ⟨S128x256, .i32⟩
  | 61 => ⟨S128x256, .i32⟩
  | 62 => ⟨S_, .i32⟩
  | 63 => ⟨S128x256, .i32⟩
  | 64 => ⟨S128x256, .i1⟩
  | 65 => ⟨S_, .i32⟩
  | 66 => ⟨S_, .i32⟩
  | 67 => ⟨S128x256, .i32⟩
  | 68 => ⟨S128x256, .i32⟩
  | 69 => ⟨S_, .i32⟩
  | 70 => ⟨S128x256, .i32⟩
  | 71 => ⟨S128x256, .i1⟩
  | 72 => ⟨S_, .i32⟩
  | 73 => ⟨S_, .i32⟩
  | 74 => ⟨S128x256, .i32⟩
  | 75 => ⟨S128x256, .i32⟩
  | 76 => ⟨S_, .i32⟩
  | 77 => ⟨S128x256, .i32⟩
  | 78 => ⟨S128x256, .i1⟩
  | 79 => ⟨S_, .i32⟩
  | 80 => ⟨S_, .i32⟩
  | 81 => ⟨S128x256, .i32⟩
  | 82 => ⟨S128x256, .i32⟩
  | 83 => ⟨S_, .i32⟩
  | 84 => ⟨S128x256, .i32⟩
  | 85 => ⟨S128x256, .i1⟩
  | 86 => ⟨S_, .i32⟩
  | 87 => ⟨S_, .i32⟩
  | 88 => ⟨S128x256, .i32⟩
  | 89 => ⟨S128x256, .i32⟩
  | 90 => ⟨S_, .i32⟩
  | 91 => ⟨S128x256, .i32⟩
  | 92 => ⟨S128x256, .i1⟩
  | 93 => ⟨S_, .i32⟩
  | 94 => ⟨S_, .i32⟩
  | 95 => ⟨S128x256, .i32⟩
  | 96 => ⟨S128x256, .i32⟩
  | 97 => ⟨S_, .i32⟩
  | 98 => ⟨S128x256, .i32⟩
  | 99 => ⟨S128x256, .i1⟩
  | 100 => ⟨S_, .i32⟩
  | 101 => ⟨S_, .i32⟩
  | 102 => ⟨S128x256, .i32⟩
  | 103 => ⟨S128x256, .i32⟩
  | 104 => ⟨S_, .i32⟩
  | 105 => ⟨S128x256, .i32⟩
  | 106 => ⟨S128x256, .i1⟩
  | 107 => ⟨S_, .i32⟩
  | 108 => ⟨S_, .i32⟩
  | 109 => ⟨S128x256, .i32⟩
  | 110 => ⟨S128x256, .i32⟩
  | 111 => ⟨S_, .i32⟩
  | 112 => ⟨S128x256, .i32⟩
  | 113 => ⟨S128x256, .i1⟩
  | 114 => ⟨S_, .i32⟩
  | 115 => ⟨S_, .i32⟩
  | 116 => ⟨S128x256, .i32⟩
  | 117 => ⟨S128x256, .i32⟩
  | 118 => ⟨S64, .i32⟩
  | 119 => ⟨S64x1, .i32⟩
  | 120 => ⟨S_, .i32⟩
  | 121 => ⟨S64x1, .i32⟩
  | 122 => ⟨S64x1, .i32⟩
  | 123 => ⟨S_, .i32⟩
  | 124 => ⟨S64x1, .i32⟩
  | 125 => ⟨S64x1, .i32⟩
  | 126 => ⟨S256, .i32⟩
  | 127 => ⟨S1x256, .i32⟩
  | _ => ⟨S8192x1792, .f32⟩

abbrev hbmTy0_2 (i : Nat) : BufTy := match i % 128 with
  | 0 => ⟨S64x256, .i32⟩
  | 1 => ⟨S64x256, .i32⟩
  | 2 => ⟨S64x256, .i32⟩
  | 3 => ⟨S1x128x256, .i1⟩
  | 4 => ⟨S_, .i32⟩
  | 5 => ⟨S64x256, .i32⟩
  | 6 => ⟨S64x256, .i1⟩
  | 7 => ⟨S64x1x256, .i1⟩
  | 8 => ⟨S64x128x256, .i1⟩
  | 9 => ⟨S64x128x256, .i1⟩
  | 10 => ⟨S64x128x256, .i1⟩
  | 11 => ⟨S_, .i32⟩
  | 12 => ⟨S128x256, .i32⟩
  | 13 => ⟨S128x256, .i1⟩
  | 14 => ⟨S_, .i32⟩
  | 15 => ⟨S128x256, .i32⟩
  | 16 => ⟨S128x256, .i32⟩
  | 17 => ⟨S128x256, .i32⟩
  | 18 => ⟨S128x256x1, .i32⟩
  | 19 => ⟨S128x256x8, .f32⟩
  | 20 => ⟨S8x128x256, .f32⟩
  | 21 => ⟨S8192x8x64, .f32⟩
  | 22 => ⟨S8192x8x64, .f32⟩
  | 23 => ⟨S_, .f32⟩
  | 24 => ⟨S8192x8, .f32⟩
  | 25 => ⟨S8192x8x1, .f32⟩
  | 26 => ⟨S_, .f32⟩
  | 27 => ⟨S8192x8x1, .f32⟩
  | 28 => ⟨S8192x8x1, .f32⟩
  | 29 => ⟨S_, .f32⟩
  | 30 => ⟨S8192x8x1, .f32⟩
  | 31 => ⟨S8192x8x1, .f32⟩
  | 32 => ⟨S8192x8x1, .f32⟩
  | 33 => ⟨S8192x8x64, .f32⟩
  | 34 => ⟨S8192x8x64, .f32⟩
  | 35 => ⟨S1x1x64, .f32⟩
  | 36 => ⟨S8192x8x64, .f32⟩
  | 37 => ⟨S8192x8x64, .f32⟩
  | 38 => ⟨S8192x2x64, .f32⟩
  | 39 => ⟨S8192x2x64, .f32⟩
  | 40 => ⟨S_, .f32⟩
  | 41 => ⟨S8192x2, .f32⟩
  | 42 => ⟨S8192x2x1, .f32⟩
  | 43 => ⟨S_, .f32⟩
  | 44 => ⟨S8192x2x1, .f32⟩
  | 45 => ⟨S8192x2x1, .f32⟩
  | 46 => ⟨S_, .f32⟩
  | 47 => ⟨S8192x2x1, .f32⟩
  | 48 => ⟨S8192x2x1, .f32⟩
  | 49 => ⟨S8192x2x1, .f32⟩
  | 50 => ⟨S8192x2x64, .f32⟩
  | 51 => ⟨S8192x2x64, .f32⟩
  | 52 => ⟨S1x1x64, .f32⟩
  | 53 => ⟨S8192x2x64, .f32⟩
  | 54 => ⟨S8192x2x64, .f32⟩
  | 55 => ⟨S8192x2x64, .f32⟩
  | 56 => ⟨S2x4x128x256, .f32⟩
  | 57 => ⟨S64x128x2x4x64, .f32⟩
  | 58 => ⟨S_, .f32⟩
  | 59 => ⟨S128x2x64, .f32⟩
  | 60 => ⟨S8320x2x64, .f32⟩
  | 61 => ⟨S8192x2x64, .f32⟩
  | 62 => ⟨S64x128x2x64, .f32⟩
  | 63 => ⟨S64x128x2x64, .f32⟩
  | 64 => ⟨S64x256x2x64, .f32⟩
  | 65 => ⟨S_, .f32⟩
  | 66 => ⟨S128x2x64, .f32⟩
  | 67 => ⟨S8320x2x64, .f32⟩
  | 68 => ⟨S8192x2x64, .f32⟩
  | 69 => ⟨S64x128x2x64, .f32⟩
  | 70 => ⟨S64x128x2x64, .f32⟩
  | 71 => ⟨S64x256x2x64, .f32⟩
  | 72 => ⟨S64x2x256x128x4, .f32⟩
  | 73 => ⟨S64x2x4x128x256, .f32⟩
  | 74 => ⟨S_, .f32⟩
  | 75 => ⟨S64x2x4x128x256, .f32⟩
  | 76 => ⟨S64x2x4x128x256, .f32⟩
  | 77 => ⟨S1x2x4x128x256, .f32⟩
  | 78 => ⟨S64x2x4x128x256, .f32⟩
  | 79 => ⟨S64x2x4x128x256, .f32⟩
  | 80 => ⟨S64x1x1x128x256, .i1⟩
  | 81 => ⟨S_, .f32⟩
  | 82 => ⟨S_, .f32⟩
  | 83 => ⟨S64x2x4x128x256, .i1⟩
  | 84 => ⟨S64x2x4x128x256, .f32⟩
  | 85 => ⟨S64x2x4x128x256, .f32⟩
  | 86 => ⟨S2x4, .f32⟩
  | 87 => ⟨S1x2x4x1x1, .f32⟩
  | 88 => ⟨S_, .f32⟩
  | 89 => ⟨S64x2x4x128, .f32⟩
  | 90 => ⟨S64x2x4x128x1, .f32⟩
  | 91 => ⟨S64x2x4x128x1, .f32⟩
  | 92 => ⟨S64x2x4x128x1, .f32⟩
  | 93 => ⟨S64x2x4x128x256, .f32⟩
  | 94 => ⟨S64x2x4x128x256, .f32⟩
  | 95 => ⟨S64x2x4x128x256, .f32⟩
  | 96 => ⟨S_, .f32⟩
  | 97 => ⟨S64x2x4x128, .f32⟩
  | 98 => ⟨S64x2x4x128x1, .f32⟩
  | 99 => ⟨S64x2x4x128x1, .f32⟩
  | 100 => ⟨S64x2x4x128x1, .f32⟩
  | 101 => ⟨S64x2x4x128x1, .f32⟩
  | 102 => ⟨S64x2x4x128x1, .f32⟩
  | 103 => ⟨S64x2x4x128x256, .f32⟩
  | 104 => ⟨S64x2x4x128x256, .f32⟩
  | 105 => ⟨S64x2x64x4x128, .f32⟩
  | 106 => ⟨S64x128x2x4x64, .f32⟩
  | 107 => ⟨S8192x512, .f32⟩
  | _ => ⟨S8192x1792, .f32⟩

abbrev hbmTy (i : Nat) : BufTy := match i / 128 with
  | 0 => hbmTy0_0 i
  | 1 => hbmTy0_1 i
  | 2 => hbmTy0_2 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_call1_v0 : Ref sig .tc := ⟨.hbm, 40, rfl⟩
abbrev main_call1_v1 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_call2_v0 : Ref sig .tc := ⟨.hbm, 47, rfl⟩
abbrev main_call2_v1 : Ref sig .tc := ⟨.hbm, 48, rfl⟩
abbrev main_v28 : Ref sig .tc := ⟨.hbm, 49, rfl⟩
abbrev main_c_9 : Ref sig .tc := ⟨.hbm, 50, rfl⟩
abbrev main_v29 : Ref sig .tc := ⟨.hbm, 51, rfl⟩
abbrev main_v30 : Ref sig .tc := ⟨.hbm, 52, rfl⟩
abbrev main_c_10 : Ref sig .tc := ⟨.hbm, 53, rfl⟩
abbrev main_call3_v0 : Ref sig .tc := ⟨.hbm, 54, rfl⟩
abbrev main_call3_v1 : Ref sig .tc := ⟨.hbm, 55, rfl⟩
abbrev main_v31 : Ref sig .tc := ⟨.hbm, 56, rfl⟩
abbrev main_c_11 : Ref sig .tc := ⟨.hbm, 57, rfl⟩
abbrev main_v32 : Ref sig .tc := ⟨.hbm, 58, rfl⟩
abbrev main_v33 : Ref sig .tc := ⟨.hbm, 59, rfl⟩
abbrev main_c_12 : Ref sig .tc := ⟨.hbm, 60, rfl⟩
abbrev main_call4_v0 : Ref sig .tc := ⟨.hbm, 61, rfl⟩
abbrev main_call4_v1 : Ref sig .tc := ⟨.hbm, 62, rfl⟩
abbrev main_v34 : Ref sig .tc := ⟨.hbm, 63, rfl⟩
abbrev main_c_13 : Ref sig .tc := ⟨.hbm, 64, rfl⟩
abbrev main_v35 : Ref sig .tc := ⟨.hbm, 65, rfl⟩
abbrev main_v36 : Ref sig .tc := ⟨.hbm, 66, rfl⟩
abbrev main_c_14 : Ref sig .tc := ⟨.hbm, 67, rfl⟩
abbrev main_call5_v0 : Ref sig .tc := ⟨.hbm, 68, rfl⟩
abbrev main_call5_v1 : Ref sig .tc := ⟨.hbm, 69, rfl⟩
abbrev main_v37 : Ref sig .tc := ⟨.hbm, 70, rfl⟩
abbrev main_c_15 : Ref sig .tc := ⟨.hbm, 71, rfl⟩
abbrev main_v38 : Ref sig .tc := ⟨.hbm, 72, rfl⟩
abbrev main_v39 : Ref sig .tc := ⟨.hbm, 73, rfl⟩
abbrev main_c_16 : Ref sig .tc := ⟨.hbm, 74, rfl⟩
abbrev main_call6_v0 : Ref sig .tc := ⟨.hbm, 75, rfl⟩
abbrev main_call6_v1 : Ref sig .tc := ⟨.hbm, 76, rfl⟩
abbrev main_v40 : Ref sig .tc := ⟨.hbm, 77, rfl⟩
abbrev main_c_17 : Ref sig .tc := ⟨.hbm, 78, rfl⟩
abbrev main_v41 : Ref sig .tc := ⟨.hbm, 79, rfl⟩
abbrev main_v42 : Ref sig .tc := ⟨.hbm, 80, rfl⟩
abbrev main_c_18 : Ref sig .tc := ⟨.hbm, 81, rfl⟩
abbrev main_call7_v0 : Ref sig .tc := ⟨.hbm, 82, rfl⟩
abbrev main_call7_v1 : Ref sig .tc := ⟨.hbm, 83, rfl⟩
abbrev main_v43 : Ref sig .tc := ⟨.hbm, 84, rfl⟩
abbrev main_c_19 : Ref sig .tc := ⟨.hbm, 85, rfl⟩
abbrev main_v44 : Ref sig .tc := ⟨.hbm, 86, rfl⟩
abbrev main_v45 : Ref sig .tc := ⟨.hbm, 87, rfl⟩
abbrev main_c_20 : Ref sig .tc := ⟨.hbm, 88, rfl⟩
abbrev main_call8_v0 : Ref sig .tc := ⟨.hbm, 89, rfl⟩
abbrev main_call8_v1 : Ref sig .tc := ⟨.hbm, 90, rfl⟩
abbrev main_v46 : Ref sig .tc := ⟨.hbm, 91, rfl⟩
abbrev main_c_21 : Ref sig .tc := ⟨.hbm, 92, rfl⟩
abbrev main_v47 : Ref sig .tc := ⟨.hbm, 93, rfl⟩
abbrev main_v48 : Ref sig .tc := ⟨.hbm, 94, rfl⟩
abbrev main_c_22 : Ref sig .tc := ⟨.hbm, 95, rfl⟩
abbrev main_call9_v0 : Ref sig .tc := ⟨.hbm, 96, rfl⟩
abbrev main_call9_v1 : Ref sig .tc := ⟨.hbm, 97, rfl⟩
abbrev main_v49 : Ref sig .tc := ⟨.hbm, 98, rfl⟩
abbrev main_c_23 : Ref sig .tc := ⟨.hbm, 99, rfl⟩
abbrev main_v50 : Ref sig .tc := ⟨.hbm, 100, rfl⟩
abbrev main_v51 : Ref sig .tc := ⟨.hbm, 101, rfl⟩
abbrev main_c_24 : Ref sig .tc := ⟨.hbm, 102, rfl⟩
abbrev main_call10_v0 : Ref sig .tc := ⟨.hbm, 103, rfl⟩
abbrev main_call10_v1 : Ref sig .tc := ⟨.hbm, 104, rfl⟩
abbrev main_v52 : Ref sig .tc := ⟨.hbm, 105, rfl⟩
abbrev main_c_25 : Ref sig .tc := ⟨.hbm, 106, rfl⟩
abbrev main_v53 : Ref sig .tc := ⟨.hbm, 107, rfl⟩
abbrev main_v54 : Ref sig .tc := ⟨.hbm, 108, rfl⟩
abbrev main_c_26 : Ref sig .tc := ⟨.hbm, 109, rfl⟩
abbrev main_call11_v0 : Ref sig .tc := ⟨.hbm, 110, rfl⟩
abbrev main_call11_v1 : Ref sig .tc := ⟨.hbm, 111, rfl⟩
abbrev main_v55 : Ref sig .tc := ⟨.hbm, 112, rfl⟩
abbrev main_c_27 : Ref sig .tc := ⟨.hbm, 113, rfl⟩
abbrev main_v56 : Ref sig .tc := ⟨.hbm, 114, rfl⟩
abbrev main_v57 : Ref sig .tc := ⟨.hbm, 115, rfl⟩
abbrev main_c_28 : Ref sig .tc := ⟨.hbm, 116, rfl⟩
abbrev main_call12_v0 : Ref sig .tc := ⟨.hbm, 117, rfl⟩
abbrev main_call12_v1 : Ref sig .tc := ⟨.hbm, 118, rfl⟩
abbrev main_v58 : Ref sig .tc := ⟨.hbm, 119, rfl⟩
abbrev main_c_29 : Ref sig .tc := ⟨.hbm, 120, rfl⟩
abbrev main_v59 : Ref sig .tc := ⟨.hbm, 121, rfl⟩
abbrev main_v60 : Ref sig .tc := ⟨.hbm, 122, rfl⟩
abbrev main_c_30 : Ref sig .tc := ⟨.hbm, 123, rfl⟩
abbrev main_call13_v0 : Ref sig .tc := ⟨.hbm, 124, rfl⟩
abbrev main_call13_v1 : Ref sig .tc := ⟨.hbm, 125, rfl⟩
abbrev main_v61 : Ref sig .tc := ⟨.hbm, 126, rfl⟩
abbrev main_c_31 : Ref sig .tc := ⟨.hbm, 127, rfl⟩
abbrev main_v62 : Ref sig .tc := ⟨.hbm, 128, rfl⟩
abbrev main_v63 : Ref sig .tc := ⟨.hbm, 129, rfl⟩
abbrev main_c_32 : Ref sig .tc := ⟨.hbm, 130, rfl⟩
abbrev main_call14_v0 : Ref sig .tc := ⟨.hbm, 131, rfl⟩
abbrev main_call14_v1 : Ref sig .tc := ⟨.hbm, 132, rfl⟩
abbrev main_v64 : Ref sig .tc := ⟨.hbm, 133, rfl⟩
abbrev main_c_33 : Ref sig .tc := ⟨.hbm, 134, rfl⟩
abbrev main_v65 : Ref sig .tc := ⟨.hbm, 135, rfl⟩
abbrev main_v66 : Ref sig .tc := ⟨.hbm, 136, rfl⟩
abbrev main_c_34 : Ref sig .tc := ⟨.hbm, 137, rfl⟩
abbrev main_call15_v0 : Ref sig .tc := ⟨.hbm, 138, rfl⟩
abbrev main_call15_v1 : Ref sig .tc := ⟨.hbm, 139, rfl⟩
abbrev main_v67 : Ref sig .tc := ⟨.hbm, 140, rfl⟩
abbrev main_c_35 : Ref sig .tc := ⟨.hbm, 141, rfl⟩
abbrev main_v68 : Ref sig .tc := ⟨.hbm, 142, rfl⟩
abbrev main_v69 : Ref sig .tc := ⟨.hbm, 143, rfl⟩
abbrev main_c_36 : Ref sig .tc := ⟨.hbm, 144, rfl⟩
abbrev main_call16_v0 : Ref sig .tc := ⟨.hbm, 145, rfl⟩
abbrev main_call16_v1 : Ref sig .tc := ⟨.hbm, 146, rfl⟩
abbrev main_v70 : Ref sig .tc := ⟨.hbm, 147, rfl⟩
abbrev main_c_37 : Ref sig .tc := ⟨.hbm, 148, rfl⟩
abbrev main_v71 : Ref sig .tc := ⟨.hbm, 149, rfl⟩
abbrev main_v72 : Ref sig .tc := ⟨.hbm, 150, rfl⟩
abbrev main_c_38 : Ref sig .tc := ⟨.hbm, 151, rfl⟩
abbrev main_call17_v0 : Ref sig .tc := ⟨.hbm, 152, rfl⟩
abbrev main_call17_v1 : Ref sig .tc := ⟨.hbm, 153, rfl⟩
abbrev main_v73 : Ref sig .tc := ⟨.hbm, 154, rfl⟩
abbrev main_c_39 : Ref sig .tc := ⟨.hbm, 155, rfl⟩
abbrev main_v74 : Ref sig .tc := ⟨.hbm, 156, rfl⟩
abbrev main_v75 : Ref sig .tc := ⟨.hbm, 157, rfl⟩
abbrev main_c_40 : Ref sig .tc := ⟨.hbm, 158, rfl⟩
abbrev main_call18_v0 : Ref sig .tc := ⟨.hbm, 159, rfl⟩
abbrev main_call18_v1 : Ref sig .tc := ⟨.hbm, 160, rfl⟩
abbrev main_v76 : Ref sig .tc := ⟨.hbm, 161, rfl⟩
abbrev main_c_41 : Ref sig .tc := ⟨.hbm, 162, rfl⟩
abbrev main_v77 : Ref sig .tc := ⟨.hbm, 163, rfl⟩
abbrev main_v78 : Ref sig .tc := ⟨.hbm, 164, rfl⟩
abbrev main_c_42 : Ref sig .tc := ⟨.hbm, 165, rfl⟩
abbrev main_call19_v0 : Ref sig .tc := ⟨.hbm, 166, rfl⟩
abbrev main_call19_v1 : Ref sig .tc := ⟨.hbm, 167, rfl⟩
abbrev main_v79 : Ref sig .tc := ⟨.hbm, 168, rfl⟩
abbrev main_c_43 : Ref sig .tc := ⟨.hbm, 169, rfl⟩
abbrev main_v80 : Ref sig .tc := ⟨.hbm, 170, rfl⟩
abbrev main_v81 : Ref sig .tc := ⟨.hbm, 171, rfl⟩
abbrev main_c_44 : Ref sig .tc := ⟨.hbm, 172, rfl⟩
abbrev main_call20_v0 : Ref sig .tc := ⟨.hbm, 173, rfl⟩
abbrev main_call20_v1 : Ref sig .tc := ⟨.hbm, 174, rfl⟩
abbrev main_v82 : Ref sig .tc := ⟨.hbm, 175, rfl⟩
abbrev main_c_45 : Ref sig .tc := ⟨.hbm, 176, rfl⟩
abbrev main_v83 : Ref sig .tc := ⟨.hbm, 177, rfl⟩
abbrev main_v84 : Ref sig .tc := ⟨.hbm, 178, rfl⟩
abbrev main_c_46 : Ref sig .tc := ⟨.hbm, 179, rfl⟩
abbrev main_call21_v0 : Ref sig .tc := ⟨.hbm, 180, rfl⟩
abbrev main_call21_v1 : Ref sig .tc := ⟨.hbm, 181, rfl⟩
abbrev main_v85 : Ref sig .tc := ⟨.hbm, 182, rfl⟩
abbrev main_c_47 : Ref sig .tc := ⟨.hbm, 183, rfl⟩
abbrev main_v86 : Ref sig .tc := ⟨.hbm, 184, rfl⟩
abbrev main_v87 : Ref sig .tc := ⟨.hbm, 185, rfl⟩
abbrev main_c_48 : Ref sig .tc := ⟨.hbm, 186, rfl⟩
abbrev main_call22_v0 : Ref sig .tc := ⟨.hbm, 187, rfl⟩
abbrev main_call22_v1 : Ref sig .tc := ⟨.hbm, 188, rfl⟩
abbrev main_v88 : Ref sig .tc := ⟨.hbm, 189, rfl⟩
abbrev main_c_49 : Ref sig .tc := ⟨.hbm, 190, rfl⟩
abbrev main_v89 : Ref sig .tc := ⟨.hbm, 191, rfl⟩
abbrev main_v90 : Ref sig .tc := ⟨.hbm, 192, rfl⟩
abbrev main_c_50 : Ref sig .tc := ⟨.hbm, 193, rfl⟩
abbrev main_call23_v0 : Ref sig .tc := ⟨.hbm, 194, rfl⟩
abbrev main_call23_v1 : Ref sig .tc := ⟨.hbm, 195, rfl⟩
abbrev main_v91 : Ref sig .tc := ⟨.hbm, 196, rfl⟩
abbrev main_c_51 : Ref sig .tc := ⟨.hbm, 197, rfl⟩
abbrev main_v92 : Ref sig .tc := ⟨.hbm, 198, rfl⟩
abbrev main_v93 : Ref sig .tc := ⟨.hbm, 199, rfl⟩
abbrev main_c_52 : Ref sig .tc := ⟨.hbm, 200, rfl⟩
abbrev main_call24_v0 : Ref sig .tc := ⟨.hbm, 201, rfl⟩
abbrev main_call24_v1 : Ref sig .tc := ⟨.hbm, 202, rfl⟩
abbrev main_v94 : Ref sig .tc := ⟨.hbm, 203, rfl⟩
abbrev main_c_53 : Ref sig .tc := ⟨.hbm, 204, rfl⟩
abbrev main_v95 : Ref sig .tc := ⟨.hbm, 205, rfl⟩
abbrev main_v96 : Ref sig .tc := ⟨.hbm, 206, rfl⟩
abbrev main_c_54 : Ref sig .tc := ⟨.hbm, 207, rfl⟩
abbrev main_call25_v0 : Ref sig .tc := ⟨.hbm, 208, rfl⟩
abbrev main_call25_v1 : Ref sig .tc := ⟨.hbm, 209, rfl⟩
abbrev main_v97 : Ref sig .tc := ⟨.hbm, 210, rfl⟩
abbrev main_c_55 : Ref sig .tc := ⟨.hbm, 211, rfl⟩
abbrev main_v98 : Ref sig .tc := ⟨.hbm, 212, rfl⟩
abbrev main_v99 : Ref sig .tc := ⟨.hbm, 213, rfl⟩
abbrev main_c_56 : Ref sig .tc := ⟨.hbm, 214, rfl⟩
abbrev main_call26_v0 : Ref sig .tc := ⟨.hbm, 215, rfl⟩
abbrev main_call26_v1 : Ref sig .tc := ⟨.hbm, 216, rfl⟩
abbrev main_v100 : Ref sig .tc := ⟨.hbm, 217, rfl⟩
abbrev main_c_57 : Ref sig .tc := ⟨.hbm, 218, rfl⟩
abbrev main_v101 : Ref sig .tc := ⟨.hbm, 219, rfl⟩
abbrev main_v102 : Ref sig .tc := ⟨.hbm, 220, rfl⟩
abbrev main_c_58 : Ref sig .tc := ⟨.hbm, 221, rfl⟩
abbrev main_call27_v0 : Ref sig .tc := ⟨.hbm, 222, rfl⟩
abbrev main_call27_v1 : Ref sig .tc := ⟨.hbm, 223, rfl⟩
abbrev main_v103 : Ref sig .tc := ⟨.hbm, 224, rfl⟩
abbrev main_c_59 : Ref sig .tc := ⟨.hbm, 225, rfl⟩
abbrev main_v104 : Ref sig .tc := ⟨.hbm, 226, rfl⟩
abbrev main_v105 : Ref sig .tc := ⟨.hbm, 227, rfl⟩
abbrev main_c_60 : Ref sig .tc := ⟨.hbm, 228, rfl⟩
abbrev main_call28_v0 : Ref sig .tc := ⟨.hbm, 229, rfl⟩
abbrev main_call28_v1 : Ref sig .tc := ⟨.hbm, 230, rfl⟩
abbrev main_v106 : Ref sig .tc := ⟨.hbm, 231, rfl⟩
abbrev main_c_61 : Ref sig .tc := ⟨.hbm, 232, rfl⟩
abbrev main_v107 : Ref sig .tc := ⟨.hbm, 233, rfl⟩
abbrev main_v108 : Ref sig .tc := ⟨.hbm, 234, rfl⟩
abbrev main_c_62 : Ref sig .tc := ⟨.hbm, 235, rfl⟩
abbrev main_call29_v0 : Ref sig .tc := ⟨.hbm, 236, rfl⟩
abbrev main_call29_v1 : Ref sig .tc := ⟨.hbm, 237, rfl⟩
abbrev main_v109 : Ref sig .tc := ⟨.hbm, 238, rfl⟩
abbrev main_c_63 : Ref sig .tc := ⟨.hbm, 239, rfl⟩
abbrev main_v110 : Ref sig .tc := ⟨.hbm, 240, rfl⟩
abbrev main_v111 : Ref sig .tc := ⟨.hbm, 241, rfl⟩
abbrev main_c_64 : Ref sig .tc := ⟨.hbm, 242, rfl⟩
abbrev main_call30_v0 : Ref sig .tc := ⟨.hbm, 243, rfl⟩
abbrev main_call30_v1 : Ref sig .tc := ⟨.hbm, 244, rfl⟩
abbrev main_v112 : Ref sig .tc := ⟨.hbm, 245, rfl⟩
abbrev main_v113 : Ref sig .tc := ⟨.hbm, 246, rfl⟩
abbrev main_v114 : Ref sig .tc := ⟨.hbm, 247, rfl⟩
abbrev main_c_65 : Ref sig .tc := ⟨.hbm, 248, rfl⟩
abbrev main_v115 : Ref sig .tc := ⟨.hbm, 249, rfl⟩
abbrev main_v116 : Ref sig .tc := ⟨.hbm, 250, rfl⟩
abbrev main_c_66 : Ref sig .tc := ⟨.hbm, 251, rfl⟩
abbrev main_v117 : Ref sig .tc := ⟨.hbm, 252, rfl⟩
abbrev main_v118 : Ref sig .tc := ⟨.hbm, 253, rfl⟩
abbrev main_v119 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_c_67 : Ref sig .tc := ⟨.hbm, 260, rfl⟩
abbrev main_v125 : Ref sig .tc := ⟨.hbm, 261, rfl⟩
abbrev main_v126 : Ref sig .tc := ⟨.hbm, 262, rfl⟩
abbrev main_v127 : Ref sig .tc := ⟨.hbm, 263, rfl⟩
abbrev main_v128 : Ref sig .tc := ⟨.hbm, 264, rfl⟩
abbrev main_v129 : Ref sig .tc := ⟨.hbm, 265, rfl⟩
abbrev main_v130 : Ref sig .tc := ⟨.hbm, 266, rfl⟩
abbrev main_c_68 : Ref sig .tc := ⟨.hbm, 267, rfl⟩
abbrev main_v131 : Ref sig .tc := ⟨.hbm, 268, rfl⟩
abbrev main_v132 : Ref sig .tc := ⟨.hbm, 269, rfl⟩
abbrev main_c_69 : Ref sig .tc := ⟨.hbm, 270, rfl⟩
abbrev main_v133 : Ref sig .tc := ⟨.hbm, 271, rfl⟩
abbrev main_v134 : Ref sig .tc := ⟨.hbm, 272, rfl⟩
abbrev main_v135 : Ref sig .tc := ⟨.hbm, 273, rfl⟩
abbrev main_v136 : Ref sig .tc := ⟨.hbm, 274, rfl⟩
abbrev main_v137 : Ref sig .tc := ⟨.hbm, 275, rfl⟩
abbrev main_v138 : Ref sig .tc := ⟨.hbm, 276, rfl⟩
abbrev main_v139 : Ref sig .tc := ⟨.hbm, 277, rfl⟩
abbrev main_v140 : Ref sig .tc := ⟨.hbm, 278, rfl⟩
abbrev main_cst : Ref sig .tc := ⟨.hbm, 279, rfl⟩
abbrev main_v141 : Ref sig .tc := ⟨.hbm, 280, rfl⟩
abbrev main_v142 : Ref sig .tc := ⟨.hbm, 281, rfl⟩
abbrev main_cst_70 : Ref sig .tc := ⟨.hbm, 282, rfl⟩
abbrev main_v143 : Ref sig .tc := ⟨.hbm, 283, rfl⟩
abbrev main_v144 : Ref sig .tc := ⟨.hbm, 284, rfl⟩
abbrev main_cst_71 : Ref sig .tc := ⟨.hbm, 285, rfl⟩
abbrev main_v145 : Ref sig .tc := ⟨.hbm, 286, rfl⟩
abbrev main_v146 : Ref sig .tc := ⟨.hbm, 287, rfl⟩
abbrev main_v147 : Ref sig .tc := ⟨.hbm, 288, rfl⟩
abbrev main_v148 : Ref sig .tc := ⟨.hbm, 289, rfl⟩
abbrev main_v149 : Ref sig .tc := ⟨.hbm, 290, rfl⟩
abbrev main_v150 : Ref sig .tc := ⟨.hbm, 291, rfl⟩
abbrev main_v151 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_cst_72 : Ref sig .tc := ⟨.hbm, 296, rfl⟩
abbrev main_v155 : Ref sig .tc := ⟨.hbm, 297, rfl⟩
abbrev main_v156 : Ref sig .tc := ⟨.hbm, 298, rfl⟩
abbrev main_cst_73 : Ref sig .tc := ⟨.hbm, 299, rfl⟩
abbrev main_v157 : Ref sig .tc := ⟨.hbm, 300, rfl⟩
abbrev main_v158 : Ref sig .tc := ⟨.hbm, 301, rfl⟩
abbrev main_cst_74 : Ref sig .tc := ⟨.hbm, 302, rfl⟩
abbrev main_v159 : Ref sig .tc := ⟨.hbm, 303, rfl⟩
abbrev main_v160 : Ref sig .tc := ⟨.hbm, 304, rfl⟩
abbrev main_v161 : Ref sig .tc := ⟨.hbm, 305, rfl⟩
abbrev main_v162 : Ref sig .tc := ⟨.hbm, 306, rfl⟩
abbrev main_v163 : Ref sig .tc := ⟨.hbm, 307, rfl⟩
abbrev main_v164 : Ref sig .tc := ⟨.hbm, 308, rfl⟩
abbrev main_v165 : Ref sig .tc := ⟨.hbm, 309, rfl⟩
abbrev main_v166 : Ref sig .tc := ⟨.hbm, 310, rfl⟩
abbrev main_v167 : Ref sig .tc := ⟨.hbm, 311, rfl⟩
abbrev main_v168 : Ref sig .tc := ⟨.hbm, 312, rfl⟩
abbrev main_v169 : Ref sig .tc := ⟨.hbm, 313, rfl⟩
abbrev main_cst_75 : Ref sig .tc := ⟨.hbm, 314, rfl⟩
abbrev main_v170 : Ref sig .tc := ⟨.hbm, 315, rfl⟩
abbrev main_v171 : Ref sig .tc := ⟨.hbm, 316, rfl⟩
abbrev main_v172 : Ref sig .tc := ⟨.hbm, 317, rfl⟩
abbrev main_v173 : Ref sig .tc := ⟨.hbm, 318, rfl⟩
abbrev main_v174 : Ref sig .tc := ⟨.hbm, 319, rfl⟩
abbrev main_v175 : Ref sig .tc := ⟨.hbm, 320, rfl⟩
abbrev main_cst_76 : Ref sig .tc := ⟨.hbm, 321, rfl⟩
abbrev main_v176 : Ref sig .tc := ⟨.hbm, 322, rfl⟩
abbrev main_v177 : Ref sig .tc := ⟨.hbm, 323, rfl⟩
abbrev main_v178 : Ref sig .tc := ⟨.hbm, 324, rfl⟩
abbrev main_v179 : Ref sig .tc := ⟨.hbm, 325, rfl⟩
abbrev main_v180 : Ref sig .tc := ⟨.hbm, 326, rfl⟩
abbrev main_v181 : Ref sig .tc := ⟨.hbm, 327, rfl⟩
abbrev main_v182 : Ref sig .tc := ⟨.hbm, 328, rfl⟩
abbrev main_v183 : Ref sig .tc := ⟨.hbm, 329, rfl⟩
abbrev main_cst_77 : Ref sig .tc := ⟨.hbm, 330, rfl⟩
abbrev main_v184 : Ref sig .tc := ⟨.hbm, 331, rfl⟩
abbrev main_v185 : Ref sig .tc := ⟨.hbm, 332, rfl⟩
abbrev main_v186 : Ref sig .tc := ⟨.hbm, 333, rfl⟩
abbrev main_v187 : Ref sig .tc := ⟨.hbm, 334, rfl⟩
abbrev main_v188 : Ref sig .tc := ⟨.hbm, 335, rfl⟩
abbrev main_v189 : Ref sig .tc := ⟨.hbm, 336, rfl⟩
abbrev main_cst_78 : Ref sig .tc := ⟨.hbm, 337, rfl⟩
abbrev main_call31_v0 : Ref sig .tc := ⟨.hbm, 338, rfl⟩
abbrev main_call31_v1 : Ref sig .tc := ⟨.hbm, 339, rfl⟩
abbrev main_call31_v2 : Ref sig .tc := ⟨.hbm, 340, rfl⟩
abbrev main_v190 : Ref sig .tc := ⟨.hbm, 341, rfl⟩
abbrev main_v191 : Ref sig .tc := ⟨.hbm, 342, rfl⟩
abbrev main_v192 : Ref sig .tc := ⟨.hbm, 343, rfl⟩
abbrev main_cst_79 : Ref sig .tc := ⟨.hbm, 344, rfl⟩
abbrev main_v193 : Ref sig .tc := ⟨.hbm, 345, rfl⟩
abbrev main_v194 : Ref sig .tc := ⟨.hbm, 346, rfl⟩
abbrev main_v195 : Ref sig .tc := ⟨.hbm, 347, rfl⟩
abbrev main_v196 : Ref sig .tc := ⟨.hbm, 348, rfl⟩
abbrev main_v197 : Ref sig .tc := ⟨.hbm, 349, rfl⟩
abbrev main_v198 : Ref sig .tc := ⟨.hbm, 350, rfl⟩
abbrev main_v199 : Ref sig .tc := ⟨.hbm, 351, rfl⟩
abbrev main_cst_80 : Ref sig .tc := ⟨.hbm, 352, rfl⟩
abbrev main_v200 : Ref sig .tc := ⟨.hbm, 353, rfl⟩
abbrev main_v201 : Ref sig .tc := ⟨.hbm, 354, rfl⟩
abbrev main_v202 : Ref sig .tc := ⟨.hbm, 355, rfl⟩
abbrev main_v203 : Ref sig .tc := ⟨.hbm, 356, rfl⟩
abbrev main_v204 : Ref sig .tc := ⟨.hbm, 357, rfl⟩
abbrev main_v205 : Ref sig .tc := ⟨.hbm, 358, rfl⟩
abbrev main_v206 : Ref sig .tc := ⟨.hbm, 359, rfl⟩
abbrev main_v207 : Ref sig .tc := ⟨.hbm, 360, rfl⟩
abbrev main_v208 : Ref sig .tc := ⟨.hbm, 361, rfl⟩
abbrev main_v209 : Ref sig .tc := ⟨.hbm, 362, rfl⟩
abbrev main_v210 : Ref sig .tc := ⟨.hbm, 363, rfl⟩

abbrev nD : Nat := 1
abbrev τ : Topo := Topo.v7x

variable {F : FTy → Type} [FloatOps F]
-- ==== MixfKernel.lean ====
abbrev S8192x512 : Shape := ⟨2, ![8192, 512]⟩
abbrev S512 : Shape := ⟨1, ![512]⟩
abbrev S1x512 : Shape := ⟨2, ![1, 512]⟩
abbrev S8192x1024 : Shape := ⟨2, ![8192, 1024]⟩
abbrev S512x512 : Shape := ⟨2, ![512, 512]⟩
abbrev S512x1024 : Shape := ⟨2, ![512, 1024]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixfReferenceIdeal.lean ====
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x1024 : Shape := ⟨2, ![8192, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x512, .f32⟩
  | .hbm, ⟨28, _⟩ => ⟨S8192x512, .f32⟩
  | .hbm, ⟨29, _⟩ => ⟨S1x512, .f32⟩
  | .hbm, ⟨30, _⟩ => ⟨S8192x512, .f32⟩
  | .hbm, ⟨31, _⟩ => ⟨S8192x512, .f32⟩
  | .hbm, ⟨32, _⟩ => ⟨S1x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x512, .f32⟩
  | .hbm, ⟨56, _⟩ => ⟨S8192x512, .f32⟩
  | .hbm, ⟨57, _⟩ => ⟨S1x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x512, .f32⟩
  | .hbm, ⟨72, _⟩ => ⟨S8192x512, .f32⟩
  | .hbm, ⟨73, _⟩ => ⟨S1x512, .f32⟩
  | .hbm, ⟨74, _⟩ => ⟨S8192x512, .f32⟩
  | .hbm, ⟨75, _⟩ => ⟨S8192x512, .f32⟩
  | .hbm, ⟨76, _⟩ => ⟨S8192x1024, .f32⟩
  | .hbm, ⟨77, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]
-- ==== NormMmKernel.lean ====
abbrev S8192x1024 : Shape := ⟨2, ![8192, 1024]⟩
abbrev S1024 : Shape := ⟨1, ![1024]⟩
abbrev S1024x4096 : Shape := ⟨2, ![1024, 4096]⟩
abbrev S1024x4x1x1024 : Shape := ⟨4, ![1024, 4, 1, 1024]⟩
abbrev S4x1x1024x1024 : Shape := ⟨4, ![4, 1, 1024, 1024]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1x1024x1024 : Shape := ⟨4, ![1, 1, 1024, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1024x4x1x1024, .bf16⟩
  | .hbm, ⟨5, _⟩ => ⟨S4x1x1024x1024, .bf16⟩
  | .hbm, ⟨6, _⟩ => ⟨S1x1024, .f32⟩
  | .hbm, ⟨7, _⟩ => ⟨S8192x1024, .bf16⟩
  | .hbm, ⟨8, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormMmReferenceIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x4096, .f32⟩
  | .hbm, ⟨21, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ConvfKernel.lean ====
abbrev S8192x1792 : Shape := ⟨2, ![8192, 1792]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S8192x512 : Shape := ⟨2, ![8192, 512]⟩
abbrev S512x256 : Shape := ⟨2, ![512, 256]⟩
abbrev S32x256 : Shape := ⟨2, ![32, 256]⟩
abbrev S1x256 : Shape := ⟨2, ![1, 256]⟩
abbrev S544x256 : Shape := ⟨2, ![544, 256]⟩
abbrev S8x544x256 : Shape := ⟨3, ![8, 544, 256]⟩
abbrev S64x256 : Shape := ⟨2, ![64, 256]⟩
abbrev S1x64x256 : Shape := ⟨3, ![1, 64, 256]⟩
abbrev S1x32x256 : Shape := ⟨3, ![1, 32, 256]⟩
abbrev S24x256 : Shape := ⟨2, ![24, 256]⟩
abbrev S1x24x256 : Shape := ⟨3, ![1, 24, 256]⟩

abbrev nBuf : Space → Nat
  | .hbm => 8
  | .vmem => 16
  | .smem => 0
  | _ => 0

abbrev bufTy : (tb : Table) → Fin (tcTables nBuf tb) → BufTy
  | .hbm, ⟨0, _⟩ => ⟨S8192x1792, .f32⟩
  | .hbm, ⟨1, _⟩ => ⟨S31x512, .f32⟩
  | .hbm, ⟨2, _⟩ => ⟨S512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S1x512, .f32⟩
  | .hbm, ⟨7, _⟩ => ⟨S8192x512, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S1x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | .local _ .vmem, ⟨14, _⟩ => ⟨S544x256, .f32⟩
  | .local _ .vmem, ⟨15, _⟩ => ⟨S8x544x256, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.addi c3_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.addi c5_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvfReferenceIdeal.lean ====
abbrev S8192x1792 : Shape := ⟨2, ![8192, 1792]⟩
abbrev S31x512 : Shape := ⟨2, ![31, 512]⟩
abbrev S512 : Shape := ⟨1, ![512]⟩
abbrev S8192x512 : Shape := ⟨2, ![8192, 512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩

abbrev nBuf : Space → Nat
  | .hbm => 239
  | .vmem => 0
  | .smem => 0
  | _ => 0

abbrev hbmTy0_0 (i : Nat) : BufTy := match i % 128 with
  | 0 => ⟨S8192x1792, .f32⟩
  | 1 => ⟨S31x512, .f32⟩
  | 2 => ⟨S512, .f32⟩
  | 3 => ⟨S8192x512, .f32⟩
  | 4 => ⟨S8192x512, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S8192x512, .f32⟩
  | 14 => ⟨S_, .f32⟩
  | 15 => ⟨S30x512, .f32⟩
  | 16 => ⟨S8222x512, .f32⟩
  | 17 => ⟨S8192x512, .f32⟩
  | 18 => ⟨S1x512, .f32⟩
  | 19 => ⟨S512, .f32⟩
  | 20 => ⟨S1x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S1x512, .f32⟩
  | 30 => ⟨S8192x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S1x512, .f32⟩
  | 37 => ⟨S8192x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S1x512, .f32⟩
  | 44 => ⟨S8192x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S1x512, .f32⟩
  | 51 => ⟨S8192x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S1x512, .f32⟩
  | 58 => ⟨S8192x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S1x512, .f32⟩
  | 65 => ⟨S8192x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S1x512, .f32⟩
  | 72 => ⟨S8192x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S1x512, .f32⟩
  | 79 => ⟨S8192x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S1x512, .f32⟩
  | 86 => ⟨S8192x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S1x512, .f32⟩
  | 93 => ⟨S8192x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S1x512, .f32⟩
  | 100 => ⟨S8192x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S1x512, .f32⟩
  | 107 => ⟨S8192x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S1x512, .f32⟩
  | 114 => ⟨S8192x512, .f32⟩
  | 115 => ⟨S8192x512, .f32⟩
  | 116 => ⟨S8192x512, .f32⟩
  | 117 => ⟨S8192x512, .f32⟩
  | 118 => ⟨S1x512, .f32⟩
  | 119 => ⟨S512, .f32⟩
  | 120 => ⟨S1x512, .f32⟩
  | 121 => ⟨S8192x512, .f32⟩
  | 122 => ⟨S8192x512, .f32⟩
  | 123 => ⟨S8192x512, .f32⟩
  | 124 => ⟨S8192x512, .f32⟩
  | 125 => ⟨S1x512, .f32⟩
  | 126 => ⟨S512, .f32⟩
  | 127 => ⟨S1x512, .f32⟩
  | _ => ⟨S8192x1792, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S1x512, .f32⟩
  | 5 => ⟨S512, .f32⟩
  | 6 => ⟨S1x512, .f32⟩
  | 7 => ⟨S8192x512, .f32⟩
  | 8 => ⟨S8192x512, .f32⟩
  | 9 => ⟨S8192x512, .f32⟩
  | 10 => ⟨S8192x512, .f32⟩
  | 11 => ⟨S1x512, .f32⟩
  | 12 => ⟨S512, .f32⟩
  | 13 => ⟨S1x512, .f32⟩
  | 14 => ⟨S8192x512, .f32⟩
  | 15 => ⟨S8192x512, .f32⟩
  | 16 => ⟨S8192x512, .f32⟩
  | 17 => ⟨S8192x512, .f32⟩
  | 18 => ⟨S1x512, .f32⟩
  | 19 => ⟨S512, .f32⟩
  | 20 => ⟨S1x512, .f32⟩
  | 21 => ⟨S8192x512, .f32⟩
  | 22 => ⟨S8192x512, .f32⟩
  | 23 => ⟨S8192x512, .f32⟩
  | 24 => ⟨S8192x512, .f32⟩
  | 25 => ⟨S1x512, .f32⟩
  | 26 => ⟨S512, .f32⟩
  | 27 => ⟨S1x512, .f32⟩
  | 28 => ⟨S8192x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S1x512, .f32⟩
  | 35 => ⟨S8192x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S1x512, .f32⟩
  | 42 => ⟨S8192x512, .f32⟩
  | 43 => ⟨S8192x512, .f32⟩
  | 44 => ⟨S8192x512, .f32⟩
  | 45 => ⟨S8192x512, .f32⟩
  | 46 => ⟨S1x512, .f32⟩
  | 47 => ⟨S512, .f32⟩
  | 48 => ⟨S1x512, .f32⟩
  | 49 => ⟨S8192x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S1x512, .f32⟩
  | 56 => ⟨S8192x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S1x512, .f32⟩
  | 63 => ⟨S8192x512, .f32⟩
  | 64 => ⟨S8192x512, .f32⟩
  | 65 => ⟨S8192x512, .f32⟩
  | 66 => ⟨S8192x512, .f32⟩
  | 67 => ⟨S1x512, .f32⟩
  | 68 => ⟨S512, .f32⟩
  | 69 => ⟨S1x512, .f32⟩
  | 70 => ⟨S8192x512, .f32⟩
  | 71 => ⟨S8192x512, .f32⟩
  | 72 => ⟨S8192x512, .f32⟩
  | 73 => ⟨S8192x512, .f32⟩
  | 74 => ⟨S1x512, .f32⟩
  | 75 => ⟨S512, .f32⟩
  | 76 => ⟨S1x512, .f32⟩
  | 77 => ⟨S8192x512, .f32⟩
  | 78 => ⟨S8192x512, .f32⟩
  | 79 => ⟨S8192x512, .f32⟩
  | 80 => ⟨S8192x512, .f32⟩
  | 81 => ⟨S1x512, .f32⟩
  | 82 => ⟨S512, .f32⟩
  | 83 => ⟨S1x512, .f32⟩
  | 84 => ⟨S8192x512, .f32⟩
  | 85 => ⟨S8192x512, .f32⟩
  | 86 => ⟨S8192x512, .f32⟩
  | 87 => ⟨S8192x512, .f32⟩
  | 88 => ⟨S1x512, .f32⟩
  | 89 => ⟨S512, .f32⟩
  | 90 => ⟨S1x512, .f32⟩
  | 91 => ⟨S8192x512, .f32⟩
  | 92 => ⟨S8192x512, .f32⟩
  | 93 => ⟨S8192x512, .f32⟩
  | 94 => ⟨S8192x512, .f32⟩
  | 95 => ⟨S1x512, .f32⟩
  | 96 => ⟨S512, .f32⟩
  | 97 => ⟨S1x512, .f32⟩
  | 98 => ⟨S8192x512, .f32⟩
  | 99 => ⟨S8192x512, .f32⟩
  | 100 => ⟨S8192x512, .f32⟩
  | 101 => ⟨S8192x512, .f32⟩
  | 102 => ⟨S1x512, .f32⟩
  | 103 => ⟨S512, .f32⟩
  | 104 => ⟨S1x512, .f32⟩
  | 105 => ⟨S8192x512, .f32⟩
  | 106 => ⟨S8192x512, .f32⟩
  | 107 => ⟨S8192x512, .f32⟩
  | 108 => ⟨S1x512, .f32⟩
  | 109 => ⟨S8192x512, .f32⟩
  | 110 => ⟨S8192x512, .f32⟩
  | _ => ⟨S8192x1792, .f32⟩

abbrev hbmTy (i : Nat) : BufTy := match i / 128 with
  | 0 => hbmTy0_0 i
  | 1 => hbmTy0_1 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩

abbrev nD : Nat := 1
abbrev τ : Topo := Topo.v7x

variable {F : FTy → Type} [FloatOps F]
-- ==== BucketKernel.lean ====
abbrev S8x128x128 : Shape := ⟨3, ![8, 128, 128]⟩
abbrev S31 : Shape := ⟨1, ![31]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x128x1 : Shape := ⟨3, ![128, 128, 1]⟩
abbrev S1x1x31 : Shape := ⟨3, ![1, 1, 31]⟩
abbrev S128x128x31 : Shape := ⟨3, ![128, 128, 31]⟩
abbrev S1x16384 : Shape := ⟨2, ![1, 16384]⟩
abbrev S128x16384 : Shape := ⟨2, ![128, 16384]⟩
abbrev S8x16384 : Shape := ⟨2, ![8, 16384]⟩
abbrev S8x128 : Shape := ⟨2, ![8, 128]⟩

abbrev nBuf : Space → Nat
  | .hbm => 37
  | .vmem => 3
  | .smem => 0
  | _ => 0

abbrev bufTy : (tb : Table) → Fin (tcTables nBuf tb) → BufTy
  | .hbm, ⟨0, _⟩ => ⟨S8x128x128, .f32⟩
  | .hbm, ⟨1, _⟩ => ⟨S31, .i32⟩
  | .hbm, ⟨2, _⟩ => ⟨S128, .i32⟩
  | .hbm, ⟨3, _⟩ => ⟨S128x1, .i32⟩
  | .hbm, ⟨4, _⟩ => ⟨S128, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S_, .i32⟩
  | .hbm, ⟨13, _⟩ => ⟨S128x1, .i32⟩
  | .hbm, ⟨14, _⟩ => ⟨S128x1, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S128x128x1, .i32⟩
  | .hbm, ⟨20, _⟩ => ⟨S1x1x31, .i32⟩
  | .hbm, ⟨21, _⟩ => ⟨S128x128x31, .i32⟩
  | .hbm, ⟨22, _⟩ => ⟨S128x128x31, .i32⟩
  | .hbm, ⟨23, _⟩ => ⟨S128x128x31, .i1⟩
  | .hbm, ⟨24, _⟩ => ⟨S128x128x31, .i32⟩
  | .hbm, ⟨25, _⟩ => ⟨S_, .i32⟩
  | .hbm, ⟨26, _⟩ => ⟨S128x128, .i32⟩
  | .hbm, ⟨27, _⟩ => ⟨S128, .i32⟩
  | .hbm, ⟨28, _⟩ => ⟨S128x1, .i32⟩
  | .hbm, ⟨29, _⟩ => ⟨S1x16384, .i32⟩
  | .hbm, ⟨30, _⟩ => ⟨S128x16384, .i32⟩
  | .hbm, ⟨31, _⟩ => ⟨S128x16384, .i32⟩
  | .hbm, ⟨32, _⟩ => ⟨S128x16384, .i1⟩
  | .hbm, ⟨33, _⟩ => ⟨S128x16384, .f32⟩
  | .hbm, ⟨34, _⟩ => ⟨S128x16384, .bf16⟩
  | .hbm, ⟨35, _⟩ => ⟨S8x16384, .f32⟩
  | .hbm, ⟨36, _⟩ => ⟨S8x128, .f32⟩
  | .local _ .vmem, ⟨0, _⟩ => ⟨S8x16384, .f32⟩
  | .local _ .vmem, ⟨1, _⟩ => ⟨S128x16384, .bf16⟩
  | .local _ .vmem, ⟨2, _⟩ => ⟨S8x128, .f32⟩
  | _, _ => ⟨S8x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BucketReferenceIdeal.lean ====
abbrev S8x128x128 : Shape := ⟨3, ![8, 128, 128]⟩
abbrev S31 : Shape := ⟨1, ![31]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x128x1 : Shape := ⟨3, ![128, 128, 1]⟩
abbrev S1x1x31 : Shape := ⟨3, ![1, 1, 31]⟩
abbrev S128x128x31 : Shape := ⟨3, ![128, 128, 31]⟩
abbrev S32x8 : Shape := ⟨2, ![32, 8]⟩
abbrev S128x128x8 : Shape := ⟨3, ![128, 128, 8]⟩
abbrev S8x32 : Shape := ⟨2, ![8, 32]⟩
abbrev S8x128 : Shape := ⟨2, ![8, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x128x128, .f32⟩
  | .hbm, ⟨1, _⟩ => ⟨S31, .i32⟩
  | .hbm, ⟨2, _⟩ => ⟨S128, .i32⟩
  | .hbm, ⟨3, _⟩ => ⟨S128x1, .i32⟩
  | .hbm, ⟨4, _⟩ => ⟨S128, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S_, .i32⟩
  | .hbm, ⟨13, _⟩ => ⟨S128x1, .i32⟩
  | .hbm, ⟨14, _⟩ => ⟨S128x1, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S128x128x1, .i32⟩
  | .hbm, ⟨20, _⟩ => ⟨S1x1x31, .i32⟩
  | .hbm, ⟨21, _⟩ => ⟨S128x128x31, .i32⟩
  | .hbm, ⟨22, _⟩ => ⟨S128x128x31, .i32⟩
  | .hbm, ⟨23, _⟩ => ⟨S128x128x31, .i1⟩
  | .hbm, ⟨24, _⟩ => ⟨S128x128x31, .i32⟩
  | .hbm, ⟨25, _⟩ => ⟨S_, .i32⟩
  | .hbm, ⟨26, _⟩ => ⟨S128x128, .i32⟩
  | .hbm, ⟨27, _⟩ => ⟨S_, .f32⟩
  | .hbm, ⟨28, _⟩ => ⟨S32x8, .f32⟩
  | .hbm, ⟨29, _⟩ => ⟨S_, .i32⟩
  | .hbm, ⟨30, _⟩ => ⟨S128x128, .i32⟩
  | .hbm, ⟨31, _⟩ => ⟨S128x128, .i1⟩
  | .hbm, ⟨32, _⟩ => ⟨S_, .i32⟩
  | .hbm, ⟨33, _⟩ => ⟨S128x128, .i32⟩
  | .hbm, ⟨34, _⟩ => ⟨S128x128, .i32⟩
  | .hbm, ⟨35, _⟩ => ⟨S128x128, .i32⟩
  | .hbm, ⟨36, _⟩ => ⟨S128x128x1, .i32⟩
  | .hbm, ⟨37, _⟩ => ⟨S128x128x8, .f32⟩
  | .hbm, ⟨38, _⟩ => ⟨S8x128x128, .f32⟩
  | .hbm, ⟨39, _⟩ => ⟨S128x128x8, .f32⟩
  | .hbm, ⟨40, _⟩ => ⟨S_, .f32⟩
  | .hbm, ⟨41, _⟩ => ⟨S32x8, .f32⟩
  | .hbm, ⟨42, _⟩ => ⟨S32x8, .f32⟩
  | .hbm, ⟨43, _⟩ => ⟨S8x32, .f32⟩
  | .hbm, ⟨44, _⟩ => ⟨S_, .i32⟩
  | .hbm, ⟨45, _⟩ => ⟨S_, .f32⟩
  | .hbm, ⟨46, _⟩ => ⟨S8x128, .f32⟩
  | _, _ => ⟨S8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c_1 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_c_2 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_5 : Ref sig .tc := ⟨.hbm, 44, rfl⟩
abbrev main_call1_v0 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== DownKernel.lean ====
abbrev S8192x4096 : Shape := ⟨2, ![8192, 4096]⟩
abbrev S4096x1024 : Shape := ⟨2, ![4096, 1024]⟩
abbrev S8192x1024 : Shape := ⟨2, ![8192, 1024]⟩
abbrev S4x1x1024x1024 : Shape := ⟨4, ![4, 1, 1024, 1024]⟩
abbrev S512x4096 : Shape := ⟨2, ![512, 4096]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S4x1x1024x1024, .bf16⟩
  | .hbm, ⟨5, _⟩ => ⟨S8192x4096, .bf16⟩
  | .hbm, ⟨6, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4x1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownReferenceIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== GDownKernel.lean ====
abbrev S8192x4096 : Shape := ⟨2, ![8192, 4096]⟩
abbrev S8192x1024 : Shape := ⟨2, ![8192, 1024]⟩
abbrev S4x1x1024x1024 : Shape := ⟨4, ![4, 1, 1024, 1024]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4x1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .f32⟩
  | .local _ .vmem, ⟨5, _⟩ => ⟨S1x1x1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v10 : BitVec 1 := Scalar.cmpi .eq arg2 c0_i32
  let v11 : BitVec 32 := Scalar.extui v10
  let c0_i32_4 : BitVec 32 := 0#32
  let v12 : BitVec 1 := Scalar.cmpi .ne v11 c0_i32_4
  v12

def k0_cond2 (i : grid0.Coords) : BitVec 1 :=
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GDownReferenceIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S4x1x1024x1024 : Shape := ⟨4, ![4, 1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | .hbm, ⟨11, _⟩ => ⟨S4x1x1024x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== AdamwKernel.lean ====
abbrev S4096x1024 : Shape := ⟨2, ![4096, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwReferenceIdeal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.DactValue.lean ====
/-
  The squared-ReLU gradient of the feed-forward block: what the call that forms `(g · wᵀ) · 2 max(up, 0)` leaves in its
  result array, and that the derivative of the plain forward line is the same array.
-/
module

public import proofs.«01_k».proof.Proof.Gen.DactKernelIdeal.Value
public import proofs.«01_k».proof.Proof.Gen.DactReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DactKernelIdeal.RefValue

open Cert.DactKernelIdeal Cert.DactKernelIdeal.Gen

variable (m : (ℓ : Loc nD τ sig) → Buf (Elt Ideal) ℓ)

/-- The gradient at one element: the cotangent's row times the weight's row, times twice the clamped pre-activation. -/
def grad (g : FVec Ideal S8192x1024 .f32) (w : FVec Ideal S4096x1024 .f32) (up : FVec Ideal S8192x4096 .f32)
    (r : Fin 8192) (l : Fin 4096) : EReal :=
  (∑ k : Fin 1024, g (ix2 r k) * w (ix2 l k)) * (Ideal.ofBits .f32 0x40000000#32 * max (up (ix2 r l)) 0)

/-- The whole gradient array. -/
def gradArr (g : FVec Ideal S8192x1024 .f32) (w : FVec Ideal S4096x1024 .f32) (up : FVec Ideal S8192x4096 .f32) :
    FVec Ideal S8192x4096 .bf16 := fun i => grad g w up (i 0) (i 1)

theorem idx : ∀ t : Fin cfg0.N, win0_0.index t = ![t.val, 0] ∧ win0_1.index t = ![0, 0, 0, 0]
    ∧ win0_2.index t = ![t.val, 0] ∧ win0_3.index t = ![t.val, 0] :=
  (by decide +kernel : ∀ t : Fin grid0.N, _)

theorem point (c : Dev nD) (t : Fin cfg0.N) (y) :
    out0_3 (iblk m c 0 t) (iblk m c 1 t) (iblk m c 2 t) y
      = gradArr (m ((c : Thread nD τ).loc main_arg0)) (m ((c : Thread nD τ).loc main_arg1))
          (m ((c : Thread nD τ).loc main_arg2)) (((cfg0.win 3).blk t).view.emb y) := by
  unfold_out out0_3
  canon_tiles x h
  all_goals
    unfold_payloads
    pointwise [gradArr, grad]
    blk_point [iblk, V, idx t]

/-- The kernel's result array after the run is the gradient array. -/
theorem final (c : Dev nD) : (dats m 0 c).arrAt 3 cfg0.N
    = gradArr (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  exact point m c t y

open Cert.DactReferenceIdeal.Read in
/-- The reference's gradient is the same array: where the pre-activation is not positive its clamped value is zero. -/
theorem ref_eq (g : FVec Ideal S8192x1024 .f32) (w : FVec Ideal S4096x1024 .f32) (up : FVec Ideal S8192x4096 .f32) :
    val_main_v12 (F := Ideal) g w up = gradArr g w up := by
  funext j
  pointwise [val_main_v12, val_main_v11, val_main_v10, val_main_cst_2, val_main_v9, val_main_v8, val_main_v6,
    val_main_v5, val_main_cst_1, val_main_v2, val_main_v1, val_main_cst, val_main_v0, val_main_call0_v0, val_main_call0_cst,
    gradArr, grad]
  split_ifs with h
  · rfl
  · rw [max_eq_right (not_lt.mp h), mul_zero, mul_zero]

end Cert.DactKernelIdeal.RefValue
-- ==== Proof.Reals.lean ====
/-
  Extended reals that are real numbers: sums of them, quotients of them, the constants of the programs' words, and what a
  precondition «the magnitude is below infinity» says.
-/
module

public import Idealize.ShloMosaic.Lib.Pointwise
public import Idealize.ShloMosaic.Lib.Claim

@[expose] public section

noncomputable section

open Idealize.ShloMosaic

namespace Cert.Reals

/-- A finite sum of real numbers, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of two real numbers, the divisor not zero. -/
theorem div_real {y : ℝ} (h : y ≠ 0) (x : ℝ) : Ideal.div (x : EReal) (y : EReal) = ((x / y : ℝ) : EReal) := by
  rw [Ideal.div_coe h, ← EReal.coe_mul, mul_one_div]

/-- The reciprocal root of a positive real number. -/
theorem rsqrt_pos {y : ℝ} (h : 0 < y) : Ideal.rsqrt (y : EReal) = (((Real.sqrt y)⁻¹ : ℝ) : EReal) := by
  rw [Ideal.rsqrt_coe, if_neg (not_lt.mpr h.le), if_neg h.ne']

theorem word_1024 : Ideal.ofBits .f32 0x44800000#32 = ((1024 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul, -EReal.coe_neg]; norm_num

/-- The small constant under the roots. -/
def eps : ℝ := 8796093 * 2 ^ (-43 : ℤ)

theorem eps_pos : 0 < eps := by unfold eps; positivity

theorem word_eps : Ideal.ofBits .f32 0x358637BD#32 = (eps : EReal) := by
  simp [Ideal.ofBits, Ideal.ieee, eps, -EReal.coe_mul]

theorem word_top : Ideal.ofBits .f32 0x7F800000#32 = ⊤ := by
  simp [Ideal.ofBits, Ideal.ieee]

/-- A magnitude below infinity is that of a real number. -/
theorem of_abs_lt {x : EReal} (h : Ideal.cmp .olt (max x (-x)) (Ideal.ofBits .f32 0x7F800000#32) = 1#1) :
    ∃ r : ℝ, x = (r : EReal) := by
  rw [word_top] at h
  induction x using EReal.rec with
  | bot => simp [Ideal.cmp] at h
  | top => simp [Ideal.cmp] at h
  | coe r => exact ⟨r, rfl⟩

/-- A family of such is a family of real numbers. -/
theorem family {ι : Type} {x : ι → EReal} (h : ∀ i, ∃ r : ℝ, x i = (r : EReal)) : ∃ f : ι → ℝ, x = fun i => ((f i : ℝ) : EReal) := by
  choose f hf using h
  exact ⟨f, funext hf⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩

theorem real_sum {ι : Type} (s : Finset ι) {x : ι → EReal} (h : ∀ i, ∃ r : ℝ, x i = r) : ∃ r : ℝ, ∑ i ∈ s, x i = r := by
  obtain ⟨f, rfl⟩ := family h; exact ⟨∑ i ∈ s, f i, coe_sum s f⟩

end Cert.Reals
-- ==== Proof.NormGrad.lean ====
/-
  The gradient of a row's root-mean-square norm, in the two ways it is written: by the closed formula, and by the chain rule
  through the reciprocal root.
-/
module

public import proofs.«01_k».proof.Proof.Reals

@[expose] public section

noncomputable section

open Idealize.ShloMosaic

namespace Cert.NormGrad

open Cert.Reals

/-- The mean square of a row and the small constant. -/
def meanSq (x : Fin 1024 → EReal) : EReal :=
  Ideal.div (∑ k, x k * x k) (Ideal.ofBits .f32 0x44800000#32) + Ideal.ofBits .f32 0x358637BD#32

/-- The factor that the norm multiplies a row by. -/
def invRms (x : Fin 1024 → EReal) : EReal := Ideal.rsqrt (meanSq x)

/-- The gradient with respect to the row by the closed formula, added to a gradient `gr` that comes past the norm. -/
def grad (gr : EReal) (x dh g : Fin 1024 → EReal) (l : Fin 1024) : EReal :=
  gr + invRms x * (dh l * g l - x l * invRms x
    * Ideal.div (∑ k, dh k * g k * (x k * invRms x)) (Ideal.ofBits .f32 0x44800000#32))

/-- The part of the gradient that the chain rule sends through the mean square, twice. -/
def through (x dh g : Fin 1024 → EReal) : EReal :=
  Ideal.div ((∑ k, x k * (dh k * g k)) * (Ideal.ofBits .f32 0xBF000000#32 * Ideal.div (invRms x) (meanSq x)))
    (Ideal.ofBits .f32 0x44800000#32)

/-- The same gradient by the chain rule. -/
def chain (gr : EReal) (x dh g : Fin 1024 → EReal) (l : Fin 1024) : EReal :=
  gr + dh l * g l * invRms x + x l * through x dh g + through x dh g * x l

/-- On real rows the mean square is a positive real number. -/
theorem meanSq_real (x : Fin 1024 → ℝ) :
    ∃ s : ℝ, 0 < s ∧ meanSq (fun k => (x k : EReal)) = (s : EReal) := by
  refine ⟨(∑ k, x k * x k) / 1024 + eps, ?_, ?_⟩
  · have := eps_pos
    have : 0 ≤ ∑ k, x k * x k := Finset.sum_nonneg fun k _ => mul_self_nonneg _
    positivity
  · simp only [meanSq, word_1024, word_eps, ← EReal.coe_mul, coe_sum, div_real (by norm_num : (1024 : ℝ) ≠ 0), ← EReal.coe_add]

/-- On real rows the factor is a real number. -/
theorem invRms_real (x : Fin 1024 → ℝ) : ∃ r : ℝ, invRms (fun k => (x k : EReal)) = (r : EReal) := by
  obtain ⟨s, hs, h⟩ := meanSq_real x
  exact ⟨_, by rw [invRms, h, rsqrt_pos hs]⟩

/-- On real rows the two gradients are one. -/
theorem chain_eq (gr : EReal) {x dh g : Fin 1024 → EReal} (hx : ∀ k, ∃ r : ℝ, x k = r) (hd : ∀ k, ∃ r : ℝ, dh k = r)
    (hg : ∀ k, ∃ r : ℝ, g k = r) (l : Fin 1024) : chain gr x dh g l = grad gr x dh g l := by
  obtain ⟨x, rfl⟩ := family hx
  obtain ⟨dh, rfl⟩ := family hd
  obtain ⟨g, rfl⟩ := family hg
  obtain ⟨s, hs, h⟩ := meanSq_real x
  have hr : (Real.sqrt s)⁻¹ * (Real.sqrt s)⁻¹ = s⁻¹ := by rw [← mul_inv, Real.mul_self_sqrt hs.le]
  have e : ∑ k, dh k * g k * (x k * (Real.sqrt s)⁻¹) = (∑ k, x k * (dh k * g k)) * (Real.sqrt s)⁻¹ := by
    rw [Finset.sum_mul]; exact Finset.sum_congr rfl fun k _ => by ring
  simp only [chain, grad, through, invRms, h, rsqrt_pos hs, word_1024, word_neg_half, ← EReal.coe_mul, coe_sum,
    div_real (by norm_num : (1024 : ℝ) ≠ 0), div_real hs.ne', ← EReal.coe_sub, add_assoc, ← EReal.coe_add, e]
  congr 2
  generalize (∑ k, x k * (dh k * g k)) = S
  generalize (Real.sqrt s)⁻¹ = r at hr ⊢
  rw [div_eq_mul_inv r s, ← hr]
  ring

end Cert.NormGrad
-- ==== Proof.MlpInValue.lean ====
/-
  The product with the first feed-forward weight, backwards, fused with the gradient of the norm in front of it: what the
  call leaves in its three result arrays, and that the derivative of the plain forward lines is the same arrays.
-/
module
public import proofs.«01_k».proof.Proof.Gen.MlpInKernelIdeal.Value
public import proofs.«01_k».proof.Proof.Gen.MlpInReferenceIdeal.Read
public import proofs.«01_k».proof.Proof.NormGrad
public import Idealize.ShloMosaic.Lib.Pipeline.ValueKit
public import Idealize.ShloMosaic.Lib.Pointwise
public import Idealize.ShloMosaic.Lib.Claim
@[expose] public section
set_option maxRecDepth 16384
noncomputable section

open Idealize.ShloMosaic Idealize.ShloMosaic.TcCoe Idealize.SL.Sem
open Idealize.ShloMosaic.Pipeline (Dat)
namespace Cert.MlpInKernelIdeal.RefValue
open Cert.MlpInKernelIdeal Cert.MlpInKernelIdeal.Gen
variable (m : (ℓ : Loc nD τ sig) → Buf (Elt Ideal) ℓ)

theorem idx : ∀ t : Fin cfg0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![t.val, 0] :=
  (by decide +kernel : ∀ t : Fin grid0.N, _)

open Cert.Reals Cert.NormGrad

/-- The gradient that reaches the norm: a row of the cotangent times the weight, its columns in four groups. -/
def dh (dz : FVec Ideal S8192x4096 .f32) (w : FVec Ideal S1024x4096 .f32) (r : Fin 8192) (l : Fin 1024) : EReal :=
  ∑ k : Fin 1024, dz (ix2 r ⟨k.val, by omega⟩) * w (ix2 l ⟨k.val, by omega⟩)
    + ∑ k : Fin 1024, dz (ix2 r ⟨1024 + k.val, by omega⟩) * w (ix2 l ⟨1024 + k.val, by omega⟩)
    + ∑ k : Fin 1024, dz (ix2 r ⟨2048 + k.val, by omega⟩) * w (ix2 l ⟨2048 + k.val, by omega⟩)
    + ∑ k : Fin 1024, dz (ix2 r ⟨3072 + k.val, by omega⟩) * w (ix2 l ⟨3072 + k.val, by omega⟩)

/-- The four groups are the whole row. -/
theorem dh_eq (dz : FVec Ideal S8192x4096 .f32) (w : FVec Ideal S1024x4096 .f32) (r : Fin 8192) (l : Fin 1024) :
    ∑ k : Fin 4096, dz (ix2 r k) * w (ix2 l k) = dh dz w r l := by
  rw [Fin.sum_univ_two_halves 3072 1024 rfl, Fin.sum_univ_two_halves 2048 1024 rfl, Fin.sum_univ_two_halves 1024 1024 rfl]
  rfl

/-- The gradient with respect to the norm's input. -/
def dxArr (dz : FVec Ideal S8192x4096 .f32) (w : FVec Ideal S1024x4096 .f32) (x : FVec Ideal S8192x1024 .f32)
    (g : FVec Ideal S1024 .f32) (gr : FVec Ideal S8192x1024 .f32) : FVec Ideal S8192x1024 .f32 := fun i =>
  grad (gr (ix2 (i 0) (i 1))) (fun k => x (ix2 (i 0) k)) (fun k => dh dz w (i 0) k) (fun k => g (ix1 k)) (i 1)

/-- A row's part of the gradient with respect to the norm's weight. -/
def dgTerm (dz : FVec Ideal S8192x4096 .f32) (w : FVec Ideal S1024x4096 .f32) (x : FVec Ideal S8192x1024 .f32)
    (r : Fin 8192) (l : Fin 1024) : EReal :=
  dh dz w r l * (x (ix2 r l) * invRms (fun k => x (ix2 r k)))

/-- The gradient with respect to the norm's weight: the sum over the rows. -/
def dgArr (dz : FVec Ideal S8192x4096 .f32) (w : FVec Ideal S1024x4096 .f32) (x : FVec Ideal S8192x1024 .f32) :
    FVec Ideal S1x1024 .f32 := fun i => ∑ r : Fin 8192, dgTerm dz w x r (i 1)

theorem lt16 (t : Fin cfg0.N) : t.val < 16 := lt_of_lt_of_eq t.isLt (show cfg0.N = 16 from N_0)

/-- The row of the arrays that row `r` of the block at point `t` is. -/
abbrev row (t : Fin cfg0.N) (r : Fin 512) : Fin 8192 := ⟨t.val * 512 + r.val, by have := lt16 t; omega⟩

/-- The blocks of a point, read at an index. -/
theorem blk0 (c : Dev nD) (t : Fin cfg0.N) (r : Fin 512) (k : Fin 4096) :
    iblk m c 0 t (ix2 r k) = m ((c : Thread nD τ).loc main_arg0) (ix2 (row t r) k) := by
  blk_point [iblk, V, idx t]

theorem blk1 (c : Dev nD) (t : Fin cfg0.N) (a : Fin 4) (l k : Fin 1024) :
    iblk m c 1 t (ix4 a 0 l k) = m ((c : Thread nD τ).loc main_arg1) (ix2 l ⟨a.val * 1024 + k.val, by omega⟩) := by
  blk_point [iblk, V, idx t]

theorem blk2 (c : Dev nD) (t : Fin cfg0.N) (r : Fin 512) (k : Fin 1024) :
    iblk m c 2 t (ix2 r k) = m ((c : Thread nD τ).loc main_arg2) (ix2 (row t r) k) := by
  blk_point [iblk, V, idx t]

theorem blk3 (c : Dev nD) (t : Fin cfg0.N) (k : Fin 1024) :
    iblk m c 3 t (ix2 0 k) = m ((c : Thread nD τ).loc main_arg3) (ix1 k) := by
  blk_point [iblk, V, idx t]

theorem blk4 (c : Dev nD) (t : Fin cfg0.N) (r : Fin 512) (k : Fin 1024) :
    iblk m c 4 t (ix2 r k) = m ((c : Thread nD τ).loc main_arg4) (ix2 (row t r) k) := by
  blk_point [iblk, V, idx t]

/-- The gradient that reaches the norm, at a row of a point's block. -/
def dhBlk (z : FVec Ideal S512x4096 .bf16) (w : FVec Ideal S4x1x1024x1024 .bf16) (r : Fin 512) (l : Fin 1024) : EReal :=
  ∑ k : Fin 1024, z (ix2 r ⟨k.val, by omega⟩) * w (ix4 0 0 l k)
    + ∑ k : Fin 1024, z (ix2 r ⟨1024 + k.val, by omega⟩) * w (ix4 1 0 l k)
    + ∑ k : Fin 1024, z (ix2 r ⟨2048 + k.val, by omega⟩) * w (ix4 2 0 l k)
    + ∑ k : Fin 1024, z (ix2 r ⟨3072 + k.val, by omega⟩) * w (ix4 3 0 l k)

theorem dhBlk_eq (c : Dev nD) (t : Fin cfg0.N) (r : Fin 512) (l : Fin 1024) :
    dhBlk (iblk m c 0 t) (iblk m c 1 t) r l
      = dh (m ((c : Thread nD τ).loc main_arg0)) (m ((c : Thread nD τ).loc main_arg1)) (row t r) l := by
  simp only [dhBlk, dh, blk0, blk1]
  simp

/-- What a point leaves in its block of the gradient. -/
theorem point5 (c : Dev nD) (t : Fin cfg0.N) (y) : (outsAt0 m c t.val t.isLt).1 y
    = dxArr (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  have hN := lt16 t
  idx_vars y
  have e : ((cfg0.win 5).blk t).view.emb (ix2 y0 y1) = ix2 (row t y0) y1 := by blk_ext [idx t]
  rw [e]
  by_cases h : t.val % 16 = 0
  · rw [outsAt0_A m c t h (by omega)]
    frame_out
    unfold_payloads
    pointwise [dxArr, grad, invRms, meanSq]
    simp only [← dhBlk_eq, dhBlk, blk2, blk3, blk4]
  · rw [outsAt0_B m c t h (by omega)]
    frame_out
    unfold_payloads
    pointwise [dxArr, grad, invRms, meanSq]
    simp only [← dhBlk_eq, dhBlk, blk2, blk3, blk4]

/-- The same at the rounded copy. -/
theorem point6 (c : Dev nD) (t : Fin cfg0.N) (y) : (outsAt0 m c t.val t.isLt).2.1 y
    = dxArr (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  have hN := lt16 t
  idx_vars y
  have e : ((cfg0.win 6).blk t).view.emb (ix2 y0 y1) = ix2 (row t y0) y1 := by blk_ext [idx t]
  rw [e]
  by_cases h : t.val % 16 = 0
  · rw [outsAt0_A m c t h (by omega)]
    frame_out
    unfold_payloads
    pointwise [dxArr, grad, invRms, meanSq]
    simp only [← dhBlk_eq, dhBlk, blk2, blk3, blk4]
  · rw [outsAt0_B m c t h (by omega)]
    frame_out
    unfold_payloads
    pointwise [dxArr, grad, invRms, meanSq]
    simp only [← dhBlk_eq, dhBlk, blk2, blk3, blk4]

/-- A point's part of the weight's gradient. -/
def dgPart (c : Dev nD) (t : Fin cfg0.N) (l : Fin 1024) : EReal :=
  ∑ r : Fin 512, dgTerm (m ((c : Thread nD τ).loc main_arg0)) (m ((c : Thread nD τ).loc main_arg1))
    (m ((c : Thread nD τ).loc main_arg2)) (row t r) l

/-- The weight's gradient is cleared at the first point and added to at the others. -/
theorem step7_A (c : Dev nD) (t : Fin cfg0.N) (h : t.val % 16 = 0) (y : S1x1024.Idx) :
    (outsAt0 m c t.val t.isLt).2.2 y = 0 + dgPart m c t (y 1) := by
  have hN := lt16 t
  idx_vars y
  rw [outsAt0_A m c t h (by omega)]
  frame_out
  unfold_payloads
  pointwise [dgPart, dgTerm, invRms, meanSq]
  simp only [← dhBlk_eq, dhBlk, blk2]

theorem step7_B (c : Dev nD) (t : Fin cfg0.N) (h : ¬t.val % 16 = 0) (y : S1x1024.Idx) :
    (outsAt0 m c t.val t.isLt).2.2 y
      = (outsAt0 m c (t.val - 1) (Nat.lt_of_le_of_lt (Nat.sub_le _ _) t.isLt)).2.2 y + dgPart m c t (y 1) := by
  have hN := lt16 t
  rw [outsAt0_B m c t h (by omega)]
  frame_out
  generalize (outsAt0 m c (t.val - 1) _).2.2 = z
  idx_vars y
  unfold_payloads
  pointwise [dgPart, dgTerm, invRms, meanSq]
  simp only [← dhBlk_eq, dhBlk, blk2]

/-- The kernel's three result arrays after the run. -/
theorem final5 (c : Dev nD) : (dats m 0 c).arrAt 5 cfg0.N
    = dxArr (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  exact point5 m c t y

theorem final6 (c : Dev nD) : (dats m 0 c).arrAt 6 cfg0.N
    = dxArr (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  exact point6 m c t y

theorem final7 (c : Dev nD) : (dats m 0 c).arrAt 7 cfg0.N
    = dgArr (m ((c : Thread nD τ).loc main_arg0)) (m ((c : Thread nD τ).loc main_arg1)) (m ((c : Thread nD τ).loc main_arg2)) := by
  refine (dats m 0 c).arrAt_eq_of_after_last 7 t0_15 (by decide +kernel) _ fun j => ?_
  blk_simp
  rw [after0_7]
  rw [Pipeline.eq_sum_fin_of_reset_step_apply_last (fun n h => (outsAt0 m c n h).2.2) 16 (fun _ => 0)
    (fun t y => dgPart m c t (y 1)) (step7_A m c) (step7_B m c) (le_of_eq N_0) t0_15 rfl j, zero_add]
  simp only [dgPart, dgArr]
  exact Fin.sum_mul_add_congr fun t r h => rfl

open Cert.MlpInReferenceIdeal.Read

/-- The reference's gradient with respect to the norm's input, on real arrays. -/
theorem ref_dx (dz : FVec Ideal S8192x4096 .f32) (w : FVec Ideal S1024x4096 .f32) (x : FVec Ideal S8192x1024 .f32)
    (g : FVec Ideal S1024 .f32) (gr : FVec Ideal S8192x1024 .f32) (hz : ∀ i, ∃ a : ℝ, dz i = a) (hw : ∀ i, ∃ a : ℝ, w i = a)
    (hx : ∀ i, ∃ a : ℝ, x i = a) (hg : ∀ i, ∃ a : ℝ, g i = a) :
    val_main_v38 (F := Ideal) dz w x g gr = dxArr dz w x g gr := by
  funext j
  idx_vars j
  have hd : ∀ k, ∃ a : ℝ, dh dz w j0 k = a := fun k => by
    rw [← dh_eq]; exact real_sum _ fun i => real_mul (hz _) (hw _)
  refine Eq.trans ?_ (chain_eq (gr (ix2 j0 j1)) (fun k => hx (ix2 j0 k)) hd (fun k => hg (ix1 k)) j1)
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39, val_main_v40, chain, through, invRms, meanSq]
  simp only [dh_eq, Finset.univ_unique, Finset.sum_singleton]

/-- The reference's gradient with respect to the norm's weight. -/
theorem ref_dg (dz : FVec Ideal S8192x4096 .f32) (w : FVec Ideal S1024x4096 .f32) (x : FVec Ideal S8192x1024 .f32) :
    val_main_v40 (F := Ideal) dz w x = dgArr dz w x := by
  funext j
  idx_vars j
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39, val_main_v40, dgArr, dgTerm, invRms, meanSq]
  simp only [dh_eq, Finset.univ_unique, Finset.sum_singleton]
  exact Finset.sum_congr rfl fun r _ => mul_comm _ _

end Cert.MlpInKernelIdeal.RefValue
-- ==== Proof.MlpInClaim.lean ====
/-
  The claims about the product with the first feed-forward weight, backwards, with the norm's gradient.
-/
module

public import proofs.«01_k».proof.Defs
public import proofs.«01_k».proof.Proof.MlpInValue
public import proofs.«01_k».proof.Proof.Gen.MlpInKernelIdeal
public import proofs.«01_k».proof.Proof.Gen.MlpInReferenceIdeal
public import proofs.«01_k».proof.Proof.Gen.Pre_finite_mlpin

@[expose] public section

set_option maxRecDepth 16384

noncomputable section

open Idealize.ShloMosaic Idealize.ShloMosaic.TcCoe Idealize.SL.Sem

namespace Cert.MlpInKernelIdeal.RefValue

/-- What the precondition says: the four arrays hold real numbers. -/
theorem pre_real (m : (ℓ : Loc Cert.MlpInKernelIdeal.nD Cert.MlpInKernelIdeal.τ Cert.MlpInKernelIdeal.sig) → Buf (Elt Ideal) ℓ)
    (h : Cert.Pre_MlpInKernelIdeal_finite_mlpin m) (c : Dev Cert.MlpInKernelIdeal.nD) :
    (∀ i, ∃ a : ℝ, m ((c : Thread nD τ).loc main_arg0) i = (a : EReal)) ∧ (∀ i, ∃ a : ℝ, m ((c : Thread nD τ).loc main_arg1) i = (a : EReal))
      ∧ (∀ i, ∃ a : ℝ, m ((c : Thread nD τ).loc main_arg2) i = (a : EReal)) ∧ (∀ i, ∃ a : ℝ, m ((c : Thread nD τ).loc main_arg3) i = (a : EReal)) := by
  obtain ⟨h0, h1, h2, h3⟩ := h c
  refine ⟨fun i => Cert.Reals.of_abs_lt (congrFun h0 i), fun i => Cert.Reals.of_abs_lt (congrFun h1 i),
    fun i => Cert.Reals.of_abs_lt (congrFun h2 i), fun i => Cert.Reals.of_abs_lt (congrFun h3 i)⟩

theorem frame_ref : Cert.quiescent_MlpInReferenceIdeal := fun m ρ _ =>
  (θ_run Cert.MlpInReferenceIdeal.defs _ _).mono
    (fun r h => ⟨fun c => (h c).2.2.2, sem_eq_zero_of_no_sems (by decide) r.2⟩)
    (Cert.MlpInReferenceIdeal.Value.run (F := Ideal) m ρ)

/-- On real arrays the kernel leaves the derivative of the plain forward lines. -/
theorem algebraic : Cert.algebraic_MlpInKernelIdeal_MlpInReferenceIdeal_pre_finite_mlpin := by
  intro m ρ m' ρ' hpre hag
  refine ⟨fun c => dxArr (m ((c : Thread nD τ).loc main_arg0)) (m ((c : Thread nD τ).loc main_arg1))
      (m ((c : Thread nD τ).loc main_arg2)) (m ((c : Thread nD τ).loc main_arg3)) (m ((c : Thread nD τ).loc main_arg4)),
    fun c => dxArr (m ((c : Thread nD τ).loc main_arg0)) (m ((c : Thread nD τ).loc main_arg1))
      (m ((c : Thread nD τ).loc main_arg2)) (m ((c : Thread nD τ).loc main_arg3)) (m ((c : Thread nD τ).loc main_arg4)),
    fun c => dgArr (m ((c : Thread nD τ).loc main_arg0)) (m ((c : Thread nD τ).loc main_arg1))
      (m ((c : Thread nD τ).loc main_arg2)), ?_, ?_⟩
  · exact (θ_run Cert.MlpInKernelIdeal.defs _ _).mono
      (fun _ h c => ⟨(h c).1.trans (final5 m c), (h c).2.1.trans (final6 m c), (h c).2.2.1.trans (final7 m c), (h c).2.2.2⟩)
      (Cert.MlpInKernelIdeal.Value.run_blocks (F := Ideal) m ρ)
  · refine (θ_run Cert.MlpInReferenceIdeal.defs _ _).mono
      (fun _ h c => ⟨(h c).1.trans ?_, (h c).2.1.trans ?_, (h c).2.2.1.trans ?_, (h c).2.2.2⟩)
      (Cert.MlpInReferenceIdeal.Value.run (F := Ideal) m' ρ')
    all_goals obtain ⟨p0, p1, p2, p3⟩ := pre_real m hpre c
    · refine (Cert.MlpInReferenceIdeal.Read.val_main_v38_eq m' c).trans ?_
      rw [(hag c).1, (hag c).2.1, (hag c).2.2.1, (hag c).2.2.2.1, (hag c).2.2.2.2]
      exact ref_dx _ _ _ _ _ p0 p1 p2 p3
    · refine (Cert.MlpInReferenceIdeal.Read.val_main_v39_eq m' c).trans ?_
      rw [(hag c).1, (hag c).2.1, (hag c).2.2.1, (hag c).2.2.2.1, (hag c).2.2.2.2]
      exact ref_dx _ _ _ _ _ p0 p1 p2 p3
    · refine (Cert.MlpInReferenceIdeal.Read.val_main_v40_eq _ _ _).trans ?_
      rw [(hag c).1, (hag c).2.1, (hag c).2.2.1]
      exact ref_dg _ _ _

end Cert.MlpInKernelIdeal.RefValue
-- ==== Proof.MixInValue.lean ====
/-
  The product with the input projection of the mixing layer, backwards, fused with the gradient of the norm in front of it: what the
  call leaves in its three result arrays, and that the derivative of the plain forward lines is the same arrays.
-/
module
public import proofs.«01_k».proof.Proof.Gen.MixInKernelIdeal.Value
public import proofs.«01_k».proof.Proof.Gen.MixInReferenceIdeal.Read
public import proofs.«01_k».proof.Proof.NormGrad
public import Idealize.ShloMosaic.Lib.Pipeline.ValueKit
public import Idealize.ShloMosaic.Lib.Pointwise
public import Idealize.ShloMosaic.Lib.Claim
@[expose] public section
set_option maxRecDepth 16384
noncomputable section

open Idealize.ShloMosaic Idealize.ShloMosaic.TcCoe Idealize.SL.Sem
open Idealize.ShloMosaic.Pipeline (Dat)
namespace Cert.MixInKernelIdeal.RefValue
open Cert.MixInKernelIdeal Cert.MixInKernelIdeal.Gen
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![t.val, 0] ∧ win0_6.index t = ![0, 0]
    ∧ win0_7.index t = ![t.val, 0] ∧ win0_8.index t = ![t.val, 0] ∧ win0_9.index t = ![t.val, 0] :=
  (by decide +kernel : ∀ t : Fin grid0.N, _)

open Cert.Reals Cert.NormGrad

/-- The gradient that reaches the norm: a row of the cotangent, which comes in four parts, times the weight. -/
def dh (dq : FVec Ideal S8192x512 .f32) (dkv : FVec Ideal S8192x256 .f32) (du dgt : FVec Ideal S8192x512 .f32) (w : FVec Ideal S1024x1792 .f32)
    (r : Fin 8192) (l : Fin 1024) : EReal :=
  ∑ k : Fin 512, dq (ix2 r k) * w (ix2 l ⟨k.val, by omega⟩)
    + ∑ k : Fin 256, dkv (ix2 r k) * w (ix2 l ⟨512 + k.val, by omega⟩)
    + ∑ k : Fin 512, du (ix2 r k) * w (ix2 l ⟨768 + k.val, by omega⟩)
    + ∑ k : Fin 512, dgt (ix2 r k) * w (ix2 l ⟨1280 + k.val, by omega⟩)

/-- The gradient with respect to the norm's input. -/
def dxArr (dq : FVec Ideal S8192x512 .f32) (dkv : FVec Ideal S8192x256 .f32) (du dgt : FVec Ideal S8192x512 .f32) (w : FVec Ideal S1024x1792 .f32) (x : FVec Ideal S8192x1024 .f32)
    (g : FVec Ideal S1024 .f32) (gr : FVec Ideal S8192x1024 .f32) : FVec Ideal S8192x1024 .f32 := fun i =>
  grad (gr (ix2 (i 0) (i 1))) (fun k => x (ix2 (i 0) k)) (fun k => dh dq dkv du dgt w (i 0) k) (fun k => g (ix1 k)) (i 1)

/-- A row's part of the gradient with respect to the norm's weight. -/
def dgTerm (dq : FVec Ideal S8192x512 .f32) (dkv : FVec Ideal S8192x256 .f32) (du dgt : FVec Ideal S8192x512 .f32) (w : FVec Ideal S1024x1792 .f32) (x : FVec Ideal S8192x1024 .f32)
    (r : Fin 8192) (l : Fin 1024) : EReal :=
  dh dq dkv du dgt w r l * (x (ix2 r l) * invRms (fun k => x (ix2 r k)))

/-- The gradient with respect to the norm's weight: the sum over the rows. -/
def dgArr (dq : FVec Ideal S8192x512 .f32) (dkv : FVec Ideal S8192x256 .f32) (du dgt : FVec Ideal S8192x512 .f32) (w : FVec Ideal S1024x1792 .f32) (x : FVec Ideal S8192x1024 .f32) :
    FVec Ideal S1x1024 .f32 := fun i => ∑ r : Fin 8192, dgTerm dq dkv du dgt w x r (i 1)

theorem lt16 (t : Fin cfg0.N) : t.val < 16 := lt_of_lt_of_eq t.isLt (show cfg0.N = 16 from N_0)

/-- The row of the arrays that row `r` of the block at point `t` is. -/
abbrev row (t : Fin cfg0.N) (r : Fin 512) : Fin 8192 := ⟨t.val * 512 + r.val, by have := lt16 t; omega⟩

/-- The blocks of a point, read at an index. -/
theorem blk0 (c : Dev nD) (t : Fin cfg0.N) (r : Fin 512) (k : Fin 512) :
    iblk m c 0 t (ix2 r k) = m ((c : Thread nD τ).loc main_arg0) (ix2 (row t r) k) := by
  blk_point [iblk, V, idx t]

theorem blk1 (c : Dev nD) (t : Fin cfg0.N) (r : Fin 512) (k : Fin 256) :
    iblk m c 1 t (ix2 r k) = m ((c : Thread nD τ).loc main_arg1) (ix2 (row t r) k) := by
  blk_point [iblk, V, idx t]

theorem blk2 (c : Dev nD) (t : Fin cfg0.N) (r : Fin 512) (k : Fin 512) :
    iblk m c 2 t (ix2 r k) = m ((c : Thread nD τ).loc main_arg2) (ix2 (row t r) k) := by
  blk_point [iblk, V, idx t]

theorem blk3 (c : Dev nD) (t : Fin cfg0.N) (r : Fin 512) (k : Fin 512) :
    iblk m c 3 t (ix2 r k) = m ((c : Thread nD τ).loc main_arg3) (ix2 (row t r) k) := by
  blk_point [iblk, V, idx t]

theorem blk4 (c : Dev nD) (t : Fin cfg0.N) (l : Fin 1024) (k : Fin 1792) :
    iblk m c 4 t (ix3 0 l k) = m ((c : Thread nD τ).loc main_arg4) (ix2 l k) := by
  blk_point [iblk, V, idx t]

theorem blk5 (c : Dev nD) (t : Fin cfg0.N) (r : Fin 512) (k : Fin 1024) :
    iblk m c 5 t (ix2 r k) = m ((c : Thread nD τ).loc main_arg5) (ix2 (row t r) k) := by
  blk_point [iblk, V, idx t]

theorem blk6 (c : Dev nD) (t : Fin cfg0.N) (k : Fin 1024) :
    iblk m c 6 t (ix2 0 k) = m ((c : Thread nD τ).loc main_arg6) (ix1 k) := by
  blk_point [iblk, V, idx t]

theorem blk7 (c : Dev nD) (t : Fin cfg0.N) (r : Fin 512) (k : Fin 1024) :
    iblk m c 7 t (ix2 r k) = m ((c : Thread nD τ).loc main_arg7) (ix2 (row t r) k) := by
  blk_point [iblk, V, idx t]

/-- The gradient that reaches the norm, at a row of a point's block. -/
def dhBlk (a : FVec Ideal S512x512 .bf16) (b : FVec Ideal S512x256 .bf16) (d e : FVec Ideal S512x512 .bf16)
    (w : FVec Ideal S1x1024x1792 .bf16) (r : Fin 512) (l : Fin 1024) : EReal :=
  ∑ k : Fin 512, a (ix2 r k) * w (ix3 0 l ⟨k.val, by omega⟩)
    + ∑ k : Fin 256, b (ix2 r k) * w (ix3 0 l ⟨512 + k.val, by omega⟩)
    + ∑ k : Fin 512, d (ix2 r k) * w (ix3 0 l ⟨768 + k.val, by omega⟩)
    + ∑ k : Fin 512, e (ix2 r k) * w (ix3 0 l ⟨1280 + k.val, by omega⟩)

theorem dhBlk_eq (c : Dev nD) (t : Fin cfg0.N) (r : Fin 512) (l : Fin 1024) :
    dhBlk (iblk m c 0 t) (iblk m c 1 t) (iblk m c 2 t) (iblk m c 3 t) (iblk m c 4 t) r l
      = dh (m ((c : Thread nD τ).loc main_arg0)) (m ((c : Thread nD τ).loc main_arg1)) (m ((c : Thread nD τ).loc main_arg2)) (m ((c : Thread nD τ).loc main_arg3)) (m ((c : Thread nD τ).loc main_arg4)) (row t r) l := by
  simp only [dhBlk, dh, blk0, blk1, blk2, blk3, blk4]

/-- What a point leaves in its block of the gradient. -/
theorem point8 (c : Dev nD) (t : Fin cfg0.N) (y) : (outsAt0 m c t.val t.isLt).1 y
    = dxArr (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (((cfg0.win 8).blk t).view.emb y) := by
  have hN := lt16 t
  idx_vars y
  have e : ((cfg0.win 8).blk t).view.emb (ix2 y0 y1) = ix2 (row t y0) y1 := by blk_ext [idx t]
  rw [e]
  by_cases h : t.val % 16 = 0
  · rw [outsAt0_A m c t h (by omega)]
    frame_out
    unfold_payloads
    pointwise [dxArr, grad, invRms, meanSq]
    simp only [← dhBlk_eq, dhBlk, blk5, blk6, blk7]
  · rw [outsAt0_B m c t h (by omega)]
    frame_out
    unfold_payloads
    pointwise [dxArr, grad, invRms, meanSq]
    simp only [← dhBlk_eq, dhBlk, blk5, blk6, blk7]

/-- The same at the rounded copy. -/
theorem point9 (c : Dev nD) (t : Fin cfg0.N) (y) : (outsAt0 m c t.val t.isLt).2.1 y
    = dxArr (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (((cfg0.win 9).blk t).view.emb y) := by
  have hN := lt16 t
  idx_vars y
  have e : ((cfg0.win 9).blk t).view.emb (ix2 y0 y1) = ix2 (row t y0) y1 := by blk_ext [idx t]
  rw [e]
  by_cases h : t.val % 16 = 0
  · rw [outsAt0_A m c t h (by omega)]
    frame_out
    unfold_payloads
    pointwise [dxArr, grad, invRms, meanSq]
    simp only [← dhBlk_eq, dhBlk, blk5, blk6, blk7]
  · rw [outsAt0_B m c t h (by omega)]
    frame_out
    unfold_payloads
    pointwise [dxArr, grad, invRms, meanSq]
    simp only [← dhBlk_eq, dhBlk, blk5, blk6, blk7]

/-- A point's part of the weight's gradient. -/
def dgPart (c : Dev nD) (t : Fin cfg0.N) (l : Fin 1024) : EReal :=
  ∑ r : Fin 512, dgTerm (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (row t r) l

/-- The weight's gradient is cleared at the first point and added to at the others. -/
theorem step10_A (c : Dev nD) (t : Fin cfg0.N) (h : t.val % 16 = 0) (y : S1x1024.Idx) :
    (outsAt0 m c t.val t.isLt).2.2 y = 0 + dgPart m c t (y 1) := by
  have hN := lt16 t
  idx_vars y
  rw [outsAt0_A m c t h (by omega)]
  frame_out
  unfold_payloads
  pointwise [dgPart, dgTerm, invRms, meanSq]
  simp only [← dhBlk_eq, dhBlk, blk5]

theorem step10_B (c : Dev nD) (t : Fin cfg0.N) (h : ¬t.val % 16 = 0) (y : S1x1024.Idx) :
    (outsAt0 m c t.val t.isLt).2.2 y
      = (outsAt0 m c (t.val - 1) (Nat.lt_of_le_of_lt (Nat.sub_le _ _) t.isLt)).2.2 y + dgPart m c t (y 1) := by
  have hN := lt16 t
  rw [outsAt0_B m c t h (by omega)]
  frame_out
  generalize (outsAt0 m c (t.val - 1) _).2.2 = z
  idx_vars y
  unfold_payloads
  pointwise [dgPart, dgTerm, invRms, meanSq]
  simp only [← dhBlk_eq, dhBlk, blk5]

/-- The kernel's three result arrays after the run. -/
theorem final8 (c : Dev nD) : (dats m 0 c).arrAt 8 cfg0.N
    = dxArr (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  exact point8 m c t y

theorem final9 (c : Dev nD) : (dats m 0 c).arrAt 9 cfg0.N
    = dxArr (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  exact point9 m c t y

theorem final10 (c : Dev nD) : (dats m 0 c).arrAt 10 cfg0.N
    = dgArr (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_after_last 10 t0_15 (by decide +kernel) _ fun j => ?_
  blk_simp
  rw [after0_10]
  rw [Pipeline.eq_sum_fin_of_reset_step_apply_last (fun n h => (outsAt0 m c n h).2.2) 16 (fun _ => 0)
    (fun t y => dgPart m c t (y 1)) (step10_A m c) (step10_B m c) (le_of_eq N_0) t0_15 rfl j, zero_add]
  simp only [dgPart, dgArr]
  exact Fin.sum_mul_add_congr fun t r h => rfl

open Cert.MixInReferenceIdeal.Read

/-- A row of the joined cotangent times the weight: the four parts. -/
theorem dh_eq (dq : FVec Ideal S8192x512 .f32) (dkv : FVec Ideal S8192x256 .f32) (du dgt : FVec Ideal S8192x512 .f32) (w : FVec Ideal S1024x1792 .f32)
    (z : FVec Ideal Cert.MixInReferenceIdeal.S8192x1792 .f32) (hz : val_main_v0 (F := Ideal) dq dkv du dgt = z)
    (r : Fin 8192) (l : Fin 1024) :
    ∑ k : Fin 1792, z (ix2 r k) * w (ix2 l k) = dh dq dkv du dgt w r l := by
  subst hz
  rw [Fin.sum_univ_two_halves 1280 512 rfl, Fin.sum_univ_two_halves 768 512 rfl, Fin.sum_univ_two_halves 512 256 rfl]
  pointwise [val_main_v0, dh]
  refine congrArg₂ (· + ·) (congrArg₂ (· + ·) (congrArg₂ (· + ·) ?_ ?_) ?_) ?_ <;> refine Finset.sum_congr rfl fun k _ => ?_
  · rfl
  · rfl
  · rw [dif_neg (by omega), dif_neg (by omega), dif_pos (by omega)]
    congr
    omega
  · rw [dif_neg (by omega), dif_neg (by omega), dif_neg (by omega)]
    congr
    omega

/-- The reference's gradient with respect to the norm's input, on real arrays. -/
theorem ref_dx (dq : FVec Ideal S8192x512 .f32) (dkv : FVec Ideal S8192x256 .f32) (du dgt : FVec Ideal S8192x512 .f32) (w : FVec Ideal S1024x1792 .f32) (x : FVec Ideal S8192x1024 .f32)
    (g : FVec Ideal S1024 .f32) (gr : FVec Ideal S8192x1024 .f32) (hq : ∀ i, ∃ a : ℝ, dq i = a) (hkv : ∀ i, ∃ a : ℝ, dkv i = a)
    (hu : ∀ i, ∃ a : ℝ, du i = a) (hgt : ∀ i, ∃ a : ℝ, dgt i = a) (hw : ∀ i, ∃ a : ℝ, w i = a)
    (hx : ∀ i, ∃ a : ℝ, x i = a) (hg : ∀ i, ∃ a : ℝ, g i = a) :
    val_main_v39 (F := Ideal) dq dkv du dgt w x g gr = dxArr dq dkv du dgt w x g gr := by
  funext j
  idx_vars j
  have hd : ∀ k, ∃ a : ℝ, dh dq dkv du dgt w j0 k = a := fun k =>
    real_add (real_add (real_add (real_sum _ fun i => real_mul (hq _) (hw _)) (real_sum _ fun i => real_mul (hkv _) (hw _)))
      (real_sum _ fun i => real_mul (hu _) (hw _))) (real_sum _ fun i => real_mul (hgt _) (hw _))
  refine Eq.trans ?_ (chain_eq (gr (ix2 j0 j1)) (fun k => hx (ix2 j0 k)) hd (fun k => hg (ix1 k)) j1)
  pointwise [val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_v31, val_main_cst_6, val_main_v32, val_main_v33, val_main_cst_7, val_main_v34, val_main_v35, val_main_v36, val_main_v37, val_main_v38, val_main_v39, val_main_v40, val_main_v41, chain, through, invRms, meanSq]
  generalize hz : val_main_v0 (F := Ideal) dq dkv du dgt = z
  simp only [dh_eq _ _ _ _ _ z hz, Finset.univ_unique, Finset.sum_singleton]

/-- The reference's gradient with respect to the norm's weight. -/
theorem ref_dg (dq : FVec Ideal S8192x512 .f32) (dkv : FVec Ideal S8192x256 .f32) (du dgt : FVec Ideal S8192x512 .f32) (w : FVec Ideal S1024x1792 .f32) (x : FVec Ideal S8192x1024 .f32) :
    val_main_v41 (F := Ideal) dq dkv du dgt w x = dgArr dq dkv du dgt w x := by
  funext j
  idx_vars j
  pointwise [val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_v31, val_main_cst_6, val_main_v32, val_main_v33, val_main_cst_7, val_main_v34, val_main_v35, val_main_v36, val_main_v37, val_main_v38, val_main_v39, val_main_v40, val_main_v41, dgArr, dgTerm, invRms, meanSq]
  generalize hz : val_main_v0 (F := Ideal) dq dkv du dgt = z
  simp only [dh_eq _ _ _ _ _ z hz, Finset.univ_unique, Finset.sum_singleton]
  exact Finset.sum_congr rfl fun r _ => mul_comm _ _

end Cert.MixInKernelIdeal.RefValue
-- ==== Proof.MixInClaim.lean ====
/-
  The claims about the product with the input projection of the mixing layer, backwards, with the norm's gradient.
-/
module

public import proofs.«01_k».proof.Defs
public import proofs.«01_k».proof.Proof.MixInValue
public import proofs.«01_k».proof.Proof.Gen.MixInKernelIdeal
public import proofs.«01_k».proof.Proof.Gen.MixInReferenceIdeal
public import proofs.«01_k».proof.Proof.Gen.Pre_finite_mixin

@[expose] public section

set_option maxRecDepth 16384

noncomputable section

open Idealize.ShloMosaic Idealize.ShloMosaic.TcCoe Idealize.SL.Sem

namespace Cert.MixInKernelIdeal.RefValue

/-- What the precondition says: every array but the gradient that comes past the norm holds real numbers. -/
theorem pre_real (m : (ℓ : Loc Cert.MixInKernelIdeal.nD Cert.MixInKernelIdeal.τ Cert.MixInKernelIdeal.sig) → Buf (Elt Ideal) ℓ)
    (h : Cert.Pre_MixInKernelIdeal_finite_mixin m) (c : Dev Cert.MixInKernelIdeal.nD) :
    (∀ i, ∃ a : ℝ, m ((c : Thread nD τ).loc main_arg0) i = (a : EReal))
      ∧ (∀ i, ∃ a : ℝ, m ((c : Thread nD τ).loc main_arg1) i = (a : EReal))
      ∧ (∀ i, ∃ a : ℝ, m ((c : Thread nD τ).loc main_arg2) i = (a : EReal))
      ∧ (∀ i, ∃ a : ℝ, m ((c : Thread nD τ).loc main_arg3) i = (a : EReal))
      ∧ (∀ i, ∃ a : ℝ, m ((c : Thread nD τ).loc main_arg4) i = (a : EReal))
      ∧ (∀ i, ∃ a : ℝ, m ((c : Thread nD τ).loc main_arg5) i = (a : EReal))
      ∧ (∀ i, ∃ a : ℝ, m ((c : Thread nD τ).loc main_arg6) i = (a : EReal)) := by
  obtain ⟨h0, h1, h2, h3, h4, h5, h6⟩ := h c
  exact ⟨fun i => Cert.Reals.of_abs_lt (congrFun h0 i),
    fun i => Cert.Reals.of_abs_lt (congrFun h1 i),
    fun i => Cert.Reals.of_abs_lt (congrFun h2 i),
    fun i => Cert.Reals.of_abs_lt (congrFun h3 i),
    fun i => Cert.Reals.of_abs_lt (congrFun h4 i),
    fun i => Cert.Reals.of_abs_lt (congrFun h5 i),
    fun i => Cert.Reals.of_abs_lt (congrFun h6 i)⟩

theorem frame_ref : Cert.quiescent_MixInReferenceIdeal := fun m ρ _ =>
  (θ_run Cert.MixInReferenceIdeal.defs _ _).mono
    (fun r h => ⟨fun c => (h c).2.2.2, sem_eq_zero_of_no_sems (by decide) r.2⟩)
    (Cert.MixInReferenceIdeal.Value.run (F := Ideal) m ρ)

/-- On real arrays the kernel leaves the derivative of the plain forward lines. -/
theorem algebraic : Cert.algebraic_MixInKernelIdeal_MixInReferenceIdeal_pre_finite_mixin := by
  intro m ρ m' ρ' hpre hag
  refine ⟨fun c => dxArr (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)),
    fun c => dxArr (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)),
    fun c => dgArr (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)), ?_, ?_⟩
  · exact (θ_run Cert.MixInKernelIdeal.defs _ _).mono
      (fun _ h c => ⟨(h c).1.trans (final8 m c), (h c).2.1.trans (final9 m c), (h c).2.2.1.trans (final10 m c), (h c).2.2.2⟩)
      (Cert.MixInKernelIdeal.Value.run_blocks (F := Ideal) m ρ)
  · refine (θ_run Cert.MixInReferenceIdeal.defs _ _).mono
      (fun _ h c => ⟨(h c).1.trans ?_, (h c).2.1.trans ?_, (h c).2.2.1.trans ?_, (h c).2.2.2⟩)
      (Cert.MixInReferenceIdeal.Value.run (F := Ideal) m' ρ')
    all_goals obtain ⟨p0, p1, p2, p3, p4, p5, p6⟩ := pre_real m hpre c
    · refine (Cert.MixInReferenceIdeal.Read.val_main_v39_eq m' c).trans ?_
      rw [(hag c).1, (hag c).2.1, (hag c).2.2.1, (hag c).2.2.2.1, (hag c).2.2.2.2.1, (hag c).2.2.2.2.2.1, (hag c).2.2.2.2.2.2.1, (hag c).2.2.2.2.2.2.2]
      exact ref_dx _ _ _ _ _ _ _ _ p0 p1 p2 p3 p4 p5 p6
    · refine (Cert.MixInReferenceIdeal.Read.val_main_v40_eq m' c).trans ?_
      rw [(hag c).1, (hag c).2.1, (hag c).2.2.1, (hag c).2.2.2.1, (hag c).2.2.2.2.1, (hag c).2.2.2.2.2.1, (hag c).2.2.2.2.2.2.1, (hag c).2.2.2.2.2.2.2]
      exact ref_dx _ _ _ _ _ _ _ _ p0 p1 p2 p3 p4 p5 p6
    · refine (Cert.MixInReferenceIdeal.Read.val_main_v41_eq _ _ _ _ _ _).trans ?_
      rw [(hag c).1, (hag c).2.1, (hag c).2.2.1, (hag c).2.2.2.1, (hag c).2.2.2.2.1, (hag c).2.2.2.2.2.1]
      exact ref_dg _ _ _ _ _ _

end Cert.MixInKernelIdeal.RefValue
-- ==== Proof.AttnRunA.lean ====
/- The attention backward body, run at the first point of its grid. -/
module

public import proofs.«01_k».proof.Proof.Gen.AttnKernelIdeal.Frame
public import proofs.«01_k».proof.Proof.Gen.AttnKernelIdeal.Skeleton

@[expose] public section

set_option maxRecDepth 16384

noncomputable section

namespace Cert.AttnKernelIdeal.AttnRun

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at the first point: pieces for the outputs and the two carried buffers, everything else at anything. -/
noncomputable def runA (c : Dev nD) (i : grid0.Coords) (arg1 : Memref sig .tc .vmem S512x512 .f32) (harg1 : arg1.IsWhole) (arg2 : Memref sig .tc .vmem S512x128 .f32) (harg2 : arg2.IsWhole) (arg3 : Memref sig .tc .vmem S128x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S512x512 .f32) (harg6 : arg6.IsWhole) (arg7 : Memref sig .tc .vmem S2x512x128 .f32) (harg7 : arg7.IsWhole) (arg8 : Memref sig .tc .vmem S2x512x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S512x512 .bf16) (harg11 : arg11.IsWhole) (arg12 : Memref sig .tc .vmem S512x256 .bf16) (harg12 : arg12.IsWhole) (arg13 : Memref sig .tc .vmem S2x512x128 .f32) (harg13 : arg13.IsWhole) (arg14 : Memref sig .tc .vmem S8x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (hc0 : k0_cond1 i = 1#1) (hc1 : k0_cond2 i = 1#1) (hc2 : ¬k0_cond3 i = 1#1)
    (x0 : Vec F S512x512 .f32) (x1 : Vec F S512x128 .f32) (x2 : Vec F S128x128 .f32) (x3 : Vec F S512x128 .f32) (x4 : Vec F S128x128 .f32) (x5 : Vec F S512x512 .f32) (x6 : Vec F S2x512x128 .f32) (x7 : Vec F S2x512x1 .f32) (x8 : Vec F S1x64 .f32) (x9 : Vec F S1x64 .f32) :
    Σ' (L10 : List (View.Piece (Elt F) S512x512 .bf16)), Σ' (L11 : List (View.Piece (Elt F) S512x256 .bf16)), Σ' (L12 : List (View.Piece (Elt F) S2x512x128 .f32)), Σ' (L13 : List (View.Piece (Elt F) S8x128 .f32)), Σ' (L14 : List (View.Piece (Elt F) S128x128 .f32)), { L15 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    simp only [cc0_attn_bwd_eq_skeleton]; unfold cc0_attn_bwd_skel
    simp only [k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

end Cert.AttnKernelIdeal.AttnRun

end
-- ==== Proof.AttnRunB.lean ====
/- The attention backward body, run at the points between of its grid. -/
module

public import proofs.«01_k».proof.Proof.Gen.AttnKernelIdeal.Frame
public import proofs.«01_k».proof.Proof.Gen.AttnKernelIdeal.Skeleton
public import proofs.«01_k».proof.Proof.AttnRunA

@[expose] public section

set_option maxRecDepth 16384

noncomputable section

namespace Cert.AttnKernelIdeal.AttnRun

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at the points between: the accumulated outputs and the carried buffers at what the point before left. -/
noncomputable def runB (c : Dev nD) (i : grid0.Coords) (arg1 : Memref sig .tc .vmem S512x512 .f32) (harg1 : arg1.IsWhole) (arg2 : Memref sig .tc .vmem S512x128 .f32) (harg2 : arg2.IsWhole) (arg3 : Memref sig .tc .vmem S128x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S512x512 .f32) (harg6 : arg6.IsWhole) (arg7 : Memref sig .tc .vmem S2x512x128 .f32) (harg7 : arg7.IsWhole) (arg8 : Memref sig .tc .vmem S2x512x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S512x512 .bf16) (harg11 : arg11.IsWhole) (arg12 : Memref sig .tc .vmem S512x256 .bf16) (harg12 : arg12.IsWhole) (arg13 : Memref sig .tc .vmem S2x512x128 .f32) (harg13 : arg13.IsWhole) (arg14 : Memref sig .tc .vmem S8x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (hc0 : ¬k0_cond1 i = 1#1) (hc1 : k0_cond2 i = 1#1) (hc2 : k0_cond3 i = 1#1)
    (x0 : Vec F S512x512 .f32) (x1 : Vec F S512x128 .f32) (x2 : Vec F S128x128 .f32) (x3 : Vec F S512x128 .f32) (x4 : Vec F S128x128 .f32) (x5 : Vec F S512x512 .f32) (x6 : Vec F S2x512x128 .f32) (x7 : Vec F S2x512x1 .f32) (x8 : Vec F S1x64 .f32) (x9 : Vec F S1x64 .f32) (x12 : Vec F S2x512x128 .f32) (x13 : Vec F S8x128 .f32) (x14 : Vec F S128x128 .f32) (x15 : Vec F S128x128 .f32) :
    Σ' (L10 : List (View.Piece (Elt F) S512x512 .bf16)), Σ' (L11 : List (View.Piece (Elt F) S512x256 .bf16)), Σ' (L12 : List (View.Piece (Elt F) S2x512x128 .f32)), Σ' (L13 : List (View.Piece (Elt F) S8x128 .f32)), Σ' (L14 : List (View.Piece (Elt F) S128x128 .f32)), { L15 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread x12) L12) ∗ (arg14.view.loc (c : Thread nD τ) ↦[arg14.view.set]{fullShare} arg14.view.writes (Elt F) (harg14.unread x13) L13) ∗ (arg15.view.loc (c : Thread nD τ) ↦[arg15.view.set]{fullShare} arg15.view.writes (Elt F) (harg15.unread x14) L14) ∗ (arg16.view.loc (c : Thread nD τ) ↦[arg16.view.set]{fullShare} arg16.view.writes (Elt F) (harg16.unread x15) L15) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    simp only [cc0_attn_bwd_eq_skeleton]; unfold cc0_attn_bwd_skel
    simp only [k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg13.eq_unread hf12
    obtain rfl := harg14.eq_unread hf13
    obtain rfl := harg15.eq_unread hf14
    obtain rfl := harg16.eq_unread hf15
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexact H12
    isplitl [H13]; · iexact H13
    isplitl [H14]; · iexact H14
    isplitl [H15]; · iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

end Cert.AttnKernelIdeal.AttnRun

end
-- ==== Proof.AttnRunC.lean ====
/- The attention backward body, run at the last point of its grid. -/
module

public import proofs.«01_k».proof.Proof.Gen.AttnKernelIdeal.Frame
public import proofs.«01_k».proof.Proof.Gen.AttnKernelIdeal.Skeleton
public import proofs.«01_k».proof.Proof.AttnRunB

@[expose] public section

set_option maxRecDepth 16384

noncomputable section

namespace Cert.AttnKernelIdeal.AttnRun

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at the last point: only the keys' and values' spare block and the small gradients are stored. -/
noncomputable def runC (c : Dev nD) (i : grid0.Coords) (arg1 : Memref sig .tc .vmem S512x512 .f32) (harg1 : arg1.IsWhole) (arg2 : Memref sig .tc .vmem S512x128 .f32) (harg2 : arg2.IsWhole) (arg3 : Memref sig .tc .vmem S128x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S512x512 .f32) (harg6 : arg6.IsWhole) (arg7 : Memref sig .tc .vmem S2x512x128 .f32) (harg7 : arg7.IsWhole) (arg8 : Memref sig .tc .vmem S2x512x1 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S512x512 .bf16) (harg11 : arg11.IsWhole) (arg12 : Memref sig .tc .vmem S512x256 .bf16) (harg12 : arg12.IsWhole) (arg13 : Memref sig .tc .vmem S2x512x128 .f32) (harg13 : arg13.IsWhole) (arg14 : Memref sig .tc .vmem S8x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (hc0 : ¬k0_cond1 i = 1#1) (hc1 : ¬k0_cond2 i = 1#1) (hc2 : k0_cond3 i = 1#1)
    (x0 : Vec F S512x512 .f32) (x1 : Vec F S512x128 .f32) (x2 : Vec F S128x128 .f32) (x3 : Vec F S512x128 .f32) (x4 : Vec F S128x128 .f32) (x5 : Vec F S512x512 .f32) (x6 : Vec F S2x512x128 .f32) (x7 : Vec F S2x512x1 .f32) (x8 : Vec F S1x64 .f32) (x9 : Vec F S1x64 .f32) (x10 : Vec F S512x512 .bf16) (x12 : Vec F S2x512x128 .f32) (x13 : Vec F S8x128 .f32) (x14 : Vec F S128x128 .f32) (x15 : Vec F S128x128 .f32) :
    Σ' (L11 : List (View.Piece (Elt F) S512x256 .bf16)), { L13 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ owns (c : Thread nD τ) arg13 fullShare x12 ∗ (arg14.view.loc (c : Thread nD τ) ↦[arg14.view.set]{fullShare} arg14.view.writes (Elt F) (harg14.unread x13) L13) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun E K => ?run⟩
  case run =>
    simp only [cc0_attn_bwd_eq_skeleton]; unfold cc0_attn_bwd_skel
    simp only [k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg13.eq_unread hf12
    obtain rfl := harg14.eq_unread hf13
    obtain rfl := harg15.eq_unread hf14
    obtain rfl := harg16.eq_unread hf15
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]
    · iexists _; isplitr; · ipureintro; exact harg13.read_unread _
      iexact H12
    isplitl [H13]; · iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

end Cert.AttnKernelIdeal.AttnRun

end
-- ==== Proof.AttnFrame.lean ====
/- The attention backward kernel along its grid: what its outputs and its two carried buffers hold after each point, the
   obligation of the body at a point, and the run of the whole launch. The keys' and values' gradient is held to a
   relation only, since the last block it writes back is stored in part. -/
module

public import proofs.«01_k».proof.Proof.AttnRunA
public import proofs.«01_k».proof.Proof.AttnRunB
public import proofs.«01_k».proof.Proof.AttnRunC
public import Idealize.ShloMosaic.Lib.Pipeline.ValueKit
public import Idealize.ShloMosaic.Lib.Pipeline.DatRel
public import Idealize.ShloMosaic.Lib.Claim

@[expose] public section

set_option maxRecDepth 16384

noncomputable section

namespace Cert.AttnKernelIdeal.AttnFrame

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-! ## The points -/

/-- The first point starts the sums. -/
theorem cond1_iff : ∀ t : Fin cfg0.N, k0_cond1 (grid0.coords t) = 1#1 ↔ t.val = 0 :=
  (by decide +kernel : ∀ t : Fin grid0.N, k0_cond1 (grid0.coords t) = 1#1 ↔ t.val = 0)

/-- Every point but the last works on a block of queries. -/
theorem cond2_iff : ∀ t : Fin cfg0.N, k0_cond2 (grid0.coords t) = 1#1 ↔ t.val < 16 :=
  (by decide +kernel : ∀ t : Fin grid0.N, k0_cond2 (grid0.coords t) = 1#1 ↔ t.val < 16)

/-- Every point but the first finishes what the point before carried over. -/
theorem cond3_iff : ∀ t : Fin cfg0.N, k0_cond3 (grid0.coords t) = 1#1 ↔ 1 ≤ t.val :=
  (by decide +kernel : ∀ t : Fin grid0.N, k0_cond3 (grid0.coords t) = 1#1 ↔ 1 ≤ t.val)

theorem lt_17 (t : Fin cfg0.N) : t.val < 17 := lt_of_lt_of_eq t.isLt (show cfg0.N = 17 from N_0)

/-! ## The three runs at a point -/

/-- What is handed from point to point: the queries' block, the bias sums, the small sums, and the keys' and values'
    gradients carried over to the next point. -/
structure St (F : FTy → Type) where
  q : Vec F S512x512 .bf16
  b : Vec F S2x512x128 .f32
  s : Vec F S8x128 .f32
  k : Vec F S128x128 .f32
  v : Vec F S128x128 .f32

/-- The run of the first point, on that point's buffers and blocks. -/
abbrev outA (c : Dev nD) (t : Fin cfg0.N) (h : t.val = 0) := AttnRun.runA (F := F) c (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    ((cond1_iff t).mpr h) ((cond2_iff t).mpr (by omega)) (fun e => absurd ((cond3_iff t).mp e) (by omega))
    (X0_0 m c t) (iblk m c 1 t) (iblk m c 2 t) (iblk m c 3 t) (iblk m c 4 t) (iblk m c 5 t) (iblk m c 6 t) (iblk m c 7 t) (iblk m c 8 t) (iblk m c 9 t)

/-- The run of a point between, after what the point before handed on. -/
abbrev outB (c : Dev nD) (t : Fin cfg0.N) (h : t.val ≠ 0) (h' : t.val < 16) (p : St F) := AttnRun.runB (F := F) c (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (fun e => h ((cond1_iff t).mp e)) ((cond2_iff t).mpr h') ((cond3_iff t).mpr (by omega))
    (X0_0 m c t) (iblk m c 1 t) (iblk m c 2 t) (iblk m c 3 t) (iblk m c 4 t) (iblk m c 5 t) (iblk m c 6 t) (iblk m c 7 t) (iblk m c 8 t) (iblk m c 9 t) p.b p.s p.k p.v

/-- The run of the last point, after what the point before handed on. -/
abbrev outC (c : Dev nD) (t : Fin cfg0.N) (h : ¬t.val < 16) (p : St F) := AttnRun.runC (F := F) c (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (fun e => absurd ((cond1_iff t).mp e) (by omega)) (fun e => h ((cond2_iff t).mp e)) ((cond3_iff t).mpr (by omega))
    (X0_0 m c t) (iblk m c 1 t) (iblk m c 2 t) (iblk m c 3 t) (iblk m c 4 t) (iblk m c 5 t) (iblk m c 6 t) (iblk m c 7 t) (iblk m c 8 t) (iblk m c 9 t) p.q p.b p.s p.k p.v

/-- After the first point: every buffer is covered by that point's stores. -/
def stA (c : Dev nD) (t : Fin cfg0.N) (h : t.val = 0) : St F where
  q := View.canon (outA m c t h).1
  b := View.canon (outA m c t h).2.2.1
  s := View.canon (outA m c t h).2.2.2.1
  k := View.canon (outA m c t h).2.2.2.2.1
  v := View.canon (outA m c t h).2.2.2.2.2.val

/-- After a point between: the sums are updated where they stand. -/
def stB (c : Dev nD) (t : Fin cfg0.N) (h : t.val ≠ 0) (h' : t.val < 16) (p : St F) : St F where
  q := View.canon (outB m c t h h' p).1
  b := (win0_12.stage (cfg0.slots t 12)).view.read (Elt F) ((win0_12.stage (cfg0.slots t 12)).view.writes (Elt F) ((hstage0_12 ((cfg0.slots t 12).cast nbuf0_12)).unread p.b) (outB m c t h h' p).2.2.1)
  s := (win0_13.stage (cfg0.slots t 13)).view.read (Elt F) ((win0_13.stage (cfg0.slots t 13)).view.writes (Elt F) ((hstage0_13 ((cfg0.slots t 13).cast nbuf0_13)).unread p.s) (outB m c t h h' p).2.2.2.1)
  k := View.canon (outB m c t h h' p).2.2.2.2.1
  v := View.canon (outB m c t h h' p).2.2.2.2.2.val

/-- After the last point: only the small sums move. -/
def stC (c : Dev nD) (t : Fin cfg0.N) (h : ¬t.val < 16) (p : St F) : St F where
  q := p.q
  b := p.b
  s := (win0_13.stage (cfg0.slots t 13)).view.read (Elt F) ((win0_13.stage (cfg0.slots t 13)).view.writes (Elt F) ((hstage0_13 ((cfg0.slots t 13).cast nbuf0_13)).unread p.s) (outC m c t h p).2.val)
  k := p.k
  v := p.v

/-- What every point leaves. -/
def st (c : Dev nD) : (n : ℕ) → n < cfg0.N → St F
  | 0, hn => stA m c ⟨0, hn⟩ rfl
  | n + 1, hn =>
    if h : n + 1 < 16 then stB m c ⟨n + 1, hn⟩ (Nat.succ_ne_zero n) h (st c n (Nat.lt_of_succ_lt hn))
    else stC m c ⟨n + 1, hn⟩ h (st c n (Nat.lt_of_succ_lt hn))

/-- What the point before `t` left. -/
def prev (c : Dev nD) (t : Fin cfg0.N) : St F := st m c (t.val - 1) (Nat.lt_of_le_of_lt (Nat.sub_le _ _) t.isLt)

theorem st_A (c : Dev nD) (t : Fin cfg0.N) (h : t.val = 0) : st m c t.val t.isLt = stA m c t h := by
  obtain ⟨n, hn⟩ := t
  cases n with
  | zero => rfl
  | succ n => exact absurd h (Nat.succ_ne_zero n)

theorem st_B (c : Dev nD) (t : Fin cfg0.N) (h : t.val ≠ 0) (h' : t.val < 16) : st m c t.val t.isLt = stB m c t h h' (prev m c t) := by
  obtain ⟨n, hn⟩ := t
  cases n with
  | zero => exact absurd rfl h
  | succ n => exact dif_pos h'

theorem st_C (c : Dev nD) (t : Fin cfg0.N) (h : ¬t.val < 16) : st m c t.val t.isLt = stC m c t h (prev m c t) := by
  obtain ⟨n, hn⟩ := t
  cases n with
  | zero => exact absurd (Nat.zero_lt_succ 15) h
  | succ n => exact dif_neg h

/-- The stores into the keys' and values' gradient at a point. -/
def kvStores (c : Dev nD) (t : Fin cfg0.N) : List (View.Piece (Elt F) S512x256 .bf16) :=
  if h : t.val = 0 then (outA m c t h).2.1
  else if h' : t.val < 16 then (outB m c t h h' (prev m c t)).2.1
  else (outC m c t h' (prev m c t)).1

theorem kvStores_A (c : Dev nD) (t : Fin cfg0.N) (h : t.val = 0) : kvStores m c t = (outA m c t h).2.1 := dif_pos h

theorem kvStores_B (c : Dev nD) (t : Fin cfg0.N) (h : t.val ≠ 0) (h' : t.val < 16) :
    kvStores m c t = (outB m c t h h' (prev m c t)).2.1 := (dif_neg h).trans (dif_pos h')

theorem kvStores_C (c : Dev nD) (t : Fin cfg0.N) (h : ¬t.val < 16) :
    kvStores m c t = (outC m c t h (prev m c t)).1 := (dif_neg (by omega)).trans (dif_neg h)

/-! ## The stores cover the buffers -/

theorem cover_qA (c : Dev nD) (t : Fin cfg0.N) (h) (y : S512x512.Idx) : ∃ p ∈ (outA m c t h).1, y ∈ p.1.set :=
  View.cover_of_tiledL (outA m c t h).1 ![128, 64] (by sl_kernel_rfl) y

theorem cover_bA (c : Dev nD) (t : Fin cfg0.N) (h) (y : S2x512x128.Idx) : ∃ p ∈ (outA m c t h).2.2.1, y ∈ p.1.set :=
  View.cover_of_wholeMem _ (by sl_whole_mem) y

theorem cover_sA (c : Dev nD) (t : Fin cfg0.N) (h) (y : S8x128.Idx) : ∃ p ∈ (outA m c t h).2.2.2.1, y ∈ p.1.set :=
  View.cover_of_wholeMem _ (by sl_whole_mem) y

theorem cover_kA (c : Dev nD) (t : Fin cfg0.N) (h) (y : S128x128.Idx) : ∃ p ∈ (outA m c t h).2.2.2.2.1, y ∈ p.1.set :=
  View.cover_of_wholeMem _ (by sl_whole_mem) y

theorem cover_vA (c : Dev nD) (t : Fin cfg0.N) (h) (y : S128x128.Idx) : ∃ p ∈ (outA m c t h).2.2.2.2.2.val, y ∈ p.1.set :=
  View.cover_of_wholeMem _ (by sl_whole_mem) y

theorem cover_qB (c : Dev nD) (t : Fin cfg0.N) (h) (h') (p : St F) (y : S512x512.Idx) : ∃ q ∈ (outB m c t h h' p).1, y ∈ q.1.set :=
  View.cover_of_tiledL (outB m c t h h' p).1 ![128, 64] (by sl_kernel_rfl) y

theorem cover_kB (c : Dev nD) (t : Fin cfg0.N) (h) (h') (p : St F) (y : S128x128.Idx) : ∃ q ∈ (outB m c t h h' p).2.2.2.2.1, y ∈ q.1.set :=
  View.cover_of_wholeMem _ (by sl_whole_mem) y

theorem cover_vB (c : Dev nD) (t : Fin cfg0.N) (h) (h') (p : St F) (y : S128x128.Idx) : ∃ q ∈ (outB m c t h h' p).2.2.2.2.2.val, y ∈ q.1.set :=
  View.cover_of_wholeMem _ (by sl_whole_mem) y

end Cert.AttnKernelIdeal.AttnFrame

end
-- ==== Proof.AttnMath.lean ====
/-
  The backward pass of one group of the banded attention, on real numbers: 512 query rows (four heads of one block of 128
  tokens) against the 128 keys and values of their own block and the 128 of the block before.
-/
module

public import proofs.«01_k».proof.Proof.Reals

@[expose] public section

noncomputable section

namespace Cert.AttnMath

open Cert.Reals

/-- What a head's norm multiplies a row by. -/
def rms (x : Fin 64 → ℝ) : ℝ := (Real.sqrt ((∑ d, x d * x d) / 64 + eps))⁻¹

/-- The normed row. -/
def hat (x : Fin 64 → ℝ) (d : Fin 64) : ℝ := x d * rms x

/-- The gradient of a head's norm with scale `g`, from the gradient `w` of its result. -/
def back (x w g : Fin 64 → ℝ) (d : Fin 64) : ℝ :=
  rms x * (w d * g d - hat x d * ((∑ e, w e * g e * hat x e) / 64))

/-- Whether band column `c` of query row `r` is a key of the row's own block, or one of the block before. -/
abbrev Own (r : Fin 512) (c : Fin 128) : Prop := c.val ≤ r.val % 128

/-- What a group reads. -/
structure Group where
  /-- the queries -/
  q : Fin 512 → Fin 64 → ℝ
  /-- the cotangent of the output -/
  a : Fin 512 → Fin 64 → ℝ
  /-- the keys of the own block and of the block before -/
  ko : Fin 128 → Fin 64 → ℝ
  kp : Fin 128 → Fin 64 → ℝ
  /-- the values of the own block and of the block before -/
  vo : Fin 128 → Fin 64 → ℝ
  vp : Fin 128 → Fin 64 → ℝ
  /-- the bias by band column -/
  b : Fin 512 → Fin 128 → ℝ
  /-- the sink logits -/
  sk : Fin 512 → ℝ
  /-- the scales of the two norms -/
  qg : Fin 64 → ℝ
  kg : Fin 64 → ℝ
  /-- whether there is a block before -/
  more : Bool

namespace Group

variable (G : Group)

def qn (r : Fin 512) (d : Fin 64) : ℝ := hat (G.q r) d * G.qg d
def kno (c : Fin 128) (d : Fin 64) : ℝ := hat (G.ko c) d * G.kg d
def knp (c : Fin 128) (d : Fin 64) : ℝ := hat (G.kp c) d * G.kg d

/-- The scores. -/
def s (r : Fin 512) (c : Fin 128) : ℝ :=
  (if Own r c then ∑ d, G.qn r d * G.kno c d else ∑ d, G.qn r d * G.knp c d) * (1 / 8) + G.b r c

/-- Which columns take part. -/
abbrev On (r : Fin 512) (c : Fin 128) : Prop := Own r c ∨ G.more = true

/-- The exponentials, their sum with the sink's, and the weights. -/
def w (r : Fin 512) (c : Fin 128) : ℝ := if G.On r c then Real.exp (G.s r c) else 0
def z (r : Fin 512) : ℝ := (∑ c, G.w r c) + Real.exp (G.sk r)
def p (r : Fin 512) (c : Fin 128) : ℝ := G.w r c / G.z r
def ps (r : Fin 512) : ℝ := Real.exp (G.sk r) / G.z r

/-- The gradients of the weights, their mean, and the gradients of the scores. -/
def dp (r : Fin 512) (c : Fin 128) : ℝ := if Own r c then ∑ d, G.a r d * G.vo c d else ∑ d, G.a r d * G.vp c d
def delta (r : Fin 512) : ℝ := ∑ c, G.p r c * G.dp r c
def ds (r : Fin 512) (c : Fin 128) : ℝ := G.p r c * (G.dp r c - G.delta r)

/-- The gradients of the normed queries and of the queries. -/
def dqn (r : Fin 512) (d : Fin 64) : ℝ :=
  ((∑ c, (if Own r c then G.ds r c else 0) * G.kno c d) + ∑ c, (if Own r c then 0 else G.ds r c) * G.knp c d) * (1 / 8)
def dq (r : Fin 512) (d : Fin 64) : ℝ := back (G.q r) (G.dqn r) G.qg d

/-- What the group adds to the gradients of the normed keys and of the values of its own block and of the block before. -/
def dko (c : Fin 128) (d : Fin 64) : ℝ := (∑ r, (if Own r c then G.ds r c else 0) * G.qn r d) * (1 / 8)
def dkp (c : Fin 128) (d : Fin 64) : ℝ := (∑ r, (if Own r c then 0 else G.ds r c) * G.qn r d) * (1 / 8)
def dvo (c : Fin 128) (d : Fin 64) : ℝ := ∑ r, (if Own r c then G.p r c else 0) * G.a r d
def dvp (c : Fin 128) (d : Fin 64) : ℝ := ∑ r, (if Own r c then 0 else G.p r c) * G.a r d

/-- What the group adds to the gradient of the queries' scale. -/
def dqg (d : Fin 64) : ℝ := ∑ r, G.dqn r d * hat (G.q r) d

theorem z_pos (r : Fin 512) : 0 < G.z r := by
  have : 0 ≤ ∑ c, G.w r c := Finset.sum_nonneg fun c _ => by unfold w; split <;> positivity
  unfold z; positivity

end Group

theorem rms_arg_pos (x : Fin 64 → ℝ) : 0 < (∑ d, x d * x d) / 64 + eps := by
  have := eps_pos
  have : 0 ≤ ∑ d, x d * x d := Finset.sum_nonneg fun k _ => mul_self_nonneg _
  positivity

end Cert.AttnMath
-- ==== Proof.AttnStage.lean ====
/-
  The pieces that the attention kernel's body is made of, as functions of the blocks it loads, and what each is on real blocks.
-/
module

public import proofs.«01_k».proof.Proof.Gen.AttnKernelIdeal.Skeleton
public import proofs.«01_k».proof.Proof.AttnMath
public import Idealize.ShloMosaic.Lib.WordCmp

@[expose] public section

set_option maxRecDepth 16384

noncomputable section

namespace Cert.AttnKernelIdeal.AttnStage

open Cert.AttnKernelIdeal Cert.AttnKernelIdeal.Gen
open Idealize.ShloMosaic
open Cert.Reals Cert.AttnMath

/-- The factor of a norm, by row of a block of keys; the normed keys; the keys as the products take them. -/
def kRms (x : FVec Ideal S128x64 .f32) : FVec Ideal S128x1 .f32 :=
  rsqrt (addf (divf (shapeCast S128x1 (multiReduction .add [1] S128 (mulf x x) 0x00000000#32 reduces_S128x64_S128 (.inl rfl) rfl)
      shapeCasts_S128_S128x1) (broadcast S128x1 (Scalar.ofBits .f32 0x42800000#32)))
    (broadcast S128x1 (Scalar.ofBits .f32 0x358637BD#32)))
def kHat (x : FVec Ideal S128x64 .f32) : FVec Ideal S128x64 .f32 :=
  mulf x (broadcastTo S128x64 (kRms x) broadcasts_S128x1_S128x64)
def kRow (g : FVec Ideal S1x64 .f32) : FVec Ideal S128x64 .f32 :=
  broadcastTo S128x64 (shapeCast S1x64 g shapeCasts_S1x64_S1x64) broadcasts_S1x64_S128x64
def kNorm (x : FVec Ideal S128x64 .f32) (g : FVec Ideal S1x64 .f32) : FVec Ideal S128x64 .bf16 :=
  truncf .bf16 (mulf (kHat x) (kRow g)) bitsLt_bf16_f32

/-- The same of the stacked queries of a group. -/
def qRms (x : FVec Ideal S512x64 .f32) : FVec Ideal S512x1 .f32 :=
  rsqrt (addf (divf (shapeCast S512x1 (multiReduction .add [1] S512 (mulf x x) 0x00000000#32 reduces_S512x64_S512 (.inl rfl) rfl)
      shapeCasts_S512_S512x1) (broadcast S512x1 (Scalar.ofBits .f32 0x42800000#32)))
    (broadcast S512x1 (Scalar.ofBits .f32 0x358637BD#32)))
def qHat (x : FVec Ideal S512x64 .f32) : FVec Ideal S512x64 .f32 :=
  mulf x (broadcastTo S512x64 (qRms x) broadcasts_S512x1_S512x64)
def qRow (g : FVec Ideal S1x64 .f32) : FVec Ideal S512x64 .f32 :=
  broadcastTo S512x64 (shapeCast S1x64 g shapeCasts_S1x64_S1x64) broadcasts_S1x64_S512x64
def qNorm (x : FVec Ideal S512x64 .f32) (g : FVec Ideal S1x64 .f32) : FVec Ideal S512x64 .bf16 :=
  truncf .bf16 (mulf (qHat x) (qRow g)) bitsLt_bf16_f32

/-- Whether a band column is a key of the row's own block. -/
def own : IVec S512x128 1 :=
  cmpi .sge (andi (iota .tc S512x128 32 [0] iota_S512x128_d0_w32) (broadcast S512x128 127#32))
    (iota .tc S512x128 32 [1] iota_S512x128_d1_w32)

/-- What a group's computation takes from the loads. -/
structure Args where
  q : FVec Ideal S512x64 .f32
  a : FVec Ideal S512x64 .f32
  ko : FVec Ideal S128x64 .f32
  kp : FVec Ideal S128x64 .f32
  vo : FVec Ideal S128x64 .f32
  vp : FVec Ideal S128x64 .f32
  b : FVec Ideal S1x512x128 .f32
  sk : FVec Ideal S1x512x1 .f32
  qg : FVec Ideal S1x64 .f32
  kg : FVec Ideal S1x64 .f32
  /-- for the group's block the first of its tile: whether the tile is the first one -/
  edge : Option (BitVec 1)

namespace Args

variable (A : Args)

def zero512 : FVec Ideal S512x128 .f32 := constant S512x128 .f32 0x00000000#32

def qn : FVec Ideal S512x64 .bf16 := qNorm A.q A.qg
def kno : FVec Ideal S128x64 .bf16 := kNorm A.ko A.kg
def knp : FVec Ideal S128x64 .bf16 := kNorm A.kp A.kg
def ab : FVec Ideal S512x64 .bf16 := truncf .bf16 A.a bitsLt_bf16_f32
def vob : FVec Ideal S128x64 .bf16 := truncf .bf16 A.vo bitsLt_bf16_f32
def vpb : FVec Ideal S128x64 .bf16 := truncf .bf16 A.vp bitsLt_bf16_f32

/-- The scores before the mask, and with it. -/
def s0 : FVec Ideal S512x128 .f32 :=
  addf (mulf (select own (matmul dot_S512x64_S128x64_S512x128_1_1_0_0_n_n none A.qn A.kno zero512)
      (matmul dot_S512x64_S128x64_S512x128_1_1_0_0_n_n none A.qn A.knp zero512))
    (broadcast S512x128 (Scalar.ofBits .f32 0x3E000000#32))) (shapeCast S512x128 A.b shapeCasts_S1x512x128_S512x128)
def s : FVec Ideal S512x128 .f32 :=
  match A.edge with
  | none => A.s0
  | some c => select (ori own (broadcast S512x128 (Scalar.xori c 1#1))) A.s0
      (broadcast S512x128 (Named.named κ "mask" 0xF149F2CA#32))

def skc : FVec Ideal S512x1 .f32 := shapeCast S512x1 A.sk shapeCasts_S1x512x1_S512x1

/-- The row maxima, the exponentials, their sums, the weights. -/
def m : FVec Ideal S512x1 .f32 :=
  maximumf (shapeCast S512x1 (multiReduction .maximumf [1] S512 A.s 0xFF800000#32 reduces_S512x128_S512 (.inl rfl) rfl)
    shapeCasts_S512_S512x1) A.skc
def e : FVec Ideal S512x128 .f32 := exp (subf A.s (broadcastTo S512x128 A.m broadcasts_S512x1_S512x128))
def es : FVec Ideal S512x1 .f32 := exp (subf A.skc A.m)
def z : FVec Ideal S512x1 .f32 :=
  addf (shapeCast S512x1 (multiReduction .add [1] S512 A.e 0x00000000#32 reduces_S512x128_S512 (.inl rfl) rfl)
    shapeCasts_S512_S512x1) A.es
def p : FVec Ideal S512x128 .f32 := divf A.e (broadcastTo S512x128 A.z broadcasts_S512x1_S512x128)
def ps : FVec Ideal S512x1 .f32 := divf A.es A.z

/-- The gradients of the weights, their mean, those of the scores and of the sink. -/
def dp : FVec Ideal S512x128 .f32 :=
  select own (matmul dot_S512x64_S128x64_S512x128_1_1_0_0_n_n none A.ab A.vob zero512)
    (matmul dot_S512x64_S128x64_S512x128_1_1_0_0_n_n none A.ab A.vpb zero512)
def delta : FVec Ideal S512x1 .f32 :=
  shapeCast S512x1 (multiReduction .add [1] S512 (mulf A.p A.dp) 0x00000000#32 reduces_S512x128_S512 (.inl rfl) rfl)
    shapeCasts_S512_S512x1
def ds : FVec Ideal S512x128 .f32 := mulf A.p (subf A.dp (broadcastTo S512x128 A.delta broadcasts_S512x1_S512x128))
def dsink : FVec Ideal S512x1 .f32 := mulf A.ps A.delta

def word0 : FVec Ideal S512x128 .f32 := broadcast S512x128 (Scalar.ofBits .f32 0x00000000#32)
def dso : FVec Ideal S512x128 .bf16 := truncf .bf16 (select own A.ds word0) bitsLt_bf16_f32
def dsp : FVec Ideal S512x128 .bf16 := truncf .bf16 (select own word0 A.ds) bitsLt_bf16_f32
def po : FVec Ideal S512x128 .bf16 := truncf .bf16 (select own A.p word0) bitsLt_bf16_f32
def pp : FVec Ideal S512x128 .bf16 := truncf .bf16 (select own word0 A.p) bitsLt_bf16_f32

/-- The gradients of the normed queries, and of the queries. -/
def dqn : FVec Ideal S512x64 .f32 :=
  mulf (addf (matmul dot_S512x128_S128x64_S512x64_1_0_0_1_n_n none A.dso A.kno (constant S512x64 .f32 0x00000000#32))
      (matmul dot_S512x128_S128x64_S512x64_1_0_0_1_n_n none A.dsp A.knp (constant S512x64 .f32 0x00000000#32)))
    (broadcast S512x64 (Scalar.ofBits .f32 0x3E000000#32))
def dq : FVec Ideal S512x64 .bf16 :=
  truncf .bf16 (mulf (broadcastTo S512x64 (qRms A.q) broadcasts_S512x1_S512x64)
    (subf (mulf A.dqn (qRow A.qg)) (mulf (qHat A.q)
      (broadcastTo S512x64 (divf (shapeCast S512x1 (multiReduction .add [1] S512 (mulf (mulf A.dqn (qRow A.qg)) (qHat A.q))
        0x00000000#32 reduces_S512x64_S512 (.inl rfl) rfl) shapeCasts_S512_S512x1)
        (broadcast S512x1 (Scalar.ofBits .f32 0x42800000#32))) broadcasts_S512x1_S512x64)))) bitsLt_bf16_f32
def dqg : FVec Ideal S1x64 .f32 :=
  shapeCast S1x64 (multiReduction .add [0] S64 (mulf A.dqn (qHat A.q)) 0x00000000#32 reduces_S512x64_S64 (.inl rfl) rfl)
    shapeCasts_S64_S1x64

/-- What the group adds to the gradients of keys and values. -/
def dko : FVec Ideal S128x64 .f32 :=
  mulf (matmul dot_S512x128_S512x64_S128x64_0_0_1_1_n_n none A.dso A.qn (constant S128x64 .f32 0x00000000#32))
    (broadcast S128x64 (Scalar.ofBits .f32 0x3E000000#32))
def dkp : FVec Ideal S128x64 .f32 :=
  mulf (matmul dot_S512x128_S512x64_S128x64_0_0_1_1_n_n none A.dsp A.qn (constant S128x64 .f32 0x00000000#32))
    (broadcast S128x64 (Scalar.ofBits .f32 0x3E000000#32))
def dvo : FVec Ideal S128x64 .f32 :=
  matmul dot_S512x128_S512x64_S128x64_0_0_1_1_n_n none A.po A.ab (constant S128x64 .f32 0x00000000#32)
def dvp : FVec Ideal S128x64 .f32 :=
  matmul dot_S512x128_S512x64_S128x64_0_0_1_1_n_n none A.pp A.ab (constant S128x64 .f32 0x00000000#32)

/-- The real numbers that the loads hold. -/
structure At (G : Group) : Prop where
  q : ∀ r d, A.q (ix2 r d) = (G.q r d : EReal)
  a : ∀ r d, A.a (ix2 r d) = (G.a r d : EReal)
  ko : ∀ r d, A.ko (ix2 r d) = (G.ko r d : EReal)
  kp : ∀ r d, A.kp (ix2 r d) = (G.kp r d : EReal)
  vo : ∀ r d, A.vo (ix2 r d) = (G.vo r d : EReal)
  vp : ∀ r d, A.vp (ix2 r d) = (G.vp r d : EReal)
  b : ∀ r c, A.b (ix3 0 r c) = (G.b r c : EReal)
  sk : ∀ r, A.sk (ix3 0 r 0) = (G.sk r : EReal)
  qg : ∀ d, A.qg (ix2 0 d) = (G.qg d : EReal)
  kg : ∀ d, A.kg (ix2 0 d) = (G.kg d : EReal)
  edge : match A.edge with | none => G.more = true | some c => c = if G.more then 0#1 else 1#1

end Args

/-- The gradient of the norm of a block of keys, and what it adds to the gradient of the scale. -/
def kBack (x : FVec Ideal S128x64 .f32) (w : FVec Ideal S128x64 .f32) (g : FVec Ideal S1x64 .f32) : FVec Ideal S128x64 .bf16 :=
  truncf .bf16 (mulf (broadcastTo S128x64 (kRms x) broadcasts_S128x1_S128x64)
    (subf (mulf w (kRow g)) (mulf (kHat x)
      (broadcastTo S128x64 (divf (shapeCast S128x1 (multiReduction .add [1] S128 (mulf (mulf w (kRow g)) (kHat x))
        0x00000000#32 reduces_S128x64_S128 (.inl rfl) rfl) shapeCasts_S128_S128x1)
        (broadcast S128x1 (Scalar.ofBits .f32 0x42800000#32))) broadcasts_S128x1_S128x64)))) bitsLt_bf16_f32
def kScale (x : FVec Ideal S128x64 .f32) (w : FVec Ideal S128x64 .f32) : FVec Ideal S1x64 .f32 :=
  shapeCast S1x64 (multiReduction .add [0] S64 (mulf w (kHat x)) 0x00000000#32 reduces_S128x64_S64 (.inl rfl) rfl)
    shapeCasts_S64_S1x64

theorem word_64 : Ideal.ofBits .f32 0x42800000#32 = ((64 : ℝ) : EReal) := by
  simp [Ideal.ofBits, Ideal.ieee, -EReal.coe_mul]; norm_num

theorem word_eighth : Ideal.ofBits .f32 0x3E000000#32 = ((1 / 8 : ℝ) : EReal) := by
  simp [Ideal.ofBits, Ideal.ieee, -EReal.coe_mul]; norm_num

theorem own_word (r : Fin 512) (c : Fin 128) : own (ix2 r c) = if Own r c then 1#1 else 0#1 := by
  pointwise [own]
  have e : IntOp.andi (BitVec.ofNat 32 r.val) 127#32 = BitVec.ofNat 32 (r.val % 128) := by
    apply BitVec.eq_of_toNat_eq
    have := r.isLt
    simp only [IntOp.andi, BitVec.toNat_and, BitVec.toNat_ofNat]
    rw [Nat.mod_eq_of_lt (show r.val < 2 ^ 32 by omega), Nat.mod_eq_of_lt (show r.val % 128 < 2 ^ 32 by omega)]
    exact Nat.and_two_pow_sub_one_eq_mod r.val 7
  rw [e]
  have := c.isLt
  by_cases hc : c.val ≤ r.val % 128
  · rw [if_pos hc]; word_cmp
  · rw [if_neg hc]; word_cmp

theorem select_word {P : Prop} [Decidable P] {α : Type} (x y : α) :
    Scalar.select (if P then 1#1 else 0#1) x y = if P then x else y := by
  split <;> rfl

theorem word_bot : Ideal.ofBits .f32 0xFF800000#32 = ⊥ := by
  simp [Ideal.ofBits, Ideal.ieee]

/-- The greatest of numbers that are real or −∞, and one real number, is real. -/
theorem fold_max_real {ι : Type} (f : ι → EReal) (hf : ∀ i, f i = ⊥ ∨ ∃ r : ℝ, f i = r) (t : ℝ) {s : Finset ι} :
    ∃ M : ℝ, max (s.fold max ⊥ f) (t : EReal) = M := by
  classical
  have : s.fold max ⊥ f = ⊥ ∨ ∃ r : ℝ, s.fold max ⊥ f = r := by
    induction s using Finset.induction_on with
    | empty => exact .inl rfl
    | insert a s ha ih =>
      rw [Finset.fold_insert ha]
      rcases hf a with h | ⟨x, h⟩ <;> rcases ih with h' | ⟨y, h'⟩ <;> rw [h, h']
      · exact .inl (max_self _)
      · exact .inr ⟨y, max_eq_right bot_le⟩
      · exact .inr ⟨x, max_eq_left bot_le⟩
      · exact .inr ⟨max x y, by rw [EReal.coe_strictMono.monotone.map_max]⟩
  rcases this with h | ⟨x, h⟩ <;> rw [h]
  · exact ⟨t, max_eq_right bot_le⟩
  · exact ⟨max x t, by rw [EReal.coe_strictMono.monotone.map_max]⟩

theorem mask_bot : (Named.named κ "mask" 0xF149F2CA#32 : Ideal .f32) = ⊥ := rfl

section
variable {x w : FVec Ideal S128x64 .f32} {g : FVec Ideal S1x64 .f32} {X W : Fin 128 → Fin 64 → ℝ} {G : Fin 64 → ℝ}
  (hx : ∀ r d, x (ix2 r d) = (X r d : EReal)) (hw : ∀ r d, w (ix2 r d) = (W r d : EReal)) (hg : ∀ d, g (ix2 0 d) = (G d : EReal))
include hx

theorem kRms_real (r : Fin 128) : kRms x (ix2 r 0) = ((rms (X r) : ℝ) : EReal) := by
  pointwise [kRms]
  simp only [hx, word_64, word_eps, ← EReal.coe_mul, coe_sum, div_real (by norm_num : (64 : ℝ) ≠ 0), ← EReal.coe_add,
    rsqrt_pos (rms_arg_pos _), rms]

theorem kHat_real (r : Fin 128) (d : Fin 64) : kHat x (ix2 r d) = ((hat (X r) d : ℝ) : EReal) := by
  pointwise [kHat]
  rw [kRms_real hx, hx, ← EReal.coe_mul, hat]

include hg

theorem kNorm_real (r : Fin 128) (d : Fin 64) : kNorm x g (ix2 r d) = ((hat (X r) d * G d : ℝ) : EReal) := by
  pointwise [kNorm, kRow]
  rw [kHat_real hx, hg, ← EReal.coe_mul]

include hw

theorem kBack_real (r : Fin 128) (d : Fin 64) : kBack x w g (ix2 r d) = ((back (X r) (W r) G d : ℝ) : EReal) := by
  pointwise [kBack, kRow]
  simp only [kHat_real hx, kRms_real hx, hg, hw, word_64, ← EReal.coe_mul, coe_sum, div_real (by norm_num : (64 : ℝ) ≠ 0),
    ← EReal.coe_sub, back]

omit hg in
theorem kScale_real (d : Fin 64) : kScale x w (ix2 0 d) = ((∑ r, W r d * hat (X r) d : ℝ) : EReal) := by
  pointwise [kScale]
  simp only [kHat_real hx, hw, ← EReal.coe_mul, coe_sum]

end

section
variable {x : FVec Ideal S512x64 .f32} {g : FVec Ideal S1x64 .f32} {X : Fin 512 → Fin 64 → ℝ} {G : Fin 64 → ℝ}
  (hx : ∀ r d, x (ix2 r d) = (X r d : EReal)) (hg : ∀ d, g (ix2 0 d) = (G d : EReal))
include hx

theorem qRms_real (r : Fin 512) : qRms x (ix2 r 0) = ((rms (X r) : ℝ) : EReal) := by
  pointwise [qRms]
  simp only [hx, word_64, word_eps, ← EReal.coe_mul, coe_sum, div_real (by norm_num : (64 : ℝ) ≠ 0), ← EReal.coe_add,
    rsqrt_pos (rms_arg_pos _), rms]

theorem qHat_real (r : Fin 512) (d : Fin 64) : qHat x (ix2 r d) = ((hat (X r) d : ℝ) : EReal) := by
  pointwise [qHat]
  rw [qRms_real hx, hx, ← EReal.coe_mul, hat]

include hg

theorem qNorm_real (r : Fin 512) (d : Fin 64) : qNorm x g (ix2 r d) = ((hat (X r) d * G d : ℝ) : EReal) := by
  pointwise [qNorm, qRow]
  rw [qHat_real hx, hg, ← EReal.coe_mul]

end

namespace Args

variable {A : Args} {G : Group} (h : A.At G)
include h

theorem qn_real (r : Fin 512) (d : Fin 64) : A.qn (ix2 r d) = ((G.qn r d : ℝ) : EReal) := qNorm_real h.q h.qg r d
theorem kno_real (c : Fin 128) (d : Fin 64) : A.kno (ix2 c d) = ((G.kno c d : ℝ) : EReal) := kNorm_real h.ko h.kg c d
theorem knp_real (c : Fin 128) (d : Fin 64) : A.knp (ix2 c d) = ((G.knp c d : ℝ) : EReal) := kNorm_real h.kp h.kg c d

theorem s0_real (r : Fin 512) (c : Fin 128) : A.s0 (ix2 r c) = ((G.s r c : ℝ) : EReal) := by
  pointwise [s0, own_word, zero512]
  simp only [select_word, qn_real h, kno_real h, knp_real h, h.b, word_eighth, ← EReal.coe_mul, coe_sum, Group.s]
  split <;> simp only [← EReal.coe_mul, ← EReal.coe_add]

theorem s_real (r : Fin 512) (c : Fin 128) : A.s (ix2 r c) = if G.On r c then ((G.s r c : ℝ) : EReal) else ⊥ := by
  have he := h.edge
  rcases hm : A.edge with _ | b <;> simp only [hm] at he <;> simp only [s, hm]
  · rw [s0_real h, if_pos (.inr he)]
  · subst he
    pointwise [own_word]
    rw [s0_real h, mask_bot]
    by_cases ho : Own r c
    · simp only [if_pos ho, if_pos (Or.inl ho : G.On r c)]
      cases G.more <;> rfl
    · rcases Bool.eq_false_or_eq_true G.more with hb | hb
      · rw [if_neg ho, if_pos (.inr hb : G.On r c), hb]; rfl
      · rw [if_neg ho, if_neg (by simp [hb] : ¬ G.more = true), if_neg (by simp [ho, hb] : ¬ G.On r c)]; rfl

theorem m_real (r : Fin 512) : ∃ M : ℝ, A.m (ix2 r 0) = (M : EReal) := by
  pointwise [m, skc]
  rw [h.sk, word_bot]
  refine fold_max_real _ (fun c => ?_) _
  rw [s_real h]
  split
  · exact .inr ⟨_, rfl⟩
  · exact .inl rfl

/-- A weight before the division, and their sum, as multiples of the real ones. -/
theorem ez_real (r : Fin 512) : ∃ k : ℝ, k ≠ 0 ∧ (∀ c, A.e (ix2 r c) = ((G.w r c * k : ℝ) : EReal))
    ∧ A.es (ix2 r 0) = ((Real.exp (G.sk r) * k : ℝ) : EReal) ∧ A.z (ix2 r 0) = ((G.z r * k : ℝ) : EReal) := by
  obtain ⟨M, hM⟩ := m_real h r
  have he : ∀ c, A.e (ix2 r c) = ((G.w r c * Real.exp (-M) : ℝ) : EReal) := fun c => by
    pointwise [e]
    rw [hM, s_real h, Group.w]
    split
    · rw [← EReal.coe_sub, Ideal.exp_coe, sub_eq_add_neg, Real.exp_add]
    · rw [EReal.bot_sub, zero_mul]; simp
  have hs : A.es (ix2 r 0) = ((Real.exp (G.sk r) * Real.exp (-M) : ℝ) : EReal) := by
    pointwise [es, skc]
    rw [hM, h.sk, ← EReal.coe_sub, Ideal.exp_coe, sub_eq_add_neg, Real.exp_add]
  refine ⟨Real.exp (-M), (Real.exp_pos _).ne', he, hs, ?_⟩
  pointwise [z]
  simp only [he, hs, coe_sum, ← EReal.coe_add, Group.z, add_mul, Finset.sum_mul]

theorem p_real (r : Fin 512) (c : Fin 128) : A.p (ix2 r c) = ((G.p r c : ℝ) : EReal) := by
  obtain ⟨k, hk, he, -, hz⟩ := ez_real h r
  pointwise [p]
  rw [he, hz, div_real (mul_ne_zero (G.z_pos r).ne' hk), Group.p, mul_div_mul_right _ _ hk]

theorem ps_real (r : Fin 512) : A.ps (ix2 r 0) = ((G.ps r : ℝ) : EReal) := by
  obtain ⟨k, hk, -, hs, hz⟩ := ez_real h r
  pointwise [ps]
  rw [hs, hz, div_real (mul_ne_zero (G.z_pos r).ne' hk), Group.ps, mul_div_mul_right _ _ hk]

theorem dp_real (r : Fin 512) (c : Fin 128) : A.dp (ix2 r c) = ((G.dp r c : ℝ) : EReal) := by
  pointwise [dp, own_word, zero512, ab, vob, vpb]
  simp only [select_word, h.a, h.vo, h.vp, ← EReal.coe_mul, coe_sum, Group.dp]
  split <;> rfl

theorem delta_real (r : Fin 512) : A.delta (ix2 r 0) = ((G.delta r : ℝ) : EReal) := by
  pointwise [delta]
  simp only [p_real h, dp_real h, ← EReal.coe_mul, coe_sum, Group.delta]

theorem ds_real (r : Fin 512) (c : Fin 128) : A.ds (ix2 r c) = ((G.ds r c : ℝ) : EReal) := by
  pointwise [ds]
  rw [p_real h, dp_real h, delta_real h, ← EReal.coe_sub, ← EReal.coe_mul, Group.ds]

theorem dsink_real (r : Fin 512) : A.dsink (ix2 r 0) = ((G.ps r * G.delta r : ℝ) : EReal) := by
  pointwise [dsink]
  rw [ps_real h, delta_real h, ← EReal.coe_mul]

theorem dso_real (r : Fin 512) (c : Fin 128) : A.dso (ix2 r c) = ((if Own r c then G.ds r c else 0 : ℝ) : EReal) := by
  pointwise [dso, word0, own_word]
  rw [select_word, ds_real h]; split <;> simp

theorem dsp_real (r : Fin 512) (c : Fin 128) : A.dsp (ix2 r c) = ((if Own r c then 0 else G.ds r c : ℝ) : EReal) := by
  pointwise [dsp, word0, own_word]
  rw [select_word, ds_real h]; split <;> simp

theorem po_real (r : Fin 512) (c : Fin 128) : A.po (ix2 r c) = ((if Own r c then G.p r c else 0 : ℝ) : EReal) := by
  pointwise [po, word0, own_word]
  rw [select_word, p_real h]; split <;> simp

theorem pp_real (r : Fin 512) (c : Fin 128) : A.pp (ix2 r c) = ((if Own r c then 0 else G.p r c : ℝ) : EReal) := by
  pointwise [pp, word0, own_word]
  rw [select_word, p_real h]; split <;> simp

theorem dqn_real (r : Fin 512) (d : Fin 64) : A.dqn (ix2 r d) = ((G.dqn r d : ℝ) : EReal) := by
  pointwise [dqn]
  simp only [dso_real h, dsp_real h, kno_real h, knp_real h, word_eighth, ← EReal.coe_mul, coe_sum, ← EReal.coe_add, Group.dqn]

theorem dq_real (r : Fin 512) (d : Fin 64) : A.dq (ix2 r d) = ((G.dq r d : ℝ) : EReal) := by
  pointwise [dq, qRow]
  simp only [dqn_real h, qHat_real h.q, qRms_real h.q, h.qg, word_64, ← EReal.coe_mul, coe_sum,
    div_real (by norm_num : (64 : ℝ) ≠ 0), ← EReal.coe_sub, Group.dq, back]

theorem dqg_real (d : Fin 64) : A.dqg (ix2 0 d) = ((G.dqg d : ℝ) : EReal) := by
  pointwise [dqg]
  simp only [dqn_real h, qHat_real h.q, ← EReal.coe_mul, coe_sum, Group.dqg]

theorem dko_real (c : Fin 128) (d : Fin 64) : A.dko (ix2 c d) = ((G.dko c d : ℝ) : EReal) := by
  pointwise [dko]
  simp only [dso_real h, qn_real h, word_eighth, ← EReal.coe_mul, coe_sum, Group.dko]

theorem dkp_real (c : Fin 128) (d : Fin 64) : A.dkp (ix2 c d) = ((G.dkp c d : ℝ) : EReal) := by
  pointwise [dkp]
  simp only [dsp_real h, qn_real h, word_eighth, ← EReal.coe_mul, coe_sum, Group.dkp]

theorem dvo_real (c : Fin 128) (d : Fin 64) : A.dvo (ix2 c d) = ((G.dvo c d : ℝ) : EReal) := by
  pointwise [dvo, ab]
  simp only [po_real h, h.a, ← EReal.coe_mul, coe_sum, Group.dvo]

theorem dvp_real (c : Fin 128) (d : Fin 64) : A.dvp (ix2 c d) = ((G.dvp c d : ℝ) : EReal) := by
  pointwise [dvp, ab]
  simp only [pp_real h, h.a, ← EReal.coe_mul, coe_sum, Group.dvp]

end Args

end Cert.AttnKernelIdeal.AttnStage
-- ==== Proof.AttnGrp.lean ====
/-
  The attention kernel's eight groups at a point of its grid, as the stages' arguments: which loads each takes, and what it stores.
-/
module

public import proofs.«01_k».proof.Proof.AttnStage
public import Idealize.ShloMosaic.Lib.Pipeline.ValueKit

@[expose] public section

set_option maxRecDepth 16384

noncomputable section

namespace Cert.AttnKernelIdeal.AttnGrp

open Cert.AttnKernelIdeal Cert.AttnKernelIdeal.Gen Cert.AttnKernelIdeal.AttnStage
open Idealize.ShloMosaic
open Cert.Reals Cert.AttnMath

/-- The buffers that the body works in: the ten blocks it reads, the four it writes, and the six it keeps. -/
structure Refs where
  a1 : Memref sig .tc .vmem S512x512 .f32
  h1 : a1.IsWhole
  a2 : Memref sig .tc .vmem S512x128 .f32
  h2 : a2.IsWhole
  a3 : Memref sig .tc .vmem S128x128 .f32
  h3 : a3.IsWhole
  a4 : Memref sig .tc .vmem S512x128 .f32
  h4 : a4.IsWhole
  a5 : Memref sig .tc .vmem S128x128 .f32
  h5 : a5.IsWhole
  a6 : Memref sig .tc .vmem S512x512 .f32
  h6 : a6.IsWhole
  a7 : Memref sig .tc .vmem S2x512x128 .f32
  h7 : a7.IsWhole
  a8 : Memref sig .tc .vmem S2x512x1 .f32
  h8 : a8.IsWhole
  a9 : Memref sig .tc .vmem S1x64 .f32
  h9 : a9.IsWhole
  a10 : Memref sig .tc .vmem S1x64 .f32
  h10 : a10.IsWhole
  a11 : Memref sig .tc .vmem S512x512 .bf16
  h11 : a11.IsWhole
  a12 : Memref sig .tc .vmem S512x256 .bf16
  h12 : a12.IsWhole
  a13 : Memref sig .tc .vmem S2x512x128 .f32
  h13 : a13.IsWhole
  a14 : Memref sig .tc .vmem S8x128 .f32
  h14 : a14.IsWhole
  a15 : Memref sig .tc .vmem S128x128 .f32
  h15 : a15.IsWhole
  a16 : Memref sig .tc .vmem S128x128 .f32
  h16 : a16.IsWhole
  a17 : Memref sig .tc .vmem S128x128 .f32
  h17 : a17.IsWhole
  a18 : Memref sig .tc .vmem S128x128 .f32
  h18 : a18.IsWhole
  a19 : Memref sig .tc .vmem S128x128 .f32
  h19 : a19.IsWhole
  a20 : Memref sig .tc .vmem S128x128 .f32
  h20 : a20.IsWhole

/-- What the ten blocks hold. -/
structure In where
  x0 : Vec Ideal S512x512 .f32
  x1 : Vec Ideal S512x128 .f32
  x2 : Vec Ideal S128x128 .f32
  x3 : Vec Ideal S512x128 .f32
  x4 : Vec Ideal S128x128 .f32
  x5 : Vec Ideal S512x512 .f32
  x6 : Vec Ideal S2x512x128 .f32
  x7 : Vec Ideal S2x512x1 .f32
  x8 : Vec Ideal S1x64 .f32
  x9 : Vec Ideal S1x64 .f32

/-- A load of 128 rows and 64 columns of a block. -/
def ld {σ : RefSig} {R C : ℕ} (a : Memref σ .tc .vmem ⟨2, ![R, C]⟩ .f32) (h : a.IsWhole) (x : Vec Ideal ⟨2, ![R, C]⟩ .f32) (r c : ℕ)
    (hr : r + 128 ≤ R) (hc : c + 64 ≤ C) : FVec Ideal S128x64 .f32 :=
  a.view.readAt (Elt Ideal) (Rect.unit (s := ⟨2, ![R, C]⟩) ![r, c] S128x64.size (Rect.inb₂ hr hc)).toLoadRect (h.unread x)

/-- Four loads of heads side by side, stacked. -/
def ldHeads {σ : RefSig} (a : Memref σ .tc .vmem S512x512 .f32) (h : a.IsWhole) (x : Vec Ideal S512x512 .f32) (i : Fin 4) (k : Fin 2) :
    FVec Ideal S512x64 .f32 :=
  concatenate S512x64 0
    [⟨S128x64, ld a h x (128 * i) (256 * k) (by omega) (by omega)⟩, ⟨S128x64, ld a h x (128 * i) (256 * k + 64) (by omega) (by omega)⟩,
      ⟨S128x64, ld a h x (128 * i) (256 * k + 128) (by omega) (by omega)⟩, ⟨S128x64, ld a h x (128 * i) (256 * k + 192) (by omega) (by omega)⟩]
    concatenates_S128x64_S128x64_S128x64_S128x64_S512x64_d0

/-- The block before the group's: of the tile, or the one that the tile before hands on. -/
def ldPrev {σ : RefSig} (a : Memref σ .tc .vmem S512x128 .f32) (h : a.IsWhole) (x : Vec Ideal S512x128 .f32)
    (a' : Memref σ .tc .vmem S128x128 .f32) (h' : a'.IsWhole) (x' : Vec Ideal S128x128 .f32) (i : Fin 4) (k : Fin 2) :
    FVec Ideal S128x64 .f32 :=
  match i with
  | 0 => ld a' h' x' 0 (64 * k) (by omega) (by omega)
  | ⟨j + 1, hj⟩ => ld a h x (128 * j) (64 * k) (by omega) (by omega)

/-- A group of a tile: block `i` of its four, key head `k` of the two; `e` says whether the tile is the first. -/
def grpOf {σ : RefSig} (a1 : Memref σ .tc .vmem S512x512 .f32) (h1 : a1.IsWhole) (a2 : Memref σ .tc .vmem S512x128 .f32) (h2 : a2.IsWhole)
    (a3 : Memref σ .tc .vmem S128x128 .f32) (h3 : a3.IsWhole) (a4 : Memref σ .tc .vmem S512x128 .f32) (h4 : a4.IsWhole)
    (a5 : Memref σ .tc .vmem S128x128 .f32) (h5 : a5.IsWhole) (a6 : Memref σ .tc .vmem S512x512 .f32) (h6 : a6.IsWhole)
    (a7 : Memref σ .tc .vmem S2x512x128 .f32) (h7 : a7.IsWhole) (a8 : Memref σ .tc .vmem S2x512x1 .f32) (h8 : a8.IsWhole)
    (a9 : Memref σ .tc .vmem S1x64 .f32) (h9 : a9.IsWhole) (a10 : Memref σ .tc .vmem S1x64 .f32) (h10 : a10.IsWhole)
    (X : In) (e : BitVec 1) (i : Fin 4) (k : Fin 2) : Args where
  q := ldHeads a1 h1 X.x0 i k
  a := ldHeads a6 h6 X.x5 i k
  ko := ld a2 h2 X.x1 (128 * i) (64 * k) (by omega) (by omega)
  kp := ldPrev a2 h2 X.x1 a3 h3 X.x2 i k
  vo := ld a4 h4 X.x3 (128 * i) (64 * k) (by omega) (by omega)
  vp := ldPrev a4 h4 X.x3 a5 h5 X.x4 i k
  b := a7.view.readAt (Elt Ideal) (Rect.unit (s := S2x512x128) ![k.val, 0, 0] S1x512x128.size
    (by intro a; have := k.isLt; fin_cases a <;> simp <;> omega)).toLoadRect (h7.unread X.x6)
  sk := a8.view.readAt (Elt Ideal) (Rect.unit (s := S2x512x1) ![k.val, 0, 0] S1x512x1.size
    (by intro a; have := k.isLt; fin_cases a <;> simp <;> omega)).toLoadRect (h8.unread X.x7)
  qg := a9.view.readAt (Elt Ideal) (Rect.unit (s := S1x64) ![0, 0] S1x64.size (by intro a; fin_cases a <;> simp)).toLoadRect
    (h9.unread X.x8)
  kg := a10.view.readAt (Elt Ideal) (Rect.unit (s := S1x64) ![0, 0] S1x64.size (by intro a; fin_cases a <;> simp)).toLoadRect
    (h10.unread X.x9)
  edge := match i with | 0 => some e | ⟨_ + 1, _⟩ => none

/-- A group of the backward call's. -/
def grp (R : Refs) (X : In) (e : BitVec 1) (i : Fin 4) (k : Fin 2) : Args :=
  grpOf R.a1 R.h1 R.a2 R.h2 R.a3 R.h3 R.a4 R.h4 R.a5 R.h5 R.a6 R.h6 R.a7 R.h7 R.a8 R.h8 R.a9 R.h9 R.a10 R.h10 X e i k

/-- The store of a head's query gradients. -/
def dqPiece (g : Fin 4 → Fin 2 → Args) (n : Fin 4 × Fin 2 × Fin 4) : View.Piece (Elt Ideal) S512x512 .bf16 :=
  ⟨Rect.unit (s := S512x512) ![128 * n.1.val, 256 * n.2.1.val + 64 * n.2.2.val] S128x64.size
      (by intro a; have := n.1.isLt; have := n.2.1.isLt; have := n.2.2.isLt; fin_cases a <;> simp <;> omega),
    extractStridedSlice S128x64 ![128 * n.2.2.val, 0] (g n.1 n.2.1).dq
      ⟨rfl, fun a => by have := n.2.2.isLt; fin_cases a <;> simp <;> omega⟩⟩

/-- The order of the stores, the last first. -/
def dqOrder : List (Fin 4 × Fin 2 × Fin 4) :=
  [3, 2, 1, 0].flatMap fun i => [1, 0].flatMap fun k => [3, 2, 1, 0].map fun h => (i, k, h)

end Cert.AttnKernelIdeal.AttnGrp
-- ==== Proof.AttnList.lean ====
/-
  What a point of the attention kernel stores, buffer by buffer: the keys' and values' gradients of the tile's blocks, the
  bias sums, the small sums, and what is carried to the next point, each in terms of the point's eight groups.
-/
module

public import proofs.«01_k».proof.Proof.AttnGrp

@[expose] public section

set_option maxRecDepth 16384

noncomputable section

namespace Cert.AttnKernelIdeal.AttnList

open Cert.AttnKernelIdeal Cert.AttnKernelIdeal.Gen Cert.AttnKernelIdeal.AttnStage Cert.AttnKernelIdeal.AttnGrp
open Idealize.ShloMosaic

/-- The groups in the order in which the body takes them. -/
def order : List (Fin 4 × Fin 2) := [(0, 0), (0, 1), (1, 0), (1, 1), (2, 0), (2, 1), (3, 0), (3, 1)]

/-- The first six of them, whose own block's gradients are finished within the tile. -/
def order3 : List (Fin 3 × Fin 2) := [(0, 0), (0, 1), (1, 0), (1, 1), (2, 0), (2, 1)]

/-- A sum of vectors, from the left, over zeros. -/
def total {ι : Type} {S : Shape} (l : List ι) (f : ι → FVec Ideal S .f32) : FVec Ideal S .f32 :=
  l.foldl (fun acc n => addf acc (f n)) (broadcast S (Scalar.ofBits .f32 0x00000000#32))

section Groups

variable (g : Fin 4 → Fin 2 → Args)

/-- The gradient of a block's normed keys: from its own group and from the next one. -/
def kGrad (u : Fin 3) (k : Fin 2) : FVec Ideal S128x64 .f32 := addf (g u.castSucc k).dko (g u.succ k).dkp
def dkT (u : Fin 3) (k : Fin 2) : FVec Ideal S128x64 .bf16 := kBack (g u.castSucc k).ko (kGrad g u k) (g u.castSucc k).kg
def dvT (u : Fin 3) (k : Fin 2) : FVec Ideal S128x64 .bf16 :=
  truncf .bf16 (addf (g u.castSucc k).dvo (g u.succ k).dvp) bitsLt_bf16_f32

/-- The store of a block's keys' (`false`) or values' (`true`) gradient. -/
def kvPiece (n : Fin 3 × Fin 2 × Bool) : View.Piece (Elt Ideal) S512x256 .bf16 :=
  ⟨Rect.unit (s := S512x256) ![128 * (n.1.val + 1), 64 * n.2.1.val + 128 * n.2.2.toNat] S128x64.size
      (by intro a; have := n.1.isLt; have := n.2.1.isLt; have := n.2.2.toNat_le; fin_cases a <;> simp <;> omega),
    bif n.2.2 then dvT g n.1 n.2.1 else dkT g n.1 n.2.1⟩

def kvOrder : List (Fin 3 × Fin 2 × Bool) :=
  [2, 1, 0].flatMap fun u => [1, 0].flatMap fun k => [true, false].map fun b => (u, k, b)

/-- The bias sum of a key head, and the scales' and sinks' sums. -/
def dbias (k : Fin 2) : FVec Ideal S512x128 .f32 := total [0, 1, 2, 3] fun i : Fin 4 => (g i k).ds
def dqgSum : FVec Ideal S1x64 .f32 := total order fun n => (g n.1 n.2).dqg
def dkgSum : FVec Ideal S1x64 .f32 := total order3 fun n => kScale (g n.1.castSucc n.2).ko (kGrad g n.1 n.2)

/-- A head's sink gradient from a group, in its lane. -/
def sinkLane (n : (Fin 4 × Fin 2) × Fin 4) : FVec Ideal S1x128 .f32 :=
  select (cmpi .eq (iota .tc S1x128 32 [1] iota_S1x128_d1_w32) (broadcast S1x128 (BitVec.ofNat 32 (4 * n.1.2.val + n.2.val))))
    (broadcast S1x128 (Scalar.subf (Scalar.ofBits .f32 0x00000000#32) (extractAt ![0, 0, 0] (shapeCast S1x1x1
      (multiReduction .add [1, 2] S1 (shapeCast S1x128x1 (extractStridedSlice S128x1 ![128 * n.2.val, 0] (g n.1.1 n.1.2).dsink
        ⟨rfl, fun a => by have := n.2.isLt; fin_cases a <;> simp <;> omega⟩) shapeCasts_S128x1_S1x128x1) 0x00000000#32
        reduces_S1x128x1_S1 (.inl rfl) rfl) shapeCasts_S1_S1x1x1) inpos_S1x1x1_p0_0_0)))
    (broadcast S1x128 (Scalar.ofBits .f32 0x00000000#32))
def dskSum : FVec Ideal S1x128 .f32 :=
  total (order.flatMap fun n => [0, 1, 2, 3].map fun h : Fin 4 => (n, h)) (sinkLane g)

/-- Two heads' blocks of 128 rows side by side, the second stored last. -/
def halves (f : Fin 2 → FVec Ideal S128x64 .f32) (T : List (View.Piece (Elt Ideal) S128x128 .f32)) :
    List (View.Piece (Elt Ideal) S128x128 .f32) :=
  ⟨Rect.unit (s := S128x128) ![0, 64] S128x64.size (by intro a; fin_cases a <;> simp), shapeCast S128x64 (f 1) shapeCasts_S128x64_S128x64⟩
    :: ⟨Rect.unit (s := S128x128) ![0, 0] S128x64.size (by intro a; fin_cases a <;> simp), shapeCast S128x64 (f 0) shapeCasts_S128x64_S128x64⟩ :: T

end Groups

/-- The whole of a buffer of 128 by 128, and of the two sums. -/
abbrev all128 : Rect S128x128 := Rect.unit (s := S128x128) ![0, 0] S128x128.size (by intro a; fin_cases a <;> simp)

/-- Zeros in a buffer. -/
def zeros128 : List (View.Piece (Elt Ideal) S128x128 .f32) :=
  [⟨all128, shapeCast S128x128 (broadcast S128x128 (Scalar.ofBits (F := Ideal) .f32 0x00000000#32)) shapeCasts_S128x128_S128x128⟩]

/-- What a buffer of two halves reads as. -/
def wholeOf (a : Memref sig .tc .vmem S128x128 .f32) (L : List (View.Piece (Elt Ideal) S128x128 .f32)) : FVec Ideal S128x128 .f32 :=
  a.view.readCov L all128.toLoadRect

/-- What is carried to the next point. -/
def carry (a : Memref sig .tc .vmem S128x128 .f32) (f : Fin 2 → FVec Ideal S128x64 .f32) : View.Piece (Elt Ideal) S128x128 .f32 :=
  ⟨all128, shapeCast S128x128 (wholeOf a (halves f [])) shapeCasts_S128x128_S128x128⟩

section First

variable (R : Refs) (X : In) (ck cv : FVec Ideal S128x128 .f32) (P P' : List (View.Piece (Elt Ideal) S128x128 .f32))

/-- The block carried over: the gradient of its normed keys (what was carried and what the tile's first block adds), of
    its keys, and of its values. -/
def fGrad (k : Fin 2) : FVec Ideal S128x64 .f32 :=
  addf (ld R.a15 R.h15 ck 0 (64 * k) (by omega) (by omega))
    (R.a17.view.readCov P (Rect.unit (s := S128x128) ![0, 64 * k.val] S128x64.size
      (by intro a; have := k.isLt; fin_cases a <;> simp <;> omega)).toLoadRect)
def fKey (k : Fin 2) : FVec Ideal S128x64 .f32 := ld R.a3 R.h3 X.x2 0 (64 * k) (by omega) (by omega)
def kgLoad : FVec Ideal S1x64 .f32 :=
  R.a10.view.readAt (Elt Ideal) (Rect.unit (s := S1x64) ![0, 0] S1x64.size (by intro a; fin_cases a <;> simp)).toLoadRect
    (R.h10.unread X.x9)
def fdk (k : Fin 2) : FVec Ideal S128x64 .bf16 := kBack (fKey R X k) (fGrad R ck P k) (kgLoad R X)
def fdv : FVec Ideal S128x128 .bf16 :=
  truncf .bf16 (addf (R.a16.view.readAt (Elt Ideal) all128.toLoadRect (R.h16.unread cv)) (wholeOf R.a18 P')) bitsLt_bf16_f32
def firstStores (T : List (View.Piece (Elt Ideal) S512x256 .bf16)) : List (View.Piece (Elt Ideal) S512x256 .bf16) :=
  ⟨Rect.unit (s := S512x256) ![0, 128] S128x128.size (by intro a; fin_cases a <;> simp), fdv R cv P'⟩
    :: ⟨Rect.unit (s := S512x256) ![0, 64] S128x64.size (by intro a; fin_cases a <;> simp), fdk R X ck P 1⟩
    :: ⟨Rect.unit (s := S512x256) ![0, 0] S128x64.size (by intro a; fin_cases a <;> simp), fdk R X ck P 0⟩ :: T

/-- What the block carried over adds to the gradient of the keys' scale. -/
def fScale : FVec Ideal S1x64 .f32 := total [0, 1] fun k : Fin 2 => kScale (fKey R X k) (fGrad R ck P k)

end First

/-! ## The sums -/

/-- Rows of the small sums, and slabs of the bias sums. -/
abbrev row0 : Rect S8x128 := Rect.unit (s := S8x128) ![0, 0] S1x64.size (by intro a; fin_cases a <;> simp)
abbrev row1 : Rect S8x128 := Rect.unit (s := S8x128) ![1, 0] S1x64.size (by intro a; fin_cases a <;> simp)
abbrev row2 : Rect S8x128 := Rect.unit (s := S8x128) ![2, 0] S1x128.size (by intro a; fin_cases a <;> simp)
abbrev slab (k : Fin 2) : Rect S2x512x128 := Rect.unit (s := S2x512x128) ![k.val, 0, 0] S1x512x128.size
  (by intro a; have := k.isLt; fin_cases a <;> simp <;> omega)

/-- The stores of the small sums over what the rows held before. -/
def smStores (g : Fin 4 → Fin 2 → Args) (o0 o1 : FVec Ideal S1x64 .f32) (o2 : FVec Ideal S1x128 .f32)
    (T : List (View.Piece (Elt Ideal) S8x128 .f32)) : List (View.Piece (Elt Ideal) S8x128 .f32) :=
  ⟨row2, addf (shapeCast S1x128 o2 shapeCasts_S1x128_S1x128) (dskSum g)⟩
    :: ⟨row1, addf (shapeCast S1x64 o1 shapeCasts_S1x64_S1x64) (dkgSum g)⟩
    :: ⟨row0, addf (shapeCast S1x64 o0 shapeCasts_S1x64_S1x64) (dqgSum g)⟩ :: T

/-- The store of one slab of the bias sums over what it held before. -/
def dbStore (g : Fin 4 → Fin 2 → Args) (k : Fin 2) (o : FVec Ideal S1x512x128 .f32) : View.Piece (Elt Ideal) S2x512x128 .f32 :=
  ⟨slab k, shapeCast S1x512x128 (addf (shapeCast S512x128 o shapeCasts_S1x512x128_S512x128) (dbias g k)) shapeCasts_S512x128_S1x512x128⟩

def zerosDb : List (View.Piece (Elt Ideal) S2x512x128 .f32) :=
  [⟨Rect.unit (s := S2x512x128) ![0, 0, 0] S2x512x128.size (by intro a; fin_cases a <;> simp),
    broadcast S2x512x128 (Scalar.ofBits (F := Ideal) .f32 0x00000000#32)⟩]
def zerosSm : List (View.Piece (Elt Ideal) S8x128 .f32) :=
  [⟨Rect.unit (s := S8x128) ![0, 0] S8x128.size (by intro a; fin_cases a <;> simp), broadcast S8x128 (Scalar.ofBits (F := Ideal) .f32 0x00000000#32)⟩]

/-- The first tile's stores into the two sums: over zeros. -/
def smA0 (R : Refs) (g : Fin 4 → Fin 2 → Args) : List (View.Piece (Elt Ideal) S8x128 .f32) :=
  ⟨row0, addf (shapeCast S1x64 (R.a14.view.readCov zerosSm row0.toLoadRect) shapeCasts_S1x64_S1x64) (dqgSum g)⟩ :: zerosSm
def smA1 (R : Refs) (g : Fin 4 → Fin 2 → Args) : List (View.Piece (Elt Ideal) S8x128 .f32) :=
  ⟨row1, addf (shapeCast S1x64 (R.a14.view.readCov (smA0 R g) row1.toLoadRect) shapeCasts_S1x64_S1x64) (dkgSum g)⟩ :: smA0 R g
def smA (R : Refs) (g : Fin 4 → Fin 2 → Args) : List (View.Piece (Elt Ideal) S8x128 .f32) :=
  smStores g (R.a14.view.readCov zerosSm row0.toLoadRect) (R.a14.view.readCov (smA0 R g) row1.toLoadRect)
    (R.a14.view.readCov (smA1 R g) row2.toLoadRect) zerosSm
def dbA0 (R : Refs) (g : Fin 4 → Fin 2 → Args) : List (View.Piece (Elt Ideal) S2x512x128 .f32) :=
  dbStore g 0 (R.a13.view.readCov zerosDb (slab 0).toLoadRect) :: zerosDb
def dbA (R : Refs) (g : Fin 4 → Fin 2 → Args) : List (View.Piece (Elt Ideal) S2x512x128 .f32) :=
  dbStore g 1 (R.a13.view.readCov (dbA0 R g) (slab 1).toLoadRect) :: dbA0 R g

/-- A later tile's: over what the point before left. -/
def smB (R : Refs) (g : Fin 4 → Fin 2 → Args) (x : Vec Ideal S8x128 .f32) : List (View.Piece (Elt Ideal) S8x128 .f32) :=
  smStores g (R.a14.view.readAt (Elt Ideal) row0.toLoadRect (R.h14.unread x)) (R.a14.view.readAt (Elt Ideal) row1.toLoadRect (R.h14.unread x))
    (R.a14.view.readAt (Elt Ideal) row2.toLoadRect (R.h14.unread x)) []
def smF (R : Refs) (X : In) (g : Fin 4 → Fin 2 → Args) (x : Vec Ideal S8x128 .f32) (ck : FVec Ideal S128x128 .f32)
    (P : List (View.Piece (Elt Ideal) S128x128 .f32)) : List (View.Piece (Elt Ideal) S8x128 .f32) :=
  ⟨row1, addf (shapeCast S1x64 (R.a14.view.readCov (smB R g x) row1.toLoadRect) shapeCasts_S1x64_S1x64) (fScale R X ck P)⟩ :: smB R g x
def dbB (R : Refs) (g : Fin 4 → Fin 2 → Args) (x : Vec Ideal S2x512x128 .f32) : List (View.Piece (Elt Ideal) S2x512x128 .f32) :=
  [dbStore g 1 (R.a13.view.readAt (Elt Ideal) (slab 1).toLoadRect (R.h13.unread x)),
    dbStore g 0 (R.a13.view.readAt (Elt Ideal) (slab 0).toLoadRect (R.h13.unread x))]

/-- The last point's. -/
def smC (R : Refs) (X : In) (x : Vec Ideal S8x128 .f32) (ck : FVec Ideal S128x128 .f32) : List (View.Piece (Elt Ideal) S8x128 .f32) :=
  [⟨row1, addf (shapeCast S1x64 (R.a14.view.readAt (Elt Ideal) row1.toLoadRect (R.h14.unread x)) shapeCasts_S1x64_S1x64)
    (fScale R X ck zeros128)⟩]

end Cert.AttnKernelIdeal.AttnList

end
-- ==== Proof.AttnListA.lean ====
/- The lists of the attention kernel's stores at the first point, as the stages' sums and blocks. -/
module

public import proofs.«01_k».proof.Proof.AttnRunA
public import proofs.«01_k».proof.Proof.AttnList

@[expose] public section

set_option maxRecDepth 16384

noncomputable section

namespace Cert.AttnKernelIdeal.AttnListA

open Cert.AttnKernelIdeal Cert.AttnKernelIdeal.Gen Cert.AttnKernelIdeal.AttnRun Cert.AttnKernelIdeal.AttnStage Cert.AttnKernelIdeal.AttnGrp
open Cert.AttnKernelIdeal.AttnList
open Idealize.ShloMosaic

variable (c : Dev nD) (i : grid0.Coords) (R : Refs) (X : In) (hc0 : k0_cond1 i = 1#1) (hc1 : k0_cond2 i = 1#1)
  (hc2 : ¬k0_cond3 i = 1#1)

/-- The run, its arguments bundled. -/
def run := runA (F := Ideal) c i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 hc0 hc1 hc2 X.x0 X.x1 X.x2 X.x3 X.x4 X.x5 X.x6 X.x7 X.x8 X.x9

/-- The groups of the point. -/
def g : Fin 4 → Fin 2 → Args := grp R X (Scalar.cmpi .eq (BitVec.ofNat 32 (i 0).val) 0#32)

set_option maxHeartbeats 2000000 in
theorem dq : (run c i R X hc0 hc1 hc2).1 = dqOrder.map (dqPiece (g i R X)) := by
  sl_kernel_rfl

set_option maxHeartbeats 2000000 in
theorem dkv : (run c i R X hc0 hc1 hc2).2.1 = kvOrder.map (kvPiece (g i R X)) := by
  sl_kernel_rfl

set_option maxHeartbeats 2000000 in
theorem db : (run c i R X hc0 hc1 hc2).2.2.1 = dbA R (g i R X) := by
  sl_kernel_rfl

set_option maxHeartbeats 2000000 in
theorem sm : (run c i R X hc0 hc1 hc2).2.2.2.1 = smA R (g i R X) := by
  sl_kernel_rfl

set_option maxHeartbeats 2000000 in
theorem ck : (run c i R X hc0 hc1 hc2).2.2.2.2.1 = carry R.a19 (fun k => (g i R X 3 k).dko) :: zeros128 := by
  sl_kernel_rfl

set_option maxHeartbeats 2000000 in
theorem cv : (run c i R X hc0 hc1 hc2).2.2.2.2.2.val = carry R.a20 (fun k => (g i R X 3 k).dvo) :: zeros128 := by
  sl_kernel_rfl

end Cert.AttnKernelIdeal.AttnListA

end
-- ==== Proof.AttnListB.lean ====
/- The lists of the attention kernel's stores at a point between, as the stages' sums and blocks. -/
module

public import proofs.«01_k».proof.Proof.AttnRunB
public import proofs.«01_k».proof.Proof.AttnList

@[expose] public section

set_option maxRecDepth 16384

noncomputable section

namespace Cert.AttnKernelIdeal.AttnListB

open Cert.AttnKernelIdeal Cert.AttnKernelIdeal.Gen Cert.AttnKernelIdeal.AttnRun Cert.AttnKernelIdeal.AttnStage Cert.AttnKernelIdeal.AttnGrp
open Cert.AttnKernelIdeal.AttnList
open Idealize.ShloMosaic

variable (c : Dev nD) (i : grid0.Coords) (R : Refs) (X : In) (hc0 : ¬k0_cond1 i = 1#1) (hc1 : k0_cond2 i = 1#1)
  (hc2 : k0_cond3 i = 1#1) (x12 : Vec Ideal S2x512x128 .f32) (x13 : Vec Ideal S8x128 .f32) (x14 x15 : Vec Ideal S128x128 .f32)

/-- The run, its arguments bundled. -/
def run := runB (F := Ideal) c i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 hc0 hc1 hc2 X.x0 X.x1 X.x2 X.x3 X.x4 X.x5 X.x6 X.x7 X.x8 X.x9 x12 x13 x14 x15

/-- The groups of the point. -/
def g : Fin 4 → Fin 2 → Args := grp R X (Scalar.cmpi .eq (BitVec.ofNat 32 (i 0).val) 0#32)

/-- What the tile's first block adds to the block before it. -/
def pk : List (View.Piece (Elt Ideal) S128x128 .f32) := halves (fun k => (g i R X 0 k).dkp) zeros128
def pv : List (View.Piece (Elt Ideal) S128x128 .f32) := halves (fun k => (g i R X 0 k).dvp) zeros128

set_option maxHeartbeats 2000000 in
theorem dq : (run c i R X hc0 hc1 hc2 x12 x13 x14 x15).1 = dqOrder.map (dqPiece (g i R X)) := by
  sl_kernel_rfl

set_option maxHeartbeats 2000000 in
theorem dkv : (run c i R X hc0 hc1 hc2 x12 x13 x14 x15).2.1 = firstStores R X x14 x15 (pk i R X) (pv i R X) (kvOrder.map (kvPiece (g i R X))) := by
  sl_kernel_rfl

set_option maxHeartbeats 2000000 in
theorem db : (run c i R X hc0 hc1 hc2 x12 x13 x14 x15).2.2.1 = dbB R (g i R X) x12 := by
  sl_kernel_rfl

set_option maxHeartbeats 2000000 in
theorem sm : (run c i R X hc0 hc1 hc2 x12 x13 x14 x15).2.2.2.1 = smF R X (g i R X) x13 x14 (pk i R X) := by
  sl_kernel_rfl

set_option maxHeartbeats 2000000 in
theorem ck : (run c i R X hc0 hc1 hc2 x12 x13 x14 x15).2.2.2.2.1 = [carry R.a19 (fun k => (g i R X 3 k).dko)] := by
  sl_kernel_rfl

set_option maxHeartbeats 2000000 in
theorem cv : (run c i R X hc0 hc1 hc2 x12 x13 x14 x15).2.2.2.2.2.val = [carry R.a20 (fun k => (g i R X 3 k).dvo)] := by
  sl_kernel_rfl

end Cert.AttnKernelIdeal.AttnListB

end
-- ==== Proof.AttnListC.lean ====
/- The lists of the attention kernel's stores at the last point, as the stages' sums and blocks. -/
module

public import proofs.«01_k».proof.Proof.AttnRunC
public import proofs.«01_k».proof.Proof.AttnList

@[expose] public section

set_option maxRecDepth 16384

noncomputable section

namespace Cert.AttnKernelIdeal.AttnListC

open Cert.AttnKernelIdeal Cert.AttnKernelIdeal.Gen Cert.AttnKernelIdeal.AttnRun Cert.AttnKernelIdeal.AttnStage Cert.AttnKernelIdeal.AttnGrp
open Cert.AttnKernelIdeal.AttnList
open Idealize.ShloMosaic

variable (c : Dev nD) (i : grid0.Coords) (R : Refs) (X : In) (hc0 : ¬k0_cond1 i = 1#1) (hc1 : ¬k0_cond2 i = 1#1)
  (hc2 : k0_cond3 i = 1#1) (x10 : Vec Ideal S512x512 .bf16) (x12 : Vec Ideal S2x512x128 .f32) (x13 : Vec Ideal S8x128 .f32)
  (x14 x15 : Vec Ideal S128x128 .f32)

/-- The run, its arguments bundled. -/
def run := runC (F := Ideal) c i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 hc0 hc1 hc2 X.x0 X.x1 X.x2 X.x3 X.x4 X.x5 X.x6 X.x7 X.x8 X.x9 x10 x12 x13 x14 x15

set_option maxHeartbeats 2000000 in
theorem dkv : (run c i R X hc0 hc1 hc2 x10 x12 x13 x14 x15).1 = firstStores R X x14 x15 zeros128 zeros128 [] := by
  sl_kernel_rfl

set_option maxHeartbeats 2000000 in
theorem sm : (run c i R X hc0 hc1 hc2 x10 x12 x13 x14 x15).2.val = smC R X x13 x14 := by
  sl_kernel_rfl

end Cert.AttnKernelIdeal.AttnListC

end
-- ==== Proof.AttnData.lean ====
/-
  The gradients of the whole banded attention, on real numbers, block by block: what each group of the groups of
  `AttnMath` gives, and their sums over the blocks.
-/
module

public import proofs.«01_k».proof.Proof.AttnMath

@[expose] public section

noncomputable section

namespace Cert.AttnMath

open Cert.Reals

/-- What the attention reads: the projections and the cotangent by row and column, the bias and the sink logits by key
    head and row of a group, and the two scales. -/
structure Data where
  z : ℕ → ℕ → ℝ
  da : ℕ → ℕ → ℝ
  b : Fin 2 → Fin 512 → Fin 128 → ℝ
  sk : Fin 2 → Fin 512 → ℝ
  qg : Fin 64 → ℝ
  kg : Fin 64 → ℝ

namespace Data

variable (D : Data)

/-- Block `n`'s group of key head `k`. -/
def group (n : ℕ) (k : Fin 2) : Group where
  q r d := D.z (128 * n + r.val % 128) (256 * k.val + 64 * (r.val / 128) + d.val)
  a r d := D.da (128 * n + r.val % 128) (256 * k.val + 64 * (r.val / 128) + d.val)
  ko c d := D.z (128 * n + c.val) (512 + 64 * k.val + d.val)
  kp c d := D.z (128 * (n - 1) + c.val) (512 + 64 * k.val + d.val)
  vo c d := D.z (128 * n + c.val) (640 + 64 * k.val + d.val)
  vp c d := D.z (128 * (n - 1) + c.val) (640 + 64 * k.val + d.val)
  b := D.b k
  sk := D.sk k
  qg := D.qg
  kg := D.kg
  more := decide (1 ≤ n)

/-- The keys of block `n`. -/
def key (n : ℕ) (k : Fin 2) (c : Fin 128) (d : Fin 64) : ℝ := D.z (128 * n + c.val) (512 + 64 * k.val + d.val)

/-- The gradients of the normed keys and of the values of block `n`: from its own group and from the next one. -/
def dkn (n : ℕ) (k : Fin 2) (c : Fin 128) (d : Fin 64) : ℝ :=
  (D.group n k).dko c d + if n < 63 then (D.group (n + 1) k).dkp c d else 0
def dv (n : ℕ) (k : Fin 2) (c : Fin 128) (d : Fin 64) : ℝ :=
  (D.group n k).dvo c d + if n < 63 then (D.group (n + 1) k).dvp c d else 0

/-- The gradient of the keys. -/
def dk (n : ℕ) (k : Fin 2) (c : Fin 128) (d : Fin 64) : ℝ := back (D.key n k c) (D.dkn n k c) D.kg d

/-- What block `n` adds to the gradients of the two scales, of the sinks (by lane) and of the bias. -/
def dqg (n : ℕ) (d : Fin 64) : ℝ := ∑ k : Fin 2, (D.group n k).dqg d
def dkg (n : ℕ) (d : Fin 64) : ℝ := ∑ k : Fin 2, ∑ c, D.dkn n k c d * hat (D.key n k c) d
def dsk (n : ℕ) (j : Fin 128) : ℝ := ∑ k : Fin 2, ∑ h : Fin 4,
  if j.val = 4 * k.val + h.val then -∑ r : Fin 128, (D.group n k).ps ⟨128 * h.val + r.val, by omega⟩ * (D.group n k).delta ⟨128 * h.val + r.val, by omega⟩
  else 0
def ds (n : ℕ) (k : Fin 2) (r : Fin 512) (c : Fin 128) : ℝ := (D.group n k).ds r c

/-- The three small gradients as rows of one array: of the queries' scale, summed over the first `n` blocks, of the keys'
    scale, over the first `n'`, and of the sinks, over the first `n`. -/
def small (n n' : ℕ) (r : Fin 8) (j : Fin 128) : ℝ :=
  if r.val = 0 then (if j.val < 64 then ∑ i ∈ Finset.range n, D.dqg i ⟨j.val % 64, by omega⟩ else 0)
  else if r.val = 1 then (if j.val < 64 then ∑ i ∈ Finset.range n', D.dkg i ⟨j.val % 64, by omega⟩ else 0)
  else if r.val = 2 then ∑ i ∈ Finset.range n, D.dsk i j else 0

/-- What the four blocks of a tile add to the sums, and what the block carried over adds. -/
def smallAdd (t : ℕ) (r : Fin 8) (j : Fin 128) : ℝ :=
  if r.val = 0 then (if j.val < 64 then ∑ i : Fin 4, D.dqg (4 * t + i.val) ⟨j.val % 64, by omega⟩ else 0)
  else if r.val = 1 then (if j.val < 64 then ∑ u : Fin 3, D.dkg (4 * t + u.val) ⟨j.val % 64, by omega⟩ else 0)
  else if r.val = 2 then ∑ i : Fin 4, D.dsk (4 * t + i.val) j else 0
def smallFirst (n : ℕ) (r : Fin 8) (j : Fin 128) : ℝ :=
  if r.val = 1 then (if j.val < 64 then D.dkg n ⟨j.val % 64, by omega⟩ else 0) else 0

omit D in
theorem sum_range_split (f : ℕ → ℝ) (n m : ℕ) :
    ∑ i ∈ Finset.range (n + m), f i = ∑ i ∈ Finset.range n, f i + ∑ i : Fin m, f (n + i.val) := by
  rw [Finset.sum_range_add, Fin.sum_univ_eq_sum_range (fun i => f (n + i)) m]

theorem small_zero : D.small 0 0 = fun _ _ => 0 := by
  funext r j; simp [small]

theorem small_start (r : Fin 8) (j : Fin 128) : D.small 4 3 r j = D.smallAdd 0 r j := by
  simp only [small, smallAdd, Finset.sum_range_succ, Finset.sum_range_zero, Fin.sum_univ_four, Fin.sum_univ_three]
  split_ifs <;> simp

theorem small_step (t : ℕ) (ht : 1 ≤ t) (r : Fin 8) (j : Fin 128) :
    D.small (4 * t + 4) (4 * t + 3) r j = D.small (4 * t) (4 * t - 1) r j + D.smallAdd t r j + D.smallFirst (4 * t - 1) r j := by
  obtain ⟨s, rfl⟩ : ∃ s, t = s + 1 := ⟨t - 1, by omega⟩
  have e : 4 * (s + 1) - 1 = 4 * s + 3 := by omega
  rw [e]
  simp only [small, smallAdd, smallFirst, sum_range_split _ (4 * (s + 1)) 4,
    show 4 * (s + 1) + 3 = 4 * s + 3 + 1 + 3 by omega, sum_range_split _ (4 * s + 3 + 1) 3, Finset.sum_range_succ _ (4 * s + 3)]
  simp only [show 4 * s + 3 + 1 = 4 * (s + 1) by omega]
  split_ifs
  any_goals omega
  all_goals ring

theorem small_last (r : Fin 8) (j : Fin 128) : D.small 64 64 r j = D.small 64 63 r j + D.smallFirst 63 r j := by
  simp only [small, smallFirst, Finset.sum_range_succ _ 63]
  split_ifs <;> first | omega | simp

/-- The bias sums over the first `n` blocks. -/
def bias (n : ℕ) (k : Fin 2) (r : Fin 512) (c : Fin 128) : ℝ := ∑ i ∈ Finset.range n, D.ds i k r c

theorem bias_step (t : ℕ) (k : Fin 2) (r : Fin 512) (c : Fin 128) :
    D.bias (4 * t + 4) k r c = D.bias (4 * t) k r c + ∑ i : Fin 4, D.ds (4 * t + i.val) k r c := by
  exact sum_range_split _ (4 * t) 4

/-- The gradients of the queries, and of the keys and values side by side, by token and column. -/
def dqAt (T j : ℕ) : ℝ :=
  (D.group (T / 128) ⟨j / 256 % 2, by omega⟩).dq ⟨128 * (j % 256 / 64) + T % 128, by omega⟩ ⟨j % 64, by omega⟩
def dkvAt (T j : ℕ) : ℝ :=
  if j < 128 then D.dk (T / 128) ⟨j / 64 % 2, by omega⟩ ⟨T % 128, by omega⟩ ⟨j % 64, by omega⟩
  else D.dv (T / 128) ⟨j / 64 % 2, by omega⟩ ⟨T % 128, by omega⟩ ⟨j % 64, by omega⟩

end Data

end Cert.AttnMath

end
-- ==== Proof.AttnLoad.lean ====
/-
  The loads of a point of the attention kernel, as real numbers: a point whose blocks hold their rows of the data loads
  each group's data.
-/
module

public import proofs.«01_k».proof.Proof.AttnList
public import proofs.«01_k».proof.Proof.AttnData

@[expose] public section

set_option maxRecDepth 16384

noncomputable section

namespace Cert.AttnKernelIdeal.AttnLoad

open Cert.AttnKernelIdeal Cert.AttnKernelIdeal.Gen Cert.AttnKernelIdeal.AttnStage Cert.AttnKernelIdeal.AttnGrp
open Cert.AttnKernelIdeal.AttnList
open Idealize.ShloMosaic
open Cert.Reals Cert.AttnMath

/-- What the blocks of point `t` hold of the data: its four blocks of rows, and the block before them. -/
structure Holds (X : In) (D : Data) (t : ℕ) : Prop where
  x0 : ∀ (r : Fin 512) (j : Fin 512), X.x0 (ix2 r j) = (D.z (512 * t + r.val) j.val : EReal)
  x1 : ∀ (r : Fin 512) (j : Fin 128), X.x1 (ix2 r j) = (D.z (512 * t + r.val) (512 + j.val) : EReal)
  x2 : ∀ (r : Fin 128) (j : Fin 128), X.x2 (ix2 r j) = (D.z (128 * (4 * t - 1) + r.val) (512 + j.val) : EReal)
  x3 : ∀ (r : Fin 512) (j : Fin 128), X.x3 (ix2 r j) = (D.z (512 * t + r.val) (640 + j.val) : EReal)
  x4 : ∀ (r : Fin 128) (j : Fin 128), X.x4 (ix2 r j) = (D.z (128 * (4 * t - 1) + r.val) (640 + j.val) : EReal)
  x5 : ∀ (r : Fin 512) (j : Fin 512), X.x5 (ix2 r j) = (D.da (512 * t + r.val) j.val : EReal)
  x6 : ∀ (k : Fin 2) (r : Fin 512) (c : Fin 128), X.x6 (ix3 k r c) = (D.b k r c : EReal)
  x7 : ∀ (k : Fin 2) (r : Fin 512), X.x7 (ix3 k r 0) = (D.sk k r : EReal)
  x8 : ∀ d : Fin 64, X.x8 (ix2 0 d) = (D.qg d : EReal)
  x9 : ∀ d : Fin 64, X.x9 (ix2 0 d) = (D.kg d : EReal)

/-- A load at an index. -/
theorem ld_at {σ : RefSig} {R C : ℕ} (a : Memref σ .tc .vmem ⟨2, ![R, C]⟩ .f32) (h : a.IsWhole) (x : Vec Ideal ⟨2, ![R, C]⟩ .f32) (r c : ℕ)
    (hr : r + 128 ≤ R) (hc : c + 64 ≤ C) (p : Fin 128) (q : Fin 64) :
    ld a h x r c hr hc (ix2 p q) = x (ix2 ⟨r + p.val, by omega⟩ ⟨c + q.val, by omega⟩) := by
  refine (congrFun (h.read_unread x) _).trans (congrArg x (funext fun b => Fin.ext ?_))
  fin_cases b <;> simp

/-- Four heads stacked, at an index. -/
theorem ldHeads_at {σ : RefSig} (a : Memref σ .tc .vmem S512x512 .f32) (h : a.IsWhole) (x : Vec Ideal S512x512 .f32) (i : Fin 4) (k : Fin 2)
    (r : Fin 512) (d : Fin 64) :
    ldHeads a h x i k (ix2 r d)
      = x (ix2 ⟨128 * i.val + r.val % 128, by omega⟩ ⟨256 * k.val + 64 * (r.val / 128) + d.val, by omega⟩) := by
  unfold ldHeads
  pointwise [ld_at]
  split_ifs <;> exact congrArg x (congrArg₂ ix2 (Fin.ext (by dsimp only; omega)) (Fin.ext (by dsimp only; omega)))

/-- The load of the block before, at an index. -/
theorem ldPrev_zero {σ : RefSig} (a : Memref σ .tc .vmem S512x128 .f32) (h : a.IsWhole) (x : Vec Ideal S512x128 .f32)
    (a' : Memref σ .tc .vmem S128x128 .f32) (h' : a'.IsWhole) (x' : Vec Ideal S128x128 .f32) (k : Fin 2) (p : Fin 128) (q : Fin 64) :
    ldPrev a h x a' h' x' 0 k (ix2 p q) = x' (ix2 p ⟨64 * k.val + q.val, by omega⟩) := by
  refine (ld_at a' h' x' 0 (64 * k) (by omega) (by omega) p q).trans ?_
  exact congrArg x' (congrArg₂ ix2 (Fin.ext (by simp)) (Fin.ext (by simp)))

theorem ldPrev_succ {σ : RefSig} (a : Memref σ .tc .vmem S512x128 .f32) (h : a.IsWhole) (x : Vec Ideal S512x128 .f32)
    (a' : Memref σ .tc .vmem S128x128 .f32) (h' : a'.IsWhole) (x' : Vec Ideal S128x128 .f32) (j : ℕ) (hj : j + 1 < 4) (k : Fin 2)
    (p : Fin 128) (q : Fin 64) :
    ldPrev a h x a' h' x' ⟨j + 1, hj⟩ k (ix2 p q) = x (ix2 ⟨128 * j + p.val, by omega⟩ ⟨64 * k.val + q.val, by omega⟩) :=
  ld_at a h x (128 * j) (64 * k) (by omega) (by omega) p q

/-- A point's groups hold the data of the tile's four blocks. -/
theorem grpOf_at {σ : RefSig} (a1 : Memref σ .tc .vmem S512x512 .f32) (h1 : a1.IsWhole) (a2 : Memref σ .tc .vmem S512x128 .f32) (h2 : a2.IsWhole)
    (a3 : Memref σ .tc .vmem S128x128 .f32) (h3 : a3.IsWhole) (a4 : Memref σ .tc .vmem S512x128 .f32) (h4 : a4.IsWhole)
    (a5 : Memref σ .tc .vmem S128x128 .f32) (h5 : a5.IsWhole) (a6 : Memref σ .tc .vmem S512x512 .f32) (h6 : a6.IsWhole)
    (a7 : Memref σ .tc .vmem S2x512x128 .f32) (h7 : a7.IsWhole) (a8 : Memref σ .tc .vmem S2x512x1 .f32) (h8 : a8.IsWhole)
    (a9 : Memref σ .tc .vmem S1x64 .f32) (h9 : a9.IsWhole) (a10 : Memref σ .tc .vmem S1x64 .f32) (h10 : a10.IsWhole)
    {X : In} {D : Data} {t : ℕ} (ht : t < 16) (H : Holds X D t) (i : Fin 4) (k : Fin 2) :
    (grpOf a1 h1 a2 h2 a3 h3 a4 h4 a5 h5 a6 h6 a7 h7 a8 h8 a9 h9 a10 h10 X (Scalar.cmpi .eq (BitVec.ofNat 32 t) 0#32) i k).At (D.group (4 * t + i.val) k) where
  q r d := by
    refine (ldHeads_at a1 h1 X.x0 i k r d).trans ((H.x0 _ _).trans ?_)
    show ((D.z _ _ : ℝ) : EReal) = ((D.z _ _ : ℝ) : EReal)
    congr 2
    dsimp only; omega
  a r d := by
    refine (ldHeads_at a6 h6 X.x5 i k r d).trans ((H.x5 _ _).trans ?_)
    show ((D.da _ _ : ℝ) : EReal) = ((D.da _ _ : ℝ) : EReal)
    congr 2
    dsimp only; omega
  ko r d := by
    refine (ld_at a2 h2 X.x1 (128 * i) (64 * k) (by omega) (by omega) r d).trans ((H.x1 _ _).trans ?_)
    show ((D.z _ _ : ℝ) : EReal) = ((D.z _ _ : ℝ) : EReal)
    congr 2 <;> dsimp only <;> omega
  vo r d := by
    refine (ld_at a4 h4 X.x3 (128 * i) (64 * k) (by omega) (by omega) r d).trans ((H.x3 _ _).trans ?_)
    show ((D.z _ _ : ℝ) : EReal) = ((D.z _ _ : ℝ) : EReal)
    congr 2 <;> dsimp only <;> omega
  kp r d := by
    obtain ⟨i, hi⟩ := i
    cases i with
    | zero =>
      refine (ldPrev_zero a2 h2 X.x1 a3 h3 X.x2 k r d).trans ((H.x2 _ _).trans ?_)
      show ((D.z _ _ : ℝ) : EReal) = ((D.z _ _ : ℝ) : EReal)
      congr 2
      dsimp only; omega
    | succ j =>
      refine (ldPrev_succ a2 h2 X.x1 a3 h3 X.x2 j hi k r d).trans ((H.x1 _ _).trans ?_)
      show ((D.z _ _ : ℝ) : EReal) = ((D.z _ _ : ℝ) : EReal)
      congr 2 <;> dsimp only <;> omega
  vp r d := by
    obtain ⟨i, hi⟩ := i
    cases i with
    | zero =>
      refine (ldPrev_zero a4 h4 X.x3 a5 h5 X.x4 k r d).trans ((H.x4 _ _).trans ?_)
      show ((D.z _ _ : ℝ) : EReal) = ((D.z _ _ : ℝ) : EReal)
      congr 2
      dsimp only; omega
    | succ j =>
      refine (ldPrev_succ a4 h4 X.x3 a5 h5 X.x4 j hi k r d).trans ((H.x3 _ _).trans ?_)
      show ((D.z _ _ : ℝ) : EReal) = ((D.z _ _ : ℝ) : EReal)
      congr 2 <;> dsimp only <;> omega
  b r c := by
    refine (congrFun (h7.read_unread X.x6) _).trans ((congrArg X.x6 (funext fun b => Fin.ext ?_)).trans (H.x6 k r c))
    fin_cases b <;> simp
  sk r := by
    refine (congrFun (h8.read_unread X.x7) _).trans ((congrArg X.x7 (funext fun b => Fin.ext ?_)).trans (H.x7 k r))
    fin_cases b <;> simp
  qg d := by
    refine (congrFun (h9.read_unread X.x8) _).trans ((congrArg X.x8 (funext fun b => Fin.ext ?_)).trans (H.x8 d))
    fin_cases b <;> simp
  kg d := by
    refine (congrFun (h10.read_unread X.x9) _).trans ((congrArg X.x9 (funext fun b => Fin.ext ?_)).trans (H.x9 d))
    fin_cases b <;> simp
  edge := by
    obtain ⟨i, hi⟩ := i
    cases i with
    | zero =>
      show Scalar.cmpi .eq (BitVec.ofNat 32 t) 0#32 = if decide (1 ≤ 4 * t + 0) = true then 0#1 else 1#1
      interval_cases t <;> rfl
    | succ j =>
      show decide (1 ≤ 4 * t + (j + 1)) = true
      exact decide_eq_true (by omega)

theorem grp_at {R : Refs} {X : In} {D : Data} {t : ℕ} (ht : t < 16) (H : Holds X D t) (i : Fin 4) (k : Fin 2) :
    (grp R X (Scalar.cmpi .eq (BitVec.ofNat 32 t) 0#32) i k).At (D.group (4 * t + i.val) k) :=
  grpOf_at _ _ _ _ _ _ _ _ _ _ _ _ _ _ _ _ _ _ _ _ ht H i k

end Cert.AttnKernelIdeal.AttnLoad

end
-- ==== Proof.AttnPiece.lean ====
/-
  The attention kernel's stores at a point, read at an index.
-/
module

public import proofs.«01_k».proof.Proof.AttnLoad

@[expose] public section

set_option maxRecDepth 16384

noncomputable section

namespace Cert.AttnKernelIdeal.AttnPiece

open Cert.AttnKernelIdeal Cert.AttnKernelIdeal.Gen Cert.AttnKernelIdeal.AttnStage Cert.AttnKernelIdeal.AttnGrp
open Cert.AttnKernelIdeal.AttnList Cert.AttnKernelIdeal.AttnLoad
open Idealize.ShloMosaic
open Cert.Reals Cert.AttnMath

/-! ## Lists of stores -/

section Stores

variable {s : Shape} {e : EltTy} {off size : Fin s.rank → ℕ} {inb : ∀ a, off a + size a ≤ s.size a}

/-- An index under the last store, -/
theorem canon_in (w : (Rect.unit off size inb).shape.Idx → Elt Ideal e) (T : List (View.Piece (Elt Ideal) s e)) (y : s.Idx)
    (x : (Rect.unit off size inb).shape.Idx) (h : ∀ a, (y a).val = off a + (x a).val) :
    View.canon (⟨Rect.unit off size inb, w⟩ :: T) y = w x := by
  have e : y = (Rect.unit off size inb).emb x := funext fun a => Fin.ext (by
    rw [h a]; show off a + (x a).val = off a + 1 * (x a).val; rw [Nat.one_mul])
  rw [e]
  exact View.canon_cons_emb _ w T x

/-- and one off it. -/
theorem canon_out (w : (Rect.unit off size inb).shape.Idx → Elt Ideal e) (T : List (View.Piece (Elt Ideal) s e)) (y : s.Idx)
    (a : Fin s.rank) (h : (y a).val < off a ∨ off a + size a ≤ (y a).val) :
    View.canon (⟨Rect.unit off size inb, w⟩ :: T) y = View.canon T y :=
  View.canon_cons_of_not_mem _ _ fun hm => by
    have := (Rect.mem_set_unit (inb := inb)).mp hm a
    omega

theorem emb_val (x : (Rect.unit off size inb).shape.Idx) (a : Fin s.rank) :
    ((Rect.unit off size inb).emb x a).val = off a + (x a).val := by
  show off a + 1 * (x a).val = off a + (x a).val; rw [Nat.one_mul]

/-- A read of what the stores left, at an index. -/
theorem readCov_at (v : View sig .tc .vmem s e) (L : List (View.Piece (Elt Ideal) s e)) (x : (Rect.unit off size inb).shape.Idx)
    (y : s.Idx) (h : ∀ a, (y a).val = off a + (x a).val) :
    v.readCov L (Rect.unit off size inb).toLoadRect x = View.canon L y :=
  (congrFun (View.readCov_eq_canon' v L (Rect.unit off size inb).toLoadRect) x).trans (congrArg (View.canon L)
    (funext fun a => Fin.ext (by rw [h a]; show off a + 1 * (x a).val = _; rw [Nat.one_mul])))

/-- A read of a buffer whose contents are known, at an index. -/
theorem readAt_at {a : Memref sig .tc .vmem s e} (ha : a.IsWhole) (X : s.Idx → Elt Ideal e)
    (x : (Rect.unit off size inb).shape.Idx) (y : s.Idx) (h : ∀ a, (y a).val = off a + (x a).val) :
    a.view.readAt (Elt Ideal) (Rect.unit off size inb).toLoadRect (ha.unread X) x = X y :=
  (congrFun (ha.read_unread X) _).trans (congrArg X
    (funext fun a => Fin.ext (by rw [h a]; show off a + 1 * (x a).val = _; rw [Nat.one_mul])))

/-- Stores over a buffer whose contents are known: an index that none covers keeps them. -/
theorem writes_out {a : Memref sig .tc .vmem s e} (ha : a.IsWhole) (X : s.Idx → Elt Ideal e)
    (L : List (View.Piece (Elt Ideal) s e)) (y : s.Idx) (h : ∀ p ∈ L, y ∉ p.1.set) :
    a.view.read (Elt Ideal) (a.view.writes (Elt Ideal) (ha.unread X) L) y = X y :=
  (View.read_writes_apply_of_forall_not_mem _ _ y L h).trans (congrFun (ha.read_unread X) y)

theorem not_mem (y : s.Idx) (a : Fin s.rank) (h : (y a).val < off a ∨ off a + size a ≤ (y a).val) : y ∉ (Rect.unit off size inb).set :=
  fun hm => by
    have := (Rect.mem_set_unit (inb := inb)).mp hm a
    omega

end Stores

/-! ## Buffers of 128 by 128 -/

/-- A store of a whole buffer. -/
theorem canon_all (w : FVec Ideal S128x128 .f32) (T : List (View.Piece (Elt Ideal) S128x128 .f32)) (y : S128x128.Idx) :
    View.canon (Val := Elt Ideal) (s := S128x128) (e := .f32) (⟨all128, w⟩ :: T) y = w y :=
  canon_in w T y y fun a => by fin_cases a <;> simp

theorem zeros_at (y : S128x128.Idx) : View.canon zeros128 y = (0 : EReal) := by
  refine (canon_all _ [] y).trans ?_
  idx_vars y
  pointwise

theorem wholeOf_at (a : Memref sig .tc .vmem S128x128 .f32) (L : List (View.Piece (Elt Ideal) S128x128 .f32)) (y : S128x128.Idx) :
    wholeOf a L y = View.canon L y :=
  readCov_at a.view L y y fun a => by fin_cases a <;> simp

/-- Two halves side by side. -/
theorem halves_at (f : Fin 2 → FVec Ideal S128x64 .f32) (T : List (View.Piece (Elt Ideal) S128x128 .f32)) (k : Fin 2)
    (c : Fin 128) (d : Fin 64) (j : Fin 128) (hj : j.val = 64 * k.val + d.val) :
    View.canon (halves f T) (ix2 c j) = f k (ix2 c d) := by
  obtain rfl | rfl : k = 0 ∨ k = 1 := by omega
  · refine (canon_out _ _ _ 1 (.inl ?_)).trans ((canon_in _ _ _ (ix2 c d) ?_).trans ?_)
    · simp [hj]
    · intro a; fin_cases a <;> simp [hj]
    · pointwise
  · refine (canon_in _ _ _ (ix2 c d) ?_).trans ?_
    · intro a; fin_cases a <;> simp [hj]
    · pointwise

/-- What is carried to the next point. -/
theorem carry_at (a : Memref sig .tc .vmem S128x128 .f32) (f : Fin 2 → FVec Ideal S128x64 .f32)
    (T : List (View.Piece (Elt Ideal) S128x128 .f32)) (k : Fin 2)
    (c : Fin 128) (d : Fin 64) (j : Fin 128) (hj : j.val = 64 * k.val + d.val) :
    View.canon (carry a f :: T) (ix2 c j) = f k (ix2 c d) := by
  refine (canon_all _ T _).trans ?_
  pointwise
  exact (wholeOf_at a _ _).trans (halves_at f [] k c d j hj)

/-! ## The queries' gradients -/

section Groups

variable {g : Fin 4 → Fin 2 → Args} {D : Data} {t : ℕ} (h : ∀ i k, (g i k).At (D.group (4 * t + i.val) k))
include h

/-- What a row of the array of the queries' gradients holds. -/
def dqRow (D : Data) (t : ℕ) (y : S512x512.Idx) : EReal := ((D.dqAt (512 * t + (y 0).val) (y 1).val : ℝ) : EReal)

theorem dq_piece (n : Fin 4 × Fin 2 × Fin 4) (x) : (dqPiece g n).2 x = dqRow D t ((dqPiece g n).1.emb x) := by
  obtain ⟨i, k, b⟩ := n
  change S128x64.Idx at x
  idx_vars x
  have e : (dqPiece g (i, k, b)).2 (ix2 x0 x1) = (g i k).dq (ix2 ⟨128 * b.val + x0.val, by omega⟩ x1) := by
    unfold dqPiece
    pointwise
  refine e.trans ((Args.dq_real (h i k) _ _).trans ?_)
  have e0 : ((dqPiece g (i, k, b)).1.emb (ix2 x0 x1) 0).val = 128 * i.val + x0.val := by
    show 128 * i.val + 1 * x0.val = _; omega
  have e1 : ((dqPiece g (i, k, b)).1.emb (ix2 x0 x1) 1).val = 256 * k.val + 64 * b.val + x1.val := by
    show 256 * k.val + 64 * b.val + 1 * x1.val = _; omega
  rw [dqRow, e0, e1, Data.dqAt]
  have a1 : (512 * t + (128 * i.val + x0.val)) / 128 = 4 * t + i.val := by omega
  have a2 : (⟨(256 * k.val + 64 * b.val + x1.val) / 256 % 2, by omega⟩ : Fin 2) = k := Fin.ext (by dsimp only; omega)
  have a3 : (⟨128 * ((256 * k.val + 64 * b.val + x1.val) % 256 / 64) + (512 * t + (128 * i.val + x0.val)) % 128, by omega⟩ : Fin 512)
      = ⟨128 * b.val + x0.val, by omega⟩ := Fin.ext (by dsimp only; omega)
  have a4 : (⟨(256 * k.val + 64 * b.val + x1.val) % 64, by omega⟩ : Fin 64) = x1 := Fin.ext (by dsimp only; omega)
  rw [a1, a2, a3, a4]

omit h in
theorem mem_dqOrder (n : Fin 4 × Fin 2 × Fin 4) : n ∈ dqOrder := by
  revert n; decide +kernel

theorem dq_at (r j : Fin 512) :
    View.canon (dqOrder.map (dqPiece g)) (ix2 r j) = ((D.dqAt (512 * t + r.val) j.val : ℝ) : EReal) := by
  refine View.canon_apply_of_pieces (Val := Elt Ideal) (e := .bf16) (dqRow D t) _
    (fun p hp => ?_) (ix2 r j) ?_
  · obtain ⟨n, _, rfl⟩ := List.mem_map.mp hp
    exact dq_piece h n
  · refine ⟨_, List.mem_map_of_mem (mem_dqOrder ⟨⟨r.val / 128, by omega⟩, ⟨j.val / 256, by omega⟩, ⟨j.val % 256 / 64, by omega⟩⟩), ?_⟩
    unfold dqPiece
    rw [Rect.mem_set_unit]
    intro a
    fin_cases a <;> simp <;> omega

/-! ## The keys' and values' gradients of the tile's first three blocks -/

theorem kGrad_real (ht : t < 16) (u : Fin 3) (k : Fin 2) (c : Fin 128) (d : Fin 64) :
    kGrad g u k (ix2 c d) = ((D.dkn (4 * t + u.val) k c d : ℝ) : EReal) := by
  have h1 := Args.dko_real (h u.castSucc k) c d
  have h2 := Args.dkp_real (h u.succ k) c d
  show (g u.castSucc k).dko (ix2 c d) + (g u.succ k).dkp (ix2 c d) = _
  rw [h1, h2, ← EReal.coe_add, Data.dkn, if_pos (by omega)]
  rfl

theorem dkT_real (ht : t < 16) (u : Fin 3) (k : Fin 2) (c : Fin 128) (d : Fin 64) :
    dkT g u k (ix2 c d) = ((D.dk (4 * t + u.val) k c d : ℝ) : EReal) :=
  kBack_real (h u.castSucc k).ko (kGrad_real h ht u k) (h u.castSucc k).kg c d

theorem dvT_real (ht : t < 16) (u : Fin 3) (k : Fin 2) (c : Fin 128) (d : Fin 64) :
    dvT g u k (ix2 c d) = ((D.dv (4 * t + u.val) k c d : ℝ) : EReal) := by
  have h1 := Args.dvo_real (h u.castSucc k) c d
  have h2 := Args.dvp_real (h u.succ k) c d
  show (g u.castSucc k).dvo (ix2 c d) + (g u.succ k).dvp (ix2 c d) = _
  rw [h1, h2, ← EReal.coe_add, Data.dv, if_pos (by omega)]
  rfl

/-- What a row of the array of the keys' and values' gradients holds: the first block of rows is spare. -/
def kvRow (D : Data) (t : ℕ) (y : S512x256.Idx) : EReal := ((D.dkvAt (512 * t + (y 0).val - 128) (y 1).val : ℝ) : EReal)

theorem kv_piece (ht : t < 16) (n : Fin 3 × Fin 2 × Bool) (x) : (kvPiece g n).2 x = kvRow D t ((kvPiece g n).1.emb x) := by
  obtain ⟨u, k, b⟩ := n
  change S128x64.Idx at x
  idx_vars x
  have e0 : ((kvPiece g (u, k, b)).1.emb (ix2 x0 x1) 0).val = 128 * (u.val + 1) + x0.val := by
    show 128 * (u.val + 1) + 1 * x0.val = _; omega
  have e1 : ((kvPiece g (u, k, b)).1.emb (ix2 x0 x1) 1).val = 64 * k.val + 128 * b.toNat + x1.val := by
    show 64 * k.val + 128 * b.toNat + 1 * x1.val = _; omega
  have hb := b.toNat_le
  rw [kvRow, e0, e1, Data.dkvAt]
  have a1 : (512 * t + (128 * (u.val + 1) + x0.val) - 128) / 128 = 4 * t + u.val := by omega
  have a2 : (⟨(64 * k.val + 128 * b.toNat + x1.val) / 64 % 2, by omega⟩ : Fin 2) = k := Fin.ext (by dsimp only; omega)
  have a3 : (⟨(512 * t + (128 * (u.val + 1) + x0.val) - 128) % 128, by omega⟩ : Fin 128) = x0 := Fin.ext (by dsimp only; omega)
  have a4 : (⟨(64 * k.val + 128 * b.toNat + x1.val) % 64, by omega⟩ : Fin 64) = x1 := Fin.ext (by dsimp only; omega)
  rw [a1, a2, a3, a4]
  cases b
  · rw [if_pos (by simp; omega)]; exact dkT_real h ht u k x0 x1
  · rw [if_neg (by simp; omega)]; exact dvT_real h ht u k x0 x1

omit h in
theorem mem_kvOrder (n : Fin 3 × Fin 2 × Bool) : n ∈ kvOrder := by
  revert n; decide +kernel

omit h in
theorem kv_cover (r : Fin 512) (j : Fin 256) (hr : 128 ≤ r.val) : ∃ p ∈ kvOrder.map (kvPiece g), (ix2 r j : S512x256.Idx) ∈ p.1.set := by
  refine ⟨_, List.mem_map_of_mem (mem_kvOrder ⟨⟨r.val / 128 - 1, by omega⟩, ⟨j.val / 64 % 2, by omega⟩, decide (128 ≤ j.val)⟩), ?_⟩
  unfold kvPiece
  rw [Rect.mem_set_unit]
  intro a
  by_cases hj : 128 ≤ j.val <;> fin_cases a <;> simp [hj] <;> omega

end Groups

end Cert.AttnKernelIdeal.AttnPiece

end
-- ==== Proof.AttnSums.lean ====
/-
  The sums that a point of the attention kernel adds, and what it finishes for the block carried over to it.
-/
module

public import proofs.«01_k».proof.Proof.AttnPiece

@[expose] public section

set_option maxRecDepth 16384

noncomputable section

namespace Cert.AttnKernelIdeal.AttnSums

open Cert.AttnKernelIdeal Cert.AttnKernelIdeal.Gen Cert.AttnKernelIdeal.AttnStage Cert.AttnKernelIdeal.AttnGrp
open Cert.AttnKernelIdeal.AttnList Cert.AttnKernelIdeal.AttnLoad Cert.AttnKernelIdeal.AttnPiece
open Idealize.ShloMosaic
open Cert.Reals Cert.AttnMath

/-- A sum of vectors at an index. -/
theorem total_real {ι : Type} {S : Shape} (l : List ι) (f : ι → FVec Ideal S .f32) (y : S.Idx) (G : ι → ℝ)
    (h : ∀ n, f n y = (G n : EReal)) : total l f y = ((l.map G).sum : ℝ) := by
  have aux : ∀ (l : List ι) (z : FVec Ideal S .f32) (x : ℝ), z y = (x : EReal) →
      l.foldl (fun acc n => addf acc (f n)) z y = ((x + (l.map G).sum : ℝ) : EReal) := by
    intro l
    induction l with
    | nil => intro z x hz; simpa using hz
    | cons n l ih =>
      intro z x hz
      have e : addf z (f n) y = ((x + G n : ℝ) : EReal) := by
        show z y + f n y = _
        rw [hz, h n, EReal.coe_add]
      rw [List.foldl_cons, ih _ _ e, List.map_cons, List.sum_cons, add_assoc]
  refine (aux l _ 0 ?_).trans (by rw [zero_add])
  show Ideal.ofBits .f32 0x00000000#32 = _
  simp [Ideal.ofBits, Ideal.ieee]

section Groups

variable {g : Fin 4 → Fin 2 → Args} {D : Data} {t : ℕ} (h : ∀ i k, (g i k).At (D.group (4 * t + i.val) k))
include h

theorem dqgSum_real (d : Fin 64) : dqgSum g (ix2 0 d) = ((∑ i : Fin 4, D.dqg (4 * t + i.val) d : ℝ) : EReal) := by
  refine (total_real order _ _ (fun n => (D.group (4 * t + n.1.val) n.2).dqg d) fun n => Args.dqg_real (h n.1 n.2) d).trans ?_
  simp only [order, List.map, List.sum_cons, List.sum_nil, Fin.sum_univ_four, Fin.sum_univ_two, Data.dqg]
  congr 1; ring

theorem dkgSum_real (ht : t < 16) (d : Fin 64) :
    dkgSum g (ix2 0 d) = ((∑ u : Fin 3, D.dkg (4 * t + u.val) d : ℝ) : EReal) := by
  refine (total_real order3 _ _
    (fun n => ∑ c, D.dkn (4 * t + n.1.val) n.2 c d * hat (D.key (4 * t + n.1.val) n.2 c) d) fun n =>
      kScale_real (h n.1.castSucc n.2).ko (kGrad_real h ht n.1 n.2) d).trans ?_
  simp only [order3, List.map, List.sum_cons, List.sum_nil, Fin.sum_univ_three, Fin.sum_univ_two, Data.dkg]
  congr 1; ring

theorem dbias_real (k : Fin 2) (r : Fin 512) (c : Fin 128) :
    dbias g k (ix2 r c) = ((∑ i : Fin 4, D.ds (4 * t + i.val) k r c : ℝ) : EReal) := by
  refine (total_real [0, 1, 2, 3] _ _ (fun i : Fin 4 => D.ds (4 * t + i.val) k r c) fun i => Args.ds_real (h i k) r c).trans ?_
  simp only [List.map, List.sum_cons, List.sum_nil, Fin.sum_univ_four]
  congr 1; ring

theorem sinkLane_real (n : (Fin 4 × Fin 2) × Fin 4) (j : Fin 128) : sinkLane g n (ix2 0 j)
    = ((if j.val = 4 * n.1.2.val + n.2.val then -∑ r : Fin 128, (D.group (4 * t + n.1.1.val) n.1.2).ps ⟨128 * n.2.val + r.val, by omega⟩
        * (D.group (4 * t + n.1.1.val) n.1.2).delta ⟨128 * n.2.val + r.val, by omega⟩ else 0 : ℝ) : EReal) := by
  obtain ⟨⟨i, k⟩, b⟩ := n
  unfold sinkLane
  pointwise
  have hw : IntOp.cmpi .eq (BitVec.ofNat 32 j.val) (BitVec.ofNat 32 (4 * k.val + b.val))
      = if j.val = 4 * k.val + b.val then 1#1 else 0#1 := by
    by_cases hc : j.val = 4 * k.val + b.val
    · rw [if_pos hc]; word_cmp
    · rw [if_neg hc]; word_cmp
  rw [hw, select_word]
  simp only [Args.dsink_real (h i k), Finset.univ_unique, Finset.sum_singleton]
  split_ifs
  · rw [zero_sub, EReal.coe_neg, coe_sum]
  · rfl

theorem dskSum_real (j : Fin 128) : dskSum g (ix2 0 j) = ((∑ i : Fin 4, D.dsk (4 * t + i.val) j : ℝ) : EReal) := by
  refine (total_real _ _ _ _ fun n => sinkLane_real h n j).trans ?_
  simp only [order, List.flatMap_cons, List.flatMap_nil, List.map, List.cons_append, List.nil_append, List.append_nil, List.sum_cons,
    List.sum_nil, Fin.sum_univ_four (M := ℝ), Fin.sum_univ_two, Data.dsk]
  congr 1; ring

end Groups

/-! ## The block carried over -/

/-- A load of a half of 64 columns. -/
abbrev half (k : Fin 2) : Rect S128x128 := Rect.unit (s := S128x128) ![0, 64 * k.val] S128x64.size
  (by intro a; have := k.isLt; fin_cases a <;> simp <;> omega)

section First

variable {R : Refs} {X : In} {D : Data} {n : ℕ} {ck cv : FVec Ideal S128x128 .f32} {P P' : List (View.Piece (Elt Ideal) S128x128 .f32)}
  {wk wv : Fin 2 → Fin 128 → Fin 64 → ℝ}
  (hx : ∀ (r : Fin 128) (j : Fin 128), X.x2 (ix2 r j) = (D.z (128 * n + r.val) (512 + j.val) : EReal))
  (hg : ∀ d : Fin 64, X.x9 (ix2 0 d) = (D.kg d : EReal))
  (hk : ∀ (k : Fin 2) (c : Fin 128) (d : Fin 64) (j : Fin 128), j.val = 64 * k.val + d.val → ck (ix2 c j) = ((D.group n k).dko c d : EReal))
  (hv : ∀ (k : Fin 2) (c : Fin 128) (d : Fin 64) (j : Fin 128), j.val = 64 * k.val + d.val → cv (ix2 c j) = ((D.group n k).dvo c d : EReal))
  (hP : ∀ (k : Fin 2) (c : Fin 128) (d : Fin 64) (j : Fin 128), j.val = 64 * k.val + d.val → View.canon P (ix2 c j)
    = ((if n < 63 then (D.group (n + 1) k).dkp c d else 0 : ℝ) : EReal))
  (hP' : ∀ (k : Fin 2) (c : Fin 128) (d : Fin 64) (j : Fin 128), j.val = 64 * k.val + d.val → View.canon P' (ix2 c j)
    = ((if n < 63 then (D.group (n + 1) k).dvp c d else 0 : ℝ) : EReal))

include hx in
theorem fKey_real (k : Fin 2) (c : Fin 128) (d : Fin 64) : fKey R X k (ix2 c d) = ((D.key n k c d : ℝ) : EReal) := by
  refine (ld_at R.a3 R.h3 X.x2 0 (64 * k) (by omega) (by omega) c d).trans ((hx _ _).trans ?_)
  show ((D.z _ _ : ℝ) : EReal) = ((D.z _ _ : ℝ) : EReal)
  congr 2 <;> dsimp only <;> omega

include hk hP in
theorem fGrad_real (k : Fin 2) (c : Fin 128) (d : Fin 64) : fGrad R ck P k (ix2 c d) = ((D.dkn n k c d : ℝ) : EReal) := by
  have e1 := (ld_at R.a15 R.h15 ck 0 (64 * k) (by omega) (by omega) c d).trans
    ((congrArg ck (congrArg₂ ix2 (Fin.ext (by simp)) rfl)).trans (hk k c d ⟨64 * k.val + d.val, by omega⟩ rfl))
  have e2 : R.a17.view.readCov P (half k).toLoadRect (ix2 c d) = _ :=
    (readCov_at _ _ _ (ix2 c ⟨64 * k.val + d.val, by omega⟩) (fun a => by fin_cases a <;> simp)).trans (hP k c d _ rfl)
  refine (congrArg₂ (· + ·) e1 e2).trans ?_
  rw [← EReal.coe_add]
  rfl

include hg in
theorem kgLoad_real (d : Fin 64) : kgLoad R X (ix2 0 d) = (D.kg d : EReal) :=
  (readAt_at R.h10 X.x9 (ix2 0 d) (ix2 0 d) (fun a => by fin_cases a <;> simp)).trans (hg d)

include hx hg hk hP in
theorem fdk_real (k : Fin 2) (c : Fin 128) (d : Fin 64) : fdk R X ck P k (ix2 c d) = ((D.dk n k c d : ℝ) : EReal) :=
  kBack_real (fKey_real hx k) (fGrad_real hk hP k) (kgLoad_real hg) c d

include hv hP' in
theorem fdv_real (k : Fin 2) (c : Fin 128) (d : Fin 64) (j : Fin 128) (hj : j.val = 64 * k.val + d.val) :
    fdv R cv P' (ix2 c j) = ((D.dv n k c d : ℝ) : EReal) := by
  have e1 : R.a16.view.readAt (Elt Ideal) all128.toLoadRect (R.h16.unread cv) (ix2 c j) = _ :=
    (readAt_at R.h16 cv _ (ix2 c j) (fun a => by fin_cases a <;> simp)).trans (hv k c d j hj)
  have e2 := (wholeOf_at R.a18 P' (ix2 c j)).trans (hP' k c d j hj)
  refine (congrArg₂ (· + ·) e1 e2).trans ?_
  rw [← EReal.coe_add]
  rfl

include hx hk hP in
theorem fScale_real (d : Fin 64) : fScale R X ck P (ix2 0 d) = ((D.dkg n d : ℝ) : EReal) := by
  refine (total_real [0, 1] _ _ (fun k : Fin 2 => ∑ c, D.dkn n k c d * hat (D.key n k c) d) fun k =>
    kScale_real (fKey_real hx k) (fGrad_real hk hP k) d).trans ?_
  simp only [List.map, List.sum_cons, List.sum_nil, Fin.sum_univ_two, Data.dkg]
  congr 1; ring

end First

end Cert.AttnKernelIdeal.AttnSums

end
-- ==== Proof.AttnLook.lean ====
/-
  What the stores of a point leave in the two sums and in the array of the keys' and values' gradients, as real numbers.
-/
module

public import proofs.«01_k».proof.Proof.AttnSums

@[expose] public section

set_option maxRecDepth 16384

noncomputable section

namespace Cert.AttnKernelIdeal.AttnLook

open Cert.AttnKernelIdeal Cert.AttnKernelIdeal.Gen Cert.AttnKernelIdeal.AttnStage Cert.AttnKernelIdeal.AttnGrp
open Cert.AttnKernelIdeal.AttnList Cert.AttnKernelIdeal.AttnLoad Cert.AttnKernelIdeal.AttnPiece Cert.AttnKernelIdeal.AttnSums
open Idealize.ShloMosaic
open Cert.Reals Cert.AttnMath

/-- Stores over a buffer whose contents are known, read as one list of stores. -/
theorem writes_eq {s : Shape} {e : EltTy} {a : Memref sig .tc .vmem s e} (ha : a.IsWhole) (X : s.Idx → Elt Ideal e)
    (T : List (View.Piece (Elt Ideal) s e)) (hT : ∀ y, View.canon T y = X y) :
    ∀ (L : List (View.Piece (Elt Ideal) s e)) (y : s.Idx),
      a.view.read (Elt Ideal) (a.view.writes (Elt Ideal) (ha.unread X) L) y = View.canon (L ++ T) y
  | [], y => (congrFun (ha.read_unread X) y).trans (hT y).symm
  | p :: L, y => by
    by_cases hy : y ∈ p.1.set
    · rw [View.read_writes_apply_eq_canon _ _ y (p :: L) ⟨p, List.mem_cons_self, hy⟩, List.cons_append, View.canon_cons, View.canon_cons]
      have hy' : y ∈ Finset.univ.map p.1.emb := by rw [Rect.map_emb_univ]; exact hy
      obtain ⟨x, _, rfl⟩ := Finset.mem_map.mp hy'
      exact (p.1.overlay_emb _ _ x).trans (p.1.overlay_emb _ _ x).symm
    · rw [View.writes_cons, View.read_slice_write_of_not_mem p.1 _ _ _ (by rw [Rect.map_emb_univ]; exact hy),
        writes_eq ha X T hT L y, List.cons_append, View.canon_cons_of_not_mem _ _ hy]

/-- A buffer stored whole. -/
theorem whole_store {s : Shape} {e : EltTy} {off : Fin s.rank → ℕ} (h : ∀ a, off a = 0) (inb : ∀ a, off a + s.size a ≤ s.size a)
    (X : s.Idx → Elt Ideal e) (y : s.Idx) : View.canon (Val := Elt Ideal) [⟨Rect.unit off s.size inb, X⟩] y = X y :=
  canon_in X [] y y fun a => by rw [h a, Nat.zero_add]

/-! ## The sums -/

section Sums

variable {g : Fin 4 → Fin 2 → Args} {D : Data} {t : ℕ} (h : ∀ i k, (g i k).At (D.group (4 * t + i.val) k)) (ht : t < 16)
include h ht

/-- A tile's stores into the small sums add to what was there. -/
theorem smStores_real {o0 o1 : FVec Ideal S1x64 .f32} {o2 : FVec Ideal S1x128 .f32} {T : List (View.Piece (Elt Ideal) S8x128 .f32)}
    {o : Fin 8 → Fin 128 → ℝ} (h0 : ∀ (d : Fin 64), o0 (ix2 0 d) = (o 0 ⟨d.val, by omega⟩ : EReal))
    (h1 : ∀ (d : Fin 64), o1 (ix2 0 d) = (o 1 ⟨d.val, by omega⟩ : EReal)) (h2 : ∀ j : Fin 128, o2 (ix2 0 j) = (o 2 j : EReal))
    (hT : ∀ r j, View.canon T (ix2 r j) = (o r j : EReal)) (r : Fin 8) (j : Fin 128) :
    View.canon (smStores g o0 o1 o2 T) (ix2 r j) = ((o r j + D.smallAdd t r j : ℝ) : EReal) := by
  unfold smStores Data.smallAdd
  by_cases r2 : r.val = 2
  · obtain rfl : r = 2 := Fin.ext r2
    refine (canon_in _ _ _ (ix2 0 j) (fun a => by fin_cases a <;> simp)).trans ?_
    pointwise
    rw [h2, dskSum_real h, ← EReal.coe_add]
  refine (canon_out _ _ _ 0 (by simp; omega)).trans ?_
  by_cases r1 : r.val = 1
  · obtain rfl : r = 1 := Fin.ext r1
    by_cases hj : j.val < 64
    · refine (canon_in _ _ _ (ix2 0 ⟨j.val, hj⟩) (fun a => by fin_cases a <;> simp)).trans ?_
      pointwise
      rw [h1, dkgSum_real h ht, ← EReal.coe_add]
      simp [hj, Nat.mod_eq_of_lt hj]
    · refine (canon_out _ _ _ 1 (by simp; omega)).trans ((canon_out _ _ _ 1 (by simp; omega)).trans ((hT _ _).trans ?_))
      simp [hj]
  refine (canon_out _ _ _ 0 (by simp; omega)).trans ?_
  by_cases r0 : r.val = 0
  · obtain rfl : r = 0 := Fin.ext r0
    by_cases hj : j.val < 64
    · refine (canon_in _ _ _ (ix2 0 ⟨j.val, hj⟩) (fun a => by fin_cases a <;> simp)).trans ?_
      pointwise
      rw [h0, dqgSum_real h, ← EReal.coe_add]
      simp [hj, Nat.mod_eq_of_lt hj]
    · refine (canon_out _ _ _ 1 (by simp; omega)).trans ((hT _ _).trans ?_)
      simp [hj]
  · refine (canon_out _ _ _ 0 (by simp; omega)).trans ((hT _ _).trans ?_)
    simp [r0, r1, r2]

omit ht in
/-- A tile's store into one slab of the bias sums, and the two together. -/
theorem dbStores_real {q0 q1 : FVec Ideal S1x512x128 .f32} {T : List (View.Piece (Elt Ideal) S2x512x128 .f32)}
    {o : Fin 2 → Fin 512 → Fin 128 → ℝ} (h0 : ∀ r c, q0 (ix3 0 r c) = (o 0 r c : EReal)) (h1 : ∀ r c, q1 (ix3 0 r c) = (o 1 r c : EReal))
    (k : Fin 2) (r : Fin 512) (c : Fin 128) :
    View.canon (dbStore g 1 q1 :: dbStore g 0 q0 :: T) (ix3 k r c) = ((o k r c + ∑ i : Fin 4, D.ds (4 * t + i.val) k r c : ℝ) : EReal) := by
  unfold dbStore
  obtain rfl | rfl : k = 0 ∨ k = 1 := by omega
  · refine (canon_out _ _ _ 0 (by simp)).trans ((canon_in _ _ _ (ix3 0 r c) (fun a => by fin_cases a <;> simp)).trans ?_)
    pointwise
    rw [h0, dbias_real h, ← EReal.coe_add]
  · refine (canon_in _ _ _ (ix3 0 r c) (fun a => by fin_cases a <;> simp)).trans ?_
    pointwise
    rw [h1, dbias_real h, ← EReal.coe_add]

end Sums

theorem zerosSm_at (y : S8x128.Idx) : View.canon zerosSm y = ((0 : ℝ) : EReal) := by
  refine (canon_in _ [] y y (fun a => by fin_cases a <;> simp)).trans ?_
  idx_vars y
  pointwise
  rfl

theorem zerosDb_at (y : S2x512x128.Idx) : View.canon zerosDb y = ((0 : ℝ) : EReal) := by
  refine (canon_in _ [] y y (fun a => by fin_cases a <;> simp)).trans ?_
  idx_vars y
  pointwise
  rfl

/-- The first tile's sums. -/
theorem smA_real (R : Refs) {g : Fin 4 → Fin 2 → Args} {D : Data} (h : ∀ i k, (g i k).At (D.group (4 * 0 + i.val) k)) (r : Fin 8) (j : Fin 128) :
    View.canon (smA R g) (ix2 r j) = ((D.small 4 3 r j : ℝ) : EReal) := by
  refine (smStores_real h (by omega) (o := fun _ _ => 0) (fun d => ?_) (fun d => ?_) (fun j => ?_) (fun r j => zerosSm_at _) r j).trans ?_
  · exact (readCov_at _ _ _ (ix2 0 ⟨d.val, by omega⟩) (fun a => by fin_cases a <;> simp)).trans (zerosSm_at _)
  · refine (readCov_at _ _ _ (ix2 1 ⟨d.val, by omega⟩) (fun a => by fin_cases a <;> simp)).trans ?_
    exact (canon_out _ _ _ 0 (by simp)).trans (zerosSm_at _)
  · refine (readCov_at _ _ _ (ix2 2 j) (fun a => by fin_cases a <;> simp)).trans ?_
    exact (canon_out _ _ _ 0 (by simp)).trans ((canon_out _ _ _ 0 (by simp)).trans (zerosSm_at _))
  · rw [zero_add, D.small_start]

theorem dbA_real (R : Refs) {g : Fin 4 → Fin 2 → Args} {D : Data} (h : ∀ i k, (g i k).At (D.group (4 * 0 + i.val) k))
    (k : Fin 2) (r : Fin 512) (c : Fin 128) : View.canon (dbA R g) (ix3 k r c) = ((D.bias 4 k r c : ℝ) : EReal) := by
  refine (dbStores_real h (o := fun _ _ _ => 0) (fun r c => ?_) (fun r c => ?_) k r c).trans ?_
  · exact (readCov_at _ _ _ (ix3 0 r c) (fun a => by fin_cases a <;> simp)).trans (zerosDb_at _)
  · refine (readCov_at _ _ _ (ix3 1 r c) (fun a => by fin_cases a <;> simp)).trans ?_
    exact (canon_out _ _ _ 0 (by simp)).trans (zerosDb_at _)
  · rw [D.bias_step 0]; simp [Data.bias]

/-- A later tile's, over what the point before left. -/
theorem smF_real (R : Refs) (X : In) {g : Fin 4 → Fin 2 → Args} {D : Data} {t : ℕ} (h : ∀ i k, (g i k).At (D.group (4 * t + i.val) k))
    (ht : t < 16) (h1 : 1 ≤ t) {x : Vec Ideal S8x128 .f32} {ck : FVec Ideal S128x128 .f32} {P : List (View.Piece (Elt Ideal) S128x128 .f32)}
    (hx : ∀ r j, x (ix2 r j) = ((D.small (4 * t) (4 * t - 1) r j : ℝ) : EReal))
    (hF : ∀ d : Fin 64, fScale R X ck P (ix2 0 d) = ((D.dkg (4 * t - 1) d : ℝ) : EReal)) (r : Fin 8) (j : Fin 128) :
    R.a14.view.read (Elt Ideal) (R.a14.view.writes (Elt Ideal) (R.h14.unread x) (smF R X g x ck P)) (ix2 r j)
      = ((D.small (4 * t + 4) (4 * t + 3) r j : ℝ) : EReal) := by
  rw [D.small_step t h1]
  have hT : ∀ y, View.canon (Val := Elt Ideal) (s := S8x128) (e := .f32)
      [⟨Rect.unit (s := S8x128) ![0, 0] S8x128.size (by intro a; fin_cases a <;> simp), x⟩] y = x y :=
    whole_store (by intro a; fin_cases a <;> rfl) _ x
  rw [writes_eq R.h14 x _ hT]
  have hs := fun T hT => smStores_real (T := T) h ht (o := D.small (4 * t) (4 * t - 1))
    (o0 := R.a14.view.readAt (Elt Ideal) row0.toLoadRect (R.h14.unread x)) (o1 := R.a14.view.readAt (Elt Ideal) row1.toLoadRect (R.h14.unread x))
    (o2 := R.a14.view.readAt (Elt Ideal) row2.toLoadRect (R.h14.unread x))
    (fun d => (readAt_at R.h14 x _ (ix2 0 ⟨d.val, by omega⟩) (fun a => by fin_cases a <;> simp)).trans (hx _ _))
    (fun d => (readAt_at R.h14 x _ (ix2 1 ⟨d.val, by omega⟩) (fun a => by fin_cases a <;> simp)).trans (hx _ _))
    (fun j => (readAt_at R.h14 x _ (ix2 2 j) (fun a => by fin_cases a <;> simp)).trans (hx _ _)) hT
  refine (?_ : View.canon (⟨row1, _⟩ :: smStores g _ _ _ _) _ = _)
  by_cases hr : r.val = 1 ∧ j.val < 64
  · obtain ⟨r1, hj⟩ := hr
    obtain rfl : r = 1 := Fin.ext r1
    refine (canon_in _ _ _ (ix2 0 ⟨j.val, hj⟩) (fun a => by fin_cases a <;> simp)).trans ?_
    have e : R.a14.view.readCov (smB R g x) row1.toLoadRect (ix2 0 ⟨j.val, hj⟩)
        = ((D.small (4 * t) (4 * t - 1) 1 j + ∑ u : Fin 3, D.dkg (4 * t + u.val) ⟨j.val, hj⟩ : ℝ) : EReal) := by
      refine (readCov_at _ _ _ (ix2 1 j) (fun a => by fin_cases a <;> simp)).trans ((canon_out _ _ _ 0 (by simp)).trans
        ((canon_in _ _ _ (ix2 0 ⟨j.val, hj⟩) (fun a => by fin_cases a <;> simp)).trans ?_))
      pointwise
      have e1 : R.a14.view.readAt (Elt Ideal) row1.toLoadRect (R.h14.unread x) (ix2 0 ⟨j.val, hj⟩) = _ :=
        (readAt_at R.h14 x _ (ix2 1 j) (fun a => by fin_cases a <;> simp)).trans (hx _ _)
      rw [EReal.coe_add, dkgSum_real h ht ⟨j.val, hj⟩, e1]
    pointwise
    rw [e, hF, ← EReal.coe_add]
    simp [Data.smallAdd, Data.smallFirst, hj, Nat.mod_eq_of_lt hj]
  · refine (View.canon_cons_of_not_mem _ _ ?_).trans ((hs _ (fun r j => (hT _).trans (hx r j)) r j).trans ?_)
    · rw [Rect.mem_set_unit]
      intro hm
      have m0 := hm 0
      have m1 := hm 1
      simp at m0 m1
      omega
    · have : D.smallFirst (4 * t - 1) r j = 0 := by unfold Data.smallFirst; split_ifs <;> first | rfl | omega
      rw [this, add_zero]

theorem dbB_real (R : Refs) {g : Fin 4 → Fin 2 → Args} {D : Data} {t : ℕ} (h : ∀ i k, (g i k).At (D.group (4 * t + i.val) k))
    {x : Vec Ideal S2x512x128 .f32} (hx : ∀ k r c, x (ix3 k r c) = ((D.bias (4 * t) k r c : ℝ) : EReal))
    (k : Fin 2) (r : Fin 512) (c : Fin 128) :
    R.a13.view.read (Elt Ideal) (R.a13.view.writes (Elt Ideal) (R.h13.unread x) (dbB R g x)) (ix3 k r c)
      = ((D.bias (4 * t + 4) k r c : ℝ) : EReal) := by
  rw [D.bias_step t]
  have hT : ∀ y, View.canon (Val := Elt Ideal) (s := S2x512x128) (e := .f32)
      [⟨Rect.unit (s := S2x512x128) ![0, 0, 0] S2x512x128.size (by intro a; fin_cases a <;> simp), x⟩] y = x y :=
    whole_store (by intro a; fin_cases a <;> rfl) _ x
  have e0 : ∀ r c, R.a13.view.readAt (Elt Ideal) (slab 0).toLoadRect (R.h13.unread x) (ix3 0 r c) = _ := fun r c =>
    (readAt_at R.h13 x _ (ix3 0 r c) (fun a => by fin_cases a <;> simp)).trans (hx _ _ _)
  have e1 : ∀ r c, R.a13.view.readAt (Elt Ideal) (slab 1).toLoadRect (R.h13.unread x) (ix3 0 r c) = _ := fun r c =>
    (readAt_at R.h13 x _ (ix3 1 r c) (fun a => by fin_cases a <;> simp)).trans (hx _ _ _)
  rw [writes_eq R.h13 x _ hT, dbB, List.cons_append, List.cons_append, List.nil_append]
  exact dbStores_real h (o := D.bias (4 * t)) e0 e1 k r c

/-- The last point's store into the small sums. -/
theorem smC_real (R : Refs) (X : In) {D : Data} {x : Vec Ideal S8x128 .f32} {ck : FVec Ideal S128x128 .f32}
    (hx : ∀ r j, x (ix2 r j) = ((D.small 64 63 r j : ℝ) : EReal))
    (hF : ∀ d : Fin 64, fScale R X ck zeros128 (ix2 0 d) = ((D.dkg 63 d : ℝ) : EReal)) (r : Fin 8) (j : Fin 128) :
    R.a14.view.read (Elt Ideal) (R.a14.view.writes (Elt Ideal) (R.h14.unread x) (smC R X x ck)) (ix2 r j)
      = ((D.small 64 64 r j : ℝ) : EReal) := by
  rw [D.small_last]
  have hT : ∀ y, View.canon (Val := Elt Ideal) (s := S8x128) (e := .f32)
      [⟨Rect.unit (s := S8x128) ![0, 0] S8x128.size (by intro a; fin_cases a <;> simp), x⟩] y = x y :=
    whole_store (by intro a; fin_cases a <;> rfl) _ x
  rw [writes_eq R.h14 x _ hT, smC, List.cons_append, List.nil_append]
  by_cases hr : r.val = 1 ∧ j.val < 64
  · obtain ⟨r1, hj⟩ := hr
    obtain rfl : r = 1 := Fin.ext r1
    refine (canon_in _ _ _ (ix2 0 ⟨j.val, hj⟩) (fun a => by fin_cases a <;> simp)).trans ?_
    have e1 : R.a14.view.readAt (Elt Ideal) row1.toLoadRect (R.h14.unread x) (ix2 0 ⟨j.val, hj⟩) = _ :=
      (readAt_at R.h14 x _ (ix2 1 j) (fun a => by fin_cases a <;> simp)).trans (hx _ _)
    pointwise
    rw [e1, hF, ← EReal.coe_add]
    simp [Data.smallFirst, hj, Nat.mod_eq_of_lt hj]
  · refine (View.canon_cons_of_not_mem _ _ ?_).trans ((hT _).trans ((hx r j).trans ?_))
    · rw [Rect.mem_set_unit]
      intro hm
      have m0 := hm 0
      have m1 := hm 1
      simp at m0 m1
      omega
    · have : D.smallFirst 63 r j = 0 := by unfold Data.smallFirst; split_ifs <;> first | rfl | omega
      rw [this, add_zero]

/-! ## The keys' and values' gradients -/

section First

variable {R : Refs} {X : In} {D : Data} {t : ℕ} {ck cv : FVec Ideal S128x128 .f32} {P P' : List (View.Piece (Elt Ideal) S128x128 .f32)}

/-- The stores of the block carried over agree with the array, -/
theorem first_pieces (h1 : 1 ≤ t) (T : List (View.Piece (Elt Ideal) S512x256 .bf16))
    (hk : ∀ (k : Fin 2) (c : Fin 128) (d : Fin 64), fdk R X ck P k (ix2 c d) = ((D.dk (4 * t - 1) k c d : ℝ) : EReal))
    (hv : ∀ (k : Fin 2) (c : Fin 128) (d : Fin 64) (j : Fin 128), j.val = 64 * k.val + d.val →
      fdv R cv P' (ix2 c j) = ((D.dv (4 * t - 1) k c d : ℝ) : EReal))
    (hT : ∀ p ∈ T, ∀ x, p.2 x = kvRow D t (p.1.emb x)) : ∀ p ∈ firstStores R X ck cv P P' T, ∀ x, p.2 x = kvRow D t (p.1.emb x) := by
  have key : ∀ (c : Fin 128) (d : Fin 64) (k : Fin 2) (y : S512x256.Idx), (y 0).val = c.val → (y 1).val = 64 * k.val + d.val →
      kvRow D t y = ((D.dk (4 * t - 1) k c d : ℝ) : EReal) := by
    intro c d k y y0 y1
    rw [kvRow, y0, y1, Data.dkvAt]
    have a1 : (512 * t + c.val - 128) / 128 = 4 * t - 1 := by omega
    have a2 : (⟨(64 * k.val + d.val) / 64 % 2, by omega⟩ : Fin 2) = k := Fin.ext (by dsimp only; omega)
    have a3 : (⟨(512 * t + c.val - 128) % 128, by omega⟩ : Fin 128) = c := Fin.ext (by dsimp only; omega)
    have a4 : (⟨(64 * k.val + d.val) % 64, by omega⟩ : Fin 64) = d := Fin.ext (by dsimp only; omega)
    rw [a1, a2, a3, a4, if_pos (by omega)]
  have val : ∀ (c : Fin 128) (d : Fin 64) (k : Fin 2) (y : S512x256.Idx), (y 0).val = c.val → (y 1).val = 128 + (64 * k.val + d.val) →
      kvRow D t y = ((D.dv (4 * t - 1) k c d : ℝ) : EReal) := by
    intro c d k y y0 y1
    rw [kvRow, y0, y1, Data.dkvAt]
    have a1 : (512 * t + c.val - 128) / 128 = 4 * t - 1 := by omega
    have a2 : (⟨(128 + (64 * k.val + d.val)) / 64 % 2, by omega⟩ : Fin 2) = k := Fin.ext (by dsimp only; omega)
    have a3 : (⟨(512 * t + c.val - 128) % 128, by omega⟩ : Fin 128) = c := Fin.ext (by dsimp only; omega)
    have a4 : (⟨(128 + (64 * k.val + d.val)) % 64, by omega⟩ : Fin 64) = d := Fin.ext (by dsimp only; omega)
    rw [a1, a2, a3, a4, if_neg (by omega)]
  intro p hp x
  rcases List.mem_cons.mp hp with rfl | hp
  · change S128x128.Idx at x
    idx_vars x
    refine (hv ⟨x1.val / 64, by omega⟩ x0 ⟨x1.val % 64, by omega⟩ x1 (by dsimp only; omega)).trans (val _ _ _ _ ?_ ?_).symm
    · show 0 + 1 * x0.val = _; omega
    · show 128 + 1 * x1.val = _; dsimp only; omega
  rcases List.mem_cons.mp hp with rfl | hp
  · change S128x64.Idx at x
    idx_vars x
    refine (hk 1 x0 x1).trans (key _ _ _ _ ?_ ?_).symm
    · show 0 + 1 * x0.val = _; omega
    · show 64 + 1 * x1.val = 64 * 1 + _; omega
  rcases List.mem_cons.mp hp with rfl | hp
  · change S128x64.Idx at x
    idx_vars x
    refine (hk 0 x0 x1).trans (key _ _ _ _ ?_ ?_).symm
    · show 0 + 1 * x0.val = _; omega
    · show 0 + 1 * x1.val = 64 * 0 + _; omega
  exact hT p hp x

/-- and cover the first block of rows. -/
theorem first_cover (T : List (View.Piece (Elt Ideal) S512x256 .bf16)) (r : Fin 512) (j : Fin 256) (hr : r.val < 128) :
    ∃ p ∈ firstStores R X ck cv P P' T, (ix2 r j : S512x256.Idx) ∈ p.1.set := by
  by_cases h1 : 128 ≤ j.val
  · refine ⟨_, List.mem_cons_self, ?_⟩
    rw [Rect.mem_set_unit]
    intro a; fin_cases a <;> simp <;> omega
  by_cases h2 : 64 ≤ j.val
  · refine ⟨_, List.mem_cons_of_mem _ List.mem_cons_self, ?_⟩
    rw [Rect.mem_set_unit]
    intro a; fin_cases a <;> simp <;> omega
  · refine ⟨_, List.mem_cons_of_mem _ (List.mem_cons_of_mem _ List.mem_cons_self), ?_⟩
    rw [Rect.mem_set_unit]
    intro a; fin_cases a <;> simp <;> omega

end First

end Cert.AttnKernelIdeal.AttnLook

end
-- ==== Proof.AttnPoint.lean ====
/-
  The lists of stores of each point of the attention kernel, over the buffers and the blocks of that point.
-/
module

public import proofs.«01_k».proof.Proof.AttnFrame
public import proofs.«01_k».proof.Proof.AttnListA
public import proofs.«01_k».proof.Proof.AttnListB
public import proofs.«01_k».proof.Proof.AttnListC
public import proofs.«01_k».proof.Proof.AttnLook

@[expose] public section

set_option maxRecDepth 16384

noncomputable section

namespace Cert.AttnKernelIdeal.AttnPoint

open Cert.AttnKernelIdeal Cert.AttnKernelIdeal.Gen Cert.AttnKernelIdeal.AttnStage Cert.AttnKernelIdeal.AttnGrp
open Cert.AttnKernelIdeal.AttnList Cert.AttnKernelIdeal.AttnLoad Cert.AttnKernelIdeal.AttnPiece Cert.AttnKernelIdeal.AttnSums
open Cert.AttnKernelIdeal.AttnLook Cert.AttnKernelIdeal.AttnFrame
open Idealize.ShloMosaic Idealize.ShloMosaic.TcCoe
open Cert.Reals Cert.AttnMath

variable (m : (ℓ : Loc nD τ sig) → Buf (Elt Ideal) ℓ) (c : Dev nD)

/-- The buffers of a point, and what its blocks hold. -/
def refs (t : Fin cfg0.N) : Refs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := Memref.whole cc0_scratch0
  h15 := Memref.isWhole_whole _
  a16 := Memref.whole cc0_scratch1
  h16 := Memref.isWhole_whole _
  a17 := Memref.whole cc0_scratch2
  h17 := Memref.isWhole_whole _
  a18 := Memref.whole cc0_scratch3
  h18 := Memref.isWhole_whole _
  a19 := Memref.whole cc0_scratch4
  h19 := Memref.isWhole_whole _
  a20 := Memref.whole cc0_scratch5
  h20 := Memref.isWhole_whole _

def ins (t : Fin cfg0.N) : In where
  x0 := X0_0 m c t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t

theorem coord : ∀ t : Fin cfg0.N, (grid0.coords t 0).val = t.val :=
  (by decide +kernel : ∀ t : Fin grid0.N, (grid0.coords t 0).val = t.val)

/-- The groups of a point. -/
def grps (t : Fin cfg0.N) : Fin 4 → Fin 2 → Args := AttnListA.g (grid0.coords t) (refs t) (ins m c t)

/-! ## The stores of a point -/

section A
variable (t : Fin cfg0.N) (h : t.val = 0)
theorem dqA : (outA m c t h).1 = dqOrder.map (dqPiece (grps m c t)) := by sl_kernel_rfl
theorem dkvA : (outA m c t h).2.1 = kvOrder.map (kvPiece (grps m c t)) := by sl_kernel_rfl
theorem dbA_eq : (outA m c t h).2.2.1 = dbA (refs t) (grps m c t) := by sl_kernel_rfl
theorem smA_eq : (outA m c t h).2.2.2.1 = smA (refs t) (grps m c t) := by sl_kernel_rfl
theorem ckA : (outA m c t h).2.2.2.2.1 = carry (refs t).a19 (fun k => (grps m c t 3 k).dko) :: zeros128 := by sl_kernel_rfl
theorem cvA : (outA m c t h).2.2.2.2.2.val = carry (refs t).a20 (fun k => (grps m c t 3 k).dvo) :: zeros128 := by sl_kernel_rfl
end A

section B
variable (t : Fin cfg0.N) (h : t.val ≠ 0) (h' : t.val < 16) (p : St Ideal)
/-- What the tile's first block adds to the block before it. -/
def pk := halves (fun k => (grps m c t 0 k).dkp) zeros128
def pv := halves (fun k => (grps m c t 0 k).dvp) zeros128
theorem dqB : (outB m c t h h' p).1 = dqOrder.map (dqPiece (grps m c t)) := by sl_kernel_rfl
theorem dkvB : (outB m c t h h' p).2.1
    = firstStores (refs t) (ins m c t) p.k p.v (pk m c t) (pv m c t) (kvOrder.map (kvPiece (grps m c t))) := by sl_kernel_rfl
theorem dbB_eq : (outB m c t h h' p).2.2.1 = dbB (refs t) (grps m c t) p.b := by sl_kernel_rfl
theorem smB_eq : (outB m c t h h' p).2.2.2.1 = smF (refs t) (ins m c t) (grps m c t) p.s p.k (pk m c t) := by sl_kernel_rfl
theorem ckB : (outB m c t h h' p).2.2.2.2.1 = [carry (refs t).a19 (fun k => (grps m c t 3 k).dko)] := by sl_kernel_rfl
theorem cvB : (outB m c t h h' p).2.2.2.2.2.val = [carry (refs t).a20 (fun k => (grps m c t 3 k).dvo)] := by sl_kernel_rfl
end B

section C
variable (t : Fin cfg0.N) (h : ¬t.val < 16) (p : St Ideal)
theorem dkvC : (outC m c t h p).1 = firstStores (refs t) (ins m c t) p.k p.v zeros128 zeros128 [] := by sl_kernel_rfl
theorem smC_eq : (outC m c t h p).2.val = smC (refs t) (ins m c t) p.s p.k := by sl_kernel_rfl
end C

end Cert.AttnKernelIdeal.AttnPoint

end
-- ==== Proof.AttnKept.lean ====
/-
  What the attention kernel holds after each of its points, as real numbers: the queries' gradients of the tile, the two
  sums over the blocks so far, and what is carried over.
-/
module

public import proofs.«01_k».proof.Proof.AttnPoint

@[expose] public section

set_option maxRecDepth 16384
set_option maxHeartbeats 1000000

noncomputable section

namespace Cert.AttnKernelIdeal.AttnKept

open Cert.AttnKernelIdeal Cert.AttnKernelIdeal.Gen Cert.AttnKernelIdeal.AttnStage Cert.AttnKernelIdeal.AttnGrp
open Cert.AttnKernelIdeal.AttnList Cert.AttnKernelIdeal.AttnLoad Cert.AttnKernelIdeal.AttnPiece Cert.AttnKernelIdeal.AttnSums
open Cert.AttnKernelIdeal.AttnLook Cert.AttnKernelIdeal.AttnFrame Cert.AttnKernelIdeal.AttnPoint
open Idealize.ShloMosaic Idealize.ShloMosaic.TcCoe
open Cert.Reals Cert.AttnMath

variable (m : (ℓ : Loc nD τ sig) → Buf (Elt Ideal) ℓ) (c : Dev nD)

/-! ## What is held -/

/-- What every point but the last leaves. -/
structure Kept (D : Data) (n : ℕ) (p : St Ideal) : Prop where
  q : ∀ r j, p.q (ix2 r j) = ((D.dqAt (512 * n + r.val) j.val : ℝ) : EReal)
  b : ∀ k r c, p.b (ix3 k r c) = ((D.bias (4 * n + 4) k r c : ℝ) : EReal)
  s : ∀ r j, p.s (ix2 r j) = ((D.small (4 * n + 4) (4 * n + 3) r j : ℝ) : EReal)
  k : ∀ (k : Fin 2) (c : Fin 128) (d : Fin 64) (j : Fin 128), j.val = 64 * k.val + d.val →
    p.k (ix2 c j) = (((D.group (4 * n + 3) k).dko c d : ℝ) : EReal)
  v : ∀ (k : Fin 2) (c : Fin 128) (d : Fin 64) (j : Fin 128), j.val = 64 * k.val + d.val →
    p.v (ix2 c j) = (((D.group (4 * n + 3) k).dvo c d : ℝ) : EReal)

variable {m c} {D : Data}

theorem grps_at {t : Fin cfg0.N} (ht : t.val < 16) (H : Holds (ins m c t) D t.val) (i : Fin 4) (k : Fin 2) :
    (grps m c t i k).At (D.group (4 * t.val + i.val) k) := by
  have e : grps m c t = grp (refs t) (ins m c t) (Scalar.cmpi .eq (BitVec.ofNat 32 t.val) 0#32) := by
    exact congrArg (fun n => grp (refs t) (ins m c t) (Scalar.cmpi .eq (BitVec.ofNat 32 n) 0#32)) (coord t)
  rw [e]
  exact grp_at ht H i k

theorem kept_A {t : Fin cfg0.N} (h : t.val = 0) (H : Holds (ins m c t) D t.val) : Kept D t.val (stA m c t h) := by
  have hg := grps_at (m := m) (c := c) (by omega : t.val < 16) H
  have hg0 : ∀ i k, (grps m c t i k).At (D.group (4 * 0 + i.val) k) := fun i k => by have := hg i k; rwa [h] at this
  refine ⟨fun r j => ?_, fun k r e => ?_, fun r j => ?_, fun k e d j hj => ?_, fun k e d j hj => ?_⟩
  · show View.canon (outA m c t h).1 _ = _
    rw [dqA]; exact dq_at hg r j
  · show View.canon (outA m c t h).2.2.1 _ = _
    rw [dbA_eq, h]; exact dbA_real (refs t) hg0 k r e
  · show View.canon (outA m c t h).2.2.2.1 _ = _
    rw [smA_eq, h]; exact smA_real (refs t) hg0 r j
  · show View.canon (outA m c t h).2.2.2.2.1 _ = _
    rw [ckA]; exact (carry_at _ _ _ k e d j hj).trans (Args.dko_real (hg 3 k) e d)
  · show View.canon (outA m c t h).2.2.2.2.2.val _ = _
    rw [cvA]; exact (carry_at _ _ _ k e d j hj).trans (Args.dvo_real (hg 3 k) e d)

section Next

variable {t : Fin cfg0.N} (h : t.val ≠ 0) (ht : t.val < 16) (H : Holds (ins m c t) D t.val) {p : St Ideal} (K : Kept D (t.val - 1) p)
include h K

theorem prev_k (k : Fin 2) (e : Fin 128) (d : Fin 64) (j : Fin 128) (hj : j.val = 64 * k.val + d.val) :
    p.k (ix2 e j) = (((D.group (4 * t.val - 1) k).dko e d : ℝ) : EReal) := by
  rw [K.k k e d j hj, show 4 * (t.val - 1) + 3 = 4 * t.val - 1 by omega]

theorem prev_v (k : Fin 2) (e : Fin 128) (d : Fin 64) (j : Fin 128) (hj : j.val = 64 * k.val + d.val) :
    p.v (ix2 e j) = (((D.group (4 * t.val - 1) k).dvo e d : ℝ) : EReal) := by
  rw [K.v k e d j hj, show 4 * (t.val - 1) + 3 = 4 * t.val - 1 by omega]

omit K
include ht H

theorem pk_at (k : Fin 2) (e : Fin 128) (d : Fin 64) (j : Fin 128) (hj : j.val = 64 * k.val + d.val) :
    View.canon (pk m c t) (ix2 e j)
      = ((if 4 * t.val - 1 < 63 then (D.group (4 * t.val - 1 + 1) k).dkp e d else 0 : ℝ) : EReal) := by
  refine (halves_at _ zeros128 k e d j hj).trans ((Args.dkp_real (grps_at ht H 0 k) e d).trans ?_)
  rw [if_pos (by omega), show 4 * t.val - 1 + 1 = 4 * t.val + 0 by omega]; rfl

theorem pv_at (k : Fin 2) (e : Fin 128) (d : Fin 64) (j : Fin 128) (hj : j.val = 64 * k.val + d.val) :
    View.canon (pv m c t) (ix2 e j)
      = ((if 4 * t.val - 1 < 63 then (D.group (4 * t.val - 1 + 1) k).dvp e d else 0 : ℝ) : EReal) := by
  refine (halves_at _ zeros128 k e d j hj).trans ((Args.dvp_real (grps_at ht H 0 k) e d).trans ?_)
  rw [if_pos (by omega), show 4 * t.val - 1 + 1 = 4 * t.val + 0 by omega]; rfl

include K

theorem kept_B : Kept D t.val (stB m c t h ht p) := by
  have hg := grps_at (m := m) (c := c) ht H
  refine ⟨fun r j => ?_, fun k r e => ?_, fun r j => ?_, fun k e d j hj => ?_, fun k e d j hj => ?_⟩
  · show View.canon (outB m c t h ht p).1 _ = _
    rw [dqB]; exact dq_at hg r j
  · have hb : ∀ k r e, p.b (ix3 k r e) = ((D.bias (4 * t.val) k r e : ℝ) : EReal) := fun k r e => by
      rw [K.b k r e, show 4 * (t.val - 1) + 4 = 4 * t.val by omega]
    refine Eq.trans ?_ (dbB_real (refs t) hg hb k r e)
    rw [← dbB_eq m c t h ht p]; rfl
  · have hs : ∀ r j, p.s (ix2 r j) = ((D.small (4 * t.val) (4 * t.val - 1) r j : ℝ) : EReal) := fun r j => by
      rw [K.s r j, show 4 * (t.val - 1) + 4 = 4 * t.val by omega, show 4 * (t.val - 1) + 3 = 4 * t.val - 1 by omega]
    refine Eq.trans ?_ (smF_real (refs t) (ins m c t) (P := pk m c t) hg ht (by omega) hs
      (fun d => fScale_real H.x2 (prev_k h K) (pk_at h ht H) d) r j)
    rw [← smB_eq m c t h ht p]; rfl
  · show View.canon (outB m c t h ht p).2.2.2.2.1 _ = _
    rw [ckB]; exact (carry_at _ _ _ k e d j hj).trans (Args.dko_real (hg 3 k) e d)
  · show View.canon (outB m c t h ht p).2.2.2.2.2.val _ = _
    rw [cvB]; exact (carry_at _ _ _ k e d j hj).trans (Args.dvo_real (hg 3 k) e d)

end Next

variable (HH : ∀ t : Fin cfg0.N, t.val < 16 → Holds (ins m c t) D t.val)
include HH

/-- After every point but the last. -/
theorem kept : ∀ (n : ℕ) (hn : n < cfg0.N), n < 16 → Kept D n (st m c n hn)
  | 0, hn, _ => by rw [st_A m c ⟨0, hn⟩ rfl]; exact kept_A rfl (HH ⟨0, hn⟩ (by simp))
  | n + 1, hn, h => by
    rw [st_B m c ⟨n + 1, hn⟩ (Nat.succ_ne_zero n) h]
    exact kept_B (Nat.succ_ne_zero n) h (HH ⟨n + 1, hn⟩ h) (kept n (Nat.lt_of_succ_lt hn) (by omega))

/-- What the last point reads. -/
structure HoldsLast (X : In) (D : Data) : Prop where
  x2 : ∀ (r : Fin 128) (j : Fin 128), X.x2 (ix2 r j) = (D.z (128 * 63 + r.val) (512 + j.val) : EReal)
  x9 : ∀ d : Fin 64, X.x9 (ix2 0 d) = (D.kg d : EReal)

/-- After the last. -/
theorem small_end (t : Fin cfg0.N) (ht : t.val = 16) (HL : HoldsLast (ins m c t) D) (r : Fin 8) (j : Fin 128) :
    (st m c t.val t.isLt).s (ix2 r j) = ((D.small 64 64 r j : ℝ) : EReal) := by
  rw [st_C m c t (by omega)]
  have K : Kept D (t.val - 1) (prev m c t) := kept HH _ _ (by omega)
  have h : t.val ≠ 0 := by omega
  have e : 4 * t.val - 1 = 63 := by omega
  have hs : ∀ r j, (prev m c t).s (ix2 r j) = ((D.small 64 63 r j : ℝ) : EReal) := fun r j => by
    rw [K.s r j, show 4 * (t.val - 1) + 4 = 64 by omega, show 4 * (t.val - 1) + 3 = 63 by omega]
  refine Eq.trans ?_ (smC_real (refs t) (ins m c t) hs (fun d => fScale_real (n := 63) HL.x2
    (fun k e' d j hj => (prev_k h K k e' d j hj).trans (by rw [e])) (fun k e d j hj => (zeros_at _).trans (by simp)) d) r j)
  rw [← smC_eq m c t (by omega) (prev m c t)]; rfl

/-- The stores into the array of the keys' and values' gradients, at a row of a token. -/
theorem kv_end (HL : ∀ t : Fin cfg0.N, t.val = 16 → HoldsLast (ins m c t) D) (t : Fin cfg0.N) {s : View sig .tc .vmem S512x256 .bf16}
    (f : s.ty.Contents (Elt Ideal)) (r : Fin 512) (j : Fin 256) (h0 : 128 ≤ 512 * t.val + r.val) (h1 : 512 * t.val + r.val < 8320) :
    s.read (Elt Ideal) (s.writes (Elt Ideal) f (kvStores m c t)) (ix2 r j) = kvRow D t.val (ix2 r j) := by
  by_cases h : t.val = 0
  · rw [kvStores_A m c t h, dkvA]
    have hg := grps_at (m := m) (c := c) (by omega : t.val < 16) (HH t (by omega))
    refine View.read_writes_apply_of_pieces (Val := Elt Ideal) (e := .bf16) s f (kvRow D t.val) _ (fun p hp => ?_) (ix2 r j)
      (kv_cover r j (by omega))
    obtain ⟨n, _, rfl⟩ := List.mem_map.mp hp
    exact kv_piece hg (by omega) n
  have K : Kept D (t.val - 1) (prev m c t) := kept HH _ _ (by have := lt_17 t; omega)
  by_cases h' : t.val < 16
  · rw [kvStores_B m c t h h', dkvB]
    have H := HH t h'
    have hg := grps_at (m := m) (c := c) h' H
    refine View.read_writes_apply_of_pieces (Val := Elt Ideal) (e := .bf16) s f (kvRow D t.val) _ (first_pieces (by omega) _
      (fdk_real H.x2 H.x9 (prev_k h K) (pk_at h h' H)) (fdv_real (prev_v h K) (pv_at h h' H)) (fun p hp => ?_)) (ix2 r j) ?_
    · obtain ⟨n, _, rfl⟩ := List.mem_map.mp hp
      exact kv_piece hg h' n
    · by_cases hr : r.val < 128
      · exact first_cover _ r j hr
      · obtain ⟨p, hp, hy⟩ := kv_cover (g := grps m c t) r j (by omega)
        exact ⟨p, List.mem_cons_of_mem _ (List.mem_cons_of_mem _ (List.mem_cons_of_mem _ hp)), hy⟩
  · have ht : t.val = 16 := by have := lt_17 t; omega
    have e : 4 * t.val - 1 = 63 := by omega
    rw [kvStores_C m c t h', dkvC]
    have H := HL t ht
    refine View.read_writes_apply_of_pieces (Val := Elt Ideal) (e := .bf16) s f (kvRow D t.val) _ (first_pieces (by omega) _ ?_ ?_
      (fun p hp => absurd hp List.not_mem_nil)) (ix2 r j) (first_cover _ r j (by omega))
    · rw [e]
      exact fdk_real H.x2 H.x9 (fun k e' d j hj => (prev_k h K k e' d j hj).trans (by rw [e]))
        (fun k e d j hj => (zeros_at _).trans (by simp))
    · rw [e]
      exact fdv_real (fun k e' d j hj => (prev_v h K k e' d j hj).trans (by rw [e]))
        (fun k e d j hj => (zeros_at _).trans (by simp))

end Cert.AttnKernelIdeal.AttnKept

end
-- ==== Proof.AttnBucket.lean ====
/-
  The relative position's bucket, as both programs compute it: a chain of comparisons of the distance with the distances at
  which the bucket changes. And the choice of a table's row by a chain of comparisons of the bucket with the row numbers.
-/
module

public import Idealize.ShloMosaic.Lib.Pointwise
public import Idealize.ShloMosaic.Lib.WordCmp

@[expose] public section

noncomputable section

namespace Cert.AttnBucket

open Idealize.ShloMosaic

/-- From which distance on, which bucket. -/
def steps : List (ℕ × ℕ) :=
  [(1, 1), (2, 2), (3, 3), (4, 4), (5, 5), (6, 6), (7, 7), (8, 8), (9, 9), (10, 10), (11, 11), (12, 12), (13, 13), (14, 14),
   (15, 15), (16, 16), (19, 17), (21, 18), (24, 19), (27, 20), (31, 21), (35, 22), (40, 23), (46, 24), (52, 25), (59, 26),
   (67, 27), (77, 28), (87, 29), (99, 30), (113, 31)]

/-- The bucket of a distance. -/
def bucket (w : BitVec 32) : BitVec 32 :=
  steps.foldl (fun out p => Scalar.select (IntOp.cmpi .sge w (BitVec.ofNat 32 p.1)) (BitVec.ofNat 32 p.2) out) 0#32

/-- The entry of the numbered one of 32. -/
def pick (w : BitVec 32) (f : ℕ → EReal) : EReal :=
  (List.range 32).foldl (fun out b => Scalar.select (IntOp.cmpi .eq w (BitVec.ofNat 32 b)) (f b) out) 0

theorem pick_range (w : BitVec 32) (f : ℕ → EReal) (n : ℕ) (h : n ≤ 2 ^ 32) :
    (List.range n).foldl (fun out b => Scalar.select (IntOp.cmpi .eq w (BitVec.ofNat 32 b)) (f b) out) 0
      = if w.toNat < n then f w.toNat else 0 := by
  induction n with
  | zero => simp
  | succ n ih =>
    rw [List.range_succ, List.foldl_append, ih (by omega)]
    have e : (w = BitVec.ofNat 32 n) ↔ w.toNat = n := by
      rw [← BitVec.toNat_inj, BitVec.toNat_ofNat, Nat.mod_eq_of_lt (by omega)]
    simp only [List.foldl_cons, List.foldl_nil, IntOp.cmpi]
    by_cases hw : w.toNat = n
    · rw [show (w == BitVec.ofNat 32 n) = true from beq_iff_eq.mpr (e.mpr hw), hw, if_pos (Nat.lt_succ_self n)]; rfl
    · have h2 : (w.toNat < n + 1) ↔ w.toNat < n := by omega
      rw [show (w == BitVec.ofNat 32 n) = false from beq_eq_false_iff_ne.mpr fun h => hw (e.mp h)]
      simp only [h2]; rfl

theorem pick_eq (w : BitVec 32) (f : ℕ → EReal) (h : w.toNat < 32) : pick w f = f w.toNat := by
  unfold pick; rw [pick_range w f 32 (by decide), if_pos h]

/-- How far back the key of window position `c` lies for query `q`: in the query's own block up to it, else the block before. -/
def gap (q c : ℕ) : ℕ := if c ≤ q then q - c else q + 128 - c

theorem gap_lt (q c : Fin 128) : gap q.val c.val < 128 := by unfold gap; split_ifs <;> omega

/-- The bucket as a number. -/
def row (d : ℕ) : ℕ := (bucket (BitVec.ofNat 32 d)).toNat

theorem row_lt' : ∀ d : Fin 128, row d.val < 32 := by unfold row bucket steps; decide +kernel

theorem row_lt (d : ℕ) (h : d < 128) : row d < 32 := row_lt' ⟨d, h⟩

end Cert.AttnBucket

end
-- ==== Proof.AttnHost.lean ====
/-
  The arrays that the host prepares for the attention kernel: the bias by query and window position, the sink logits by row
  of a group, the two scales as rows.
-/
module

public import proofs.«01_k».proof.Proof.AttnFrame
public import proofs.«01_k».proof.Proof.AttnBucket
public import Idealize.ShloMosaic.Lib.StableHlo.ReadAt

@[expose] public section

set_option maxRecDepth 16384
set_option maxHeartbeats 2000000

noncomputable section

namespace Cert.AttnKernelIdeal.AttnHost

open Cert.AttnKernelIdeal Cert.AttnKernelIdeal.Gen
open Idealize.ShloMosaic Idealize.ShloMosaic.TcCoe
open Cert.AttnBucket

variable (m : (ℓ : Loc nD τ sig) → Buf (Elt Ideal) ℓ) (c : Dev nD)

/-- The host's lines up to the bucket, and those from there on. -/
abbrev opsA : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63]
abbrev opsB : List (HloOp τ sig (Elt Ideal)) := List.flatten [hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128]

theorem after_append {σ : RefSig} {τ' : Topo} (l l' : List (HloOp τ' σ (Elt Ideal)))
    (U : (b : DevRef τ' σ) → b.ty.Contents (Elt Ideal)) :
    StableHlo.after (l ++ l') U = StableHlo.after l' (StableHlo.after l U) := by
  induction l generalizing U with
  | nil => rfl
  | cons op l ih => exact ih _

theorem V_eq (b : Ref sig .tc) : V m c b = StableHlo.after opsB (StableHlo.after opsA fun b => m (c, b)) b := by
  rw [← after_append, ← List.flatten_append]
  rfl

theorem dist_word (r c : Fin 128) :
    Scalar.select (IntOp.cmpi CmpIPredicate.sle (BitVec.ofNat 32 c.val) (BitVec.ofNat 32 r.val))
      (IntOp.subi (BitVec.ofNat 32 r.val) (BitVec.ofNat 32 c.val))
      (IntOp.subi (IntOp.addi (BitVec.ofNat 32 r.val) 128#32) (BitVec.ofNat 32 c.val)) = BitVec.ofNat 32 (gap r.val c.val) := by
  have hr := r.isLt
  have hc := c.isLt
  unfold gap
  by_cases h : c.val ≤ r.val
  · rw [if_pos h]
    word_cmp
    rw [if_pos h]
    apply BitVec.eq_of_toNat_eq
    simp only [IntOp.subi, BitVec.toNat_sub, BitVec.toNat_ofNat]
    omega
  · rw [if_neg h]
    word_cmp
    rw [if_neg h]
    apply BitVec.eq_of_toNat_eq
    simp only [IntOp.subi, IntOp.addi, BitVec.toNat_sub, BitVec.toNat_add, BitVec.toNat_ofNat]
    omega

theorem bucket_at (U : (b : DevRef τ sig) → b.ty.Contents (Elt Ideal)) (r c : Fin 128) :
    StableHlo.after opsA U main_v109 (ix2 r c) = bucket (BitVec.ofNat 32 (gap r.val c.val)) := by
  after_reads_at
  rw [dist_word]
  rfl

/-- The bias at a head, a query and a window position. -/
theorem bias_of (U : (b : DevRef τ sig) → b.ty.Contents (Elt Ideal)) (k : Fin 2) (r : Fin 512) (c : Fin 128) :
    StableHlo.after opsB U main_v304 (ix3 k r c)
      = pick (U (Proc.tc.devRef main_v109) (ix2 ⟨r.val % 128, by omega⟩ c)) fun b =>
          if h : b < 32 then U (Proc.tc.devRef main_arg2) (ix2 ⟨b, h⟩ ⟨k.val * 4 + r.val / 128, by omega⟩) else (0 : EReal) := by
  after_reads_at
  rfl

theorem sink_of (U : (b : DevRef τ sig) → b.ty.Contents (Elt Ideal)) (k : Fin 2) (r : Fin 512) :
    StableHlo.after opsB U main_v307 (ix3 k r 0) = U (Proc.tc.devRef main_arg3) (ix1 ⟨k.val * 4 + r.val / 128, by omega⟩) := by
  after_reads_at
  exact congrArg (fun i : Fin 8 => U (Proc.tc.devRef main_arg3) (ix1 i)) (Fin.ext (by dsimp only; omega))

theorem qg_of (U : (b : DevRef τ sig) → b.ty.Contents (Elt Ideal)) (d : Fin 64) :
    StableHlo.after opsB U main_v308 (ix2 0 d) = U (Proc.tc.devRef main_arg4) (ix1 d) := by
  after_reads_at

theorem kg_of (U : (b : DevRef τ sig) → b.ty.Contents (Elt Ideal)) (d : Fin 64) :
    StableHlo.after opsB U main_v309 (ix2 0 d) = U (Proc.tc.devRef main_arg5) (ix1 d) := by
  after_reads_at

theorem keep2 (U : (b : DevRef τ sig) → b.ty.Contents (Elt Ideal)) (i : S32x8.Idx) :
    StableHlo.after opsA U main_arg2 i = U (Proc.tc.devRef main_arg2) i := by after_reads_at
theorem keep3 (U : (b : DevRef τ sig) → b.ty.Contents (Elt Ideal)) (i : S8.Idx) :
    StableHlo.after opsA U main_arg3 i = U (Proc.tc.devRef main_arg3) i := by after_reads_at
theorem keep4 (U : (b : DevRef τ sig) → b.ty.Contents (Elt Ideal)) (i : S64.Idx) :
    StableHlo.after opsA U main_arg4 i = U (Proc.tc.devRef main_arg4) i := by after_reads_at
theorem keep5 (U : (b : DevRef τ sig) → b.ty.Contents (Elt Ideal)) (i : S64.Idx) :
    StableHlo.after opsA U main_arg5 i = U (Proc.tc.devRef main_arg5) i := by after_reads_at

/-! ## As the kernel finds them -/

theorem bias_at (k : Fin 2) (r : Fin 512) (j : Fin 128) :
    V m c main_v304 (ix3 k r j)
      = m ((c : Thread nD τ).loc main_arg2) (ix2 ⟨row (gap (r.val % 128) j.val), row_lt _ (gap_lt ⟨r.val % 128, by omega⟩ j)⟩
          ⟨k.val * 4 + r.val / 128, by omega⟩) := by
  have h := row_lt _ (gap_lt ⟨r.val % 128, by omega⟩ j)
  rw [V_eq, bias_of, bucket_at, pick_eq _ _ h]
  exact (dif_pos h).trans (keep2 _ _)

theorem sink_at (k : Fin 2) (r : Fin 512) :
    V m c main_v307 (ix3 k r 0) = m ((c : Thread nD τ).loc main_arg3) (ix1 ⟨k.val * 4 + r.val / 128, by omega⟩) := by
  rw [V_eq, sink_of, keep3]

theorem qg_at (d : Fin 64) : V m c main_v308 (ix2 0 d) = m ((c : Thread nD τ).loc main_arg4) (ix1 d) := by
  rw [V_eq, qg_of, keep4]

theorem kg_at (d : Fin 64) : V m c main_v309 (ix2 0 d) = m ((c : Thread nD τ).loc main_arg5) (ix1 d) := by
  rw [V_eq, kg_of, keep5]

end Cert.AttnKernelIdeal.AttnHost

end
-- ==== Proof.AttnFits.lean ====
/-
  Arguments of finite values as the real numbers that the formulas of `AttnMath` are over.
-/
module

public import proofs.«01_k».proof.Proof.Reals
public import proofs.«01_k».proof.Proof.AttnData
public import proofs.«01_k».proof.Proof.AttnBucket

@[expose] public section

noncomputable section

namespace Cert.AttnFits

open Cert.Reals Cert.AttnMath Cert.AttnBucket

/-- The six arguments are the data `D`. -/
structure Fits (x0 : Fin 8192 → Fin 1792 → EReal) (x1 : Fin 8192 → Fin 512 → EReal) (x2 : Fin 32 → Fin 8 → EReal)
    (x3 : Fin 8 → EReal) (x4 x5 : Fin 64 → EReal) (D : Data) : Prop where
  z : ∀ i j, x0 i j = (D.z i.val j.val : EReal)
  da : ∀ i j, x1 i j = (D.da i.val j.val : EReal)
  b : ∀ (k : Fin 2) (r : Fin 512) (c : Fin 128),
    x2 ⟨row (gap (r.val % 128) c.val), row_lt _ (gap_lt ⟨r.val % 128, by omega⟩ c)⟩ ⟨k.val * 4 + r.val / 128, by omega⟩ = (D.b k r c : EReal)
  sk : ∀ (k : Fin 2) (r : Fin 512), x3 ⟨k.val * 4 + r.val / 128, by omega⟩ = (D.sk k r : EReal)
  qg : ∀ d, x4 d = (D.qg d : EReal)
  kg : ∀ d, x5 d = (D.kg d : EReal)

/-- Finite arguments are such data. -/
theorem exists_fits {x0 : Fin 8192 → Fin 1792 → EReal} {x1 : Fin 8192 → Fin 512 → EReal} {x2 : Fin 32 → Fin 8 → EReal}
    {x3 : Fin 8 → EReal} {x4 x5 : Fin 64 → EReal}
    (h0 : ∀ i j, ∃ r : ℝ, x0 i j = (r : EReal)) (h1 : ∀ i j, ∃ r : ℝ, x1 i j = (r : EReal)) (h2 : ∀ i j, ∃ r : ℝ, x2 i j = (r : EReal))
    (h3 : ∀ i, ∃ r : ℝ, x3 i = (r : EReal)) (h4 : ∀ i, ∃ r : ℝ, x4 i = (r : EReal)) (h5 : ∀ i, ∃ r : ℝ, x5 i = (r : EReal)) :
    ∃ D : Data, Fits x0 x1 x2 x3 x4 x5 D := by
  choose f0 e0 using h0
  choose f1 e1 using h1
  choose f2 e2 using h2
  choose f3 e3 using h3
  choose f4 e4 using h4
  choose f5 e5 using h5
  refine ⟨⟨fun i j => if h : i < 8192 ∧ j < 1792 then f0 ⟨i, h.1⟩ ⟨j, h.2⟩ else 0,
    fun i j => if h : i < 8192 ∧ j < 512 then f1 ⟨i, h.1⟩ ⟨j, h.2⟩ else 0,
    fun k r c => f2 ⟨row (gap (r.val % 128) c.val), row_lt _ (gap_lt ⟨r.val % 128, by omega⟩ c)⟩ ⟨k.val * 4 + r.val / 128, by omega⟩,
    fun k r => f3 ⟨k.val * 4 + r.val / 128, by omega⟩, f4, f5⟩, fun i j => ?_, fun i j => ?_, fun k r c => e2 _ _, fun k r => e3 _, e4, e5⟩
  · refine (e0 i j).trans (congrArg Real.toEReal ?_)
    dsimp only
    rw [dif_pos (And.intro i.isLt j.isLt)]
  · refine (e1 i j).trans (congrArg Real.toEReal ?_)
    dsimp only
    rw [dif_pos (And.intro i.isLt j.isLt)]

end Cert.AttnFits

end
-- ==== Proof.AttnBlocks.lean ====
/-
  What the blocks of the attention kernel's windows hold at each point, as the real numbers that the arguments are.
-/
module

public import proofs.«01_k».proof.Proof.AttnKept
public import proofs.«01_k».proof.Proof.AttnHost
public import proofs.«01_k».proof.Proof.AttnFits
public import Idealize.ShloMosaic.Lib.Pipeline.ValueKit

@[expose] public section

set_option maxRecDepth 16384
set_option maxHeartbeats 1000000

noncomputable section

namespace Cert.AttnKernelIdeal.AttnBlocks

open Cert.AttnKernelIdeal Cert.AttnKernelIdeal.Gen Cert.AttnKernelIdeal.AttnPoint Cert.AttnKernelIdeal.AttnKept
open Cert.AttnKernelIdeal.AttnLoad Cert.AttnKernelIdeal.AttnGrp Cert.AttnKernelIdeal.AttnHost Cert.AttnKernelIdeal.AttnFrame
open Idealize.ShloMosaic Idealize.ShloMosaic.TcCoe Idealize.ShloMosaic.Pipeline
open Cert.AttnMath Cert.AttnFits

variable (m : (ℓ : Loc nD τ sig) → Buf (Elt Ideal) ℓ) (c : Dev nD)

theorem idx : ∀ t : Fin cfg0.N, win0_0.index t = ![min t.val 15, 0] ∧ win0_1.index t = ![min t.val 15, 4]
    ∧ win0_2.index t = ![4 * t.val - 1, 4] ∧ win0_3.index t = ![min t.val 15, 5] ∧ win0_4.index t = ![4 * t.val - 1, 5]
    ∧ win0_5.index t = ![min t.val 15, 0] ∧ win0_6.index t = ![0, 0, 0] ∧ win0_7.index t = ![0, 0, 0] ∧ win0_8.index t = ![0, 0]
    ∧ win0_9.index t = ![0, 0] ∧ win0_10.index t = ![min t.val 15, 0] ∧ win0_11.index t = ![t.val, 0]
    ∧ win0_12.index t = ![0, 0, 0] ∧ win0_13.index t = ![0, 0] :=
  (by decide +kernel : ∀ t : Fin grid0.N, _)

theorem blk1 (t : Fin cfg0.N) (r : Fin 512) (j : Fin 128) :
    iblk m c 1 t (ix2 r j) = m ((c : Thread nD τ).loc main_arg0) (ix2 ⟨512 * min t.val 15 + r.val, by have := lt_17 t; omega⟩ ⟨512 + j.val, by omega⟩) := by
  unfold iblk
  rw [show V m c (Pipeline.arrRef spec0 1) = m ((c : Thread nD τ).loc main_arg0) from V_main_arg0 m c]
  blk_point [idx t]

theorem blk2 (t : Fin cfg0.N) (r : Fin 128) (j : Fin 128) :
    iblk m c 2 t (ix2 r j) = m ((c : Thread nD τ).loc main_arg0) (ix2 ⟨128 * (4 * t.val - 1) + r.val, by have := lt_17 t; omega⟩ ⟨512 + j.val, by omega⟩) := by
  unfold iblk
  rw [show V m c (Pipeline.arrRef spec0 2) = m ((c : Thread nD τ).loc main_arg0) from V_main_arg0 m c]
  blk_point [idx t]

theorem blk3 (t : Fin cfg0.N) (r : Fin 512) (j : Fin 128) :
    iblk m c 3 t (ix2 r j) = m ((c : Thread nD τ).loc main_arg0) (ix2 ⟨512 * min t.val 15 + r.val, by have := lt_17 t; omega⟩ ⟨640 + j.val, by omega⟩) := by
  unfold iblk
  rw [show V m c (Pipeline.arrRef spec0 3) = m ((c : Thread nD τ).loc main_arg0) from V_main_arg0 m c]
  blk_point [idx t]

theorem blk4 (t : Fin cfg0.N) (r : Fin 128) (j : Fin 128) :
    iblk m c 4 t (ix2 r j) = m ((c : Thread nD τ).loc main_arg0) (ix2 ⟨128 * (4 * t.val - 1) + r.val, by have := lt_17 t; omega⟩ ⟨640 + j.val, by omega⟩) := by
  unfold iblk
  rw [show V m c (Pipeline.arrRef spec0 4) = m ((c : Thread nD τ).loc main_arg0) from V_main_arg0 m c]
  blk_point [idx t]

theorem blk5 (t : Fin cfg0.N) (r : Fin 512) (j : Fin 512) :
    iblk m c 5 t (ix2 r j) = m ((c : Thread nD τ).loc main_arg1) (ix2 ⟨512 * min t.val 15 + r.val, by have := lt_17 t; omega⟩ ⟨j.val, by omega⟩) := by
  unfold iblk
  rw [show V m c (Pipeline.arrRef spec0 5) = m ((c : Thread nD τ).loc main_arg1) from V_main_arg1 m c]
  blk_point [idx t]

theorem blk0 (t : Fin cfg0.N) (r : Fin 512) (j : Fin 512) :
    X0_0 m c t (ix2 r j) = m ((c : Thread nD τ).loc main_arg0) (ix2 ⟨512 * min t.val 15 + r.val, by omega⟩ ⟨j.val, by omega⟩) := by
  unfold X0_0 Pipeline.Window.fill
  rw [dif_pos (moved0_0 t (ix2 r j))]
  unfold iblk
  rw [show V m c (Pipeline.arrRef spec0 0) = m ((c : Thread nD τ).loc main_arg0) from V_main_arg0 m c]
  blk_point [idx t]

theorem blk6 (t : Fin cfg0.N) (k : Fin 2) (r : Fin 512) (j : Fin 128) : iblk m c 6 t (ix3 k r j) = V m c main_v304 (ix3 k r j) := by
  unfold iblk
  generalize e : V m c main_v304 = y
  blk_point [idx t]

theorem blk7 (t : Fin cfg0.N) (k : Fin 2) (r : Fin 512) : iblk m c 7 t (ix3 k r 0) = V m c main_v307 (ix3 k r 0) := by
  unfold iblk
  generalize e : V m c main_v307 = y
  blk_point [idx t]

theorem blk8 (t : Fin cfg0.N) (d : Fin 64) : iblk m c 8 t (ix2 0 d) = V m c main_v308 (ix2 0 d) := by
  unfold iblk
  generalize e : V m c main_v308 = y
  blk_point [idx t]

theorem blk9 (t : Fin cfg0.N) (d : Fin 64) : iblk m c 9 t (ix2 0 d) = V m c main_v309 (ix2 0 d) := by
  unfold iblk
  generalize e : V m c main_v309 = y
  blk_point [idx t]

/-- The arguments are the data `D`. -/
abbrev Fit (D : Data) : Prop :=
  Fits (fun i j => m ((c : Thread nD τ).loc main_arg0) (ix2 i j)) (fun i j => m ((c : Thread nD τ).loc main_arg1) (ix2 i j))
    (fun i j => m ((c : Thread nD τ).loc main_arg2) (ix2 i j)) (fun i => m ((c : Thread nD τ).loc main_arg3) (ix1 i))
    (fun i => m ((c : Thread nD τ).loc main_arg4) (ix1 i)) (fun i => m ((c : Thread nD τ).loc main_arg5) (ix1 i)) D

/-- What a point's blocks hold, part by part. -/
theorem holds_of {D : Data} {n : ℕ} (X : In)
    (h0 : ∀ (r : Fin 512) (j : Fin 512), X.x0 (ix2 r j) = (D.z (512 * n + r.val) j.val : EReal))
    (h1 : ∀ (r : Fin 512) (j : Fin 128), X.x1 (ix2 r j) = (D.z (512 * n + r.val) (512 + j.val) : EReal))
    (h2 : ∀ (r : Fin 128) (j : Fin 128), X.x2 (ix2 r j) = (D.z (128 * (4 * n - 1) + r.val) (512 + j.val) : EReal))
    (h3 : ∀ (r : Fin 512) (j : Fin 128), X.x3 (ix2 r j) = (D.z (512 * n + r.val) (640 + j.val) : EReal))
    (h4 : ∀ (r : Fin 128) (j : Fin 128), X.x4 (ix2 r j) = (D.z (128 * (4 * n - 1) + r.val) (640 + j.val) : EReal))
    (h5 : ∀ (r : Fin 512) (j : Fin 512), X.x5 (ix2 r j) = (D.da (512 * n + r.val) j.val : EReal))
    (h6 : ∀ (k : Fin 2) (r : Fin 512) (c : Fin 128), X.x6 (ix3 k r c) = (D.b k r c : EReal))
    (h7 : ∀ (k : Fin 2) (r : Fin 512), X.x7 (ix3 k r 0) = (D.sk k r : EReal))
    (h8 : ∀ d : Fin 64, X.x8 (ix2 0 d) = (D.qg d : EReal))
    (h9 : ∀ d : Fin 64, X.x9 (ix2 0 d) = (D.kg d : EReal)) : Holds X D n := ⟨h0, h1, h2, h3, h4, h5, h6, h7, h8, h9⟩

variable {m c} {D : Data} (H : Fit m c D)
include H

theorem at_z (i : Fin 8192) (j : Fin 1792) (n k : ℕ) (hn : i.val = n) (hk : j.val = k) :
    m ((c : Thread nD τ).loc main_arg0) (ix2 i j) = (D.z n k : EReal) := by
  subst hn hk; exact H.z i j
theorem at_da (i : Fin 8192) (j : Fin 512) (n k : ℕ) (hn : i.val = n) (hk : j.val = k) :
    m ((c : Thread nD τ).loc main_arg1) (ix2 i j) = (D.da n k : EReal) := by
  subst hn hk; exact H.da i j

theorem h0 (t : Fin cfg0.N) (ht : t.val < 16) (r : Fin 512) (j : Fin 512) : X0_0 m c t (ix2 r j) = (D.z (512 * t.val + r.val) j.val : EReal) :=
  (blk0 m c t r j).trans (at_z H _ _ _ _ (by dsimp only; omega) rfl)
theorem h1 (t : Fin cfg0.N) (ht : t.val < 16) (r : Fin 512) (j : Fin 128) :
    iblk m c 1 t (ix2 r j) = (D.z (512 * t.val + r.val) (512 + j.val) : EReal) :=
  (blk1 m c t r j).trans (at_z H _ _ _ _ (by dsimp only; omega) rfl)
theorem h2 (t : Fin cfg0.N) (r : Fin 128) (j : Fin 128) :
    iblk m c 2 t (ix2 r j) = (D.z (128 * (4 * t.val - 1) + r.val) (512 + j.val) : EReal) :=
  (blk2 m c t r j).trans (at_z H _ _ _ _ rfl rfl)
theorem h3 (t : Fin cfg0.N) (ht : t.val < 16) (r : Fin 512) (j : Fin 128) :
    iblk m c 3 t (ix2 r j) = (D.z (512 * t.val + r.val) (640 + j.val) : EReal) :=
  (blk3 m c t r j).trans (at_z H _ _ _ _ (by dsimp only; omega) rfl)
theorem h4 (t : Fin cfg0.N) (r : Fin 128) (j : Fin 128) :
    iblk m c 4 t (ix2 r j) = (D.z (128 * (4 * t.val - 1) + r.val) (640 + j.val) : EReal) :=
  (blk4 m c t r j).trans (at_z H _ _ _ _ rfl rfl)
theorem h5 (t : Fin cfg0.N) (ht : t.val < 16) (r : Fin 512) (j : Fin 512) :
    iblk m c 5 t (ix2 r j) = (D.da (512 * t.val + r.val) j.val : EReal) :=
  (blk5 m c t r j).trans (at_da H _ _ _ _ (by dsimp only; omega) rfl)
theorem h6 (t : Fin cfg0.N) (k : Fin 2) (r : Fin 512) (j : Fin 128) : iblk m c 6 t (ix3 k r j) = (D.b k r j : EReal) := by
  rw [blk6 m c t k r j, bias_at m c k r j]; exact H.b k r j
theorem h7 (t : Fin cfg0.N) (k : Fin 2) (r : Fin 512) : iblk m c 7 t (ix3 k r 0) = (D.sk k r : EReal) := by
  rw [blk7 m c t k r, sink_at m c k r]; exact H.sk k r
theorem h8 (t : Fin cfg0.N) (d : Fin 64) : iblk m c 8 t (ix2 0 d) = (D.qg d : EReal) := by
  rw [blk8 m c t d, qg_at m c d]; exact H.qg d
theorem h9 (t : Fin cfg0.N) (d : Fin 64) : iblk m c 9 t (ix2 0 d) = (D.kg d : EReal) := by
  rw [blk9 m c t d, kg_at m c d]; exact H.kg d

theorem holds (t : Fin cfg0.N) (ht : t.val < 16) : Holds (ins m c t) D t.val :=
  holds_of (ins m c t) (fun r j => (show (ins m c t).x0 (ix2 r j) = X0_0 m c t (ix2 r j) by sl_kernel_rfl).trans (h0 H t ht r j))
    (fun r j => (show (ins m c t).x1 (ix2 r j) = iblk m c 1 t (ix2 r j) by sl_kernel_rfl).trans (h1 H t ht r j))
    (fun r j => (show (ins m c t).x2 (ix2 r j) = iblk m c 2 t (ix2 r j) by sl_kernel_rfl).trans (h2 H t r j))
    (fun r j => (show (ins m c t).x3 (ix2 r j) = iblk m c 3 t (ix2 r j) by sl_kernel_rfl).trans (h3 H t ht r j))
    (fun r j => (show (ins m c t).x4 (ix2 r j) = iblk m c 4 t (ix2 r j) by sl_kernel_rfl).trans (h4 H t r j))
    (fun r j => (show (ins m c t).x5 (ix2 r j) = iblk m c 5 t (ix2 r j) by sl_kernel_rfl).trans (h5 H t ht r j))
    (fun k r j => (show (ins m c t).x6 (ix3 k r j) = iblk m c 6 t (ix3 k r j) by sl_kernel_rfl).trans (h6 H t k r j))
    (fun k r => (show (ins m c t).x7 (ix3 k r 0) = iblk m c 7 t (ix3 k r 0) by sl_kernel_rfl).trans (h7 H t k r))
    (fun d => (show (ins m c t).x8 (ix2 0 d) = iblk m c 8 t (ix2 0 d) by sl_kernel_rfl).trans (h8 H t d))
    (fun d => (show (ins m c t).x9 (ix2 0 d) = iblk m c 9 t (ix2 0 d) by sl_kernel_rfl).trans (h9 H t d))

theorem holds_last (t : Fin cfg0.N) (ht : t.val = 16) : HoldsLast (ins m c t) D :=
  ⟨fun r j => (h2 H t r j).trans (by rw [show 4 * t.val - 1 = 63 by omega]), h9 H t⟩

end Cert.AttnKernelIdeal.AttnBlocks

end
-- ==== Proof.AttnBody.lean ====
/- The attention backward kernel's proof data, the obligation of its body at every point of the grid, and its launch. -/
module

public import proofs.«01_k».proof.Proof.AttnFrame
public import Idealize.ShloMosaic.Lib.Pipeline.TableIdle

@[expose] public section

set_option maxRecDepth 16384

noncomputable section

namespace Cert.AttnKernelIdeal.AttnFrame

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-! ## The proof data -/

/-- Between points: the two carried buffers at what the point before left, the rest of the scratch at anything; before
    the first point and after the last all of it at anything. -/
def Φ (c : Dev nD) : (n : ℕ) → n ≤ cfg0.N → sProp 𝕄
  | 0, _ => Pipeline.ΦA spec0 c
  | n + 1, hn => if n < 16 then iprop(iprop(owns (c : Thread nD τ) (Memref.whole cc0_scratch0) fullShare (st m c n hn).k
      ∗ owns (c : Thread nD τ) (Memref.whole cc0_scratch1) fullShare (st m c n hn).v
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)
      ∗ (∃ d, owns (c : Thread nD τ) (Memref.whole cc0_scratch5) fullShare d)) ∗ (∃ r, prngReg c r))
    else Pipeline.ΦA spec0 c

/-- Before a point that is not the first. -/
theorem Φ_pos (c : Dev nD) (n : ℕ) (h : n ≤ cfg0.N) (hz : n ≠ 0) (h' : n ≤ 16) :
    Φ m c n h = iprop(iprop(owns (c : Thread nD τ) (Memref.whole cc0_scratch0) fullShare (st m c (n - 1) (by omega)).k
      ∗ owns (c : Thread nD τ) (Memref.whole cc0_scratch1) fullShare (st m c (n - 1) (by omega)).v
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)
      ∗ (∃ d, owns (c : Thread nD τ) (Memref.whole cc0_scratch5) fullShare d)) ∗ (∃ r, prngReg c r)) := by
  cases n with
  | zero => exact absurd rfl hz
  | succ n => exact if_pos (by omega)

theorem Φ_zero (c : Dev nD) (n : ℕ) (h : n ≤ cfg0.N) (hz : n = 0) : Φ m c n h = Pipeline.ΦA spec0 c := by
  subst hz; rfl

theorem Φ_end (c : Dev nD) (n : ℕ) (h : n ≤ cfg0.N) (hz : ¬n ≤ 16) : Φ m c n h = Pipeline.ΦA spec0 c := by
  cases n with
  | zero => rfl
  | succ n => exact if_neg (by omega)

/-- What the launch hands over, buffer by buffer. -/
theorem entry_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- Only the keys' and values' gradient is held to a relation. -/
def marked : Fin 14 → Bool := fun w => w.val == 11

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (st m c t.val t.isLt).q
    | ⟨11, h⟩ => Pipeline.Dat.unnamed (cfg := cfg0) ⟨11, h⟩ t
    | ⟨12, _⟩ => (st m c t.val t.isLt).b
    | ⟨13, _⟩ => (st m c t.val t.isLt).s
  Φ t := Φ m c t.val (Nat.le_of_lt_succ t.isLt)
  q w := Pipeline.shareOf spec0 w
  owed _ := 0

/-- The keys' and values' gradient after a point: that point's stores over something. -/
def rel (c : Dev nD) (w : Fin cfg0.W) (t : Fin cfg0.N) (X : (cfg0.win w).block.Idx → Elt F (cfg0.win w).elt) : Prop :=
  match w with
  | ⟨11, _⟩ => ∃ f, X = (win0_11.stage (cfg0.slots t 11)).view.read (Elt F) ((win0_11.stage (cfg0.slots t 11)).view.writes (Elt F) f (kvStores m c t))
  | _ => True

/-- The arrays as the region finds them. -/
theorem A_eq (c : Dev nD) (w : Fin cfg0.W) : (dats m 0 c).A w = V m c (Pipeline.arrRef spec0 w) := by
  dsimp only [dats]

theorem Φ_castSucc (c : Dev nD) (t : Fin cfg0.N) : (dats m 0 c).Φ t.castSucc = Φ m c t.val (Nat.le_of_lt t.isLt) := by
  dsimp only [dats]; exact Pipeline.Dat.Φ_castSucc (Φ m c) t

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (st m c t.val t.isLt).q := by dsimp only [dats]
theorem after_12 (c : Dev nD) (t : Fin cfg0.N) : (dats m 0 c).after 12 t = (st m c t.val t.isLt).b := by dsimp only [dats]
theorem after_13 (c : Dev nD) (t : Fin cfg0.N) : (dats m 0 c).after 13 t = (st m c t.val t.isLt).s := by dsimp only [dats]

theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-! ## What an output's buffer holds before a point -/

/-- Whether an output's buffer holds nothing of this block yet, tabulated over the points. -/
def freshQ : ℕ → Bool := fun n => n != 16
def freshS : ℕ → Bool := fun n => n == 0 || n == 17

theorem freshQ_step : ∀ t : Fin cfg0.N,
    freshQ (t.val + 1) = ((cfg0.win 10).flush t || (cfg0.idle 10 (cfg0.grid.coords t) && freshQ t.val)) := by decide +kernel
theorem freshB_step : ∀ t : Fin cfg0.N,
    freshS (t.val + 1) = ((cfg0.win 12).flush t || (cfg0.idle 12 (cfg0.grid.coords t) && freshS t.val)) := by decide +kernel
theorem freshS_step : ∀ t : Fin cfg0.N,
    freshS (t.val + 1) = ((cfg0.win 13).flush t || (cfg0.idle 13 (cfg0.grid.coords t) && freshS t.val)) := by decide +kernel

theorem fresh_q (t : Fin cfg0.N) : cfg0.fresh 10 t.val = freshQ t.val :=
  Pipeline.Cfg.fresh_tab cfg0 10 freshQ rfl freshQ_step t.val (Nat.le_of_lt t.isLt)
theorem fresh_b (t : Fin cfg0.N) : cfg0.fresh 12 t.val = freshS t.val :=
  Pipeline.Cfg.fresh_tab cfg0 12 freshS rfl freshB_step t.val (Nat.le_of_lt t.isLt)
theorem fresh_s (t : Fin cfg0.N) : cfg0.fresh 13 t.val = freshS t.val :=
  Pipeline.Cfg.fresh_tab cfg0 13 freshS rfl freshS_step t.val (Nat.le_of_lt t.isLt)

theorem idle_q : ∀ t : Fin cfg0.N, cfg0.idle 10 (grid0.coords t) = true → ¬t.val < 16 :=
  (by decide +kernel : ∀ t : Fin grid0.N, cfg0.idle 10 (grid0.coords t) = true → ¬t.val < 16)
theorem idle_b : ∀ t : Fin cfg0.N, cfg0.idle 12 (grid0.coords t) = true → ¬t.val < 16 :=
  (by decide +kernel : ∀ t : Fin grid0.N, cfg0.idle 12 (grid0.coords t) = true → ¬t.val < 16)
theorem live_s : ∀ t : Fin cfg0.N, cfg0.idle 13 (grid0.coords t) = false :=
  (by decide +kernel : ∀ t : Fin grid0.N, cfg0.idle 13 (grid0.coords t) = false)

theorem before_q (c : Dev nD) (t : Fin cfg0.N) (h : ¬t.val < 16) (d) : (dats m 0 c).before 10 t d = (prev m c t).q := by
  rw [Dat.before_out_traj _ 10 rfl (fun _ _ => rfl) (fun t _ hi _ => by
      rw [after_10, after_10, st_C m c t (idle_q t hi)]; rfl) t.val t rfl d,
    if_neg (by rw [fresh_q t]; have := lt_17 t; simp [freshQ]; omega)]
  dsimp only [dats]; rfl

theorem before_b (c : Dev nD) (t : Fin cfg0.N) (h : t.val ≠ 0) (d) : (dats m 0 c).before 12 t d = (prev m c t).b := by
  rw [Dat.before_out_traj _ 12 rfl (fun _ _ => rfl) (fun t _ hi _ => by
      rw [after_12, after_12, st_C m c t (idle_b t hi)]; rfl) t.val t rfl d,
    if_neg (by rw [fresh_b t]; have := lt_17 t; simp [freshS]; omega)]
  dsimp only [dats]; rfl

theorem before_s (c : Dev nD) (t : Fin cfg0.N) (h : t.val ≠ 0) (d) : (dats m 0 c).before 13 t d = (prev m c t).s := by
  rw [Dat.before_out_traj _ 13 rfl (fun _ _ => rfl) (fun t _ hi _ => by
      rw [live_s t] at hi; exact absurd hi Bool.false_ne_true) t.val t rfl d,
    if_neg (by rw [fresh_s t]; have := lt_17 t; simp [freshS]; omega)]
  dsimp only [dats]; rfl

/-! ## The body's obligation at a point -/

/-- A window stored into at a point, or written back there, is left at what the proof data say. -/
theorem leaves_owns_of {cfg : Cfg sig Λ₀} {c : Dev nD} (dat : Dat τ (Elt F) Unit ℕ (UR sig nD τ) ℕ cfg c) (w : Fin cfg.W) (t : Fin cfg.N)
    (h : cfg.idle w (cfg.grid.coords t) = false ∨ (cfg.win w).flush t = true) (hl : cfg.loose w = false) :
    dat.leaves w t = owns (c : Thread nD τ) ((cfg.win w).stage (cfg.slots t w)) fullShare (dat.after w t) := by
  unfold Dat.leaves
  rw [hl]
  cases hi : cfg.idle w (cfg.grid.coords t) with
  | false => rfl
  | true =>
    rcases h with h | h
    · rw [hi] at h; exact absurd h (by decide)
    · rw [h]

theorem leaves_owns (c : Dev nD) (w : Fin cfg0.W) (t : Fin cfg0.N)
    (h : cfg0.idle w (cfg0.grid.coords t) = false ∨ (cfg0.win w).flush t = true) (hl : cfg0.loose w = false) :
    (dats m 0 c).leaves w t = owns (c : Thread nD τ) ((cfg0.win w).stage (cfg0.slots t w)) fullShare ((dats m 0 c).after w t) :=
  leaves_owns_of (dats m 0 c) w t h hl

/-- The queries' window is never cut, so its buffer given back as it was found is enough. -/
theorem leaves_0 (c : Dev nD) (t : Fin cfg0.N) :
    (owns (c : Thread nD τ) (win0_0.stage (cfg0.slots t 0)) fullShare (X0_0 m c t) : sProp 𝕄) ⊢ (dats m 0 c).leaves 0 t := by
  rw [show (dats m 0 c).leaves 0 t = iprop(∃ d, owns (c : Thread nD τ) ((cfg0.win 0).stage (cfg0.slots t 0)) fullShare
    ((cfg0.win 0).fill (cfg0.grid.coords t) d ((cfg0.win 0).cut (cfg0.grid.coords t) ((dats m 0 c).after 0 t)))) from rfl, after_0]
  iintro H; iexists (X0_0 m c t)
  rw [(cfg0.win 0).fill_cut]
  iexact H

theorem left_q : ∀ t : Fin cfg0.N, cfg0.idle 10 (cfg0.grid.coords t) = false ∨ (cfg0.win 10).flush t = true := by decide +kernel
theorem left_b : ∀ t : Fin cfg0.N, cfg0.idle 12 (cfg0.grid.coords t) = false ∨ (cfg0.win 12).flush t = true := by decide +kernel

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ Y, ⌜((dats m 0 c).toRRel marked (rel m c)).Finds 11 t Y⌝ ∗ owns (c : Thread nD τ) (win0_11.stage (cfg0.slots t 11)) fullShare Y)
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))

/-- What it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (∃ X, ⌜rel m c 11 t X⌝ ∗ owns (c : Thread nD τ) (win0_11.stage (cfg0.slots t 11)) fullShare X)
    ∗ (dats m 0 c).leaves 12 t
    ∗ (dats m 0 c).leaves 13 t)

/-- What it returns, the windows' contents named. -/
theorem bodyPost_eq (c : Dev nD) (t : Fin cfg0.N) : bodyPost m c t =
    iprop((dats m 0 c).Φ t.succ ∗ (dats m 0 c).owesAt () t.succ
    ∗ (dats m 0 c).leaves 0 t
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (iblk m c 9 t)
    ∗ owns (c : Thread nD τ) (win0_10.stage (cfg0.slots t 10)) fullShare ((st m c t.val t.isLt).q)
    ∗ (∃ X, ⌜rel m c 11 t X⌝ ∗ owns (c : Thread nD τ) (win0_11.stage (cfg0.slots t 11)) fullShare X)
    ∗ owns (c : Thread nD τ) (win0_12.stage (cfg0.slots t 12)) fullShare ((st m c t.val t.isLt).b)
    ∗ owns (c : Thread nD τ) (win0_13.stage (cfg0.slots t 13)) fullShare ((st m c t.val t.isLt).s)) := by
  unfold bodyPost
  rw [leaves_owns m c 1 t (Or.inl rfl) rfl, leaves_owns m c 2 t (Or.inl rfl) rfl, leaves_owns m c 3 t (Or.inl rfl) rfl, leaves_owns m c 4 t (Or.inl rfl) rfl, leaves_owns m c 5 t (Or.inl rfl) rfl, leaves_owns m c 6 t (Or.inl rfl) rfl, leaves_owns m c 7 t (Or.inl rfl) rfl, leaves_owns m c 8 t (Or.inl rfl) rfl, leaves_owns m c 9 t (Or.inl rfl) rfl, leaves_owns m c 10 t (left_q t) rfl, leaves_owns m c 12 t (left_b t) rfl, leaves_owns m c 13 t (Or.inl (live_s t)) rfl,
    after_1, after_2, after_3, after_4, after_5, after_6, after_7, after_8, after_9, after_10, after_12, after_13]

set_option maxHeartbeats 2000000 in
/-- At the first point. -/
theorem sound_A (c : Dev nD) (t : Fin cfg0.N) (h : t.val = 0) :
    bodyPre m c t ⊢ wp frame (wpE (defs₀ (F := F)) Variants.none c none) Set.univ (bodyAt0 t) (fun _ => bodyPost m c t) := by
  rw [bodyPost_eq]; unfold bodyPre bodyAt0
  simp only [before_0, before_1, before_2, before_3, before_4, before_5, before_6, before_7, before_8, before_9]
  rw [show (dats m 0 c).owesAt () t.succ = (dats m 0 c).owesAt () t.castSucc from rfl,
    show (dats m 0 c).Φ t.succ = Φ m c (t.val + 1) t.isLt from rfl, Φ_pos m c (t.val + 1) t.isLt (Nat.succ_ne_zero _) (by omega),
    Φ_castSucc m c t]
  rw [Φ_zero m c t.val _ h, entry_eq]
  simp only [Nat.add_sub_cancel, st_A m c t h, stA]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, H12⟩, ⟨%d13, H13⟩⟩
  iapply ((outA m c t h).2.2.2.2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, ⟨%e10, H10⟩, ⟨%e11, H11⟩, ⟨%e12, H12⟩, ⟨%e13, H13⟩, ⟨%e14, S0⟩, ⟨%e15, S1⟩, S2, S3, S4, S5⟩
  isplitl [S0 S1 S2 S3 S4 S5 Hg]
  · isplitl [S0 S1 S2 S3 S4 S5]
    · isplitl [S0]
      · unfold owns; iexists _; isplitr
        swap; · iexact S0
        ipureintro; exact View.read_writes_eq_canon _ _ _ (cover_kA m c t h)
      isplitl [S1]
      · unfold owns; iexists _; isplitr
        swap; · iexact S1
        ipureintro; exact View.read_writes_eq_canon _ _ _ (cover_vA m c t h)
      isplitl [S2]
      · iexact S2
      isplitl [S3]
      · iexact S3
      isplitl [S4]
      · iexact S4
      iexact S5
    iexact Hg
  isplitl [Ho]; · iexact Ho
  isplitl [H0]
  · iapply (leaves_0 m c t); iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · unfold owns; iexists _; isplitr
    swap; · iexact H10
    ipureintro; exact View.read_writes_eq_canon _ _ _ (cover_qA m c t h)
  isplitl [H11]
  · iexists _; isplitr
    · ipureintro; exact ⟨e11, rfl⟩
    rw [kvStores_A m c t h]; unfold owns; iexists _; isplitr
    swap; · iexact H11
    ipureintro; rfl
  isplitl [H12]
  · unfold owns; iexists _; isplitr
    swap; · iexact H12
    ipureintro; exact View.read_writes_eq_canon _ _ _ (cover_bA m c t h)
  unfold owns; iexists _; isplitr
  swap; · iexact H13
  ipureintro; exact View.read_writes_eq_canon _ _ _ (cover_sA m c t h)

set_option maxHeartbeats 2000000 in
/-- At a point between. -/
theorem sound_B (c : Dev nD) (t : Fin cfg0.N) (h : t.val ≠ 0) (h' : t.val < 16) :
    bodyPre m c t ⊢ wp frame (wpE (defs₀ (F := F)) Variants.none c none) Set.univ (bodyAt0 t) (fun _ => bodyPost m c t) := by
  rw [bodyPost_eq]; unfold bodyPre bodyAt0
  simp only [before_0, before_1, before_2, before_3, before_4, before_5, before_6, before_7, before_8, before_9]
  rw [show (dats m 0 c).owesAt () t.succ = (dats m 0 c).owesAt () t.castSucc from rfl,
    show (dats m 0 c).Φ t.succ = Φ m c (t.val + 1) t.isLt from rfl, Φ_pos m c (t.val + 1) t.isLt (Nat.succ_ne_zero _) (by omega),
    Φ_castSucc m c t]
  rw [Φ_pos m c t.val _ h (by omega)]
  simp only [before_b m c t h, before_s m c t h, Nat.add_sub_cancel, st_B m c t h h', stB]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, H12⟩, ⟨%d13, H13⟩⟩
  iapply ((outB m c t h h' (prev m c t)).2.2.2.2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, ⟨%e10, H10⟩, ⟨%e11, H11⟩, H12, H13, S0, S1, S2, S3, S4, S5⟩
  isplitl [S0 S1 S2 S3 S4 S5 Hg]
  · isplitl [S0 S1 S2 S3 S4 S5]
    · isplitl [S0]
      · unfold owns; iexists _; isplitr
        swap; · iexact S0
        ipureintro; exact View.read_writes_eq_canon _ _ _ (cover_kB m c t h h' _)
      isplitl [S1]
      · unfold owns; iexists _; isplitr
        swap; · iexact S1
        ipureintro; exact View.read_writes_eq_canon _ _ _ (cover_vB m c t h h' _)
      isplitl [S2]
      · iexact S2
      isplitl [S3]
      · iexact S3
      isplitl [S4]
      · iexact S4
      iexact S5
    iexact Hg
  isplitl [Ho]; · iexact Ho
  isplitl [H0]
  · iapply (leaves_0 m c t); iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · unfold owns; iexists _; isplitr
    swap; · iexact H10
    ipureintro; exact View.read_writes_eq_canon _ _ _ (cover_qB m c t h h' _)
  isplitl [H11]
  · iexists _; isplitr
    · ipureintro; exact ⟨e11, rfl⟩
    rw [kvStores_B m c t h h']; unfold owns; iexists _; isplitr
    swap; · iexact H11
    ipureintro; rfl
  isplitl [H12]
  · unfold owns; iexists _; isplitr
    swap; · iexact H12
    ipureintro; rfl
  unfold owns; iexists _; isplitr
  swap; · iexact H13
  ipureintro; rfl

set_option maxHeartbeats 2000000 in
/-- At the last point. -/
theorem sound_C (c : Dev nD) (t : Fin cfg0.N) (h : ¬t.val < 16) :
    bodyPre m c t ⊢ wp frame (wpE (defs₀ (F := F)) Variants.none c none) Set.univ (bodyAt0 t) (fun _ => bodyPost m c t) := by
  rw [bodyPost_eq]; unfold bodyPre bodyAt0
  simp only [before_0, before_1, before_2, before_3, before_4, before_5, before_6, before_7, before_8, before_9]
  rw [show (dats m 0 c).owesAt () t.succ = (dats m 0 c).owesAt () t.castSucc from rfl,
    show (dats m 0 c).Φ t.succ = Φ m c (t.val + 1) t.isLt from rfl, Φ_end m c (t.val + 1) t.isLt (by omega), entry_eq,
    Φ_castSucc m c t]
  rw [Φ_pos m c t.val _ (by omega) (by have := lt_17 t; omega)]
  simp only [before_b m c t (by omega), before_s m c t (by omega), before_q m c t h, Nat.add_sub_cancel, st_C m c t h, stC]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, H12⟩, ⟨%d13, H13⟩⟩
  iapply ((outC m c t h (prev m c t)).2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, ⟨%e11, H11⟩, H12, H13, S0, S1, S2, S3, S4, S5⟩
  isplitl [S0 S1 S2 S3 S4 S5 Hg]
  · isplitl [S0 S1 S2 S3 S4 S5]
    · isplitl [S0]
      · iexact S0
      isplitl [S1]
      · iexact S1
      isplitl [S2]
      · iexact S2
      isplitl [S3]
      · iexact S3
      isplitl [S4]
      · iexact S4
      iexact S5
    iexact Hg
  isplitl [Ho]; · iexact Ho
  isplitl [H0]
  · iapply (leaves_0 m c t); iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexists _; isplitr
    · ipureintro; exact ⟨e11, rfl⟩
    rw [kvStores_C m c t h]; unfold owns; iexists _; isplitr
    swap; · iexact H11
    ipureintro; rfl
  isplitl [H12]
  · iexact H12
  unfold owns; iexists _; isplitr
  swap; · iexact H13
  ipureintro; rfl

/-- The body at any point. -/
theorem sound (c : Dev nD) (t : Fin cfg0.N) :
    bodyPre m c t ⊢ wp frame (wpE (defs₀ (F := F)) Variants.none c none) Set.univ (bodyAt0 t) (fun _ => bodyPost m c t) := by
  by_cases h : t.val = 0
  · exact sound_A m c t h
  by_cases h' : t.val < 16
  · exact sound_B m c t h h'
  · exact sound_C m c t h'

/-- The table's body at a point's buffers is the body as the runs spell it. -/
theorem body_row (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) :
    BodyObligationRel (dats (F := F) m 0 c) (defs₀ (F := F)) Variants.none () Set.univ marked (rel m c) := fun t => by
  rw [bigSep_W0, bigSep_W0, body_row]
  exact triple_restated (sound m c t) rfl .rfl fun _ => .rfl

theorem hin (c : Dev nD) : Pipeline.ΦA spec0 c ⊢ (dats m 0 c).Φ 0 := by
  rw [show (dats m 0 c).Φ 0 = Φ m c 0 (Nat.zero_le _) from rfl, Φ_zero m c 0 _ rfl]
  try exact Idealize.SL.BI.Entails.refl _

/-- After the last point the carried buffers are given back at anything. -/
theorem hout (c : Dev nD) : (dats m 0 c).Φ (Fin.last cfg0.N) ⊢ Pipeline.ΦA spec0 c := by
  rw [show (dats m 0 c).Φ (Fin.last cfg0.N) = Φ m c (Fin.last cfg0.N).val (Nat.le_of_lt_succ (Fin.last cfg0.N).isLt) from rfl,
    Φ_end m c _ _ (by rw [Fin.val_last]; have : cfg0.N = 17 := N_0; omega)]
  try exact Idealize.SL.BI.Entails.refl _

/-! ## The launch -/

set_option backward.isDefEq.respectTransparency.types false in
/-- The launch, of any proof data whose body meets its obligation with some windows held to relations only. -/
theorem run_of (dat : (c : Dev nD) → Dat τ (Elt F) Unit ℕ (UR sig nD τ) ℕ cfg0 c) (fgt : Fin cfg0.W → Bool)
    (R : (c : Dev nD) → (w : Fin cfg0.W) → Fin cfg0.N → ((cfg0.win w).block.Idx → Elt F (cfg0.win w).elt) → Prop)
    (hbody : ∀ c, BodyObligationRel (dat c) (defs₀ (F := F)) Variants.none () Set.univ fgt (R c))
    (hq : ∀ c w, (cfg0.spec w).isOut = false → (dat c).q w = Pipeline.shareOf cfg0.spec w) (howed : ∀ c t, (dat c).owed t = 0)
    (hA : ∀ c w, (dat c).A w = V m c (Pipeline.arrRef spec0 w))
    (hin : ∀ c, Pipeline.ΦA spec0 c ⊢ (dat c).Φ 0) (hout : ∀ c, (dat c).Φ (Fin.last cfg0.N) ⊢ Pipeline.ΦA spec0 c) :
    θ_run defs (onTc (τ := τ) (main (F := F))) (s₀ m ρ) (fun r =>
      Pipeline.RDat.FramePost (cfgs 0) (fun c => (dat c).toRRel fgt (R c)) (V m) r ∧ r.2.sem = fun _ => 0) :=
  Pipeline.RDat.θ_run_frame_track_shared (Q' := _) cfgs (0 : Fin 1) launch₀0 defs₀ Variants.none
    (fun c => (dat c).toRRel fgt (R c)) m ρ main
    (hbody := fun c => (hbody c).toRRel) (hq := hq)
    (howed := howed) (V := V m) (hmain := hmain m Variants.none) (hA := hA) (hin := hin) (hout := hout)

/-- Every execution ends with the arrays at what the proof data say, and no counter raised. -/
theorem run_main : θ_run defs (onTc (τ := τ) (main (F := F))) (s₀ m ρ) (fun r =>
    Pipeline.RDat.FramePost (cfgs 0) (fun c => (dats m 0 c).toRRel marked (rel m c)) (V m) r ∧ r.2.sem = fun _ => 0) :=
  run_of m ρ (dats m 0) marked (rel m) (obligation m) (fun _ _ _ => rfl) (fun _ _ => rfl) (A_eq m) (hin m) (hout m)

/-- The arguments end as they began, of any relational proof data over the arrays as the region finds them. -/
theorem args_kept (rdat : (c : Dev nD) → Pipeline.RDat τ (Elt F) Unit ℕ (UR sig nD τ) ℕ (cfgs 0) c)
    (hA : ∀ c w, (rdat c).A w = V m c (Pipeline.arrRef spec0 w)) {r : PUnit × MemSt nD τ sig (Elt F)}
    (h : Pipeline.RDat.FramePost (cfgs 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 4 rfl).trans ((hA c 4).trans (V_main_arg0 m c)),
    (Pipeline.RDat.FramePost.arr_in h c 5 rfl).trans ((hA c 5).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The arguments end as they began, and no counter is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_kept m (fun c => (dats m 0 c).toRRel marked (rel m c)) (A_eq m) h.1 c, h.2⟩) (run_main m ρ)

end Cert.AttnKernelIdeal.AttnFrame

end
-- ==== Proof.AttnFinal.lean ====
/-
  What the attention kernel's four result arrays hold in the end, as real numbers.
-/
module

public import proofs.«01_k».proof.Proof.AttnBlocks
public import proofs.«01_k».proof.Proof.AttnBody
public import Idealize.ShloMosaic.Lib.Pipeline.DatRel
public import Idealize.ShloMosaic.Lib.Pipeline.ArrRel

@[expose] public section

set_option maxRecDepth 16384
set_option maxHeartbeats 1000000

noncomputable section

namespace Cert.AttnKernelIdeal.AttnFinal

open Cert.AttnKernelIdeal Cert.AttnKernelIdeal.Gen Cert.AttnKernelIdeal.AttnPoint Cert.AttnKernelIdeal.AttnKept
open Cert.AttnKernelIdeal.AttnLoad Cert.AttnKernelIdeal.AttnPiece Cert.AttnKernelIdeal.AttnFrame Cert.AttnKernelIdeal.AttnBlocks
open Idealize.ShloMosaic Idealize.ShloMosaic.TcCoe Idealize.ShloMosaic.Pipeline
open Cert.AttnMath Cert.AttnFits

/-- The four arrays. -/
def dqArr (D : Data) : S8192x512.Idx → EReal := fun i => ((D.dqAt (i 0).val (i 1).val : ℝ) : EReal)
def biasArr (D : Data) : S2x512x128.Idx → EReal := fun i => ((D.bias 64 (i 0) (i 1) (i 2) : ℝ) : EReal)
def smallArr (D : Data) : S8x128.Idx → EReal := fun i => ((D.small 64 64 (i 0) (i 1) : ℝ) : EReal)
/-- The keys' and values' gradients lie 128 rows down. -/
def kvArr (D : Data) : S8704x256.Idx → EReal := fun i => ((D.dkvAt ((i 0).val - 128) (i 1).val : ℝ) : EReal)

variable (m : (ℓ : Loc nD τ sig) → Buf (Elt Ideal) ℓ) (c : Dev nD)

/-- What a window held exactly has in its buffer where it is written back. -/
theorem left_of {w : Fin cfg0.W} (hm : marked w = false) (hl : cfg0.loose w = false) {t : Fin cfg0.N} (hf : (cfg0.win w).flush t = true)
    {X : (cfg0.win w).block.Idx → Elt Ideal (cfg0.win w).elt} (h : ((dats m 0 c).toRRel marked (rel m c)).Leaves w t X) :
    X = (dats m 0 c).after w t := by
  obtain ⟨Y, _, hX⟩ := h
  rw [Dat.toRRel_after_of_eq_false _ hm] at hX
  have h := (Dat.Leaves.live_iff _ (.inr hf)).mp hX
  rw [hl] at h
  exact h

section
variable {m c} {D : Data} (H : Fit m c D)
include H

theorem q_end (t : Fin cfg0.N) (r : Fin 512) (j : Fin 512) :
    (st m c t.val t.isLt).q (ix2 r j) = ((D.dqAt (512 * min t.val 15 + r.val) j.val : ℝ) : EReal) := by
  by_cases h : t.val < 16
  · rw [(kept (holds H) t.val t.isLt h).q r j, show min t.val 15 = t.val by omega]
  · have ht : t.val = 16 := by have := lt_17 t; omega
    have K : Kept D (t.val - 1) (prev m c t) := kept (holds H) _ _ (by omega)
    rw [st_C m c t h]
    exact (K.q r j).trans (by rw [show min t.val 15 = t.val - 1 by omega])

theorem b_end (t : Fin cfg0.N) (ht : t.val = 16) (k : Fin 2) (r : Fin 512) (j : Fin 128) :
    (st m c t.val t.isLt).b (ix3 k r j) = ((D.bias 64 k r j : ℝ) : EReal) := by
  have K : Kept D (t.val - 1) (prev m c t) := kept (holds H) _ _ (by omega)
  rw [st_C m c t (by omega)]
  exact (K.b k r j).trans (by rw [show 4 * (t.val - 1) + 4 = 64 by omega])

variable (dat : Pipeline.Dat τ (Elt Ideal) Unit ℕ (UR sig nD τ) ℕ cfg0 c)

theorem final10 (hL : ∀ u, (cfg0.win 10).flush u = true → dat.after 10 u = (st m c u.val u.isLt).q) :
    dat.arrAt 10 cfg0.N = dqArr D := by
  refine dat.arrAt_eq_of_covers 10 _ (by decide +kernel) fun t hf y => ?_
  blk_simp
  rw [hL t hf]
  change S512x512.Idx at y
  idx_vars y
  have e : ((cfg0.win 10).blk t).view.emb (ix2 y0 y1) = ix2 ⟨512 * min t.val 15 + y0.val, by have := lt_17 t; omega⟩ y1 := by
    blk_ext [idx t]
  rw [e]
  exact q_end H t y0 y1

theorem final12 (hL : ∀ u, (cfg0.win 12).flush u = true → dat.after 12 u = (st m c u.val u.isLt).b) :
    dat.arrAt 12 cfg0.N = biasArr D := by
  refine dat.arrAt_eq_of_covers 12 _ (by decide +kernel) fun t hf y => ?_
  have ht : t.val = 16 := (by decide +kernel : ∀ t : Fin cfg0.N, (cfg0.win 12).flush t = true → t.val = 16) t hf
  blk_simp
  rw [hL t hf]
  change S2x512x128.Idx at y
  idx_vars y
  have e : ((cfg0.win 12).blk t).view.emb (ix3 y0 y1 y2) = ix3 y0 y1 y2 := by
    blk_ext [idx t]
  rw [e]
  exact b_end H t ht y0 y1 y2

theorem final13 (hL : ∀ u, (cfg0.win 13).flush u = true → dat.after 13 u = (st m c u.val u.isLt).s) :
    dat.arrAt 13 cfg0.N = smallArr D := by
  refine dat.arrAt_eq_of_covers 13 _ (by decide +kernel) fun t hf y => ?_
  have ht : t.val = 16 := (by decide +kernel : ∀ t : Fin cfg0.N, (cfg0.win 13).flush t = true → t.val = 16) t hf
  blk_simp
  rw [hL t hf]
  change S8x128.Idx at y
  idx_vars y
  have e : ((cfg0.win 13).blk t).view.emb (ix2 y0 y1) = ix2 y0 y1 := by
    blk_ext [idx t]
  rw [e]
  exact small_end (holds H) t ht (holds_last H t ht) y0 y1

theorem final11 (hL : ∀ u, (cfg0.win 11).flush u = true → rel m c 11 u (dat.after 11 u)) (i : S8704x256.Idx) :
    128 ≤ (i 0).val → (i 0).val < 8320 → dat.arrAt 11 cfg0.N i = kvArr D i := by
  refine dat.arrAt_forall_of_covers 11 (fun (i : S8704x256.Idx) v => 128 ≤ (i 0).val → (i 0).val < 8320 → v = kvArr D i) (by decide +kernel)
    (fun t hf y => ?_) i
  obtain ⟨f, hX⟩ := hL t hf
  blk_simp
  rw [hX]
  change S512x256.Idx at y
  idx_vars y
  have e : ((cfg0.win 11).blk t).view.emb (ix2 y0 y1) = ix2 ⟨512 * t.val + y0.val, by have := lt_17 t; omega⟩ y1 := by
    blk_ext [idx t]
  rw [e]
  have e0 : win0_11.index t 0 = t.val := by simp [idx t]
  rw [e0]
  intro h0 h1
  exact kv_end (holds H) (holds_last H) t f y0 y1 (by omega) (by omega)

/-- A run's four result arrays. -/
theorem final {r : PUnit × MemSt nD τ sig (Elt Ideal)}
    (h : Pipeline.RDat.FramePost (cfgs 0) (fun c => (dats m 0 c).toRRel marked (rel m c)) (V m) r) :
    r.2.mem ((c : Thread nD τ).loc main_v310_0) = dqArr D
      ∧ (∀ i : S8704x256.Idx, 128 ≤ (i 0).val → (i 0).val < 8320 → r.2.mem ((c : Thread nD τ).loc main_v310_1) i = kvArr D i)
      ∧ r.2.mem ((c : Thread nD τ).loc main_v310_2) = biasArr D ∧ r.2.mem ((c : Thread nD τ).loc main_v310_3) = smallArr D := by
  obtain ⟨after, hL, hA⟩ := RDat.FramePost.exists_exact h c
  refine ⟨(hA 10).trans ?_, fun i h0 h1 => (congrFun (hA 11) i).trans ?_, (hA 12).trans ?_, (hA 13).trans ?_⟩
  · exact final10 H _ fun u hf => (left_of m c rfl rfl hf (hL 10 u hf)).trans (after_10 m c u)
  · exact final11 H _ (fun u hf => Dat.toRRel_leaves _ rfl (hL 11 u hf)) i h0 h1
  · exact final12 H _ fun u hf => (left_of m c rfl rfl hf (hL 12 u hf)).trans (after_12 m c u)
  · exact final13 H _ fun u hf => (left_of m c rfl rfl hf (hL 13 u hf)).trans (after_13 m c u)

end

end Cert.AttnKernelIdeal.AttnFinal

end
-- ==== Proof.AttnKernelFrame.lean ====
/- The frame of the attention backward kernel as it is written, and of its ideal reading: one run for both. The two
   programs differ in the word of one constant, which the ideal reading names; read at bits with the name standing for
   that word, the ideal text is the kernel's. -/
module

public import proofs.«01_k».proof.Defs
public import proofs.«01_k».proof.Proof.Gen.AttnKernel.Launch
public import proofs.«01_k».proof.Proof.AttnBody

@[expose] public section

set_option maxRecDepth 16384

noncomputable section

namespace Cert.AttnKernelIdeal.AttnFrame

open Idealize.ShloMosaic Idealize.ShloMosaic.TcCoe Idealize.ShloMosaic.Tactic

/-- A named constant read as the word it was written with. -/
@[reducible] def literal : Named Bits := ⟨fun _ _ {φ} b => Scalar.ofBits φ b⟩

/-- The kernel's frame. -/
theorem frame_kernel : Cert.quiescent_AttnKernel := fun m ρ _ => by
  letI := literal
  have h := frame (F := Bits) m ρ
  exact cast (by sl_kernel_rfl) h

/-- The ideal kernel's frame. -/
theorem frame_ideal : Cert.quiescent_AttnKernelIdeal := fun m ρ _ => frame (F := Ideal) m ρ

end Cert.AttnKernelIdeal.AttnFrame

end
-- ==== Proof.AttnBand.lean ====
/-
  One query row against the 256 keys of its band, on real numbers: what a softmax over the whole band, taken with any
  shift, and its gradient say in terms of the 128 window columns of `AttnMath`.
-/
module

public import proofs.«01_k».proof.Proof.AttnData

@[expose] public section

noncomputable section

namespace Cert.AttnMath

open Cert.Reals

/-- Head `g`'s row of query `q`, and the column of a band position. -/
def rr (g : Fin 4) (q : Fin 128) : Fin 512 := ⟨128 * g.val + q.val, by omega⟩
def col (s : Fin 256) : Fin 128 := ⟨s.val % 128, by omega⟩
/-- The two band positions of a column: in the block before and in the own block. -/
def lo (c : Fin 128) : Fin 256 := ⟨c.val, by omega⟩
def hi (c : Fin 128) : Fin 256 := ⟨128 + c.val, by omega⟩

theorem rr_mod (g : Fin 4) (q : Fin 128) : (rr g q).val % 128 = q.val := by simp only [rr]; omega
theorem rr_div (g : Fin 4) (q : Fin 128) : (rr g q).val / 128 = g.val := by simp only [rr]; omega
theorem col_lo (c : Fin 128) : col (lo c) = c := Fin.ext (by simp only [col, lo]; omega)
theorem col_hi (c : Fin 128) : col (hi c) = c := Fin.ext (by simp only [col, hi]; omega)

theorem sum_band {M : Type} [AddCommMonoid M] (f : Fin 256 → M) : ∑ s, f s = ∑ c, f (lo c) + ∑ c, f (hi c) :=
  Fin.sum_univ_add (a := 128) (b := 128) f

/-- A sum over pairs counted row by row. -/
theorem sum_split {M : Type} [AddCommMonoid M] (a b : ℕ) (f : Fin (a * b) → M) :
    ∑ i, f i = ∑ x : Fin a, ∑ y : Fin b, f ⟨b * x.val + y.val, by
      have := x.isLt; have := y.isLt
      calc b * x.val + y.val < b * x.val + b := by omega
        _ = (x.val + 1) * b := by ring
        _ ≤ a * b := Nat.mul_le_mul_right b (by omega)⟩ := by
  rw [← Fintype.sum_prod_type', ← Equiv.sum_comp finProdFinEquiv f]
  exact Finset.sum_congr rfl fun x _ => congrArg f (Fin.ext (by rw [finProdFinEquiv_apply_val]; exact Nat.add_comm _ _))

theorem sum_rows {M : Type} [AddCommMonoid M] (f : Fin 512 → M) : ∑ r, f r = ∑ g : Fin 4, ∑ q : Fin 128, f (rr g q) :=
  sum_split 4 128 f

/-- Token `q` of block `n`. -/
def tok (n : Fin 64) (q : Fin 128) : Fin 8192 := ⟨128 * n.val + q.val, by omega⟩

theorem tok_div (n : Fin 64) (q : Fin 128) : (tok n q).val / 128 = n.val := by simp only [tok]; omega
theorem tok_mod (n : Fin 64) (q : Fin 128) : (tok n q).val % 128 = q.val := by simp only [tok]; omega

theorem sum_tokens {M : Type} [AddCommMonoid M] (f : Fin 8192 → M) : ∑ T, f T = ∑ n : Fin 64, ∑ q : Fin 128, f (tok n q) :=
  sum_split 64 128 f

/-- Head `g` of key head `k`. -/
def head (k : Fin 2) (g : Fin 4) : Fin 8 := ⟨4 * k.val + g.val, by omega⟩

theorem head_div (k : Fin 2) (g : Fin 4) : (head k g).val / 4 = k.val := by simp only [head]; omega
theorem head_mod (k : Fin 2) (g : Fin 4) : (head k g).val % 4 = g.val := by simp only [head]; omega

theorem sum_heads {M : Type} [AddCommMonoid M] (f : Fin 8 → M) : ∑ h, f h = ∑ k : Fin 2, ∑ g : Fin 4, f (head k g) :=
  sum_split 2 4 f

/-- Which keys of the band take part. -/
abbrev Valid (more : Bool) (q : Fin 128) (s : Fin 256) : Prop :=
  (128 ≤ s.val ∧ s.val - 128 ≤ q.val) ∨ (s.val < 128 ∧ q.val < s.val ∧ more = true)

theorem valid_lo (more : Bool) (q c : Fin 128) : Valid more q (lo c) ↔ q.val < c.val ∧ more = true := by
  simp only [Valid, lo]; constructor
  · rintro (⟨h, _⟩ | ⟨_, h⟩)
    · omega
    · exact h
  · exact fun h => .inr ⟨c.isLt, h⟩
theorem valid_hi (more : Bool) (q c : Fin 128) : Valid more q (hi c) ↔ c.val ≤ q.val := by
  simp only [Valid, hi]; constructor
  · rintro (⟨_, h⟩ | ⟨h, _⟩) <;> omega
  · exact fun h => .inl ⟨by omega, by omega⟩
theorem valid_own (more : Bool) (q : Fin 128) : Valid more q (hi q) := (valid_hi more q q).mpr le_rfl

namespace Group

variable (G : Group)

/-- The band's keys and values: none before the first block. -/
def kb (s : Fin 256) (d : Fin 64) : ℝ := if 128 ≤ s.val then G.kno (col s) d else if G.more = true then G.knp (col s) d else 0
def vb (s : Fin 256) (d : Fin 64) : ℝ := if 128 ≤ s.val then G.vo (col s) d else if G.more = true then G.vp (col s) d else 0

theorem kb_lo (c : Fin 128) (d : Fin 64) : G.kb (lo c) d = if G.more = true then G.knp c d else 0 := by
  unfold kb; rw [if_neg (by simp only [lo]; omega), col_lo]
theorem kb_hi (c : Fin 128) (d : Fin 64) : G.kb (hi c) d = G.kno c d := by
  unfold kb; rw [if_pos (by simp only [hi]; omega), col_hi]
theorem vb_lo (c : Fin 128) (d : Fin 64) : G.vb (lo c) d = if G.more = true then G.vp c d else 0 := by
  unfold vb; rw [if_neg (by simp only [lo]; omega), col_lo]
theorem vb_hi (c : Fin 128) (d : Fin 64) : G.vb (hi c) d = G.vo c d := by
  unfold vb; rw [if_pos (by simp only [hi]; omega), col_hi]

/-- A fact about the keys that take part: the own block's, and the block before's. -/
theorem valid_cases {more : Bool} {q : Fin 128} {P : Fin 256 → Prop} (hh : ∀ c : Fin 128, c.val ≤ q.val → P (hi c))
    (hl : ∀ c : Fin 128, q.val < c.val → more = true → P (lo c)) (s : Fin 256) (h : Valid more q s) : P s := by
  rcases h with ⟨h1, h2⟩ | ⟨h1, h2, h3⟩
  · have e : s = hi ⟨s.val - 128, by omega⟩ := Fin.ext (by simp only [hi]; omega)
    rw [e]; exact hh _ h2
  · have e : s = lo ⟨s.val, h1⟩ := rfl
    rw [e]; exact hl _ h2 h3

/-- Scores and weight gradients of the keys that take part are those of their columns. -/
theorem score_eq (g : Fin 4) (q : Fin 128) (s : Fin 256) (h : Valid G.more q s) :
    (∑ d, G.kb s d * G.qn (rr g q) d) * (1 / 8) + G.b (rr g q) (col s) = G.s (rr g q) (col s) := by
  revert s
  refine valid_cases (fun c hc => ?_) (fun c hc hm => ?_)
  · simp only [kb_hi, col_hi, Group.s, Own, rr_mod, if_pos hc, mul_comm (G.kno _ _)]
  · simp only [kb_lo, col_lo, Group.s, Own, rr_mod, if_neg (Nat.not_le.mpr hc), if_pos hm, mul_comm (G.knp _ _)]
theorem dp_eq (g : Fin 4) (q : Fin 128) (s : Fin 256) (h : Valid G.more q s) :
    ∑ d, G.a (rr g q) d * G.vb s d = G.dp (rr g q) (col s) := by
  revert s
  refine valid_cases (fun c hc => ?_) (fun c hc hm => ?_)
  · simp only [vb_hi, col_hi, Group.dp, Own, rr_mod, if_pos hc]
  · simp only [vb_lo, col_lo, Group.dp, Own, rr_mod, if_neg (Nat.not_le.mpr hc), if_pos hm]

theorem on_of_valid (g : Fin 4) (q : Fin 128) (s : Fin 256) (h : Valid G.more q s) : G.On (rr g q) (col s) := by
  revert s
  refine valid_cases (fun c hc => ?_) (fun c hc hm => .inr hm)
  exact .inl (by rw [col_hi, Own, rr_mod]; exact hc)

/-- A sum over the keys that take part is one over the columns that take part. -/
theorem sum_valid (g : Fin 4) (q : Fin 128) (F : Fin 128 → ℝ) :
    (∑ s, if Valid G.more q s then F (col s) else 0) = ∑ c, if G.On (rr g q) c then F c else 0 := by
  rw [sum_band, ← Finset.sum_add_distrib]
  refine Finset.sum_congr rfl fun c _ => ?_
  simp only [valid_lo, valid_hi, col_lo, col_hi, On, Own, rr_mod]
  by_cases h : c.val ≤ q.val
  · rw [if_neg (fun e => by omega), if_pos h, if_pos (.inl h), zero_add]
  · rw [if_neg h, add_zero]
    exact if_congr ⟨fun e => .inr e.2, fun e => ⟨by omega, e.resolve_left h⟩⟩ rfl rfl

/-- The exponentials with a shift and the sum of them and the sink's. -/
def eB (M : ℝ) (g : Fin 4) (q : Fin 128) (s : Fin 256) : ℝ := if Valid G.more q s then Real.exp (G.s (rr g q) (col s) - M) else 0
def esB (M : ℝ) (g : Fin 4) (q : Fin 128) : ℝ := Real.exp (G.sk (rr g q) - M)
def SB (M : ℝ) (g : Fin 4) (q : Fin 128) : ℝ := (∑ s, G.eB M g q s) + G.esB M g q

theorem eB_eq (M : ℝ) (g : Fin 4) (q : Fin 128) (s : Fin 256) :
    G.eB M g q s = (if Valid G.more q s then G.w (rr g q) (col s) else 0) * Real.exp (-M) := by
  unfold eB
  split_ifs with h
  · rw [w, if_pos (G.on_of_valid g q s h), ← Real.exp_add, sub_eq_add_neg]
  · rw [zero_mul]

theorem SB_eq (M : ℝ) (g : Fin 4) (q : Fin 128) : G.SB M g q = G.z (rr g q) * Real.exp (-M) := by
  unfold SB esB
  simp only [eB_eq, ← Finset.sum_mul]
  rw [sum_valid G g q (G.w (rr g q)), z, add_mul, sub_eq_add_neg, Real.exp_add]
  congr 2
  refine Finset.sum_congr rfl fun c _ => ?_
  unfold w; split_ifs <;> rfl

theorem SB_pos (M : ℝ) (g : Fin 4) (q : Fin 128) : 0 < G.SB M g q := by
  rw [SB_eq]; exact mul_pos (G.z_pos _) (Real.exp_pos _)

/-- The weights, whatever the shift. -/
def pB (g : Fin 4) (q : Fin 128) (s : Fin 256) : ℝ := if Valid G.more q s then G.p (rr g q) (col s) else 0

theorem eB_div (M : ℝ) (g : Fin 4) (q : Fin 128) (s : Fin 256) : G.eB M g q s / G.SB M g q = G.pB g q s := by
  rw [eB_eq, SB_eq, mul_div_mul_right _ _ (Real.exp_ne_zero _), pB]
  split_ifs
  · rfl
  · rw [zero_div]

theorem esB_div (M : ℝ) (g : Fin 4) (q : Fin 128) : G.esB M g q / G.SB M g q = G.ps (rr g q) := by
  rw [SB_eq, esB, sub_eq_add_neg, Real.exp_add, mul_div_mul_right _ _ (Real.exp_ne_zero _)]; rfl

/-- The gradient of the weights. -/
def dpB (g : Fin 4) (q : Fin 128) (s : Fin 256) : ℝ := ∑ d, G.a (rr g q) d * G.vb s d

/-- The gradient of the sum, as the quotient rule gives it, negated. -/
def DB (M : ℝ) (g : Fin 4) (q : Fin 128) : ℝ := ∑ s, G.dpB g q s * (1 / (G.SB M g q * G.SB M g q)) * G.eB M g q s

theorem DB_eq (M : ℝ) (g : Fin 4) (q : Fin 128) : G.DB M g q * G.SB M g q = G.delta (rr g q) := by
  have hS := (G.SB_pos M g q).ne'
  have e : ∀ s, G.dpB g q s * (1 / (G.SB M g q * G.SB M g q)) * G.eB M g q s * G.SB M g q
      = if Valid G.more q s then G.p (rr g q) (col s) * G.dp (rr g q) (col s) else 0 := fun s => by
    have : G.dpB g q s * (1 / (G.SB M g q * G.SB M g q)) * G.eB M g q s * G.SB M g q
        = G.dpB g q s * (G.eB M g q s / G.SB M g q) := by field_simp
    rw [this, eB_div, pB]
    split_ifs with h
    · rw [dpB, G.dp_eq g q s h, mul_comm]
    · rw [mul_zero]
  rw [DB, Finset.sum_mul]
  simp only [e]
  rw [sum_valid G g q (fun c => G.p (rr g q) c * G.dp (rr g q) c), delta]
  refine Finset.sum_congr rfl fun c _ => ?_
  split_ifs with h
  · rfl
  · rw [p, w, if_neg h, zero_div, zero_mul]

/-- The gradients of the scores. -/
def dsB (g : Fin 4) (q : Fin 128) (s : Fin 256) : ℝ := if Valid G.more q s then G.ds (rr g q) (col s) else 0

theorem dsB_eq (M : ℝ) (g : Fin 4) (q : Fin 128) (s : Fin 256) :
    (G.dpB g q s / G.SB M g q + -G.DB M g q) * G.eB M g q s = G.dsB g q s := by
  have hS := (G.SB_pos M g q).ne'
  have : (G.dpB g q s / G.SB M g q + -G.DB M g q) * G.eB M g q s
      = (G.dpB g q s - G.DB M g q * G.SB M g q) * (G.eB M g q s / G.SB M g q) := by field_simp; ring
  rw [this, DB_eq, eB_div, pB, dsB]
  split_ifs with h
  · rw [dpB, G.dp_eq g q s h, ds, mul_comm]
  · rw [mul_zero]

/-- The sink's gradient. -/
theorem sink_eq (M : ℝ) (g : Fin 4) (q : Fin 128) : -G.DB M g q * G.esB M g q = -(G.ps (rr g q) * G.delta (rr g q)) := by
  rw [← G.esB_div M g q, ← G.DB_eq M g q]
  have hS := (G.SB_pos M g q).ne'
  field_simp

/-- The shift has no gradient. -/
theorem shift_eq (M : ℝ) (g : Fin 4) (q : Fin 128) :
    -(-G.DB M g q * G.esB M g q) + ∑ s, -((G.dpB g q s / G.SB M g q + -G.DB M g q) * G.eB M g q s) = 0 := by
  have hS := (G.SB_pos M g q).ne'
  have e : ∀ s, -((G.dpB g q s / G.SB M g q + -G.DB M g q) * G.eB M g q s)
      = G.DB M g q * G.eB M g q s - (G.dpB g q s * (1 / (G.SB M g q * G.SB M g q)) * G.eB M g q s) * G.SB M g q := fun s => by
    field_simp; ring
  simp only [e, Finset.sum_sub_distrib, ← Finset.mul_sum, ← Finset.sum_mul]
  rw [← DB]
  have : G.SB M g q = (∑ s, G.eB M g q s) + G.esB M g q := rfl
  rw [this]; ring

theorem off_ds (g : Fin 4) (q c : Fin 128) (h : ¬ G.On (rr g q) c) : G.ds (rr g q) c = 0 := by
  rw [ds, p, w, if_neg h, zero_div, zero_mul]
theorem off_p (g : Fin 4) (q c : Fin 128) (h : ¬ G.On (rr g q) c) : G.p (rr g q) c = 0 := by
  rw [p, w, if_neg h, zero_div]

theorem dsB_hi (g : Fin 4) (q c : Fin 128) : G.dsB g q (hi c) = if Own (rr g q) c then G.ds (rr g q) c else 0 := by
  simp only [dsB, valid_hi, col_hi, Own, rr_mod]
theorem pB_hi (g : Fin 4) (q c : Fin 128) : G.pB g q (hi c) = if Own (rr g q) c then G.p (rr g q) c else 0 := by
  simp only [pB, valid_hi, col_hi, Own, rr_mod]
theorem dsB_lo (g : Fin 4) (q c : Fin 128) : G.dsB g q (lo c) = if Own (rr g q) c then 0 else G.ds (rr g q) c := by
  simp only [dsB, valid_lo, col_lo]
  by_cases h : Own (rr g q) c
  · rw [if_pos h, if_neg (fun e => by rw [Own, rr_mod] at h; omega)]
  · rw [if_neg h]
    by_cases hm : G.more = true
    · rw [if_pos ⟨by rw [Own, rr_mod] at h; omega, hm⟩]
    · rw [if_neg (fun e => hm e.2), G.off_ds g q c (fun e => e.elim h hm)]
theorem pB_lo (g : Fin 4) (q c : Fin 128) : G.pB g q (lo c) = if Own (rr g q) c then 0 else G.p (rr g q) c := by
  simp only [pB, valid_lo, col_lo]
  by_cases h : Own (rr g q) c
  · rw [if_pos h, if_neg (fun e => by rw [Own, rr_mod] at h; omega)]
  · rw [if_neg h]
    by_cases hm : G.more = true
    · rw [if_pos ⟨by rw [Own, rr_mod] at h; omega, hm⟩]
    · rw [if_neg (fun e => hm e.2), G.off_p g q c (fun e => e.elim h hm)]

theorem ds_split (g : Fin 4) (q c : Fin 128) : G.dsB g q (lo c) + G.dsB g q (hi c) = G.ds (rr g q) c := by
  rw [dsB_lo, dsB_hi]; split_ifs <;> simp

/-- The gradient of the normed queries, summed over the band. -/
theorem dqn_eq (g : Fin 4) (q : Fin 128) (d : Fin 64) : ∑ s, G.dsB g q s * (1 / 8) * G.kb s d = G.dqn (rr g q) d := by
  rw [sum_band, add_comm, dqn, add_mul, Finset.sum_mul, Finset.sum_mul]
  refine congrArg₂ (· + ·) (Finset.sum_congr rfl fun c _ => ?_) (Finset.sum_congr rfl fun c _ => ?_)
  · rw [dsB_hi, kb_hi]; ring
  · rw [dsB_lo, kb_lo]
    by_cases hm : G.more = true
    · rw [if_pos hm]; ring
    · rw [if_neg hm]
      by_cases h : Own (rr g q) c
      · rw [if_pos h]; ring
      · rw [if_neg h, G.off_ds g q c (fun e => e.elim h hm)]; ring

/-- The gradients of the keys and values, summed over the rows. -/
theorem dko_eq (c : Fin 128) (d : Fin 64) :
    ∑ g, ∑ q, G.dsB g q (hi c) * (1 / 8) * G.qn (rr g q) d = G.dko c d := by
  rw [dko, sum_rows, Finset.sum_mul]
  refine Finset.sum_congr rfl fun g _ => ?_
  rw [Finset.sum_mul]
  exact Finset.sum_congr rfl fun q _ => by rw [dsB_hi]; ring
theorem dkp_eq (c : Fin 128) (d : Fin 64) :
    ∑ g, ∑ q, G.dsB g q (lo c) * (1 / 8) * G.qn (rr g q) d = G.dkp c d := by
  rw [dkp, sum_rows, Finset.sum_mul]
  refine Finset.sum_congr rfl fun g _ => ?_
  rw [Finset.sum_mul]
  exact Finset.sum_congr rfl fun q _ => by rw [dsB_lo]; ring
theorem dvo_eq (c : Fin 128) (d : Fin 64) : ∑ g, ∑ q, G.a (rr g q) d * G.pB g q (hi c) = G.dvo c d := by
  rw [dvo, sum_rows]
  exact Finset.sum_congr rfl fun g _ => Finset.sum_congr rfl fun q _ => by rw [pB_hi]; ring
theorem dvp_eq (c : Fin 128) (d : Fin 64) : ∑ g, ∑ q, G.a (rr g q) d * G.pB g q (lo c) = G.dvp c d := by
  rw [dvp, sum_rows]
  exact Finset.sum_congr rfl fun g _ => Finset.sum_congr rfl fun q _ => by rw [pB_lo]; ring

end Group

end Cert.AttnMath

end
-- ==== Proof.AttnAxes.lean ====
/-
  Host operations read at an index: float sums over two or three axes that are not next to each other or not the last ones,
  and the rows of a table chosen by an array of row numbers.
-/
module

public import Idealize.ShloMosaic.Lib.Pointwise
public import Idealize.ShloMosaic.Lib.ValueIdxCore

@[expose] public section

noncomputable section

namespace Cert.AttnAxes

open Idealize.ShloMosaic

theorem sum_r3_a01 {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ?_
  refine (Finset.sum_filter_eq_sum_of_fiber _ (fun k : Fin n0 × Fin n1 => ix3 k.1 k.2 j)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      match b with
      | ⟨0, _⟩ => rfl
  · exact Fintype.sum_prod_type _

theorem sum_r5_a03 {n0 n1 n2 n3 n4 : ℕ} (h : (⟨5, ![n0, n1, n2, n3, n4]⟩ : Shape).ReducesTo [0, 3] ⟨3, ![n1, n2, n4]⟩)
    (v : (⟨5, ![n0, n1, n2, n3, n4]⟩ : Shape).Idx → EReal) (init : EReal) (x : Fin n1) (y : Fin n2) (z : Fin n4) :
    Ideal.hostReduceAdd h v init (ix3 x y z) = init + ∑ a : Fin n0, ∑ b : Fin n3, v (ix5 a x y b z) := by
  refine congrArg (init + ·) ?_
  refine (Finset.sum_filter_eq_sum_of_fiber _ (fun k : Fin n0 × Fin n3 => ix5 k.1 x y k.2 z)
    (fun _ _ e => Prod.ext (congrFun e 0) (congrFun e 3)) (fun i => ?_) v).trans ?_
  · constructor
    · intro e
      refine ⟨(i 0, i 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
      | ⟨4, _⟩ => exact (congrArg Fin.val (congrFun e 2)).symm
    · rintro ⟨k, rfl⟩
      funext b
      match b with
      | ⟨0, _⟩ => rfl
      | ⟨1, _⟩ => rfl
      | ⟨2, _⟩ => rfl
  · exact Fintype.sum_prod_type _

theorem sum_r5_a034 {n0 n1 n2 n3 n4 : ℕ} (h : (⟨5, ![n0, n1, n2, n3, n4]⟩ : Shape).ReducesTo [0, 3, 4] ⟨2, ![n1, n2]⟩)
    (v : (⟨5, ![n0, n1, n2, n3, n4]⟩ : Shape).Idx → EReal) (init : EReal) (x : Fin n1) (y : Fin n2) :
    Ideal.hostReduceAdd h v init (ix2 x y) = init + ∑ a : Fin n0, ∑ b : Fin n3, ∑ c : Fin n4, v (ix5 a x y b c) := by
  refine congrArg (init + ·) ?_
  refine (Finset.sum_filter_eq_sum_of_fiber _ (fun k : Fin n0 × Fin n3 × Fin n4 => ix5 k.1 x y k.2.1 k.2.2)
    (fun _ _ e => Prod.ext (congrFun e 0) (Prod.ext (congrFun e 3) (congrFun e 4))) (fun i => ?_) v).trans ?_
  · constructor
    · intro e
      refine ⟨(i 0, i 3, i 4), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
      | ⟨4, _⟩ => rfl
    · rintro ⟨k, rfl⟩
      funext b
      match b with
      | ⟨0, _⟩ => rfl
      | ⟨1, _⟩ => rfl
  · simp only [Fintype.sum_prod_type]

/-- Whole rows of a table, one for each entry of a two-axis array of row numbers. -/
abbrev rowDims (N C R S : ℕ)
    (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

theorem gather_rows {α : Type} {N C R S w : ℕ} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (i : Fin R) (j : Fin S) (c : Fin C) :
    Host.gather (rowDims N C R S wf) x idx (ix3 i j c)
      = x (ix2 ⟨min (idx (ix3 i j 0)).toInt.toNat (N - 1), by omega⟩ c) := by
  unfold Host.gather
  congr 1
  funext a
  refine Fin.ext ?_
  show (rowDims N C R S wf).start (ix3 i j c) idx a + (rowDims N C R S wf).batchCoord (ix3 i j c) a
      + (rowDims N C R S wf).offCoord (ix3 i j c) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R S wf).startIndexMap from List.mem_singleton.mpr rfl)]
    have hsi : (rowDims N C R S wf).siIdx (ix3 i j c) ⟨List.idxOf (0 : Fin 2) (rowDims N C R S wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ (rowDims N C R S wf).startIndexMap from by simp)]
    simp only [Nat.zero_add]
    rfl

end Cert.AttnAxes

end
-- ==== Proof.AttnRefNorm.lean ====
/-
  The attention reference's normed queries and keys and its values, as real numbers.
-/
module

public import proofs.«01_k».proof.Proof.Gen.AttnReferenceIdeal.Read
public import proofs.«01_k».proof.Proof.AttnBand
public import proofs.«01_k».proof.Proof.AttnFits
public import proofs.«01_k».proof.Proof.AttnAxes
public import Idealize.ShloMosaic.Lib.Pointwise
public import Idealize.ShloMosaic.Lib.Claim

@[expose] public section

set_option maxRecDepth 16384

noncomputable section

namespace Cert.AttnReferenceIdeal.RefValue

open Cert.AttnReferenceIdeal Cert.AttnReferenceIdeal.Gen Cert.AttnReferenceIdeal.Read
open Idealize.ShloMosaic Idealize.ShloMosaic.TcCoe
open Cert.Reals Cert.AttnMath Cert.AttnFits Cert.AttnBucket Cert.AttnAxes

/-- The six arguments are the data `D`. -/
abbrev IsData (x0 : FVec Ideal S8192x1792 .f32) (x1 : FVec Ideal S8192x512 .f32) (x2 : FVec Ideal S32x8 .f32) (x3 : FVec Ideal S8 .f32)
    (x4 x5 : FVec Ideal S64 .f32) (D : Data) : Prop :=
  Fits (fun i j => x0 (ix2 i j)) (fun i j => x1 (ix2 i j)) (fun i j => x2 (ix2 i j)) (fun i => x3 (ix1 i)) (fun i => x4 (ix1 i))
    (fun i => x5 (ix1 i)) D

/-- A token's row of a query head, of a key head and of a value head. -/
def qr (D : Data) (T h : ℕ) (d : Fin 64) : ℝ := D.z T (64 * h + d.val)
def kr (D : Data) (T k : ℕ) (d : Fin 64) : ℝ := D.z T (512 + 64 * k + d.val)
def vr (D : Data) (T k : ℕ) (d : Fin 64) : ℝ := D.z T (640 + 64 * k + d.val)

theorem word_64 : Ideal.ofBits .f32 0x42800000#32 = ((64 : ℝ) : EReal) := by
  simp [Ideal.ofBits, Ideal.ieee, -EReal.coe_mul]; norm_num

/-- A row's reciprocal root mean square. -/
theorem rms_word (x : Fin 64 → ℝ) :
    Ideal.rsqrt (Ideal.div (∑ d, (x d : EReal) * (x d : EReal)) (Ideal.ofBits .f32 0x42800000#32) + Ideal.ofBits .f32 0x358637BD#32)
      = (rms x : EReal) := by
  simp only [← EReal.coe_mul]
  rw [coe_sum, word_64, word_eps, div_real (by norm_num), ← EReal.coe_add, rsqrt_pos (rms_arg_pos x)]; rfl

variable {x0 : FVec Ideal S8192x1792 .f32} {x1 : FVec Ideal S8192x512 .f32} {x2 : FVec Ideal S32x8 .f32} {x3 : FVec Ideal S8 .f32}
  {x4 x5 : FVec Ideal S64 .f32} {D : Data} (H : IsData x0 x1 x2 x3 x4 x5 D)
include H

theorem q_at (T : Fin 8192) (h : Fin 8) (d : Fin 64) : val_main_v139 (F := Ideal) x0 (ix3 T h d) = (qr D T.val h.val d : EReal) := by
  pointwise [val_main_v139, val_main_v0]
  exact (H.z _ _).trans (congrArg (fun n => ((D.z T.val n : ℝ) : EReal)) (by dsimp only; omega))
theorem k_at (T : Fin 8192) (k : Fin 2) (d : Fin 64) : val_main_v156 (F := Ideal) x0 (ix3 T k d) = (kr D T.val k.val d : EReal) := by
  pointwise [val_main_v156, val_main_v1]
  exact (H.z _ _).trans (congrArg (fun n => ((D.z T.val n : ℝ) : EReal)) (by dsimp only; omega))
theorem v_at (T : Fin 8192) (k : Fin 2) (d : Fin 64) : val_main_v173 (F := Ideal) x0 (ix3 T k d) = (vr D T.val k.val d : EReal) := by
  pointwise [val_main_v173, val_main_v2]
  exact (H.z _ _).trans (congrArg (fun n => ((D.z T.val n : ℝ) : EReal)) (by dsimp only; omega))

theorem qrms_at (T : Fin 8192) (h : Fin 8) (e : Fin 1) : val_main_v147 (F := Ideal) x0 (ix3 T h e) = (rms (qr D T.val h.val) : EReal) := by
  pointwise [val_main_v140, val_main_cst, val_main_v141, val_main_v142, val_main_cst_70, val_main_v143, val_main_v144, val_main_cst_71, val_main_v145, val_main_v146, val_main_v147]
  simp only [q_at H]
  exact rms_word _
theorem krms_at (T : Fin 8192) (k : Fin 2) (e : Fin 1) : val_main_v164 (F := Ideal) x0 (ix3 T k e) = (rms (kr D T.val k.val) : EReal) := by
  pointwise [val_main_v157, val_main_cst_73, val_main_v158, val_main_v159, val_main_cst_74, val_main_v160, val_main_v161, val_main_cst_75, val_main_v162, val_main_v163, val_main_v164]
  simp only [k_at H]
  exact rms_word _

theorem qhat_at (T : Fin 8192) (h : Fin 8) (d : Fin 64) : val_main_v152 (F := Ideal) x0 (ix3 T h d) = (hat (qr D T.val h.val) d : EReal) := by
  pointwise [val_main_v151, val_main_v152]
  simp only [q_at H, qrms_at H, ← EReal.coe_mul]; rfl
theorem khat_at (T : Fin 8192) (k : Fin 2) (d : Fin 64) : val_main_v169 (F := Ideal) x0 (ix3 T k d) = (hat (kr D T.val k.val) d : EReal) := by
  pointwise [val_main_v168, val_main_v169]
  simp only [k_at H, krms_at H, ← EReal.coe_mul]; rfl

theorem qn_at (T : Fin 8192) (h : Fin 8) (d : Fin 64) :
    val_main_v155 (F := Ideal) x0 x4 (ix3 T h d) = ((hat (qr D T.val h.val) d * D.qg d : ℝ) : EReal) := by
  pointwise [val_main_v153, val_main_v154, val_main_v155]
  simp only [qhat_at H, H.qg, ← EReal.coe_mul]
theorem kn_at (T : Fin 8192) (k : Fin 2) (d : Fin 64) :
    val_main_v172 (F := Ideal) x0 x5 (ix3 T k d) = ((hat (kr D T.val k.val) d * D.kg d : ℝ) : EReal) := by
  pointwise [val_main_v170, val_main_v171, val_main_v172]
  simp only [khat_at H, H.kg, ← EReal.coe_mul]

end Cert.AttnReferenceIdeal.RefValue

end
-- ==== Proof.AttnRefMask.lean ====
/-
  The attention reference's mask and bucket of a band position.
-/
module

public import proofs.«01_k».proof.Proof.AttnRefNorm

@[expose] public section

set_option maxRecDepth 16384

noncomputable section

namespace Cert.AttnReferenceIdeal.RefValue

open Cert.AttnReferenceIdeal Cert.AttnReferenceIdeal.Gen Cert.AttnReferenceIdeal.Read
open Idealize.ShloMosaic Idealize.ShloMosaic.TcCoe
open Cert.Reals Cert.AttnMath Cert.AttnFits Cert.AttnBucket Cert.AttnAxes

/-- How far back a band position lies, and the two tests that the mask is made of, as words. -/
def back32 (q s : ℕ) : BitVec 32 := IntOp.subi (IntOp.addi (BitVec.ofNat 32 q) 128#32) (BitVec.ofNat 32 s)
def inWindow (q s : ℕ) : BitVec 1 := IntOp.andi (IntOp.cmpi .sge (back32 q s) 0#32) (IntOp.cmpi .slt (back32 q s) 128#32)
def inTokens (n s : ℕ) : BitVec 1 :=
  IntOp.cmpi .sge (IntOp.addi (IntOp.muli (IntOp.subi (BitVec.ofNat 32 n) 1#32) 128#32) (BitVec.ofNat 32 s)) 0#32

theorem inWindow_eq : ∀ (q : Fin 128) (s : Fin 256), inWindow q.val s.val = BitVec.ofBool (decide (s.val ≤ 128 + q.val ∧ q.val < s.val)) := by
  unfold inWindow back32; decide +kernel
theorem inTokens_eq : ∀ (n : Fin 64) (s : Fin 256), inTokens n.val s.val = BitVec.ofBool (decide (128 ≤ 128 * n.val + s.val)) := by
  unfold inTokens; decide +kernel
theorem back32_eq : ∀ (q : Fin 128) (s : Fin 256), s.val ≤ 128 + q.val → back32 q.val s.val = BitVec.ofNat 32 (128 + q.val - s.val) := by
  unfold back32; decide +kernel

/-- A bucket as a row number: it is not negative, and below 32. -/
theorem bucket_index : ∀ d : Fin 128,
    min (Scalar.select (IntOp.cmpi .slt (bucket (BitVec.ofNat 32 d.val)) 0#32) (IntOp.addi (bucket (BitVec.ofNat 32 d.val)) 32#32)
      (bucket (BitVec.ofNat 32 d.val))).toInt.toNat 31 = row d.val := by
  unfold row bucket steps; decide +kernel

theorem and_ofBool (a b : Prop) [Decidable a] [Decidable b] :
    IntOp.andi (BitVec.ofBool (decide a)) (BitVec.ofBool (decide b)) = BitVec.ofBool (decide (a ∧ b)) := by
  by_cases ha : a <;> by_cases hb : b <;> simp [ha, hb, IntOp.andi]

theorem select_ofBool {α : Type} (p : Prop) [Decidable p] (x y : α) :
    Scalar.select (BitVec.ofBool (decide p)) x y = if p then x else y := by
  by_cases h : p <;> simp [h, Scalar.select]

theorem valid_at (n : Fin 64) (q : Fin 128) (s : Fin 256) :
    val_main_v130 (F := Ideal) (ix3 n q s) = BitVec.ofBool (decide (Valid (decide (1 ≤ n.val)) q s)) := by
  pointwise [val_main_v113, val_main_v114, val_main_c_65, val_main_v115, val_main_v116, val_main_c_66, val_main_v117, val_main_v118, val_main_v119, val_main_v120, val_main_v121, val_main_v122, val_main_v123, val_main_v124, val_main_c_67, val_main_v125, val_main_v126, val_main_v127, val_main_v128, val_main_v129, val_main_v130, val_main_v5, val_main_v6, val_main_v7, val_main_v8, val_main_c, val_main_v9, val_main_v10, val_main_v11, val_main_v12, val_main_v13, val_main_c_0, val_main_v14, val_main_v15, val_main_c_1, val_main_v16, val_main_v17, val_main_v18]
  show IntOp.andi (inWindow q.val s.val) (inTokens n.val s.val) = _
  rw [inWindow_eq, inTokens_eq, and_ofBool]
  congr 1
  exact decide_eq_decide.mpr ⟨fun ⟨⟨h1, h2⟩, h3⟩ => by
    by_cases h : 128 ≤ s.val
    · exact .inl ⟨h, by omega⟩
    · exact .inr ⟨by omega, h2, decide_eq_true (by omega)⟩, fun h => by
    rcases h with ⟨h1, h2⟩ | ⟨h1, h2, h3⟩
    · omega
    · have := of_decide_eq_true h3; omega⟩

theorem bucket_at (q : Fin 128) (s : Fin 256) : val_main_v112 (F := Ideal) (ix2 q s) = bucket (back32 q.val s.val) := by
  pointwise [val_main_c_2, val_main_v19, val_main_c_3, val_main_v20, val_main_v21, val_main_c_4, val_main_call0_v0, val_main_call0_v1, val_main_v22, val_main_c_5, val_main_v23, val_main_v24, val_main_c_6, val_main_call1_v0, val_main_call1_v1, val_main_v25, val_main_c_7, val_main_v26, val_main_v27, val_main_c_8, val_main_call2_v0, val_main_call2_v1, val_main_v28, val_main_c_9, val_main_v29, val_main_v30, val_main_c_10, val_main_call3_v0, val_main_call3_v1, val_main_v31, val_main_c_11, val_main_v32, val_main_v33, val_main_c_12, val_main_call4_v0, val_main_call4_v1, val_main_v34, val_main_c_13, val_main_v35, val_main_v36, val_main_c_14, val_main_call5_v0, val_main_call5_v1, val_main_v37, val_main_c_15, val_main_v38, val_main_v39, val_main_c_16, val_main_call6_v0, val_main_call6_v1, val_main_v40, val_main_c_17, val_main_v41, val_main_v42, val_main_c_18, val_main_call7_v0, val_main_call7_v1, val_main_v43, val_main_c_19, val_main_v44, val_main_v45, val_main_c_20, val_main_call8_v0, val_main_call8_v1, val_main_v46, val_main_c_21, val_main_v47, val_main_v48, val_main_c_22, val_main_call9_v0, val_main_call9_v1, val_main_v49, val_main_c_23, val_main_v50, val_main_v51, val_main_c_24, val_main_call10_v0, val_main_call10_v1, val_main_v52, val_main_c_25, val_main_v53, val_main_v54, val_main_c_26, val_main_call11_v0, val_main_call11_v1, val_main_v55, val_main_c_27, val_main_v56, val_main_v57, val_main_c_28, val_main_call12_v0, val_main_call12_v1, val_main_v58, val_main_c_29, val_main_v59, val_main_v60, val_main_c_30, val_main_call13_v0, val_main_call13_v1, val_main_v61, val_main_c_31, val_main_v62, val_main_v63, val_main_c_32, val_main_call14_v0, val_main_call14_v1, val_main_v64, val_main_c_33, val_main_v65, val_main_v66, val_main_c_34, val_main_call15_v0, val_main_call15_v1, val_main_v67, val_main_c_35, val_main_v68, val_main_v69, val_main_c_36, val_main_call16_v0, val_main_call16_v1, val_main_v70, val_main_c_37, val_main_v71, val_main_v72, val_main_c_38, val_main_call17_v0, val_main_call17_v1, val_main_v73, val_main_c_39, val_main_v74, val_main_v75, val_main_c_40, val_main_call18_v0, val_main_call18_v1, val_main_v76, val_main_c_41, val_main_v77, val_main_v78, val_main_c_42, val_main_call19_v0, val_main_call19_v1, val_main_v79, val_main_c_43, val_main_v80, val_main_v81, val_main_c_44, val_main_call20_v0, val_main_call20_v1, val_main_v82, val_main_c_45, val_main_v83, val_main_v84, val_main_c_46, val_main_call21_v0, val_main_call21_v1, val_main_v85, val_main_c_47, val_main_v86, val_main_v87, val_main_c_48, val_main_call22_v0, val_main_call22_v1, val_main_v88, val_main_c_49, val_main_v89, val_main_v90, val_main_c_50, val_main_call23_v0, val_main_call23_v1, val_main_v91, val_main_c_51, val_main_v92, val_main_v93, val_main_c_52, val_main_call24_v0, val_main_call24_v1, val_main_v94, val_main_c_53, val_main_v95, val_main_v96, val_main_c_54, val_main_call25_v0, val_main_call25_v1, val_main_v97, val_main_c_55, val_main_v98, val_main_v99, val_main_c_56, val_main_call26_v0, val_main_call26_v1, val_main_v100, val_main_c_57, val_main_v101, val_main_v102, val_main_c_58, val_main_call27_v0, val_main_call27_v1, val_main_v103, val_main_c_59, val_main_v104, val_main_v105, val_main_c_60, val_main_call28_v0, val_main_call28_v1, val_main_v106, val_main_c_61, val_main_v107, val_main_v108, val_main_c_62, val_main_call29_v0, val_main_call29_v1, val_main_v109, val_main_c_63, val_main_v110, val_main_v111, val_main_c_64, val_main_call30_v0, val_main_call30_v1, val_main_v112]
  have e : val_main_v13 (F := Ideal) (ix2 q s) = back32 q.val s.val := by pointwise [val_main_v5, val_main_v6, val_main_v7, val_main_v8, val_main_c, val_main_v9, val_main_v10, val_main_v11, val_main_v12, val_main_v13]; rfl
  rw [e]
  generalize back32 q.val s.val = w
  simp only [bucket, steps, List.foldl_cons, List.foldl_nil]
  rfl

theorem valid_gap (more : Bool) (q : Fin 128) (s : Fin 256) (h : Valid more q s) :
    s.val ≤ 128 + q.val ∧ 128 + q.val - s.val = gap q.val (col s).val ∧ 128 + q.val - s.val < 128 := by
  have e : (col s).val = s.val % 128 := rfl
  unfold gap
  rcases h with ⟨h1, h2⟩ | ⟨h1, h2, _⟩
  · rw [if_pos (by omega)]; omega
  · rw [if_neg (by omega)]; omega

theorem index_at (q : Fin 128) (s : Fin 256) (more : Bool) (h : Valid more q s) :
    min (val_main_v136 (F := Ideal) (ix3 q s 0)).toInt.toNat 31 = row (gap q.val (col s).val) := by
  obtain ⟨h1, h2, h3⟩ := valid_gap more q s h
  pointwise [val_main_c_68, val_main_v131, val_main_v132, val_main_c_69, val_main_v133, val_main_v134, val_main_v135, val_main_v136]
  rw [bucket_at, back32_eq q s h1, ← h2]
  exact bucket_index ⟨128 + q.val - s.val, h3⟩

end Cert.AttnReferenceIdeal.RefValue

end
-- ==== Proof.AttnRefBand.lean ====
/-
  The attention reference's bands: the bias that a key gets, and the keys and values that a block sees.
-/
module

public import proofs.«01_k».proof.Proof.AttnRefMask

@[expose] public section

set_option maxRecDepth 16384

noncomputable section

namespace Cert.AttnReferenceIdeal.RefValue

open Cert.AttnReferenceIdeal Cert.AttnReferenceIdeal.Gen Cert.AttnReferenceIdeal.Read
open Idealize.ShloMosaic Idealize.ShloMosaic.TcCoe
open Cert.Reals Cert.AttnMath Cert.AttnFits Cert.AttnBucket Cert.AttnAxes

variable {x0 : FVec Ideal S8192x1792 .f32} {x1 : FVec Ideal S8192x512 .f32} {x2 : FVec Ideal S32x8 .f32} {x3 : FVec Ideal S8 .f32}
  {x4 x5 : FVec Ideal S64 .f32} {D : Data} (H : IsData x0 x1 x2 x3 x4 x5 D)

theorem bias_at (H : IsData x0 x1 x2 x3 x4 x5 D) (k : Fin 2) (g : Fin 4) (q : Fin 128) (s : Fin 256) (more : Bool) (h : Valid more q s) :
    val_main_v174 (F := Ideal) x2 (ix4 k g q s) = (D.b k (rr g q) (col s) : EReal) := by
  pointwise [val_main_v174, val_main_v138]
  refine (congrArg (val_main_v137 (F := Ideal) x2) (congrArg (ix3 q s) (Fin.ext (b := head k g) (by simp only [head]; omega)))).trans ?_
  refine (gather_rows (by norm_num) _ x2 (val_main_v136 (F := Ideal)) q s (head k g)).trans ?_
  refine Eq.trans ?_ (H.b k (rr g q) (col s))
  refine congrArg x2 (congrArg₂ ix2 (Fin.ext ?_) (Fin.ext ?_))
  · simp only [rr_mod]; exact index_at q s more h
  · simp only [head, rr_div]; omega

include H

theorem qband_at (n : Fin 64) (q : Fin 128) (k : Fin 2) (g : Fin 4) (d : Fin 64) :
    val_main_v175 (F := Ideal) x0 x4 (ix5 n q k g d) = ((D.group n.val k).qn (rr g q) d : EReal) := by
  pointwise [val_main_v175]
  refine (congrArg (val_main_v155 (F := Ideal) x0 x4) (congrArg₂ (fun a b => ix3 a b d) (Fin.ext (b := tok n q) ?_) (Fin.ext (b := head k g) ?_))).trans ((qn_at H (tok n q) (head k g) d).trans ?_)
  · simp only [tok]; omega
  · simp only [head]; omega
  · simp only [Group.qn, Data.group, rr_mod, rr_div, tok, head, qr]
    refine congrArg Real.toEReal (congrArg (fun f : Fin 64 → ℝ => hat f d * D.qg d) (funext fun e => congrArg (D.z _) ?_))
    omega

/-- The token before, for a band position of the block before. -/
theorem kband_at (n : Fin 64) (s : Fin 256) (k : Fin 2) (d : Fin 64) :
    val_main_v182 (F := Ideal) x0 x5 (ix4 n s k d) = ((D.group n.val k).kb s d : EReal) := by
  pointwise [val_main_cst_77, val_main_v176, val_main_v177, val_main_v179, val_main_v180, val_main_v181, val_main_v182]
  have hm : (D.group n.val k).more = decide (1 ≤ n.val) := rfl
  unfold Group.kb
  rw [hm]
  by_cases h1 : s.val < 128
  on_goal 1 => by_cases h2 : n.val * 128 + s.val < 128
  · rw [dif_pos h1, dif_pos h2, if_neg (by omega), if_neg (fun e => by have := of_decide_eq_true e; omega)]; rfl
  · refine (dif_pos h1).trans ((dif_neg h2).trans ((kn_at H _ k d).trans (congrArg Real.toEReal ?_)))
    refine Eq.trans ?_ ((if_neg (by omega)).trans (if_pos (decide_eq_true (by omega)))).symm
    exact congrArg (fun T => hat (kr D T k.val) d * D.kg d) (by simp only [col]; omega)
  · refine (dif_neg h1).trans ((kn_at H _ k d).trans (congrArg Real.toEReal ?_))
    refine Eq.trans ?_ (if_pos (by omega)).symm
    exact congrArg (fun T => hat (kr D T k.val) d * D.kg d) (by simp only [col]; omega)

theorem vband_at (n : Fin 64) (s : Fin 256) (k : Fin 2) (d : Fin 64) :
    val_main_v189 (F := Ideal) x0 (ix4 n s k d) = ((D.group n.val k).vb s d : EReal) := by
  pointwise [val_main_cst_79, val_main_v183, val_main_v184, val_main_v186, val_main_v187, val_main_v188, val_main_v189]
  have hm : (D.group n.val k).more = decide (1 ≤ n.val) := rfl
  unfold Group.vb
  rw [hm]
  by_cases h1 : s.val < 128
  on_goal 1 => by_cases h2 : n.val * 128 + s.val < 128
  · rw [dif_pos h1, dif_pos h2, if_neg (by omega), if_neg (fun e => by have := of_decide_eq_true e; omega)]; rfl
  · refine (dif_pos h1).trans ((dif_neg h2).trans ((v_at H _ k d).trans (congrArg Real.toEReal ?_)))
    refine Eq.trans ?_ ((if_neg (by omega)).trans (if_pos (decide_eq_true (by omega)))).symm
    exact congrArg (fun T => vr D T k.val d) (by simp only [col]; omega)
  · refine (dif_neg h1).trans ((v_at H _ k d).trans (congrArg Real.toEReal ?_))
    refine Eq.trans ?_ (if_pos (by omega)).symm
    exact congrArg (fun T => vr D T k.val d) (by simp only [col]; omega)

end Cert.AttnReferenceIdeal.RefValue

end
-- ==== Proof.AttnRefSoft.lean ====
/-
  The attention reference's softmax over the band and its gradient, as real numbers: the shift by the row's largest score has
  no gradient, and the rest is that of the columns.
-/
module

public import proofs.«01_k».proof.Proof.AttnRefBand

@[expose] public section

set_option maxRecDepth 16384

noncomputable section

namespace Cert.AttnReferenceIdeal.RefValue

open Cert.AttnReferenceIdeal Cert.AttnReferenceIdeal.Gen Cert.AttnReferenceIdeal.Read
open Idealize.ShloMosaic Idealize.ShloMosaic.TcCoe
open Cert.Reals Cert.AttnMath Cert.AttnFits Cert.AttnBucket Cert.AttnAxes

theorem word_eighth : Ideal.ofBits .f32 0x3E000000#32 = ((1 / 8 : ℝ) : EReal) := by
  simp [Ideal.ofBits, Ideal.ieee, -EReal.coe_mul]; norm_num
theorem max_coe (a b : ℝ) : max (a : EReal) (b : EReal) = ((max a b : ℝ) : EReal) :=
  (EReal.coe_strictMono.monotone.map_max).symm
theorem zero_div_coe {c : ℝ} (h : c ≠ 0) : Ideal.div 0 (c : EReal) = 0 := by
  rw [← EReal.coe_zero, div_real h, zero_div]
theorem bit_coe (p : Prop) [Decidable p] :
    FloatOps.uitofp (F := Ideal) FTy.f32 (BitVec.ofBool (decide p)) = ((if p then (1 : ℝ) else 0 : ℝ) : EReal) := by
  by_cases h : p
  · rw [if_pos h, decide_eq_true h]
    show (((BitVec.ofBool true).toNat : ℝ) : EReal) = _
    simp
  · rw [if_neg h, decide_eq_false h]
    show (((BitVec.ofBool false).toNat : ℝ) : EReal) = _
    simp
theorem word_bot : Ideal.ofBits .f32 0xFF800000#32 = ⊥ := by
  simp [Ideal.ofBits, Ideal.ieee]

/-- The largest of finitely many is one of them. -/
theorem fold_max_mem (f : Fin 256 → EReal) : ∃ s, Finset.univ.fold max ⊥ f = f s := by
  obtain ⟨s, _, h⟩ := Finset.exists_mem_eq_sup Finset.univ ⟨(0 : Fin 256), Finset.mem_univ _⟩ f
  exact ⟨s, h⟩
theorem le_fold_max (f : Fin 256 → EReal) (s : Fin 256) : f s ≤ Finset.univ.fold max ⊥ f :=
  Finset.le_sup (f := f) (Finset.mem_univ s)

variable {x0 : FVec Ideal S8192x1792 .f32} {x1 : FVec Ideal S8192x512 .f32} {x2 : FVec Ideal S32x8 .f32} {x3 : FVec Ideal S8 .f32}
  {x4 x5 : FVec Ideal S64 .f32} {D : Data} (H : IsData x0 x1 x2 x3 x4 x5 D)

include H

theorem score_at (n : Fin 64) (k : Fin 2) (g : Fin 4) (q : Fin 128) (s : Fin 256) (h : Valid (decide (1 ≤ n.val)) q s) :
    val_main_v196 (F := Ideal) x0 x2 x4 x5 (ix5 n k g q s) = ((D.group n.val k).s (rr g q) (col s) : EReal) := by
  pointwise [val_main_v190, val_main_v191, val_main_cst_81, val_main_v192, val_main_v193, val_main_v194, val_main_v195, val_main_v196]
  simp only [kband_at H, qband_at H, bias_at H k g q s _ h, ← EReal.coe_mul]
  rw [coe_sum, word_eighth, ← EReal.coe_mul, ← EReal.coe_add]
  exact congrArg Real.toEReal ((D.group n.val k).score_eq g q s h)

theorem masked_at (n : Fin 64) (k : Fin 2) (g : Fin 4) (q : Fin 128) (s : Fin 256) :
    val_main_v198_0 (F := Ideal) x0 x2 x4 x5 (ix5 n k g q s)
      = if Valid (decide (1 ≤ n.val)) q s then ((D.group n.val k).s (rr g q) (col s) : EReal) else ⊥ := by
  pointwise [val_main_v197, val_main_cst_82, val_main_call31_v0, val_main_v198_1, val_main_call31_v2, val_main_v198_0]
  rw [valid_at, select_ofBool]
  by_cases h : Valid (decide (1 ≤ n.val)) q s
  · rw [if_pos h, if_pos h, score_at H n k g q s h]
  · rw [if_neg h, if_neg h]; exact word_bot

theorem max_at (n : Fin 64) (k : Fin 2) (g : Fin 4) (q : Fin 128) :
    ∃ M : ℝ, val_main_v201 (F := Ideal) x0 x2 x4 x5 (ix4 n k g q) = (M : EReal)
      ∧ ∃ s, val_main_v198_0 (F := Ideal) x0 x2 x4 x5 (ix5 n k g q s) = (M : EReal) := by
  have e : val_main_v201 (F := Ideal) x0 x2 x4 x5 (ix4 n k g q)
      = Finset.univ.fold max ⊥ (fun s : Fin 256 => val_main_v198_0 (F := Ideal) x0 x2 x4 x5 (ix5 n k g q s)) := by
    pointwise [val_main_cst_83, val_main_v201]
    rw [word_bot]
  obtain ⟨s, hs⟩ := fold_max_mem (fun s : Fin 256 => val_main_v198_0 (F := Ideal) x0 x2 x4 x5 (ix5 n k g q s))
  have hl := le_fold_max (fun s : Fin 256 => val_main_v198_0 (F := Ideal) x0 x2 x4 x5 (ix5 n k g q s)) (hi q)
  rw [hs] at hl e
  dsimp only at hl e
  rw [masked_at H, if_pos (valid_own _ _), masked_at H] at hl
  rw [masked_at H] at e
  by_cases h : Valid (decide (1 ≤ n.val)) q s
  · rw [if_pos h] at e
    exact ⟨_, e, s, by rw [masked_at H, if_pos h]⟩
  · rw [if_neg h, le_bot_iff] at hl
    exact absurd hl (EReal.coe_ne_bot _)

theorem hit_at (n : Fin 64) (k : Fin 2) (g : Fin 4) (q : Fin 128) (s : Fin 256) :
    val_main_v205 (F := Ideal) x0 x2 x4 x5 (ix5 n k g q s)
      = ((if val_main_v198_0 (F := Ideal) x0 x2 x4 x5 (ix5 n k g q s) = val_main_v201 (F := Ideal) x0 x2 x4 x5 (ix4 n k g q) then (1 : ℝ) else 0 : ℝ) : EReal) := by
  pointwise [val_main_v202, val_main_v203, val_main_v204, val_main_v205]
  generalize val_main_v198_0 (F := Ideal) x0 x2 x4 x5 (ix5 n k g q s) = a
  generalize val_main_v201 (F := Ideal) x0 x2 x4 x5 (ix4 n k g q) = b
  exact bit_coe (a = b)

theorem count_at (n : Fin 64) (k : Fin 2) (g : Fin 4) (q : Fin 128) :
    ∃ c : ℝ, c ≠ 0 ∧ val_main_v206 (F := Ideal) x0 x2 x4 x5 (ix4 n k g q) = (c : EReal) := by
  obtain ⟨M, h1, s, h2⟩ := max_at H n k g q
  refine ⟨∑ s, if val_main_v198_0 (F := Ideal) x0 x2 x4 x5 (ix5 n k g q s) = val_main_v201 (F := Ideal) x0 x2 x4 x5 (ix4 n k g q) then (1 : ℝ) else 0, ?_, ?_⟩
  · refine (Finset.sum_pos' (fun i _ => ?_) ⟨s, Finset.mem_univ _, ?_⟩).ne'
    · split_ifs <;> norm_num
    · rw [if_pos (h2.trans h1.symm)]; norm_num
  · rw [← coe_sum]
    pointwise [val_main_cst_84, val_main_v206]
    simp only [hit_at H]

theorem sink_at (a : Fin 1) (k : Fin 2) (g : Fin 4) (b c : Fin 1) (q : Fin 128) :
    val_main_v200 (F := Ideal) x3 (ix5 a k g b c) = (D.sk k (rr g q) : EReal) := by
  pointwise [val_main_v199, val_main_v200]
  refine (congrArg x3 (congrArg ix1 (Fin.ext ?_))).trans (H.sk k (rr g q))
  simp only [rr_div]

end Cert.AttnReferenceIdeal.RefValue

end
-- ==== Proof.AttnRefGrad.lean ====
/-
  The attention reference's weights and the gradient of its softmax, as real numbers.
-/
module

public import proofs.«01_k».proof.Proof.AttnRefSoft

@[expose] public section

set_option maxRecDepth 16384

noncomputable section

namespace Cert.AttnReferenceIdeal.RefValue

open Cert.AttnReferenceIdeal Cert.AttnReferenceIdeal.Gen Cert.AttnReferenceIdeal.Read
open Idealize.ShloMosaic Idealize.ShloMosaic.TcCoe
open Cert.Reals Cert.AttnMath Cert.AttnFits Cert.AttnBucket Cert.AttnAxes

variable {x0 : FVec Ideal S8192x1792 .f32} {x1 : FVec Ideal S8192x512 .f32} {x2 : FVec Ideal S32x8 .f32} {x3 : FVec Ideal S8 .f32}
  {x4 x5 : FVec Ideal S64 .f32} {D : Data} (H : IsData x0 x1 x2 x3 x4 x5 D)

include H

/-- The shift of a row. -/
def shift (x0 : FVec Ideal S8192x1792 .f32) (x2 : FVec Ideal S32x8 .f32) (x3 : FVec Ideal S8 .f32) (x4 x5 : FVec Ideal S64 .f32)
    (n : Fin 64) (k : Fin 2) (g : Fin 4) (q : Fin 128) : ℝ := (val_main_v209 (F := Ideal) x0 x2 x3 x4 x5 (ix5 n k g q 0)).toReal

theorem left_at (n : Fin 64) (k : Fin 2) (g : Fin 4) (q : Fin 128) (e : Fin 1) :
    val_main_v207 (F := Ideal) x0 x2 x4 x5 (ix5 n k g q e) = val_main_v201 (F := Ideal) x0 x2 x4 x5 (ix4 n k g q) := by
  pointwise [val_main_v207]

theorem right_at (n : Fin 64) (k : Fin 2) (g : Fin 4) (q : Fin 128) (e : Fin 1) :
    val_main_v208 (F := Ideal) x3 (ix5 n k g q e) = (D.sk k (rr g q) : EReal) := by
  rw [← sink_at H 0 k g 0 0 q]
  pointwise [val_main_v208]

theorem shift_real (n : Fin 64) (k : Fin 2) (g : Fin 4) (q : Fin 128) :
    ∃ M : ℝ, ∀ e, val_main_v209 (F := Ideal) x0 x2 x3 x4 x5 (ix5 n k g q e) = (M : EReal) := by
  obtain ⟨M, h, _⟩ := max_at H n k g q
  refine ⟨max M (D.sk k (rr g q)), fun e => ?_⟩
  rw [val_main_v209_apply, left_at H, right_at H, h]
  exact max_coe _ _

theorem shift_at (n : Fin 64) (k : Fin 2) (g : Fin 4) (q : Fin 128) (e : Fin 1) :
    val_main_v209 (F := Ideal) x0 x2 x3 x4 x5 (ix5 n k g q e) = (shift x0 x2 x3 x4 x5 n k g q : EReal) := by
  obtain ⟨M, h⟩ := shift_real H n k g q
  rw [h, shift, h, EReal.toReal_coe]

theorem e_at (n : Fin 64) (k : Fin 2) (g : Fin 4) (q : Fin 128) (s : Fin 256) :
    val_main_v230 (F := Ideal) x0 x2 x3 x4 x5 (ix5 n k g q s)
      = ((D.group n.val k).eB (shift x0 x2 x3 x4 x5 n k g q) g q s : EReal) := by
  pointwise [val_main_v228, val_main_v229, val_main_v230]
  rw [masked_at H, shift_at H, Group.eB]
  have hm : (D.group n.val k).more = decide (1 ≤ n.val) := rfl
  rw [hm]
  by_cases h : Valid (decide (1 ≤ n.val)) q s
  · rw [if_pos h, if_pos h, ← EReal.coe_sub, Ideal.exp_coe]
  · rw [if_neg h, if_neg h, EReal.bot_sub]
    simp

theorem es_at (n : Fin 64) (k : Fin 2) (g : Fin 4) (q : Fin 128) (e : Fin 1) :
    val_main_v235 (F := Ideal) x0 x2 x3 x4 x5 (ix5 n k g q e)
      = ((D.group n.val k).esB (shift x0 x2 x3 x4 x5 n k g q) g q : EReal) := by
  pointwise [val_main_v233, val_main_v234, val_main_v235]
  rw [sink_at H _ k g _ _ q, shift_at H, ← EReal.coe_sub, Ideal.exp_coe]; rfl

theorem S_at (n : Fin 64) (k : Fin 2) (g : Fin 4) (q : Fin 128) (e : Fin 1) :
    val_main_v236 (F := Ideal) x0 x2 x3 x4 x5 (ix5 n k g q e)
      = ((D.group n.val k).SB (shift x0 x2 x3 x4 x5 n k g q) g q : EReal) := by
  pointwise [val_main_cst_91, val_main_v231, val_main_v232, val_main_v236]
  simp only [e_at H, es_at H]
  rw [coe_sum, ← EReal.coe_add]; rfl

theorem p_at (n : Fin 64) (k : Fin 2) (g : Fin 4) (q : Fin 128) (s : Fin 256) :
    val_main_v238 (F := Ideal) x0 x2 x3 x4 x5 (ix5 n k g q s) = ((D.group n.val k).pB g q s : EReal) := by
  pointwise [val_main_v237, val_main_v238]
  rw [e_at H, S_at H, div_real (Group.SB_pos _ _ _ _).ne', Group.eB_div]

theorem a_at (n : Fin 64) (k : Fin 2) (g : Fin 4) (q : Fin 128) (d : Fin 64) :
    val_main_v246 (F := Ideal) x1 (ix5 n k d g q) = ((D.group n.val k).a (rr g q) d : EReal) := by
  pointwise [val_main_v245, val_main_v246]
  refine (H.da _ _).trans (congrArg Real.toEReal ?_)
  simp only [Data.group, rr_mod, rr_div]
  exact congrArg₂ D.da (by omega) (by omega)

theorem dp_at (n : Fin 64) (k : Fin 2) (g : Fin 4) (q : Fin 128) (s : Fin 256) :
    val_main_v247 (F := Ideal) x0 x1 (ix5 n k g q s) = ((D.group n.val k).dpB g q s : EReal) := by
  pointwise [val_main_v247]
  simp only [a_at H, vband_at H, ← EReal.coe_mul]
  rw [coe_sum]; rfl

theorem inv_at (n : Fin 64) (k : Fin 2) (g : Fin 4) (q : Fin 128) (e : Fin 1) :
    val_main_v241 (F := Ideal) x0 x2 x3 x4 x5 (ix5 n k g q e)
      = ((1 / ((D.group n.val k).SB (shift x0 x2 x3 x4 x5 n k g q) g q * (D.group n.val k).SB (shift x0 x2 x3 x4 x5 n k g q) g q) : ℝ) : EReal) := by
  have hS := (Group.SB_pos (D.group n.val k) (shift x0 x2 x3 x4 x5 n k g q) g q).ne'
  pointwise [val_main_v239, val_main_cst_92, val_main_v240, val_main_v241]
  rw [S_at H, ← EReal.coe_one, ← EReal.coe_mul, div_real (mul_ne_zero hS hS)]

theorem D_at (n : Fin 64) (k : Fin 2) (g : Fin 4) (q : Fin 128) (e : Fin 1) :
    val_main_v255 (F := Ideal) x0 x1 x2 x3 x4 x5 (ix5 n k g q e)
      = ((-(D.group n.val k).DB (shift x0 x2 x3 x4 x5 n k g q) g q : ℝ) : EReal) := by
  pointwise [val_main_v250, val_main_v251, val_main_v252, val_main_cst_93, val_main_v253, val_main_v254, val_main_v255]
  simp only [dp_at H, inv_at H, e_at H, ← EReal.coe_mul]
  rw [coe_sum]; exact (EReal.coe_neg _).symm

theorem raw_at (n : Fin 64) (k : Fin 2) (g : Fin 4) (q : Fin 128) (s : Fin 256) :
    val_main_v265 (F := Ideal) x0 x1 x2 x3 x4 x5 (ix5 n k g q s)
      = ((((D.group n.val k).dpB g q s / (D.group n.val k).SB (shift x0 x2 x3 x4 x5 n k g q) g q
          + -(D.group n.val k).DB (shift x0 x2 x3 x4 x5 n k g q) g q) * (D.group n.val k).eB (shift x0 x2 x3 x4 x5 n k g q) g q s : ℝ) : EReal) := by
  pointwise [val_main_v256, val_main_v257, val_main_cst_95, val_main_v262, val_main_v263, val_main_v264, val_main_v265]
  simp only [dp_at H, S_at H, e_at H, D_at H, div_real (Group.SB_pos _ _ _ _).ne', Finset.univ_unique, Finset.sum_singleton, ← EReal.coe_add, ← EReal.coe_mul]

theorem sinkTerm_raw (n : Fin 64) (k : Fin 2) (g : Fin 4) (q : Fin 128) (e : Fin 1) :
    val_main_v258 (F := Ideal) x0 x1 x2 x3 x4 x5 (ix5 n k g q e)
      = ((-(D.group n.val k).DB (shift x0 x2 x3 x4 x5 n k g q) g q * (D.group n.val k).esB (shift x0 x2 x3 x4 x5 n k g q) g q : ℝ) : EReal) := by
  pointwise [val_main_v258]
  rw [D_at H, es_at H, ← EReal.coe_mul]

end Cert.AttnReferenceIdeal.RefValue

end
-- ==== Proof.AttnRefScore.lean ====
/-
  The attention reference's gradients of the scores and of the sinks, as real numbers: the largest score's share of the
  gradient is zero.
-/
module

public import proofs.«01_k».proof.Proof.AttnRefGrad

@[expose] public section

set_option maxRecDepth 16384

noncomputable section

namespace Cert.AttnReferenceIdeal.RefValue

open Cert.AttnReferenceIdeal Cert.AttnReferenceIdeal.Gen Cert.AttnReferenceIdeal.Read
open Idealize.ShloMosaic Idealize.ShloMosaic.TcCoe
open Cert.Reals Cert.AttnMath Cert.AttnFits Cert.AttnBucket Cert.AttnAxes

variable {x0 : FVec Ideal S8192x1792 .f32} {x1 : FVec Ideal S8192x512 .f32} {x2 : FVec Ideal S32x8 .f32} {x3 : FVec Ideal S8 .f32}
  {x4 x5 : FVec Ideal S64 .f32} {D : Data} (H : IsData x0 x1 x2 x3 x4 x5 D)

include H

theorem zero_at (n : Fin 64) (k : Fin 2) (g : Fin 4) (q : Fin 128) (e : Fin 1) :
    val_main_v269 (F := Ideal) x0 x1 x2 x3 x4 x5 (ix5 n k g q e) = 0 := by
  pointwise [val_main_v261, val_main_v266, val_main_cst_96, val_main_v267, val_main_v268, val_main_v269]
  simp only [sinkTerm_raw H, raw_at H]
  have h := (D.group n.val k).shift_eq (shift x0 x2 x3 x4 x5 n k g q) g q
  simp only [← EReal.coe_neg]
  rw [coe_sum, ← EReal.coe_add, h]; rfl

theorem zero_mul_max (n : Fin 64) (k : Fin 2) (g : Fin 4) (q : Fin 128) (e : Fin 1) :
    val_main_v274 (F := Ideal) x0 x1 x2 x3 x4 x5 (ix5 n k g q e) = 0 := by
  rw [val_main_v274_apply, zero_at H]
  generalize val_main_v218 (F := Ideal) x0 x2 x3 x4 x5 (ix5 n k g q e) = y
  exact zero_mul y

theorem zero_mul_sink (n : Fin 64) (k : Fin 2) (g : Fin 4) (q : Fin 128) (e : Fin 1) :
    val_main_v270 (F := Ideal) x0 x1 x2 x3 x4 x5 (ix5 n k g q e) = 0 := by
  rw [val_main_v270_apply, zero_at H]
  generalize val_main_v227 (F := Ideal) x0 x2 x3 x4 x5 (ix5 n k g q e) = y
  exact zero_mul y

theorem zero_sum (n : Fin 64) (k : Fin 2) (g : Fin 4) (q : Fin 128) :
    val_main_v275 (F := Ideal) x0 x1 x2 x3 x4 x5 (ix4 n k g q) = 0 := by
  pointwise [val_main_cst_98, val_main_v275]
  simp only [zero_mul_max H, Finset.sum_const_zero]

theorem zero_share (n : Fin 64) (k : Fin 2) (g : Fin 4) (q : Fin 128) :
    val_main_v276 (F := Ideal) x0 x1 x2 x3 x4 x5 (ix4 n k g q) = 0 := by
  obtain ⟨c, hc, h⟩ := count_at H n k g q
  rw [val_main_v276_apply, zero_sum H, h]
  exact zero_div_coe hc

theorem zero_shares (n : Fin 64) (k : Fin 2) (g : Fin 4) (q : Fin 128) (s : Fin 256) :
    val_main_v277 (F := Ideal) x0 x1 x2 x3 x4 x5 (ix5 n k g q s) = 0 := by
  pointwise [val_main_v277]
  exact zero_share H n k g q

theorem sum_at (n : Fin 64) (k : Fin 2) (g : Fin 4) (q : Fin 128) (s : Fin 256) :
    val_main_v279 (F := Ideal) x0 x1 x2 x3 x4 x5 (ix5 n k g q s) = ((D.group n.val k).dsB g q s : EReal) := by
  rw [val_main_v279_apply, val_main_v278_apply, zero_shares H, raw_at H, Group.dsB_eq]
  generalize val_main_v205 (F := Ideal) x0 x2 x4 x5 (ix5 n k g q s) = y
  generalize ((D.group n.val k).dsB g q s : EReal) = x
  exact (congrArg (x + ·) (zero_mul y)).trans (add_zero x)

theorem ds_at (n : Fin 64) (k : Fin 2) (g : Fin 4) (q : Fin 128) (s : Fin 256) :
    val_main_v282 (F := Ideal) x0 x1 x2 x3 x4 x5 (ix5 n k g q s) = ((D.group n.val k).dsB g q s : EReal) := by
  pointwise [val_main_call32_cst, val_main_call32_v0, val_main_v198_1, val_main_v197, val_main_v282]
  rw [sum_at H, valid_at, select_ofBool]
  by_cases hv : Valid (decide (1 ≤ n.val)) q s
  · rw [if_pos hv]
  · have e0 : (D.group n.val k).dsB g q s = 0 := if_neg hv
    rw [if_neg hv, e0, EReal.coe_zero]

end Cert.AttnReferenceIdeal.RefValue

end
-- ==== Proof.AttnRefSums.lean ====
/-
  The attention reference's gradients of the bias, of the normed queries and keys and of the values, as real numbers.
-/
module

public import proofs.«01_k».proof.Proof.AttnRefScore

@[expose] public section

set_option maxRecDepth 16384

noncomputable section

namespace Cert.AttnReferenceIdeal.RefValue

open Cert.AttnReferenceIdeal Cert.AttnReferenceIdeal.Gen Cert.AttnReferenceIdeal.Read
open Idealize.ShloMosaic Idealize.ShloMosaic.TcCoe
open Cert.Reals Cert.AttnMath Cert.AttnFits Cert.AttnBucket Cert.AttnAxes

variable {x0 : FVec Ideal S8192x1792 .f32} {x1 : FVec Ideal S8192x512 .f32} {x2 : FVec Ideal S32x8 .f32} {x3 : FVec Ideal S8 .f32}
  {x4 x5 : FVec Ideal S64 .f32} {D : Data} (H : IsData x0 x1 x2 x3 x4 x5 D)

include H

theorem dbias_at (k : Fin 2) (g : Fin 4) (q : Fin 128) (s : Fin 256) :
    val_main_v285 (F := Ideal) x0 x1 x2 x3 x4 x5 (ix4 k g q s) = ((∑ n : Fin 64, (D.group n.val k).dsB g q s : ℝ) : EReal) := by
  pointwise [val_main_cst_100, val_main_v283, val_main_v284, val_main_cst_101, val_main_v285]
  simp only [ds_at H, Finset.univ_unique, Finset.sum_singleton]
  exact coe_sum _ _

theorem scaled_at (n : Fin 64) (k : Fin 2) (g : Fin 4) (q : Fin 128) (s : Fin 256) :
    val_main_v288 (F := Ideal) x0 x1 x2 x3 x4 x5 (ix5 n k s q g) = (((D.group n.val k).dsB g q s * (1 / 8) : ℝ) : EReal) := by
  pointwise [val_main_cst_102, val_main_v286, val_main_v287, val_main_v288]
  rw [ds_at H, word_eighth, ← EReal.coe_mul]

theorem dqn_at (n : Fin 64) (k : Fin 2) (g : Fin 4) (q : Fin 128) (d : Fin 64) :
    val_main_v290 (F := Ideal) x0 x1 x2 x3 x4 x5 (ix5 n q k g d) = ((D.group n.val k).dqn (rr g q) d : EReal) := by
  pointwise [val_main_v289, val_main_v290]
  simp only [scaled_at H, kband_at H, ← EReal.coe_mul]
  rw [coe_sum, Group.dqn_eq]

theorem dqn_token (n : Fin 64) (k : Fin 2) (g : Fin 4) (q : Fin 128) (d : Fin 64) :
    val_main_v309 (F := Ideal) x0 x1 x2 x3 x4 x5 (ix3 (tok n q) (head k g) d) = ((D.group n.val k).dqn (rr g q) d : EReal) := by
  pointwise [val_main_v309]
  refine Eq.trans (congrArg (val_main_v290 (F := Ideal) x0 x1 x2 x3 x4 x5) ?_) (dqn_at H n k g q d)
  simp only [tok, head]
  refine congr (congr (congrArg₂ (fun a b => ix5 a b) (Fin.ext ?_) (Fin.ext ?_)) (Fin.ext ?_)) (Fin.ext ?_) |> fun h => congrFun h d <;> dsimp only <;> omega

theorem dkBand_at (n : Fin 64) (s : Fin 256) (k : Fin 2) (d : Fin 64) :
    val_main_v292 (F := Ideal) x0 x1 x2 x3 x4 x5 (ix4 n s k d)
      = ((∑ g, ∑ q, (D.group n.val k).dsB g q s * (1 / 8) * (D.group n.val k).qn (rr g q) d : ℝ) : EReal) := by
  pointwise [val_main_v291, val_main_v292]
  simp only [scaled_at H, qband_at H, ← EReal.coe_mul, coe_sum]
  exact congrArg Real.toEReal Finset.sum_comm

theorem dvBand_at (n : Fin 64) (s : Fin 256) (k : Fin 2) (d : Fin 64) :
    val_main_v249 (F := Ideal) x0 x1 x2 x3 x4 x5 (ix4 n s k d)
      = ((∑ g, ∑ q, (D.group n.val k).a (rr g q) d * (D.group n.val k).pB g q s : ℝ) : EReal) := by
  pointwise [val_main_v248, val_main_v249]
  simp only [a_at H, p_at H, ← EReal.coe_mul, coe_sum]

theorem dkn_token (n : Fin 64) (c : Fin 128) (k : Fin 2) (d : Fin 64) :
    val_main_v308 (F := Ideal) x0 x1 x2 x3 x4 x5 (ix3 (tok n c) k d) = (D.dkn n.val k c d : EReal) := by
  pointwise [val_main_v301, val_main_v302, val_main_v303, val_main_v304, val_main_cst_104, val_main_v305, val_main_v307, val_main_v308]
  have e1 : ∀ (a : Fin 64) (b : Fin 256), a = n → b = hi c →
      val_main_v292 (F := Ideal) x0 x1 x2 x3 x4 x5 (ix4 a b k d) = ((D.group n.val k).dko c d : EReal) := fun a b ha hb => by
    rw [ha, hb, dkBand_at H, Group.dko_eq]
  have e2 : ∀ (a : Fin 64) (b : Fin 256), a.val = n.val + 1 → b = lo c →
      val_main_v292 (F := Ideal) x0 x1 x2 x3 x4 x5 (ix4 a b k d) = ((D.group (n.val + 1) k).dkp c d : EReal) := fun a b ha hb => by
    rw [hb, dkBand_at H, Group.dkp_eq, ha]
  refine (congrArg₂ (· + ·) (e1 _ _ (Fin.ext (tok_div n c)) (Fin.ext ?_)) ?_).trans (EReal.coe_add _ (if n.val < 63 then (D.group (n.val + 1) k).dkp c d else 0)).symm
  · simp only [hi, tok_mod]
  · by_cases h : n.val < 63
    · rw [if_pos h]
      refine (dif_pos (by simp only [tok]; omega)).trans (e2 _ _ ?_ (Fin.ext ?_))
      · simp only [tok]; omega
      · simp only [tok, lo]; omega
    · rw [if_neg h]
      exact dif_neg (by simp only [tok]; omega)

theorem dv_token (n : Fin 64) (c : Fin 128) (k : Fin 2) (d : Fin 64) :
    val_main_v300 (F := Ideal) x0 x1 x2 x3 x4 x5 (ix3 (tok n c) k d) = (D.dv n.val k c d : EReal) := by
  pointwise [val_main_v293, val_main_v294, val_main_v295, val_main_v296, val_main_cst_103, val_main_v297, val_main_v299, val_main_v300]
  have e1 : ∀ (a : Fin 64) (b : Fin 256), a = n → b = hi c →
      val_main_v249 (F := Ideal) x0 x1 x2 x3 x4 x5 (ix4 a b k d) = ((D.group n.val k).dvo c d : EReal) := fun a b ha hb => by
    rw [ha, hb, dvBand_at H, Group.dvo_eq]
  have e2 : ∀ (a : Fin 64) (b : Fin 256), a.val = n.val + 1 → b = lo c →
      val_main_v249 (F := Ideal) x0 x1 x2 x3 x4 x5 (ix4 a b k d) = ((D.group (n.val + 1) k).dvp c d : EReal) := fun a b ha hb => by
    rw [hb, dvBand_at H, Group.dvp_eq, ha]
  refine (congrArg₂ (· + ·) (e1 _ _ (Fin.ext (tok_div n c)) (Fin.ext ?_)) ?_).trans (EReal.coe_add _ (if n.val < 63 then (D.group (n.val + 1) k).dvp c d else 0)).symm
  · simp only [hi, tok_mod]
  · by_cases h : n.val < 63
    · rw [if_pos h]
      refine (dif_pos (by simp only [tok]; omega)).trans (e2 _ _ ?_ (Fin.ext ?_))
      · simp only [tok]; omega
      · simp only [tok, lo]; omega
    · rw [if_neg h]
      exact dif_neg (by simp only [tok]; omega)

end Cert.AttnReferenceIdeal.RefValue

end
-- ==== Proof.AttnRefBack.lean ====
/-
  The attention reference's gradients of the two head norms, as real numbers.
-/
module

public import proofs.«01_k».proof.Proof.AttnRefSums

@[expose] public section

set_option maxRecDepth 16384

noncomputable section

namespace Cert.AttnReferenceIdeal.RefValue

open Cert.AttnReferenceIdeal Cert.AttnReferenceIdeal.Gen Cert.AttnReferenceIdeal.Read
open Idealize.ShloMosaic Idealize.ShloMosaic.TcCoe
open Cert.Reals Cert.AttnMath Cert.AttnFits Cert.AttnBucket Cert.AttnAxes

/-- The derivative of a row times its reciprocal root mean square, as the chain rule writes it. -/
theorem vjp_eq (x w g : Fin 64 → ℝ) (d : Fin 64) :
    w d * g d * rms x + x d * ((∑ e, x e * (w e * g e)) * (-(1 / 2) * (rms x / ((∑ d, x d * x d) / 64 + eps))) / 64)
      + (∑ e, x e * (w e * g e)) * (-(1 / 2) * (rms x / ((∑ d, x d * x d) / 64 + eps))) / 64 * x d = back x w g d := by
  have ha := rms_arg_pos x
  have hs : 0 < Real.sqrt ((∑ d, x d * x d) / 64 + eps) := Real.sqrt_pos.mpr ha
  have e : (∑ e, w e * g e * hat x e) = (∑ e, x e * (w e * g e)) * rms x := by
    rw [Finset.sum_mul]; exact Finset.sum_congr rfl fun e _ => by rw [hat]; ring
  have c : rms x / ((∑ d, x d * x d) / 64 + eps) = rms x * rms x * rms x := by
    have : (∑ d, x d * x d) / 64 + eps = Real.sqrt ((∑ d, x d * x d) / 64 + eps) * Real.sqrt ((∑ d, x d * x d) / 64 + eps) :=
      (Real.mul_self_sqrt ha.le).symm
    unfold rms
    rw [div_eq_mul_inv]
    nth_rewrite 2 [this]
    rw [mul_inv]; ring
  rw [back, e, c, hat]; ring

variable {x0 : FVec Ideal S8192x1792 .f32} {x1 : FVec Ideal S8192x512 .f32} {x2 : FVec Ideal S32x8 .f32} {x3 : FVec Ideal S8 .f32}
  {x4 x5 : FVec Ideal S64 .f32} {D : Data} (H : IsData x0 x1 x2 x3 x4 x5 D)

include H

theorem karg_at (T : Fin 8192) (h : Fin 2) (e : Fin 1) :
    val_main_v163 (F := Ideal) x0 (ix3 T h e) = (((∑ d, kr D T.val h.val d * kr D T.val h.val d) / 64 + eps : ℝ) : EReal) := by
  pointwise [val_main_v157, val_main_cst_73, val_main_v158, val_main_v159, val_main_cst_74, val_main_v160, val_main_v161, val_main_cst_75, val_main_v162, val_main_v163]
  simp only [k_at H, ← EReal.coe_mul]
  rw [coe_sum, word_64, word_eps, div_real (by norm_num), ← EReal.coe_add]

theorem kdrms_at (T : Fin 8192) (h : Fin 2) (e : Fin 1) :
    val_main_v167 (F := Ideal) x0 (ix3 T h e)
      = ((-(1 / 2) * (rms (kr D T.val h.val) / ((∑ d, kr D T.val h.val d * kr D T.val h.val d) / 64 + eps)) : ℝ) : EReal) := by
  pointwise [val_main_v165, val_main_cst_76, val_main_v166, val_main_v167]
  rw [krms_at H, karg_at H, div_real (rms_arg_pos _).ne', word_neg_half, ← EReal.coe_mul]

theorem kback_at (T : Fin 8192) (h : Fin 2) (w : Fin 64 → ℝ)
    (hw : ∀ d, val_main_v308 (F := Ideal) x0 x1 x2 x3 x4 x5 (ix3 T h d) = (w d : EReal)) (d : Fin 64) :
    val_main_v331 (F := Ideal) x0 x1 x2 x3 x4 x5 (ix3 T h d) = (back (kr D T.val h.val) w D.kg d : EReal) := by
  have wg : ∀ d, val_main_v316 (F := Ideal) x0 x1 x2 x3 x4 x5 (ix3 T h d) = ((w d * D.kg d : ℝ) : EReal) := fun d => by
    pointwise [val_main_v170, val_main_v315, val_main_v316]
    rw [hw, H.kg, ← EReal.coe_mul]
  have c : ∀ d, val_main_v327 (F := Ideal) x0 x1 x2 x3 x4 x5 (ix3 T h d)
      = (((∑ e, kr D T.val h.val e * (w e * D.kg e)) * (-(1 / 2) * (rms (kr D T.val h.val)
          / ((∑ d, kr D T.val h.val d * kr D T.val h.val d) / 64 + eps))) / 64 : ℝ) : EReal) := fun d => by
    pointwise [val_main_v318, val_main_cst_107, val_main_v319, val_main_v320, val_main_v323, val_main_cst_108, val_main_v324, val_main_v325, val_main_cst_109, val_main_v326, val_main_v327]
    simp only [wg, k_at H, kdrms_at H, ← EReal.coe_mul, Finset.univ_unique, Finset.sum_singleton]
    rw [coe_sum, ← EReal.coe_mul, word_64, div_real (by norm_num)]
  rw [val_main_v331_apply, val_main_v329_apply, val_main_v330_apply, val_main_v328_apply, val_main_v322_apply, wg, c, k_at H]
  have r : val_main_v321 (F := Ideal) x0 (ix3 T h d) = (rms (kr D T.val h.val) : EReal) := by
    pointwise [val_main_v321]; exact krms_at H _ _ _
  rw [r, ← vjp_eq]
  simp only [EReal.coe_add, EReal.coe_mul]
  rfl

theorem qarg_at (T : Fin 8192) (h : Fin 8) (e : Fin 1) :
    val_main_v146 (F := Ideal) x0 (ix3 T h e) = (((∑ d, qr D T.val h.val d * qr D T.val h.val d) / 64 + eps : ℝ) : EReal) := by
  pointwise [val_main_v140, val_main_cst, val_main_v141, val_main_v142, val_main_cst_70, val_main_v143, val_main_v144, val_main_cst_71, val_main_v145, val_main_v146]
  simp only [q_at H, ← EReal.coe_mul]
  rw [coe_sum, word_64, word_eps, div_real (by norm_num), ← EReal.coe_add]

theorem qdrms_at (T : Fin 8192) (h : Fin 8) (e : Fin 1) :
    val_main_v150 (F := Ideal) x0 (ix3 T h e)
      = ((-(1 / 2) * (rms (qr D T.val h.val) / ((∑ d, qr D T.val h.val d * qr D T.val h.val d) / 64 + eps)) : ℝ) : EReal) := by
  pointwise [val_main_v148, val_main_cst_72, val_main_v149, val_main_v150]
  rw [qrms_at H, qarg_at H, div_real (rms_arg_pos _).ne', word_neg_half, ← EReal.coe_mul]

theorem qback_at (T : Fin 8192) (h : Fin 8) (w : Fin 64 → ℝ)
    (hw : ∀ d, val_main_v309 (F := Ideal) x0 x1 x2 x3 x4 x5 (ix3 T h d) = (w d : EReal)) (d : Fin 64) :
    val_main_v352 (F := Ideal) x0 x1 x2 x3 x4 x5 (ix3 T h d) = (back (qr D T.val h.val) w D.qg d : EReal) := by
  have wg : ∀ d, val_main_v337 (F := Ideal) x0 x1 x2 x3 x4 x5 (ix3 T h d) = ((w d * D.qg d : ℝ) : EReal) := fun d => by
    pointwise [val_main_v153, val_main_v336, val_main_v337]
    rw [hw, H.qg, ← EReal.coe_mul]
  have c : ∀ d, val_main_v348 (F := Ideal) x0 x1 x2 x3 x4 x5 (ix3 T h d)
      = (((∑ e, qr D T.val h.val e * (w e * D.qg e)) * (-(1 / 2) * (rms (qr D T.val h.val)
          / ((∑ d, qr D T.val h.val d * qr D T.val h.val d) / 64 + eps))) / 64 : ℝ) : EReal) := fun d => by
    pointwise [val_main_v339, val_main_cst_112, val_main_v340, val_main_v341, val_main_v344, val_main_cst_113, val_main_v345, val_main_v346, val_main_cst_114, val_main_v347, val_main_v348]
    simp only [wg, q_at H, qdrms_at H, ← EReal.coe_mul, Finset.univ_unique, Finset.sum_singleton]
    rw [coe_sum, ← EReal.coe_mul, word_64, div_real (by norm_num)]
  rw [val_main_v352_apply, val_main_v350_apply, val_main_v351_apply, val_main_v349_apply, val_main_v343_apply, wg, c, q_at H]
  have r : val_main_v342 (F := Ideal) x0 (ix3 T h d) = (rms (qr D T.val h.val) : EReal) := by
    pointwise [val_main_v342]; exact qrms_at H _ _ _
  rw [r, ← vjp_eq]
  simp only [EReal.coe_add, EReal.coe_mul]
  rfl

theorem dk_token (n : Fin 64) (c : Fin 128) (k : Fin 2) (d : Fin 64) :
    val_main_v331 (F := Ideal) x0 x1 x2 x3 x4 x5 (ix3 (tok n c) k d) = (D.dk n.val k c d : EReal) :=
  kback_at H (tok n c) k (D.dkn n.val k c) (dkn_token H n c k) d

theorem dq_token (n : Fin 64) (k : Fin 2) (g : Fin 4) (q : Fin 128) (d : Fin 64) :
    val_main_v352 (F := Ideal) x0 x1 x2 x3 x4 x5 (ix3 (tok n q) (head k g) d) = ((D.group n.val k).dq (rr g q) d : EReal) := by
  refine (qback_at H (tok n q) (head k g) ((D.group n.val k).dqn (rr g q)) (dqn_token H n k g q) d).trans (congrArg Real.toEReal ?_)
  refine congrArg (fun x => back x ((D.group n.val k).dqn (rr g q)) D.qg d) (funext fun e => ?_)
  simp only [Data.group, rr_mod, rr_div, tok, head, qr]
  exact congrArg (D.z _) (by omega)

end Cert.AttnReferenceIdeal.RefValue

end
-- ==== Proof.AttnRefSink.lean ====
/-
  The attention reference's gradient of the sinks, as real numbers.
-/
module

public import proofs.«01_k».proof.Proof.AttnRefScore

@[expose] public section

set_option maxRecDepth 16384

noncomputable section

namespace Cert.AttnReferenceIdeal.RefValue

open Cert.AttnReferenceIdeal Cert.AttnReferenceIdeal.Gen Cert.AttnReferenceIdeal.Read
open Idealize.ShloMosaic Idealize.ShloMosaic.TcCoe
open Cert.Reals Cert.AttnMath Cert.AttnFits Cert.AttnBucket Cert.AttnAxes

variable {x0 : FVec Ideal S8192x1792 .f32} {x1 : FVec Ideal S8192x512 .f32} {x2 : FVec Ideal S32x8 .f32} {x3 : FVec Ideal S8 .f32}
  {x4 x5 : FVec Ideal S64 .f32} {D : Data} (H : IsData x0 x1 x2 x3 x4 x5 D)

include H

theorem dsink_at (k : Fin 2) (g : Fin 4) :
    val_main_v281 (F := Ideal) x0 x1 x2 x3 x4 x5 (ix1 (head k g))
      = ((∑ n : Fin 64, ∑ q : Fin 128, -((D.group n.val k).ps (rr g q) * (D.group n.val k).delta (rr g q)) : ℝ) : EReal) := by
  have e1 : ∀ e : Fin 1, val_main_v259 (F := Ideal) x0 x1 x2 x3 x4 x5 (ix3 k g e)
      = ((∑ n : Fin 64, ∑ q : Fin 128, -((D.group n.val k).ps (rr g q) * (D.group n.val k).delta (rr g q)) : ℝ) : EReal) := fun e => by
    refine (sum_r5_a03 _ _ _ k g e).trans ?_
    simp only [sinkTerm_raw H, Group.sink_eq, coe_sum]
    pointwise [val_main_cst_94]
  have e2 : ∀ e : Fin 1, val_main_v271 (F := Ideal) x0 x1 x2 x3 x4 x5 (ix3 k g e) = 0 := fun e => by
    refine (sum_r5_a03 _ _ _ k g e).trans ?_
    simp only [zero_mul_sink H, Finset.sum_const_zero]
    pointwise [val_main_cst_97]
  have e3 : val_main_v280 (F := Ideal) x0 x1 x2 x3 x4 x5 (ix2 k g)
      = ((∑ n : Fin 64, ∑ q : Fin 128, -((D.group n.val k).ps (rr g q) * (D.group n.val k).delta (rr g q)) : ℝ) : EReal) := by
    refine (sum_r5_a034 _ _ _ k g).trans ?_
    pointwise [val_main_cst_99, val_main_v272, val_main_v273, val_main_v260]
    simp only [e1, e2, Finset.univ_unique, Finset.sum_singleton, add_zero]
  pointwise [val_main_v281]
  refine (congrArg (val_main_v280 (F := Ideal) x0 x1 x2 x3 x4 x5) (congrArg₂ ix2 (Fin.ext ?_) (Fin.ext ?_))).trans e3
  · exact head_div k g
  · exact head_mod k g

end Cert.AttnReferenceIdeal.RefValue

end
-- ==== Proof.AttnRefOut.lean ====
/-
  The attention reference's four results, as real numbers.
-/
module

public import proofs.«01_k».proof.Proof.AttnRefBack
public import proofs.«01_k».proof.Proof.AttnRefSink

@[expose] public section

set_option maxRecDepth 16384

noncomputable section

namespace Cert.AttnReferenceIdeal.RefValue

open Cert.AttnReferenceIdeal Cert.AttnReferenceIdeal.Gen Cert.AttnReferenceIdeal.Read
open Idealize.ShloMosaic Idealize.ShloMosaic.TcCoe
open Cert.Reals Cert.AttnMath Cert.AttnFits Cert.AttnBucket Cert.AttnAxes

theorem zero_word : FloatOps.sitofp (F := Ideal) FTy.f32 (0#32) = ((0 : ℝ) : EReal) := by
  show ((((0#32 : BitVec 32).toInt : ℤ) : ℝ) : EReal) = _
  simp

theorem mulf_coe (a b : ℝ) : FloatOps.mulf (F := Ideal) (φ := FTy.f32) (a : EReal) (b : EReal) = ((a * b : ℝ) : EReal) :=
  (EReal.coe_mul a b).symm

theorem group_q (D : Data) (n : Fin 64) (k : Fin 2) (g : Fin 4) (q : Fin 128) :
    (D.group n.val k).q (rr g q) = qr D (tok n q).val (head k g).val := by
  funext e
  simp only [Data.group, rr_mod, rr_div, tok, head, qr]
  exact congrArg (D.z _) (by omega)

/-- The sinks' gradient, block by block, in the lane of its head. -/
theorem dsk_eq (D : Data) (k : Fin 2) (g : Fin 4) (j : Fin 128) (hj : j.val = 4 * k.val + g.val) (n : ℕ) :
    D.dsk n j = ∑ q : Fin 128, -((D.group n k).ps (rr g q) * (D.group n k).delta (rr g q)) := by
  rw [Data.dsk, Finset.sum_eq_single k (fun k' _ hk => Finset.sum_eq_zero fun h _ => if_neg (fun e => hk (Fin.ext (by omega))))
    (fun h => absurd (Finset.mem_univ _) h), Finset.sum_eq_single g (fun g' _ hg => if_neg (fun e => hg (Fin.ext (by omega))))
    (fun h => absurd (Finset.mem_univ _) h), if_pos hj, ← Finset.sum_neg_distrib]
  rfl

theorem dsk_zero (D : Data) (j : Fin 128) (hj : 8 ≤ j.val) (n : ℕ) : D.dsk n j = 0 :=
  Finset.sum_eq_zero fun k _ => Finset.sum_eq_zero fun h _ => if_neg (by omega)

variable {x0 : FVec Ideal S8192x1792 .f32} {x1 : FVec Ideal S8192x512 .f32} {x2 : FVec Ideal S32x8 .f32} {x3 : FVec Ideal S8 .f32}
  {x4 x5 : FVec Ideal S64 .f32} {D : Data} (H : IsData x0 x1 x2 x3 x4 x5 D)

include H

theorem dq_out (T : Fin 8192) (j : Fin 512) :
    val_main_v368 (F := Ideal) x0 x1 x2 x3 x4 x5 (ix2 T j) = (D.dqAt T.val j.val : EReal) := by
  pointwise [val_main_v368, val_main_v353]
  refine Eq.trans (congrArg (val_main_v352 (F := Ideal) x0 x1 x2 x3 x4 x5) ?_)
    (dq_token H ⟨T.val / 128, by omega⟩ ⟨j.val / 256 % 2, by omega⟩ ⟨j.val % 256 / 64, by omega⟩ ⟨T.val % 128, by omega⟩ ⟨j.val % 64, by omega⟩)
  exact congr (congrArg₂ ix3 (Fin.ext (by simp only [tok]; omega)) (Fin.ext (by simp only [head]; omega))) rfl

theorem kv_out (i : Fin 8704) (j : Fin 256) (h0 : 128 ≤ i.val) (h1 : i.val < 8320) :
    val_main_v369 (F := Ideal) x0 x1 x2 x3 x4 x5 (ix2 i j) = (D.dkvAt (i.val - 128) j.val : EReal) := by
  pointwise [val_main_v369, val_main_c_115, val_main_call33_v0, val_main_v355, val_main_v354, val_main_v332, val_main_v311]
  refine (dif_pos ⟨h0, by omega⟩).trans ?_
  by_cases hj : j.val < 128
  · refine (dif_pos hj).trans ((congrArg (val_main_v331 (F := Ideal) x0 x1 x2 x3 x4 x5) ?_).trans
      ((dk_token H ⟨(i.val - 128) / 128, by omega⟩ ⟨(i.val - 128) % 128, by omega⟩ ⟨j.val / 64 % 2, by omega⟩ ⟨j.val % 64, by omega⟩).trans
        (congrArg Real.toEReal (if_pos hj).symm)))
    exact congr (congrArg₂ ix3 (Fin.ext (by simp only [tok]; omega)) (Fin.ext (by dsimp only; omega))) rfl
  · refine (dif_neg hj).trans ((congrArg (val_main_v300 (F := Ideal) x0 x1 x2 x3 x4 x5) ?_).trans
      ((dv_token H ⟨(i.val - 128) / 128, by omega⟩ ⟨(i.val - 128) % 128, by omega⟩ ⟨j.val / 64 % 2, by omega⟩ ⟨j.val % 64, by omega⟩).trans
        (congrArg Real.toEReal (if_neg hj).symm)))
    exact congr (congrArg₂ ix3 (Fin.ext (by simp only [tok]; omega)) (Fin.ext (by dsimp only; omega))) (Fin.ext (by dsimp only; omega))

theorem bias_out (k : Fin 2) (r : Fin 512) (c : Fin 128) :
    val_main_v359 (F := Ideal) x0 x1 x2 x3 x4 x5 (ix3 k r c) = (D.bias 64 k r c : EReal) := by
  pointwise [val_main_v310, val_main_v356, val_main_v357, val_main_v358, val_main_v359]
  have e : ∀ (a : Fin 4) (b : Fin 128) (s : Fin 256) (s' : Fin 256), a.val = r.val / 128 → b.val = r.val % 128 → s' = s →
      val_main_v285 (F := Ideal) x0 x1 x2 x3 x4 x5 (ix4 k a b s')
        = ((∑ n : Fin 64, (D.group n.val k).dsB ⟨r.val / 128, by omega⟩ ⟨r.val % 128, by omega⟩ s : ℝ) : EReal) := fun a b s s' ha hb hs => by
    rw [dbias_at H, hs, show a = ⟨r.val / 128, by omega⟩ from Fin.ext ha, show b = ⟨r.val % 128, by omega⟩ from Fin.ext hb]
  refine (congrArg₂ (· + ·) (e _ _ (lo c) _ (by dsimp only; omega) rfl rfl) (e _ _ (hi c) _ (by dsimp only; omega) rfl rfl)).trans ?_
  refine (EReal.coe_add _ _).symm.trans (congrArg Real.toEReal ?_)
  rw [← Finset.sum_add_distrib, Data.bias, ← Fin.sum_univ_eq_sum_range (fun i => D.ds i k r c) 64]
  refine Finset.sum_congr rfl fun n _ => ?_
  rw [Group.ds_split]
  exact congrArg (fun r => (D.group n.val k).ds r c) (Fin.ext (by simp only [rr]; omega))

theorem dqg_out (d : Fin 64) :
    val_main_v338 (F := Ideal) x0 x1 x2 x3 x4 x5 (ix1 d) = ((∑ i ∈ Finset.range 64, D.dqg i d : ℝ) : EReal) := by
  have e : val_main_v334 (F := Ideal) x0 x1 x2 x3 x4 x5 (ix1 d) = ((∑ i ∈ Finset.range 64, D.dqg i d : ℝ) : EReal) := by
    refine (sum_r3_a01 _ _ _ d).trans ?_
    pointwise [val_main_cst_110]
    simp only [sum_tokens, sum_heads, val_main_v333_apply, qhat_at H, dqn_token H, mulf_coe, coe_sum]
    refine congrArg Real.toEReal ?_
    rw [← Fin.sum_univ_eq_sum_range (fun i => D.dqg i d) 64]
    refine Finset.sum_congr rfl fun n _ => ?_
    simp only [Data.dqg, Group.dqg, sum_rows, group_q]
    rw [Finset.sum_comm]
    refine Finset.sum_congr rfl fun k _ => ?_
    rw [Finset.sum_comm]
    exact Finset.sum_congr rfl fun g _ => Finset.sum_congr rfl fun q _ => mul_comm _ _
  refine (sum_r3_a01 _ _ _ d).trans ?_
  pointwise [val_main_v335, val_main_cst_111]
  simp only [e, Finset.univ_unique, Finset.sum_singleton]

theorem dkg_out (d : Fin 64) :
    val_main_v317 (F := Ideal) x0 x1 x2 x3 x4 x5 (ix1 d) = ((∑ i ∈ Finset.range 64, D.dkg i d : ℝ) : EReal) := by
  have e : val_main_v313 (F := Ideal) x0 x1 x2 x3 x4 x5 (ix1 d) = ((∑ i ∈ Finset.range 64, D.dkg i d : ℝ) : EReal) := by
    refine (sum_r3_a01 _ _ _ d).trans ?_
    pointwise [val_main_cst_105]
    simp only [sum_tokens, val_main_v312_apply, khat_at H, dkn_token H, mulf_coe, coe_sum]
    refine congrArg Real.toEReal ?_
    rw [← Fin.sum_univ_eq_sum_range (fun i => D.dkg i d) 64]
    refine Finset.sum_congr rfl fun n _ => ?_
    rw [Data.dkg, Finset.sum_comm]
    exact Finset.sum_congr rfl fun k _ => Finset.sum_congr rfl fun c _ => mul_comm _ _
  refine (sum_r3_a01 _ _ _ d).trans ?_
  pointwise [val_main_v314, val_main_cst_106]
  simp only [e, Finset.univ_unique, Finset.sum_singleton]

theorem small_out (r : Fin 8) (j : Fin 128) :
    val_main_v367 (F := Ideal) x0 x1 x2 x3 x4 x5 (ix2 r j) = (D.small 64 64 r j : EReal) := by
  pointwise [val_main_c_116, val_main_call34_v0, val_main_v360, val_main_v361, val_main_c_117, val_main_call35_v0, val_main_v362, val_main_v363, val_main_c_118, val_main_call36_v0, val_main_v364, val_main_v365, val_main_cst_119, val_main_v366, val_main_v367]
  unfold Data.small
  by_cases h0 : r.val = 0
  · refine (dif_pos (by omega)).trans (Eq.trans ?_ (congrArg Real.toEReal (if_pos h0).symm))
    by_cases hj : j.val < 64
    · refine (dif_pos hj).trans ((dqg_out H _).trans (congrArg Real.toEReal (Eq.trans ?_ (if_pos hj).symm)))
      exact Finset.sum_congr rfl fun i _ => congrArg (D.dqg i) (Fin.ext (by dsimp only; omega))
    · exact (dif_neg hj).trans (zero_word.trans (congrArg Real.toEReal (if_neg hj).symm))
  refine (dif_neg (by omega)).trans (Eq.trans ?_ (congrArg Real.toEReal (if_neg h0).symm))
  by_cases h1 : r.val = 1
  · refine (dif_pos (by omega)).trans (Eq.trans ?_ (congrArg Real.toEReal (if_pos h1).symm))
    by_cases hj : j.val < 64
    · refine (dif_pos hj).trans ((dkg_out H _).trans (congrArg Real.toEReal (Eq.trans ?_ (if_pos hj).symm)))
      exact Finset.sum_congr rfl fun i _ => congrArg (D.dkg i) (Fin.ext (by dsimp only; omega))
    · exact (dif_neg hj).trans (zero_word.trans (congrArg Real.toEReal (if_neg hj).symm))
  refine (dif_neg (by omega)).trans (Eq.trans ?_ (congrArg Real.toEReal (if_neg h1).symm))
  by_cases h2 : r.val = 2
  · refine (dif_pos (by omega)).trans (Eq.trans ?_ (congrArg Real.toEReal (if_pos h2).symm))
    by_cases hj : j.val < 8
    · refine (dif_pos hj).trans ((congrArg (val_main_v281 (F := Ideal) x0 x1 x2 x3 x4 x5) (congrArg ix1 (Fin.ext ?_))).trans
        ((dsink_at H ⟨j.val / 4, by omega⟩ ⟨j.val % 4, by omega⟩).trans (congrArg Real.toEReal ?_)))
      · simp only [head]; omega
      · rw [← Fin.sum_univ_eq_sum_range (fun i => D.dsk i j) 64]
        exact Finset.sum_congr rfl fun n _ => (dsk_eq D ⟨j.val / 4, by omega⟩ ⟨j.val % 4, by omega⟩ j (by dsimp only; omega) n.val).symm
    · refine (dif_neg hj).trans (zero_word.trans (congrArg Real.toEReal ?_))
      exact (Finset.sum_eq_zero fun i _ => dsk_zero D j (by omega) i).symm
  · exact (dif_neg (by omega)).trans (congrArg Real.toEReal (if_neg h2).symm)

end Cert.AttnReferenceIdeal.RefValue

end
-- ==== Proof.AttnClaim.lean ====
/-
  The claims about the attention's backward kernel: its arrays are the derivative of the plain forward lines, on the
  rows that hold tokens.
-/
module

public import proofs.«01_k».proof.Defs
public import proofs.«01_k».proof.Proof.AttnFinal
public import proofs.«01_k».proof.Proof.AttnKernelFrame
public import proofs.«01_k».proof.Proof.AttnRefOut
public import proofs.«01_k».proof.Proof.Gen.AttnKernelIdeal
public import proofs.«01_k».proof.Proof.Gen.AttnReferenceIdeal
public import proofs.«01_k».proof.Proof.Gen.AttnReferenceIdeal.Run
public import proofs.«01_k».proof.Proof.Gen.Pre_all_finite
public import proofs.«01_k».proof.Proof.Gen.On_tokens_only

@[expose] public section

set_option maxRecDepth 16384

noncomputable section

open Idealize.ShloMosaic Idealize.ShloMosaic.TcCoe Idealize.SL.Sem

namespace Cert.AttnKernelIdeal.RefValue

open Cert.AttnKernelIdeal.AttnFrame Cert.AttnKernelIdeal.AttnFinal Cert.AttnMath Cert.AttnFits

/-- Real arguments are the real data of some `D`, on every device. -/
theorem fit (m : (ℓ : Loc Cert.AttnKernelIdeal.nD Cert.AttnKernelIdeal.τ Cert.AttnKernelIdeal.sig) → Buf (Elt Ideal) ℓ)
    (h : Cert.Pre_AttnKernelIdeal_all_finite m) (c : Dev Cert.AttnKernelIdeal.nD) : ∃ D : Data, AttnBlocks.Fit m c D := by
  obtain ⟨h0, h1, h2, h3, h4, h5⟩ := h c
  exact exists_fits (fun i j => Cert.Reals.of_abs_lt (congrFun h0 _)) (fun i j => Cert.Reals.of_abs_lt (congrFun h1 _))
    (fun i j => Cert.Reals.of_abs_lt (congrFun h2 _)) (fun i => Cert.Reals.of_abs_lt (congrFun h3 _))
    (fun i => Cert.Reals.of_abs_lt (congrFun h4 _)) (fun i => Cert.Reals.of_abs_lt (congrFun h5 _))

/-- The rows compared of the key and value array are those that hold tokens. -/
theorem on_rows (x0 : FVec Ideal Cert.On_tokens_only.S8192x1792 .f32) (x1 : FVec Ideal Cert.On_tokens_only.S8192x512 .f32)
    (x2 : FVec Ideal Cert.On_tokens_only.S32x8 .f32) (x3 : FVec Ideal Cert.On_tokens_only.S8 .f32)
    (x4 x5 : FVec Ideal Cert.On_tokens_only.S64 .f32) (i : Cert.On_tokens_only.S8704x256.Idx)
    (h : (Cert.On_tokens_only.fn (F := Ideal) x0 x1 x2 x3 x4 x5).2.1 i = 1#1) : 128 ≤ (i 0).val ∧ (i 0).val < 8320 := by
  replace h : IntOp.andi (IntOp.cmpi .sge (BitVec.ofNat 32 (i 0).val) 128#32) (IntOp.cmpi .slt (BitVec.ofNat 32 (i 0).val) 8320#32) = 1#1 := h
  have hi : (i 0).val < 8704 := (i 0).isLt
  generalize (i 0).val = n at h hi ⊢
  word_cmp at h

theorem frame_ref : Cert.quiescent_AttnReferenceIdeal := fun m ρ _ =>
  (θ_run Cert.AttnReferenceIdeal.defs _ _).mono
    (fun r h => ⟨fun c => (h c).2.2.2.2, sem_eq_zero_of_no_sems (by decide) r.2⟩)
    (Cert.AttnReferenceIdeal.Value.run (F := Ideal) m ρ)

/-- On real arrays the kernel leaves the derivative of the plain forward lines. -/
theorem algebraic : Cert.algebraic_AttnKernelIdeal_AttnReferenceIdeal_on_tokens_only_pre_all_finite := by
  intro m ρ m' ρ' hpre hag
  choose D H using fit m hpre
  refine ⟨fun c => dqArr (D c), fun c => kvArr (D c), fun c => biasArr (D c), fun c => smallArr (D c), ?_, ?_⟩
  · refine (θ_run Cert.AttnKernelIdeal.defs _ _).mono (fun r h c => ?_) (run_main m ρ)
    obtain ⟨e0, e1, e2, e3⟩ := final (H c) h.1
    exact ⟨fun i _ => congrFun e0 i, fun i hi => (on_rows _ _ _ _ _ _ i hi).elim (e1 i), fun i _ => congrFun e2 i, fun i _ => congrFun e3 i, args_kept m (fun c => (dats m 0 c).toRRel marked (rel m c)) (A_eq m) h.1 c⟩
  · refine (θ_run Cert.AttnReferenceIdeal.defs _ _).mono (fun _ h c => ?_) (Cert.AttnReferenceIdeal.Value.run (F := Ideal) m' ρ')
    have hD : Cert.AttnReferenceIdeal.RefValue.IsData (m' ((c.tc : Thread Cert.AttnReferenceIdeal.nD Cert.AttnReferenceIdeal.τ).loc Cert.AttnReferenceIdeal.main_arg0))
        (m' ((c.tc : Thread Cert.AttnReferenceIdeal.nD Cert.AttnReferenceIdeal.τ).loc Cert.AttnReferenceIdeal.main_arg1))
        (m' ((c.tc : Thread Cert.AttnReferenceIdeal.nD Cert.AttnReferenceIdeal.τ).loc Cert.AttnReferenceIdeal.main_arg2))
        (m' ((c.tc : Thread Cert.AttnReferenceIdeal.nD Cert.AttnReferenceIdeal.τ).loc Cert.AttnReferenceIdeal.main_arg3))
        (m' ((c.tc : Thread Cert.AttnReferenceIdeal.nD Cert.AttnReferenceIdeal.τ).loc Cert.AttnReferenceIdeal.main_arg4))
        (m' ((c.tc : Thread Cert.AttnReferenceIdeal.nD Cert.AttnReferenceIdeal.τ).loc Cert.AttnReferenceIdeal.main_arg5)) (D c) := by
      rw [(hag c).1, (hag c).2.1, (hag c).2.2.1, (hag c).2.2.2.1, (hag c).2.2.2.2.1, (hag c).2.2.2.2.2]
      exact H c
    refine ⟨fun i _ => congrFun ((h c).1.trans ((Cert.AttnReferenceIdeal.Read.val_main_v368_eq _).trans (funext fun j => ?_))) i,
      fun i hi => (congrFun ((h c).2.1.trans (Cert.AttnReferenceIdeal.Read.val_main_v369_eq _)) i).trans ?_,
      fun i _ => congrFun ((h c).2.2.1.trans ((Cert.AttnReferenceIdeal.Read.val_main_v359_eq _).trans (funext fun j => ?_))) i,
      fun i _ => congrFun ((h c).2.2.2.1.trans ((Cert.AttnReferenceIdeal.Read.val_main_v367_eq _).trans (funext fun j => ?_))) i, (h c).2.2.2.2⟩
    · idx_vars j
      exact Cert.AttnReferenceIdeal.RefValue.dq_out hD _ _
    · obtain ⟨a, b⟩ := on_rows _ _ _ _ _ _ i hi
      idx_vars i
      exact Cert.AttnReferenceIdeal.RefValue.kv_out hD _ _ a b
    · idx_vars j
      exact Cert.AttnReferenceIdeal.RefValue.bias_out hD _ _ _
    · idx_vars j
      exact Cert.AttnReferenceIdeal.RefValue.small_out hD _ _

end Cert.AttnKernelIdeal.RefValue

end
-- ==== Proof.LossValue.lean ====
/-
  The loss and its gradient: what the call leaves in its three result arrays, and that the plain forward lines and their
  derivative are the same arrays.
-/
module
public import proofs.«01_k».proof.Proof.Gen.LossKernelIdeal.Value
public import proofs.«01_k».proof.Proof.Gen.LossReferenceIdeal.Read
public import proofs.«01_k».proof.Proof.Reals
public import Idealize.ShloMosaic.Lib.Pipeline.ValueKit
public import Idealize.ShloMosaic.Lib.Pointwise
public import Idealize.ShloMosaic.Lib.Claim
@[expose] public section
set_option maxRecDepth 16384
noncomputable section

open Idealize.ShloMosaic Idealize.ShloMosaic.TcCoe Idealize.SL.Sem
open Idealize.ShloMosaic.Pipeline (Dat)
namespace Cert.LossKernelIdeal.RefValue
open Cert.LossKernelIdeal Cert.LossKernelIdeal.Gen Cert.Reals
variable (m : (ℓ : Loc nD τ sig) → Buf (Elt Ideal) ℓ)

theorem idx : ∀ t : Fin cfg0.N, win0_0.index t = ![t.val, 0] ∧ win0_1.index t = ![t.val, 0] ∧ win0_2.index t = ![t.val, 0, 0]
    ∧ win0_3.index t = ![t.val, 0] ∧ win0_4.index t = ![t.val, 0] :=
  (by decide +kernel : ∀ t : Fin grid0.N, _)

theorem word_half : Ideal.ofBits .f32 0x3F000000#32 = ((1 / 2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

/-- One half of a sum is the sum of the halves, of any extended reals. -/
theorem half_sum {n : ℕ} (f : Fin n → EReal) : ((1 / 2 : ℝ) : EReal) * ∑ i, f i = ∑ i, ((1 / 2 : ℝ) : EReal) * f i := by
  have h : ∀ s : Finset (Fin n), ((1 / 2 : ℝ) : EReal) * ∑ i ∈ s, f i = ∑ i ∈ s, ((1 / 2 : ℝ) : EReal) * f i := fun s => by
    classical
    induction s using Finset.induction_on with
    | empty => simp
    | insert a s ha ih =>
      rw [Finset.sum_insert ha, Finset.sum_insert ha, EReal.left_distrib_of_nonneg_of_ne_top
        (by exact_mod_cast (by norm_num : (0 : ℝ) ≤ 1 / 2)) (EReal.coe_ne_top _), ih]
  exact h _

/-- A token's mean square error. -/
def tok (y t : FVec Ideal S8192x1024 .f32) (r : Fin 8192) : EReal :=
  Ideal.div (∑ k : Fin 1024, (y (ix2 r k) - t (ix2 r k)) * (y (ix2 r k) - t (ix2 r k))) ((1024 : ℝ) : EReal)

/-- Each tile's loss, in every lane. -/
def partArr (y t : FVec Ideal S8192x1024 .f32) : FVec Ideal S16x1x128 .f32 := fun i =>
  ((1 / 2 : ℝ) : EReal) * ∑ r : Fin 512, tok y t ⟨(i 0).val * 512 + r.val, by have : (i 0).val < 16 := (i 0).isLt; omega⟩

/-- The gradient. -/
def dyArr (y t : FVec Ideal S8192x1024 .f32) : FVec Ideal S8192x1024 .f32 := fun i =>
  Ideal.div (y i - t i) ((1024 : ℝ) : EReal)

theorem lt16 (t : Fin cfg0.N) : t.val < 16 := lt_of_lt_of_eq t.isLt (show cfg0.N = 16 from N_0)

abbrev row (t : Fin cfg0.N) (r : Fin 512) : Fin 8192 := ⟨t.val * 512 + r.val, by have := lt16 t; omega⟩

theorem blk0 (c : Dev nD) (t : Fin cfg0.N) (r : Fin 512) (k : Fin 1024) :
    iblk m c 0 t (ix2 r k) = m ((c : Thread nD τ).loc main_arg0) (ix2 (row t r) k) := by
  blk_point [iblk, V, idx t]

theorem blk1 (c : Dev nD) (t : Fin cfg0.N) (r : Fin 512) (k : Fin 1024) :
    iblk m c 1 t (ix2 r k) = m ((c : Thread nD τ).loc main_arg1) (ix2 (row t r) k) := by
  blk_point [iblk, V, idx t]

theorem final2 (c : Dev nD) : (dats m 0 c).arrAt 2 cfg0.N
    = partArr (m ((c : Thread nD τ).loc main_arg0)) (m ((c : Thread nD τ).loc main_arg1)) := by
  refine (dats m 0 c).arrAt_eq_of_covers 2 _ (by decide +kernel) fun t _ y => ?_
  blk_simp
  rw [after0_2]
  change S1x1x128.Idx at y
  idx_vars y
  have e : ((cfg0.win 2).blk t).view.emb (ix3 y0 y1 y2) = ix3 ⟨t.val, lt16 t⟩ 0 y2 := by blk_ext [idx t]
  rw [e]
  frame_out
  unfold_payloads
  pointwise [partArr, tok]
  simp only [blk0, blk1, word_half, word_1024, Finset.univ_unique, Finset.sum_singleton]

theorem final3 (c : Dev nD) : (dats m 0 c).arrAt 3 cfg0.N
    = dyArr (m ((c : Thread nD τ).loc main_arg0)) (m ((c : Thread nD τ).loc main_arg1)) := by
  refine (dats m 0 c).arrAt_eq_of_covers 3 _ (by decide +kernel) fun t _ y => ?_
  blk_simp
  rw [after0_3]
  change S512x1024.Idx at y
  idx_vars y
  have e : ((cfg0.win 3).blk t).view.emb (ix2 y0 y1) = ix2 (row t y0) y1 := by blk_ext [idx t]
  rw [e]
  frame_out
  unfold_payloads
  pointwise [dyArr]
  simp only [blk0, blk1, word_1024]

theorem final4 (c : Dev nD) : (dats m 0 c).arrAt 4 cfg0.N
    = dyArr (m ((c : Thread nD τ).loc main_arg0)) (m ((c : Thread nD τ).loc main_arg1)) := by
  refine (dats m 0 c).arrAt_eq_of_covers 4 _ (by decide +kernel) fun t _ y => ?_
  blk_simp
  rw [after0_4]
  change S512x1024.Idx at y
  idx_vars y
  have e : ((cfg0.win 4).blk t).view.emb (ix2 y0 y1) = ix2 (row t y0) y1 := by blk_ext [idx t]
  rw [e]
  frame_out
  unfold_payloads
  pointwise [dyArr]
  simp only [blk0, blk1, word_1024]

open Cert.LossReferenceIdeal.Read

/-- The reference's tile losses. -/
theorem ref_part (y t : FVec Ideal S8192x1024 .f32) : val_main_v19 (F := Ideal) y t = partArr y t := by
  funext j
  idx_vars j
  pointwise [val_main_v0, val_main_v1, val_main_cst_0, val_main_v4, val_main_cst_1, val_main_v5, val_main_v6, val_main_cst_2, val_main_v7, val_main_v8, val_main_v16, val_main_cst_6, val_main_v17, val_main_v18, val_main_v19, partArr, tok]
  simp only [half_sum, word_half, word_1024]

/-- The reference's gradient. -/
theorem ref_dy (y t : FVec Ideal S8192x1024 .f32) : val_main_v15 (F := Ideal) y t = dyArr y t := by
  funext j
  idx_vars j
  pointwise [val_main_v0, val_main_cst, val_main_v2, val_main_v3, val_main_cst_3, val_main_v9, val_main_cst_4, val_main_v10, val_main_v11, val_main_cst_5, val_main_v12, val_main_v13, val_main_v14, val_main_v15, dyArr]
  generalize y (ix2 j0 j1) - t (ix2 j0 j1) = d
  simp only [word_half, word_1024, word_two, mul_one]
  rw [div_real (by norm_num), Ideal.div_coe (by norm_num), ← mul_assoc, ← EReal.coe_mul, mul_comm]
  norm_num

theorem ref_dy' (y t : FVec Ideal S8192x1024 .f32) : val_main_v20 (F := Ideal) y t = dyArr y t := by
  rw [← ref_dy]
  rfl

end Cert.LossKernelIdeal.RefValue
-- ==== Proof.LossClaim.lean ====
/-
  The claims about the loss and its gradient.
-/
module

public import proofs.«01_k».proof.Defs
public import proofs.«01_k».proof.Proof.LossValue
public import proofs.«01_k».proof.Proof.Gen.LossKernelIdeal
public import proofs.«01_k».proof.Proof.Gen.LossReferenceIdeal

@[expose] public section

set_option maxRecDepth 16384

noncomputable section

open Idealize.ShloMosaic Idealize.ShloMosaic.TcCoe Idealize.SL.Sem

namespace Cert.LossKernelIdeal.RefValue

theorem frame_ref : Cert.quiescent_LossReferenceIdeal := fun m ρ _ =>
  (θ_run Cert.LossReferenceIdeal.defs _ _).mono
    (fun r h => ⟨fun c => (h c).2.2.2, sem_eq_zero_of_no_sems (by decide) r.2⟩)
    (Cert.LossReferenceIdeal.Value.run (F := Ideal) m ρ)

/-- On any arrays the kernel leaves the tiles' losses and the derivative of the plain forward lines. -/
theorem algebraic : Cert.algebraic_LossKernelIdeal_LossReferenceIdeal := by
  intro m ρ m' ρ' hpre hag
  refine ⟨fun c => partArr (m ((c : Thread nD τ).loc main_arg0)) (m ((c : Thread nD τ).loc main_arg1)),
    fun c => dyArr (m ((c : Thread nD τ).loc main_arg0)) (m ((c : Thread nD τ).loc main_arg1)),
    fun c => dyArr (m ((c : Thread nD τ).loc main_arg0)) (m ((c : Thread nD τ).loc main_arg1)), ?_, ?_⟩
  · exact (θ_run Cert.LossKernelIdeal.defs _ _).mono
      (fun _ h c => ⟨(h c).1.trans (final2 m c), (h c).2.1.trans (final3 m c), (h c).2.2.1.trans (final4 m c), (h c).2.2.2⟩)
      (Cert.LossKernelIdeal.Value.run_blocks (F := Ideal) m ρ)
  · refine (θ_run Cert.LossReferenceIdeal.defs _ _).mono
      (fun _ h c => ⟨(h c).1.trans ?_, (h c).2.1.trans ?_, (h c).2.2.1.trans ?_, (h c).2.2.2⟩)
      (Cert.LossReferenceIdeal.Value.run (F := Ideal) m' ρ')
    · refine (Cert.LossReferenceIdeal.Read.val_main_v19_eq _ _).trans ?_
      rw [(hag c).1, (hag c).2]
      exact ref_part _ _
    · refine (Cert.LossReferenceIdeal.Read.val_main_v15_eq _ _).trans ?_
      rw [(hag c).1, (hag c).2]
      exact ref_dy _ _
    · refine (Cert.LossReferenceIdeal.Read.val_main_v20_eq _ _).trans ?_
      rw [(hag c).1, (hag c).2]
      exact ref_dy' _ _

end Cert.LossKernelIdeal.RefValue
-- ==== Proof.MixMath.lean ====
/-
  The backward step of the mixer's output over real numbers: the two row norms, the norm with a mean, the gate, and that the
  gradients by the chain rule are those by the closed formulas.
-/
module

public import proofs.«01_k».proof.Proof.Reals

@[expose] public section

noncomputable section

open Idealize.ShloMosaic

namespace Cert.MixMath

open Cert.Reals

theorem word_512 : Ideal.ofBits .f32 0x44000000#32 = ((512 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem div_512 (x : ℝ) : Ideal.div (x : EReal) (Ideal.ofBits .f32 0x44000000#32) = ((x / 512 : ℝ) : EReal) := by
  rw [word_512, div_real (by norm_num)]

/-- The mean square of a row and the small constant. -/
def sq (x : Fin 512 → ℝ) : ℝ := (∑ k, x k * x k) / 512 + eps

theorem sq_pos (x : Fin 512 → ℝ) : 0 < sq x := by
  have := eps_pos
  have : 0 ≤ ∑ k, x k * x k := Finset.sum_nonneg fun k _ => mul_self_nonneg _
  unfold sq
  positivity

/-- The factor that a norm multiplies a row by, and the row so normed. -/
def inv (x : Fin 512 → ℝ) : ℝ := (Real.sqrt (sq x))⁻¹
def hat (x : Fin 512 → ℝ) (l : Fin 512) : ℝ := x l * inv x

theorem inv_inv (x : Fin 512 → ℝ) : inv x * inv x = (sq x)⁻¹ := by
  rw [inv, ← mul_inv, Real.mul_self_sqrt (sq_pos x).le]

theorem sq_coe (x : Fin 512 → ℝ) :
    Ideal.div (∑ k, (x k : EReal) * (x k : EReal)) (Ideal.ofBits .f32 0x44000000#32) + Ideal.ofBits .f32 0x358637BD#32
      = (sq x : EReal) := by
  simp only [← EReal.coe_mul]
  rw [coe_sum, div_512, word_eps, ← EReal.coe_add]; rfl

theorem rsqrt_sq (x : Fin 512 → ℝ) : Ideal.rsqrt (sq x : EReal) = (inv x : EReal) := rsqrt_pos (sq_pos x)

/-- The gradient of a row norm with respect to its input, `w` being the cotangent times the norm's weight. -/
def rms (x w : Fin 512 → ℝ) (l : Fin 512) : ℝ := inv x * (w l - hat x l * ((∑ k, w k * hat x k) / 512))

/-- The factor of the chain rule through a mean square. -/
def through (x d : Fin 512 → ℝ) : ℝ := (∑ k, x k * d k) * (-(1 / 2) * (inv x / sq x)) / 512

theorem sum_hat (x w : Fin 512 → ℝ) : ∑ k, w k * hat x k = (∑ k, x k * w k) * inv x := by
  rw [Finset.sum_mul]; exact Finset.sum_congr rfl fun k _ => by rw [hat]; ring

theorem rms_chain (x d : Fin 512 → ℝ) (l : Fin 512) :
    d l * inv x + x l * through x d + through x d * x l = rms x d l := by
  rw [rms, sum_hat, through, hat, div_eq_mul_inv (inv x), ← inv_inv]
  ring

/-- A row less its mean. -/
def cen (y : Fin 512 → ℝ) (l : Fin 512) : ℝ := y l - (∑ k, y k) / 512

theorem sum_cen (y : Fin 512 → ℝ) : ∑ k, cen y k = 0 := by
  simp only [cen, Finset.sum_sub_distrib, Finset.sum_const, Finset.card_univ, Fintype.card_fin, nsmul_eq_mul]
  push_cast
  ring

/-- The gradient of the norm with a mean, `d` being the cotangent times the norm's weight. -/
def ln (y d : Fin 512 → ℝ) (l : Fin 512) : ℝ :=
  inv (cen y) * (d l - (∑ k, d k) / 512 - hat (cen y) l * ((∑ k, d k * hat (cen y) k) / 512))

theorem ln_chain (y d : Fin 512 → ℝ) (l : Fin 512) :
    d l * inv (cen y) + through (cen y) d * (2 * cen y l)
      + (∑ k, -(d k * inv (cen y)) + ∑ k, -(through (cen y) d * (2 * cen y k))) / 512 = ln y d l := by
  have e : ∑ k, -(through (cen y) d * (2 * cen y k)) = 0 := by
    rw [Finset.sum_neg_distrib, ← Finset.mul_sum, ← Finset.mul_sum, sum_cen]; simp
  have f : ∑ k, -(d k * inv (cen y)) = -((∑ k, d k) * inv (cen y)) := by rw [Finset.sum_neg_distrib, Finset.sum_mul]
  rw [e, f, ln, sum_hat, hat, through, div_eq_mul_inv (inv (cen y)), ← inv_inv]
  ring

/-- The logistic function. -/
def sg (z : ℝ) : ℝ := (1 + Real.exp (-z))⁻¹

theorem sg_coe (z : ℝ) : Ideal.logistic (z : EReal) = (sg z : EReal) := Ideal.logistic_coe z

/-- The normed row with its weight and its shift, and the gate of it. -/
def yn (y lg lb : Fin 512 → ℝ) (l : Fin 512) : ℝ := hat (cen y) l * lg l + lb l
def act (y lg lb : Fin 512 → ℝ) (l : Fin 512) : ℝ := yn y lg lb l * sg (yn y lg lb l)

/-- The slope of the gate. -/
def slope (z : ℝ) : ℝ := sg z * (1 + z * (1 - sg z))

/-- The arguments as real numbers: cotangent, weight, attention output, convolution output, its bias, the weights and shift of
    the norms. -/
structure Data where
  g : Fin 8192 → Fin 1024 → ℝ
  w : Fin 1024 → Fin 1024 → ℝ
  a : Fin 8192 → Fin 512 → ℝ
  conv : Fin 8192 → Fin 512 → ℝ
  cb : Fin 512 → ℝ
  lg : Fin 512 → ℝ
  lb : Fin 512 → ℝ
  ag : Fin 512 → ℝ
  cg : Fin 512 → ℝ

namespace Data
variable (D : Data)

/-- The convolution with its bias; its gate; the cotangents of the two normed halves. -/
def y (r : Fin 8192) (l : Fin 512) : ℝ := D.conv r l + D.cb l
def c (r : Fin 8192) : Fin 512 → ℝ := act (D.y r) D.lg D.lb
def z (r : Fin 8192) : Fin 512 → ℝ := yn (D.y r) D.lg D.lb
def dma (r : Fin 8192) (l : Fin 512) : ℝ := ∑ k, D.g r k * D.w ⟨l.val, by omega⟩ k
def dmc (r : Fin 8192) (l : Fin 512) : ℝ := ∑ k, D.g r k * D.w ⟨512 + l.val, by omega⟩ k

/-- The gradients with respect to the attention output, the normed convolution, the convolution. -/
def da (r : Fin 8192) : Fin 512 → ℝ := rms (D.a r) fun k => D.dma r k * D.ag k
def dyn (r : Fin 8192) (l : Fin 512) : ℝ := rms (D.c r) (fun k => D.dmc r k * D.cg k) l * slope (D.z r l)
def dy (r : Fin 8192) : Fin 512 → ℝ := ln (D.y r) fun k => D.dyn r k * D.lg k

/-- A row's part of the five vectors' gradients. -/
def term (s : Fin 8) (r : Fin 8192) (l : Fin 512) : ℝ :=
  if s.val = 0 then D.dma r l * hat (D.a r) l
  else if s.val = 1 then D.dmc r l * hat (D.c r) l
  else if s.val = 2 then D.dyn r l * hat (cen (D.y r)) l
  else if s.val = 3 then D.dyn r l
  else if s.val = 4 then D.dy r l
  else 0

end Data

/-- The argument arrays are the data. -/
structure Fits (x0 : Fin 8192 → Fin 1024 → EReal) (x1 : Fin 1024 → Fin 1024 → EReal) (x2 x3 : Fin 8192 → Fin 512 → EReal)
    (x4 x5 x6 x7 x8 : Fin 512 → EReal) (D : Data) : Prop where
  g : ∀ r k, x0 r k = (D.g r k : EReal)
  w : ∀ l k, x1 l k = (D.w l k : EReal)
  a : ∀ r l, x2 r l = (D.a r l : EReal)
  conv : ∀ r l, x3 r l = (D.conv r l : EReal)
  cb : ∀ l, x4 l = (D.cb l : EReal)
  lg : ∀ l, x5 l = (D.lg l : EReal)
  lb : ∀ l, x6 l = (D.lb l : EReal)
  ag : ∀ l, x7 l = (D.ag l : EReal)
  cg : ∀ l, x8 l = (D.cg l : EReal)

end Cert.MixMath

end
-- ==== Proof.MixStage.lean ====
/-
  The steps of the mixer output's backward call on blocks of real numbers.
-/
module

public import proofs.«01_k».proof.Proof.Gen.MixKernelIdeal.Skeleton
public import proofs.«01_k».proof.Proof.MixMath
public import Idealize.ShloMosaic.Lib.Pointwise
public import Idealize.ShloMosaic.Lib.Claim

@[expose] public section

set_option maxRecDepth 16384

noncomputable section

namespace Cert.MixKernelIdeal.RefValue

open Cert.MixKernelIdeal Cert.MixKernelIdeal.Gen
open Idealize.ShloMosaic Idealize.ShloMosaic.TcCoe
open Cert.Reals Cert.MixMath

/-- A block, a column and a row that hold given real numbers. -/
def Is (v : FVec Ideal S512x512 .f32) (f : Fin 512 → Fin 512 → ℝ) : Prop := ∀ r l, v (ix2 r l) = (f r l : EReal)
def IsCol (v : FVec Ideal S512x1 .f32) (f : Fin 512 → ℝ) : Prop := ∀ r e, v (ix2 r e) = (f r : EReal)
def IsRow (v : FVec Ideal S1x512 .f32) (f : Fin 512 → ℝ) : Prop := ∀ e l, v (ix2 e l) = (f l : EReal)

variable {v v14 v15 v26 v66 v70 v71 v72 v115 : FVec Ideal S512x512 .f32} {v24 v64 v117 : FVec Ideal S512x1 .f32}
  {v30 v47 v49 v86 v112 v29 v85 v109 v111 : FVec Ideal S1x512 .f32}
  {f d z s h : Fin 512 → Fin 512 → ℝ} {g b i a0 a1 a2 a3 : Fin 512 → ℝ}

/-- The product with one half of the weight, its rows in two pieces. -/
theorem dot_half {G : Fin 512 → Fin 1024 → ℝ} {w : Fin 512 → Fin 1024 → ℝ} {v0 : FVec Ideal S512x1024 .bf16}
    {v2 v5 : FVec Ideal S1x1x256x1024 .bf16} (h0 : ∀ r k, v0 (ix2 r k) = (G r k : EReal))
    (h2 : ∀ e e' (l : Fin 256) k, v2 (ix4 e e' l k) = (w ⟨l.val, by omega⟩ k : EReal))
    (h5 : ∀ e e' (l : Fin 256) k, v5 (ix4 e e' l k) = (w ⟨256 + l.val, by omega⟩ k : EReal)) :
    Is (k0_pay5 v0 v2 v5) fun r l => ∑ k, G r k * w l k := by
  intro r l
  pointwise [k0_pay5, k0_pay4]
  simp only [h0, h2, h5, ← EReal.coe_mul, coe_sum]
  split
  · rfl
  · have e : (⟨256 + (l.val - 256), by omega⟩ : Fin 512) = l := Fin.ext (by dsimp only; omega)
    rw [e]

theorem dot_half' {G : Fin 512 → Fin 1024 → ℝ} {w : Fin 512 → Fin 1024 → ℝ} {v0 : FVec Ideal S512x1024 .bf16}
    {v2 v5 : FVec Ideal S1x1x256x1024 .bf16} (h0 : ∀ r k, v0 (ix2 r k) = (G r k : EReal))
    (h2 : ∀ e e' (l : Fin 256) k, v2 (ix4 e e' l k) = (w ⟨l.val, by omega⟩ k : EReal))
    (h5 : ∀ e e' (l : Fin 256) k, v5 (ix4 e e' l k) = (w ⟨256 + l.val, by omega⟩ k : EReal)) :
    Is (k0_pay6 v0 v2 v5) fun r l => ∑ k, G r k * w l k := dot_half h0 h2 h5

theorem inv_a (hv : Is v f) : IsCol (k0_pay7 v) fun r => inv (f r) := by
  intro r e
  pointwise [k0_pay7]
  simp only [hv _ _, sq_coe, rsqrt_sq]

theorem hat_a (hv : Is v f) : Is (k0_pay8 v) fun r => hat (f r) := by
  intro r l
  pointwise [k0_pay8]
  simp only [hv _ _, inv_a hv _ _, ← EReal.coe_mul]; rfl

theorem grad_ag {v0 : FVec Ideal S512x1024 .bf16} {v2 v5 : FVec Ideal S1x1x256x1024 .bf16} (hd : Is (k0_pay5 v0 v2 v5) d)
    (hv : Is v f) : IsRow (k0_pay9 v0 v2 v5 v) fun l => ∑ r, d r l * hat (f r) l := by
  intro e l
  pointwise [k0_pay9]
  simp only [hd _ _, hat_a hv _ _, ← EReal.coe_mul, coe_sum]

theorem grad_a (hd : Is v14 d) (hi : IsCol v24 fun r => inv (f r)) (hh : Is v26 fun r => hat (f r)) (hg : IsRow v30 g) :
    Is (k0_pay10 v14 v24 v26 v30) fun r => rms (f r) fun k => d r k * g k := by
  intro r l
  pointwise [k0_pay10]
  simp only [hd _ _, hi _ _, hh _ _, hg _ _, ← EReal.coe_mul, coe_sum, div_512, ← EReal.coe_sub]; rfl

theorem cen_y (hv : Is v f) : Is (k0_pay11 v) fun r => cen (f r) := by
  intro r l
  pointwise [k0_pay11]
  simp only [hv _ _, coe_sum, div_512, ← EReal.coe_sub]; rfl

theorem inv_y (hv : Is v f) : IsCol (k0_pay12 v) fun r => inv (cen (f r)) := by
  intro r e
  pointwise [k0_pay12]
  simp only [cen_y hv _ _, sq_coe, rsqrt_sq]

theorem hat_y (hv : Is v f) : Is (k0_pay13 v) fun r => hat (cen (f r)) := by
  intro r l
  pointwise [k0_pay13]
  simp only [cen_y hv _ _, inv_y hv _ _, ← EReal.coe_mul]; rfl

theorem yn_y (hv : Is v f) (hg : IsRow v47 g) (hb : IsRow v49 b) : Is (k0_pay14 v v47 v49) fun r => yn (f r) g b := by
  intro r l
  pointwise [k0_pay14]
  simp only [hat_y hv _ _, hg _ _, hb _ _, ← EReal.coe_mul, ← EReal.coe_add]; rfl

theorem sg_y (hv : Is v f) (hg : IsRow v47 g) (hb : IsRow v49 b) : Is (k0_pay15 v v47 v49) fun r l => sg (yn (f r) g b l) := by
  intro r l
  pointwise [k0_pay15]
  simp only [yn_y hv hg hb _ _, sg_coe]

theorem act_y (hv : Is v f) (hg : IsRow v47 g) (hb : IsRow v49 b) : Is (k0_pay16 v v47 v49) fun r => act (f r) g b := by
  intro r l
  pointwise [k0_pay16]
  simp only [yn_y hv hg hb _ _, sg_y hv hg hb _ _, ← EReal.coe_mul]; rfl

theorem inv_c (hv : Is v f) : IsCol (k0_pay17 v) fun r => inv (f r) := by
  intro r e
  pointwise [k0_pay17]
  simp only [hv _ _, sq_coe, rsqrt_sq]

theorem hat_c (hv : Is v f) : Is (k0_pay18 v) fun r => hat (f r) := by
  intro r l
  pointwise [k0_pay18]
  simp only [hv _ _, inv_c hv _ _, ← EReal.coe_mul]; rfl

theorem grad_cg (hd : Is v15 d) (hv : Is v72 f) : IsRow (k0_pay19 v15 v72) fun l => ∑ r, d r l * hat (f r) l := by
  intro e l
  pointwise [k0_pay19]
  simp only [hd _ _, hat_c hv _ _, ← EReal.coe_mul, coe_sum]

/-- The gradient that reaches the normed convolution: the norm's, times the slope of the gate. -/
theorem grad_yn (hd : Is v15 d) (hz : Is v70 z) (hs : Is v71 fun r l => sg (z r l)) (hc : Is v72 f) (hg : IsRow v86 g) :
    Is (k0_pay20 v15 v70 v71 v72 v86) fun r l => rms (f r) (fun k => d r k * g k) l * slope (z r l) := by
  intro r l
  pointwise [k0_pay20]
  simp only [hd _ _, hz _ _, hs _ _, hat_c hc _ _, inv_c hc _ _, hg _ _, ← EReal.coe_one, ← EReal.coe_mul, coe_sum, div_512,
    ← EReal.coe_sub, ← EReal.coe_add]; rfl

theorem grad_lg (hd : Is (k0_pay20 v15 v70 v71 v72 v86) d) (hh : Is v66 h) :
    IsRow (k0_pay21 v15 v66 v70 v71 v72 v86) fun l => ∑ r, d r l * h r l := by
  intro e l
  pointwise [k0_pay21]
  simp only [hd _ _, hh _ _, ← EReal.coe_mul, coe_sum]

theorem grad_lb (hd : Is (k0_pay20 v15 v70 v71 v72 v86) d) : IsRow (k0_pay22 v15 v70 v71 v72 v86) fun l => ∑ r, d r l := by
  intro e l
  pointwise [k0_pay22]
  simp only [hd _ _, coe_sum]

theorem grad_hat (hd : Is (k0_pay20 v15 v70 v71 v72 v86) d) (hg : IsRow v112 g) :
    Is (k0_pay23 v15 v70 v71 v72 v86 v112) fun r l => d r l * g l := by
  intro r l
  pointwise [k0_pay23]
  simp only [hd _ _, hg _ _, ← EReal.coe_mul]

theorem sum_hat_grad (hd : Is (k0_pay20 v15 v70 v71 v72 v86) d) (hg : IsRow v112 g) :
    IsCol (k0_pay24 v15 v70 v71 v72 v86 v112) fun r => ∑ l, d r l * g l := by
  intro r e
  pointwise [k0_pay24]
  simp only [grad_hat hd hg _ _, coe_sum]

/-- The gradient of the norm with a mean. -/
theorem grad_y (hi : IsCol v64 fun r => inv (cen (f r))) (hh : Is v66 fun r => hat (cen (f r))) (hd : Is v115 d)
    (hs : IsCol v117 fun r => ∑ l, d r l) : Is (k0_pay1 v64 v66 v115 v117) fun r => ln (f r) (d r) := by
  intro r l
  pointwise [k0_pay1]
  simp only [hi _ _, hh _ _, hd _ _, hs _ _, ← EReal.coe_mul, coe_sum, div_512, ← EReal.coe_sub]; rfl

/-- The five rows of sums and three rows of zeros. -/
theorem rows (h0 : IsRow v29 a0) (h1 : IsRow v85 a1) (h2 : IsRow v109 a2) (h3 : IsRow v111 a3)
    (hd : Is (k0_pay1 v64 v66 v115 v117) d) (e : Fin 8) (l : Fin 512) :
    k0_pay2 v29 v64 v66 v85 v109 v111 v115 v117 (ix2 e l)
      = ((if e.val = 0 then a0 l else if e.val = 1 then a1 l else if e.val = 2 then a2 l else if e.val = 3 then a3 l
          else if e.val = 4 then ∑ r, d r l else 0 : ℝ) : EReal) := by
  pointwise [k0_pay2]
  simp only [h0 _ _, h1 _ _, h2 _ _, h3 _ _, hd _ _, coe_sum]
  fin_cases e <;> simp

end Cert.MixKernelIdeal.RefValue

end
-- ==== Proof.MixValue.lean ====
/-
  What the mixer output's backward call leaves in its three result arrays.
-/
module

public import proofs.«01_k».proof.Proof.Gen.MixKernelIdeal.Value
public import proofs.«01_k».proof.Proof.MixStage
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixKernelIdeal.RefValue

open Cert.MixKernelIdeal Cert.MixKernelIdeal.Gen Cert.Reals Cert.MixMath

variable (m : (ℓ : Loc nD τ sig) → Buf (Elt Ideal) ℓ)

theorem idx : ∀ t : Fin cfg0.N, win0_0.index t = ![t.val, 0] ∧ win0_1.index t = ![0, 0, 0, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![0, 0] :=
  (by decide +kernel : ∀ t : Fin grid0.N, _)

theorem lt16 (t : Fin cfg0.N) : t.val < 16 := lt_of_lt_of_eq t.isLt (show cfg0.N = 16 from N_0)

/-- The row of the arrays that row `r` of the block at point `t` is. -/
abbrev row (t : Fin cfg0.N) (r : Fin 512) : Fin 8192 := ⟨t.val * 512 + r.val, by have := lt16 t; omega⟩

/-- The kernel's argument arrays are the data `D`. -/
abbrev IsData (c : Dev nD) (D : Data) : Prop :=
  Fits (fun r k => m ((c : Thread nD τ).loc main_arg0) (ix2 r k)) (fun l k => m ((c : Thread nD τ).loc main_arg1) (ix2 l k))
    (fun r l => m ((c : Thread nD τ).loc main_arg2) (ix2 r l)) (fun r l => m ((c : Thread nD τ).loc main_arg3) (ix2 r l))
    (fun l => m ((c : Thread nD τ).loc main_arg4) (ix1 l)) (fun l => m ((c : Thread nD τ).loc main_arg5) (ix1 l))
    (fun l => m ((c : Thread nD τ).loc main_arg6) (ix1 l)) (fun l => m ((c : Thread nD τ).loc main_arg7) (ix1 l))
    (fun l => m ((c : Thread nD τ).loc main_arg8) (ix1 l)) D

variable {m} {c : Dev nD} {D : Data} (H : IsData m c D) (t : Fin cfg0.N)
include H

/-- The blocks of a point. -/
theorem blk0 (r : Fin 512) (k : Fin 1024) : iblk m c 0 t (ix2 r k) = (D.g (row t r) k : EReal) := by
  have e : iblk m c 0 t (ix2 r k) = m ((c : Thread nD τ).loc main_arg0) (ix2 (row t r) k) := by blk_point [iblk, V, idx t]
  exact e.trans (H.g _ _)

theorem blk1 (a : Fin 4) (e : Fin 1) (l : Fin 256) (k : Fin 1024) :
    iblk m c 1 t (ix4 a e l k) = (D.w ⟨a.val * 256 + l.val, by omega⟩ k : EReal) := by
  have e : iblk m c 1 t (ix4 a e l k) = m ((c : Thread nD τ).loc main_arg1) (ix2 ⟨a.val * 256 + l.val, by omega⟩ k) := by
    obtain rfl : e = 0 := Subsingleton.elim _ _
    blk_point [iblk, V, idx t]
  exact e.trans (H.w _ _)

theorem blk2 : Is (iblk m c 2 t) fun r => D.a (row t r) := fun r l => by
  have e : iblk m c 2 t (ix2 r l) = m ((c : Thread nD τ).loc main_arg2) (ix2 (row t r) l) := by blk_point [iblk, V, idx t]
  exact e.trans (H.a _ _)

theorem blk3 : Is (iblk m c 3 t) fun r => D.y (row t r) := fun r l => by
  have i : ((cfg0.win 3).blk t).view.emb (ix2 r l) = ix2 (row t r) l := by blk_ext [idx t]
  have e : iblk m c 3 t (ix2 r l) = HAdd.hAdd (α := EReal) (β := EReal) (γ := EReal)
      (m ((c : Thread nD τ).loc main_arg3) (((cfg0.win 3).blk t).view.emb (ix2 r l)))
      (m ((c : Thread nD τ).loc main_arg4) (ix1 (((cfg0.win 3).blk t).view.emb (ix2 r l) 1))) := by
    blk_simp [iblk, V]
    entry_read
    pointwise
  rw [e, i]
  refine (congr (congrArg _ (H.conv _ _)) (H.cb _)).trans ?_
  rw [← EReal.coe_add]; rfl

theorem blk4 : IsRow (iblk m c 4 t) D.lg := fun e l => by
  obtain rfl : e = 0 := Subsingleton.elim _ _
  have e : iblk m c 4 t (ix2 0 l) = m ((c : Thread nD τ).loc main_arg5) (ix1 l) := by blk_point [iblk, V, idx t]
  exact e.trans (H.lg _)

theorem blk5 : IsRow (iblk m c 5 t) D.lb := fun e l => by
  obtain rfl : e = 0 := Subsingleton.elim _ _
  have e : iblk m c 5 t (ix2 0 l) = m ((c : Thread nD τ).loc main_arg6) (ix1 l) := by blk_point [iblk, V, idx t]
  exact e.trans (H.lb _)

theorem blk6 : IsRow (iblk m c 6 t) D.ag := fun e l => by
  obtain rfl : e = 0 := Subsingleton.elim _ _
  have e : iblk m c 6 t (ix2 0 l) = m ((c : Thread nD τ).loc main_arg7) (ix1 l) := by blk_point [iblk, V, idx t]
  exact e.trans (H.ag _)

theorem blk7 : IsRow (iblk m c 7 t) D.cg := fun e l => by
  obtain rfl : e = 0 := Subsingleton.elim _ _
  have e : iblk m c 7 t (ix2 0 l) = m ((c : Thread nD τ).loc main_arg8) (ix1 l) := by blk_point [iblk, V, idx t]
  exact e.trans (H.cg _)

omit H in
/-- The four pieces of the weight. -/
theorem wpiece (v : Vec Ideal S4x1x256x1024 .bf16) (a : Fin 4) (i0) (e e' : Fin 1) (l : Fin 256) (k : Fin 1024) :
    (View.ld v (Rect.unit ![a.val, 0, 0, 0] ![1, 1, 256, 1024] i0) : Vec Ideal S1x1x256x1024 .bf16) (ix4 e e' l k) = v (ix4 a e' l k) := by
  obtain rfl : e = 0 := Subsingleton.elim _ _
  obtain rfl : e' = 0 := Subsingleton.elim _ _
  pointwise []

/-- The cotangents of the two normed halves. -/
theorem dma_at (i0 i1) : Is (k0_pay5 (iblk m c 0 t) (View.ld (iblk m c 1 t) (Rect.unit ![0, 0, 0, 0] ![1, 1, 256, 1024] i0))
    (View.ld (iblk m c 1 t) (Rect.unit ![1, 0, 0, 0] ![1, 1, 256, 1024] i1))) fun r => D.dma (row t r) :=
  dot_half (w := fun l => D.w ⟨l.val, by omega⟩) (blk0 H t)
    (fun e e' l k => (wpiece _ 0 _ e e' l k).trans ((blk1 H t _ _ _ _).trans (by simp)))
    (fun e e' l k => (wpiece _ 1 _ e e' l k).trans ((blk1 H t _ _ _ _).trans (by simp)))

theorem dmc_at (i0 i1) : Is (k0_pay6 (iblk m c 0 t) (View.ld (iblk m c 1 t) (Rect.unit ![2, 0, 0, 0] ![1, 1, 256, 1024] i0))
    (View.ld (iblk m c 1 t) (Rect.unit ![3, 0, 0, 0] ![1, 1, 256, 1024] i1))) fun r => D.dmc (row t r) :=
  dot_half' (w := fun l => D.w ⟨512 + l.val, by omega⟩) (blk0 H t)
    (fun e e' l k => (wpiece _ 2 _ e e' l k).trans ((blk1 H t _ _ _ _).trans (by simp)))
    (fun e e' l k => (wpiece _ 3 _ e e' l k).trans ((blk1 H t _ _ _ _).trans (by
      have e : 3 * 256 + l.val = 512 + (256 + l.val) := by omega
      simp [e])))

theorem yn_at : Is (k0_pay14 (iblk m c 3 t) (iblk m c 4 t) (iblk m c 5 t)) fun r => D.z (row t r) :=
  yn_y (blk3 H t) (blk4 H t) (blk5 H t)
theorem sg_at : Is (k0_pay15 (iblk m c 3 t) (iblk m c 4 t) (iblk m c 5 t)) fun r l => sg (D.z (row t r) l) :=
  sg_y (blk3 H t) (blk4 H t) (blk5 H t)
theorem act_at : Is (k0_pay16 (iblk m c 3 t) (iblk m c 4 t) (iblk m c 5 t)) fun r => D.c (row t r) :=
  act_y (blk3 H t) (blk4 H t) (blk5 H t)

theorem dyn_at (i0 i1) : Is (k0_pay20 (k0_pay6 (iblk m c 0 t)
      (View.ld (iblk m c 1 t) (Rect.unit ![2, 0, 0, 0] ![1, 1, 256, 1024] i0))
      (View.ld (iblk m c 1 t) (Rect.unit ![3, 0, 0, 0] ![1, 1, 256, 1024] i1)))
    (k0_pay14 (iblk m c 3 t) (iblk m c 4 t) (iblk m c 5 t)) (k0_pay15 (iblk m c 3 t) (iblk m c 4 t) (iblk m c 5 t))
    (k0_pay16 (iblk m c 3 t) (iblk m c 4 t) (iblk m c 5 t)) (iblk m c 7 t)) fun r => D.dyn (row t r) :=
  grad_yn (dmc_at H t i0 i1) (yn_at H t) (sg_at H t) (act_at H t) (blk7 H t)

/-- The gradient with respect to the convolution, from the two steps before it. -/
theorem dy_at (i0 i1) : Is (k0_pay1 (k0_pay12 (iblk m c 3 t)) (k0_pay13 (iblk m c 3 t))
    (k0_pay23 (k0_pay6 (iblk m c 0 t)
      (View.ld (iblk m c 1 t) (Rect.unit ![2, 0, 0, 0] ![1, 1, 256, 1024] i0))
      (View.ld (iblk m c 1 t) (Rect.unit ![3, 0, 0, 0] ![1, 1, 256, 1024] i1)))
      (k0_pay14 (iblk m c 3 t) (iblk m c 4 t) (iblk m c 5 t)) (k0_pay15 (iblk m c 3 t) (iblk m c 4 t) (iblk m c 5 t))
      (k0_pay16 (iblk m c 3 t) (iblk m c 4 t) (iblk m c 5 t)) (iblk m c 7 t) (iblk m c 4 t))
    (k0_pay24 (k0_pay6 (iblk m c 0 t)
      (View.ld (iblk m c 1 t) (Rect.unit ![2, 0, 0, 0] ![1, 1, 256, 1024] i0))
      (View.ld (iblk m c 1 t) (Rect.unit ![3, 0, 0, 0] ![1, 1, 256, 1024] i1)))
      (k0_pay14 (iblk m c 3 t) (iblk m c 4 t) (iblk m c 5 t)) (k0_pay15 (iblk m c 3 t) (iblk m c 4 t) (iblk m c 5 t))
      (k0_pay16 (iblk m c 3 t) (iblk m c 4 t) (iblk m c 5 t)) (iblk m c 7 t) (iblk m c 4 t))) fun r => D.dy (row t r) :=
  grad_y (inv_y (blk3 H t)) (hat_y (blk3 H t)) (grad_hat (dyn_at H t i0 i1) (blk4 H t))
    (sum_hat_grad (dyn_at H t i0 i1) (blk4 H t))

omit H in
variable (D) in
/-- A point's part of the vectors' gradients. -/
def part (e : Fin 8) (l : Fin 512) : ℝ := ∑ r : Fin 512, D.term e (row t r) l

theorem rows_at (i0 i1 i2 i3) (e : Fin 8) (l : Fin 512) : k0_pay2
      (k0_pay9 (iblk m c 0 t) (View.ld (iblk m c 1 t) (Rect.unit ![0, 0, 0, 0] ![1, 1, 256, 1024] i0))
        (View.ld (iblk m c 1 t) (Rect.unit ![1, 0, 0, 0] ![1, 1, 256, 1024] i1)) (iblk m c 2 t))
      (k0_pay12 (iblk m c 3 t)) (k0_pay13 (iblk m c 3 t))
      (k0_pay19 (k0_pay6 (iblk m c 0 t) (View.ld (iblk m c 1 t) (Rect.unit ![2, 0, 0, 0] ![1, 1, 256, 1024] i2))
          (View.ld (iblk m c 1 t) (Rect.unit ![3, 0, 0, 0] ![1, 1, 256, 1024] i3)))
        (k0_pay16 (iblk m c 3 t) (iblk m c 4 t) (iblk m c 5 t)))
      (k0_pay21 (k0_pay6 (iblk m c 0 t) (View.ld (iblk m c 1 t) (Rect.unit ![2, 0, 0, 0] ![1, 1, 256, 1024] i2))
          (View.ld (iblk m c 1 t) (Rect.unit ![3, 0, 0, 0] ![1, 1, 256, 1024] i3)))
        (k0_pay13 (iblk m c 3 t)) (k0_pay14 (iblk m c 3 t) (iblk m c 4 t) (iblk m c 5 t))
        (k0_pay15 (iblk m c 3 t) (iblk m c 4 t) (iblk m c 5 t)) (k0_pay16 (iblk m c 3 t) (iblk m c 4 t) (iblk m c 5 t))
        (iblk m c 7 t))
      (k0_pay22 (k0_pay6 (iblk m c 0 t) (View.ld (iblk m c 1 t) (Rect.unit ![2, 0, 0, 0] ![1, 1, 256, 1024] i2))
          (View.ld (iblk m c 1 t) (Rect.unit ![3, 0, 0, 0] ![1, 1, 256, 1024] i3)))
        (k0_pay14 (iblk m c 3 t) (iblk m c 4 t) (iblk m c 5 t)) (k0_pay15 (iblk m c 3 t) (iblk m c 4 t) (iblk m c 5 t))
        (k0_pay16 (iblk m c 3 t) (iblk m c 4 t) (iblk m c 5 t)) (iblk m c 7 t))
      (k0_pay23 (k0_pay6 (iblk m c 0 t) (View.ld (iblk m c 1 t) (Rect.unit ![2, 0, 0, 0] ![1, 1, 256, 1024] i2))
          (View.ld (iblk m c 1 t) (Rect.unit ![3, 0, 0, 0] ![1, 1, 256, 1024] i3)))
        (k0_pay14 (iblk m c 3 t) (iblk m c 4 t) (iblk m c 5 t)) (k0_pay15 (iblk m c 3 t) (iblk m c 4 t) (iblk m c 5 t))
        (k0_pay16 (iblk m c 3 t) (iblk m c 4 t) (iblk m c 5 t)) (iblk m c 7 t) (iblk m c 4 t))
      (k0_pay24 (k0_pay6 (iblk m c 0 t) (View.ld (iblk m c 1 t) (Rect.unit ![2, 0, 0, 0] ![1, 1, 256, 1024] i2))
          (View.ld (iblk m c 1 t) (Rect.unit ![3, 0, 0, 0] ![1, 1, 256, 1024] i3)))
        (k0_pay14 (iblk m c 3 t) (iblk m c 4 t) (iblk m c 5 t)) (k0_pay15 (iblk m c 3 t) (iblk m c 4 t) (iblk m c 5 t))
        (k0_pay16 (iblk m c 3 t) (iblk m c 4 t) (iblk m c 5 t)) (iblk m c 7 t) (iblk m c 4 t))
      (ix2 e l) = (part D t e l : EReal) := by
  rw [rows (grad_ag (dma_at H t i0 i1) (blk2 H t)) (grad_cg (dmc_at H t i2 i3) (act_at H t))
    (grad_lg (dyn_at H t i2 i3) (hat_y (blk3 H t))) (grad_lb (dyn_at H t i2 i3)) (dy_at H t i2 i3) e l]
  simp only [part, Data.term]
  fin_cases e <;> simp

/-- The two gradient blocks that a point leaves. -/
theorem point8 (y) : (outsAt0 m c t.val t.isLt).1 y = (D.da (((cfg0.win 8).blk t).view.emb y 0) (((cfg0.win 8).blk t).view.emb y 1) : EReal) := by
  have hN := lt16 t
  idx_vars y
  have e : ((cfg0.win 8).blk t).view.emb (ix2 y0 y1) = ix2 (row t y0) y1 := by blk_ext [idx t]
  rw [e]
  by_cases h : t.val % 16 = 0
  · rw [outsAt0_A m c t h (by omega)]
    frame_out
    exact grad_a (dma_at H t _ _) (inv_a (blk2 H t)) (hat_a (blk2 H t)) (blk6 H t) y0 y1
  · rw [outsAt0_B m c t h (by omega)]
    frame_out
    exact grad_a (dma_at H t _ _) (inv_a (blk2 H t)) (hat_a (blk2 H t)) (blk6 H t) y0 y1

theorem point9 (y) : (outsAt0 m c t.val t.isLt).2.1 y = (D.dy (((cfg0.win 9).blk t).view.emb y 0) (((cfg0.win 9).blk t).view.emb y 1) : EReal) := by
  have hN := lt16 t
  idx_vars y
  have e : ((cfg0.win 9).blk t).view.emb (ix2 y0 y1) = ix2 (row t y0) y1 := by blk_ext [idx t]
  rw [e]
  by_cases h : t.val % 16 = 0
  · rw [outsAt0_A m c t h (by omega)]
    frame_out
    exact dy_at H t _ _ y0 y1
  · rw [outsAt0_B m c t h (by omega)]
    frame_out
    exact dy_at H t _ _ y0 y1

/-- The sums are set at the first point and added to at the others. -/
theorem step_A (h : t.val % 16 = 0) (y : S8x512.Idx) : (outsAt0 m c t.val t.isLt).2.2 y = 0 + (part D t (y 0) (y 1) : EReal) := by
  have hN := lt16 t
  idx_vars y
  rw [outsAt0_A m c t h (by omega)]
  frame_out
  rw [zero_add]
  exact rows_at H t _ _ _ _ y0 y1

theorem step_B (h : ¬t.val % 16 = 0) (y : S8x512.Idx) : (outsAt0 m c t.val t.isLt).2.2 y
    = (outsAt0 m c (t.val - 1) (Nat.lt_of_le_of_lt (Nat.sub_le _ _) t.isLt)).2.2 y + (part D t (y 0) (y 1) : EReal) := by
  have hN := lt16 t
  rw [outsAt0_B m c t h (by omega)]
  frame_out
  generalize (outsAt0 m c (t.val - 1) _).2.2 = z
  idx_vars y
  refine Eq.trans ?_ (congrArg (z (ix2 y0 y1) + ·) (rows_at H t inb_S4x1x256x1024_S1x1x256x1024_0_0_0_0
    inb_S4x1x256x1024_S1x1x256x1024_1_0_0_0 inb_S4x1x256x1024_S1x1x256x1024_2_0_0_0 inb_S4x1x256x1024_S1x1x256x1024_3_0_0_0 y0 y1))
  pointwise [k0_pay3]
  rfl

/-- The three result arrays after the run. -/
theorem final8 : (dats m 0 c).arrAt 8 cfg0.N = fun i : S8192x512.Idx => (D.da (i 0) (i 1) : EReal) := by
  refine (dats m 0 c).arrAt_eq_of_covers 8 _ (by decide +kernel) fun t _ y => ?_
  blk_simp
  rw [after0_8]
  exact point8 H t y

theorem final9 : (dats m 0 c).arrAt 9 cfg0.N = fun i : S8192x512.Idx => (D.dy (i 0) (i 1) : EReal) := by
  refine (dats m 0 c).arrAt_eq_of_covers 9 _ (by decide +kernel) fun t _ y => ?_
  blk_simp
  rw [after0_9]
  exact point9 H t y

theorem final10 : (dats m 0 c).arrAt 10 cfg0.N = fun i : S8x512.Idx => ((∑ r, D.term (i 0) r (i 1) : ℝ) : EReal) := by
  refine (dats m 0 c).arrAt_eq_of_after_last 10 t0_15 (by decide +kernel) _ fun j => ?_
  blk_simp
  rw [after0_10]
  rw [Pipeline.eq_sum_fin_of_reset_step_apply_last (fun n h => (outsAt0 m c n h).2.2) 16 (fun _ => 0)
    (fun t y => (part D t (y 0) (y 1) : EReal)) (step_A H) (step_B H) (le_of_eq N_0) t0_15 rfl j, zero_add]
  rw [coe_sum]
  refine congrArg _ ?_
  simp only [part]
  exact Fin.sum_mul_add_congr fun t r h => rfl

end Cert.MixKernelIdeal.RefValue

end
-- ==== Proof.MixRef.lean ====
/-
  The derivative of the mixer output's plain forward lines, as real numbers.
-/
module

public import proofs.«01_k».proof.Proof.Gen.MixReferenceIdeal.Read
public import proofs.«01_k».proof.Proof.MixMath
public import Idealize.ShloMosaic.Lib.Pointwise
public import Idealize.ShloMosaic.Lib.Claim

@[expose] public section

set_option maxRecDepth 16384

noncomputable section

namespace Cert.MixReferenceIdeal.RefValue

open Cert.MixReferenceIdeal Cert.MixReferenceIdeal.Gen Cert.MixReferenceIdeal.Read
open Idealize.ShloMosaic Idealize.ShloMosaic.TcCoe
open Cert.Reals Cert.MixMath

/-- The nine arguments are the data `D`. -/
abbrev IsData (x0 : FVec Ideal S8192x1024 .f32) (x1 : FVec Ideal S1024x1024 .f32) (x2 x3 : FVec Ideal S8192x512 .f32)
    (x4 x5 x6 x7 x8 : FVec Ideal S512 .f32) (D : Data) : Prop :=
  Fits (fun r k => x0 (ix2 r k)) (fun l k => x1 (ix2 l k)) (fun r l => x2 (ix2 r l)) (fun r l => x3 (ix2 r l))
    (fun l => x4 (ix1 l)) (fun l => x5 (ix1 l)) (fun l => x6 (ix1 l)) (fun l => x7 (ix1 l)) (fun l => x8 (ix1 l)) D

theorem half_div {x : Fin 512 → ℝ} : Ideal.ofBits .f32 0xBF000000#32 * Ideal.div (inv x : EReal) (MixMath.sq x : EReal)
    = ((-(1 / 2) * (inv x / MixMath.sq x) : ℝ) : EReal) := by
  rw [word_neg_half, div_real (sq_pos x).ne', ← EReal.coe_mul]

theorem gate (z : ℝ) : Ideal.div 1 (1 + Ideal.exp (-(z : EReal))) = (sg z : EReal) := sg_coe z

variable {x0 : FVec Ideal S8192x1024 .f32} {x1 : FVec Ideal S1024x1024 .f32} {x2 x3 : FVec Ideal S8192x512 .f32}
  {x4 x5 x6 x7 x8 : FVec Ideal S512 .f32} {D : Data} (H : IsData x0 x1 x2 x3 x4 x5 x6 x7 x8 D)
include H

/-- The forward pass: the norm with a mean, and the gate. -/
theorem y_at (r : Fin 8192) (l : Fin 512) : val_main_v2 (F := Ideal) x3 x4 (ix2 r l) = (D.y r l : EReal) := by
  pointwise [val_main_v0, val_main_v1, val_main_v2]
  simp only [H.conv, H.cb, ← EReal.coe_add]; rfl
theorem mean_at (r : Fin 8192) (e : Fin 1) : val_main_v6 (F := Ideal) x3 x4 (ix2 r e) = (((∑ k, D.y r k) / 512 : ℝ) : EReal) := by
  pointwise [val_main_cst, val_main_v3, val_main_v4, val_main_cst_0, val_main_v5, val_main_v6]
  simp only [y_at H, coe_sum, div_512]
theorem cen_at (r : Fin 8192) (l : Fin 512) : val_main_v8 (F := Ideal) x3 x4 (ix2 r l) = (cen (D.y r) l : EReal) := by
  pointwise [val_main_v7, val_main_v8]
  simp only [y_at H, mean_at H, ← EReal.coe_sub]; rfl
theorem cen'_at (r : Fin 8192) (l : Fin 512) : val_main_v17 (F := Ideal) x3 x4 (ix2 r l) = (cen (D.y r) l : EReal) := by
  pointwise [val_main_v16, val_main_v17]
  simp only [y_at H, mean_at H, ← EReal.coe_sub]; rfl
theorem sq_at (r : Fin 8192) (e : Fin 1) : val_main_v19 (F := Ideal) x3 x4 (ix2 r e) = (MixMath.sq (cen (D.y r)) : EReal) := by
  pointwise [val_main_v9, val_main_cst_2, val_main_v12, val_main_v13, val_main_cst_3, val_main_v14, val_main_v15, val_main_cst_4, val_main_v18, val_main_v19]
  simp only [cen_at H, sq_coe]
theorem inv_at (r : Fin 8192) (e : Fin 1) : val_main_v20 (F := Ideal) x3 x4 (ix2 r e) = (inv (cen (D.y r)) : EReal) := by
  pointwise [val_main_v20]
  simp only [sq_at H, rsqrt_sq]
theorem fac_at (r : Fin 8192) (e : Fin 1) : val_main_v23 (F := Ideal) x3 x4 (ix2 r e)
    = ((-(1 / 2) * (inv (cen (D.y r)) / MixMath.sq (cen (D.y r))) : ℝ) : EReal) := by
  pointwise [val_main_v21, val_main_cst_5, val_main_v22, val_main_v23]
  simp only [sq_at H, inv_at H, half_div]
theorem two_at (r : Fin 8192) (l : Fin 512) : val_main_v11 (F := Ideal) x3 x4 (ix2 r l) = ((2 * cen (D.y r) l : ℝ) : EReal) := by
  pointwise [val_main_cst_1, val_main_v10, val_main_v11]
  simp only [cen_at H, word_two, ← EReal.coe_mul]
theorem hat_at (r : Fin 8192) (l : Fin 512) : val_main_v25 (F := Ideal) x3 x4 (ix2 r l) = (hat (cen (D.y r)) l : EReal) := by
  pointwise [val_main_v24, val_main_v25]
  simp only [cen'_at H, inv_at H, ← EReal.coe_mul]; rfl
theorem yn_at (r : Fin 8192) (l : Fin 512) : val_main_v31 (F := Ideal) x3 x4 x5 x6 (ix2 r l) = (D.z r l : EReal) := by
  pointwise [val_main_v26, val_main_v27, val_main_v28, val_main_v29, val_main_v30, val_main_v31]
  simp only [hat_at H, H.lg, H.lb, ← EReal.coe_mul, ← EReal.coe_add]; rfl
theorem sg_at (r : Fin 8192) (l : Fin 512) : val_main_v32_2 (F := Ideal) x3 x4 x5 x6 (ix2 r l) = (sg (D.z r l) : EReal) := by
  pointwise [val_main_call0_v0, val_main_call0_v1, val_main_call0_cst, val_main_call0_v2, val_main_call0_v3, val_main_call0_cst_0, val_main_call0_v4, val_main_v32_2]
  simp only [yn_at H, gate]
theorem sgd_at (r : Fin 8192) (l : Fin 512) : val_main_v32_1 (F := Ideal) x3 x4 x5 x6 (ix2 r l)
    = ((sg (D.z r l) * (1 - sg (D.z r l)) : ℝ) : EReal) := by
  pointwise [val_main_call0_cst_1, val_main_call0_v6, val_main_call0_v7, val_main_v32_1]
  simp only [sg_at H, ← EReal.coe_one, ← EReal.coe_sub, ← EReal.coe_mul]
theorem act_at (r : Fin 8192) (l : Fin 512) : val_main_v32_0 (F := Ideal) x3 x4 x5 x6 (ix2 r l) = (D.c r l : EReal) := by
  pointwise [val_main_v32_0]
  simp only [yn_at H, sg_at H, ← EReal.coe_mul]; rfl

/-- The norm of the attention output. -/
theorem sqa_at (r : Fin 8192) (e : Fin 1) : val_main_v39 (F := Ideal) x2 (ix2 r e) = (MixMath.sq (D.a r) : EReal) := by
  pointwise [val_main_v33, val_main_cst_6, val_main_v34, val_main_v35, val_main_cst_7, val_main_v36, val_main_v37, val_main_cst_8, val_main_v38, val_main_v39]
  simp only [H.a, sq_coe]
theorem inva_at (r : Fin 8192) (e : Fin 1) : val_main_v40 (F := Ideal) x2 (ix2 r e) = (inv (D.a r) : EReal) := by
  pointwise [val_main_v40]
  simp only [sqa_at H, rsqrt_sq]
theorem faca_at (r : Fin 8192) (e : Fin 1) : val_main_v43 (F := Ideal) x2 (ix2 r e) = ((-(1 / 2) * (inv (D.a r) / MixMath.sq (D.a r)) : ℝ) : EReal) := by
  pointwise [val_main_v41, val_main_cst_9, val_main_v42, val_main_v43]
  simp only [sqa_at H, inva_at H, half_div]
theorem hata_at (r : Fin 8192) (l : Fin 512) : val_main_v45 (F := Ideal) x2 (ix2 r l) = (hat (D.a r) l : EReal) := by
  pointwise [val_main_v44, val_main_v45]
  simp only [H.a, inva_at H, ← EReal.coe_mul]; rfl

/-- The norm of the gated convolution. -/
theorem sqc_at (r : Fin 8192) (e : Fin 1) : val_main_v55 (F := Ideal) x3 x4 x5 x6 (ix2 r e) = (MixMath.sq (D.c r) : EReal) := by
  pointwise [val_main_v49, val_main_cst_10, val_main_v50, val_main_v51, val_main_cst_11, val_main_v52, val_main_v53, val_main_cst_12, val_main_v54, val_main_v55]
  simp only [act_at H, sq_coe]
theorem invc_at (r : Fin 8192) (e : Fin 1) : val_main_v56 (F := Ideal) x3 x4 x5 x6 (ix2 r e) = (inv (D.c r) : EReal) := by
  pointwise [val_main_v56]
  simp only [sqc_at H, rsqrt_sq]
theorem facc_at (r : Fin 8192) (e : Fin 1) : val_main_v59 (F := Ideal) x3 x4 x5 x6 (ix2 r e) = ((-(1 / 2) * (inv (D.c r) / MixMath.sq (D.c r)) : ℝ) : EReal) := by
  pointwise [val_main_v57, val_main_cst_13, val_main_v58, val_main_v59]
  simp only [sqc_at H, invc_at H, half_div]
theorem hatc_at (r : Fin 8192) (l : Fin 512) : val_main_v61 (F := Ideal) x3 x4 x5 x6 (ix2 r l) = (hat (D.c r) l : EReal) := by
  pointwise [val_main_v60, val_main_v61]
  simp only [act_at H, invc_at H, ← EReal.coe_mul]; rfl

/-- The cotangents of the two halves. -/
theorem dma_at (r : Fin 8192) (l : Fin 512) : val_main_v68 (F := Ideal) x0 x1 (ix2 r l) = (D.dma r l : EReal) := by
  pointwise [val_main_v67, val_main_v68]
  simp only [H.g, H.w, ← EReal.coe_mul, coe_sum]; rfl
theorem dmc_at (r : Fin 8192) (l : Fin 512) : val_main_v69 (F := Ideal) x0 x1 (ix2 r l) = (D.dmc r l : EReal) := by
  pointwise [val_main_v67, val_main_v69]
  simp only [H.g, H.w, ← EReal.coe_mul, coe_sum]; rfl

/-- The gradient of the gated convolution. -/
theorem dcg_at (l : Fin 512) : val_main_v75 (F := Ideal) x0 x1 x3 x4 x5 x6 (ix1 l) = ((∑ r, D.dmc r l * hat (D.c r) l : ℝ) : EReal) := by
  pointwise [val_main_v70, val_main_cst_14, val_main_v71, val_main_v72, val_main_cst_15, val_main_v75]
  simp only [Finset.univ_unique, Finset.sum_singleton, dmc_at H, hatc_at H, ← EReal.coe_mul, coe_sum, mul_comm]
theorem dc_at (r : Fin 8192) (l : Fin 512) : val_main_v74 (F := Ideal) x0 x1 x8 (ix2 r l) = ((D.dmc r l * D.cg l : ℝ) : EReal) := by
  pointwise [val_main_v62, val_main_v73, val_main_v74]
  simp only [dmc_at H, H.cg, ← EReal.coe_mul]
theorem dcs_at (r : Fin 8192) (e : Fin 1) : val_main_v78 (F := Ideal) x0 x1 x3 x4 x5 x6 x8 (ix2 r e) = ((∑ k, D.c r k * (D.dmc r k * D.cg k) : ℝ) : EReal) := by
  pointwise [val_main_v76, val_main_cst_16, val_main_v77, val_main_v78]
  simp only [act_at H, dc_at H, ← EReal.coe_mul, coe_sum]
theorem dct_at (r : Fin 8192) (l : Fin 512) : val_main_v85 (F := Ideal) x0 x1 x3 x4 x5 x6 x8 (ix2 r l)
    = (through (D.c r) (fun k => D.dmc r k * D.cg k) : EReal) := by
  pointwise [val_main_v81, val_main_cst_17, val_main_v82, val_main_v83, val_main_cst_18, val_main_v84, val_main_v85]
  simp only [Finset.univ_unique, Finset.sum_singleton, dcs_at H, facc_at H, ← EReal.coe_mul, div_512]; rfl
theorem dact_at (r : Fin 8192) (l : Fin 512) : val_main_v89 (F := Ideal) x0 x1 x3 x4 x5 x6 x8 (ix2 r l)
    = (rms (D.c r) (fun k => D.dmc r k * D.cg k) l : EReal) := by
  pointwise [val_main_v79, val_main_v80, val_main_v86, val_main_v87, val_main_v88, val_main_v89]
  simp only [dct_at H, dc_at H, invc_at H, act_at H, ← EReal.coe_mul, ← EReal.coe_add]
  exact congrArg _ (rms_chain (D.c r) (fun k => D.dmc r k * D.cg k) l)

/-- The gradient of the attention output. -/
theorem dag_at (l : Fin 512) : val_main_v95 (F := Ideal) x0 x1 x2 (ix1 l) = ((∑ r, D.dma r l * hat (D.a r) l : ℝ) : EReal) := by
  pointwise [val_main_v90, val_main_cst_19, val_main_v91, val_main_v92, val_main_cst_20, val_main_v95]
  simp only [Finset.univ_unique, Finset.sum_singleton, dma_at H, hata_at H, ← EReal.coe_mul, coe_sum, mul_comm]
theorem dw_at (r : Fin 8192) (l : Fin 512) : val_main_v94 (F := Ideal) x0 x1 x7 (ix2 r l) = ((D.dma r l * D.ag l : ℝ) : EReal) := by
  pointwise [val_main_v46, val_main_v93, val_main_v94]
  simp only [dma_at H, H.ag, ← EReal.coe_mul]
theorem das_at (r : Fin 8192) (e : Fin 1) : val_main_v98 (F := Ideal) x0 x1 x2 x7 (ix2 r e) = ((∑ k, D.a r k * (D.dma r k * D.ag k) : ℝ) : EReal) := by
  pointwise [val_main_v96, val_main_cst_21, val_main_v97, val_main_v98]
  simp only [H.a, dw_at H, ← EReal.coe_mul, coe_sum]
theorem dat_at (r : Fin 8192) (l : Fin 512) : val_main_v105 (F := Ideal) x0 x1 x2 x7 (ix2 r l)
    = (through (D.a r) (fun k => D.dma r k * D.ag k) : EReal) := by
  pointwise [val_main_v101, val_main_cst_22, val_main_v102, val_main_v103, val_main_cst_23, val_main_v104, val_main_v105]
  simp only [Finset.univ_unique, Finset.sum_singleton, das_at H, faca_at H, ← EReal.coe_mul, div_512]; rfl
theorem da_at (r : Fin 8192) (l : Fin 512) : val_main_v109 (F := Ideal) x0 x1 x2 x7 (ix2 r l) = (D.da r l : EReal) := by
  pointwise [val_main_v99, val_main_v100, val_main_v106, val_main_v107, val_main_v108, val_main_v109]
  simp only [dat_at H, dw_at H, inva_at H, H.a, ← EReal.coe_mul, ← EReal.coe_add]
  exact congrArg _ (rms_chain (D.a r) (fun k => D.dma r k * D.ag k) l)

/-- Through the gate. -/
theorem dyn_at (r : Fin 8192) (l : Fin 512) : val_main_v110 (F := Ideal) x0 x1 x3 x4 x5 x6 x8 (ix2 r l) = (D.dyn r l : EReal) := by
  pointwise [val_main_call1_v0, val_main_call1_v1, val_main_call1_v2, val_main_v110]
  simp only [dact_at H, yn_at H, sg_at H, sgd_at H, ← EReal.coe_mul, ← EReal.coe_add]
  refine congrArg _ ?_
  simp only [Data.dyn, MixMath.slope]
  ring
theorem dlb_at (l : Fin 512) : val_main_v113 (F := Ideal) x0 x1 x3 x4 x5 x6 x8 (ix1 l) = ((∑ r, D.dyn r l : ℝ) : EReal) := by
  pointwise [val_main_cst_24, val_main_v111, val_main_v112, val_main_cst_25, val_main_v113]
  simp only [Finset.univ_unique, Finset.sum_singleton, dyn_at H, coe_sum]
theorem dlg_at (l : Fin 512) : val_main_v119 (F := Ideal) x0 x1 x3 x4 x5 x6 x8 (ix1 l)
    = ((∑ r, D.dyn r l * hat (cen (D.y r)) l : ℝ) : EReal) := by
  pointwise [val_main_v114, val_main_cst_26, val_main_v115, val_main_v116, val_main_cst_27, val_main_v119]
  simp only [Finset.univ_unique, Finset.sum_singleton, dyn_at H, hat_at H, ← EReal.coe_mul, coe_sum, mul_comm]

/-- Through the norm with a mean. -/
theorem dh_at (r : Fin 8192) (l : Fin 512) : val_main_v118 (F := Ideal) x0 x1 x3 x4 x5 x6 x8 (ix2 r l) = ((D.dyn r l * D.lg l : ℝ) : EReal) := by
  pointwise [val_main_v26, val_main_v117, val_main_v118]
  simp only [dyn_at H, H.lg, ← EReal.coe_mul]
theorem dhs_at (r : Fin 8192) (e : Fin 1) : val_main_v122 (F := Ideal) x0 x1 x3 x4 x5 x6 x8 (ix2 r e)
    = ((∑ k, cen (D.y r) k * (D.dyn r k * D.lg k) : ℝ) : EReal) := by
  pointwise [val_main_v120, val_main_cst_28, val_main_v121, val_main_v122]
  simp only [cen'_at H, dh_at H, ← EReal.coe_mul, coe_sum]
theorem dhi_at (r : Fin 8192) (l : Fin 512) : val_main_v124 (F := Ideal) x0 x1 x3 x4 x5 x6 x8 (ix2 r l)
    = ((D.dyn r l * D.lg l * inv (cen (D.y r)) : ℝ) : EReal) := by
  pointwise [val_main_v123, val_main_v124]
  simp only [dh_at H, inv_at H, ← EReal.coe_mul]
theorem dht_at (r : Fin 8192) (l : Fin 512) : val_main_v132 (F := Ideal) x0 x1 x3 x4 x5 x6 x8 (ix2 r l)
    = (through (cen (D.y r)) (fun k => D.dyn r k * D.lg k) : EReal) := by
  pointwise [val_main_v125, val_main_cst_30, val_main_v129, val_main_v130, val_main_cst_31, val_main_v131, val_main_v132]
  simp only [Finset.univ_unique, Finset.sum_singleton, dhs_at H, fac_at H, ← EReal.coe_mul, div_512]; rfl
theorem dhp_at (r : Fin 8192) (l : Fin 512) : val_main_v133 (F := Ideal) x0 x1 x3 x4 x5 x6 x8 (ix2 r l)
    = ((through (cen (D.y r)) (fun k => D.dyn r k * D.lg k) * (2 * cen (D.y r) l) : ℝ) : EReal) := by
  pointwise [val_main_v133]
  simp only [dht_at H, two_at H, ← EReal.coe_mul]
theorem dhm_at (r : Fin 8192) (l : Fin 512) : val_main_v142 (F := Ideal) x0 x1 x3 x4 x5 x6 x8 (ix2 r l)
    = (((∑ k, -(D.dyn r k * D.lg k * inv (cen (D.y r)))
        + ∑ k, -(through (cen (D.y r)) (fun k => D.dyn r k * D.lg k) * (2 * cen (D.y r) k))) / 512 : ℝ) : EReal) := by
  pointwise [val_main_v126, val_main_cst_29, val_main_v127, val_main_v128, val_main_v134, val_main_cst_32, val_main_v135, val_main_v136, val_main_v138, val_main_cst_33, val_main_v139, val_main_v140, val_main_cst_34, val_main_v141, val_main_v142]
  simp only [Finset.univ_unique, Finset.sum_singleton, dhi_at H, dhp_at H, ← EReal.coe_neg, coe_sum, ← EReal.coe_add, div_512]
theorem dy_at (r : Fin 8192) (l : Fin 512) : val_main_v143 (F := Ideal) x0 x1 x3 x4 x5 x6 x8 (ix2 r l) = (D.dy r l : EReal) := by
  pointwise [val_main_v137, val_main_v143]
  simp only [dhi_at H, dhp_at H, dhm_at H, ← EReal.coe_add]
  exact congrArg _ (ln_chain (D.y r) (fun k => D.dyn r k * D.lg k) l)
theorem dcb_at (l : Fin 512) : val_main_v146 (F := Ideal) x0 x1 x3 x4 x5 x6 x8 (ix1 l) = ((∑ r, D.dy r l : ℝ) : EReal) := by
  pointwise [val_main_cst_35, val_main_v144, val_main_v145, val_main_cst_36, val_main_v146]
  simp only [Finset.univ_unique, Finset.sum_singleton, dy_at H, coe_sum]

/-- The five gradients side by side. -/
theorem sums_at (e : Fin 8) (l : Fin 512) : val_main_v154 (F := Ideal) x0 x1 x2 x3 x4 x5 x6 x8 (ix2 e l)
    = ((∑ r, D.term e r l : ℝ) : EReal) := by
  pointwise [val_main_cst_37, val_main_v147, val_main_v148, val_main_v149, val_main_v150, val_main_v151, val_main_v152, val_main_v153, val_main_v154]
  simp only [dag_at H, dcg_at H, dlg_at H, dlb_at H, dcb_at H]
  fin_cases e <;> simp [Data.term]

/-- The three result arrays. -/
theorem ref0 : val_main_v109 (F := Ideal) x0 x1 x2 x7 = fun i : S8192x512.Idx => (D.da (i 0) (i 1) : EReal) := by
  funext j; idx_vars j; exact da_at H j0 j1
theorem ref1 : val_main_v143 (F := Ideal) x0 x1 x3 x4 x5 x6 x8 = fun i : S8192x512.Idx => (D.dy (i 0) (i 1) : EReal) := by
  funext j; idx_vars j; exact dy_at H j0 j1
theorem ref2 : val_main_v154 (F := Ideal) x0 x1 x2 x3 x4 x5 x6 x8 = fun i : S8x512.Idx => ((∑ r, D.term (i 0) r (i 1) : ℝ) : EReal) := by
  funext j; idx_vars j; exact sums_at H j0 j1

end Cert.MixReferenceIdeal.RefValue

end
-- ==== Proof.MixClaim.lean ====
/-
  The claims about the product with the output projection, backwards, with the norms and the gate.
-/
module

public import proofs.«01_k».proof.Defs
public import proofs.«01_k».proof.Proof.MixValue
public import proofs.«01_k».proof.Proof.MixRef
public import proofs.«01_k».proof.Proof.Gen.MixKernelIdeal
public import proofs.«01_k».proof.Proof.Gen.MixReferenceIdeal
public import proofs.«01_k».proof.Proof.Gen.Pre_finite_mix

@[expose] public section

set_option maxRecDepth 16384

noncomputable section

open Idealize.ShloMosaic Idealize.ShloMosaic.TcCoe Idealize.SL.Sem

namespace Cert.MixKernelIdeal.RefValue

open Cert.MixMath

/-- What the precondition says: the arrays hold real numbers. -/
theorem pre_data (m : (ℓ : Loc Cert.MixKernelIdeal.nD Cert.MixKernelIdeal.τ Cert.MixKernelIdeal.sig) → Buf (Elt Ideal) ℓ)
    (h : Cert.Pre_MixKernelIdeal_finite_mix m) (c : Dev Cert.MixKernelIdeal.nD) : ∃ D : Data, IsData m c D := by
  obtain ⟨h0, h1, h2, h3, h4, h5, h6, h7, h8⟩ := h c
  choose f0 e0 using fun i => Cert.Reals.of_abs_lt (congrFun h0 i)
  choose f1 e1 using fun i => Cert.Reals.of_abs_lt (congrFun h1 i)
  choose f2 e2 using fun i => Cert.Reals.of_abs_lt (congrFun h2 i)
  choose f3 e3 using fun i => Cert.Reals.of_abs_lt (congrFun h3 i)
  choose f4 e4 using fun i => Cert.Reals.of_abs_lt (congrFun h4 i)
  choose f5 e5 using fun i => Cert.Reals.of_abs_lt (congrFun h5 i)
  choose f6 e6 using fun i => Cert.Reals.of_abs_lt (congrFun h6 i)
  choose f7 e7 using fun i => Cert.Reals.of_abs_lt (congrFun h7 i)
  choose f8 e8 using fun i => Cert.Reals.of_abs_lt (congrFun h8 i)
  exact ⟨⟨fun r k => f0 (ix2 r k), fun l k => f1 (ix2 l k), fun r l => f2 (ix2 r l), fun r l => f3 (ix2 r l), fun l => f4 (ix1 l),
    fun l => f5 (ix1 l), fun l => f6 (ix1 l), fun l => f7 (ix1 l), fun l => f8 (ix1 l)⟩,
    ⟨fun _ _ => e0 _, fun _ _ => e1 _, fun _ _ => e2 _, fun _ _ => e3 _, fun _ => e4 _, fun _ => e5 _, fun _ => e6 _, fun _ => e7 _,
      fun _ => e8 _⟩⟩

theorem frame_ref : Cert.quiescent_MixReferenceIdeal := fun m ρ _ =>
  (θ_run Cert.MixReferenceIdeal.defs _ _).mono
    (fun r h => ⟨fun c => (h c).2.2.2, sem_eq_zero_of_no_sems (by decide) r.2⟩)
    (Cert.MixReferenceIdeal.Value.run (F := Ideal) m ρ)

/-- On real arrays the kernel leaves the derivative of the plain forward lines. -/
theorem algebraic : Cert.algebraic_MixKernelIdeal_MixReferenceIdeal_pre_finite_mix := by
  intro m ρ m' ρ' hpre hag
  choose D H using pre_data m hpre
  refine ⟨fun c => fun i : S8192x512.Idx => ((D c).da (i 0) (i 1) : EReal), fun c => fun i : S8192x512.Idx => ((D c).dy (i 0) (i 1) : EReal),
    fun c => fun i : S8x512.Idx => ((∑ r, (D c).term (i 0) r (i 1) : ℝ) : EReal), ?_, ?_⟩
  · exact (θ_run Cert.MixKernelIdeal.defs _ _).mono
      (fun _ h c => ⟨(h c).1.trans (final8 (H c)), (h c).2.1.trans (final9 (H c)), (h c).2.2.1.trans (final10 (H c)), (h c).2.2.2⟩)
      (Cert.MixKernelIdeal.Value.run_blocks (F := Ideal) m ρ)
  · refine (θ_run Cert.MixReferenceIdeal.defs _ _).mono
      (fun _ h c => ⟨(h c).1.trans ?_, (h c).2.1.trans ?_, (h c).2.2.1.trans ?_, (h c).2.2.2⟩)
      (Cert.MixReferenceIdeal.Value.run (F := Ideal) m' ρ')
    all_goals obtain ⟨a0, a1, a2, a3, a4, a5, a6, a7, a8⟩ := hag c
    · refine (Cert.MixReferenceIdeal.Read.val_main_v109_eq _).trans ?_
      refine Eq.trans ?_ (Cert.MixReferenceIdeal.RefValue.ref0 (H c))
      exact congr (congr (congr (congrArg _ a0) a1) a2) a7
    · refine (Cert.MixReferenceIdeal.Read.val_main_v143_eq _).trans ?_
      refine Eq.trans ?_ (Cert.MixReferenceIdeal.RefValue.ref1 (H c))
      exact congr (congr (congr (congr (congr (congr (congrArg _ a0) a1) a3) a4) a5) a6) a8
    · refine (Cert.MixReferenceIdeal.Read.val_main_v154_eq _).trans ?_
      refine Eq.trans ?_ (Cert.MixReferenceIdeal.RefValue.ref2 (H c))
      exact congr (congr (congr (congr (congr (congr (congr (congrArg _ a0) a1) a2) a3) a4) a5) a6) a8

end Cert.MixKernelIdeal.RefValue

end
-- ==== Proof.ConvStore.lean ====
/-
  The convolution kernels' eight shifted copies of a block of rows, read back: row `r` of copy `b` is row `r + b` of the
  block.
-/
module

public import Idealize.ShloMosaic.Lib.Pipeline.Value
public import Idealize.ShloMosaic.Lib.Pipeline.ValueKit
public import Idealize.ShloMosaic.Lib.Pointwise
public import Idealize.ShloMosaic.Lib.ValueLayout

@[expose] public section

set_option maxRecDepth 16384

noncomputable section

open Idealize.ShloMosaic Idealize.ShloMosaic.TcCoe Idealize.SL.Sem

namespace Cert.ConvKernelIdeal.Store

variable {sig : RefSig}

/-- The shapes of a block of rows with 32 more, of its copies and of the taps. -/
abbrev Rows : Shape := ⟨2, ![544, 256]⟩
abbrev Copies : Shape := ⟨3, ![8, 544, 256]⟩
abbrev Taps : Shape := ⟨2, ![32, 256]⟩

section Stores

variable {s : Shape} {e : EltTy} {off size : Fin s.rank → ℕ} {inb : ∀ a, off a + size a ≤ s.size a}

/-- What is left at an index under the last store, -/
theorem canon_in (w : (Rect.unit off size inb).shape.Idx → Elt Ideal e) (T : List (View.Piece (Elt Ideal) s e)) (y : s.Idx)
    (x : (Rect.unit off size inb).shape.Idx) (h : ∀ a, (y a).val = off a + (x a).val) :
    View.canon (⟨Rect.unit off size inb, w⟩ :: T) y = w x := by
  have e : y = (Rect.unit off size inb).emb x := funext fun a => Fin.ext (by
    rw [h a]; show off a + (x a).val = off a + 1 * (x a).val; rw [Nat.one_mul])
  rw [e]
  exact View.canon_cons_emb _ w T x

/-- and at one off it. -/
theorem canon_out (w : (Rect.unit off size inb).shape.Idx → Elt Ideal e) (T : List (View.Piece (Elt Ideal) s e)) (y : s.Idx)
    (a : Fin s.rank) (h : (y a).val < off a ∨ off a + size a ≤ (y a).val) :
    View.canon (⟨Rect.unit off size inb, w⟩ :: T) y = View.canon T y :=
  View.canon_cons_of_not_mem _ _ fun hm => by
    have := (Rect.mem_set_unit (inb := inb)).mp hm a
    omega

end Stores

/-- A block whose rows were stored a few at a time: an index is under a store's rows or what the stores before it left. -/
theorem rows_step {N r n : ℕ} {e : EltTy} {inb : ∀ a, (![r, 0] : Fin 2 → ℕ) a + (![n, 256] : Fin 2 → ℕ) a ≤ (⟨2, ![N, 256]⟩ : Shape).size a}
    {w : (Rect.unit (s := ⟨2, ![N, 256]⟩) ![r, 0] ![n, 256] inb).shape.Idx → Elt Ideal e} {T : List (View.Piece (Elt Ideal) ⟨2, ![N, 256]⟩ e)}
    {G : Elt Ideal e} {p : Fin N} {q : Fin 256} (hw : ∀ x : Fin n, p.val = x.val + r → w (ix2 x q) = G)
    (hT : p.val < r ∨ r + n ≤ p.val → View.canon T (ix2 p q) = G) :
    View.canon (⟨Rect.unit (s := ⟨2, ![N, 256]⟩) ![r, 0] ![n, 256] inb, w⟩ :: T) (ix2 p q) = G := by
  by_cases h : p.val < r ∨ r + n ≤ p.val
  · exact (canon_out w T (ix2 p q) 0 h).trans (hT h)
  · refine (canon_in w T (ix2 p q) (ix2 ⟨p.val - r, by omega⟩ q) ?_).trans (hw ⟨p.val - r, by omega⟩ (by simp only; omega))
    intro k; fin_cases k
    · show p.val = r + (p.val - r); omega
    · show q.val = 0 + q.val; omega

/-- The same where what the block held before is not covered. -/
theorem put_step {N r n : ℕ} {e : EltTy} {sig' : RefSig} {κ : Kind} {sp : Space} {v : View sig' κ sp ⟨2, ![N, 256]⟩ e} {f : v.ty.Contents (Elt Ideal)}
    {inb : ∀ a, (![r, 0] : Fin 2 → ℕ) a + (![n, 256] : Fin 2 → ℕ) a ≤ (⟨2, ![N, 256]⟩ : Shape).size a}
    {w : (Rect.unit (s := ⟨2, ![N, 256]⟩) ![r, 0] ![n, 256] inb).shape.Idx → Elt Ideal e} {T : List (View.Piece (Elt Ideal) ⟨2, ![N, 256]⟩ e)}
    {G : Elt Ideal e} {p : Fin N} {q : Fin 256} (hw : ∀ x : Fin n, p.val = x.val + r → w (ix2 x q) = G)
    (hT : p.val < r ∨ r + n ≤ p.val → v.read (Elt Ideal) (v.writes (Elt Ideal) f T) (ix2 p q) = G) :
    v.read (Elt Ideal) (v.writes (Elt Ideal) f (⟨Rect.unit (s := ⟨2, ![N, 256]⟩) ![r, 0] ![n, 256] inb, w⟩ :: T)) (ix2 p q) = G := by
  by_cases h : p.val < r ∨ r + n ≤ p.val
  · refine (View.read_writes_cons_miss v f _ T (ix2 p q) fun hm => ?_).trans (hT h)
    have := (Rect.mem_set_unit (inb := inb)).mp hm 0
    have : r ≤ p.val ∧ p.val < r + n := this
    omega
  · refine (View.read_writes_cons_hit v f _ w T (ix2 ⟨p.val - r, by omega⟩ q) (ix2 p q) (funext fun k => Fin.ext ?_)).trans
      (hw ⟨p.val - r, by omega⟩ (by simp only; omega))
    fin_cases k
    · show r + 1 * (p.val - r) = p.val; omega
    · show 0 + 1 * q.val = q.val; omega

/-- A load of a row drops the rows stored elsewhere. -/
theorem row_other {v : View sig .tc .vmem Taps .f32} {r j : ℕ} {inb : ∀ a, (![r, 0] : Fin 2 → ℕ) a + (![1, 256] : Fin 2 → ℕ) a ≤ Taps.size a}
    {inb' : ∀ a, (![j, 0] : Fin 2 → ℕ) a + (![1, 256] : Fin 2 → ℕ) a ≤ Taps.size a}
    (w : (Rect.unit (s := Taps) ![r, 0] ![1, 256] inb).shape.Idx → Elt Ideal .f32) (T : List (View.Piece (Elt Ideal) Taps .f32)) (h : r < j) :
    v.readCov (⟨Rect.unit (s := Taps) ![r, 0] ![1, 256] inb, w⟩ :: T) (Rect.unit (s := Taps) ![j, 0] ![1, 256] inb').toLoadRect
      = v.readCov T (Rect.unit (s := Taps) ![j, 0] ![1, 256] inb').toLoadRect := by
  rw [View.readCov_eq_canon', View.readCov_eq_canon']
  funext x
  refine canon_out w T _ 0 (.inr ?_)
  show r + 1 ≤ j + 1 * (x 0).val
  omega

abbrev Src := List (View.Piece (Elt Ideal) Rows .f32)
abbrev Dst := List (View.Piece (Elt Ideal) Copies .f32)

/-- The list's piece for a key `(b, r)`: it starts at row `r` of copy `b`, holds the rows up to the next multiple of 64
    that fit, and its value is the block's. -/
def Good (S : ℕ → ℕ → EReal) (k : ℕ × ℕ) (p : View.Piece (Elt Ideal) Copies .f32) : Prop :=
  (∀ y : Copies.Idx, (y 0).val = k.1 → k.2 ≤ (y 1).val → (y 1).val < k.2 + 64 → (y 1).val < 536 + 8 * (1 - k.1) → y ∈ p.1.set)
    ∧ ∀ x, p.2 x = S ((p.1.emb x 1).val + (p.1.emb x 0).val) (p.1.emb x 2).val

/-- The keys in the order of the stores, the last one first. -/
def keys : List (ℕ × ℕ) := (List.range 8).reverse.flatMap fun b => (List.range 9).reverse.map fun i => (b, 64 * i)

theorem mem_keys : ∀ b < 8, ∀ i < 9, (b, 64 * i) ∈ keys := by decide

theorem read_of_good {S : ℕ → ℕ → EReal} : ∀ {ks : List (ℕ × ℕ)} {L : Dst}, List.Forall₂ (Good S) ks L →
    ∀ (y : Copies.Idx), (∃ k ∈ ks, (y 0).val = k.1 ∧ k.2 ≤ (y 1).val ∧ (y 1).val < k.2 + 64) →
    (y 1).val < 536 + 8 * (1 - (y 0).val) → View.canon L y = S ((y 1).val + (y 0).val) (y 2).val
  | _, _, .nil, y, hk, _ => by obtain ⟨k, hk, _⟩ := hk; exact absurd hk List.not_mem_nil
  | _, _, .cons (a := k) (b := p) (l₁ := ks) (l₂ := L) hp hL, y, hk, hr => by
    by_cases hm : y ∈ p.1.set
    · obtain ⟨x, rfl⟩ := p.1.exists_idx_of_mem hm
      exact (View.canon_cons_emb p.1 p.2 L x).trans (hp.2 x)
    · rw [View.canon_cons_of_not_mem _ _ hm]
      refine read_of_good hL y ?_ hr
      obtain ⟨q, hq, h1, h2, h3⟩ := hk
      rcases List.mem_cons.mp hq with rfl | hq'
      · exact absurd (hp.1 y h1 h2 h3 (h1 ▸ hr)) hm
      · exact ⟨q, hq', h1, h2, h3⟩

/-- A store of the copies is good: the rows come from a load `b` rows further on of a list that leaves the block. -/
theorem good {S : ℕ → ℕ → EReal} {L : Src} (hL : ∀ y : Rows.Idx, View.canon L y = S (y 0).val (y 1).val)
    {v : View sig .tc .vmem Rows .f32} {b r r' n : ℕ} (hr : r' = r + b) (hn : 64 ≤ n ∨ 536 + 8 * (1 - b) ≤ r + n)
    {inb : ∀ a, (![b, r, 0] : Fin 3 → ℕ) a + (![1, n, 256] : Fin 3 → ℕ) a ≤ Copies.size a}
    {inb' : ∀ a, (![r', 0] : Fin 2 → ℕ) a + (![n, 256] : Fin 2 → ℕ) a ≤ Rows.size a}
    (hc : (⟨2, ![n, 256]⟩ : Shape).ShapeCasts ⟨3, ![1, n, 256]⟩) :
    Good S (b, r) ⟨Rect.unit (s := Copies) ![b, r, 0] ![1, n, 256] inb,
      shapeCast (α := EReal) (s := ⟨2, ![n, 256]⟩) ⟨3, ![1, n, 256]⟩ (v.readCov L (Rect.unit (s := Rows) ![r', 0] ![n, 256] inb').toLoadRect) hc⟩ := by
  subst hr
  constructor
  · intro y h0 h1 h2 h3
    refine (Rect.mem_set_unit (inb := inb)).mpr fun a => ?_
    fin_cases a
    · simp at h0 ⊢; omega
    · simp at h1 h2 h3 ⊢; omega
    · have := (y 2).isLt
      simp at this ⊢; omega
  · intro (x : (⟨3, ![1, n, 256]⟩ : Shape).Idx)
    obtain ⟨e, p, q, rfl⟩ : ∃ (e : Fin 1) (p : Fin n) (q : Fin 256), x = ix3 e p q := ⟨x 0, x 1, x 2, by
      funext a; fin_cases a <;> rfl⟩
    obtain rfl : e = 0 := Subsingleton.elim _ _
    let w : (⟨2, ![n, 256]⟩ : Shape).Idx → EReal := v.readCov L (Rect.unit (s := Rows) ![r + b, 0] ![n, 256] inb').toLoadRect
    refine (show shapeCast ⟨3, ![1, n, 256]⟩ w hc (ix3 0 p q) = _ from ValueIdx.shapeCast_ab_1ab_apply w hc 0 p q).trans ?_
    refine (congrFun (View.readCov_eq_canon' v L (Rect.unit (s := Rows) ![r + b, 0] ![n, 256] inb').toLoadRect) (ix2 p q)).trans ?_
    refine (hL _).trans (congrArg₂ S ?_ ?_)
    · show r + b + 1 * p.val = r + 1 * p.val + (b + 1 * 0)
      omega
    · rfl

/-- A load of 64 rows of a copy. -/
theorem tap {S : ℕ → ℕ → EReal} {L : Dst} (hL : List.Forall₂ (Good S) keys L) {v : View sig .tc .vmem Copies .f32} (b r : ℕ)
    (hb : b < 8) (hr : r + 64 ≤ 536 + 8 * (1 - b))
    (inb : ∀ a, (![b, r, 0] : Fin 3 → ℕ) a + (![1, 64, 256] : Fin 3 → ℕ) a ≤ Copies.size a) (p : Fin 64) (q : Fin 256) :
    v.readCov L (Rect.unit (s := Copies) ![b, r, 0] ![1, 64, 256] inb).toLoadRect (ix3 0 p q) = S (p.val + (r + b)) q.val := by
  refine (congrFun (View.readCov_eq_canon' v L (Rect.unit (s := Copies) ![b, r, 0] ![1, 64, 256] inb).toLoadRect) (ix3 0 p q)).trans ?_
  have e1 : ((Rect.unit (s := Copies) ![b, r, 0] ![1, 64, 256] inb).toLoadRect.idx (ix3 0 p q) 1).val = r + 1 * p.val := rfl
  have e0 : ((Rect.unit (s := Copies) ![b, r, 0] ![1, 64, 256] inb).toLoadRect.idx (ix3 0 p q) 0).val = b + 1 * 0 := rfl
  refine (read_of_good hL _ ⟨(b, 64 * ((r + p.val) / 64)), mem_keys b hb _ (by omega), by rw [e0]; simp, by rw [e1]; simp; omega,
    by rw [e1]; simp; omega⟩ (by rw [e0, e1]; omega)).trans (congrArg₂ S (by rw [e0, e1]; omega) ?_)
  show 0 + 1 * q.val = q.val
  omega

end Cert.ConvKernelIdeal.Store

end
-- ==== Proof.ConvMath.lean ====
/-
  The gated causal convolution's backward step over real numbers.
-/
module

public import proofs.«01_k».proof.Proof.Reals

@[expose] public section

noncomputable section

open Idealize.ShloMosaic

namespace Cert.ConvMath

/-- The logistic function. -/
def sg (z : ℝ) : ℝ := (1 + Real.exp (-z))⁻¹

theorem sg_coe (z : ℝ) : Ideal.logistic (z : EReal) = (sg z : EReal) := Ideal.logistic_coe z

/-- The cotangent, the two halves of the gate and the taps, by row and channel; the cotangent is zero behind the last row. -/
structure Data where
  dy : ℕ → ℕ → ℝ
  u : ℕ → ℕ → ℝ
  gt : ℕ → ℕ → ℝ
  w : ℕ → ℕ → ℝ
  dy_zero : ∀ r l, 8192 ≤ r → dy r l = 0

/-- What arrays that hold the data are. -/
structure Fits (x0 : Fin 8192 → Fin 512 → EReal) (x1 : Fin 8192 → Fin 1792 → EReal) (x2 : Fin 31 → Fin 512 → EReal)
    (D : Data) : Prop where
  dy : ∀ r l, x0 r l = (D.dy r.val l.val : EReal)
  u : ∀ (r : Fin 8192) (l : Fin 512), x1 r ⟨768 + l.val, by omega⟩ = (D.u r.val l.val : EReal)
  gt : ∀ (r : Fin 8192) (l : Fin 512), x1 r ⟨1280 + l.val, by omega⟩ = (D.gt r.val l.val : EReal)
  w : ∀ (j : Fin 31) (l : Fin 512), x2 j l = (D.w j.val l.val : EReal)

variable (D : Data)

/-- The gated rows with 32 rows of zeros before them. -/
def Data.hp (r l : ℕ) : ℝ := if r < 32 then 0 else D.u (r - 32) l * sg (D.gt (r - 32) l)

/-- The cotangent of the gated row `a + p`, and those of its two halves. -/
def Data.dh (a p l : ℕ) : ℝ := ∑ j ∈ Finset.range 31, D.dy (a + (p + (30 - j))) l * D.w j l
def Data.du (a p l : ℕ) : ℝ := D.dh a p l * sg (D.gt (a + p) l)
def Data.dg (a p l : ℕ) : ℝ := D.dh a p l * D.u (a + p) l * sg (D.gt (a + p) l) * (1 - sg (D.gt (a + p) l))

/-- What row `r` adds to the gradient of tap `j`. -/
def Data.term (j r l : ℕ) : ℝ := D.dy r l * D.hp (r + (2 + j)) l

/-- What 512 rows from `a` on add to the gradient of tap `j`, and that gradient; the last row of the block has no tap. -/
def Data.part (j a l : ℕ) : ℝ := if j < 31 then ∑ r ∈ Finset.range 512, D.term j (a + r) l else 0
def Data.dw (j l : ℕ) : ℝ := if j < 31 then ∑ r ∈ Finset.range 8192, D.term j r l else 0

/-- A sum block by block. -/
theorem sum_blocks (F : ℕ → ℝ) (m n : ℕ) : ∑ k ∈ Finset.range n, ∑ r ∈ Finset.range m, F (k * m + r) = ∑ r ∈ Finset.range (n * m), F r := by
  induction n with
  | zero => simp
  | succ n ih => rw [Finset.sum_range_succ, ih, Nat.succ_mul, Finset.sum_range_add]

theorem Data.part_sum (j l : ℕ) : ∑ k ∈ Finset.range 16, D.part j (k * 512) l = D.dw j l := by
  unfold Data.part Data.dw
  split_ifs
  · exact sum_blocks (fun r => D.term j r l) 512 16
  · simp

/-- 512 rows added 64 at a time, eight sums apart. -/
theorem sum_rows (F : ℕ → ℝ) : ∑ r ∈ Finset.range 512, F r = ∑ s : Fin 8, (∑ k : Fin 8, F (k.val * 8 + s.val)
    + ∑ k : Fin 8, F (k.val * 8 + s.val + 64) + ∑ k : Fin 8, F (k.val * 8 + s.val + 128) + ∑ k : Fin 8, F (k.val * 8 + s.val + 192)
    + ∑ k : Fin 8, F (k.val * 8 + s.val + 256) + ∑ k : Fin 8, F (k.val * 8 + s.val + 320) + ∑ k : Fin 8, F (k.val * 8 + s.val + 384)
    + ∑ k : Fin 8, F (k.val * 8 + s.val + 448)) := by
  have h : ∀ c, ∑ r ∈ Finset.range 64, F (c * 64 + r) = ∑ s : Fin 8, ∑ k : Fin 8, F (k.val * 8 + s.val + c * 64) := by
    intro c
    rw [← sum_blocks (fun r => F (c * 64 + r)) 8 8, Finset.sum_comm, Finset.sum_range]
    refine Finset.sum_congr rfl fun s _ => ?_
    rw [Finset.sum_range]
    exact Finset.sum_congr rfl fun k _ => congrArg F (by omega)
  rw [← sum_blocks F 64 8]
  simp only [h, Finset.sum_range_succ, Finset.sum_range_zero, zero_add, Finset.sum_add_distrib, Nat.zero_mul, Nat.add_zero, Nat.one_mul,
    Nat.reduceMul]

end Cert.ConvMath

end
-- ==== Proof.ConvValue.lean ====
/-
  What the convolution's backward call leaves in its three result arrays.
-/
module

public import proofs.«01_k».proof.Proof.Gen.ConvKernelIdeal.Value
public import proofs.«01_k».proof.Proof.ConvStore
public import proofs.«01_k».proof.Proof.ConvMath
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ConvKernelIdeal.RefValue

open Cert.ConvKernelIdeal Cert.ConvKernelIdeal.Gen Cert.Reals Cert.ConvMath Cert.ConvKernelIdeal.Store

variable (m : (ℓ : Loc nD τ sig) → Buf (Elt Ideal) ℓ)

theorem idx : ∀ t : Fin cfg0.N, win0_0.index t = ![t.val % 16, t.val / 16] ∧ win0_1.index t = ![min ((t.val % 16 + 1) * 16) 255, t.val / 16]
    ∧ win0_2.index t = ![t.val % 16, 3 + t.val / 16] ∧ win0_3.index t = ![t.val % 16, 5 + t.val / 16]
    ∧ win0_4.index t = ![t.val % 16 * 16 - 1, 3 + t.val / 16] ∧ win0_5.index t = ![t.val % 16 * 16 - 1, 5 + t.val / 16]
    ∧ win0_6.index t = ![0, t.val / 16] ∧ win0_7.index t = ![t.val % 16, t.val / 16] ∧ win0_8.index t = ![t.val % 16, t.val / 16]
    ∧ win0_9.index t = ![0, t.val / 16] ∧ (grid0.coords t 1).val = t.val % 16 :=
  (by decide +kernel : ∀ t : Fin grid0.N, _)

theorem lt32 (t : Fin cfg0.N) : t.val < 32 := lt_of_lt_of_eq t.isLt (show cfg0.N = 32 from N_0)

/-- The kernel's argument arrays are the data `D`. -/
abbrev IsData (c : Dev nD) (D : Data) : Prop :=
  Fits (fun r l => m ((c : Thread nD τ).loc main_arg0) (ix2 r l)) (fun r l => m ((c : Thread nD τ).loc main_arg1) (ix2 r l))
    (fun j l => m ((c : Thread nD τ).loc main_arg2) (ix2 j l)) D

/-- The taps the call pads are the taps. -/
theorem padded (c : Dev nD) (j : Fin 32) (h : j.val < 31) (l : Fin 512) :
    StableHlo.after [hostOps0, hostOps0_1].flatten (fun b => m (c, b)) (Proc.tc.devRef main_v0) (ix2 j l)
      = m ((c : Thread nD τ).loc main_arg2) (ix2 ⟨j.val, h⟩ l) := by
  after_reads_at
  exact dif_pos h

variable {m} {c : Dev nD} {D : Data} (H : IsData m c D) (t : Fin cfg0.N)
  {a b : ℕ} (ha : a = t.val % 16 * 512) (hb : b = t.val / 16 * 256)
include H ha hb

/-- The blocks of a point, whose first row is `a` and whose first channel is `b`. -/
theorem blk0 (r : Fin 512) (l : Fin 256) : iblk m c 0 t (ix2 r l) = (D.dy (a + r.val) (b + l.val) : EReal) := by
  have hN := lt32 t
  have e : iblk m c 0 t (ix2 r l) = m ((c : Thread nD τ).loc main_arg0) (ix2 ⟨a + r.val, by omega⟩ ⟨b + l.val, by omega⟩) := by
    blk_point [iblk, V, idx t] <;> omega
  exact e.trans (H.dy _ _)

theorem blk1 (h : t.val % 16 < 15) (r : Fin 32) (l : Fin 256) : iblk m c 1 t (ix2 r l) = (D.dy (a + (512 + r.val)) (b + l.val) : EReal) := by
  have hN := lt32 t
  have e : iblk m c 1 t (ix2 r l) = m ((c : Thread nD τ).loc main_arg0) (ix2 ⟨a + (512 + r.val), by omega⟩ ⟨b + l.val, by omega⟩) := by
    blk_point [iblk, V, idx t] <;> omega
  exact e.trans (H.dy _ _)

theorem blk2 (r : Fin 512) (l : Fin 256) : iblk m c 2 t (ix2 r l) = (D.u (a + r.val) (b + l.val) : EReal) := by
  have hN := lt32 t
  have e : iblk m c 2 t (ix2 r l) = m ((c : Thread nD τ).loc main_arg1) (ix2 ⟨a + r.val, by omega⟩ ⟨768 + (b + l.val), by omega⟩) := by
    blk_point [iblk, V, idx t] <;> omega
  exact e.trans (H.u ⟨a + r.val, by omega⟩ ⟨b + l.val, by omega⟩)

theorem blk3 (r : Fin 512) (l : Fin 256) : iblk m c 3 t (ix2 r l) = (D.gt (a + r.val) (b + l.val) : EReal) := by
  have hN := lt32 t
  have e : iblk m c 3 t (ix2 r l) = m ((c : Thread nD τ).loc main_arg1) (ix2 ⟨a + r.val, by omega⟩ ⟨1280 + (b + l.val), by omega⟩) := by
    blk_point [iblk, V, idx t] <;> omega
  exact e.trans (H.gt ⟨a + r.val, by omega⟩ ⟨b + l.val, by omega⟩)

theorem blk4 (h : 0 < t.val % 16) (r : Fin 32) (l : Fin 256) : iblk m c 4 t (ix2 r l) = (D.u (a + r.val - 32) (b + l.val) : EReal) := by
  have hN := lt32 t
  have e : iblk m c 4 t (ix2 r l) = m ((c : Thread nD τ).loc main_arg1) (ix2 ⟨a + r.val - 32, by omega⟩ ⟨768 + (b + l.val), by omega⟩) := by
    blk_point [iblk, V, idx t] <;> omega
  exact e.trans (H.u ⟨a + r.val - 32, by omega⟩ ⟨b + l.val, by omega⟩)

theorem blk5 (h : 0 < t.val % 16) (r : Fin 32) (l : Fin 256) : iblk m c 5 t (ix2 r l) = (D.gt (a + r.val - 32) (b + l.val) : EReal) := by
  have hN := lt32 t
  have e : iblk m c 5 t (ix2 r l) = m ((c : Thread nD τ).loc main_arg1) (ix2 ⟨a + r.val - 32, by omega⟩ ⟨1280 + (b + l.val), by omega⟩) := by
    blk_point [iblk, V, idx t] <;> omega
  exact e.trans (H.gt ⟨a + r.val - 32, by omega⟩ ⟨b + l.val, by omega⟩)

theorem blk6 (j : Fin 32) (h : j.val < 31) (l : Fin 256) : iblk m c 6 t (ix2 j l) = (D.w j.val (b + l.val) : EReal) := by
  have hN := lt32 t
  have i : ((cfg0.win 6).blk t).view.emb (ix2 j l) = ix2 j ⟨b + l.val, by omega⟩ := by blk_ext [idx t] <;> omega
  blk_simp [iblk, V]
  rw [i]
  exact (padded m c j h _).trans (H.w _ _)

/-- The cotangent's rows with the 32 behind them, -/
theorem src2 (v) (hv : v = k0_pay77 (BitVec.ofNat 32 (grid0.coords t 1).val) (iblk m c 1 t)) (i0 i1) : ∀ y : S544x256.Idx,
    View.canon (Val := Elt Ideal) (s := S544x256) (e := .f32) [⟨Rect.unit ![512, 0] ![32, 256] i0, v⟩, ⟨Rect.unit ![0, 0] ![512, 256] i1, k0_pay76 (iblk m c 0 t)⟩] y
      = (D.dy (a + (y 0).val) (b + (y 1).val) : EReal) := by
  intro y
  have hN := lt32 t
  subst hv
  idx_vars y
  by_cases h : 512 ≤ y0.val
  · refine (canon_in _ _ _ (ix2 ⟨y0.val - 512, by omega⟩ y1) ?_).trans ?_
    · intro k; fin_cases k <;> simp <;> omega
    · pointwise [k0_pay77]
      rw [(idx t).2.2.2.2.2.2.2.2.2.2]
      by_cases h15 : t.val % 16 < 15
      · rw [show Scalar.cmpi CmpIPredicate.slt (BitVec.ofNat 32 (t.val % 16)) 15#32 = 1#1 by word_cmp, Scalar.select]
        refine (blk1 H t ha hb h15 _ _).trans ?_
        rw [show 512 + (y0.val - 512) = y0.val by omega]
      · rw [show Scalar.cmpi CmpIPredicate.slt (BitVec.ofNat 32 (t.val % 16)) 15#32 = 0#1 by word_cmp, Scalar.select]
        show (0 : EReal) = (D.dy (a + y0.val) (b + y1.val) : EReal)
        rw [D.dy_zero _ _ (by omega)]; rfl
  · refine (canon_out _ _ _ 0 (by left; simpa using h)).trans ((canon_in _ _ _ (ix2 ⟨y0.val, by omega⟩ y1) ?_).trans ?_)
    · intro k; fin_cases k <;> simp
    · pointwise [k0_pay76]
      exact blk0 H t ha hb _ _

/-- and the rows of the gated branch with the 32 before them. -/
theorem src0 (n) (hn : n = (grid0.coords t)) (i0 i1) : ∀ y : S544x256.Idx,
    View.canon (Val := Elt Ideal) (s := S544x256) (e := .f32) [⟨Rect.unit ![32, 0] ![512, 256] i0, k0_pay3 (iblk m c 2 t) (iblk m c 3 t)⟩,
      ⟨Rect.unit ![0, 0] ![32, 256] i1, k0_pay2 n (iblk m c 4 t) (iblk m c 5 t)⟩] y = (D.hp (a + (y 0).val) (b + (y 1).val) : EReal) := by
  intro y
  have hN := lt32 t
  subst hn
  idx_vars y
  by_cases h : 32 ≤ y0.val
  · refine (canon_in _ _ _ (ix2 ⟨y0.val - 32, by omega⟩ y1) ?_).trans ?_
    · intro k; fin_cases k <;> simp <;> omega
    · pointwise [k0_pay3]
      show _ = (D.hp (a + y0.val) (b + y1.val) : EReal)
      rw [blk2 H t ha hb, blk3 H t ha hb, sg_coe, ← EReal.coe_mul, Data.hp, if_neg (by omega)]
      simp only [show a + (y0.val - 32) = a + y0.val - 32 by omega]
  · refine (canon_out _ _ _ 0 (by left; simpa using h)).trans ((canon_in _ _ _ (ix2 ⟨y0.val, by omega⟩ y1) ?_).trans ?_)
    · intro k; fin_cases k <;> simp
    · pointwise [k0_pay2]
      rw [(idx t).2.2.2.2.2.2.2.2.2.2]
      by_cases h0 : 0 < t.val % 16
      · rw [show Scalar.cmpi CmpIPredicate.sgt (BitVec.ofNat 32 (t.val % 16)) 0#32 = 1#1 by word_cmp, Scalar.select]
        show HMul.hMul (α := EReal) (β := EReal) (γ := EReal) (iblk m c 4 t (ix2 ⟨y0.val, by omega⟩ y1)) (Ideal.logistic (iblk m c 5 t (ix2 ⟨y0.val, by omega⟩ y1))) = (D.hp (a + y0.val) (b + y1.val) : EReal)
        rw [blk4 H t ha hb h0, blk5 H t ha hb h0, sg_coe, Data.hp, if_neg (by omega), EReal.coe_mul]
      · rw [show Scalar.cmpi CmpIPredicate.sgt (BitVec.ofNat 32 (t.val % 16)) 0#32 = 0#1 by word_cmp, Scalar.select]
        show (0 : EReal) = (D.hp (a + y0.val) (b + y1.val) : EReal)
        rw [Data.hp, if_pos (by omega)]; rfl

/-- A load of the shifted copies of the cotangent. -/
theorem tap3 {L : Dst} (hL : List.Forall₂ (Good fun r l => (D.dy (a + r) (b + l) : EReal)) keys L) (v : View sig .tc .vmem S8x544x256 .f32)
    (k r : ℕ) (inb) (p : Fin 64) (q : Fin 256) (hk : k < 8) (hr : r + 64 ≤ 536 + 8 * (1 - k)) :
    v.readCov L (Rect.unit (s := S8x544x256) ![k, r, 0] ![1, 64, 256] inb).toLoadRect (ix3 0 p q) = (D.dy (a + (p.val + (r + k))) (b + q.val) : EReal) :=
  tap hL k r hk hr inb p q

/-- A row of the middle of a block. -/
theorem at2 (r : ℕ) (x : Fin 64) (h : r + x.val < 512) (l : Fin 256) : iblk m c 2 t (ix2 ⟨r + x.val, h⟩ l) = (D.u (a + (x.val + r)) (b + l.val) : EReal) := by
  rw [blk2 H t ha hb]; simp only [Nat.add_comm r]
theorem at3 (r : ℕ) (x : Fin 64) (h : r + x.val < 512) (l : Fin 256) : iblk m c 3 t (ix2 ⟨r + x.val, h⟩ l) = (D.gt (a + (x.val + r)) (b + l.val) : EReal) := by
  rw [blk3 H t ha hb]; simp only [Nat.add_comm r]

set_option maxHeartbeats 2000000 in
theorem point7 (p : Fin 512) (q : Fin 256) : (outsAt0 m c t.val t.isLt).1 (ix2 p q) = (D.du a p.val (b + q.val) : EReal) := by
  by_cases h : t.val % 16 = 0
  all_goals
    first | rw [outsAt0_A m c t h] | rw [outsAt0_B m c t h]
    frame_out
    generalize hf : View.readCov (Val := Elt Idealize.ShloMosaic.Ideal) (View.whole cc0_scratch3) _ = f
    have hT : ∀ (k r : ℕ) (inb) (p : Fin 64) (q : Fin 256) (hk : k < 8) (hr : r + 64 ≤ 536 + 8 * (1 - k)),
        f (Rect.unit (s := S8x544x256) ![k, r, 0] ![1, 64, 256] inb).toLoadRect (ix3 0 p q) = (D.dy (a + (p.val + (r + k))) (b + q.val) : EReal) := by
      subst hf
      refine tap3 H t ha hb ?_ _
      have hs := src2 H t ha hb _ rfl
      repeat' first | exact .nil | refine .cons (good (hs _ _) (by first | rfl | omega) (by first | omega | decide) _) ?_
    clear hf
    have hW := fun j h l => blk6 H t ha hb j h l
    repeat' first
      | (intros; exfalso; omega)
      | refine rows_step (fun x hx => ?_) fun _ => ?_
        rw [hx]
        pointwise [
          k0_pay151, k0_pay152, k0_pay153, k0_pay154, k0_pay155, k0_pay156, k0_pay157, k0_pay158, k0_pay159, k0_pay160, k0_pay161, k0_pay162,
          k0_pay163, k0_pay164, k0_pay165, k0_pay166, k0_pay167, k0_pay168, k0_pay169, k0_pay170, k0_pay171, k0_pay172, k0_pay173, k0_pay174,
          k0_pay175, k0_pay176, k0_pay177, k0_pay178, k0_pay179, k0_pay180, k0_pay181, k0_pay182, k0_pay183, k0_pay184, k0_pay185, k0_pay186,
          k0_pay187, k0_pay188, k0_pay189, k0_pay190, k0_pay191, k0_pay192, k0_pay193, k0_pay194, k0_pay195, k0_pay196, k0_pay197, k0_pay198,
          k0_pay199, k0_pay200, k0_pay201, k0_pay202, k0_pay203, k0_pay204, k0_pay205, k0_pay206, k0_pay207, k0_pay208, k0_pay209, k0_pay210,
          k0_pay211, k0_pay212, k0_pay213, k0_pay214, k0_pay215, k0_pay216, k0_pay217, k0_pay218, k0_pay219, k0_pay220, k0_pay221, k0_pay222,
          k0_pay223, k0_pay224, k0_pay225, k0_pay226, k0_pay227, k0_pay228, k0_pay229, k0_pay230, k0_pay231, k0_pay232, k0_pay233, k0_pay234,
          k0_pay235, k0_pay236, k0_pay237, k0_pay238, k0_pay239, k0_pay240, k0_pay241, k0_pay242, k0_pay243, k0_pay244, k0_pay245, k0_pay246,
          k0_pay247, k0_pay248, k0_pay249, k0_pay250, k0_pay251, k0_pay252, k0_pay253, k0_pay254, k0_pay255, k0_pay256, k0_pay257, k0_pay258,
          k0_pay259, k0_pay260, k0_pay261, k0_pay262, k0_pay263, k0_pay264]
        simp only [hT, hW, at2 H t ha hb, at3 H t ha hb, blk2 H t ha hb, blk3 H t ha hb, sg_coe, Data.du, Data.dg, Data.dh, Finset.sum_range_succ, Finset.sum_range_zero, zero_add,
          Fin.isValue, Fin.coe_ofNat_eq_mod, Nat.reduceMod, Nat.reduceSub, Nat.add_assoc, Nat.reduceAdd, Nat.reduceSub, Nat.reduceMul, Nat.reduceLT, Nat.reduceLeDiff, ← EReal.coe_mul, ← EReal.coe_add]

set_option maxHeartbeats 2000000 in
theorem point8 (p : Fin 512) (q : Fin 256) : (outsAt0 m c t.val t.isLt).2.1 (ix2 p q) = (D.dg a p.val (b + q.val) : EReal) := by
  by_cases h : t.val % 16 = 0
  all_goals
    first | rw [outsAt0_A m c t h] | rw [outsAt0_B m c t h]
    frame_out
    generalize hf : View.readCov (Val := Elt Idealize.ShloMosaic.Ideal) (View.whole cc0_scratch3) _ = f
    have hT : ∀ (k r : ℕ) (inb) (p : Fin 64) (q : Fin 256) (hk : k < 8) (hr : r + 64 ≤ 536 + 8 * (1 - k)),
        f (Rect.unit (s := S8x544x256) ![k, r, 0] ![1, 64, 256] inb).toLoadRect (ix3 0 p q) = (D.dy (a + (p.val + (r + k))) (b + q.val) : EReal) := by
      subst hf
      refine tap3 H t ha hb ?_ _
      have hs := src2 H t ha hb _ rfl
      repeat' first | exact .nil | refine .cons (good (hs _ _) (by first | rfl | omega) (by first | omega | decide) _) ?_
    clear hf
    have hW := fun j h l => blk6 H t ha hb j h l
    repeat' first
      | (intros; exfalso; omega)
      | refine rows_step (fun x hx => ?_) fun _ => ?_
        rw [hx]
        pointwise [
          k0_pay151, k0_pay152, k0_pay153, k0_pay154, k0_pay155, k0_pay156, k0_pay157, k0_pay158, k0_pay159, k0_pay160, k0_pay161, k0_pay162,
          k0_pay163, k0_pay164, k0_pay165, k0_pay166, k0_pay167, k0_pay168, k0_pay169, k0_pay170, k0_pay171, k0_pay172, k0_pay173, k0_pay174,
          k0_pay175, k0_pay176, k0_pay177, k0_pay178, k0_pay179, k0_pay180, k0_pay181, k0_pay182, k0_pay183, k0_pay184, k0_pay185, k0_pay186,
          k0_pay187, k0_pay188, k0_pay189, k0_pay190, k0_pay191, k0_pay192, k0_pay193, k0_pay194, k0_pay195, k0_pay196, k0_pay197, k0_pay198,
          k0_pay199, k0_pay200, k0_pay201, k0_pay202, k0_pay203, k0_pay204, k0_pay205, k0_pay206, k0_pay207, k0_pay208, k0_pay209, k0_pay210,
          k0_pay211, k0_pay212, k0_pay213, k0_pay214, k0_pay215, k0_pay216, k0_pay217, k0_pay218, k0_pay219, k0_pay220, k0_pay221, k0_pay222,
          k0_pay223, k0_pay224, k0_pay225, k0_pay226, k0_pay227, k0_pay228, k0_pay229, k0_pay230, k0_pay231, k0_pay232, k0_pay233, k0_pay234,
          k0_pay235, k0_pay236, k0_pay237, k0_pay238, k0_pay239, k0_pay240, k0_pay241, k0_pay242, k0_pay243, k0_pay244, k0_pay245, k0_pay246,
          k0_pay247, k0_pay248, k0_pay249, k0_pay250, k0_pay251, k0_pay252, k0_pay253, k0_pay254, k0_pay255, k0_pay256, k0_pay257, k0_pay258,
          k0_pay259, k0_pay260, k0_pay261, k0_pay262, k0_pay263, k0_pay264]
        simp only [hT, hW, at2 H t ha hb, at3 H t ha hb, blk2 H t ha hb, blk3 H t ha hb, sg_coe, Data.du, Data.dg, Data.dh, Finset.sum_range_succ, Finset.sum_range_zero, zero_add,
          Fin.isValue, Fin.coe_ofNat_eq_mod, Nat.reduceMod, Nat.reduceSub, Nat.add_assoc, Nat.reduceAdd, Nat.reduceSub, Nat.reduceMul, Nat.reduceLT, Nat.reduceLeDiff, ← EReal.coe_mul, ← EReal.coe_add, ← EReal.coe_one, ← EReal.coe_sub]

end Cert.ConvKernelIdeal.RefValue

end
-- ==== Proof.ConvTaps.lean ====
/-
  What the convolution's backward call leaves in the gradient of the taps.
-/
module

public import proofs.«01_k».proof.Proof.ConvValue
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ConvKernelIdeal.RefValue

open Cert.ConvKernelIdeal Cert.ConvKernelIdeal.Gen Cert.Reals Cert.ConvMath Cert.ConvKernelIdeal.Store

variable {m : (ℓ : Loc nD τ sig) → Buf (Elt Ideal) ℓ} {c : Dev nD} {D : Data} (H : IsData m c D) (t : Fin cfg0.N)
  {a b : ℕ} (ha : a = t.val % 16 * 512) (hb : b = t.val / 16 * 256)
include H ha hb

theorem tap1 {L : Dst} (hL : List.Forall₂ (Good fun r l => (D.hp (a + r) (b + l) : EReal)) keys L) (v : View sig .tc .vmem S8x544x256 .f32)
    (k r : ℕ) (inb) (p : Fin 64) (q : Fin 256) (hk : k < 8) (hr : r + 64 ≤ 536 + 8 * (1 - k)) :
    v.readCov L (Rect.unit (s := S8x544x256) ![k, r, 0] ![1, 64, 256] inb).toLoadRect (ix3 0 p q) = (D.hp (a + (p.val + (r + k))) (b + q.val) : EReal) :=
  tap hL k r hk hr inb p q

/-- A row of a block of the cotangent. -/
theorem row0 (k s : Fin 8) (h : k.val * 8 + s.val < 512) (l : Fin 256) :
    iblk m c 0 t (ix2 ⟨k.val * 8 + s.val, h⟩ l) = (D.dy (a + (k.val * 8 + s.val)) (b + l.val) : EReal) := blk0 H t ha hb _ _
theorem at0 (r : ℕ) (k s : Fin 8) (h : r + (k.val * 8 + s.val) < 512) (l : Fin 256) :
    iblk m c 0 t (ix2 ⟨r + (k.val * 8 + s.val), h⟩ l) = (D.dy (a + (k.val * 8 + s.val + r)) (b + l.val) : EReal) := by
  rw [blk0 H t ha hb]; simp only [Nat.add_comm r]

omit H ha hb in
/-- A row of the block filled with zeros. -/
theorem fill_row (v : View sig .tc .vmem S32x256 .f32) (j : ℕ) (i0 i1) (q : Fin 256) :
    v.readCov (Val := Elt Ideal) [⟨Rect.unit (s := S32x256) ![0, 0] ![32, 256] i0, k0_pay150 (F := Ideal)⟩] (Rect.unit (s := S32x256) ![j, 0] ![1, 256] i1).toLoadRect (ix2 0 q)
      = (0 : EReal) := by
  rw [View.readCov_eq_canon']
  refine (canon_in _ _ _ ((Rect.unit (s := S32x256) ![j, 0] ![1, 256] i1).toLoadRect.idx (ix2 0 q)) ?_).trans ?_
  · intro k; fin_cases k
    · exact (Nat.zero_add _).symm
    · exact (Nat.zero_add _).symm
  · pointwise [k0_pay150]

set_option maxHeartbeats 2000000 in
/-- The first point of a half of the channels sets the gradient of the taps, -/
theorem step_A (h : t.val % 16 = 0) (j : Fin 32) (q : Fin 256) :
    (outsAt0 m c t.val t.isLt).2.2 (ix2 j q) = (D.part j.val a (b + q.val) : EReal) := by
  rw [outsAt0_A m c t h]
  frame_out
  simp only [↓row_other, Nat.reduceLT]
  generalize hf : View.readCov (Val := Elt Idealize.ShloMosaic.Ideal) (View.whole cc0_scratch1) _ = f
  have hT : ∀ (k r : ℕ) (inb) (p : Fin 64) (q : Fin 256) (hk : k < 8) (hr : r + 64 ≤ 536 + 8 * (1 - k)),
      f (Rect.unit (s := S8x544x256) ![k, r, 0] ![1, 64, 256] inb).toLoadRect (ix3 0 p q) = (D.hp (a + (p.val + (r + k))) (b + q.val) : EReal) := by
    subst hf
    refine tap1 H t ha hb ?_ _
    have hs := src0 H t ha hb _ rfl
    repeat' first | exact .nil | refine .cons (good (hs _ _) (by first | rfl | omega) (by first | omega | decide) _) ?_
  clear hf
  repeat' first
    | (refine (canon_in _ _ _ (ix2 j q) fun k => by fin_cases k <;> exact (Nat.zero_add _).symm).trans ?_
       pointwise [k0_pay150]
       rw [Data.part, if_neg (by omega)]; rfl)
    | refine rows_step (fun x hx => ?_) fun _ => ?_
      obtain rfl : x = 0 := Subsingleton.elim _ _
      rw [hx]
      pointwise [
        k0_pay265, k0_pay266, k0_pay267, k0_pay268, k0_pay269, k0_pay270, k0_pay271, k0_pay272, k0_pay273, k0_pay274, k0_pay275, k0_pay276,
        k0_pay277, k0_pay278, k0_pay279, k0_pay280, k0_pay281, k0_pay282, k0_pay283, k0_pay284, k0_pay285, k0_pay286, k0_pay287, k0_pay288,
        k0_pay289, k0_pay290, k0_pay291, k0_pay292, k0_pay293, k0_pay294, k0_pay295, k0_pay296, k0_pay297, k0_pay298, k0_pay299, k0_pay300,
        k0_pay301, k0_pay302, k0_pay303, k0_pay304, k0_pay305, k0_pay306, k0_pay307, k0_pay308, k0_pay309, k0_pay310, k0_pay311, k0_pay312,
        k0_pay313, k0_pay314, k0_pay315, k0_pay316, k0_pay317, k0_pay318, k0_pay319, k0_pay320, k0_pay321, k0_pay322, k0_pay323, k0_pay324,
        k0_pay325, k0_pay326, k0_pay327, k0_pay328, k0_pay329, k0_pay330, k0_pay331, k0_pay332, k0_pay333, k0_pay334, k0_pay335, k0_pay336,
        k0_pay337, k0_pay338, k0_pay339, k0_pay340, k0_pay341, k0_pay342, k0_pay343, k0_pay344, k0_pay345, k0_pay346, k0_pay347, k0_pay348,
        k0_pay349, k0_pay350, k0_pay351, k0_pay352, k0_pay353, k0_pay354, k0_pay355, k0_pay356, k0_pay357, k0_pay358, k0_pay359, k0_pay360,
        k0_pay361, k0_pay362, k0_pay363, k0_pay364, k0_pay365, k0_pay366, k0_pay367, k0_pay368, k0_pay369, k0_pay370, k0_pay371, k0_pay372,
        k0_pay373, k0_pay374, k0_pay375, k0_pay376, k0_pay1]
      simp only [hT, at0 H t ha hb, row0 H t ha hb, Data.part, sum_rows, Data.term, Fin.isValue, Fin.coe_ofNat_eq_mod, Nat.reduceMod, Nat.zero_add, Nat.add_zero,
        Nat.add_assoc, Nat.reduceAdd, Nat.reduceSub, Nat.reduceMul, Nat.reduceLT, Nat.reduceLeDiff, ← EReal.coe_mul, coe_sum, ← EReal.coe_add, if_true]
      refine Eq.trans (congrArg (HAdd.hAdd (α := EReal) (β := EReal) (γ := EReal) · _) (fill_row _ _ _ _ _)) (zero_add _)

set_option maxHeartbeats 2000000 in
/-- and the others add to it. -/
theorem step_B (h : ¬t.val % 16 = 0) (j : Fin 32) (q : Fin 256) : (outsAt0 m c t.val t.isLt).2.2 (ix2 j q)
    = (outsAt0 m c (t.val - 1) (Nat.lt_of_le_of_lt (Nat.sub_le _ _) t.isLt)).2.2 (ix2 j q) + (D.part j.val a (b + q.val) : EReal) := by
  rw [outsAt0_B m c t h]
  frame_out
  generalize (outsAt0 m c (t.val - 1) _).2.2 = z
  obtain ⟨P, hP⟩ : ∃ P : ℕ → EReal, ∀ i : Fin 32, z (ix2 i q) = P i.val :=
    ⟨fun n => if h : n < 32 then z (ix2 ⟨n, h⟩ q) else 0, fun i => by simp⟩
  rw [hP j]
  generalize hf : View.readCov (Val := Elt Idealize.ShloMosaic.Ideal) (View.whole cc0_scratch1) _ = f
  have hT : ∀ (k r : ℕ) (inb) (p : Fin 64) (q : Fin 256) (hk : k < 8) (hr : r + 64 ≤ 536 + 8 * (1 - k)),
      f (Rect.unit (s := S8x544x256) ![k, r, 0] ![1, 64, 256] inb).toLoadRect (ix3 0 p q) = (D.hp (a + (p.val + (r + k))) (b + q.val) : EReal) := by
    subst hf
    refine tap1 H t ha hb ?_ _
    have hs := src0 H t ha hb _ rfl
    repeat' first | exact .nil | refine .cons (good (hs _ _) (by first | rfl | omega) (by first | omega | decide) _) ?_
  clear hf
  repeat' first
    | (rw [View.writes_nil, Memref.IsWhole.read_unread, hP, Data.part, if_neg (by omega)]
       simp)
    | refine put_step (fun x hx => ?_) fun _ => ?_
      obtain rfl : x = 0 := Subsingleton.elim _ _
      rw [hx]
      pointwise [
        k0_pay265, k0_pay266, k0_pay267, k0_pay268, k0_pay269, k0_pay270, k0_pay271, k0_pay272, k0_pay273, k0_pay274, k0_pay275, k0_pay276,
        k0_pay277, k0_pay278, k0_pay279, k0_pay280, k0_pay281, k0_pay282, k0_pay283, k0_pay284, k0_pay285, k0_pay286, k0_pay287, k0_pay288,
        k0_pay289, k0_pay290, k0_pay291, k0_pay292, k0_pay293, k0_pay294, k0_pay295, k0_pay296, k0_pay297, k0_pay298, k0_pay299, k0_pay300,
        k0_pay301, k0_pay302, k0_pay303, k0_pay304, k0_pay305, k0_pay306, k0_pay307, k0_pay308, k0_pay309, k0_pay310, k0_pay311, k0_pay312,
        k0_pay313, k0_pay314, k0_pay315, k0_pay316, k0_pay317, k0_pay318, k0_pay319, k0_pay320, k0_pay321, k0_pay322, k0_pay323, k0_pay324,
        k0_pay325, k0_pay326, k0_pay327, k0_pay328, k0_pay329, k0_pay330, k0_pay331, k0_pay332, k0_pay333, k0_pay334, k0_pay335, k0_pay336,
        k0_pay337, k0_pay338, k0_pay339, k0_pay340, k0_pay341, k0_pay342, k0_pay343, k0_pay344, k0_pay345, k0_pay346, k0_pay347, k0_pay348,
        k0_pay349, k0_pay350, k0_pay351, k0_pay352, k0_pay353, k0_pay354, k0_pay355, k0_pay356, k0_pay357, k0_pay358, k0_pay359, k0_pay360,
        k0_pay361, k0_pay362, k0_pay363, k0_pay364, k0_pay365, k0_pay366, k0_pay367, k0_pay368, k0_pay369, k0_pay370, k0_pay371, k0_pay372,
        k0_pay373, k0_pay374, k0_pay375, k0_pay376, k0_pay1]
      simp only [hT, hP, at0 H t ha hb, row0 H t ha hb, Data.part, sum_rows, Data.term, Fin.isValue, Fin.coe_ofNat_eq_mod, Nat.reduceMod, Nat.zero_add, Nat.add_zero,
        Nat.add_assoc, Nat.reduceAdd, Nat.reduceSub, Nat.reduceMul, Nat.reduceLT, Nat.reduceLeDiff, ← EReal.coe_mul, coe_sum, ← EReal.coe_add, if_true]

end Cert.ConvKernelIdeal.RefValue

end
-- ==== Proof.ConvFinal.lean ====
/-
  The three arrays the convolution's backward call leaves, whole.
-/
module

public import proofs.«01_k».proof.Proof.ConvTaps
public import Idealize.ShloMosaic.Lib.Claim

@[expose] public section

set_option maxRecDepth 16384

noncomputable section

open Idealize.ShloMosaic Idealize.ShloMosaic.TcCoe Idealize.SL.Sem

namespace Cert.ConvKernelIdeal.RefValue

open Cert.ConvKernelIdeal Cert.ConvKernelIdeal.Gen Cert.Reals Cert.ConvMath

variable {m : (ℓ : Loc nD τ sig) → Buf (Elt Ideal) ℓ} {c : Dev nD} {D : Data} (H : IsData m c D)
include H

theorem final7 : (dats m 0 c).arrAt 7 cfg0.N = fun i : S8192x512.Idx => (D.du 0 (i 0).val (i 1).val : EReal) := by
  refine (dats m 0 c).arrAt_eq_of_covers 7 _ (by decide +kernel) fun t _ y => ?_
  have hN := lt32 t
  blk_simp
  rw [after0_7]
  idx_vars y
  have e0 : win0_7.index t 0 = t.val % 16 := by simp [idx t]
  have e1 : win0_7.index t 1 = t.val / 16 := by simp [idx t]
  refine Eq.trans ?_ (congrArg₂ (fun r l => (D.du 0 (r * 512 + y0.val) (l * 256 + y1.val) : EReal)) e0.symm e1.symm)
  refine (point7 H t rfl rfl y0 y1).trans ?_
  simp only [Data.du, Data.dh, Nat.zero_add, Nat.add_assoc]

theorem final8 : (dats m 0 c).arrAt 8 cfg0.N = fun i : S8192x512.Idx => (D.dg 0 (i 0).val (i 1).val : EReal) := by
  refine (dats m 0 c).arrAt_eq_of_covers 8 _ (by decide +kernel) fun t _ y => ?_
  have hN := lt32 t
  blk_simp
  rw [after0_8]
  idx_vars y
  have e0 : win0_8.index t 0 = t.val % 16 := by simp [idx t]
  have e1 : win0_8.index t 1 = t.val / 16 := by simp [idx t]
  refine Eq.trans ?_ (congrArg₂ (fun r l => (D.dg 0 (r * 512 + y0.val) (l * 256 + y1.val) : EReal)) e0.symm e1.symm)
  refine (point8 H t rfl rfl y0 y1).trans ?_
  simp only [Data.dg, Data.dh, Nat.zero_add, Nat.add_assoc]

omit H in
/-- The tap block goes back after the last point of a half of the channels. -/
theorem last9 : ∀ t : Fin cfg0.N, (cfg0.win 9).flush t = true → t.val % 16 = 15 :=
  (by decide +kernel : ∀ t : Fin grid0.N, _)

theorem final9 : (dats m 0 c).arrAt 9 cfg0.N = fun i : S32x512.Idx => (D.dw (i 0).val (i 1).val : EReal) := by
  refine (dats m 0 c).arrAt_eq_of_covers 9 _ (by decide +kernel) fun t hf y => ?_
  have hN := lt32 t
  have hl := last9 t hf
  blk_simp
  rw [after0_9]
  idx_vars y
  have e0 : win0_9.index t 0 = 0 := by simp [idx t]
  have e1 : win0_9.index t 1 = t.val / 16 := by simp [idx t]
  refine Eq.trans ?_ (congrArg₂ (fun r l => (D.dw (r * 32 + y0.val) (l * 256 + y1.val) : EReal)) e0.symm e1.symm)
  refine (Pipeline.eq_sum_of_reset_step_apply_divmod (fun n h => (outsAt0 m c n h).2.2) 16 (fun _ => 0)
    (fun g k y => (D.part (y 0).val (k * 512) (g * 256 + (y 1).val) : EReal)) (fun t h y => ?_) (fun t h y => ?_) t (ix2 y0 y1)).trans ?_
  · idx_vars y
    exact (step_A H t rfl rfl h y0 y1).trans (zero_add _).symm
  · idx_vars y
    exact step_B H t rfl rfl h y0 y1
  · rw [hl, zero_add, Nat.zero_mul, Nat.zero_add]
    refine Eq.trans ?_ (congrArg _ (D.part_sum y0.val (t.val / 16 * 256 + y1.val)))
    exact coe_sum _ _

end Cert.ConvKernelIdeal.RefValue

end
-- ==== Proof.ConvRef.lean ====
/-
  The derivative of the gated convolution's plain forward lines, as real numbers.
-/
module

public import proofs.«01_k».proof.Proof.Gen.ConvReferenceIdeal.Read
public import proofs.«01_k».proof.Proof.ConvMath
public import Idealize.ShloMosaic.Lib.Pointwise
public import Idealize.ShloMosaic.Lib.Claim

@[expose] public section

set_option maxRecDepth 16384

noncomputable section

namespace Cert.ConvReferenceIdeal.RefValue

open Cert.ConvReferenceIdeal Cert.ConvReferenceIdeal.Gen Cert.ConvReferenceIdeal.Read
open Idealize.ShloMosaic Idealize.ShloMosaic.TcCoe
open Cert.Reals Cert.ConvMath

/-- The three arguments are the data `D`. -/
abbrev IsData (x0 : FVec Ideal S8192x512 .f32) (x1 : FVec Ideal S8192x1792 .f32) (x2 : FVec Ideal S31x512 .f32) (D : Data) : Prop :=
  Fits (fun r l => x0 (ix2 r l)) (fun r l => x1 (ix2 r l)) (fun j l => x2 (ix2 j l)) D

theorem gate (z : ℝ) : Ideal.div 1 (1 + Ideal.exp (-(z : EReal))) = (sg z : EReal) := sg_coe z

variable {x0 : FVec Ideal S8192x512 .f32} {x1 : FVec Ideal S8192x1792 .f32} {x2 : FVec Ideal S31x512 .f32} {D : Data}
  (H : IsData x0 x1 x2 D)
include H

/-- The gate. -/
theorem u_at (r : Fin 8192) (l : Fin 512) : val_main_v0 (F := Ideal) x1 (ix2 r l) = (D.u r.val l.val : EReal) := by
  pointwise [val_main_v0]
  exact H.u r l
theorem sg_at (r : Fin 8192) (l : Fin 512) : val_main_v7 (F := Ideal) x1 (ix2 r l) = (sg (D.gt r.val l.val) : EReal) := by
  pointwise [val_main_cst_0, val_main_v6, val_main_cst, val_main_v4, val_main_v1, val_main_v2, val_main_v3, val_main_v5, val_main_v7]
  exact (congrArg _ (congrArg _ (congrArg _ (congrArg _ (H.gt r l))))).trans (gate _)
theorem sgd_at (r : Fin 8192) (l : Fin 512) : val_main_v10 (F := Ideal) x1 (ix2 r l) = ((sg (D.gt r.val l.val) * (1 - sg (D.gt r.val l.val)) : ℝ) : EReal) := by
  pointwise [val_main_cst_1, val_main_v8, val_main_v9, val_main_v10]
  simp only [sg_at H, ← EReal.coe_one, ← EReal.coe_sub, ← EReal.coe_mul]
theorem hp_at (r : Fin 8222) (l : Fin 512) : val_main_v13 (F := Ideal) x1 (ix2 r l) = (D.hp (r.val + 2) l.val : EReal) := by
  pointwise [val_main_v11, val_main_cst_2, val_main_v12, val_main_v13]
  by_cases h : r.val < 30
  · simp only [h, ↓reduceDIte]
    rw [Data.hp, if_pos (by omega)]; rfl
  · simp only [h, ↓reduceDIte]
    rw [Data.hp, if_neg (show ¬r.val + 2 < 32 by omega), EReal.coe_mul, show r.val + 2 - 32 = r.val - 30 by omega]
    exact congrArg₂ (· * ·) (u_at H ⟨r.val - 30, by omega⟩ l) (sg_at H ⟨r.val - 30, by omega⟩ l)

/-- What a tap takes of the cotangent `k` rows further on: nothing behind the last row. -/
theorem tap_at (r : Fin 8192) (l : Fin 512) (j k : ℕ) (hj : j < 31) (hk : k = 30 - j) : (if h : j ≤ 30 + r.val ∧ 30 + r.val - j < 8192 then
      x0 (ix2 ⟨30 + r.val - j, h.2⟩ l) * x2 (ix2 ⟨j, hj⟩ l) else (0 : EReal)) = ((D.dy (r.val + k) l.val * D.w j l.val : ℝ) : EReal) := by
  have e : r.val + k = 30 + r.val - j := by omega
  by_cases h : j ≤ 30 + r.val ∧ 30 + r.val - j < 8192
  · rw [dif_pos h, e, EReal.coe_mul]
    exact congrArg₂ (· * ·) (H.dy _ _) (H.w _ _)
  · rw [dif_neg h, D.dy_zero _ _ (by omega), zero_mul]; rfl

theorem first_at (r : Fin 8192) (l : Fin 512) : (if h : 30 + r.val < 8192 then x0 (ix2 ⟨30 + r.val, h⟩ l) * x2 (ix2 0 l) else (0 : EReal))
    = ((D.dy (r.val + 30) l.val * D.w 0 l.val : ℝ) : EReal) := by
  refine Eq.trans ?_ (tap_at H r l 0 30 (by omega) rfl)
  simp only [Nat.zero_le, true_and, Nat.sub_zero]
  rfl

/-- The cotangent of the gated rows. -/
theorem dh_at (r : Fin 8192) (l : Fin 512) : val_main_v575 (F := Ideal) x0 x2 (ix2 r l) = (D.dh 0 r.val l.val : EReal) := by
  pointwise [
    val_main_v234, val_main_v227, val_main_v228, val_main_v229, val_main_v238, val_main_v239, val_main_cst_8, val_main_v243, val_main_v233,
    val_main_v220, val_main_v221, val_main_v222, val_main_v247, val_main_v248, val_main_cst_12, val_main_v253, val_main_v254, val_main_v213,
    val_main_v214, val_main_v215, val_main_v258, val_main_v259, val_main_cst_16, val_main_v264, val_main_v265, val_main_v206, val_main_v207,
    val_main_v208, val_main_v269, val_main_v270, val_main_cst_20, val_main_v275, val_main_v276, val_main_v199, val_main_v200, val_main_v201,
    val_main_v280, val_main_v281, val_main_cst_24, val_main_v286, val_main_v287, val_main_v192, val_main_v193, val_main_v194, val_main_v291,
    val_main_v292, val_main_cst_28, val_main_v297, val_main_v298, val_main_v185, val_main_v186, val_main_v187, val_main_v302, val_main_v303,
    val_main_cst_32, val_main_v308, val_main_v309, val_main_v178, val_main_v179, val_main_v180, val_main_v313, val_main_v314, val_main_cst_36,
    val_main_v319, val_main_v320, val_main_v171, val_main_v172, val_main_v173, val_main_v324, val_main_v325, val_main_cst_40, val_main_v330,
    val_main_v331, val_main_v164, val_main_v165, val_main_v166, val_main_v335, val_main_v336, val_main_cst_44, val_main_v341, val_main_v342,
    val_main_v157, val_main_v158, val_main_v159, val_main_v346, val_main_v347, val_main_cst_48, val_main_v352, val_main_v353, val_main_v150,
    val_main_v151, val_main_v152, val_main_v357, val_main_v358, val_main_cst_52, val_main_v363, val_main_v364, val_main_v143, val_main_v144,
    val_main_v145, val_main_v368, val_main_v369, val_main_cst_56, val_main_v374, val_main_v375, val_main_v136, val_main_v137, val_main_v138,
    val_main_v379, val_main_v380, val_main_cst_60, val_main_v385, val_main_v386, val_main_v129, val_main_v130, val_main_v131, val_main_v390,
    val_main_v391, val_main_cst_64, val_main_v396, val_main_v397, val_main_v122, val_main_v123, val_main_v124, val_main_v401, val_main_v402,
    val_main_cst_68, val_main_v407, val_main_v408, val_main_v115, val_main_v116, val_main_v117, val_main_v412, val_main_v413, val_main_cst_72,
    val_main_v418, val_main_v419, val_main_v108, val_main_v109, val_main_v110, val_main_v423, val_main_v424, val_main_cst_76, val_main_v429,
    val_main_v430, val_main_v101, val_main_v102, val_main_v103, val_main_v434, val_main_v435, val_main_cst_80, val_main_v440, val_main_v441,
    val_main_v94, val_main_v95, val_main_v96, val_main_v445, val_main_v446, val_main_cst_84, val_main_v451, val_main_v452, val_main_v87,
    val_main_v88, val_main_v89, val_main_v456, val_main_v457, val_main_cst_88, val_main_v462, val_main_v463, val_main_v80, val_main_v81,
    val_main_v82, val_main_v467, val_main_v468, val_main_cst_92, val_main_v473, val_main_v474, val_main_v73, val_main_v74, val_main_v75,
    val_main_v478, val_main_v479, val_main_cst_96, val_main_v484, val_main_v485, val_main_v66, val_main_v67, val_main_v68, val_main_v489,
    val_main_v490, val_main_cst_100, val_main_v495, val_main_v496, val_main_v59, val_main_v60, val_main_v61, val_main_v500, val_main_v501,
    val_main_cst_104, val_main_v506, val_main_v507, val_main_v52, val_main_v53, val_main_v54, val_main_v511, val_main_v512, val_main_cst_108,
    val_main_v517, val_main_v518, val_main_v45, val_main_v46, val_main_v47, val_main_v522, val_main_v523, val_main_cst_112, val_main_v528,
    val_main_v529, val_main_v38, val_main_v39, val_main_v40, val_main_v533, val_main_v534, val_main_cst_116, val_main_v539, val_main_v540,
    val_main_v31, val_main_v32, val_main_v33, val_main_v544, val_main_v545, val_main_cst_120, val_main_v550, val_main_v551, val_main_v24,
    val_main_v25, val_main_v26, val_main_v555, val_main_v556, val_main_cst_124, val_main_v561, val_main_v562, val_main_v16, val_main_v17,
    val_main_v18, val_main_v566, val_main_v567, val_main_cst_128, val_main_v572, val_main_v573, val_main_v575]
  have e : D.dh 0 r.val l.val = ∑ j ∈ Finset.range 31, D.dy (0 + (r.val + (30 - (30 - j)))) l.val * D.w (30 - j) l.val :=
    (Finset.sum_range_reflect (fun j => D.dy (0 + (r.val + (30 - j))) l.val * D.w j l.val) 31).symm
  rw [e]
  simp only [Finset.sum_range_succ, Finset.sum_range_zero, EReal.coe_add, EReal.coe_zero, zero_add, Nat.sub_zero, Nat.reduceSub, Nat.add_zero, Nat.sub_self]
  repeat' refine congrArg₂ (α := EReal) (β := EReal) (γ := EReal) (· + ·) ?_ ?_
  all_goals first
    | exact tap_at H r l _ _ (by omega) rfl
    | exact (congrArg₂ (· * ·) (H.dy r l) (H.w 30 l)).trans (EReal.coe_mul _ _).symm
    | exact first_at H r l

/-- What a tap's own sum gives each row of the gradient. -/
theorem sum_at (l : Fin 512) (n : ℕ) (hn : n < 31) : (∑ x : Fin 8192, val_main_v13 (F := Ideal) x1 (ix2 ⟨n + x.val, by omega⟩ l) * x0 (ix2 x l) : EReal)
    = (D.dw n l.val : EReal) := by
  rw [Data.dw, if_pos hn, Finset.sum_range, ← coe_sum]
  refine Finset.sum_congr rfl fun x _ => ?_
  rw [hp_at H, H.dy, Data.term, mul_comm, ← EReal.coe_mul]
  rw [show n + x.val + 2 = x.val + (2 + n) by omega]
theorem row_at (j : Fin 32) (l : Fin 512) (n : ℕ) (hn : n < 31) : (if h : n ≤ j.val ∧ j.val - n < 1 then
      ∑ y : Fin 1, ∑ x : Fin 8192, val_main_v13 (F := Ideal) x1 (ix2 ⟨n + x.val, by omega⟩ l) * x0 (ix2 x l) else (0 : EReal))
    = if j.val = n then (D.dw n l.val : EReal) else 0 := by
  by_cases h : j.val = n
  · rw [dif_pos (by omega), if_pos h, Fin.sum_univ_one, sum_at H l n hn]
  · rw [dif_neg (by omega), if_neg h]
theorem row0_at (j : Fin 32) (l : Fin 512) : (if h : j.val < 1 then
      ∑ y : Fin 1, ∑ x : Fin 8192, val_main_v13 (F := Ideal) x1 (ix2 ⟨x.val, by omega⟩ l) * x0 (ix2 x l) else (0 : EReal))
    = if j.val = 0 then (D.dw 0 l.val : EReal) else 0 := by
  refine Eq.trans ?_ (row_at H j l 0 (by omega))
  simp only [Nat.zero_le, true_and, Nat.sub_zero, Nat.zero_add]

/-- The gradient of the taps. -/
theorem dw_at (j : Fin 32) (l : Fin 512) : val_main_v581 (F := Ideal) x0 x1 (ix2 j l) = (D.dw j.val l.val : EReal) := by
  pointwise [
    val_main_v226, val_main_v234, val_main_v235, val_main_cst_5, val_main_v236, val_main_v237, val_main_cst_6, val_main_v240, val_main_v241,
    val_main_cst_7, val_main_v242, val_main_v219, val_main_v233, val_main_v244, val_main_cst_9, val_main_v245, val_main_v246, val_main_cst_10,
    val_main_v249, val_main_v250, val_main_cst_11, val_main_v251, val_main_v252, val_main_v212, val_main_v255, val_main_cst_13, val_main_v256,
    val_main_v257, val_main_cst_14, val_main_v260, val_main_v261, val_main_cst_15, val_main_v262, val_main_v263, val_main_v205, val_main_v266,
    val_main_cst_17, val_main_v267, val_main_v268, val_main_cst_18, val_main_v271, val_main_v272, val_main_cst_19, val_main_v273, val_main_v274,
    val_main_v198, val_main_v277, val_main_cst_21, val_main_v278, val_main_v279, val_main_cst_22, val_main_v282, val_main_v283, val_main_cst_23,
    val_main_v284, val_main_v285, val_main_v191, val_main_v288, val_main_cst_25, val_main_v289, val_main_v290, val_main_cst_26, val_main_v293,
    val_main_v294, val_main_cst_27, val_main_v295, val_main_v296, val_main_v184, val_main_v299, val_main_cst_29, val_main_v300, val_main_v301,
    val_main_cst_30, val_main_v304, val_main_v305, val_main_cst_31, val_main_v306, val_main_v307, val_main_v177, val_main_v310, val_main_cst_33,
    val_main_v311, val_main_v312, val_main_cst_34, val_main_v315, val_main_v316, val_main_cst_35, val_main_v317, val_main_v318, val_main_v170,
    val_main_v321, val_main_cst_37, val_main_v322, val_main_v323, val_main_cst_38, val_main_v326, val_main_v327, val_main_cst_39, val_main_v328,
    val_main_v329, val_main_v163, val_main_v332, val_main_cst_41, val_main_v333, val_main_v334, val_main_cst_42, val_main_v337, val_main_v338,
    val_main_cst_43, val_main_v339, val_main_v340, val_main_v156, val_main_v343, val_main_cst_45, val_main_v344, val_main_v345, val_main_cst_46,
    val_main_v348, val_main_v349, val_main_cst_47, val_main_v350, val_main_v351, val_main_v149, val_main_v354, val_main_cst_49, val_main_v355,
    val_main_v356, val_main_cst_50, val_main_v359, val_main_v360, val_main_cst_51, val_main_v361, val_main_v362, val_main_v142, val_main_v365,
    val_main_cst_53, val_main_v366, val_main_v367, val_main_cst_54, val_main_v370, val_main_v371, val_main_cst_55, val_main_v372, val_main_v373,
    val_main_v135, val_main_v376, val_main_cst_57, val_main_v377, val_main_v378, val_main_cst_58, val_main_v381, val_main_v382, val_main_cst_59,
    val_main_v383, val_main_v384, val_main_v128, val_main_v387, val_main_cst_61, val_main_v388, val_main_v389, val_main_cst_62, val_main_v392,
    val_main_v393, val_main_cst_63, val_main_v394, val_main_v395, val_main_v121, val_main_v398, val_main_cst_65, val_main_v399, val_main_v400,
    val_main_cst_66, val_main_v403, val_main_v404, val_main_cst_67, val_main_v405, val_main_v406, val_main_v114, val_main_v409, val_main_cst_69,
    val_main_v410, val_main_v411, val_main_cst_70, val_main_v414, val_main_v415, val_main_cst_71, val_main_v416, val_main_v417, val_main_v107,
    val_main_v420, val_main_cst_73, val_main_v421, val_main_v422, val_main_cst_74, val_main_v425, val_main_v426, val_main_cst_75, val_main_v427,
    val_main_v428, val_main_v100, val_main_v431, val_main_cst_77, val_main_v432, val_main_v433, val_main_cst_78, val_main_v436, val_main_v437,
    val_main_cst_79, val_main_v438, val_main_v439, val_main_v93, val_main_v442, val_main_cst_81, val_main_v443, val_main_v444, val_main_cst_82,
    val_main_v447, val_main_v448, val_main_cst_83, val_main_v449, val_main_v450, val_main_v86, val_main_v453, val_main_cst_85, val_main_v454,
    val_main_v455, val_main_cst_86, val_main_v458, val_main_v459, val_main_cst_87, val_main_v460, val_main_v461, val_main_v79, val_main_v464,
    val_main_cst_89, val_main_v465, val_main_v466, val_main_cst_90, val_main_v469, val_main_v470, val_main_cst_91, val_main_v471, val_main_v472,
    val_main_v72, val_main_v475, val_main_cst_93, val_main_v476, val_main_v477, val_main_cst_94, val_main_v480, val_main_v481, val_main_cst_95,
    val_main_v482, val_main_v483, val_main_v65, val_main_v486, val_main_cst_97, val_main_v487, val_main_v488, val_main_cst_98, val_main_v491,
    val_main_v492, val_main_cst_99, val_main_v493, val_main_v494, val_main_v58, val_main_v497, val_main_cst_101, val_main_v498, val_main_v499,
    val_main_cst_102, val_main_v502, val_main_v503, val_main_cst_103, val_main_v504, val_main_v505, val_main_v51, val_main_v508, val_main_cst_105,
    val_main_v509, val_main_v510, val_main_cst_106, val_main_v513, val_main_v514, val_main_cst_107, val_main_v515, val_main_v516, val_main_v44,
    val_main_v519, val_main_cst_109, val_main_v520, val_main_v521, val_main_cst_110, val_main_v524, val_main_v525, val_main_cst_111, val_main_v526,
    val_main_v527, val_main_v37, val_main_v530, val_main_cst_113, val_main_v531, val_main_v532, val_main_cst_114, val_main_v535, val_main_v536,
    val_main_cst_115, val_main_v537, val_main_v538, val_main_v30, val_main_v541, val_main_cst_117, val_main_v542, val_main_v543, val_main_cst_118,
    val_main_v546, val_main_v547, val_main_cst_119, val_main_v548, val_main_v549, val_main_v23, val_main_v552, val_main_cst_121, val_main_v553,
    val_main_v554, val_main_cst_122, val_main_v557, val_main_v558, val_main_cst_123, val_main_v559, val_main_v560, val_main_v15, val_main_v563,
    val_main_cst_125, val_main_v564, val_main_v565, val_main_cst_126, val_main_v568, val_main_v569, val_main_cst_127, val_main_v570, val_main_v571,
    val_main_c, val_main_call0_v0, val_main_v581]
  have e : (if j.val < 31 then (D.dw j.val l.val : EReal) else 0) = ∑ n ∈ Finset.range 31, if j.val = 30 - n then (D.dw (30 - n) l.val : EReal) else 0 := by
    rw [Finset.sum_range_reflect (fun n => if j.val = n then (D.dw n l.val : EReal) else 0) 31, Finset.sum_ite_eq]
    simp only [Finset.mem_range]
  by_cases h : j.val < 31
  · rw [if_pos h] at e
    rw [e]
    simp only [h, ↓reduceDIte, Finset.sum_range_succ, Finset.sum_range_zero, zero_add, Nat.sub_zero, Nat.reduceSub, Nat.sub_self]
    repeat' refine congrArg₂ (α := EReal) (β := EReal) (γ := EReal) (· + ·) ?_ ?_
    all_goals first
      | exact row_at H j l _ (by omega)
      | exact row0_at H j l
  · rw [dif_neg h, Data.dw, if_neg h]
    show (((0#32 : BitVec 32).toInt : ℝ) : EReal) = ((0 : ℝ) : EReal)
    simp

/-- The three results. -/
theorem ref0 : val_main_v579 (F := Ideal) x0 x1 x2 = fun i : S8192x512.Idx => (D.du 0 (i 0).val (i 1).val : EReal) := by
  funext i
  idx_vars i
  pointwise [val_main_v577, val_main_v579]
  simp only [dh_at H, sg_at H, ← EReal.coe_mul, Data.du, Nat.zero_add]
theorem ref1 : val_main_v580 (F := Ideal) x0 x1 x2 = fun i : S8192x512.Idx => (D.dg 0 (i 0).val (i 1).val : EReal) := by
  funext i
  idx_vars i
  pointwise [val_main_v576, val_main_v578, val_main_v580]
  simp only [u_at H, dh_at H, sgd_at H, ← EReal.coe_mul, Data.dg, Nat.zero_add]
  exact congrArg _ (by ring)
theorem ref2 : val_main_v581 (F := Ideal) x0 x1 = fun i : S32x512.Idx => (D.dw (i 0).val (i 1).val : EReal) := by
  funext i
  idx_vars i
  exact dw_at H i0 i1

end Cert.ConvReferenceIdeal.RefValue

end
-- ==== Proof.ConvClaim.lean ====
/-
  The claims about the gated causal convolution, backwards.
-/
module

public import proofs.«01_k».proof.Defs
public import proofs.«01_k».proof.Proof.ConvFinal
public import proofs.«01_k».proof.Proof.ConvRef
public import proofs.«01_k».proof.Proof.Gen.ConvKernelIdeal
public import proofs.«01_k».proof.Proof.Gen.ConvReferenceIdeal
public import proofs.«01_k».proof.Proof.Gen.Pre_finite_conv

@[expose] public section

set_option maxRecDepth 16384

noncomputable section

open Idealize.ShloMosaic Idealize.ShloMosaic.TcCoe Idealize.SL.Sem

namespace Cert.ConvKernelIdeal.RefValue

open Cert.ConvMath

/-- What the precondition says: the arrays hold real numbers. The data are their entries, and no cotangent behind the last row. -/
theorem pre_data (m : (ℓ : Loc Cert.ConvKernelIdeal.nD Cert.ConvKernelIdeal.τ Cert.ConvKernelIdeal.sig) → Buf (Elt Ideal) ℓ)
    (h : Cert.Pre_ConvKernelIdeal_finite_conv m) (c : Dev Cert.ConvKernelIdeal.nD) : ∃ D : Data, IsData m c D := by
  obtain ⟨h0, h1, h2⟩ := h c
  choose f0 e0 using fun i => Cert.Reals.of_abs_lt (congrFun h0 i)
  choose f1 e1 using fun i => Cert.Reals.of_abs_lt (congrFun h1 i)
  choose f2 e2 using fun i => Cert.Reals.of_abs_lt (congrFun h2 i)
  refine ⟨⟨fun r l => if h : r < 8192 ∧ l < 512 then f0 (ix2 ⟨r, h.1⟩ ⟨l, h.2⟩) else 0,
    fun r l => if h : r < 8192 ∧ l < 512 then f1 (ix2 ⟨r, h.1⟩ ⟨768 + l, by omega⟩) else 0,
    fun r l => if h : r < 8192 ∧ l < 512 then f1 (ix2 ⟨r, h.1⟩ ⟨1280 + l, by omega⟩) else 0,
    fun j l => if h : j < 31 ∧ l < 512 then f2 (ix2 ⟨j, h.1⟩ ⟨l, h.2⟩) else 0,
    fun r l h => dif_neg (by omega)⟩, ⟨fun r l => ?_, fun r l => ?_, fun r l => ?_, fun j l => ?_⟩⟩
  · refine (e0 _).trans (congrArg _ ?_)
    simp only [r.isLt, l.isLt, and_self, ↓reduceDIte, Fin.eta]
  · refine (e1 _).trans (congrArg _ ?_)
    simp only [r.isLt, l.isLt, and_self, ↓reduceDIte, Fin.eta]
  · refine (e1 _).trans (congrArg _ ?_)
    simp only [r.isLt, l.isLt, and_self, ↓reduceDIte, Fin.eta]
  · refine (e2 _).trans (congrArg _ ?_)
    simp only [j.isLt, l.isLt, and_self, ↓reduceDIte, Fin.eta]

theorem frame_ref : Cert.quiescent_ConvReferenceIdeal := fun m ρ _ =>
  (θ_run Cert.ConvReferenceIdeal.defs _ _).mono
    (fun r h => ⟨fun c => (h c).2.2.2, sem_eq_zero_of_no_sems (by decide) r.2⟩)
    (Cert.ConvReferenceIdeal.Value.run (F := Ideal) m ρ)

/-- On real arrays the kernel leaves the derivative of the plain forward lines. -/
theorem algebraic : Cert.algebraic_ConvKernelIdeal_ConvReferenceIdeal_pre_finite_conv := by
  intro m ρ m' ρ' hpre hag
  choose D H using pre_data m hpre
  refine ⟨fun c => fun i : S8192x512.Idx => ((D c).du 0 (i 0).val (i 1).val : EReal),
    fun c => fun i : S8192x512.Idx => ((D c).dg 0 (i 0).val (i 1).val : EReal),
    fun c => fun i : S32x512.Idx => ((D c).dw (i 0).val (i 1).val : EReal), ?_, ?_⟩
  · exact (θ_run Cert.ConvKernelIdeal.defs _ _).mono
      (fun _ h c => ⟨(h c).1.trans (final7 (H c)), (h c).2.1.trans (final8 (H c)), (h c).2.2.1.trans (final9 (H c)), (h c).2.2.2⟩)
      (Cert.ConvKernelIdeal.Value.run_blocks (F := Ideal) m ρ)
  · refine (θ_run Cert.ConvReferenceIdeal.defs _ _).mono
      (fun _ h c => ⟨(h c).1.trans ?_, (h c).2.1.trans ?_, (h c).2.2.1.trans ?_, (h c).2.2.2⟩)
      (Cert.ConvReferenceIdeal.Value.run (F := Ideal) m' ρ')
    all_goals obtain ⟨a0, a1, a2⟩ := hag c
    · refine (Cert.ConvReferenceIdeal.Read.val_main_v579_eq _).trans ?_
      refine Eq.trans ?_ (Cert.ConvReferenceIdeal.RefValue.ref0 (H c))
      exact congr (congr (congrArg _ a0) a1) a2
    · refine (Cert.ConvReferenceIdeal.Read.val_main_v580_eq _).trans ?_
      refine Eq.trans ?_ (Cert.ConvReferenceIdeal.RefValue.ref1 (H c))
      exact congr (congr (congrArg _ a0) a1) a2
    · refine (Cert.ConvReferenceIdeal.Read.val_main_v581_eq _).trans ?_
      refine Eq.trans ?_ (Cert.ConvReferenceIdeal.RefValue.ref2 (H c))
      exact congr (congrArg _ a0) a1

end Cert.ConvKernelIdeal.RefValue

end
-- ==== Proof.AttnfMath.lean ====
/-
  The attention of a group of tokens on real numbers: the weighted sum of the values, by window column and over the band.
-/
module

public import proofs.«01_k».proof.Proof.AttnBand

@[expose] public section

noncomputable section

namespace Cert.AttnMath

namespace Group

variable (G : Group)

/-- The weighted values of a row: the own block's and those of the block before. -/
def o (r : Fin 512) (d : Fin 64) : ℝ :=
  (∑ c, (if Own r c then G.p r c else 0) * G.vo c d) + ∑ c, (if Own r c then 0 else G.p r c) * G.vp c d

theorem o_eq (g : Fin 4) (q : Fin 128) (d : Fin 64) : ∑ s, G.vb s d * G.pB g q s = G.o (rr g q) d := by
  rw [sum_band, add_comm, o]
  refine congrArg₂ (· + ·) (Finset.sum_congr rfl fun c _ => ?_) (Finset.sum_congr rfl fun c _ => ?_)
  · simp only [vb_hi, pB, valid_hi, col_hi, Own, rr_mod, mul_comm (G.vo _ _)]
  · simp only [vb_lo, pB, valid_lo, col_lo, Own, rr_mod]
    by_cases h : c.val ≤ q.val
    · rw [if_neg (show ¬(q.val < c.val ∧ G.more = true) from fun e => by omega), if_pos h, mul_zero, zero_mul]
    · rw [if_neg h]
      by_cases hm : G.more = true
      · rw [if_pos hm, if_pos (show q.val < c.val ∧ G.more = true from ⟨by omega, hm⟩), mul_comm]
      · rw [if_neg hm, zero_mul, p, w, if_neg (fun e => e.elim (by rw [Own, rr_mod]; exact h) hm), zero_div, zero_mul]

end Group

/-- The attention's array: token `T`, column `j` of its heads. -/
def Data.oAt (D : Data) (T j : ℕ) : ℝ :=
  (D.group (T / 128) ⟨j / 256 % 2, by omega⟩).o ⟨128 * (j % 256 / 64) + T % 128, by omega⟩ ⟨j % 64, by omega⟩

end Cert.AttnMath

end
-- ==== Proof.AttnfPoint.lean ====
/-
  The attention kernel, forwards, at a point of its grid: the groups are those of the backward kernel, and a head's rows of
  the block are its weighted values.
-/
module

public import proofs.«01_k».proof.Proof.AttnPiece
public import proofs.«01_k».proof.Proof.AttnfMath
public import proofs.«01_k».proof.Proof.Gen.AttnfKernelIdeal.Frame

@[expose] public section

set_option maxRecDepth 16384

noncomputable section

/-- A group's weighted values, and what they are on real numbers. -/
def Cert.AttnKernelIdeal.AttnStage.Args.o (A : Cert.AttnKernelIdeal.AttnStage.Args) :
    Idealize.ShloMosaic.FVec Idealize.ShloMosaic.Ideal Cert.AttnfKernelIdeal.S512x64 .f32 :=
  open Idealize.ShloMosaic Cert.AttnfKernelIdeal in
  addf (matmul dot_S512x128_S128x64_S512x64_1_0_0_1_n_n none A.po A.vob (constant S512x64 .f32 0x00000000#32))
    (matmul dot_S512x128_S128x64_S512x64_1_0_0_1_n_n none A.pp A.vpb (constant S512x64 .f32 0x00000000#32))

namespace Cert.AttnfKernelIdeal.AttnfPoint

open Cert.AttnfKernelIdeal Cert.AttnfKernelIdeal.Gen
open Cert.AttnKernelIdeal.AttnStage Cert.AttnKernelIdeal.AttnGrp Cert.AttnKernelIdeal.AttnLoad Cert.AttnKernelIdeal.AttnPiece
open Idealize.ShloMosaic Idealize.ShloMosaic.TcCoe
open Cert.Reals Cert.AttnMath

theorem o_real {A : Args} {G : Group} (h : A.At G) (r : Fin 512) (d : Fin 64) : A.o (ix2 r d) = (G.o r d : EReal) := by
  pointwise [Args.o, Args.vob, Args.vpb]
  simp only [Args.po_real h, Args.pp_real h, h.vo, h.vp, ← EReal.coe_mul]
  rw [coe_sum, coe_sum, ← EReal.coe_add, Group.o]

/-- The store of a head's rows. -/
def oPiece (g : Fin 4 → Fin 2 → Args) (n : Fin 4 × Fin 2 × Fin 4) : View.Piece (Elt Ideal) S512x512 .f32 :=
  ⟨Rect.unit (s := S512x512) ![128 * n.1.val, 256 * n.2.1.val + 64 * n.2.2.val] S128x64.size
      (by intro a; have := n.1.isLt; have := n.2.1.isLt; have := n.2.2.isLt; fin_cases a <;> simp <;> omega),
    extractStridedSlice S128x64 ![128 * n.2.2.val, 0] (g n.1 n.2.1).o
      ⟨rfl, fun a => by have := n.2.2.isLt; fin_cases a <;> simp <;> omega⟩⟩

section Run

variable (c : Dev nD) (i : grid0.Coords) (a1 : Memref sig .tc .vmem S512x512 .f32) (h1 : a1.IsWhole) (a2 : Memref sig .tc .vmem S512x128 .f32)
  (h2 : a2.IsWhole) (a3 : Memref sig .tc .vmem S128x128 .f32) (h3 : a3.IsWhole) (a4 : Memref sig .tc .vmem S512x128 .f32) (h4 : a4.IsWhole)
  (a5 : Memref sig .tc .vmem S128x128 .f32) (h5 : a5.IsWhole) (a6 : Memref sig .tc .vmem S2x512x128 .f32) (h6 : a6.IsWhole)
  (a7 : Memref sig .tc .vmem S2x512x1 .f32) (h7 : a7.IsWhole) (a8 : Memref sig .tc .vmem S1x64 .f32) (h8 : a8.IsWhole)
  (a9 : Memref sig .tc .vmem S1x64 .f32) (h9 : a9.IsWhole) (a10 : Memref sig .tc .vmem S512x512 .f32) (h10 : a10.IsWhole) (X : In)

/-- The groups of the point. No part of theirs used here depends on the cotangent, so any buffer may stand for its. -/
def g : Fin 4 → Fin 2 → Args :=
  grpOf a1 h1 a2 h2 a3 h3 a4 h4 a5 h5 a1 h1 a6 h6 a7 h7 a8 h8 a9 h9 X (Scalar.cmpi .eq (BitVec.ofNat 32 (i 0).val) 0#32)

set_option maxHeartbeats 2000000 in
theorem stores : (kernelRun0_A (F := Ideal) c i a1 h1 a2 h2 a3 h3 a4 h4 a5 h5 a6 h6 a7 h7 a8 h8 a9 h9 a10 h10 X.x0 X.x1 X.x2 X.x3 X.x4 X.x6 X.x7 X.x8 X.x9).1
    = dqOrder.map (oPiece (g i a1 h1 a2 h2 a3 h3 a4 h4 a5 h5 a6 h6 a7 h7 a8 h8 a9 h9 X)) := by
  sl_kernel_rfl

/-- What they leave in the block. -/
theorem block : out0_A_9 (F := Ideal) c i a1 h1 a2 h2 a3 h3 a4 h4 a5 h5 a6 h6 a7 h7 a8 h8 a9 h9 a10 h10 X.x0 X.x1 X.x2 X.x3 X.x4 X.x6 X.x7 X.x8 X.x9
    = View.canon (dqOrder.map (oPiece (g i a1 h1 a2 h2 a3 h3 a4 h4 a5 h5 a6 h6 a7 h7 a8 h8 a9 h9 X))) := by
  unfold out0_A_9
  exact (View.read_writes_eq_canon _ _ _ (cover0_A_9 c i a1 h1 a2 h2 a3 h3 a4 h4 a5 h5 a6 h6 a7 h7 a8 h8 a9 h9 a10 h10 X.x0 X.x1 X.x2 X.x3 X.x4
    X.x6 X.x7 X.x8 X.x9)).trans (congrArg View.canon (stores c i a1 h1 a2 h2 a3 h3 a4 h4 a5 h5 a6 h6 a7 h7 a8 h8 a9 h9 a10 h10 X))

end Run

variable {g : Fin 4 → Fin 2 → Args} {D : Data} {t : ℕ} (h : ∀ i k, (g i k).At (D.group (4 * t + i.val) k))
include h

/-- What a row of the array holds. -/
def oRow (D : Data) (t : ℕ) (y : S512x512.Idx) : EReal := ((D.oAt (512 * t + (y 0).val) (y 1).val : ℝ) : EReal)

theorem o_piece (n : Fin 4 × Fin 2 × Fin 4) (x) : (oPiece g n).2 x = oRow D t ((oPiece g n).1.emb x) := by
  obtain ⟨i, k, b⟩ := n
  change S128x64.Idx at x
  idx_vars x
  have e : (oPiece g (i, k, b)).2 (ix2 x0 x1) = (g i k).o (ix2 ⟨128 * b.val + x0.val, by omega⟩ x1) := by
    unfold oPiece
    pointwise
  refine e.trans ((o_real (h i k) _ _).trans ?_)
  have e0 : ((oPiece g (i, k, b)).1.emb (ix2 x0 x1) 0).val = 128 * i.val + x0.val := by
    show 128 * i.val + 1 * x0.val = _; omega
  have e1 : ((oPiece g (i, k, b)).1.emb (ix2 x0 x1) 1).val = 256 * k.val + 64 * b.val + x1.val := by
    show 256 * k.val + 64 * b.val + 1 * x1.val = _; omega
  rw [oRow, e0, e1, Data.oAt]
  have a1 : (512 * t + (128 * i.val + x0.val)) / 128 = 4 * t + i.val := by omega
  have a2 : (⟨(256 * k.val + 64 * b.val + x1.val) / 256 % 2, by omega⟩ : Fin 2) = k := Fin.ext (by dsimp only; omega)
  have a3 : (⟨128 * ((256 * k.val + 64 * b.val + x1.val) % 256 / 64) + (512 * t + (128 * i.val + x0.val)) % 128, by omega⟩ : Fin 512)
      = ⟨128 * b.val + x0.val, by omega⟩ := Fin.ext (by dsimp only; omega)
  have a4 : (⟨(256 * k.val + 64 * b.val + x1.val) % 64, by omega⟩ : Fin 64) = x1 := Fin.ext (by dsimp only; omega)
  rw [a1, a2, a3, a4]

theorem o_at (r j : Fin 512) : View.canon (dqOrder.map (oPiece g)) (ix2 r j) = ((D.oAt (512 * t + r.val) j.val : ℝ) : EReal) := by
  refine View.canon_apply_of_pieces (Val := Elt Ideal) (e := .f32) (oRow D t) _ (fun p hp => ?_) (ix2 r j) ?_
  · obtain ⟨n, _, rfl⟩ := List.mem_map.mp hp
    exact o_piece h n
  · refine ⟨_, List.mem_map_of_mem (mem_dqOrder ⟨⟨r.val / 128, by omega⟩, ⟨j.val / 256, by omega⟩, ⟨j.val % 256 / 64, by omega⟩⟩), ?_⟩
    unfold oPiece
    rw [Rect.mem_set_unit]
    intro a
    fin_cases a <;> simp <;> omega

end Cert.AttnfKernelIdeal.AttnfPoint

end
-- ==== Proof.AttnfHost.lean ====
/-
  The arrays that the host prepares for the attention kernel, forwards: the bias by query and window position, the sink logits by row
  of a group, the two scales as rows.
-/
module

public import proofs.«01_k».proof.Proof.Gen.AttnfKernelIdeal.Value
public import proofs.«01_k».proof.Proof.AttnHost
public import Idealize.ShloMosaic.Lib.StableHlo.ReadAt

@[expose] public section

set_option maxRecDepth 16384
set_option maxHeartbeats 2000000

noncomputable section

namespace Cert.AttnfKernelIdeal.AttnfHost

open Cert.AttnfKernelIdeal Cert.AttnfKernelIdeal.Gen
open Idealize.ShloMosaic Idealize.ShloMosaic.TcCoe
open Cert.AttnBucket

variable (m : (ℓ : Loc nD τ sig) → Buf (Elt Ideal) ℓ) (c : Dev nD)

/-- The host's lines up to the bucket, and those from there on. -/
abbrev opsA : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63]
abbrev opsB : List (HloOp τ sig (Elt Ideal)) := List.flatten [hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128]

theorem V_eq (b : Ref sig .tc) : V m c b = StableHlo.after opsB (StableHlo.after opsA fun b => m (c, b)) b := by
  rw [← AttnKernelIdeal.AttnHost.after_append, ← List.flatten_append]
  rfl

theorem bucket_at (U : (b : DevRef τ sig) → b.ty.Contents (Elt Ideal)) (r c : Fin 128) :
    StableHlo.after opsA U main_v109 (ix2 r c) = bucket (BitVec.ofNat 32 (gap r.val c.val)) := by
  after_reads_at
  rw [AttnKernelIdeal.AttnHost.dist_word]
  rfl

/-- The bias at a head, a query and a window position. -/
theorem bias_of (U : (b : DevRef τ sig) → b.ty.Contents (Elt Ideal)) (k : Fin 2) (r : Fin 512) (c : Fin 128) :
    StableHlo.after opsB U main_v304 (ix3 k r c)
      = pick (U (Proc.tc.devRef main_v109) (ix2 ⟨r.val % 128, by omega⟩ c)) fun b =>
          if h : b < 32 then U (Proc.tc.devRef main_arg1) (ix2 ⟨b, h⟩ ⟨k.val * 4 + r.val / 128, by omega⟩) else (0 : EReal) := by
  after_reads_at
  rfl

theorem sink_of (U : (b : DevRef τ sig) → b.ty.Contents (Elt Ideal)) (k : Fin 2) (r : Fin 512) :
    StableHlo.after opsB U main_v307 (ix3 k r 0) = U (Proc.tc.devRef main_arg2) (ix1 ⟨k.val * 4 + r.val / 128, by omega⟩) := by
  after_reads_at
  exact congrArg (fun i : Fin 8 => U (Proc.tc.devRef main_arg2) (ix1 i)) (Fin.ext (by dsimp only; omega))

theorem qg_of (U : (b : DevRef τ sig) → b.ty.Contents (Elt Ideal)) (d : Fin 64) :
    StableHlo.after opsB U main_v308 (ix2 0 d) = U (Proc.tc.devRef main_arg3) (ix1 d) := by
  after_reads_at

theorem kg_of (U : (b : DevRef τ sig) → b.ty.Contents (Elt Ideal)) (d : Fin 64) :
    StableHlo.after opsB U main_v309 (ix2 0 d) = U (Proc.tc.devRef main_arg4) (ix1 d) := by
  after_reads_at

theorem keep2 (U : (b : DevRef τ sig) → b.ty.Contents (Elt Ideal)) (i : S32x8.Idx) :
    StableHlo.after opsA U main_arg1 i = U (Proc.tc.devRef main_arg1) i := by after_reads_at
theorem keep3 (U : (b : DevRef τ sig) → b.ty.Contents (Elt Ideal)) (i : S8.Idx) :
    StableHlo.after opsA U main_arg2 i = U (Proc.tc.devRef main_arg2) i := by after_reads_at
theorem keep4 (U : (b : DevRef τ sig) → b.ty.Contents (Elt Ideal)) (i : S64.Idx) :
    StableHlo.after opsA U main_arg3 i = U (Proc.tc.devRef main_arg3) i := by after_reads_at
theorem keep5 (U : (b : DevRef τ sig) → b.ty.Contents (Elt Ideal)) (i : S64.Idx) :
    StableHlo.after opsA U main_arg4 i = U (Proc.tc.devRef main_arg4) i := by after_reads_at

/-! ## As the kernel finds them -/

theorem bias_at (k : Fin 2) (r : Fin 512) (j : Fin 128) :
    V m c main_v304 (ix3 k r j)
      = m ((c : Thread nD τ).loc main_arg1) (ix2 ⟨row (gap (r.val % 128) j.val), row_lt _ (gap_lt ⟨r.val % 128, by omega⟩ j)⟩
          ⟨k.val * 4 + r.val / 128, by omega⟩) := by
  have h := row_lt _ (gap_lt ⟨r.val % 128, by omega⟩ j)
  rw [V_eq, bias_of, bucket_at, pick_eq _ _ h]
  exact (dif_pos h).trans (keep2 _ _)

theorem sink_at (k : Fin 2) (r : Fin 512) :
    V m c main_v307 (ix3 k r 0) = m ((c : Thread nD τ).loc main_arg2) (ix1 ⟨k.val * 4 + r.val / 128, by omega⟩) := by
  rw [V_eq, sink_of, keep3]

theorem qg_at (d : Fin 64) : V m c main_v308 (ix2 0 d) = m ((c : Thread nD τ).loc main_arg3) (ix1 d) := by
  rw [V_eq, qg_of, keep4]

theorem kg_at (d : Fin 64) : V m c main_v309 (ix2 0 d) = m ((c : Thread nD τ).loc main_arg4) (ix1 d) := by
  rw [V_eq, kg_of, keep5]

end Cert.AttnfKernelIdeal.AttnfHost

end
-- ==== Proof.AttnfValue.lean ====
/-
  The array that the attention kernel, forwards, leaves: what its windows' blocks hold at each point, and what the points write.
-/
module

public import proofs.«01_k».proof.Proof.AttnfPoint
public import proofs.«01_k».proof.Proof.AttnfHost
public import proofs.«01_k».proof.Proof.AttnBlocks
public import Idealize.ShloMosaic.Lib.Pipeline.ValueKit

@[expose] public section

set_option maxRecDepth 16384
set_option maxHeartbeats 1000000

noncomputable section

namespace Cert.AttnfKernelIdeal.RefValue

open Cert.AttnfKernelIdeal Cert.AttnfKernelIdeal.Gen Cert.AttnfKernelIdeal.AttnfHost Cert.AttnfKernelIdeal.AttnfPoint
open Cert.AttnKernelIdeal.AttnGrp Cert.AttnKernelIdeal.AttnLoad
open Idealize.ShloMosaic Idealize.ShloMosaic.TcCoe Idealize.ShloMosaic.Pipeline
open Cert.AttnMath Cert.AttnFits

variable (m : (ℓ : Loc nD τ sig) → Buf (Elt Ideal) ℓ) (c : Dev nD)

theorem coord : ∀ t : Fin cfg0.N, (grid0.coords t 0).val = t.val :=
  (by decide +kernel : ∀ t : Fin grid0.N, (grid0.coords t 0).val = t.val)
theorem lt_16 (t : Fin cfg0.N) : t.val < 16 := lt_of_lt_of_eq t.isLt (by decide +kernel)

theorem idx : ∀ t : Fin cfg0.N, win0_0.index t = ![t.val, 0] ∧ win0_1.index t = ![t.val, 4]
    ∧ win0_2.index t = ![4 * t.val - 1, 4] ∧ win0_3.index t = ![t.val, 5] ∧ win0_4.index t = ![4 * t.val - 1, 5]
    ∧ win0_5.index t = ![0, 0, 0] ∧ win0_6.index t = ![0, 0, 0] ∧ win0_7.index t = ![0, 0] ∧ win0_8.index t = ![0, 0]
    ∧ win0_9.index t = ![t.val, 0] :=
  (by decide +kernel : ∀ t : Fin grid0.N, _)

theorem blk1 (t : Fin cfg0.N) (r : Fin 512) (j : Fin 128) :
    iblk m c 1 t (ix2 r j) = m ((c : Thread nD τ).loc main_arg0) (ix2 ⟨512 * t.val + r.val, by have := lt_16 t; omega⟩ ⟨512 + j.val, by omega⟩) := by
  unfold iblk
  rw [show V m c (Pipeline.arrRef spec0 1) = m ((c : Thread nD τ).loc main_arg0) from V_main_arg0 m c]
  blk_point [idx t]

theorem blk2 (t : Fin cfg0.N) (r : Fin 128) (j : Fin 128) :
    iblk m c 2 t (ix2 r j) = m ((c : Thread nD τ).loc main_arg0) (ix2 ⟨128 * (4 * t.val - 1) + r.val, by have := lt_16 t; omega⟩ ⟨512 + j.val, by omega⟩) := by
  unfold iblk
  rw [show V m c (Pipeline.arrRef spec0 2) = m ((c : Thread nD τ).loc main_arg0) from V_main_arg0 m c]
  blk_point [idx t]

theorem blk3 (t : Fin cfg0.N) (r : Fin 512) (j : Fin 128) :
    iblk m c 3 t (ix2 r j) = m ((c : Thread nD τ).loc main_arg0) (ix2 ⟨512 * t.val + r.val, by have := lt_16 t; omega⟩ ⟨640 + j.val, by omega⟩) := by
  unfold iblk
  rw [show V m c (Pipeline.arrRef spec0 3) = m ((c : Thread nD τ).loc main_arg0) from V_main_arg0 m c]
  blk_point [idx t]

theorem blk4 (t : Fin cfg0.N) (r : Fin 128) (j : Fin 128) :
    iblk m c 4 t (ix2 r j) = m ((c : Thread nD τ).loc main_arg0) (ix2 ⟨128 * (4 * t.val - 1) + r.val, by have := lt_16 t; omega⟩ ⟨640 + j.val, by omega⟩) := by
  unfold iblk
  rw [show V m c (Pipeline.arrRef spec0 4) = m ((c : Thread nD τ).loc main_arg0) from V_main_arg0 m c]
  blk_point [idx t]

theorem blk0 (t : Fin cfg0.N) (r : Fin 512) (j : Fin 512) :
    X0_0 m c t (ix2 r j) = m ((c : Thread nD τ).loc main_arg0) (ix2 ⟨512 * t.val + r.val, by have := lt_16 t; omega⟩ ⟨j.val, by omega⟩) := by
  unfold X0_0 Pipeline.Window.fill
  rw [dif_pos (moved0_0 t (ix2 r j))]
  unfold iblk
  rw [show V m c (Pipeline.arrRef spec0 0) = m ((c : Thread nD τ).loc main_arg0) from V_main_arg0 m c]
  blk_point [idx t]

theorem blk5 (t : Fin cfg0.N) (k : Fin 2) (r : Fin 512) (j : Fin 128) : iblk m c 5 t (ix3 k r j) = V m c main_v304 (ix3 k r j) := by
  unfold iblk
  generalize e : V m c main_v304 = y
  blk_point [idx t]

theorem blk6 (t : Fin cfg0.N) (k : Fin 2) (r : Fin 512) : iblk m c 6 t (ix3 k r 0) = V m c main_v307 (ix3 k r 0) := by
  unfold iblk
  generalize e : V m c main_v307 = y
  blk_point [idx t]

theorem blk7 (t : Fin cfg0.N) (d : Fin 64) : iblk m c 7 t (ix2 0 d) = V m c main_v308 (ix2 0 d) := by
  unfold iblk
  generalize e : V m c main_v308 = y
  blk_point [idx t]

theorem blk8 (t : Fin cfg0.N) (d : Fin 64) : iblk m c 8 t (ix2 0 d) = V m c main_v309 (ix2 0 d) := by
  unfold iblk
  generalize e : V m c main_v309 = y
  blk_point [idx t]

/-- The arguments are the data `D`, with a cotangent of zeros. -/
abbrev Fit (D : Data) : Prop :=
  Fits (fun i j => m ((c : Thread nD τ).loc main_arg0) (ix2 i j)) (fun _ _ => 0)
    (fun i j => m ((c : Thread nD τ).loc main_arg1) (ix2 i j)) (fun i => m ((c : Thread nD τ).loc main_arg2) (ix1 i))
    (fun i => m ((c : Thread nD τ).loc main_arg3) (ix1 i)) (fun i => m ((c : Thread nD τ).loc main_arg4) (ix1 i)) D

/-- What the blocks of a point hold. -/
def ins (t : Fin cfg0.N) : In :=
  ⟨X0_0 m c t, iblk m c 1 t, iblk m c 2 t, iblk m c 3 t, iblk m c 4 t, fun _ => (0 : EReal), iblk m c 5 t, iblk m c 6 t, iblk m c 7 t, iblk m c 8 t⟩

variable {m c} {D : Data} (H : Fit m c D)
include H

theorem at_z (i : Fin 8192) (j : Fin 1792) (n k : ℕ) (hn : i.val = n) (hk : j.val = k) :
    m ((c : Thread nD τ).loc main_arg0) (ix2 i j) = (D.z n k : EReal) := by
  subst hn hk; exact H.z i j

theorem holds (t : Fin cfg0.N) : Holds (ins m c t) D t.val :=
  Cert.AttnKernelIdeal.AttnBlocks.holds_of (ins m c t)
    (fun r j => (show (ins m c t).x0 (ix2 r j) = X0_0 m c t (ix2 r j) by sl_kernel_rfl).trans ((blk0 m c t r j).trans (at_z H _ _ _ _ rfl rfl)))
    (fun r j => (show (ins m c t).x1 (ix2 r j) = iblk m c 1 t (ix2 r j) by sl_kernel_rfl).trans ((blk1 m c t r j).trans (at_z H _ _ _ _ rfl rfl)))
    (fun r j => (show (ins m c t).x2 (ix2 r j) = iblk m c 2 t (ix2 r j) by sl_kernel_rfl).trans ((blk2 m c t r j).trans (at_z H _ _ _ _ rfl rfl)))
    (fun r j => (show (ins m c t).x3 (ix2 r j) = iblk m c 3 t (ix2 r j) by sl_kernel_rfl).trans ((blk3 m c t r j).trans (at_z H _ _ _ _ rfl rfl)))
    (fun r j => (show (ins m c t).x4 (ix2 r j) = iblk m c 4 t (ix2 r j) by sl_kernel_rfl).trans ((blk4 m c t r j).trans (at_z H _ _ _ _ rfl rfl)))
    (fun r j => (show (ins m c t).x5 (ix2 r j) = (0 : EReal) by sl_kernel_rfl).trans (H.da ⟨512 * t.val + r.val, by have := lt_16 t; omega⟩ j))
    (fun k r j => (show (ins m c t).x6 (ix3 k r j) = iblk m c 5 t (ix3 k r j) by sl_kernel_rfl).trans
      ((blk5 m c t k r j).trans ((bias_at m c k r j).trans (H.b k r j))))
    (fun k r => (show (ins m c t).x7 (ix3 k r 0) = iblk m c 6 t (ix3 k r 0) by sl_kernel_rfl).trans
      ((blk6 m c t k r).trans ((sink_at m c k r).trans (H.sk k r))))
    (fun d => (show (ins m c t).x8 (ix2 0 d) = iblk m c 7 t (ix2 0 d) by sl_kernel_rfl).trans ((blk7 m c t d).trans ((qg_at m c d).trans (H.qg d))))
    (fun d => (show (ins m c t).x9 (ix2 0 d) = iblk m c 8 t (ix2 0 d) by sl_kernel_rfl).trans ((blk8 m c t d).trans ((kg_at m c d).trans (H.kg d))))

/-- A point writes its tokens' rows. -/
theorem point (t : Fin cfg0.N) (r j : Fin 512) : outsAt0 m c t (ix2 r j) = (D.oAt (512 * t.val + r.val) j.val : EReal) := by
  have e : outsAt0 m c t = View.canon (dqOrder.map (oPiece (g (grid0.coords t) (ms0_0 t) (hs0_0 t) (ms0_1 t) (hs0_1 t) (ms0_2 t)
      (hs0_2 t) (ms0_3 t) (hs0_3 t) (ms0_4 t) (hs0_4 t) (ms0_5 t) (hs0_5 t) (ms0_6 t) (hs0_6 t) (ms0_7 t) (hs0_7 t) (ms0_8 t) (hs0_8 t)
      (ins m c t)))) :=
    (show outsAt0 m c t = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      (ins m c t).x0 (ins m c t).x1 (ins m c t).x2 (ins m c t).x3 (ins m c t).x4 (ins m c t).x6 (ins m c t).x7 (ins m c t).x8 (ins m c t).x9 by sl_kernel_rfl).trans
      (block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ins m c t))
  rw [e]
  refine o_at (D := D) (t := t.val) (fun i k => ?_) r j
  unfold g
  rw [coord]
  exact grpOf_at _ _ _ _ _ _ _ _ _ _ _ _ _ _ _ _ _ _ _ _ (lt_16 t) (holds H t) i k

/-- The array after the run. -/
theorem final : (dats m 0 c).arrAt 9 cfg0.N = fun i : S8192x512.Idx => ((D.oAt (i 0).val (i 1).val : ℝ) : EReal) := by
  refine (dats m 0 c).arrAt_eq_of_covers 9 _ (by decide +kernel) fun t _ y => ?_
  blk_simp
  rw [after0_9]
  change S512x512.Idx at y
  idx_vars y
  have e0 : win0_9.index t 0 = t.val := by simp [idx t]
  have e1 : win0_9.index t 1 = 0 := by simp [idx t]
  refine (point H t y0 y1).trans (congrArg Real.toEReal (congrArg₂ D.oAt ?_ ?_))
  · exact congrArg (· + y0.val) ((mul_comm _ _).trans (congrArg (· * 512) e0.symm))
  · rw [e1, zero_mul, zero_add]

end Cert.AttnfKernelIdeal.RefValue

end
-- ==== Proof.AttnfRef.lean ====
/-
  The attention reference, forwards, as real numbers: up to the weights it computes what the backward call's reference
  computes on its way, and its array is the weighted sum of the band's values.
-/
module

public import proofs.«01_k».proof.Proof.AttnRefGrad
public import proofs.«01_k».proof.Proof.AttnfMath
public import proofs.«01_k».proof.Proof.Gen.AttnfReferenceIdeal.Read

@[expose] public section

set_option maxRecDepth 16384

noncomputable section

namespace Cert.AttnfReferenceIdeal.RefValue

open Cert.AttnfReferenceIdeal Cert.AttnfReferenceIdeal.Gen Cert.AttnfReferenceIdeal.Read
open Cert.AttnReferenceIdeal.RefValue (IsData shift e_at S_at vband_at)
open Idealize.ShloMosaic Idealize.ShloMosaic.TcCoe
open Cert.Reals Cert.AttnMath

variable {x0 : FVec Ideal S8192x1792 .f32} {x1 : FVec Ideal S8192x512 .f32} {x2 : FVec Ideal S32x8 .f32} {x3 : FVec Ideal S8 .f32}
  {x4 x5 : FVec Ideal S64 .f32} {D : Data} (H : IsData x0 x1 x2 x3 x4 x5 D)

set_option maxHeartbeats 2000000 in
theorem v_same : val_main_v181 (F := Ideal) x0 = Cert.AttnReferenceIdeal.Read.val_main_v189 (F := Ideal) x0 := by sl_kernel_rfl
set_option maxHeartbeats 2000000 in
theorem e_same : val_main_v199 (F := Ideal) x0 x2 x3 x4 x5 = Cert.AttnReferenceIdeal.Read.val_main_v230 (F := Ideal) x0 x2 x3 x4 x5 := by
  sl_kernel_rfl
set_option maxHeartbeats 2000000 in
theorem S_same : val_main_v205 (F := Ideal) x0 x2 x3 x4 x5 = Cert.AttnReferenceIdeal.Read.val_main_v236 (F := Ideal) x0 x2 x3 x4 x5 := by
  sl_kernel_rfl

include H

theorem p_at (n : Fin 64) (k : Fin 2) (g : Fin 4) (q : Fin 128) (s : Fin 256) :
    val_main_v207 (F := Ideal) x0 x2 x3 x4 x5 (ix5 n k g q s) = ((D.group n.val k).pB g q s : EReal) := by
  pointwise [val_main_v206, val_main_v207]
  rw [e_same, S_same, e_at H, S_at H, div_real ((D.group n.val k).SB_pos _ g q).ne', (D.group n.val k).eB_div]

/-- The reference's array. -/
theorem ref_at (T : Fin 8192) (j : Fin 512) :
    val_main_v210 (F := Ideal) x0 x2 x3 x4 x5 (ix2 T j) = (D.oAt T.val j.val : EReal) := by
  have e : val_main_v210 (F := Ideal) x0 x2 x3 x4 x5 (ix2 T j)
      = val_main_v208 (F := Ideal) x0 x2 x3 x4 x5
          (ix5 ⟨T.val / 128, by omega⟩ ⟨j.val / 256, by omega⟩ ⟨j.val % 64, by omega⟩ ⟨j.val / 64 % 4, by omega⟩ ⟨T.val % 128, by omega⟩) := by
    pointwise [val_main_v209, val_main_v210]
  rw [e]
  pointwise [val_main_v208]
  simp only [v_same, vband_at H, p_at H, ← EReal.coe_mul]
  rw [coe_sum, Group.o_eq, Data.oAt]
  have a1 : (⟨j.val / 256 % 2, by omega⟩ : Fin 2) = ⟨j.val / 256, by omega⟩ := Fin.ext (by dsimp only; omega)
  have a2 : (⟨128 * (j.val % 256 / 64) + T.val % 128, by omega⟩ : Fin 512) = rr ⟨j.val / 64 % 4, by omega⟩ ⟨T.val % 128, by omega⟩ :=
    Fin.ext (by dsimp only [rr]; omega)
  rw [a1, a2]

end Cert.AttnfReferenceIdeal.RefValue

end
-- ==== Proof.AttnfClaim.lean ====
/-
  The claims about the attention's forward kernel: it computes what the plain lines compute.
-/
module

public import proofs.«01_k».proof.Defs
public import proofs.«01_k».proof.Proof.AttnfValue
public import proofs.«01_k».proof.Proof.AttnfRef
public import proofs.«01_k».proof.Proof.Gen.AttnfKernelIdeal
public import proofs.«01_k».proof.Proof.Gen.AttnfKernelIdeal.Value
public import proofs.«01_k».proof.Proof.Gen.AttnfReferenceIdeal
public import proofs.«01_k».proof.Proof.Gen.AttnfReferenceIdeal.Run
public import proofs.«01_k».proof.Proof.Gen.Pre_finite_attnf

@[expose] public section

set_option maxRecDepth 16384

noncomputable section

open Idealize.ShloMosaic Idealize.ShloMosaic.TcCoe Idealize.SL.Sem

namespace Cert.AttnfKernelIdeal.RefValue

open Cert.AttnMath Cert.AttnFits

/-- Real arguments are the real data of some `D`, on every device. -/
theorem fit (m : (ℓ : Loc Cert.AttnfKernelIdeal.nD Cert.AttnfKernelIdeal.τ Cert.AttnfKernelIdeal.sig) → Buf (Elt Ideal) ℓ)
    (h : Cert.Pre_AttnfKernelIdeal_finite_attnf m) (c : Dev Cert.AttnfKernelIdeal.nD) : ∃ D : Data, Fit m c D := by
  obtain ⟨h0, h2, h3, h4, h5⟩ := h c
  exact exists_fits (fun i j => Cert.Reals.of_abs_lt (congrFun h0 _)) (fun _ _ => ⟨0, EReal.coe_zero.symm⟩)
    (fun i j => Cert.Reals.of_abs_lt (congrFun h2 _)) (fun i => Cert.Reals.of_abs_lt (congrFun h3 _))
    (fun i => Cert.Reals.of_abs_lt (congrFun h4 _)) (fun i => Cert.Reals.of_abs_lt (congrFun h5 _))

theorem frame_ref : Cert.quiescent_AttnfReferenceIdeal := fun m ρ _ =>
  (θ_run Cert.AttnfReferenceIdeal.defs _ _).mono
    (fun r h => ⟨fun c => (h c).2, sem_eq_zero_of_no_sems (by decide) r.2⟩)
    (Cert.AttnfReferenceIdeal.Value.run (F := Ideal) m ρ)

/-- On real arrays the kernel computes the plain lines' attention. -/
theorem algebraic : Cert.algebraic_AttnfKernelIdeal_AttnfReferenceIdeal_pre_finite_attnf := by
  intro m ρ m' ρ' hpre hag
  choose D H using fit m hpre
  refine ⟨fun c => fun i : S8192x512.Idx => (((D c).oAt (i 0).val (i 1).val : ℝ) : EReal), ?_, ?_⟩
  · exact (θ_run Cert.AttnfKernelIdeal.defs _ _).mono (fun _ h c => ⟨(h c).1.trans (final (H c)), (h c).2⟩)
      (Cert.AttnfKernelIdeal.Value.run_blocks (F := Ideal) m ρ)
  · refine (θ_run Cert.AttnfReferenceIdeal.defs _ _).mono (fun _ h c => ⟨(h c).1.trans ?_, (h c).2⟩)
      (Cert.AttnfReferenceIdeal.Value.run (F := Ideal) m' ρ')
    obtain ⟨a0, a1, a2, a3, a4⟩ := hag c
    refine (Cert.AttnfReferenceIdeal.Read.val_main_v210_eq _).trans ?_
    refine Eq.trans ?_ (funext fun j => ?_ : Cert.AttnfReferenceIdeal.Read.val_main_v210 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) = _)
    · exact congr (congr (congr (congr (congrArg _ a0) a1) a2) a3) a4
    · idx_vars j
      exact Cert.AttnfReferenceIdeal.RefValue.ref_at (x1 := fun _ => (0 : EReal)) (H c) _ _

end Cert.AttnfKernelIdeal.RefValue

end
-- ==== Proof.MixfValue.lean ====
/-
  The mixer's output, forwards: the norm of the attention's rows beside that of the gated, normed convolution's rows, read
  from the blocks of the call. Every quantity is an extended real, so nothing is asked of the arguments.
-/
module

public import proofs.«01_k».proof.Proof.Gen.MixfKernelIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixfKernelIdeal.RefValue

open Cert.MixfKernelIdeal Cert.MixfKernelIdeal.Gen

variable (m : (ℓ : Loc nD τ sig) → Buf (Elt Ideal) ℓ)

/-- A row's mean, the row less it, and the row times the inverse root of its mean square. -/
def mean (f : Fin 512 → EReal) : EReal := Ideal.div (∑ k, f k) (Ideal.ofBits .f32 0x44000000#32)
def cen (f : Fin 512 → EReal) (l : Fin 512) : EReal := f l - mean f
def hat (f : Fin 512 → EReal) (l : Fin 512) : EReal :=
  f l * Ideal.rsqrt (mean (fun k => f k * f k) + Ideal.ofBits .f32 0x358637BD#32)

/-- The layer norm of a row, and the gate of it. -/
def yn (f g b : Fin 512 → EReal) (l : Fin 512) : EReal := hat (cen f) l * g l + b l
def act (f g b : Fin 512 → EReal) (l : Fin 512) : EReal := yn f g b l * Ideal.logistic (yn f g b l)

/-- One row of the result. -/
def out (a y lg lb ag cg : Fin 512 → EReal) (l : Fin 1024) : EReal :=
  if h : l.val < 512 then hat a ⟨l.val, h⟩ * ag ⟨l.val, h⟩
  else hat (act y lg lb) ⟨l.val - 512, by omega⟩ * cg ⟨l.val - 512, by omega⟩

/-- The whole result array. -/
def outArr (a y : FVec Ideal S8192x512 .f32) (lg lb ag cg : FVec Ideal S512 .f32) : FVec Ideal S8192x1024 .bf16 := fun i =>
  out (fun k => a (ix2 (i 0) k)) (fun k => y (ix2 (i 0) k)) (fun k => lg (ix1 k)) (fun k => lb (ix1 k)) (fun k => ag (ix1 k))
    (fun k => cg (ix1 k)) (i 1)

/-- The payloads on a row. -/
theorem hat_at (v : FVec Ideal S512x512 .f32) (g : FVec Ideal S1x512 .f32) (r l : Fin 512) :
    k0_pay2 (F := Ideal) v g (ix2 r l) = hat (fun k => v (ix2 r k)) l * g (ix2 0 l) := by
  pointwise [k0_pay2, hat, mean]

theorem ln_at (v : FVec Ideal S512x512 .f32) (r l : Fin 512) : k0_pay5 (F := Ideal) v (ix2 r l) = hat (cen fun k => v (ix2 r k)) l := by
  pointwise [k0_pay5, hat, mean, cen]

theorem gate_at (g b e : FVec Ideal S1x512 .f32) (h : FVec Ideal S512x512 .f32) (r l : Fin 512) :
    k0_pay1 (F := Ideal) (k0_pay3 g) (k0_pay4 b) h e (ix2 r l)
      = hat (fun k => (h (ix2 r k) * g (ix2 0 k) + b (ix2 0 k)) * Ideal.logistic (h (ix2 r k) * g (ix2 0 k) + b (ix2 0 k))) l * e (ix2 0 l) := by
  pointwise [k0_pay1, k0_pay3, k0_pay4, hat, mean]

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem lt16 (t : Fin cfg0.N) : t.val < 16 := lt_of_lt_of_eq t.isLt (show cfg0.N = 16 from N_0)

/-- The row of the arrays that row `r` of the block at point `t` is. -/
abbrev row (t : Fin cfg0.N) (r : Fin 512) : Fin 8192 := ⟨t.val * 512 + r.val, by have := lt16 t; omega⟩

variable {m} {c : Dev nD} (t : Fin cfg0.N)

/-- The blocks of a point. -/
theorem blk0 (r l : Fin 512) : iblk m c 0 t (ix2 r l) = m ((c : Thread nD τ).loc main_arg0) (ix2 (row t r) l) := by
  blk_point [iblk, V, idx t]
theorem blk1 (r l : Fin 512) : iblk m c 1 t (ix2 r l) = m ((c : Thread nD τ).loc main_arg1) (ix2 (row t r) l) := by
  blk_point [iblk, V, idx t]
theorem blk2 (l : Fin 512) : iblk m c 2 t (ix2 0 l) = m ((c : Thread nD τ).loc main_arg2) (ix1 l) := by
  blk_point [iblk, V, idx t]
theorem blk3 (l : Fin 512) : iblk m c 3 t (ix2 0 l) = m ((c : Thread nD τ).loc main_arg3) (ix1 l) := by
  blk_point [iblk, V, idx t]
theorem blk4 (l : Fin 512) : iblk m c 4 t (ix2 0 l) = m ((c : Thread nD τ).loc main_arg4) (ix1 l) := by
  blk_point [iblk, V, idx t]
theorem blk5 (l : Fin 512) : iblk m c 5 t (ix2 0 l) = m ((c : Thread nD τ).loc main_arg5) (ix1 l) := by
  blk_point [iblk, V, idx t]

/-- A block of the result, its two halves side by side. -/
theorem block (a y : FVec Ideal S512x512 .f32) (lg lb ag cg : FVec Ideal S1x512 .f32) (r : Fin 512) (l : Fin 1024) :
    out0_6 (F := Ideal) a y lg lb ag cg (ix2 r l) = out (fun k => a (ix2 r k)) (fun k => y (ix2 r k)) (fun k => lg (ix2 0 k))
      (fun k => lb (ix2 0 k)) (fun k => ag (ix2 0 k)) (fun k => cg (ix2 0 k)) l := by
  frame_out
  canon_tiles x h
  all_goals
    idx_vars x
    obtain rfl : r = x0 := Fin.ext h0
  · refine (gate_at _ _ _ _ r x1).trans ?_
    simp only [ln_at]
    obtain ⟨l, hl⟩ := l
    obtain rfl : l = 512 + x1.val := h1
    rw [out, dif_neg (by simp)]
    simp only [Nat.add_sub_cancel_left]
    rfl
  · refine (hat_at _ _ r x1).trans ?_
    obtain ⟨l, hl⟩ := l
    obtain rfl : l = x1.val := h1
    rw [out, dif_pos x1.isLt]

theorem point (y) : out0_6 (iblk m c 0 t) (iblk m c 1 t) (iblk m c 2 t) (iblk m c 3 t) (iblk m c 4 t) (iblk m c 5 t) y
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
  idx_vars y
  have e : ((cfg0.win 6).blk t).view.emb (ix2 y0 y1) = ix2 (row t y0) y1 := by blk_ext [idx t]
  rw [e]
  refine (block _ _ _ _ _ _ y0 y1).trans ?_
  simp only [blk0 t, blk1 t, blk2 t, blk3 t, blk4 t, blk5 t]
  rfl

/-- The kernel's result array after the run. -/
theorem final : (dats m 0 c).arrAt 6 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact point t y

end Cert.MixfKernelIdeal.RefValue

end
-- ==== Proof.MixfClaim.lean ====
/-
  The mixer's output, forwards: the plain lines leave the array that the call leaves, on any arguments.
-/
module

public import proofs.«01_k».proof.Proof.MixfValue
public import proofs.«01_k».proof.Proof.Gen.MixfReferenceIdeal.Read
public import proofs.«01_k».proof.Proof.Gen.MixfKernelIdeal
public import proofs.«01_k».proof.Proof.Gen.MixfReferenceIdeal
public import proofs.«01_k».proof.Defs

@[expose] public section

set_option maxRecDepth 16384

noncomputable section

open Idealize.ShloMosaic Idealize.ShloMosaic.TcCoe Idealize.SL.Sem

namespace Cert.MixfKernelIdeal.RefValue

open Cert.MixfReferenceIdeal.Read

/-- The gated convolution of the plain lines. -/
theorem ref_act (y : FVec Ideal S8192x512 .f32) (lg lb : FVec Ideal S512 .f32) (r : Fin 8192) (l : Fin 512) :
    val_main_v24 (F := Ideal) y lg lb (ix2 r l)
      = act (fun k => y (ix2 r k)) (fun k => lg (ix1 k)) (fun k => lb (ix1 k)) l := by
  pointwise [val_main_v24, val_main_call0_v5, val_main_call0_v4, val_main_call0_cst_0, val_main_call0_v3, val_main_call0_v2,
    val_main_call0_cst, val_main_call0_v1, val_main_call0_v0, val_main_v23, val_main_v22, val_main_v21, val_main_v20,
    val_main_v19, val_main_v18, val_main_v17, val_main_v16, val_main_v15, val_main_v14, val_main_v13, val_main_cst_3,
    val_main_v12, val_main_v11, val_main_v10, val_main_v9, val_main_cst_2, val_main_v8, val_main_v7, val_main_cst_1,
    val_main_v6, val_main_v5, val_main_v4, val_main_v3, val_main_v2, val_main_cst_0, val_main_v1, val_main_v0, val_main_cst,
    act, yn, hat, cen, mean, Ideal.logistic]

theorem ref_eq (a y : FVec Ideal S8192x512 .f32) (lg lb ag cg : FVec Ideal S512 .f32) :
    val_main_v52 (F := Ideal) a y lg lb ag cg = outArr a y lg lb ag cg := by
  funext i
  idx_vars i
  simp only [outArr, out]
  by_cases h : i1.val < 512
  · simp only [ix2, h, ↓reduceDIte]
    pointwise [val_main_v52, val_main_v51, val_main_v37, val_main_v36, val_main_v35, val_main_v34, val_main_v33, val_main_v32,
      val_main_v31, val_main_v30, val_main_cst_6, val_main_v29, val_main_v28, val_main_cst_5, val_main_v27, val_main_v26,
      val_main_cst_4, val_main_v25, hat, mean]
    simp only [h, ↓reduceDIte]
  · simp only [ix2, h, ↓reduceDIte]
    pointwise [val_main_v52, val_main_v51, val_main_v50, val_main_v49, val_main_v48, val_main_v47, val_main_v46, val_main_v45,
      val_main_v44, val_main_v43, val_main_cst_9, val_main_v42, val_main_v41, val_main_cst_8, val_main_v40, val_main_v39,
      val_main_cst_7, val_main_v38, ref_act, hat, mean]
    simp only [h, ↓reduceDIte]

theorem frame_ref : Cert.quiescent_MixfReferenceIdeal := fun m ρ _ =>
  (θ_run Cert.MixfReferenceIdeal.defs _ _).mono
    (fun r h => ⟨fun c => (h c).2, sem_eq_zero_of_no_sems (by decide) r.2⟩)
    (Cert.MixfReferenceIdeal.Value.run (F := Ideal) m ρ)

/-- On any arrays the kernel leaves the two norms side by side, and so do the plain lines. -/
theorem algebraic : Cert.algebraic_MixfKernelIdeal_MixfReferenceIdeal := by
  intro m ρ m' ρ' hpre hag
  refine ⟨fun c => outArr (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)), ?_, ?_⟩
  · exact (θ_run Cert.MixfKernelIdeal.defs _ _).mono (fun _ h c => ⟨(h c).1.trans final, (h c).2⟩)
      (Cert.MixfKernelIdeal.Value.run_blocks (F := Ideal) m ρ)
  · refine (θ_run Cert.MixfReferenceIdeal.defs _ _).mono (fun _ h c => ⟨(h c).1.trans ?_, (h c).2⟩)
      (Cert.MixfReferenceIdeal.Value.run (F := Ideal) m' ρ')
    refine (Cert.MixfReferenceIdeal.Read.val_main_v52_eq _ _).trans ?_
    rw [(hag c).1, (hag c).2.1, (hag c).2.2.1, (hag c).2.2.2.1, (hag c).2.2.2.2.1, (hag c).2.2.2.2.2]
    exact ref_eq _ _ _ _ _ _

end Cert.MixfKernelIdeal.RefValue

end
-- ==== Proof.NormMmValue.lean ====
/-
  The norm in front of the feed-forward, fused with the product with its first weight: what the call leaves in its two result
  arrays. Every quantity is an extended real, so nothing is asked of the arguments.
-/
module

public import proofs.«01_k».proof.Proof.Gen.NormMmKernelIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormMmKernelIdeal.RefValue

open Cert.NormMmKernelIdeal Cert.NormMmKernelIdeal.Gen

variable (m : (ℓ : Loc nD τ sig) → Buf (Elt Ideal) ℓ)

/-- A row times the inverse root of its mean square and the norm's weight. -/
def nrm (f g : Fin 1024 → EReal) (l : Fin 1024) : EReal :=
  f l * Ideal.rsqrt (Ideal.div (∑ k, f k * f k) (Ideal.ofBits .f32 0x44800000#32) + Ideal.ofBits .f32 0x358637BD#32) * g l

/-- The two result arrays. -/
def normArr (x : FVec Ideal S8192x1024 .f32) (g : FVec Ideal S1024 .f32) : FVec Ideal S8192x1024 .bf16 := fun i =>
  nrm (fun k => x (ix2 (i 0) k)) (fun k => g (ix1 k)) (i 1)
def upArr (x : FVec Ideal S8192x1024 .f32) (g : FVec Ideal S1024 .f32) (w : FVec Ideal S1024x4096 .f32) :
    FVec Ideal S8192x4096 .bf16 := fun i =>
  ∑ k : Fin 1024, nrm (fun k => x (ix2 (i 0) k)) (fun k => g (ix1 k)) k * w (ix2 k (i 1))

/-- The payloads on a row. -/
theorem norm_at (v : FVec Ideal S512x1024 .f32) (g : FVec Ideal S1x1024 .f32) (r : Fin 512) (l : Fin 1024) :
    k0_pay3 (F := Ideal) v g (ix2 r l) = nrm (fun k => v (ix2 r k)) (fun k => g (ix2 0 k)) l := by
  pointwise [k0_pay3, nrm]

theorem mul_at (h : FVec Ideal S512x1024 .bf16) (w : FVec Ideal S1x1x1024x1024 .bf16) (r : Fin 512) (l : Fin 1024) :
    k0_pay2 (F := Ideal) h w (ix2 r l) = ∑ k : Fin 1024, h (ix2 r k) * w (ix4 0 0 k l) := by
  pointwise [k0_pay2]

theorem mul_at' (h : FVec Ideal S512x1024 .bf16) (w : FVec Ideal S1x1x1024x1024 .bf16) (r : Fin 512) (l : Fin 1024) :
    k0_pay1 (F := Ideal) h (k0_pay6 w) (ix2 r l) = ∑ k : Fin 1024, h (ix2 r k) * w (ix4 0 0 k l) := mul_at h w r l

theorem norm_mul_at (v : FVec Ideal S512x1024 .f32) (g : FVec Ideal S1x1024 .f32) (w : FVec Ideal S1x1x1024x1024 .bf16)
    (r : Fin 512) (l : Fin 1024) : k0_pay4 (F := Ideal) v g w (ix2 r l) = ∑ k : Fin 1024, k0_pay3 (F := Ideal) v g (ix2 r k) * w (ix4 0 0 k l) :=
  mul_at (k0_pay3 v g) w r l

theorem norm_mul_at' (v : FVec Ideal S512x1024 .f32) (g : FVec Ideal S1x1024 .f32) (w : FVec Ideal S1x1x1024x1024 .bf16)
    (r : Fin 512) (l : Fin 1024) : k0_pay5 (F := Ideal) v g w (ix2 r l) = ∑ k : Fin 1024, k0_pay3 (F := Ideal) v g (ix2 r k) * w (ix4 0 0 k l) :=
  mul_at (k0_pay3 v g) w r l

/-- The four pieces of the weight. -/
theorem wpiece (v : Vec Ideal S4x1x1024x1024 .bf16) (a : Fin 4) (i0) (l k : Fin 1024) :
    (View.ld v (Rect.unit ![a.val, 0, 0, 0] ![1, 1, 1024, 1024] i0) : Vec Ideal S1x1x1024x1024 .bf16) (ix4 0 0 l k) = v (ix4 a 0 l k) := by
  pointwise []

theorem idx : ∀ t : Fin cfg0.N, win0_0.index t = ![t.val, 0] ∧ win0_1.index t = ![0, 0] ∧ win0_2.index t = ![0, 0, 0, 0]
    ∧ win0_3.index t = ![t.val, 0] ∧ win0_4.index t = ![t.val, 0] :=
  (by decide +kernel : ∀ t : Fin grid0.N, _)

theorem lt16 (t : Fin cfg0.N) : t.val < 16 := lt_of_lt_of_eq t.isLt (show cfg0.N = 16 from N_0)

/-- The row of the arrays that row `r` of the block at point `t` is. -/
abbrev row (t : Fin cfg0.N) (r : Fin 512) : Fin 8192 := ⟨t.val * 512 + r.val, by have := lt16 t; omega⟩

variable {m} {c : Dev nD} (t : Fin cfg0.N)

/-- The blocks of a point. -/
theorem blk0 (r : Fin 512) (l : Fin 1024) : iblk m c 0 t (ix2 r l) = m ((c : Thread nD τ).loc main_arg0) (ix2 (row t r) l) := by
  blk_point [iblk, V, idx t]
theorem blk1 (l : Fin 1024) : iblk m c 1 t (ix2 0 l) = m ((c : Thread nD τ).loc main_arg1) (ix1 l) := by
  blk_point [iblk, V, idx t]
theorem blk2 (a : Fin 4) (k l : Fin 1024) :
    iblk m c 2 t (ix4 a 0 k l) = m ((c : Thread nD τ).loc main_arg2) (ix2 k ⟨a.val * 1024 + l.val, by omega⟩) := by
  blk_point [iblk, V, idx t]

theorem point3 (y) : out0_3 (iblk m c 0 t) (iblk m c 1 t) (iblk m c 2 t) y
    = normArr (m ((c : Thread nD τ).loc main_arg0)) (m ((c : Thread nD τ).loc main_arg1)) (((cfg0.win 3).blk t).view.emb y) := by
  idx_vars y
  have e : ((cfg0.win 3).blk t).view.emb (ix2 y0 y1) = ix2 (row t y0) y1 := by blk_ext [idx t]
  rw [e]
  frame_out
  refine (norm_at _ _ y0 y1).trans ?_
  simp only [blk0 t, blk1 t]
  rfl

theorem zero2 : (![0, 0] : Fin 2 → Nat) = fun _ => 0 := by decide

/-- One block of columns of the product, -/
theorem cols (v : FVec Ideal S512x1024 .f32) (g : FVec Ideal S1x1024 .f32) (x : FVec Ideal S4x1x1024x1024 .bf16)
    (w : FVec Ideal S1x1x1024x1024 .bf16) (r : Fin 512) (q : Fin 4096) (l : Fin 1024) (a : Fin 4)
    (h : q.val = a.val * 1024 + l.val) (hw : ∀ k, w (ix4 0 0 k l) = x (ix4 a 0 k l)) :
    ∑ k : Fin 1024, k0_pay3 (F := Ideal) v g (ix2 r k) * w (ix4 0 0 k l)
      = ∑ k : Fin 1024, nrm (fun k => v (ix2 r k)) (fun k => g (ix2 0 k)) k
          * x (ix4 ⟨q.val / 1024, by omega⟩ 0 k ⟨q.val % 1024, by omega⟩) := by
  refine Finset.sum_congr rfl fun k _ => ?_
  have e1 : (⟨q.val / 1024, by omega⟩ : Fin 4) = a := Fin.ext (by simp only; omega)
  have e2 : (⟨q.val % 1024, by omega⟩ : Fin 1024) = l := Fin.ext (by simp only; omega)
  rw [norm_at, hw, e1, e2]

/-- and the four side by side. -/
theorem block (v : FVec Ideal S512x1024 .f32) (g : FVec Ideal S1x1024 .f32) (w : FVec Ideal S4x1x1024x1024 .bf16) (r : Fin 512)
    (q : Fin 4096) : out0_4 (F := Ideal) v g w (ix2 r q) = ∑ k : Fin 1024, nrm (fun k => v (ix2 r k)) (fun k => g (ix2 0 k)) k
      * w (ix4 ⟨q.val / 1024, by omega⟩ 0 k ⟨q.val % 1024, by omega⟩) := by
  unfold out0_4 k0_pay7
  rw [View.ld_unit_zero (Val := Elt Ideal) (S := S512x1024) (e := .f32) zero2, View.ld_unit_zero (Val := Elt Ideal) (S := S1x1024) (e := .f32) zero2]
  canon_tiles x h
  all_goals
    idx_vars x
    obtain rfl : r = x0 := Fin.ext h0
  · refine (mul_at _ _ r x1).trans (cols v g w _ r q x1 3 h1 fun k => ?_)
    exact wpiece w 3 _ k x1
  · refine (mul_at' _ _ r x1).trans (cols v g w _ r q x1 2 h1 fun k => ?_)
    exact wpiece w 2 _ k x1
  · refine (norm_mul_at' _ _ _ r x1).trans (cols v g w _ r q x1 1 h1 fun k => ?_)
    exact wpiece w 1 _ k x1
  · refine (norm_mul_at _ _ _ r x1).trans (cols v g w _ r q x1 0 (h1.trans (Nat.zero_add _).symm) fun k => ?_)
    exact wpiece w 0 _ k x1

theorem point4 (y) : out0_4 (iblk m c 0 t) (iblk m c 1 t) (iblk m c 2 t) y
    = upArr (m ((c : Thread nD τ).loc main_arg0)) (m ((c : Thread nD τ).loc main_arg1)) (m ((c : Thread nD τ).loc main_arg2))
        (((cfg0.win 4).blk t).view.emb y) := by
  idx_vars y
  have e : ((cfg0.win 4).blk t).view.emb (ix2 y0 y1) = ix2 (row t y0) y1 := by blk_ext [idx t]
  rw [e]
  refine (block _ _ _ y0 y1).trans ?_
  refine Finset.sum_congr rfl fun k _ => ?_
  rw [blk2]
  simp only [blk0 t, blk1 t]
  refine congrArg _ (congrArg _ (congrArg (ix2 k) (Fin.ext ?_)))
  show y1.val / 1024 * 1024 + y1.val % 1024 = y1.val
  omega

/-- The kernel's result arrays after the run. -/
theorem final3 : (dats m 0 c).arrAt 3 cfg0.N
    = normArr (m ((c : Thread nD τ).loc main_arg0)) (m ((c : Thread nD τ).loc main_arg1)) := by
  refine (dats m 0 c).arrAt_eq_of_covers 3 _ (by decide +kernel) fun t _ y => ?_
  blk_simp
  rw [after0_3]
  exact point3 t y

theorem final4 : (dats m 0 c).arrAt 4 cfg0.N
    = upArr (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 t y

end Cert.NormMmKernelIdeal.RefValue

end
-- ==== Proof.NormMmClaim.lean ====
/-
  The norm in front of the feed-forward and its first product: the plain lines leave the arrays that the call leaves, on any
  arguments.
-/
module

public import proofs.«01_k».proof.Proof.NormMmValue
public import proofs.«01_k».proof.Proof.Gen.NormMmReferenceIdeal.Read
public import proofs.«01_k».proof.Proof.Gen.NormMmKernelIdeal
public import proofs.«01_k».proof.Proof.Gen.NormMmReferenceIdeal
public import proofs.«01_k».proof.Defs

@[expose] public section

set_option maxRecDepth 16384

noncomputable section

open Idealize.ShloMosaic Idealize.ShloMosaic.TcCoe Idealize.SL.Sem

namespace Cert.NormMmKernelIdeal.RefValue

open Cert.NormMmReferenceIdeal.Read

/-- The norm of the plain lines. -/
theorem ref_norm (x : FVec Ideal S8192x1024 .f32) (g : FVec Ideal S1024 .f32) (r : Fin 8192) (l : Fin 1024) :
    val_main_v12 (F := Ideal) x g (ix2 r l) = nrm (fun k => x (ix2 r k)) (fun k => g (ix1 k)) l := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, nrm]

theorem ref_up (x : FVec Ideal S8192x1024 .f32) (g : FVec Ideal S1024 .f32) (w : FVec Ideal S1024x4096 .f32) :
    val_main_v15 (F := Ideal) x g w = upArr x g w := by
  funext i
  idx_vars i
  pointwise [val_main_v15, val_main_v14, ref_norm, upArr]

theorem ref_h (x : FVec Ideal S8192x1024 .f32) (g : FVec Ideal S1024 .f32) :
    val_main_v13 (F := Ideal) x g = normArr x g := by
  funext i
  idx_vars i
  exact ref_norm x g i0 i1

theorem frame_ref : Cert.quiescent_NormMmReferenceIdeal := fun m ρ _ =>
  (θ_run Cert.NormMmReferenceIdeal.defs _ _).mono
    (fun r h => ⟨fun c => (h c).2.2, sem_eq_zero_of_no_sems (by decide) r.2⟩)
    (Cert.NormMmReferenceIdeal.Value.run (F := Ideal) m ρ)

/-- On any arrays the kernel leaves the normed rows and their product, and so do the plain lines. -/
theorem algebraic : Cert.algebraic_NormMmKernelIdeal_NormMmReferenceIdeal := by
  intro m ρ m' ρ' hpre hag
  refine ⟨fun c => normArr (m ((c : Thread nD τ).loc main_arg0)) (m ((c : Thread nD τ).loc main_arg1)),
    fun c => upArr (m ((c : Thread nD τ).loc main_arg0)) (m ((c : Thread nD τ).loc main_arg1))
      (m ((c : Thread nD τ).loc main_arg2)), ?_, ?_⟩
  · exact (θ_run Cert.NormMmKernelIdeal.defs _ _).mono
      (fun _ h c => ⟨(h c).1.trans final3, (h c).2.1.trans final4, (h c).2.2⟩)
      (Cert.NormMmKernelIdeal.Value.run_blocks (F := Ideal) m ρ)
  · refine (θ_run Cert.NormMmReferenceIdeal.defs _ _).mono (fun _ h c => ⟨(h c).1.trans ?_, (h c).2.1.trans ?_, (h c).2.2⟩)
      (Cert.NormMmReferenceIdeal.Value.run (F := Ideal) m' ρ')
    · refine (Cert.NormMmReferenceIdeal.Read.val_main_v13_eq _ _).trans ?_
      rw [(hag c).1, (hag c).2.1]
      exact ref_h _ _
    · refine (Cert.NormMmReferenceIdeal.Read.val_main_v15_eq _ _ _).trans ?_
      rw [(hag c).1, (hag c).2.1, (hag c).2.2]
      exact ref_up _ _ _

end Cert.NormMmKernelIdeal.RefValue

end
-- ==== Proof.ConvfValue.lean ====
/-
  The gated causal convolution, forwards: what the call leaves in its result array. Every quantity is an extended real, so
  nothing is asked of the arguments.
-/
module

public import proofs.«01_k».proof.Proof.Gen.ConvfKernelIdeal.Value
public import proofs.«01_k».proof.Proof.ConvStore
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ConvfKernelIdeal.RefValue

open Cert.ConvfKernelIdeal Cert.ConvfKernelIdeal.Gen Cert.ConvKernelIdeal.Store

/-- A row of the gated branch, 32 rows of zeros before it. -/
def hp (z : FVec Ideal S8192x1792 .f32) (r l : ℕ) : EReal :=
  if h : 32 ≤ r ∧ r < 8224 ∧ l < 512 then
    z (ix2 ⟨r - 32, by omega⟩ ⟨768 + l, by omega⟩) * Ideal.logistic (z (ix2 ⟨r - 32, by omega⟩ ⟨1280 + l, by omega⟩))
  else 0

/-- A tap and the bias of a channel. -/
def tw (w : FVec Ideal S31x512 .f32) (j l : ℕ) : EReal := if h : j < 31 ∧ l < 512 then w (ix2 ⟨j, h.1⟩ ⟨l, h.2⟩) else 0
def bs (b : FVec Ideal S512 .f32) (l : ℕ) : EReal := if h : l < 512 then b (ix1 ⟨l, h⟩) else 0

/-- A start with the first terms of a sequence added one after the other. -/
def acc (s : EReal) (f : ℕ → EReal) : ℕ → EReal
  | 0 => s
  | n + 1 => acc s f n + f n

theorem acc_start (s : EReal) (f : ℕ → EReal) : ∀ n, acc 0 f n + s = acc s f n
  | 0 => zero_add s
  | n + 1 => by rw [acc, acc, ← acc_start s f n]; ac_rfl

/-- One entry of the result. -/
def conv (z : FVec Ideal S8192x1792 .f32) (w : FVec Ideal S31x512 .f32) (b : FVec Ideal S512 .f32) (r l : ℕ) : EReal :=
  acc (bs b l) (fun j => hp z (r + (2 + j)) l * tw w j l) 31

/-- The whole result array. -/
def convArr (z : FVec Ideal S8192x1792 .f32) (w : FVec Ideal S31x512 .f32) (b : FVec Ideal S512 .f32) : FVec Ideal S8192x512 .f32 :=
  fun i => conv z w b (i 0).val (i 1).val

theorem idx : ∀ t : Fin cfg0.N, win0_0.index t = ![t.val / 2, 3 + t.val % 2] ∧ win0_1.index t = ![t.val / 2, 5 + t.val % 2]
    ∧ win0_2.index t = ![t.val / 2 * 16 - 1, 3 + t.val % 2] ∧ win0_3.index t = ![t.val / 2 * 16 - 1, 5 + t.val % 2]
    ∧ win0_4.index t = ![0, t.val % 2] ∧ win0_5.index t = ![0, t.val % 2] ∧ win0_6.index t = ![t.val / 2, t.val % 2]
    ∧ (grid0.coords t 0).val = t.val / 2 :=
  (by decide +kernel : ∀ t : Fin grid0.N, _)

theorem lt32 (t : Fin cfg0.N) : t.val < 32 := lt_of_lt_of_eq t.isLt (show cfg0.N = 32 from N_0)

variable (m : (ℓ : Loc nD τ sig) → Buf (Elt Ideal) ℓ)

/-- The taps the call pads are the taps. -/
theorem padded (c : Dev nD) (j : Fin 32) (h : j.val < 31) (l : Fin 512) :
    StableHlo.after [hostOps0, hostOps0_1, hostOps0_2].flatten (fun b => m (c, b)) (Proc.tc.devRef main_v0) (ix2 j l)
      = m ((c : Thread nD τ).loc main_arg1) (ix2 ⟨j.val, h⟩ l) := by
  after_reads_at
  exact dif_pos h

/-- The row of the bias is the bias. -/
theorem biased (c : Dev nD) (l : Fin 512) :
    StableHlo.after [hostOps0, hostOps0_1, hostOps0_2].flatten (fun b => m (c, b)) (Proc.tc.devRef main_v1) (ix2 0 l)
      = m ((c : Thread nD τ).loc main_arg2) (ix1 l) := by
  after_reads_at

variable {m} {c : Dev nD} (t : Fin cfg0.N) {a b : ℕ} (ha : a = t.val / 2 * 512) (hb : b = t.val % 2 * 256)
include ha hb

/-- The blocks of a point, whose first row is `a` and whose first channel is `b`. -/
theorem blk0 (r : Fin 512) (l : Fin 256) (R : Fin 8192) (C : Fin 1792) (hR : R.val = a + r.val) (hC : C.val = 768 + (b + l.val)) :
    iblk m c 0 t (ix2 r l) = m ((c : Thread nD τ).loc main_arg0) (ix2 R C) := by
  have hN := lt32 t
  blk_point [iblk, V, idx t] <;> omega
theorem blk1 (r : Fin 512) (l : Fin 256) (R : Fin 8192) (C : Fin 1792) (hR : R.val = a + r.val) (hC : C.val = 1280 + (b + l.val)) :
    iblk m c 1 t (ix2 r l) = m ((c : Thread nD τ).loc main_arg0) (ix2 R C) := by
  have hN := lt32 t
  blk_point [iblk, V, idx t] <;> omega
theorem blk2 (h : 0 < t.val / 2) (r : Fin 32) (l : Fin 256) (R : Fin 8192) (C : Fin 1792) (hR : R.val = a + r.val - 32) (hC : C.val = 768 + (b + l.val)) :
    iblk m c 2 t (ix2 r l) = m ((c : Thread nD τ).loc main_arg0) (ix2 R C) := by
  have hN := lt32 t
  blk_point [iblk, V, idx t] <;> omega
theorem blk3 (h : 0 < t.val / 2) (r : Fin 32) (l : Fin 256) (R : Fin 8192) (C : Fin 1792) (hR : R.val = a + r.val - 32) (hC : C.val = 1280 + (b + l.val)) :
    iblk m c 3 t (ix2 r l) = m ((c : Thread nD τ).loc main_arg0) (ix2 R C) := by
  have hN := lt32 t
  blk_point [iblk, V, idx t] <;> omega
theorem blk4 (j : Fin 32) (h : j.val < 31) (l : Fin 256) : iblk m c 4 t (ix2 j l) = tw (m ((c : Thread nD τ).loc main_arg1)) j.val (b + l.val) := by
  have hN := lt32 t
  have i : ((cfg0.win 4).blk t).view.emb (ix2 j l) = ix2 j ⟨b + l.val, by omega⟩ := by blk_ext [idx t] <;> omega
  blk_simp [iblk, V]
  rw [i, tw, dif_pos ⟨h, by omega⟩]
  exact padded m c j h _
theorem blk5 (l : Fin 256) : iblk m c 5 t (ix2 0 l) = bs (m ((c : Thread nD τ).loc main_arg2)) (b + l.val) := by
  have hN := lt32 t
  have i : ((cfg0.win 5).blk t).view.emb (ix2 0 l) = ix2 0 ⟨b + l.val, by omega⟩ := by blk_ext [idx t] <;> omega
  blk_simp [iblk, V]
  rw [i, bs, dif_pos (show b + l.val < 512 by omega)]
  exact biased m c _

/-- The rows of the gated branch with the 32 before them. -/
theorem src (n) (hn : n = (grid0.coords t)) (i0 i1) : ∀ y : S544x256.Idx,
    View.canon (Val := Elt Ideal) (s := S544x256) (e := .f32) [⟨Rect.unit ![32, 0] ![512, 256] i0, k0_pay3 (iblk m c 0 t) (iblk m c 1 t)⟩,
      ⟨Rect.unit ![0, 0] ![32, 256] i1, k0_pay2 n (iblk m c 2 t) (iblk m c 3 t)⟩] y
      = hp (m ((c : Thread nD τ).loc main_arg0)) (a + (y 0).val) (b + (y 1).val) := by
  intro y
  have hN := lt32 t
  subst hn
  idx_vars y
  by_cases h : 32 ≤ y0.val
  · refine (canon_in _ _ _ (ix2 ⟨y0.val - 32, by omega⟩ y1) ?_).trans ?_
    · intro k; fin_cases k <;> simp <;> omega
    · pointwise [k0_pay3]
      refine Eq.trans ?_ (dif_pos (c := 32 ≤ a + y0.val ∧ a + y0.val < 8224 ∧ b + y1.val < 512) (by omega)).symm
      exact congrArg₂ (· * ·) (blk0 t ha hb _ _ _ _ (by simp only; omega) rfl)
        (congrArg Ideal.logistic (blk1 t ha hb _ _ _ _ (by simp only; omega) rfl))
  · refine (canon_out _ _ _ 0 (by left; simpa using h)).trans ((canon_in _ _ _ (ix2 ⟨y0.val, by omega⟩ y1) ?_).trans ?_)
    · intro k; fin_cases k <;> simp
    · pointwise [k0_pay2]
      rw [(idx t).2.2.2.2.2.2.2]
      by_cases h0 : 0 < t.val / 2
      · rw [show Scalar.cmpi CmpIPredicate.sgt (BitVec.ofNat 32 (t.val / 2)) 0#32 = 1#1 by word_cmp, Scalar.select]
        refine Eq.trans ?_ (dif_pos (c := 32 ≤ a + y0.val ∧ a + y0.val < 8224 ∧ b + y1.val < 512) (by omega)).symm
        exact congrArg₂ (· * ·) (blk2 t ha hb h0 _ _ _ _ rfl rfl) (congrArg Ideal.logistic (blk3 t ha hb h0 _ _ _ _ rfl rfl))
      · rw [show Scalar.cmpi CmpIPredicate.sgt (BitVec.ofNat 32 (t.val / 2)) 0#32 = 0#1 by word_cmp, Scalar.select]
        show (0 : EReal) = _
        rw [hp, dif_neg (show ¬(32 ≤ a + y0.val ∧ a + y0.val < 8224 ∧ b + y1.val < 512) by omega)]

set_option maxHeartbeats 2000000 in
theorem point (p : Fin 512) (q : Fin 256) : outsAt0 m c t (ix2 p q)
    = conv (m ((c : Thread nD τ).loc main_arg0)) (m ((c : Thread nD τ).loc main_arg1)) (m ((c : Thread nD τ).loc main_arg2)) (a + p.val) (b + q.val) := by
  unfold outsAt0
  frame_out
  generalize hf : View.readCov (Val := Elt Idealize.ShloMosaic.Ideal) (View.whole cc0_scratch1) _ = f
  have hT : ∀ (k r : ℕ) (inb) (p : Fin 64) (q : Fin 256) (hk : k < 8) (hr : r + 64 ≤ 536 + 8 * (1 - k)),
      f (Rect.unit (s := S8x544x256) ![k, r, 0] ![1, 64, 256] inb).toLoadRect (ix3 0 p q)
        = hp (m ((c : Thread nD τ).loc main_arg0)) (a + (p.val + (r + k))) (b + q.val) := by
    subst hf
    refine fun k r inb p q hk hr => tap (S := fun r l => hp (m ((c : Thread nD τ).loc main_arg0)) (a + r) (b + l)) ?_ k r hk hr inb p q
    have hs := src (m := m) (c := c) t ha hb _ rfl
    repeat' first | exact .nil | refine .cons (good (hs _ _) (by first | rfl | omega) (by first | omega | decide) _) ?_
  clear hf
  have hW := fun j h l => blk4 (m := m) (c := c) t ha hb j h l
  have hB := fun l => blk5 (m := m) (c := c) t ha hb l
  repeat' first
    | (intros; exfalso; omega)
    | refine rows_step (fun x hx => ?_) fun _ => ?_
      rw [hx]
      pointwise [
        k0_pay1, k0_pay76, k0_pay77, k0_pay78, k0_pay79, k0_pay80, k0_pay81, k0_pay82, k0_pay83, k0_pay84, k0_pay85, k0_pay86, k0_pay87, k0_pay88,
        k0_pay89, k0_pay90, k0_pay91, k0_pay92, k0_pay93, k0_pay94, k0_pay95, k0_pay96, k0_pay97, k0_pay98, k0_pay99, k0_pay100, k0_pay101, k0_pay102,
        k0_pay103, k0_pay104, k0_pay105, k0_pay106, k0_pay107, k0_pay108, k0_pay109, k0_pay110, k0_pay111, k0_pay112, k0_pay113, k0_pay114, k0_pay115,
        k0_pay116, k0_pay117, k0_pay118, k0_pay119, k0_pay120, k0_pay121, k0_pay122, k0_pay123, k0_pay124, k0_pay125, k0_pay126, k0_pay127, k0_pay128,
        k0_pay129, k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153, k0_pay154,
        k0_pay155, k0_pay156, k0_pay157, k0_pay158, k0_pay159, k0_pay160, k0_pay161, k0_pay162, k0_pay163, k0_pay164, k0_pay165, k0_pay166, k0_pay167,
        k0_pay168, k0_pay169, k0_pay170, k0_pay171, k0_pay172, k0_pay173, k0_pay174, k0_pay175, k0_pay176, k0_pay177, k0_pay178, k0_pay179, k0_pay180]
      simp only [hT, hW, hB, conv, acc, zero_add, Fin.isValue, Fin.coe_ofNat_eq_mod, Nat.reduceMod, Nat.reduceSub, Nat.add_assoc, Nat.reduceAdd,
        Nat.reduceMul, Nat.reduceLT, Nat.reduceLeDiff]

omit ha hb in
/-- The kernel's result array after the run. -/
theorem final : (dats m 0 c).arrAt 6 cfg0.N
    = convArr (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  idx_vars y
  have hN := lt32 t
  have e : ((cfg0.win 6).blk t).view.emb (ix2 y0 y1) = ix2 ⟨t.val / 2 * 512 + y0.val, by omega⟩ ⟨t.val % 2 * 256 + y1.val, by omega⟩ := by
    blk_ext [idx t]
  rw [e]
  exact point t rfl rfl y0 y1

end Cert.ConvfKernelIdeal.RefValue

end
-- ==== Proof.ConvfClaim.lean ====
/-
  The gated causal convolution, forwards: the plain lines leave the array that the call leaves, on any arguments.
-/
module

public import proofs.«01_k».proof.Proof.ConvfValue
public import proofs.«01_k».proof.Proof.Gen.ConvfReferenceIdeal.Read
public import proofs.«01_k».proof.Proof.Gen.ConvfKernelIdeal
public import proofs.«01_k».proof.Proof.Gen.ConvfReferenceIdeal
public import proofs.«01_k».proof.Defs

@[expose] public section

set_option maxRecDepth 16384

noncomputable section

open Idealize.ShloMosaic Idealize.ShloMosaic.TcCoe Idealize.SL.Sem

namespace Cert.ConvfKernelIdeal.RefValue

open Cert.ConvfReferenceIdeal.Read

/-- The gated branch of the plain lines, 30 rows of zeros before it. -/
theorem hp_at (z : FVec Ideal S8192x1792 .f32) (r : Fin 8222) (l : Fin 512) : val_main_v10 (F := Ideal) z (ix2 r l) = hp z (r.val + 2) l.val := by
  pointwise [val_main_v10, val_main_v9, val_main_cst_1, val_main_v8, val_main_v7, val_main_v6, val_main_cst_0, val_main_v5, val_main_v4,
    val_main_cst, val_main_v3, val_main_v2, val_main_v1, val_main_v0]
  by_cases h : r.val < 30
  · rw [hp, dif_neg (show ¬(32 ≤ r.val + 2 ∧ r.val + 2 < 8224 ∧ l.val < 512) by omega)]
    simp only [h, ↓reduceDIte]
  · rw [hp, dif_pos (show 32 ≤ r.val + 2 ∧ r.val + 2 < 8224 ∧ l.val < 512 by omega)]
    simp only [h, ↓reduceDIte, Ideal.logistic, show r.val + 2 - 32 = r.val - 30 by omega]

/-- A tap of the plain lines. -/
theorem tw_at (w : FVec Ideal S31x512 .f32) (j : Fin 31) (l : Fin 512) : w (ix2 j l) = tw w j.val l.val := by
  rw [tw, dif_pos (show j.val < 31 ∧ l.val < 512 from ⟨j.isLt, l.isLt⟩)]

set_option maxHeartbeats 2000000 in
theorem ref_eq (z : FVec Ideal S8192x1792 .f32) (w : FVec Ideal S31x512 .f32) (b : FVec Ideal S512 .f32) :
    val_main_v231 (F := Ideal) z w b = convArr z w b := by
  funext i
  idx_vars i
  show _ = conv z w b i0.val i1.val
  rw [conv, ← acc_start, bs, dif_pos (show i1.val < 512 from i1.isLt)]
  pointwise [
    val_main_v11, val_main_v12, val_main_v13, val_main_v14, val_main_v15, val_main_v16, val_main_cst_2, val_main_v17, val_main_v18, val_main_v19,
    val_main_v20, val_main_v21, val_main_v22, val_main_v23, val_main_v24, val_main_v25, val_main_v26, val_main_v27, val_main_v28, val_main_v29,
    val_main_v30, val_main_v31, val_main_v32, val_main_v33, val_main_v34, val_main_v35, val_main_v36, val_main_v37, val_main_v38, val_main_v39,
    val_main_v40, val_main_v41, val_main_v42, val_main_v43, val_main_v44, val_main_v45, val_main_v46, val_main_v47, val_main_v48, val_main_v49,
    val_main_v50, val_main_v51, val_main_v52, val_main_v53, val_main_v54, val_main_v55, val_main_v56, val_main_v57, val_main_v58, val_main_v59,
    val_main_v60, val_main_v61, val_main_v62, val_main_v63, val_main_v64, val_main_v65, val_main_v66, val_main_v67, val_main_v68, val_main_v69,
    val_main_v70, val_main_v71, val_main_v72, val_main_v73, val_main_v74, val_main_v75, val_main_v76, val_main_v77, val_main_v78, val_main_v79,
    val_main_v80, val_main_v81, val_main_v82, val_main_v83, val_main_v84, val_main_v85, val_main_v86, val_main_v87, val_main_v88, val_main_v89,
    val_main_v90, val_main_v91, val_main_v92, val_main_v93, val_main_v94, val_main_v95, val_main_v96, val_main_v97, val_main_v98, val_main_v99,
    val_main_v100, val_main_v101, val_main_v102, val_main_v103, val_main_v104, val_main_v105, val_main_v106, val_main_v107, val_main_v108,
    val_main_v109, val_main_v110, val_main_v111, val_main_v112, val_main_v113, val_main_v114, val_main_v115, val_main_v116, val_main_v117,
    val_main_v118, val_main_v119, val_main_v120, val_main_v121, val_main_v122, val_main_v123, val_main_v124, val_main_v125, val_main_v126,
    val_main_v127, val_main_v128, val_main_v129, val_main_v130, val_main_v131, val_main_v132, val_main_v133, val_main_v134, val_main_v135,
    val_main_v136, val_main_v137, val_main_v138, val_main_v139, val_main_v140, val_main_v141, val_main_v142, val_main_v143, val_main_v144,
    val_main_v145, val_main_v146, val_main_v147, val_main_v148, val_main_v149, val_main_v150, val_main_v151, val_main_v152, val_main_v153,
    val_main_v154, val_main_v155, val_main_v156, val_main_v157, val_main_v158, val_main_v159, val_main_v160, val_main_v161, val_main_v162,
    val_main_v163, val_main_v164, val_main_v165, val_main_v166, val_main_v167, val_main_v168, val_main_v169, val_main_v170, val_main_v171,
    val_main_v172, val_main_v173, val_main_v174, val_main_v175, val_main_v176, val_main_v177, val_main_v178, val_main_v179, val_main_v180,
    val_main_v181, val_main_v182, val_main_v183, val_main_v184, val_main_v185, val_main_v186, val_main_v187, val_main_v188, val_main_v189,
    val_main_v190, val_main_v191, val_main_v192, val_main_v193, val_main_v194, val_main_v195, val_main_v196, val_main_v197, val_main_v198,
    val_main_v199, val_main_v200, val_main_v201, val_main_v202, val_main_v203, val_main_v204, val_main_v205, val_main_v206, val_main_v207,
    val_main_v208, val_main_v209, val_main_v210, val_main_v211, val_main_v212, val_main_v213, val_main_v214, val_main_v215, val_main_v216,
    val_main_v217, val_main_v218, val_main_v219, val_main_v220, val_main_v221, val_main_v222, val_main_v223, val_main_v224, val_main_v225,
    val_main_v226, val_main_v227, val_main_v228, val_main_v229, val_main_v230, val_main_v231]
  simp only [hp_at, tw_at, acc, zero_add, Fin.isValue, Fin.coe_ofNat_eq_mod, Nat.reduceMod, Nat.add_assoc, Nat.reduceAdd]
  simp only [Nat.add_comm, Nat.add_left_comm]

theorem frame_ref : Cert.quiescent_ConvfReferenceIdeal := fun m ρ _ =>
  (θ_run Cert.ConvfReferenceIdeal.defs _ _).mono
    (fun r h => ⟨fun c => (h c).2, sem_eq_zero_of_no_sems (by decide) r.2⟩)
    (Cert.ConvfReferenceIdeal.Value.run (F := Ideal) m ρ)

/-- On any arrays the kernel leaves the convolution's rows, and so do the plain lines. -/
theorem algebraic : Cert.algebraic_ConvfKernelIdeal_ConvfReferenceIdeal := by
  intro m ρ m' ρ' hpre hag
  refine ⟨fun c => convArr (m ((c : Thread nD τ).loc main_arg0)) (m ((c : Thread nD τ).loc main_arg1))
    (m ((c : Thread nD τ).loc main_arg2)), ?_, ?_⟩
  · exact (θ_run Cert.ConvfKernelIdeal.defs _ _).mono (fun _ h c => ⟨(h c).1.trans final, (h c).2⟩)
      (Cert.ConvfKernelIdeal.Value.run_blocks (F := Ideal) m ρ)
  · refine (θ_run Cert.ConvfReferenceIdeal.defs _ _).mono (fun _ h c => ⟨(h c).1.trans ?_, (h c).2⟩)
      (Cert.ConvfReferenceIdeal.Value.run (F := Ideal) m' ρ')
    refine (Cert.ConvfReferenceIdeal.Read.val_main_v231_eq _).trans ?_
    show val_main_v231 (F := Ideal) (m' ((c : Thread nD τ).loc Cert.ConvfReferenceIdeal.main_arg0)) (m' ((c : Thread nD τ).loc Cert.ConvfReferenceIdeal.main_arg1)) (m' ((c : Thread nD τ).loc Cert.ConvfReferenceIdeal.main_arg2)) = _
    rw [(hag c).1, (hag c).2.1, (hag c).2.2]
    exact ref_eq _ _ _

end Cert.ConvfKernelIdeal.RefValue

end
-- ==== Proof.BucketValue.lean ====
/-
  The sum of the band's bias gradient over the buckets of the relative positions: what the call leaves, a sum over the
  block's 128 x 128 pairs of those that lie in the bucket.
-/
module

public import proofs.«01_k».proof.Proof.Gen.BucketKernelIdeal.Value
public import proofs.«01_k».proof.Proof.Reals
public import Idealize.ShloMosaic.Lib.Pipeline.ValueKit
public import Idealize.ShloMosaic.Lib.Pointwise
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.BucketKernelIdeal.RefValue

open Cert.BucketKernelIdeal Cert.BucketKernelIdeal.Gen

/-- How far query `q` of a block lies behind key `j` of its band. -/
def dist (q j : Nat) : BitVec 32 :=
  Scalar.select (IntOp.cmpi .sle (BitVec.ofNat 32 j) (BitVec.ofNat 32 q))
    (IntOp.subi (BitVec.ofNat 32 q) (BitVec.ofNat 32 j))
    (IntOp.subi (IntOp.addi (BitVec.ofNat 32 q) 128#32) (BitVec.ofNat 32 j))

/-- The bucket of a pair: the number of steps that its distance reaches. -/
def bucket (q j : Nat) : BitVec 32 :=
  Finset.fold IntOp.addi 0#32 (fun x : Fin 31 => BitVec.setWidth 32 (IntOp.cmpi .sge (dist q j) (lit0 (S31.rowMajor (ix1 x))))) Finset.univ

/-- A count of conditions is at most their number. -/
theorem count_le {n : Nat} (f : Fin n → BitVec 1) (hn : n < 2 ^ 32) (s : Finset (Fin n)) :
    (Finset.fold IntOp.addi 0#32 (fun x => BitVec.setWidth 32 (f x)) s).toNat ≤ s.card := by
  classical
  induction s using Finset.induction_on with
  | empty => simp
  | insert a s ha ih =>
    rw [Finset.fold_insert ha, Finset.card_insert_of_notMem ha]
    have h1 : (BitVec.setWidth 32 (f a)).toNat ≤ 1 := by
      have := (f a).isLt
      rw [BitVec.toNat_setWidth]
      omega
    have h2 : (IntOp.addi (BitVec.setWidth 32 (f a)) (Finset.fold IntOp.addi 0#32 (fun x => BitVec.setWidth 32 (f x)) s)).toNat
        ≤ (BitVec.setWidth 32 (f a)).toNat + (Finset.fold IntOp.addi 0#32 (fun x => BitVec.setWidth 32 (f x)) s).toNat := by
      show (_ + _ : BitVec 32).toNat ≤ _
      rw [BitVec.toNat_add]
      exact Nat.mod_le _ _
    omega

theorem bucket_le (q j : Nat) : (bucket q j).toNat ≤ 31 := count_le _ (by norm_num) Finset.univ

/-- One where a pair lies in a bucket, nothing elsewhere. -/
def mark (q j k : Nat) : EReal := if (bucket q j).toNat = k then 1 else 0

/-- The block's pair at row-major position `n`, and what the bias gradient of head `h` puts into bucket `k`. -/
def total (d : FVec Ideal S8x128x128 .f32) (h : Fin 8) (k : Nat) : EReal :=
  ∑ n : Fin 16384, if (bucket (n.val / 128) (n.val % 128)).toNat = k
    then d (ix3 h ⟨n.val / 128, by omega⟩ ⟨n.val % 128, by omega⟩) else 0

/-- The whole result array. -/
def outArr (d : FVec Ideal S8x128x128 .f32) : FVec Ideal S8x128 .f32 := fun i => total d (i 0) (i 1).val

variable {m : (ℓ : Loc nD τ sig) → Buf (Elt Ideal) ℓ} {c : Dev nD}

/-- The table the host makes: one where the pair lies in the bucket. -/
theorem onehot (k : Fin 128) (n : Fin 16384) :
    StableHlo.after [hostOps0, hostOps0_1, hostOps0_2].flatten (fun b => m (c, b)) (Proc.tc.devRef main_v30) (ix2 k n)
      = mark (n.val / 128) (n.val % 128) k.val := by
  have e : StableHlo.after [hostOps0, hostOps0_1, hostOps0_2].flatten (fun b => m (c, b)) (Proc.tc.devRef main_v30) (ix2 k n)
      = FloatOps.uitofp (F := Ideal) FTy.f32 (IntOp.cmpi .eq (BitVec.ofNat 32 k.val) (bucket (n.val / 128) (n.val % 128))) := by
    after_reads_at
    rfl
  have hb := bucket_le (n.val / 128) (n.val % 128)
  have hk := k.isLt
  rw [e, mark]
  by_cases h : (bucket (n.val / 128) (n.val % 128)).toNat = k.val
  · have : BitVec.ofNat 32 k.val = bucket (n.val / 128) (n.val % 128) := BitVec.eq_of_toNat_eq (by simp; omega)
    rw [if_pos h, this]
    simp [IntOp.cmpi, FloatOps.uitofp]
  · have : ¬ BitVec.ofNat 32 k.val = bucket (n.val / 128) (n.val % 128) := fun e => h (by rw [← e]; simp; omega)
    rw [if_neg h]
    simp [IntOp.cmpi, FloatOps.uitofp, beq_eq_false_iff_ne.2 this]

theorem flat (h : Fin 8) (n : Fin 16384) :
    StableHlo.after [hostOps0, hostOps0_1, hostOps0_2].flatten (fun b => m (c, b)) (Proc.tc.devRef main_v31) (ix2 h n)
      = m ((c : Thread nD τ).loc main_arg0) (ix3 h ⟨n.val / 128, by omega⟩ ⟨n.val % 128, by omega⟩) := by
  after_reads_at

theorem idx : ∀ t : Fin cfg0.N, win0_0.index t = ![0, 0] ∧ win0_1.index t = ![0, 0] ∧ win0_2.index t = ![0, 0] :=
  (by decide +kernel : ∀ t : Fin grid0.N, _)

variable (t : Fin cfg0.N)

theorem blk0 (h : Fin 8) (n : Fin 16384) : iblk m c 0 t (ix2 h n)
    = m ((c : Thread nD τ).loc main_arg0) (ix3 h ⟨n.val / 128, by omega⟩ ⟨n.val % 128, by omega⟩) := by
  refine Eq.trans ?_ (flat h n)
  blk_point [iblk, V, idx t]
theorem blk1 (k : Fin 128) (n : Fin 16384) : iblk m c 1 t (ix2 k n)
    = mark (n.val / 128) (n.val % 128) k.val := by
  refine Eq.trans ?_ (onehot (m := m) (c := c) k n)
  blk_point [iblk, V, idx t]

/-- A block of the result: the parts a number is split in are the number, nothing and nothing. -/
theorem block (d : FVec Ideal S8x16384 .f32) (o : FVec Ideal S128x16384 .bf16) (h : Fin 8) (k : Fin 128)
    (f : Fin 16384 → ℝ) (hf : ∀ n, d (ix2 h n) = (f n : EReal)) :
    out0_2 (F := Ideal) d o (ix2 h k) = ∑ n, (f n : EReal) * o (ix2 k n) := by
  frame_out
  pointwise [k0_pay1]
  simp only [hf, ← EReal.coe_sub, sub_self, EReal.coe_zero, sub_zero, zero_mul, Finset.sum_const_zero, zero_add, add_zero]

theorem point (f : S8x128x128.Idx → ℝ) (hf : ∀ i, m ((c : Thread nD τ).loc main_arg0) i = (f i : EReal)) (y) :
    out0_2 (iblk m c 0 t) (iblk m c 1 t) y
      = outArr (m ((c : Thread nD τ).loc main_arg0)) (((cfg0.win 2).blk t).view.emb y) := by
  idx_vars y
  have e : ((cfg0.win 2).blk t).view.emb (ix2 y0 y1) = ix2 y0 y1 := by blk_ext [idx t]
  rw [e]
  refine (block _ _ y0 y1 _ fun n => (blk0 t y0 n).trans (hf _)).trans ?_
  simp only [blk1 t, outArr, total, mark, mul_ite, mul_one, mul_zero]
  exact Finset.sum_congr rfl fun n _ => by rw [← hf]; rfl

/-- The kernel's result array after the run. -/
theorem final (f : S8x128x128.Idx → ℝ) (hf : ∀ i, m ((c : Thread nD τ).loc main_arg0) i = (f i : EReal)) :
    (dats m 0 c).arrAt 2 cfg0.N = outArr (m ((c : Thread nD τ).loc main_arg0)) := by
  refine (dats m 0 c).arrAt_eq_of_covers 2 _ (by decide +kernel) fun t _ y => ?_
  blk_simp
  rw [after0_2]
  exact point t f hf y

end Cert.BucketKernelIdeal.RefValue

end
-- ==== Proof.BucketRef.lean ====
/-
  The derivative of the bias table's lookup, read index by index: the scatter adds the gradient of a pair to the row of its
  bucket, so that a row holds the sum over the pairs of that bucket.
-/
module

public import proofs.«01_k».proof.Proof.BucketValue
public import proofs.«01_k».proof.Proof.Gen.BucketReferenceIdeal.Run
public import Idealize.ShloMosaic.Lib.Routing.OpsPair

@[expose] public section

set_option maxRecDepth 16384

noncomputable section

open Idealize.ShloMosaic Idealize.ShloMosaic.TcCoe Idealize.SL.Sem

namespace Cert.BucketKernelIdeal.RefValue

open Cert.BucketReferenceIdeal (S32x8 S128x128x1 S128x128x8 scatter_S32x8_S128x128x1_S128x128x8_2_0_0_2)

/-- An update lands in the row that its index word names, in its own column. -/
theorem lands (q j : Fin 128) (h h' : Fin 8) (k : Fin 32) (idx : IVec S128x128x1 32) :
    scatter_S32x8_S128x128x1_S128x128x8_2_0_0_2.resultIdx? (ix3 q j h') idx = some (ix2 k h)
      ↔ (idx (ix3 q j 0)).toInt = k.val ∧ h' = h := by
  refine (Routing.resultIdx?_ix2 _ _ _ _ _).trans ?_
  have e0 : scatter_S32x8_S128x128x1_S128x128x8_2_0_0_2.start (ix3 q j h') idx 0 = (idx (ix3 q j 0)).toInt := by
    refine congrArg (fun i => (idx i).toInt) ?_
    funext a
    fin_cases a <;> rfl
  have e1 : scatter_S32x8_S128x128x1_S128x128x8_2_0_0_2.start (ix3 q j h') idx 1 = 0 := rfl
  have w0 : scatter_S32x8_S128x128x1_S128x128x8_2_0_0_2.window (ix3 q j h') 0 = 0 := rfl
  have w1 : scatter_S32x8_S128x128x1_S128x128x8_2_0_0_2.window (ix3 q j h') 1 = h'.val := rfl
  rw [e0, e1, w0, w1]
  simp [Fin.ext_iff]

/-- A scatter adds to an entry the updates that land there. -/
theorem scatter_sum (x : FVec Ideal S32x8 .f32) (idx : IVec S128x128x1 32) (u : FVec Ideal S128x128x8 .f32) (i : S32x8.Idx) :
    Host.scatterAdd (F := Ideal) scatter_S32x8_S128x128x1_S128x128x8_2_0_0_2 x idx u i = x i + ∑ v ∈ Finset.univ.filter
      (fun v => scatter_S32x8_S128x128x1_S128x128x8_2_0_0_2.resultIdx? v idx = some i), u v := rfl

/-- The updates of one head whose pair has a property, summed over the pairs by row-major position. -/
theorem sum_pairs (P : S128x128x8.Idx → Prop) [DecidablePred P] (b : Nat → Nat → Prop) [∀ q j, Decidable (b q j)] (h : Fin 8)
    (hP : ∀ (q j : Fin 128) (h' : Fin 8), P (ix3 q j h') ↔ b q.val j.val ∧ h' = h) (u : S128x128x8.Idx → EReal) :
    ∑ v ∈ Finset.univ.filter P, u v = ∑ n : Fin 16384, if b (n.val / 128) (n.val % 128)
      then u (ix3 ⟨n.val / 128, by omega⟩ ⟨n.val % 128, by omega⟩ h) else 0 := by
  have at_pos : ∀ n : Fin 16384, P (ix3 ⟨n.val / 128, by omega⟩ ⟨n.val % 128, by omega⟩ h) ↔ b (n.val / 128) (n.val % 128) :=
    fun n => (hP _ _ _).trans (and_iff_left rfl)
  rw [← Finset.sum_filter]
  symm
  refine Finset.sum_bij (fun n _ => ix3 ⟨n.val / 128, by omega⟩ ⟨n.val % 128, by omega⟩ h) ?_ ?_ ?_ ?_
  · intro n hn
    rw [Finset.mem_filter] at hn ⊢
    exact ⟨Finset.mem_univ _, (at_pos n).2 hn.2⟩
  · intro n _ n' _ e
    have e0 : n.val / 128 = n'.val / 128 := congrArg Fin.val (congrFun e 0)
    have e1 : n.val % 128 = n'.val % 128 := congrArg Fin.val (congrFun e 1)
    exact Fin.ext (by omega)
  · intro v hv
    rw [Finset.mem_filter] at hv
    have hv := hv.2
    idx_vars v
    obtain ⟨hb, rfl⟩ := (hP v0 v1 v2).1 hv
    have e0 : (v0.val * 128 + v1.val) / 128 = v0.val := by omega
    have e1 : (v0.val * 128 + v1.val) % 128 = v1.val := by omega
    refine ⟨⟨v0.val * 128 + v1.val, by omega⟩, ?_, ?_⟩
    · rw [Finset.mem_filter]
      refine ⟨Finset.mem_univ _, ?_⟩
      show b ((v0.val * 128 + v1.val) / 128) ((v0.val * 128 + v1.val) % 128)
      rw [e0, e1]
      exact hb
    · exact congrArg₂ (fun a b => ix3 a b v2) (Fin.ext e0) (Fin.ext e1)
  · intro n _
    rfl

theorem small_word {w : BitVec 32} (hw : w.toNat ≤ 31) (k : Nat) : w.toInt = (k : Int) ↔ w.toNat = k := by
  rw [BitVec.toInt_eq_toNat_of_lt (by omega)]
  omega

/-- The scatter by the buckets, as such a sum. -/
theorem scattered (x : FVec Ideal S32x8 .f32) (idx : IVec S128x128x1 32) (u : FVec Ideal S128x128x8 .f32) (k : Fin 32) (h : Fin 8)
    (hi : ∀ q j : Fin 128, idx (ix3 q j 0) = bucket q.val j.val) :
    Host.scatterAdd (F := Ideal) scatter_S32x8_S128x128x1_S128x128x8_2_0_0_2 x idx u (ix2 k h)
      = x (ix2 k h) + ∑ n : Fin 16384, if (bucket (n.val / 128) (n.val % 128)).toNat = k.val
          then u (ix3 ⟨n.val / 128, by omega⟩ ⟨n.val % 128, by omega⟩ h) else 0 := by
  rw [scatter_sum]
  refine congrArg (x (ix2 k h) + ·) (sum_pairs _ (fun q j => (bucket q j).toNat = k.val) h (fun q j h' => ?_) u)
  rw [lands, hi, small_word (bucket_le q.val j.val)]

/-- The plain lines' result. -/
theorem ref_eq (m : (ℓ : Loc Cert.BucketReferenceIdeal.nD Cert.BucketReferenceIdeal.τ Cert.BucketReferenceIdeal.sig) → Buf (Elt Ideal) ℓ)
    (c : Dev Cert.BucketReferenceIdeal.nD) :
    Cert.BucketReferenceIdeal.Value.res_main_v36 m c
      = outArr (m ((c : Thread Cert.BucketReferenceIdeal.nD Cert.BucketReferenceIdeal.τ).loc Cert.BucketReferenceIdeal.main_arg0)) := by
  funext i
  idx_vars i
  show _ = total _ i0 i1.val
  unfold Cert.BucketReferenceIdeal.Value.res_main_v36
  pointwise []
  split
  · rename_i h
    refine (scattered _ _ _ ⟨i1.val, by omega⟩ i0 fun q j => ?_).trans ?_
    · pointwise []
      exact Routing.wrap_of_lt (bucket q.val j.val) _ (by have := bucket_le q.val j.val; omega)
    · rw [total]
      pointwise []
  · rename_i h
    rw [total, Finset.sum_eq_zero fun n _ => if_neg (by have := bucket_le (n.val / 128) (n.val % 128); omega)]
    simp [FloatOps.sitofp]

end Cert.BucketKernelIdeal.RefValue

end
-- ==== Proof.BucketClaim.lean ====
/-
  The claims about the sum of the band's bias gradient over the buckets.
-/
module

public import proofs.«01_k».proof.Defs
public import proofs.«01_k».proof.Proof.BucketRef
public import proofs.«01_k».proof.Proof.Gen.BucketKernelIdeal
public import proofs.«01_k».proof.Proof.Gen.BucketReferenceIdeal
public import proofs.«01_k».proof.Proof.Gen.Pre_finite_bucket

@[expose] public section

set_option maxRecDepth 16384

noncomputable section

open Idealize.ShloMosaic Idealize.ShloMosaic.TcCoe Idealize.SL.Sem

namespace Cert.BucketKernelIdeal.RefValue

theorem frame_ref : Cert.quiescent_BucketReferenceIdeal := fun m ρ _ =>
  (θ_run Cert.BucketReferenceIdeal.defs _ _).mono
    (fun r h => ⟨fun c => (h c).2, sem_eq_zero_of_no_sems (by decide) r.2⟩)
    (Cert.BucketReferenceIdeal.Value.run (F := Ideal) m ρ)

/-- On a real gradient the kernel leaves the derivative of the bias table's lookup. -/
theorem algebraic : Cert.algebraic_BucketKernelIdeal_BucketReferenceIdeal_pre_finite_bucket := by
  intro m ρ m' ρ' hpre hag
  choose f hf using fun (c : Dev nD) i => Cert.Reals.of_abs_lt (congrFun (hpre c) i)
  refine ⟨fun c => outArr (m ((c : Thread nD τ).loc main_arg0)), ?_, ?_⟩
  · exact (θ_run Cert.BucketKernelIdeal.defs _ _).mono (fun _ h c => ⟨(h c).1.trans (final (f c) (hf c)), (h c).2⟩)
      (Cert.BucketKernelIdeal.Value.run_blocks (F := Ideal) m ρ)
  · refine (θ_run Cert.BucketReferenceIdeal.defs _ _).mono (fun _ h c => ⟨(h c).1.trans ?_, (h c).2⟩)
      (Cert.BucketReferenceIdeal.Value.run (F := Ideal) m' ρ')
    rw [ref_eq, hag c]

end Cert.BucketKernelIdeal.RefValue

end
-- ==== Proof.DownClaim.lean ====
/-
  The feed-forward's second product, with the squared ReLU in front and the residual behind: on any arguments the call leaves
  what the plain lines leave. The kernel adds the product a quarter of the channels at a time.
-/
module

public import proofs.«01_k».proof.Defs
public import proofs.«01_k».proof.Proof.Gen.DownKernelIdeal.Value
public import proofs.«01_k».proof.Proof.Gen.DownKernelIdeal
public import proofs.«01_k».proof.Proof.Gen.DownReferenceIdeal.Read
public import proofs.«01_k».proof.Proof.Gen.DownReferenceIdeal.Run
public import proofs.«01_k».proof.Proof.Gen.DownReferenceIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownKernelIdeal.RefValue

open Cert.DownKernelIdeal Cert.DownKernelIdeal.Gen Cert.DownReferenceIdeal.Read

/-- A squared positive part times a weight. -/
def term (u w : EReal) : EReal := max u 0 * max u 0 * w

/-- The whole result array. -/
def outArr (u : FVec Ideal S8192x4096 .f32) (w : FVec Ideal S4096x1024 .f32) (x : FVec Ideal S8192x1024 .f32) : FVec Ideal S8192x1024 .f32 :=
  fun i => x i + ∑ k : Fin 4096, term (u (ix2 (i 0) k)) (w (ix2 k (i 1)))

variable {m : (ℓ : Loc nD τ sig) → Buf (Elt Ideal) ℓ} {c : Dev nD}

theorem idx : ∀ t : Fin cfg0.N, win0_0.index t = ![t.val, 0] ∧ win0_1.index t = ![0, 0, 0, 0]
    ∧ win0_2.index t = ![t.val, 0] ∧ win0_3.index t = ![t.val, 0] :=
  (by decide +kernel : ∀ t : Fin grid0.N, _)

theorem lt16 (t : Fin cfg0.N) : t.val < 16 := lt_of_lt_of_eq t.isLt (show cfg0.N = 16 from N_0)

/-- The row of the arrays that row `r` of the block at point `t` is. -/
abbrev row (t : Fin cfg0.N) (r : Fin 512) : Fin 8192 := ⟨t.val * 512 + r.val, by have := lt16 t; omega⟩

variable (t : Fin cfg0.N)

theorem blk0 (r : Fin 512) (k : Fin 4096) : iblk m c 0 t (ix2 r k) = m ((c : Thread nD τ).loc main_arg0) (ix2 (row t r) k) := by
  blk_point [iblk, V, idx t]
theorem blk1 (a : Fin 4) (k q : Fin 1024) :
    iblk m c 1 t (ix4 a 0 k q) = m ((c : Thread nD τ).loc main_arg1) (ix2 ⟨a.val * 1024 + k.val, by omega⟩ q) := by
  blk_point [iblk, V, idx t]
theorem blk2 (r : Fin 512) (q : Fin 1024) : iblk m c 2 t (ix2 r q) = m ((c : Thread nD τ).loc main_arg2) (ix2 (row t r) q) := by
  blk_point [iblk, V, idx t]

/-- A sum over the channels, quarter by quarter. -/
theorem quarters (f : Fin 4096 → EReal) : ∑ k, f k
    = (∑ k : Fin 1024, f ⟨k.val, by omega⟩ + ∑ k : Fin 1024, f ⟨1024 + k.val, by omega⟩ + ∑ k : Fin 1024, f ⟨2048 + k.val, by omega⟩)
      + ∑ k : Fin 1024, f ⟨3072 + k.val, by omega⟩ := by
  rw [Fin.sum_univ_two_halves 3072 1024 rfl, Fin.sum_univ_two_halves 2048 1024 rfl, Fin.sum_univ_two_halves 1024 1024 rfl]

theorem point (y) : out0_3 (iblk m c 0 t) (iblk m c 1 t) (iblk m c 2 t) y
    = outArr (m ((c : Thread nD τ).loc main_arg0)) (m ((c : Thread nD τ).loc main_arg1)) (m ((c : Thread nD τ).loc main_arg2)) (((cfg0.win 3).blk t).view.emb y) := by
  idx_vars y
  have e : ((cfg0.win 3).blk t).view.emb (ix2 y0 y1) = ix2 (row t y0) y1 := by blk_ext [idx t]
  rw [e]
  frame_out
  unfold_payloads
  pointwise [outArr]
  simp only [blk0, blk1, blk2]
  rw [quarters]
  simp only [term, ← add_assoc]
  simp

/-- The kernel's result array after the run. -/
theorem final : (dats m 0 c).arrAt 3 cfg0.N = outArr (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point t y

theorem ref_eq (u : FVec Ideal S8192x4096 .f32) (w : FVec Ideal S4096x1024 .f32) (x : FVec Ideal S8192x1024 .f32) :
    val_main_v3 (F := Ideal) u w x = outArr u w x := by
  funext i
  idx_vars i
  pointwise [val_main_v3, val_main_v2, val_main_v1, val_main_v0, val_main_call0_v0, val_main_call0_cst, outArr, term]

theorem frame_ref : Cert.quiescent_DownReferenceIdeal := fun m ρ _ =>
  (θ_run Cert.DownReferenceIdeal.defs _ _).mono
    (fun r h => ⟨fun c => (h c).2, sem_eq_zero_of_no_sems (by decide) r.2⟩)
    (Cert.DownReferenceIdeal.Value.run (F := Ideal) m ρ)

/-- On any arrays the kernel leaves what the plain lines leave. -/
theorem algebraic : Cert.algebraic_DownKernelIdeal_DownReferenceIdeal := by
  intro m ρ m' ρ' hpre hag
  refine ⟨fun c => outArr (m ((c : Thread nD τ).loc main_arg0)) (m ((c : Thread nD τ).loc main_arg1)) (m ((c : Thread nD τ).loc main_arg2)), ?_, ?_⟩
  · exact (θ_run Cert.DownKernelIdeal.defs _ _).mono (fun _ h c => ⟨(h c).1.trans final, (h c).2⟩)
      (Cert.DownKernelIdeal.Value.run_blocks (F := Ideal) m ρ)
  · refine (θ_run Cert.DownReferenceIdeal.defs _ _).mono (fun _ h c => ⟨(h c).1.trans ?_, (h c).2⟩)
      (Cert.DownReferenceIdeal.Value.run (F := Ideal) m' ρ')
    refine (val_main_v3_eq _ _ _).trans ?_
    rw [(hag c).1, (hag c).2.1, (hag c).2.2]
    exact ref_eq _ _ _

end Cert.DownKernelIdeal.RefValue

end
-- ==== Proof.GDownClaim.lean ====
/-
  The gradient of the feed-forward's second weight, from the pre-activation and the cotangent: on any arguments the call leaves
  the derivative of the plain lines. The kernel adds the product a quarter of the tokens at a time.
-/
module

public import proofs.«01_k».proof.Defs
public import proofs.«01_k».proof.Proof.Gen.GDownKernelIdeal.Value
public import proofs.«01_k».proof.Proof.Gen.GDownKernelIdeal
public import proofs.«01_k».proof.Proof.Gen.GDownReferenceIdeal.Read
public import proofs.«01_k».proof.Proof.Gen.GDownReferenceIdeal.Run
public import proofs.«01_k».proof.Proof.Gen.GDownReferenceIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GDownKernelIdeal.RefValue

open Cert.GDownKernelIdeal Cert.GDownKernelIdeal.Gen Cert.GDownReferenceIdeal.Read

/-- A squared positive part times a cotangent: token `r`, channel `l`, column `q`. -/
def term (u : FVec Ideal S8192x4096 .f32) (g : FVec Ideal S8192x1024 .f32) (r l q : Nat) : EReal :=
  if h : r < 8192 ∧ l < 4096 ∧ q < 1024 then
    max (u (ix2 ⟨r, h.1⟩ ⟨l, h.2.1⟩)) 0 * max (u (ix2 ⟨r, h.1⟩ ⟨l, h.2.1⟩)) 0 * g (ix2 ⟨r, h.1⟩ ⟨q, h.2.2⟩) else 0

/-- The whole result array, one shard of the channels after the other. -/
def outArr (u : FVec Ideal S8192x4096 .f32) (g : FVec Ideal S8192x1024 .f32) : FVec Ideal S4x1x1024x1024 .f32 := fun i =>
  ∑ r : Fin 8192, term u g r.val ((i 0).val * 1024 + (i 2).val) (i 3).val

variable {m : (ℓ : Loc nD τ sig) → Buf (Elt Ideal) ℓ} {c : Dev nD}

theorem idx : ∀ t : Fin cfg0.N, win0_0.index t = ![t.val % 4, t.val / 4] ∧ win0_1.index t = ![t.val % 4, 0]
    ∧ win0_2.index t = ![t.val / 4, 0, 0, 0] :=
  (by decide +kernel : ∀ t : Fin grid0.N, _)

theorem lt16 (t : Fin cfg0.N) : t.val < 16 := lt_of_lt_of_eq t.isLt (show cfg0.N = 16 from N_0)

variable (t : Fin cfg0.N)

theorem blk0 (r : Fin 2048) (k : Fin 1024) : iblk m c 0 t (ix2 r k)
    = m ((c : Thread nD τ).loc main_arg0) (ix2 ⟨t.val % 4 * 2048 + r.val, by omega⟩ ⟨t.val / 4 * 1024 + k.val, by have := lt16 t; omega⟩) := by
  blk_point [iblk, V, idx t]
theorem blk1 (r : Fin 2048) (q : Fin 1024) : iblk m c 1 t (ix2 r q)
    = m ((c : Thread nD τ).loc main_arg1) (ix2 ⟨t.val % 4 * 2048 + r.val, by omega⟩ q) := by
  blk_point [iblk, V, idx t]

/-- What a point adds to an entry of its shard. -/
def part (u : FVec Ideal S8192x4096 .f32) (g : FVec Ideal S8192x1024 .f32) (a k : Nat) (y : S1x1x1024x1024.Idx) : EReal :=
  ∑ r : Fin 2048, term u g (k * 2048 + r.val) (a * 1024 + (y 2).val) (y 3).val

theorem prod_at (l q : Fin 1024) : k0_pay1 (F := Ideal) (iblk m c 0 t) (iblk m c 1 t) (ix2 l q)
    = part (m ((c : Thread nD τ).loc main_arg0)) (m ((c : Thread nD τ).loc main_arg1)) (t.val / 4) (t.val % 4) (ix4 0 0 l q) := by
  pointwise [k0_pay1, part]
  refine Finset.sum_congr rfl fun r _ => ?_
  have ht := lt16 t
  rw [term, dif_pos ⟨by omega, (by show t.val / 4 * 1024 + l.val < 4096; omega), (by show q.val < 1024; omega)⟩, blk0, blk1]
  try rfl

theorem step_A (h : t.val % 4 = 0) (y : S1x1x1024x1024.Idx) :
    outsAt0 m c t.val t.isLt y = 0 + part (m ((c : Thread nD τ).loc main_arg0)) (m ((c : Thread nD τ).loc main_arg1)) (t.val / 4) (t.val % 4) y := by
  idx_vars y
  rw [outsAt0_A m c t h (by omega)]
  frame_out
  pointwise [k0_pay2]
  rw [prod_at]
  try rfl

theorem step_B (h : ¬t.val % 4 = 0) (y : S1x1x1024x1024.Idx) : outsAt0 m c t.val t.isLt y
    = outsAt0 m c (t.val - 1) (Nat.lt_of_le_of_lt (Nat.sub_le _ _) t.isLt) y + part (m ((c : Thread nD τ).loc main_arg0)) (m ((c : Thread nD τ).loc main_arg1)) (t.val / 4) (t.val % 4) y := by
  rw [outsAt0_B m c t h (by omega)]
  frame_out
  generalize outsAt0 m c (t.val - 1) _ = z
  idx_vars y
  pointwise [k0_pay3]
  rw [prod_at, add_comm, Subsingleton.elim y0 0, Subsingleton.elim y1 0]

/-- The block goes back after a shard's last tokens. -/
theorem last2 : ∀ t : Fin cfg0.N, (cfg0.win 2).flush t = true → t.val % 4 = 3 :=
  (by decide +kernel : ∀ t : Fin grid0.N, _)

/-- The four parts of an entry. -/
theorem parts (u : FVec Ideal S8192x4096 .f32) (g : FVec Ideal S8192x1024 .f32) (a : Nat) (y : S1x1x1024x1024.Idx) :
    ∑ k ∈ Finset.range 4, part u g a k y = ∑ r : Fin 8192, term u g r.val (a * 1024 + (y 2).val) (y 3).val := by
  rw [Finset.sum_range]
  exact Fin.sum_mul_add_congr fun k r h => rfl

/-- The kernel's result array after the run. -/
theorem final : (dats m 0 c).arrAt 2 cfg0.N = outArr (m ((c : Thread nD τ).loc main_arg0)) (m ((c : Thread nD τ).loc main_arg1)) := by
  refine (dats m 0 c).arrAt_eq_of_covers 2 _ (by decide +kernel) fun t hf y => ?_
  have hN := lt16 t
  have hl := last2 t hf
  blk_simp
  rw [after0_2]
  idx_vars y
  have e : ((cfg0.win 2).blk t).view.emb (ix4 y0 y1 y2 y3) = ix4 ⟨t.val / 4, by omega⟩ 0 y2 y3 := by blk_ext [idx t]
  rw [e]
  refine (Pipeline.eq_sum_of_reset_step_apply_divmod (fun n h => outsAt0 m c n h) 4 (fun _ => 0)
    (fun a k y => part (m ((c : Thread nD τ).loc main_arg0)) (m ((c : Thread nD τ).loc main_arg1)) a k y) (fun t h y => ?_) (fun t h y => ?_) t (ix4 y0 y1 y2 y3)).trans ?_
  · exact step_A t h y
  · exact step_B t h y
  · rw [hl, zero_add, parts]
    rfl

theorem ref_eq (u : FVec Ideal S8192x4096 .f32) (g : FVec Ideal S8192x1024 .f32) : val_main_v6 (F := Ideal) u g = outArr u g := by
  funext i
  idx_vars i
  pointwise [val_main_v6, val_main_v5, val_main_v4, val_main_v2, val_main_v1, val_main_call0_v0, val_main_call0_cst, outArr]
  refine Finset.sum_congr rfl fun r _ => ?_
  rw [term, dif_pos ⟨r.isLt, (by show i0.val * 1024 + i2.val < 4096; omega), (by show i3.val < 1024; omega)⟩, mul_comm]
  try rfl

theorem frame_ref : Cert.quiescent_GDownReferenceIdeal := fun m ρ _ =>
  (θ_run Cert.GDownReferenceIdeal.defs _ _).mono
    (fun r h => ⟨fun c => (h c).2, sem_eq_zero_of_no_sems (by decide) r.2⟩)
    (Cert.GDownReferenceIdeal.Value.run (F := Ideal) m ρ)

/-- On any arrays the kernel leaves the derivative of the plain lines. -/
theorem algebraic : Cert.algebraic_GDownKernelIdeal_GDownReferenceIdeal := by
  intro m ρ m' ρ' hpre hag
  refine ⟨fun c => outArr (m ((c : Thread nD τ).loc main_arg0)) (m ((c : Thread nD τ).loc main_arg1)), ?_, ?_⟩
  · exact (θ_run Cert.GDownKernelIdeal.defs _ _).mono (fun _ h c => ⟨(h c).1.trans final, (h c).2⟩)
      (Cert.GDownKernelIdeal.Value.run_blocks (F := Ideal) m ρ)
  · refine (θ_run Cert.GDownReferenceIdeal.defs _ _).mono (fun _ h c => ⟨(h c).1.trans ?_, (h c).2⟩)
      (Cert.GDownReferenceIdeal.Value.run (F := Ideal) m' ρ')
    refine (val_main_v6_eq _ _).trans ?_
    rw [(hag c).1, (hag c).2]
    exact ref_eq _ _

end Cert.GDownKernelIdeal.RefValue

end
-- ==== Proof.AdamwClaim.lean ====
/-
  The optimiser's step: the call leaves what the plain lines leave, on any arguments.
-/
module

public import proofs.«01_k».proof.Defs
public import proofs.«01_k».proof.Proof.Gen.AdamwKernelIdeal.Value
public import proofs.«01_k».proof.Proof.Gen.AdamwKernelIdeal
public import proofs.«01_k».proof.Proof.Gen.AdamwReferenceIdeal.Read
public import proofs.«01_k».proof.Proof.Gen.AdamwReferenceIdeal.Run
public import proofs.«01_k».proof.Proof.Gen.AdamwReferenceIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwKernelIdeal.RefValue

open Cert.AdamwKernelIdeal Cert.AdamwKernelIdeal.Gen Cert.AdamwReferenceIdeal.Read

theorem ref_m (g m : FVec Ideal S4096x1024 .f32) : val_main_v4 (F := Ideal) g m = Cert.AdamwKernelIdeal.Value.G5 (F := Ideal) g m := by
  funext i
  pointwise [val_main_v4, val_main_v3, val_main_v2, val_main_v1, val_main_v0, val_main_cst, val_main_cst_0]
  try rfl

theorem ref_v (g v : FVec Ideal S4096x1024 .f32) : val_main_v10 (F := Ideal) g v = Cert.AdamwKernelIdeal.Value.G6 (F := Ideal) g v := by
  funext i
  pointwise [val_main_v10, val_main_v9, val_main_v8, val_main_v7, val_main_v6, val_main_v5, val_main_cst_1, val_main_cst_2]
  try rfl

theorem ref_d (w g m v : FVec Ideal S4096x1024 .f32) :
    val_main_v23 (F := Ideal) w g m v = Cert.AdamwKernelIdeal.Value.G4 (F := Ideal) g m v w := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4,
    val_main_cst_5, val_main_cst_6, val_main_cst_7]
  try rfl

theorem frame_ref : Cert.quiescent_AdamwReferenceIdeal := fun m ρ _ =>
  (θ_run Cert.AdamwReferenceIdeal.defs _ _).mono
    (fun r h => ⟨fun c => (h c).2.2.2, sem_eq_zero_of_no_sems (by decide) r.2⟩)
    (Cert.AdamwReferenceIdeal.Value.run (F := Ideal) m ρ)

/-- On any arrays the kernel leaves the step and the two new moments of the plain lines. -/
theorem algebraic : Cert.algebraic_AdamwKernelIdeal_AdamwReferenceIdeal := by
  intro m ρ m' ρ' hpre hag
  refine ⟨fun c => Cert.AdamwKernelIdeal.Value.G4 (F := Ideal) (m ((c : Thread nD τ).loc main_arg1)) (m ((c : Thread nD τ).loc main_arg2)) (m ((c : Thread nD τ).loc main_arg3)) (m ((c : Thread nD τ).loc main_arg0)), fun c => Cert.AdamwKernelIdeal.Value.G5 (F := Ideal) (m ((c : Thread nD τ).loc main_arg1)) (m ((c : Thread nD τ).loc main_arg2)),
    fun c => Cert.AdamwKernelIdeal.Value.G6 (F := Ideal) (m ((c : Thread nD τ).loc main_arg1)) (m ((c : Thread nD τ).loc main_arg3)), Cert.AdamwKernelIdeal.Value.run (F := Ideal) m ρ, ?_⟩
  refine (θ_run Cert.AdamwReferenceIdeal.defs _ _).mono (fun _ h c => ⟨(h c).1.trans ?_, (h c).2.1.trans ?_, (h c).2.2.1.trans ?_, (h c).2.2.2⟩)
    (Cert.AdamwReferenceIdeal.Value.run (F := Ideal) m' ρ')
  · refine (val_main_v23_eq _ _ _ _).trans ?_
    rw [(hag c).1, (hag c).2.1, (hag c).2.2.1, (hag c).2.2.2]
    exact ref_d _ _ _ _
  · refine (val_main_v4_eq _ _).trans ?_
    rw [(hag c).2.1, (hag c).2.2.1]
    exact ref_m _ _
  · refine (val_main_v10_eq _ _).trans ?_
    rw [(hag c).2.1, (hag c).2.2.2]
    exact ref_v _ _

end Cert.AdamwKernelIdeal.RefValue

end
-- ==== Proof.lean ====
module

public import proofs.«01_k».proof.Defs
public import proofs.«01_k».proof.Proof.Gen.DactKernel.Frame
public import proofs.«01_k».proof.Proof.Gen.DactReferenceIdeal.Run
public import proofs.«01_k».proof.Proof.DactValue
public import proofs.«01_k».proof.Proof.Gen.MlpInKernel.Frame
public import proofs.«01_k».proof.Proof.MlpInClaim
public import proofs.«01_k».proof.Proof.Gen.MixInKernel.Frame
public import proofs.«01_k».proof.Proof.MixInClaim
public import proofs.«01_k».proof.Proof.AttnClaim
public import proofs.«01_k».proof.Proof.Gen.LossKernel.Frame
public import proofs.«01_k».proof.Proof.LossClaim
public import proofs.«01_k».proof.Proof.Gen.MixKernel.Frame
public import proofs.«01_k».proof.Proof.MixClaim
public import proofs.«01_k».proof.Proof.Gen.ConvKernel.Frame
public import proofs.«01_k».proof.Proof.ConvClaim
public import proofs.«01_k».proof.Proof.Gen.AttnfKernel.Frame
public import proofs.«01_k».proof.Proof.AttnfClaim
public import proofs.«01_k».proof.Proof.Gen.MixfKernel.Frame
public import proofs.«01_k».proof.Proof.MixfClaim
public import proofs.«01_k».proof.Proof.Gen.NormMmKernel.Frame
public import proofs.«01_k».proof.Proof.NormMmClaim
public import proofs.«01_k».proof.Proof.Gen.ConvfKernel.Frame
public import proofs.«01_k».proof.Proof.ConvfClaim
public import proofs.«01_k».proof.Proof.Gen.BucketKernel.Frame
public import proofs.«01_k».proof.Proof.BucketClaim
public import proofs.«01_k».proof.Proof.Gen.DownKernel.Frame
public import proofs.«01_k».proof.Proof.DownClaim
public import proofs.«01_k».proof.Proof.Gen.GDownKernel.Frame
public import proofs.«01_k».proof.Proof.GDownClaim
public import proofs.«01_k».proof.Proof.Gen.AdamwKernel.Frame
public import proofs.«01_k».proof.Proof.AdamwClaim
public import Idealize.ShloMosaic.Adequacy
public import Idealize.ShloMosaic.Lib.Quiescent

@[expose] public section

noncomputable section

namespace Cert.Proof

open Idealize.ShloMosaic Idealize.ShloMosaic.TcCoe Idealize.SL.Sem

theorem dact_frame_ref : Cert.quiescent_DactReferenceIdeal := fun m ρ _ =>
  (θ_run Cert.DactReferenceIdeal.defs _ _).mono (fun r h => ⟨fun c => (h c).2, sem_eq_zero_of_no_sems (by decide) r.2⟩)
    (Cert.DactReferenceIdeal.Value.run (F := Ideal) m ρ)

theorem dact_algebraic : Cert.algebraic_DactKernelIdeal_DactReferenceIdeal := by
  intro m ρ m' ρ' _ hag
  refine ⟨fun c => Cert.DactKernelIdeal.RefValue.gradArr (m ((c.tc : Thread _ _).loc Cert.DactKernelIdeal.main_arg0))
    (m ((c.tc : Thread _ _).loc Cert.DactKernelIdeal.main_arg1)) (m ((c.tc : Thread _ _).loc Cert.DactKernelIdeal.main_arg2)), ?_, ?_⟩
  · exact (θ_run Cert.DactKernelIdeal.defs _ _).mono
      (fun _ h c => ⟨(h c).1.trans (Cert.DactKernelIdeal.RefValue.final m c), (h c).2⟩)
      (Cert.DactKernelIdeal.Value.run_blocks (F := Ideal) m ρ)
  · refine (θ_run Cert.DactReferenceIdeal.defs _ _).mono (fun _ h c => ⟨(h c).1.trans ?_, (h c).2⟩)
      (Cert.DactReferenceIdeal.Value.run (F := Ideal) m' ρ')
    rw [(hag c).1, (hag c).2.1, (hag c).2.2]
    exact (Cert.DactReferenceIdeal.Read.val_main_v12_eq _ _ _).trans (Cert.DactKernelIdeal.RefValue.ref_eq _ _ _)

theorem claim : Cert.Claim :=
  ⟨Cert.DactKernel.Gen.facts, Cert.DactKernelIdeal.Gen.facts, Cert.DactReferenceIdeal.Gen.facts,
    Cert.MlpInKernel.Gen.facts, Cert.MlpInKernelIdeal.Gen.facts, Cert.MlpInReferenceIdeal.Gen.facts,
    Cert.MixInKernel.Gen.facts, Cert.MixInKernelIdeal.Gen.facts, Cert.MixInReferenceIdeal.Gen.facts,
    Cert.AttnKernel.Gen.facts, Cert.AttnKernelIdeal.Gen.facts, Cert.AttnReferenceIdeal.Gen.facts,
    Cert.LossKernel.Gen.facts, Cert.LossKernelIdeal.Gen.facts, Cert.LossReferenceIdeal.Gen.facts,
    Cert.MixKernel.Gen.facts, Cert.MixKernelIdeal.Gen.facts, Cert.MixReferenceIdeal.Gen.facts,
    Cert.ConvKernel.Gen.facts, Cert.ConvKernelIdeal.Gen.facts, Cert.ConvReferenceIdeal.Gen.facts,
    Cert.AttnfKernel.Gen.facts, Cert.AttnfKernelIdeal.Gen.facts, Cert.AttnfReferenceIdeal.Gen.facts,
    Cert.MixfKernel.Gen.facts, Cert.MixfKernelIdeal.Gen.facts, Cert.MixfReferenceIdeal.Gen.facts,
    Cert.NormMmKernel.Gen.facts, Cert.NormMmKernelIdeal.Gen.facts, Cert.NormMmReferenceIdeal.Gen.facts,
    Cert.ConvfKernel.Gen.facts, Cert.ConvfKernelIdeal.Gen.facts, Cert.ConvfReferenceIdeal.Gen.facts,
    Cert.BucketKernel.Gen.facts, Cert.BucketKernelIdeal.Gen.facts, Cert.BucketReferenceIdeal.Gen.facts,
    Cert.DownKernel.Gen.facts, Cert.DownKernelIdeal.Gen.facts, Cert.DownReferenceIdeal.Gen.facts,
    Cert.GDownKernel.Gen.facts, Cert.GDownKernelIdeal.Gen.facts, Cert.GDownReferenceIdeal.Gen.facts,
    Cert.AdamwKernel.Gen.facts, Cert.AdamwKernelIdeal.Gen.facts, Cert.AdamwReferenceIdeal.Gen.facts,
    Cert.Pre_finite_mlpin.Gen.facts, Cert.Pre_finite_mixin.Gen.facts, Cert.Pre_all_finite.Gen.facts, Cert.Pre_finite_mix.Gen.facts, Cert.Pre_finite_conv.Gen.facts, Cert.Pre_finite_attnf.Gen.facts, Cert.Pre_finite_bucket.Gen.facts, Cert.On_tokens_only.Gen.facts,
    fun m ρ _ => Cert.DactKernel.Gen.frame m ρ, fun m ρ _ => Cert.DactKernelIdeal.Gen.frame m ρ, dact_frame_ref,
    fun m ρ _ => Cert.MlpInKernel.Gen.frame m ρ, fun m ρ _ => Cert.MlpInKernelIdeal.Gen.frame m ρ,
    fun m ρ _ => Cert.MlpInKernelIdeal.Gen.frame m ρ, Cert.MlpInKernelIdeal.RefValue.frame_ref, fun m ρ _ => Cert.MlpInKernelIdeal.RefValue.frame_ref m ρ trivial,
    fun m ρ _ => Cert.MixInKernel.Gen.frame m ρ, fun m ρ _ => Cert.MixInKernelIdeal.Gen.frame m ρ,
    fun m ρ _ => Cert.MixInKernelIdeal.Gen.frame m ρ, Cert.MixInKernelIdeal.RefValue.frame_ref, fun m ρ _ => Cert.MixInKernelIdeal.RefValue.frame_ref m ρ trivial,
    Cert.AttnKernelIdeal.AttnFrame.frame_kernel, Cert.AttnKernelIdeal.AttnFrame.frame_ideal, fun m ρ _ => Cert.AttnKernelIdeal.AttnFrame.frame_ideal m ρ trivial, Cert.AttnKernelIdeal.RefValue.frame_ref, fun m ρ _ => Cert.AttnKernelIdeal.RefValue.frame_ref m ρ trivial,
    fun m ρ _ => Cert.LossKernel.Gen.frame m ρ, fun m ρ _ => Cert.LossKernelIdeal.Gen.frame m ρ,
    Cert.LossKernelIdeal.RefValue.frame_ref,
    fun m ρ _ => Cert.MixKernel.Gen.frame m ρ, fun m ρ _ => Cert.MixKernelIdeal.Gen.frame m ρ,
    fun m ρ _ => Cert.MixKernelIdeal.Gen.frame m ρ, Cert.MixKernelIdeal.RefValue.frame_ref, fun m ρ _ => Cert.MixKernelIdeal.RefValue.frame_ref m ρ trivial,
    fun m ρ _ => Cert.ConvKernel.Gen.frame m ρ, fun m ρ _ => Cert.ConvKernelIdeal.Gen.frame m ρ,
    fun m ρ _ => Cert.ConvKernelIdeal.Gen.frame m ρ, Cert.ConvKernelIdeal.RefValue.frame_ref, fun m ρ _ => Cert.ConvKernelIdeal.RefValue.frame_ref m ρ trivial,
    fun m ρ _ => Cert.AttnfKernel.Gen.frame m ρ, fun m ρ _ => Cert.AttnfKernelIdeal.Gen.frame m ρ,
    fun m ρ _ => Cert.AttnfKernelIdeal.Gen.frame m ρ, Cert.AttnfKernelIdeal.RefValue.frame_ref, fun m ρ _ => Cert.AttnfKernelIdeal.RefValue.frame_ref m ρ trivial,
    fun m ρ _ => Cert.MixfKernel.Gen.frame m ρ, fun m ρ _ => Cert.MixfKernelIdeal.Gen.frame m ρ,
    Cert.MixfKernelIdeal.RefValue.frame_ref,
    fun m ρ _ => Cert.NormMmKernel.Gen.frame m ρ, fun m ρ _ => Cert.NormMmKernelIdeal.Gen.frame m ρ,
    Cert.NormMmKernelIdeal.RefValue.frame_ref,
    fun m ρ _ => Cert.ConvfKernel.Gen.frame m ρ, fun m ρ _ => Cert.ConvfKernelIdeal.Gen.frame m ρ,
    Cert.ConvfKernelIdeal.RefValue.frame_ref,
    fun m ρ _ => Cert.BucketKernel.Gen.frame m ρ, fun m ρ _ => Cert.BucketKernelIdeal.Gen.frame m ρ,
    fun m ρ _ => Cert.BucketKernelIdeal.Gen.frame m ρ, Cert.BucketKernelIdeal.RefValue.frame_ref, fun m ρ _ => Cert.BucketKernelIdeal.RefValue.frame_ref m ρ trivial,
    fun m ρ _ => Cert.DownKernel.Gen.frame m ρ, fun m ρ _ => Cert.DownKernelIdeal.Gen.frame m ρ,
    Cert.DownKernelIdeal.RefValue.frame_ref,
    fun m ρ _ => Cert.GDownKernel.Gen.frame m ρ, fun m ρ _ => Cert.GDownKernelIdeal.Gen.frame m ρ,
    Cert.GDownKernelIdeal.RefValue.frame_ref,
    fun m ρ _ => Cert.AdamwKernel.Gen.frame m ρ, fun m ρ _ => Cert.AdamwKernelIdeal.Gen.frame m ρ,
    Cert.AdamwKernelIdeal.RefValue.frame_ref,
    trivial, dact_algebraic, trivial, Cert.MlpInKernelIdeal.RefValue.algebraic, trivial, Cert.MixInKernelIdeal.RefValue.algebraic, IdealRules.named_const.statement _ _ _ _ _ rfl, Cert.AttnKernelIdeal.RefValue.algebraic, trivial, Cert.LossKernelIdeal.RefValue.algebraic, trivial, Cert.MixKernelIdeal.RefValue.algebraic, trivial, Cert.ConvKernelIdeal.RefValue.algebraic, IdealRules.named_const.statement _ _ _ _ _ rfl, Cert.AttnfKernelIdeal.RefValue.algebraic, trivial, Cert.MixfKernelIdeal.RefValue.algebraic, trivial, Cert.NormMmKernelIdeal.RefValue.algebraic, trivial, Cert.ConvfKernelIdeal.RefValue.algebraic, trivial, Cert.BucketKernelIdeal.RefValue.algebraic, trivial, Cert.DownKernelIdeal.RefValue.algebraic, trivial, Cert.GDownKernelIdeal.RefValue.algebraic, trivial, Cert.AdamwKernelIdeal.RefValue.algebraic⟩

end Cert.Proof
